-- ==== Defs.lean ====
def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuRefIdeal (m : (ℓ : Loc Cert.DuRefIdeal.nD Cert.DuRefIdeal.τ Cert.DuRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyRefIdeal (m : (ℓ : Loc Cert.DyRefIdeal.nD Cert.DyRefIdeal.τ Cert.DyRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_MlpDx (m : (ℓ : Loc Cert.MlpDx.nD Cert.MlpDx.τ Cert.MlpDx.sig) → Buf (Elt Bits) ℓ) : Prop :=
  True

def Pre_MlpDxIdeal (m : (ℓ : Loc Cert.MlpDxIdeal.nD Cert.MlpDxIdeal.τ Cert.MlpDxIdeal.sig) → Buf (Elt Ideal) ℓ) : Prop :=
  True

def Pre_MlpDxRefIdeal (m : (ℓ : Loc Cert.MlpDxRefIdeal.nD Cert.MlpDxRefIdeal.τ Cert.MlpDxRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjRefIdeal (m : (ℓ : Loc Cert.UpProjRefIdeal.nD Cert.UpProjRefIdeal.τ Cert.UpProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRefIdeal (m : (ℓ : Loc Cert.DownProjRefIdeal.nD Cert.DownProjRefIdeal.τ Cert.DownProjRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSc (m : (ℓ : Loc Cert.AdamSc.nD Cert.AdamSc.τ Cert.AdamSc.sig) → Buf (Elt Bits) ℓ) : Prop :=
  True

def Pre_AdamScIdeal (m : (ℓ : Loc Cert.AdamScIdeal.nD Cert.AdamScIdeal.τ Cert.AdamScIdeal.sig) → Buf (Elt Ideal) ℓ) : Prop :=
  True

def Pre_AdamScRefIdeal (m : (ℓ : Loc Cert.AdamScRefIdeal.nD Cert.AdamScRefIdeal.τ Cert.AdamScRefIdeal.sig) → Buf (Elt Ideal) ℓ) : Prop :=
  True

def Pre_AdamCw (m : (ℓ : Loc Cert.AdamCw.nD Cert.AdamCw.τ Cert.AdamCw.sig) → Buf (Elt Bits) ℓ) : Prop :=
  True

def Pre_AdamCwIdeal (m : (ℓ : Loc Cert.AdamCwIdeal.nD Cert.AdamCwIdeal.τ Cert.AdamCwIdeal.sig) → Buf (Elt Ideal) ℓ) : Prop :=
  True

def Pre_AdamCwRefIdeal (m : (ℓ : Loc Cert.AdamCwRefIdeal.nD Cert.AdamCwRefIdeal.τ Cert.AdamCwRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1)
      ∧ r.2.mem ((c.tc : Thread Cert.Du.nD Cert.Du.τ).loc Cert.Du.main_arg2) = m ((c.tc : Thread Cert.Du.nD Cert.Du.τ).loc Cert.Du.main_arg2))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
      ∧ r.2.mem ((c.tc : Thread Cert.DuIdeal.nD Cert.DuIdeal.τ).loc Cert.DuIdeal.main_arg2) = m ((c.tc : Thread Cert.DuIdeal.nD Cert.DuIdeal.τ).loc Cert.DuIdeal.main_arg2))
      ∧ r.2.sem = fun _ => 0)

def quiescent_DuRefIdeal [hDuRefIdeal : Cert.DuRefIdeal.Facts] : Prop :=
  ∀ (m : (ℓ : Loc Cert.DuRefIdeal.nD Cert.DuRefIdeal.τ Cert.DuRefIdeal.sig) → Buf (Elt Ideal) ℓ) (g : Dev Cert.DuRefIdeal.nD → PrngReg), Pre_DuRefIdeal m →
    θ_run (Cert.DuRefIdeal.defs (F := Ideal)) (onTc (τ := Cert.DuRefIdeal.τ) (Cert.DuRefIdeal.main (F := Ideal))) ⟨m, fun _ => 0, g⟩ (fun r => (∀ c : Dev Cert.DuRefIdeal.nD,
      r.2.mem ((c.tc : Thread Cert.DuRefIdeal.nD Cert.DuRefIdeal.τ).loc Cert.DuRefIdeal.main_arg0) = m ((c.tc : Thread Cert.DuRefIdeal.nD Cert.DuRefIdeal.τ).loc Cert.DuRefIdeal.main_arg0)
      ∧ r.2.mem ((c.tc : Thread Cert.DuRefIdeal.nD Cert.DuRefIdeal.τ).loc Cert.DuRefIdeal.main_arg1) = m ((c.tc : Thread Cert.DuRefIdeal.nD Cert.DuRefIdeal.τ).loc Cert.DuRefIdeal.main_arg1)
      ∧ r.2.mem ((c.tc : Thread Cert.DuRefIdeal.nD Cert.DuRefIdeal.τ).loc Cert.DuRefIdeal.main_arg2) = m ((c.tc : Thread Cert.DuRefIdeal.nD Cert.DuRefIdeal.τ).loc Cert.DuRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ r.2.sem = fun _ => 0)

def quiescent_DyRefIdeal [hDyRefIdeal : Cert.DyRefIdeal.Facts] : Prop :=
  ∀ (m : (ℓ : Loc Cert.DyRefIdeal.nD Cert.DyRefIdeal.τ Cert.DyRefIdeal.sig) → Buf (Elt Ideal) ℓ) (g : Dev Cert.DyRefIdeal.nD → PrngReg), Pre_DyRefIdeal m →
    θ_run (Cert.DyRefIdeal.defs (F := Ideal)) (onTc (τ := Cert.DyRefIdeal.τ) (Cert.DyRefIdeal.main (F := Ideal))) ⟨m, fun _ => 0, g⟩ (fun r => (∀ c : Dev Cert.DyRefIdeal.nD,
      r.2.mem ((c.tc : Thread Cert.DyRefIdeal.nD Cert.DyRefIdeal.τ).loc Cert.DyRefIdeal.main_arg0) = m ((c.tc : Thread Cert.DyRefIdeal.nD Cert.DyRefIdeal.τ).loc Cert.DyRefIdeal.main_arg0)
      ∧ r.2.mem ((c.tc : Thread Cert.DyRefIdeal.nD Cert.DyRefIdeal.τ).loc Cert.DyRefIdeal.main_arg1) = m ((c.tc : Thread Cert.DyRefIdeal.nD Cert.DyRefIdeal.τ).loc Cert.DyRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_MlpDx [hMlpDx : Cert.MlpDx.Facts] : Prop :=
  ∀ (m : (ℓ : Loc Cert.MlpDx.nD Cert.MlpDx.τ Cert.MlpDx.sig) → Buf (Elt Bits) ℓ) (g : Dev Cert.MlpDx.nD → PrngReg), Pre_MlpDx m →
    θ_run (Cert.MlpDx.defs (F := Bits)) (onTc (τ := Cert.MlpDx.τ) (Cert.MlpDx.main (F := Bits))) ⟨m, fun _ => 0, g⟩ (fun r => (∀ c : Dev Cert.MlpDx.nD,
      r.2.mem ((c.tc : Thread Cert.MlpDx.nD Cert.MlpDx.τ).loc Cert.MlpDx.main_arg0) = m ((c.tc : Thread Cert.MlpDx.nD Cert.MlpDx.τ).loc Cert.MlpDx.main_arg0)
      ∧ r.2.mem ((c.tc : Thread Cert.MlpDx.nD Cert.MlpDx.τ).loc Cert.MlpDx.main_arg1) = m ((c.tc : Thread Cert.MlpDx.nD Cert.MlpDx.τ).loc Cert.MlpDx.main_arg1)
      ∧ r.2.mem ((c.tc : Thread Cert.MlpDx.nD Cert.MlpDx.τ).loc Cert.MlpDx.main_arg2) = m ((c.tc : Thread Cert.MlpDx.nD Cert.MlpDx.τ).loc Cert.MlpDx.main_arg2)
      ∧ r.2.mem ((c.tc : Thread Cert.MlpDx.nD Cert.MlpDx.τ).loc Cert.MlpDx.main_arg3) = m ((c.tc : Thread Cert.MlpDx.nD Cert.MlpDx.τ).loc Cert.MlpDx.main_arg3)
      ∧ r.2.mem ((c.tc : Thread Cert.MlpDx.nD Cert.MlpDx.τ).loc Cert.MlpDx.main_arg4) = m ((c.tc : Thread Cert.MlpDx.nD Cert.MlpDx.τ).loc Cert.MlpDx.main_arg4))
      ∧ r.2.sem = fun _ => 0)

def quiescent_MlpDxIdeal [hMlpDxIdeal : Cert.MlpDxIdeal.Facts] : Prop :=
  ∀ (m : (ℓ : Loc Cert.MlpDxIdeal.nD Cert.MlpDxIdeal.τ Cert.MlpDxIdeal.sig) → Buf (Elt Ideal) ℓ) (g : Dev Cert.MlpDxIdeal.nD → PrngReg), Pre_MlpDxIdeal m →
    θ_run (Cert.MlpDxIdeal.defs (F := Ideal)) (onTc (τ := Cert.MlpDxIdeal.τ) (Cert.MlpDxIdeal.main (F := Ideal))) ⟨m, fun _ => 0, g⟩ (fun r => (∀ c : Dev Cert.MlpDxIdeal.nD,
      r.2.mem ((c.tc : Thread Cert.MlpDxIdeal.nD Cert.MlpDxIdeal.τ).loc Cert.MlpDxIdeal.main_arg0) = m ((c.tc : Thread Cert.MlpDxIdeal.nD Cert.MlpDxIdeal.τ).loc Cert.MlpDxIdeal.main_arg0)
      ∧ r.2.mem ((c.tc : Thread Cert.MlpDxIdeal.nD Cert.MlpDxIdeal.τ).loc Cert.MlpDxIdeal.main_arg1) = m ((c.tc : Thread Cert.MlpDxIdeal.nD Cert.MlpDxIdeal.τ).loc Cert.MlpDxIdeal.main_arg1)
      ∧ r.2.mem ((c.tc : Thread Cert.MlpDxIdeal.nD Cert.MlpDxIdeal.τ).loc Cert.MlpDxIdeal.main_arg2) = m ((c.tc : Thread Cert.MlpDxIdeal.nD Cert.MlpDxIdeal.τ).loc Cert.MlpDxIdeal.main_arg2)
      ∧ r.2.mem ((c.tc : Thread Cert.MlpDxIdeal.nD Cert.MlpDxIdeal.τ).loc Cert.MlpDxIdeal.main_arg3) = m ((c.tc : Thread Cert.MlpDxIdeal.nD Cert.MlpDxIdeal.τ).loc Cert.MlpDxIdeal.main_arg3)
      ∧ r.2.mem ((c.tc : Thread Cert.MlpDxIdeal.nD Cert.MlpDxIdeal.τ).loc Cert.MlpDxIdeal.main_arg4) = m ((c.tc : Thread Cert.MlpDxIdeal.nD Cert.MlpDxIdeal.τ).loc Cert.MlpDxIdeal.main_arg4))
      ∧ r.2.sem = fun _ => 0)

def quiescent_MlpDxRefIdeal [hMlpDxRefIdeal : Cert.MlpDxRefIdeal.Facts] : Prop :=
  ∀ (m : (ℓ : Loc Cert.MlpDxRefIdeal.nD Cert.MlpDxRefIdeal.τ Cert.MlpDxRefIdeal.sig) → Buf (Elt Ideal) ℓ) (g : Dev Cert.MlpDxRefIdeal.nD → PrngReg), Pre_MlpDxRefIdeal m →
    θ_run (Cert.MlpDxRefIdeal.defs (F := Ideal)) (onTc (τ := Cert.MlpDxRefIdeal.τ) (Cert.MlpDxRefIdeal.main (F := Ideal))) ⟨m, fun _ => 0, g⟩ (fun r => (∀ c : Dev Cert.MlpDxRefIdeal.nD,
      r.2.mem ((c.tc : Thread Cert.MlpDxRefIdeal.nD Cert.MlpDxRefIdeal.τ).loc Cert.MlpDxRefIdeal.main_arg0) = m ((c.tc : Thread Cert.MlpDxRefIdeal.nD Cert.MlpDxRefIdeal.τ).loc Cert.MlpDxRefIdeal.main_arg0)
      ∧ r.2.mem ((c.tc : Thread Cert.MlpDxRefIdeal.nD Cert.MlpDxRefIdeal.τ).loc Cert.MlpDxRefIdeal.main_arg1) = m ((c.tc : Thread Cert.MlpDxRefIdeal.nD Cert.MlpDxRefIdeal.τ).loc Cert.MlpDxRefIdeal.main_arg1)
      ∧ r.2.mem ((c.tc : Thread Cert.MlpDxRefIdeal.nD Cert.MlpDxRefIdeal.τ).loc Cert.MlpDxRefIdeal.main_arg2) = m ((c.tc : Thread Cert.MlpDxRefIdeal.nD Cert.MlpDxRefIdeal.τ).loc Cert.MlpDxRefIdeal.main_arg2)
      ∧ r.2.mem ((c.tc : Thread Cert.MlpDxRefIdeal.nD Cert.MlpDxRefIdeal.τ).loc Cert.MlpDxRefIdeal.main_arg3) = m ((c.tc : Thread Cert.MlpDxRefIdeal.nD Cert.MlpDxRefIdeal.τ).loc Cert.MlpDxRefIdeal.main_arg3)
      ∧ r.2.mem ((c.tc : Thread Cert.MlpDxRefIdeal.nD Cert.MlpDxRefIdeal.τ).loc Cert.MlpDxRefIdeal.main_arg4) = m ((c.tc : Thread Cert.MlpDxRefIdeal.nD Cert.MlpDxRefIdeal.τ).loc Cert.MlpDxRefIdeal.main_arg4))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1)
      ∧ r.2.mem ((c.tc : Thread Cert.UpProj.nD Cert.UpProj.τ).loc Cert.UpProj.main_arg2) = m ((c.tc : Thread Cert.UpProj.nD Cert.UpProj.τ).loc Cert.UpProj.main_arg2))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
      ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2))
      ∧ r.2.sem = fun _ => 0)

def quiescent_UpProjRefIdeal [hUpProjRefIdeal : Cert.UpProjRefIdeal.Facts] : Prop :=
  ∀ (m : (ℓ : Loc Cert.UpProjRefIdeal.nD Cert.UpProjRefIdeal.τ Cert.UpProjRefIdeal.sig) → Buf (Elt Ideal) ℓ) (g : Dev Cert.UpProjRefIdeal.nD → PrngReg), Pre_UpProjRefIdeal m →
    θ_run (Cert.UpProjRefIdeal.defs (F := Ideal)) (onTc (τ := Cert.UpProjRefIdeal.τ) (Cert.UpProjRefIdeal.main (F := Ideal))) ⟨m, fun _ => 0, g⟩ (fun r => (∀ c : Dev Cert.UpProjRefIdeal.nD,
      r.2.mem ((c.tc : Thread Cert.UpProjRefIdeal.nD Cert.UpProjRefIdeal.τ).loc Cert.UpProjRefIdeal.main_arg0) = m ((c.tc : Thread Cert.UpProjRefIdeal.nD Cert.UpProjRefIdeal.τ).loc Cert.UpProjRefIdeal.main_arg0)
      ∧ r.2.mem ((c.tc : Thread Cert.UpProjRefIdeal.nD Cert.UpProjRefIdeal.τ).loc Cert.UpProjRefIdeal.main_arg1) = m ((c.tc : Thread Cert.UpProjRefIdeal.nD Cert.UpProjRefIdeal.τ).loc Cert.UpProjRefIdeal.main_arg1)
      ∧ r.2.mem ((c.tc : Thread Cert.UpProjRefIdeal.nD Cert.UpProjRefIdeal.τ).loc Cert.UpProjRefIdeal.main_arg2) = m ((c.tc : Thread Cert.UpProjRefIdeal.nD Cert.UpProjRefIdeal.τ).loc Cert.UpProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ r.2.sem = fun _ => 0)

def quiescent_DownProjRefIdeal [hDownProjRefIdeal : Cert.DownProjRefIdeal.Facts] : Prop :=
  ∀ (m : (ℓ : Loc Cert.DownProjRefIdeal.nD Cert.DownProjRefIdeal.τ Cert.DownProjRefIdeal.sig) → Buf (Elt Ideal) ℓ) (g : Dev Cert.DownProjRefIdeal.nD → PrngReg), Pre_DownProjRefIdeal m →
    θ_run (Cert.DownProjRefIdeal.defs (F := Ideal)) (onTc (τ := Cert.DownProjRefIdeal.τ) (Cert.DownProjRefIdeal.main (F := Ideal))) ⟨m, fun _ => 0, g⟩ (fun r => (∀ c : Dev Cert.DownProjRefIdeal.nD,
      r.2.mem ((c.tc : Thread Cert.DownProjRefIdeal.nD Cert.DownProjRefIdeal.τ).loc Cert.DownProjRefIdeal.main_arg0) = m ((c.tc : Thread Cert.DownProjRefIdeal.nD Cert.DownProjRefIdeal.τ).loc Cert.DownProjRefIdeal.main_arg0)
      ∧ r.2.mem ((c.tc : Thread Cert.DownProjRefIdeal.nD Cert.DownProjRefIdeal.τ).loc Cert.DownProjRefIdeal.main_arg1) = m ((c.tc : Thread Cert.DownProjRefIdeal.nD Cert.DownProjRefIdeal.τ).loc Cert.DownProjRefIdeal.main_arg1)
      ∧ r.2.mem ((c.tc : Thread Cert.DownProjRefIdeal.nD Cert.DownProjRefIdeal.τ).loc Cert.DownProjRefIdeal.main_arg2) = m ((c.tc : Thread Cert.DownProjRefIdeal.nD Cert.DownProjRefIdeal.τ).loc Cert.DownProjRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5)
      ∧ r.2.mem ((c.tc : Thread Cert.AdamOut.nD Cert.AdamOut.τ).loc Cert.AdamOut.main_arg6) = m ((c.tc : Thread Cert.AdamOut.nD Cert.AdamOut.τ).loc Cert.AdamOut.main_arg6))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
      ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5)
      ∧ r.2.mem ((c.tc : Thread Cert.AdamOutRefIdeal.nD Cert.AdamOutRefIdeal.τ).loc Cert.AdamOutRefIdeal.main_arg6) = m ((c.tc : Thread Cert.AdamOutRefIdeal.nD Cert.AdamOutRefIdeal.τ).loc Cert.AdamOutRefIdeal.main_arg6))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5)
      ∧ r.2.mem ((c.tc : Thread Cert.AdamUp.nD Cert.AdamUp.τ).loc Cert.AdamUp.main_arg6) = m ((c.tc : Thread Cert.AdamUp.nD Cert.AdamUp.τ).loc Cert.AdamUp.main_arg6))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
      ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5)
      ∧ r.2.mem ((c.tc : Thread Cert.AdamUpRefIdeal.nD Cert.AdamUpRefIdeal.τ).loc Cert.AdamUpRefIdeal.main_arg6) = m ((c.tc : Thread Cert.AdamUpRefIdeal.nD Cert.AdamUpRefIdeal.τ).loc Cert.AdamUpRefIdeal.main_arg6))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5)
      ∧ r.2.mem ((c.tc : Thread Cert.AdamDown.nD Cert.AdamDown.τ).loc Cert.AdamDown.main_arg6) = m ((c.tc : Thread Cert.AdamDown.nD Cert.AdamDown.τ).loc Cert.AdamDown.main_arg6))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
      ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5)
      ∧ r.2.mem ((c.tc : Thread Cert.AdamDownRefIdeal.nD Cert.AdamDownRefIdeal.τ).loc Cert.AdamDownRefIdeal.main_arg6) = m ((c.tc : Thread Cert.AdamDownRefIdeal.nD Cert.AdamDownRefIdeal.τ).loc Cert.AdamDownRefIdeal.main_arg6))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5)
      ∧ r.2.mem ((c.tc : Thread Cert.AdamInRefIdeal.nD Cert.AdamInRefIdeal.τ).loc Cert.AdamInRefIdeal.main_arg6) = m ((c.tc : Thread Cert.AdamInRefIdeal.nD Cert.AdamInRefIdeal.τ).loc Cert.AdamInRefIdeal.main_arg6))
      ∧ r.2.sem = fun _ => 0)

def quiescent_AdamSc [hAdamSc : Cert.AdamSc.Facts] : Prop :=
  ∀ (m : (ℓ : Loc Cert.AdamSc.nD Cert.AdamSc.τ Cert.AdamSc.sig) → Buf (Elt Bits) ℓ) (g : Dev Cert.AdamSc.nD → PrngReg), Pre_AdamSc m →
    θ_run (Cert.AdamSc.defs (F := Bits)) (onTc (τ := Cert.AdamSc.τ) (Cert.AdamSc.main (F := Bits))) ⟨m, fun _ => 0, g⟩ (fun r => (∀ c : Dev Cert.AdamSc.nD,
      r.2.mem ((c.tc : Thread Cert.AdamSc.nD Cert.AdamSc.τ).loc Cert.AdamSc.main_arg0) = m ((c.tc : Thread Cert.AdamSc.nD Cert.AdamSc.τ).loc Cert.AdamSc.main_arg0)
      ∧ r.2.mem ((c.tc : Thread Cert.AdamSc.nD Cert.AdamSc.τ).loc Cert.AdamSc.main_arg1) = m ((c.tc : Thread Cert.AdamSc.nD Cert.AdamSc.τ).loc Cert.AdamSc.main_arg1)
      ∧ r.2.mem ((c.tc : Thread Cert.AdamSc.nD Cert.AdamSc.τ).loc Cert.AdamSc.main_arg2) = m ((c.tc : Thread Cert.AdamSc.nD Cert.AdamSc.τ).loc Cert.AdamSc.main_arg2)
      ∧ r.2.mem ((c.tc : Thread Cert.AdamSc.nD Cert.AdamSc.τ).loc Cert.AdamSc.main_arg3) = m ((c.tc : Thread Cert.AdamSc.nD Cert.AdamSc.τ).loc Cert.AdamSc.main_arg3))
      ∧ r.2.sem = fun _ => 0)

def quiescent_AdamScIdeal [hAdamScIdeal : Cert.AdamScIdeal.Facts] : Prop :=
  ∀ (m : (ℓ : Loc Cert.AdamScIdeal.nD Cert.AdamScIdeal.τ Cert.AdamScIdeal.sig) → Buf (Elt Ideal) ℓ) (g : Dev Cert.AdamScIdeal.nD → PrngReg), Pre_AdamScIdeal m →
    θ_run (Cert.AdamScIdeal.defs (F := Ideal)) (onTc (τ := Cert.AdamScIdeal.τ) (Cert.AdamScIdeal.main (F := Ideal))) ⟨m, fun _ => 0, g⟩ (fun r => (∀ c : Dev Cert.AdamScIdeal.nD,
      r.2.mem ((c.tc : Thread Cert.AdamScIdeal.nD Cert.AdamScIdeal.τ).loc Cert.AdamScIdeal.main_arg0) = m ((c.tc : Thread Cert.AdamScIdeal.nD Cert.AdamScIdeal.τ).loc Cert.AdamScIdeal.main_arg0)
      ∧ r.2.mem ((c.tc : Thread Cert.AdamScIdeal.nD Cert.AdamScIdeal.τ).loc Cert.AdamScIdeal.main_arg1) = m ((c.tc : Thread Cert.AdamScIdeal.nD Cert.AdamScIdeal.τ).loc Cert.AdamScIdeal.main_arg1)
      ∧ r.2.mem ((c.tc : Thread Cert.AdamScIdeal.nD Cert.AdamScIdeal.τ).loc Cert.AdamScIdeal.main_arg2) = m ((c.tc : Thread Cert.AdamScIdeal.nD Cert.AdamScIdeal.τ).loc Cert.AdamScIdeal.main_arg2)
      ∧ r.2.mem ((c.tc : Thread Cert.AdamScIdeal.nD Cert.AdamScIdeal.τ).loc Cert.AdamScIdeal.main_arg3) = m ((c.tc : Thread Cert.AdamScIdeal.nD Cert.AdamScIdeal.τ).loc Cert.AdamScIdeal.main_arg3))
      ∧ r.2.sem = fun _ => 0)

def quiescent_AdamScRefIdeal [hAdamScRefIdeal : Cert.AdamScRefIdeal.Facts] : Prop :=
  ∀ (m : (ℓ : Loc Cert.AdamScRefIdeal.nD Cert.AdamScRefIdeal.τ Cert.AdamScRefIdeal.sig) → Buf (Elt Ideal) ℓ) (g : Dev Cert.AdamScRefIdeal.nD → PrngReg), Pre_AdamScRefIdeal m →
    θ_run (Cert.AdamScRefIdeal.defs (F := Ideal)) (onTc (τ := Cert.AdamScRefIdeal.τ) (Cert.AdamScRefIdeal.main (F := Ideal))) ⟨m, fun _ => 0, g⟩ (fun r => (∀ c : Dev Cert.AdamScRefIdeal.nD,
      r.2.mem ((c.tc : Thread Cert.AdamScRefIdeal.nD Cert.AdamScRefIdeal.τ).loc Cert.AdamScRefIdeal.main_arg0) = m ((c.tc : Thread Cert.AdamScRefIdeal.nD Cert.AdamScRefIdeal.τ).loc Cert.AdamScRefIdeal.main_arg0)
      ∧ r.2.mem ((c.tc : Thread Cert.AdamScRefIdeal.nD Cert.AdamScRefIdeal.τ).loc Cert.AdamScRefIdeal.main_arg1) = m ((c.tc : Thread Cert.AdamScRefIdeal.nD Cert.AdamScRefIdeal.τ).loc Cert.AdamScRefIdeal.main_arg1)
      ∧ r.2.mem ((c.tc : Thread Cert.AdamScRefIdeal.nD Cert.AdamScRefIdeal.τ).loc Cert.AdamScRefIdeal.main_arg2) = m ((c.tc : Thread Cert.AdamScRefIdeal.nD Cert.AdamScRefIdeal.τ).loc Cert.AdamScRefIdeal.main_arg2)
      ∧ r.2.mem ((c.tc : Thread Cert.AdamScRefIdeal.nD Cert.AdamScRefIdeal.τ).loc Cert.AdamScRefIdeal.main_arg3) = m ((c.tc : Thread Cert.AdamScRefIdeal.nD Cert.AdamScRefIdeal.τ).loc Cert.AdamScRefIdeal.main_arg3))
      ∧ r.2.sem = fun _ => 0)

def quiescent_AdamCw [hAdamCw : Cert.AdamCw.Facts] : Prop :=
  ∀ (m : (ℓ : Loc Cert.AdamCw.nD Cert.AdamCw.τ Cert.AdamCw.sig) → Buf (Elt Bits) ℓ) (g : Dev Cert.AdamCw.nD → PrngReg), Pre_AdamCw m →
    θ_run (Cert.AdamCw.defs (F := Bits)) (onTc (τ := Cert.AdamCw.τ) (Cert.AdamCw.main (F := Bits))) ⟨m, fun _ => 0, g⟩ (fun r => (∀ c : Dev Cert.AdamCw.nD,
      r.2.mem ((c.tc : Thread Cert.AdamCw.nD Cert.AdamCw.τ).loc Cert.AdamCw.main_arg0) = m ((c.tc : Thread Cert.AdamCw.nD Cert.AdamCw.τ).loc Cert.AdamCw.main_arg0)
      ∧ r.2.mem ((c.tc : Thread Cert.AdamCw.nD Cert.AdamCw.τ).loc Cert.AdamCw.main_arg1) = m ((c.tc : Thread Cert.AdamCw.nD Cert.AdamCw.τ).loc Cert.AdamCw.main_arg1)
      ∧ r.2.mem ((c.tc : Thread Cert.AdamCw.nD Cert.AdamCw.τ).loc Cert.AdamCw.main_arg2) = m ((c.tc : Thread Cert.AdamCw.nD Cert.AdamCw.τ).loc Cert.AdamCw.main_arg2)
      ∧ r.2.mem ((c.tc : Thread Cert.AdamCw.nD Cert.AdamCw.τ).loc Cert.AdamCw.main_arg3) = m ((c.tc : Thread Cert.AdamCw.nD Cert.AdamCw.τ).loc Cert.AdamCw.main_arg3))
      ∧ r.2.sem = fun _ => 0)

def quiescent_AdamCwIdeal [hAdamCwIdeal : Cert.AdamCwIdeal.Facts] : Prop :=
  ∀ (m : (ℓ : Loc Cert.AdamCwIdeal.nD Cert.AdamCwIdeal.τ Cert.AdamCwIdeal.sig) → Buf (Elt Ideal) ℓ) (g : Dev Cert.AdamCwIdeal.nD → PrngReg), Pre_AdamCwIdeal m →
    θ_run (Cert.AdamCwIdeal.defs (F := Ideal)) (onTc (τ := Cert.AdamCwIdeal.τ) (Cert.AdamCwIdeal.main (F := Ideal))) ⟨m, fun _ => 0, g⟩ (fun r => (∀ c : Dev Cert.AdamCwIdeal.nD,
      r.2.mem ((c.tc : Thread Cert.AdamCwIdeal.nD Cert.AdamCwIdeal.τ).loc Cert.AdamCwIdeal.main_arg0) = m ((c.tc : Thread Cert.AdamCwIdeal.nD Cert.AdamCwIdeal.τ).loc Cert.AdamCwIdeal.main_arg0)
      ∧ r.2.mem ((c.tc : Thread Cert.AdamCwIdeal.nD Cert.AdamCwIdeal.τ).loc Cert.AdamCwIdeal.main_arg1) = m ((c.tc : Thread Cert.AdamCwIdeal.nD Cert.AdamCwIdeal.τ).loc Cert.AdamCwIdeal.main_arg1)
      ∧ r.2.mem ((c.tc : Thread Cert.AdamCwIdeal.nD Cert.AdamCwIdeal.τ).loc Cert.AdamCwIdeal.main_arg2) = m ((c.tc : Thread Cert.AdamCwIdeal.nD Cert.AdamCwIdeal.τ).loc Cert.AdamCwIdeal.main_arg2)
      ∧ r.2.mem ((c.tc : Thread Cert.AdamCwIdeal.nD Cert.AdamCwIdeal.τ).loc Cert.AdamCwIdeal.main_arg3) = m ((c.tc : Thread Cert.AdamCwIdeal.nD Cert.AdamCwIdeal.τ).loc Cert.AdamCwIdeal.main_arg3))
      ∧ r.2.sem = fun _ => 0)

def quiescent_AdamCwRefIdeal [hAdamCwRefIdeal : Cert.AdamCwRefIdeal.Facts] : Prop :=
  ∀ (m : (ℓ : Loc Cert.AdamCwRefIdeal.nD Cert.AdamCwRefIdeal.τ Cert.AdamCwRefIdeal.sig) → Buf (Elt Ideal) ℓ) (g : Dev Cert.AdamCwRefIdeal.nD → PrngReg), Pre_AdamCwRefIdeal m →
    θ_run (Cert.AdamCwRefIdeal.defs (F := Ideal)) (onTc (τ := Cert.AdamCwRefIdeal.τ) (Cert.AdamCwRefIdeal.main (F := Ideal))) ⟨m, fun _ => 0, g⟩ (fun r => (∀ c : Dev Cert.AdamCwRefIdeal.nD,
      r.2.mem ((c.tc : Thread Cert.AdamCwRefIdeal.nD Cert.AdamCwRefIdeal.τ).loc Cert.AdamCwRefIdeal.main_arg0) = m ((c.tc : Thread Cert.AdamCwRefIdeal.nD Cert.AdamCwRefIdeal.τ).loc Cert.AdamCwRefIdeal.main_arg0)
      ∧ r.2.mem ((c.tc : Thread Cert.AdamCwRefIdeal.nD Cert.AdamCwRefIdeal.τ).loc Cert.AdamCwRefIdeal.main_arg1) = m ((c.tc : Thread Cert.AdamCwRefIdeal.nD Cert.AdamCwRefIdeal.τ).loc Cert.AdamCwRefIdeal.main_arg1)
      ∧ r.2.mem ((c.tc : Thread Cert.AdamCwRefIdeal.nD Cert.AdamCwRefIdeal.τ).loc Cert.AdamCwRefIdeal.main_arg2) = m ((c.tc : Thread Cert.AdamCwRefIdeal.nD Cert.AdamCwRefIdeal.τ).loc Cert.AdamCwRefIdeal.main_arg2)
      ∧ r.2.mem ((c.tc : Thread Cert.AdamCwRefIdeal.nD Cert.AdamCwRefIdeal.τ).loc Cert.AdamCwRefIdeal.main_arg3) = m ((c.tc : Thread Cert.AdamCwRefIdeal.nD Cert.AdamCwRefIdeal.τ).loc Cert.AdamCwRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8)
      ∧ r.2.mem ((c.tc : Thread Cert.MixBwd.nD Cert.MixBwd.τ).loc Cert.MixBwd.main_arg9) = m ((c.tc : Thread Cert.MixBwd.nD Cert.MixBwd.τ).loc Cert.MixBwd.main_arg9)
      ∧ r.2.mem ((c.tc : Thread Cert.MixBwd.nD Cert.MixBwd.τ).loc Cert.MixBwd.main_arg10) = m ((c.tc : Thread Cert.MixBwd.nD Cert.MixBwd.τ).loc Cert.MixBwd.main_arg10)
      ∧ r.2.mem ((c.tc : Thread Cert.MixBwd.nD Cert.MixBwd.τ).loc Cert.MixBwd.main_arg11) = m ((c.tc : Thread Cert.MixBwd.nD Cert.MixBwd.τ).loc Cert.MixBwd.main_arg11)
      ∧ r.2.mem ((c.tc : Thread Cert.MixBwd.nD Cert.MixBwd.τ).loc Cert.MixBwd.main_arg12) = m ((c.tc : Thread Cert.MixBwd.nD Cert.MixBwd.τ).loc Cert.MixBwd.main_arg12)
      ∧ r.2.mem ((c.tc : Thread Cert.MixBwd.nD Cert.MixBwd.τ).loc Cert.MixBwd.main_arg13) = m ((c.tc : Thread Cert.MixBwd.nD Cert.MixBwd.τ).loc Cert.MixBwd.main_arg13)
      ∧ r.2.mem ((c.tc : Thread Cert.MixBwd.nD Cert.MixBwd.τ).loc Cert.MixBwd.main_arg14) = m ((c.tc : Thread Cert.MixBwd.nD Cert.MixBwd.τ).loc Cert.MixBwd.main_arg14))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
      ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11)
      ∧ r.2.mem ((c.tc : Thread Cert.MixBwdIdeal.nD Cert.MixBwdIdeal.τ).loc Cert.MixBwdIdeal.main_arg12) = m ((c.tc : Thread Cert.MixBwdIdeal.nD Cert.MixBwdIdeal.τ).loc Cert.MixBwdIdeal.main_arg12)
      ∧ r.2.mem ((c.tc : Thread Cert.MixBwdIdeal.nD Cert.MixBwdIdeal.τ).loc Cert.MixBwdIdeal.main_arg13) = m ((c.tc : Thread Cert.MixBwdIdeal.nD Cert.MixBwdIdeal.τ).loc Cert.MixBwdIdeal.main_arg13)
      ∧ r.2.mem ((c.tc : Thread Cert.MixBwdIdeal.nD Cert.MixBwdIdeal.τ).loc Cert.MixBwdIdeal.main_arg14) = m ((c.tc : Thread Cert.MixBwdIdeal.nD Cert.MixBwdIdeal.τ).loc Cert.MixBwdIdeal.main_arg14))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ r.2.sem = fun _ => 0)

def preserves_Du_DuIdeal : Prop :=
  True

def algebraic_DuIdeal_DuRefIdeal [hDuIdeal : Cert.DuIdeal.Facts] [hDuRefIdeal : Cert.DuRefIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuRefIdeal.nD Cert.DuRefIdeal.τ Cert.DuRefIdeal.sig) → Buf (Elt Ideal) ℓ) (g' : Dev Cert.DuRefIdeal.nD → PrngReg), Pre_DuIdeal m →
    (∀ c : Dev Cert.DuIdeal.nD,
      m' ((c.tc : Thread Cert.DuRefIdeal.nD Cert.DuRefIdeal.τ).loc Cert.DuRefIdeal.main_arg0) = m ((c.tc : Thread Cert.DuIdeal.nD Cert.DuIdeal.τ).loc Cert.DuIdeal.main_arg0)
      ∧ m' ((c.tc : Thread Cert.DuRefIdeal.nD Cert.DuRefIdeal.τ).loc Cert.DuRefIdeal.main_arg1) = m ((c.tc : Thread Cert.DuIdeal.nD Cert.DuIdeal.τ).loc Cert.DuIdeal.main_arg1)
      ∧ m' ((c.tc : Thread Cert.DuRefIdeal.nD Cert.DuRefIdeal.τ).loc Cert.DuRefIdeal.main_arg2) = m ((c.tc : Thread Cert.DuIdeal.nD Cert.DuIdeal.τ).loc Cert.DuIdeal.main_arg2)) →
    ∃ (v0 : (c : Dev Cert.DuIdeal.nD) → Buf (Elt Ideal) ((c.tc : Thread Cert.DuIdeal.nD Cert.DuIdeal.τ).loc Cert.DuIdeal.main_v0)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v0) = v0 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
          ∧ r.2.mem ((c.tc : Thread Cert.DuIdeal.nD Cert.DuIdeal.τ).loc Cert.DuIdeal.main_arg2) = m ((c.tc : Thread Cert.DuIdeal.nD Cert.DuIdeal.τ).loc Cert.DuIdeal.main_arg2))
      ∧ θ_run (Cert.DuRefIdeal.defs (F := Ideal)) (onTc (τ := Cert.DuRefIdeal.τ) (Cert.DuRefIdeal.main (F := Ideal))) ⟨m', fun _ => 0, g'⟩ (fun r => ∀ c : Dev Cert.DuRefIdeal.nD,
          r.2.mem ((c.tc : Thread Cert.DuRefIdeal.nD Cert.DuRefIdeal.τ).loc Cert.DuRefIdeal.main_v15) = v0 c
          ∧ r.2.mem ((c.tc : Thread Cert.DuRefIdeal.nD Cert.DuRefIdeal.τ).loc Cert.DuRefIdeal.main_arg0) = m' ((c.tc : Thread Cert.DuRefIdeal.nD Cert.DuRefIdeal.τ).loc Cert.DuRefIdeal.main_arg0)
          ∧ r.2.mem ((c.tc : Thread Cert.DuRefIdeal.nD Cert.DuRefIdeal.τ).loc Cert.DuRefIdeal.main_arg1) = m' ((c.tc : Thread Cert.DuRefIdeal.nD Cert.DuRefIdeal.τ).loc Cert.DuRefIdeal.main_arg1)
          ∧ r.2.mem ((c.tc : Thread Cert.DuRefIdeal.nD Cert.DuRefIdeal.τ).loc Cert.DuRefIdeal.main_arg2) = m' ((c.tc : Thread Cert.DuRefIdeal.nD Cert.DuRefIdeal.τ).loc Cert.DuRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v8) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v8) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_Dy_DyIdeal : Prop :=
  True

def algebraic_DyIdeal_DyRefIdeal [hDyIdeal : Cert.DyIdeal.Facts] [hDyRefIdeal : Cert.DyRefIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyRefIdeal.nD Cert.DyRefIdeal.τ Cert.DyRefIdeal.sig) → Buf (Elt Ideal) ℓ) (g' : Dev Cert.DyRefIdeal.nD → PrngReg), Pre_DyIdeal m →
    (∀ c : Dev Cert.DyIdeal.nD,
      m' ((c.tc : Thread Cert.DyRefIdeal.nD Cert.DyRefIdeal.τ).loc Cert.DyRefIdeal.main_arg0) = m ((c.tc : Thread Cert.DyIdeal.nD Cert.DyIdeal.τ).loc Cert.DyIdeal.main_arg0)
      ∧ m' ((c.tc : Thread Cert.DyRefIdeal.nD Cert.DyRefIdeal.τ).loc Cert.DyRefIdeal.main_arg1) = m ((c.tc : Thread Cert.DyIdeal.nD Cert.DyIdeal.τ).loc Cert.DyIdeal.main_arg1)) →
    ∃ (v0 : (c : Dev Cert.DyIdeal.nD) → Buf (Elt Ideal) ((c.tc : Thread Cert.DyIdeal.nD Cert.DyIdeal.τ).loc Cert.DyIdeal.main_v0)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v0) = v0 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ θ_run (Cert.DyRefIdeal.defs (F := Ideal)) (onTc (τ := Cert.DyRefIdeal.τ) (Cert.DyRefIdeal.main (F := Ideal))) ⟨m', fun _ => 0, g'⟩ (fun r => ∀ c : Dev Cert.DyRefIdeal.nD,
          r.2.mem ((c.tc : Thread Cert.DyRefIdeal.nD Cert.DyRefIdeal.τ).loc Cert.DyRefIdeal.main_v5) = v0 c
          ∧ r.2.mem ((c.tc : Thread Cert.DyRefIdeal.nD Cert.DyRefIdeal.τ).loc Cert.DyRefIdeal.main_arg0) = m' ((c.tc : Thread Cert.DyRefIdeal.nD Cert.DyRefIdeal.τ).loc Cert.DyRefIdeal.main_arg0)
          ∧ r.2.mem ((c.tc : Thread Cert.DyRefIdeal.nD Cert.DyRefIdeal.τ).loc Cert.DyRefIdeal.main_arg1) = m' ((c.tc : Thread Cert.DyRefIdeal.nD Cert.DyRefIdeal.τ).loc Cert.DyRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_MlpDx_MlpDxIdeal : Prop :=
  True

def algebraic_MlpDxIdeal_MlpDxRefIdeal [hMlpDxIdeal : Cert.MlpDxIdeal.Facts] [hMlpDxRefIdeal : Cert.MlpDxRefIdeal.Facts] : Prop :=
  ∀ (m : (ℓ : Loc Cert.MlpDxIdeal.nD Cert.MlpDxIdeal.τ Cert.MlpDxIdeal.sig) → Buf (Elt Ideal) ℓ) (g : Dev Cert.MlpDxIdeal.nD → PrngReg)
    (m' : (ℓ : Loc Cert.MlpDxRefIdeal.nD Cert.MlpDxRefIdeal.τ Cert.MlpDxRefIdeal.sig) → Buf (Elt Ideal) ℓ) (g' : Dev Cert.MlpDxRefIdeal.nD → PrngReg), Pre_MlpDxIdeal m →
    (∀ c : Dev Cert.MlpDxIdeal.nD,
      m' ((c.tc : Thread Cert.MlpDxRefIdeal.nD Cert.MlpDxRefIdeal.τ).loc Cert.MlpDxRefIdeal.main_arg0) = m ((c.tc : Thread Cert.MlpDxIdeal.nD Cert.MlpDxIdeal.τ).loc Cert.MlpDxIdeal.main_arg0)
      ∧ m' ((c.tc : Thread Cert.MlpDxRefIdeal.nD Cert.MlpDxRefIdeal.τ).loc Cert.MlpDxRefIdeal.main_arg1) = m ((c.tc : Thread Cert.MlpDxIdeal.nD Cert.MlpDxIdeal.τ).loc Cert.MlpDxIdeal.main_arg1)
      ∧ m' ((c.tc : Thread Cert.MlpDxRefIdeal.nD Cert.MlpDxRefIdeal.τ).loc Cert.MlpDxRefIdeal.main_arg2) = m ((c.tc : Thread Cert.MlpDxIdeal.nD Cert.MlpDxIdeal.τ).loc Cert.MlpDxIdeal.main_arg2)
      ∧ m' ((c.tc : Thread Cert.MlpDxRefIdeal.nD Cert.MlpDxRefIdeal.τ).loc Cert.MlpDxRefIdeal.main_arg3) = m ((c.tc : Thread Cert.MlpDxIdeal.nD Cert.MlpDxIdeal.τ).loc Cert.MlpDxIdeal.main_arg3)
      ∧ m' ((c.tc : Thread Cert.MlpDxRefIdeal.nD Cert.MlpDxRefIdeal.τ).loc Cert.MlpDxRefIdeal.main_arg4) = m ((c.tc : Thread Cert.MlpDxIdeal.nD Cert.MlpDxIdeal.τ).loc Cert.MlpDxIdeal.main_arg4)) →
    ∃ (v0 : (c : Dev Cert.MlpDxIdeal.nD) → Buf (Elt Ideal) ((c.tc : Thread Cert.MlpDxIdeal.nD Cert.MlpDxIdeal.τ).loc Cert.MlpDxIdeal.main_v0_0)) (v1 : (c : Dev Cert.MlpDxIdeal.nD) → Buf (Elt Ideal) ((c.tc : Thread Cert.MlpDxIdeal.nD Cert.MlpDxIdeal.τ).loc Cert.MlpDxIdeal.main_v0_1)) (v2 : (c : Dev Cert.MlpDxIdeal.nD) → Buf (Elt Ideal) ((c.tc : Thread Cert.MlpDxIdeal.nD Cert.MlpDxIdeal.τ).loc Cert.MlpDxIdeal.main_v0_2)),
      θ_run (Cert.MlpDxIdeal.defs (F := Ideal)) (onTc (τ := Cert.MlpDxIdeal.τ) (Cert.MlpDxIdeal.main (F := Ideal))) ⟨m, fun _ => 0, g⟩ (fun r => ∀ c : Dev Cert.MlpDxIdeal.nD,
          r.2.mem ((c.tc : Thread Cert.MlpDxIdeal.nD Cert.MlpDxIdeal.τ).loc Cert.MlpDxIdeal.main_v0_0) = v0 c
          ∧ r.2.mem ((c.tc : Thread Cert.MlpDxIdeal.nD Cert.MlpDxIdeal.τ).loc Cert.MlpDxIdeal.main_v0_1) = v1 c
          ∧ r.2.mem ((c.tc : Thread Cert.MlpDxIdeal.nD Cert.MlpDxIdeal.τ).loc Cert.MlpDxIdeal.main_v0_2) = v2 c
          ∧ r.2.mem ((c.tc : Thread Cert.MlpDxIdeal.nD Cert.MlpDxIdeal.τ).loc Cert.MlpDxIdeal.main_arg0) = m ((c.tc : Thread Cert.MlpDxIdeal.nD Cert.MlpDxIdeal.τ).loc Cert.MlpDxIdeal.main_arg0)
          ∧ r.2.mem ((c.tc : Thread Cert.MlpDxIdeal.nD Cert.MlpDxIdeal.τ).loc Cert.MlpDxIdeal.main_arg1) = m ((c.tc : Thread Cert.MlpDxIdeal.nD Cert.MlpDxIdeal.τ).loc Cert.MlpDxIdeal.main_arg1)
          ∧ r.2.mem ((c.tc : Thread Cert.MlpDxIdeal.nD Cert.MlpDxIdeal.τ).loc Cert.MlpDxIdeal.main_arg2) = m ((c.tc : Thread Cert.MlpDxIdeal.nD Cert.MlpDxIdeal.τ).loc Cert.MlpDxIdeal.main_arg2)
          ∧ r.2.mem ((c.tc : Thread Cert.MlpDxIdeal.nD Cert.MlpDxIdeal.τ).loc Cert.MlpDxIdeal.main_arg3) = m ((c.tc : Thread Cert.MlpDxIdeal.nD Cert.MlpDxIdeal.τ).loc Cert.MlpDxIdeal.main_arg3)
          ∧ r.2.mem ((c.tc : Thread Cert.MlpDxIdeal.nD Cert.MlpDxIdeal.τ).loc Cert.MlpDxIdeal.main_arg4) = m ((c.tc : Thread Cert.MlpDxIdeal.nD Cert.MlpDxIdeal.τ).loc Cert.MlpDxIdeal.main_arg4))
      ∧ θ_run (Cert.MlpDxRefIdeal.defs (F := Ideal)) (onTc (τ := Cert.MlpDxRefIdeal.τ) (Cert.MlpDxRefIdeal.main (F := Ideal))) ⟨m', fun _ => 0, g'⟩ (fun r => ∀ c : Dev Cert.MlpDxRefIdeal.nD,
          r.2.mem ((c.tc : Thread Cert.MlpDxRefIdeal.nD Cert.MlpDxRefIdeal.τ).loc Cert.MlpDxRefIdeal.main_v40) = v0 c
          ∧ r.2.mem ((c.tc : Thread Cert.MlpDxRefIdeal.nD Cert.MlpDxRefIdeal.τ).loc Cert.MlpDxRefIdeal.main_v41) = v1 c
          ∧ r.2.mem ((c.tc : Thread Cert.MlpDxRefIdeal.nD Cert.MlpDxRefIdeal.τ).loc Cert.MlpDxRefIdeal.main_v42) = v2 c
          ∧ r.2.mem ((c.tc : Thread Cert.MlpDxRefIdeal.nD Cert.MlpDxRefIdeal.τ).loc Cert.MlpDxRefIdeal.main_arg0) = m' ((c.tc : Thread Cert.MlpDxRefIdeal.nD Cert.MlpDxRefIdeal.τ).loc Cert.MlpDxRefIdeal.main_arg0)
          ∧ r.2.mem ((c.tc : Thread Cert.MlpDxRefIdeal.nD Cert.MlpDxRefIdeal.τ).loc Cert.MlpDxRefIdeal.main_arg1) = m' ((c.tc : Thread Cert.MlpDxRefIdeal.nD Cert.MlpDxRefIdeal.τ).loc Cert.MlpDxRefIdeal.main_arg1)
          ∧ r.2.mem ((c.tc : Thread Cert.MlpDxRefIdeal.nD Cert.MlpDxRefIdeal.τ).loc Cert.MlpDxRefIdeal.main_arg2) = m' ((c.tc : Thread Cert.MlpDxRefIdeal.nD Cert.MlpDxRefIdeal.τ).loc Cert.MlpDxRefIdeal.main_arg2)
          ∧ r.2.mem ((c.tc : Thread Cert.MlpDxRefIdeal.nD Cert.MlpDxRefIdeal.τ).loc Cert.MlpDxRefIdeal.main_arg3) = m' ((c.tc : Thread Cert.MlpDxRefIdeal.nD Cert.MlpDxRefIdeal.τ).loc Cert.MlpDxRefIdeal.main_arg3)
          ∧ r.2.mem ((c.tc : Thread Cert.MlpDxRefIdeal.nD Cert.MlpDxRefIdeal.τ).loc Cert.MlpDxRefIdeal.main_arg4) = m' ((c.tc : Thread Cert.MlpDxRefIdeal.nD Cert.MlpDxRefIdeal.τ).loc Cert.MlpDxRefIdeal.main_arg4))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v0_0)) (v1 : (c : Dev Cert.InDxIdeal.nD) → Buf (Elt Ideal) ((c.tc : Thread Cert.InDxIdeal.nD Cert.InDxIdeal.τ).loc Cert.InDxIdeal.main_v0_1)) (v2 : (c : Dev Cert.InDxIdeal.nD) → Buf (Elt Ideal) ((c.tc : Thread Cert.InDxIdeal.nD Cert.InDxIdeal.τ).loc Cert.InDxIdeal.main_v0_2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0_0) = v0 c
          ∧ r.2.mem ((c.tc : Thread Cert.InDxIdeal.nD Cert.InDxIdeal.τ).loc Cert.InDxIdeal.main_v0_1) = v1 c
          ∧ r.2.mem ((c.tc : Thread Cert.InDxIdeal.nD Cert.InDxIdeal.τ).loc Cert.InDxIdeal.main_v0_2) = v2 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v38) = v0 c
          ∧ r.2.mem ((c.tc : Thread Cert.InDxRefIdeal.nD Cert.InDxRefIdeal.τ).loc Cert.InDxRefIdeal.main_v39) = v1 c
          ∧ r.2.mem ((c.tc : Thread Cert.InDxRefIdeal.nD Cert.InDxRefIdeal.τ).loc Cert.InDxRefIdeal.main_v40) = v2 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v14) = v0 c
          ∧ r.2.mem ((c.tc : Thread Cert.InProjRefIdeal.nD Cert.InProjRefIdeal.τ).loc Cert.InProjRefIdeal.main_v15) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_UpProj_UpProjIdeal : Prop :=
  True

def algebraic_UpProjIdeal_UpProjRefIdeal [hUpProjIdeal : Cert.UpProjIdeal.Facts] [hUpProjRefIdeal : Cert.UpProjRefIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjRefIdeal.nD Cert.UpProjRefIdeal.τ Cert.UpProjRefIdeal.sig) → Buf (Elt Ideal) ℓ) (g' : Dev Cert.UpProjRefIdeal.nD → PrngReg), Pre_UpProjIdeal m →
    (∀ c : Dev Cert.UpProjIdeal.nD,
      m' ((c.tc : Thread Cert.UpProjRefIdeal.nD Cert.UpProjRefIdeal.τ).loc Cert.UpProjRefIdeal.main_arg0) = m ((c.tc : Thread Cert.UpProjIdeal.nD Cert.UpProjIdeal.τ).loc Cert.UpProjIdeal.main_arg0)
      ∧ m' ((c.tc : Thread Cert.UpProjRefIdeal.nD Cert.UpProjRefIdeal.τ).loc Cert.UpProjRefIdeal.main_arg1) = m ((c.tc : Thread Cert.UpProjIdeal.nD Cert.UpProjIdeal.τ).loc Cert.UpProjIdeal.main_arg1)
      ∧ m' ((c.tc : Thread Cert.UpProjRefIdeal.nD Cert.UpProjRefIdeal.τ).loc Cert.UpProjRefIdeal.main_arg2) = m ((c.tc : Thread Cert.UpProjIdeal.nD Cert.UpProjIdeal.τ).loc Cert.UpProjIdeal.main_arg2)) →
    ∃ (v0 : (c : Dev Cert.UpProjIdeal.nD) → Buf (Elt Ideal) ((c.tc : Thread Cert.UpProjIdeal.nD Cert.UpProjIdeal.τ).loc Cert.UpProjIdeal.main_v0_0)) (v1 : (c : Dev Cert.UpProjIdeal.nD) → Buf (Elt Ideal) ((c.tc : Thread Cert.UpProjIdeal.nD Cert.UpProjIdeal.τ).loc Cert.UpProjIdeal.main_v0_1)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v0_0) = v0 c
          ∧ r.2.mem ((c.tc : Thread Cert.UpProjIdeal.nD Cert.UpProjIdeal.τ).loc Cert.UpProjIdeal.main_v0_1) = v1 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
          ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2))
      ∧ θ_run (Cert.UpProjRefIdeal.defs (F := Ideal)) (onTc (τ := Cert.UpProjRefIdeal.τ) (Cert.UpProjRefIdeal.main (F := Ideal))) ⟨m', fun _ => 0, g'⟩ (fun r => ∀ c : Dev Cert.UpProjRefIdeal.nD,
          r.2.mem ((c.tc : Thread Cert.UpProjRefIdeal.nD Cert.UpProjRefIdeal.τ).loc Cert.UpProjRefIdeal.main_v16) = v0 c
          ∧ r.2.mem ((c.tc : Thread Cert.UpProjRefIdeal.nD Cert.UpProjRefIdeal.τ).loc Cert.UpProjRefIdeal.main_v17) = v1 c
          ∧ r.2.mem ((c.tc : Thread Cert.UpProjRefIdeal.nD Cert.UpProjRefIdeal.τ).loc Cert.UpProjRefIdeal.main_arg0) = m' ((c.tc : Thread Cert.UpProjRefIdeal.nD Cert.UpProjRefIdeal.τ).loc Cert.UpProjRefIdeal.main_arg0)
          ∧ r.2.mem ((c.tc : Thread Cert.UpProjRefIdeal.nD Cert.UpProjRefIdeal.τ).loc Cert.UpProjRefIdeal.main_arg1) = m' ((c.tc : Thread Cert.UpProjRefIdeal.nD Cert.UpProjRefIdeal.τ).loc Cert.UpProjRefIdeal.main_arg1)
          ∧ r.2.mem ((c.tc : Thread Cert.UpProjRefIdeal.nD Cert.UpProjRefIdeal.τ).loc Cert.UpProjRefIdeal.main_arg2) = m' ((c.tc : Thread Cert.UpProjRefIdeal.nD Cert.UpProjRefIdeal.τ).loc Cert.UpProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_DownProj_DownProjIdeal : Prop :=
  True

def algebraic_DownProjIdeal_DownProjRefIdeal [hDownProjIdeal : Cert.DownProjIdeal.Facts] [hDownProjRefIdeal : Cert.DownProjRefIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRefIdeal.nD Cert.DownProjRefIdeal.τ Cert.DownProjRefIdeal.sig) → Buf (Elt Ideal) ℓ) (g' : Dev Cert.DownProjRefIdeal.nD → PrngReg), Pre_DownProjIdeal m →
    (∀ c : Dev Cert.DownProjIdeal.nD,
      m' ((c.tc : Thread Cert.DownProjRefIdeal.nD Cert.DownProjRefIdeal.τ).loc Cert.DownProjRefIdeal.main_arg0) = m ((c.tc : Thread Cert.DownProjIdeal.nD Cert.DownProjIdeal.τ).loc Cert.DownProjIdeal.main_arg0)
      ∧ m' ((c.tc : Thread Cert.DownProjRefIdeal.nD Cert.DownProjRefIdeal.τ).loc Cert.DownProjRefIdeal.main_arg1) = m ((c.tc : Thread Cert.DownProjIdeal.nD Cert.DownProjIdeal.τ).loc Cert.DownProjIdeal.main_arg1)
      ∧ m' ((c.tc : Thread Cert.DownProjRefIdeal.nD Cert.DownProjRefIdeal.τ).loc Cert.DownProjRefIdeal.main_arg2) = m ((c.tc : Thread Cert.DownProjIdeal.nD Cert.DownProjIdeal.τ).loc Cert.DownProjIdeal.main_arg2)) →
    ∃ (v0 : (c : Dev Cert.DownProjIdeal.nD) → Buf (Elt Ideal) ((c.tc : Thread Cert.DownProjIdeal.nD Cert.DownProjIdeal.τ).loc Cert.DownProjIdeal.main_v0)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0) = v0 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ θ_run (Cert.DownProjRefIdeal.defs (F := Ideal)) (onTc (τ := Cert.DownProjRefIdeal.τ) (Cert.DownProjRefIdeal.main (F := Ideal))) ⟨m', fun _ => 0, g'⟩ (fun r => ∀ c : Dev Cert.DownProjRefIdeal.nD,
          r.2.mem ((c.tc : Thread Cert.DownProjRefIdeal.nD Cert.DownProjRefIdeal.τ).loc Cert.DownProjRefIdeal.main_v5) = v0 c
          ∧ r.2.mem ((c.tc : Thread Cert.DownProjRefIdeal.nD Cert.DownProjRefIdeal.τ).loc Cert.DownProjRefIdeal.main_arg0) = m' ((c.tc : Thread Cert.DownProjRefIdeal.nD Cert.DownProjRefIdeal.τ).loc Cert.DownProjRefIdeal.main_arg0)
          ∧ r.2.mem ((c.tc : Thread Cert.DownProjRefIdeal.nD Cert.DownProjRefIdeal.τ).loc Cert.DownProjRefIdeal.main_arg1) = m' ((c.tc : Thread Cert.DownProjRefIdeal.nD Cert.DownProjRefIdeal.τ).loc Cert.DownProjRefIdeal.main_arg1)
          ∧ r.2.mem ((c.tc : Thread Cert.DownProjRefIdeal.nD Cert.DownProjRefIdeal.τ).loc Cert.DownProjRefIdeal.main_arg2) = m' ((c.tc : Thread Cert.DownProjRefIdeal.nD Cert.DownProjRefIdeal.τ).loc Cert.DownProjRefIdeal.main_arg2))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v49) = v0 c
          ∧ r.2.mem ((c.tc : Thread Cert.LossHeadRefIdeal.nD Cert.LossHeadRefIdeal.τ).loc Cert.LossHeadRefIdeal.main_v48) = v1 c
          ∧ r.2.mem ((c.tc : Thread Cert.LossHeadRefIdeal.nD Cert.LossHeadRefIdeal.τ).loc Cert.LossHeadRefIdeal.main_v50) = v2 c
          ∧ r.2.mem ((c.tc : Thread Cert.LossHeadRefIdeal.nD Cert.LossHeadRefIdeal.τ).loc Cert.LossHeadRefIdeal.main_v51) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)
      ∧ m' ((c.tc : Thread Cert.AdamOutRefIdeal.nD Cert.AdamOutRefIdeal.τ).loc Cert.AdamOutRefIdeal.main_arg6) = m ((c.tc : Thread Cert.AdamOutIdeal.nD Cert.AdamOutIdeal.τ).loc Cert.AdamOutIdeal.main_arg6)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
          ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v12) = v0 c
          ∧ r.2.mem ((c.tc : Thread Cert.AdamOutRefIdeal.nD Cert.AdamOutRefIdeal.τ).loc Cert.AdamOutRefIdeal.main_v36) = v1 c
          ∧ r.2.mem ((c.tc : Thread Cert.AdamOutRefIdeal.nD Cert.AdamOutRefIdeal.τ).loc Cert.AdamOutRefIdeal.main_v17) = v2 c
          ∧ r.2.mem ((c.tc : Thread Cert.AdamOutRefIdeal.nD Cert.AdamOutRefIdeal.τ).loc Cert.AdamOutRefIdeal.main_v23) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5)
          ∧ r.2.mem ((c.tc : Thread Cert.AdamOutRefIdeal.nD Cert.AdamOutRefIdeal.τ).loc Cert.AdamOutRefIdeal.main_arg6) = m' ((c.tc : Thread Cert.AdamOutRefIdeal.nD Cert.AdamOutRefIdeal.τ).loc Cert.AdamOutRefIdeal.main_arg6))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)
      ∧ m' ((c.tc : Thread Cert.AdamUpRefIdeal.nD Cert.AdamUpRefIdeal.τ).loc Cert.AdamUpRefIdeal.main_arg6) = m ((c.tc : Thread Cert.AdamUpIdeal.nD Cert.AdamUpIdeal.τ).loc Cert.AdamUpIdeal.main_arg6)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
          ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v12) = v0 c
          ∧ r.2.mem ((c.tc : Thread Cert.AdamUpRefIdeal.nD Cert.AdamUpRefIdeal.τ).loc Cert.AdamUpRefIdeal.main_v36) = v1 c
          ∧ r.2.mem ((c.tc : Thread Cert.AdamUpRefIdeal.nD Cert.AdamUpRefIdeal.τ).loc Cert.AdamUpRefIdeal.main_v17) = v2 c
          ∧ r.2.mem ((c.tc : Thread Cert.AdamUpRefIdeal.nD Cert.AdamUpRefIdeal.τ).loc Cert.AdamUpRefIdeal.main_v23) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5)
          ∧ r.2.mem ((c.tc : Thread Cert.AdamUpRefIdeal.nD Cert.AdamUpRefIdeal.τ).loc Cert.AdamUpRefIdeal.main_arg6) = m' ((c.tc : Thread Cert.AdamUpRefIdeal.nD Cert.AdamUpRefIdeal.τ).loc Cert.AdamUpRefIdeal.main_arg6))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)
      ∧ m' ((c.tc : Thread Cert.AdamDownRefIdeal.nD Cert.AdamDownRefIdeal.τ).loc Cert.AdamDownRefIdeal.main_arg6) = m ((c.tc : Thread Cert.AdamDownIdeal.nD Cert.AdamDownIdeal.τ).loc Cert.AdamDownIdeal.main_arg6)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
          ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v12) = v0 c
          ∧ r.2.mem ((c.tc : Thread Cert.AdamDownRefIdeal.nD Cert.AdamDownRefIdeal.τ).loc Cert.AdamDownRefIdeal.main_v36) = v1 c
          ∧ r.2.mem ((c.tc : Thread Cert.AdamDownRefIdeal.nD Cert.AdamDownRefIdeal.τ).loc Cert.AdamDownRefIdeal.main_v17) = v2 c
          ∧ r.2.mem ((c.tc : Thread Cert.AdamDownRefIdeal.nD Cert.AdamDownRefIdeal.τ).loc Cert.AdamDownRefIdeal.main_v23) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5)
          ∧ r.2.mem ((c.tc : Thread Cert.AdamDownRefIdeal.nD Cert.AdamDownRefIdeal.τ).loc Cert.AdamDownRefIdeal.main_arg6) = m' ((c.tc : Thread Cert.AdamDownRefIdeal.nD Cert.AdamDownRefIdeal.τ).loc Cert.AdamDownRefIdeal.main_arg6))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)
      ∧ m' ((c.tc : Thread Cert.AdamInRefIdeal.nD Cert.AdamInRefIdeal.τ).loc Cert.AdamInRefIdeal.main_arg6) = m ((c.tc : Thread Cert.AdamInIdeal.nD Cert.AdamInIdeal.τ).loc Cert.AdamInIdeal.main_arg6)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v16) = v0 c
          ∧ r.2.mem ((c.tc : Thread Cert.AdamInRefIdeal.nD Cert.AdamInRefIdeal.τ).loc Cert.AdamInRefIdeal.main_v40) = v1 c
          ∧ r.2.mem ((c.tc : Thread Cert.AdamInRefIdeal.nD Cert.AdamInRefIdeal.τ).loc Cert.AdamInRefIdeal.main_v21) = v2 c
          ∧ r.2.mem ((c.tc : Thread Cert.AdamInRefIdeal.nD Cert.AdamInRefIdeal.τ).loc Cert.AdamInRefIdeal.main_v27) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5)
          ∧ r.2.mem ((c.tc : Thread Cert.AdamInRefIdeal.nD Cert.AdamInRefIdeal.τ).loc Cert.AdamInRefIdeal.main_arg6) = m' ((c.tc : Thread Cert.AdamInRefIdeal.nD Cert.AdamInRefIdeal.τ).loc Cert.AdamInRefIdeal.main_arg6))

def preserves_AdamSc_AdamScIdeal : Prop :=
  True

def algebraic_AdamScIdeal_AdamScRefIdeal [hAdamScIdeal : Cert.AdamScIdeal.Facts] [hAdamScRefIdeal : Cert.AdamScRefIdeal.Facts] : Prop :=
  ∀ (m : (ℓ : Loc Cert.AdamScIdeal.nD Cert.AdamScIdeal.τ Cert.AdamScIdeal.sig) → Buf (Elt Ideal) ℓ) (g : Dev Cert.AdamScIdeal.nD → PrngReg)
    (m' : (ℓ : Loc Cert.AdamScRefIdeal.nD Cert.AdamScRefIdeal.τ Cert.AdamScRefIdeal.sig) → Buf (Elt Ideal) ℓ) (g' : Dev Cert.AdamScRefIdeal.nD → PrngReg), Pre_AdamScIdeal m →
    (∀ c : Dev Cert.AdamScIdeal.nD,
      m' ((c.tc : Thread Cert.AdamScRefIdeal.nD Cert.AdamScRefIdeal.τ).loc Cert.AdamScRefIdeal.main_arg0) = m ((c.tc : Thread Cert.AdamScIdeal.nD Cert.AdamScIdeal.τ).loc Cert.AdamScIdeal.main_arg0)
      ∧ m' ((c.tc : Thread Cert.AdamScRefIdeal.nD Cert.AdamScRefIdeal.τ).loc Cert.AdamScRefIdeal.main_arg1) = m ((c.tc : Thread Cert.AdamScIdeal.nD Cert.AdamScIdeal.τ).loc Cert.AdamScIdeal.main_arg1)
      ∧ m' ((c.tc : Thread Cert.AdamScRefIdeal.nD Cert.AdamScRefIdeal.τ).loc Cert.AdamScRefIdeal.main_arg2) = m ((c.tc : Thread Cert.AdamScIdeal.nD Cert.AdamScIdeal.τ).loc Cert.AdamScIdeal.main_arg2)
      ∧ m' ((c.tc : Thread Cert.AdamScRefIdeal.nD Cert.AdamScRefIdeal.τ).loc Cert.AdamScRefIdeal.main_arg3) = m ((c.tc : Thread Cert.AdamScIdeal.nD Cert.AdamScIdeal.τ).loc Cert.AdamScIdeal.main_arg3)) →
    ∃ (v0 : (c : Dev Cert.AdamScIdeal.nD) → Buf (Elt Ideal) ((c.tc : Thread Cert.AdamScIdeal.nD Cert.AdamScIdeal.τ).loc Cert.AdamScIdeal.main_v0_0)) (v1 : (c : Dev Cert.AdamScIdeal.nD) → Buf (Elt Ideal) ((c.tc : Thread Cert.AdamScIdeal.nD Cert.AdamScIdeal.τ).loc Cert.AdamScIdeal.main_v0_1)) (v2 : (c : Dev Cert.AdamScIdeal.nD) → Buf (Elt Ideal) ((c.tc : Thread Cert.AdamScIdeal.nD Cert.AdamScIdeal.τ).loc Cert.AdamScIdeal.main_v0_2)) (v3 : (c : Dev Cert.AdamScIdeal.nD) → Buf (Elt Ideal) ((c.tc : Thread Cert.AdamScIdeal.nD Cert.AdamScIdeal.τ).loc Cert.AdamScIdeal.main_v0_3)),
      θ_run (Cert.AdamScIdeal.defs (F := Ideal)) (onTc (τ := Cert.AdamScIdeal.τ) (Cert.AdamScIdeal.main (F := Ideal))) ⟨m, fun _ => 0, g⟩ (fun r => ∀ c : Dev Cert.AdamScIdeal.nD,
          r.2.mem ((c.tc : Thread Cert.AdamScIdeal.nD Cert.AdamScIdeal.τ).loc Cert.AdamScIdeal.main_v0_0) = v0 c
          ∧ r.2.mem ((c.tc : Thread Cert.AdamScIdeal.nD Cert.AdamScIdeal.τ).loc Cert.AdamScIdeal.main_v0_1) = v1 c
          ∧ r.2.mem ((c.tc : Thread Cert.AdamScIdeal.nD Cert.AdamScIdeal.τ).loc Cert.AdamScIdeal.main_v0_2) = v2 c
          ∧ r.2.mem ((c.tc : Thread Cert.AdamScIdeal.nD Cert.AdamScIdeal.τ).loc Cert.AdamScIdeal.main_v0_3) = v3 c
          ∧ r.2.mem ((c.tc : Thread Cert.AdamScIdeal.nD Cert.AdamScIdeal.τ).loc Cert.AdamScIdeal.main_arg0) = m ((c.tc : Thread Cert.AdamScIdeal.nD Cert.AdamScIdeal.τ).loc Cert.AdamScIdeal.main_arg0)
          ∧ r.2.mem ((c.tc : Thread Cert.AdamScIdeal.nD Cert.AdamScIdeal.τ).loc Cert.AdamScIdeal.main_arg1) = m ((c.tc : Thread Cert.AdamScIdeal.nD Cert.AdamScIdeal.τ).loc Cert.AdamScIdeal.main_arg1)
          ∧ r.2.mem ((c.tc : Thread Cert.AdamScIdeal.nD Cert.AdamScIdeal.τ).loc Cert.AdamScIdeal.main_arg2) = m ((c.tc : Thread Cert.AdamScIdeal.nD Cert.AdamScIdeal.τ).loc Cert.AdamScIdeal.main_arg2)
          ∧ r.2.mem ((c.tc : Thread Cert.AdamScIdeal.nD Cert.AdamScIdeal.τ).loc Cert.AdamScIdeal.main_arg3) = m ((c.tc : Thread Cert.AdamScIdeal.nD Cert.AdamScIdeal.τ).loc Cert.AdamScIdeal.main_arg3))
      ∧ θ_run (Cert.AdamScRefIdeal.defs (F := Ideal)) (onTc (τ := Cert.AdamScRefIdeal.τ) (Cert.AdamScRefIdeal.main (F := Ideal))) ⟨m', fun _ => 0, g'⟩ (fun r => ∀ c : Dev Cert.AdamScRefIdeal.nD,
          r.2.mem ((c.tc : Thread Cert.AdamScRefIdeal.nD Cert.AdamScRefIdeal.τ).loc Cert.AdamScRefIdeal.main_v0) = v0 c
          ∧ r.2.mem ((c.tc : Thread Cert.AdamScRefIdeal.nD Cert.AdamScRefIdeal.τ).loc Cert.AdamScRefIdeal.main_v24) = v1 c
          ∧ r.2.mem ((c.tc : Thread Cert.AdamScRefIdeal.nD Cert.AdamScRefIdeal.τ).loc Cert.AdamScRefIdeal.main_v5) = v2 c
          ∧ r.2.mem ((c.tc : Thread Cert.AdamScRefIdeal.nD Cert.AdamScRefIdeal.τ).loc Cert.AdamScRefIdeal.main_v11) = v3 c
          ∧ r.2.mem ((c.tc : Thread Cert.AdamScRefIdeal.nD Cert.AdamScRefIdeal.τ).loc Cert.AdamScRefIdeal.main_arg0) = m' ((c.tc : Thread Cert.AdamScRefIdeal.nD Cert.AdamScRefIdeal.τ).loc Cert.AdamScRefIdeal.main_arg0)
          ∧ r.2.mem ((c.tc : Thread Cert.AdamScRefIdeal.nD Cert.AdamScRefIdeal.τ).loc Cert.AdamScRefIdeal.main_arg1) = m' ((c.tc : Thread Cert.AdamScRefIdeal.nD Cert.AdamScRefIdeal.τ).loc Cert.AdamScRefIdeal.main_arg1)
          ∧ r.2.mem ((c.tc : Thread Cert.AdamScRefIdeal.nD Cert.AdamScRefIdeal.τ).loc Cert.AdamScRefIdeal.main_arg2) = m' ((c.tc : Thread Cert.AdamScRefIdeal.nD Cert.AdamScRefIdeal.τ).loc Cert.AdamScRefIdeal.main_arg2)
          ∧ r.2.mem ((c.tc : Thread Cert.AdamScRefIdeal.nD Cert.AdamScRefIdeal.τ).loc Cert.AdamScRefIdeal.main_arg3) = m' ((c.tc : Thread Cert.AdamScRefIdeal.nD Cert.AdamScRefIdeal.τ).loc Cert.AdamScRefIdeal.main_arg3))

def preserves_AdamCw_AdamCwIdeal : Prop :=
  True

def algebraic_AdamCwIdeal_AdamCwRefIdeal [hAdamCwIdeal : Cert.AdamCwIdeal.Facts] [hAdamCwRefIdeal : Cert.AdamCwRefIdeal.Facts] : Prop :=
  ∀ (m : (ℓ : Loc Cert.AdamCwIdeal.nD Cert.AdamCwIdeal.τ Cert.AdamCwIdeal.sig) → Buf (Elt Ideal) ℓ) (g : Dev Cert.AdamCwIdeal.nD → PrngReg)
    (m' : (ℓ : Loc Cert.AdamCwRefIdeal.nD Cert.AdamCwRefIdeal.τ Cert.AdamCwRefIdeal.sig) → Buf (Elt Ideal) ℓ) (g' : Dev Cert.AdamCwRefIdeal.nD → PrngReg), Pre_AdamCwIdeal m →
    (∀ c : Dev Cert.AdamCwIdeal.nD,
      m' ((c.tc : Thread Cert.AdamCwRefIdeal.nD Cert.AdamCwRefIdeal.τ).loc Cert.AdamCwRefIdeal.main_arg0) = m ((c.tc : Thread Cert.AdamCwIdeal.nD Cert.AdamCwIdeal.τ).loc Cert.AdamCwIdeal.main_arg0)
      ∧ m' ((c.tc : Thread Cert.AdamCwRefIdeal.nD Cert.AdamCwRefIdeal.τ).loc Cert.AdamCwRefIdeal.main_arg1) = m ((c.tc : Thread Cert.AdamCwIdeal.nD Cert.AdamCwIdeal.τ).loc Cert.AdamCwIdeal.main_arg1)
      ∧ m' ((c.tc : Thread Cert.AdamCwRefIdeal.nD Cert.AdamCwRefIdeal.τ).loc Cert.AdamCwRefIdeal.main_arg2) = m ((c.tc : Thread Cert.AdamCwIdeal.nD Cert.AdamCwIdeal.τ).loc Cert.AdamCwIdeal.main_arg2)
      ∧ m' ((c.tc : Thread Cert.AdamCwRefIdeal.nD Cert.AdamCwRefIdeal.τ).loc Cert.AdamCwRefIdeal.main_arg3) = m ((c.tc : Thread Cert.AdamCwIdeal.nD Cert.AdamCwIdeal.τ).loc Cert.AdamCwIdeal.main_arg3)) →
    ∃ (v0 : (c : Dev Cert.AdamCwIdeal.nD) → Buf (Elt Ideal) ((c.tc : Thread Cert.AdamCwIdeal.nD Cert.AdamCwIdeal.τ).loc Cert.AdamCwIdeal.main_v0_0)) (v1 : (c : Dev Cert.AdamCwIdeal.nD) → Buf (Elt Ideal) ((c.tc : Thread Cert.AdamCwIdeal.nD Cert.AdamCwIdeal.τ).loc Cert.AdamCwIdeal.main_v0_1)) (v2 : (c : Dev Cert.AdamCwIdeal.nD) → Buf (Elt Ideal) ((c.tc : Thread Cert.AdamCwIdeal.nD Cert.AdamCwIdeal.τ).loc Cert.AdamCwIdeal.main_v0_2)) (v3 : (c : Dev Cert.AdamCwIdeal.nD) → Buf (Elt Ideal) ((c.tc : Thread Cert.AdamCwIdeal.nD Cert.AdamCwIdeal.τ).loc Cert.AdamCwIdeal.main_v0_3)),
      θ_run (Cert.AdamCwIdeal.defs (F := Ideal)) (onTc (τ := Cert.AdamCwIdeal.τ) (Cert.AdamCwIdeal.main (F := Ideal))) ⟨m, fun _ => 0, g⟩ (fun r => ∀ c : Dev Cert.AdamCwIdeal.nD,
          r.2.mem ((c.tc : Thread Cert.AdamCwIdeal.nD Cert.AdamCwIdeal.τ).loc Cert.AdamCwIdeal.main_v0_0) = v0 c
          ∧ r.2.mem ((c.tc : Thread Cert.AdamCwIdeal.nD Cert.AdamCwIdeal.τ).loc Cert.AdamCwIdeal.main_v0_1) = v1 c
          ∧ r.2.mem ((c.tc : Thread Cert.AdamCwIdeal.nD Cert.AdamCwIdeal.τ).loc Cert.AdamCwIdeal.main_v0_2) = v2 c
          ∧ r.2.mem ((c.tc : Thread Cert.AdamCwIdeal.nD Cert.AdamCwIdeal.τ).loc Cert.AdamCwIdeal.main_v0_3) = v3 c
          ∧ r.2.mem ((c.tc : Thread Cert.AdamCwIdeal.nD Cert.AdamCwIdeal.τ).loc Cert.AdamCwIdeal.main_arg0) = m ((c.tc : Thread Cert.AdamCwIdeal.nD Cert.AdamCwIdeal.τ).loc Cert.AdamCwIdeal.main_arg0)
          ∧ r.2.mem ((c.tc : Thread Cert.AdamCwIdeal.nD Cert.AdamCwIdeal.τ).loc Cert.AdamCwIdeal.main_arg1) = m ((c.tc : Thread Cert.AdamCwIdeal.nD Cert.AdamCwIdeal.τ).loc Cert.AdamCwIdeal.main_arg1)
          ∧ r.2.mem ((c.tc : Thread Cert.AdamCwIdeal.nD Cert.AdamCwIdeal.τ).loc Cert.AdamCwIdeal.main_arg2) = m ((c.tc : Thread Cert.AdamCwIdeal.nD Cert.AdamCwIdeal.τ).loc Cert.AdamCwIdeal.main_arg2)
          ∧ r.2.mem ((c.tc : Thread Cert.AdamCwIdeal.nD Cert.AdamCwIdeal.τ).loc Cert.AdamCwIdeal.main_arg3) = m ((c.tc : Thread Cert.AdamCwIdeal.nD Cert.AdamCwIdeal.τ).loc Cert.AdamCwIdeal.main_arg3))
      ∧ θ_run (Cert.AdamCwRefIdeal.defs (F := Ideal)) (onTc (τ := Cert.AdamCwRefIdeal.τ) (Cert.AdamCwRefIdeal.main (F := Ideal))) ⟨m', fun _ => 0, g'⟩ (fun r => ∀ c : Dev Cert.AdamCwRefIdeal.nD,
          r.2.mem ((c.tc : Thread Cert.AdamCwRefIdeal.nD Cert.AdamCwRefIdeal.τ).loc Cert.AdamCwRefIdeal.main_v0) = v0 c
          ∧ r.2.mem ((c.tc : Thread Cert.AdamCwRefIdeal.nD Cert.AdamCwRefIdeal.τ).loc Cert.AdamCwRefIdeal.main_v24) = v1 c
          ∧ r.2.mem ((c.tc : Thread Cert.AdamCwRefIdeal.nD Cert.AdamCwRefIdeal.τ).loc Cert.AdamCwRefIdeal.main_v5) = v2 c
          ∧ r.2.mem ((c.tc : Thread Cert.AdamCwRefIdeal.nD Cert.AdamCwRefIdeal.τ).loc Cert.AdamCwRefIdeal.main_v11) = v3 c
          ∧ r.2.mem ((c.tc : Thread Cert.AdamCwRefIdeal.nD Cert.AdamCwRefIdeal.τ).loc Cert.AdamCwRefIdeal.main_arg0) = m' ((c.tc : Thread Cert.AdamCwRefIdeal.nD Cert.AdamCwRefIdeal.τ).loc Cert.AdamCwRefIdeal.main_arg0)
          ∧ r.2.mem ((c.tc : Thread Cert.AdamCwRefIdeal.nD Cert.AdamCwRefIdeal.τ).loc Cert.AdamCwRefIdeal.main_arg1) = m' ((c.tc : Thread Cert.AdamCwRefIdeal.nD Cert.AdamCwRefIdeal.τ).loc Cert.AdamCwRefIdeal.main_arg1)
          ∧ r.2.mem ((c.tc : Thread Cert.AdamCwRefIdeal.nD Cert.AdamCwRefIdeal.τ).loc Cert.AdamCwRefIdeal.main_arg2) = m' ((c.tc : Thread Cert.AdamCwRefIdeal.nD Cert.AdamCwRefIdeal.τ).loc Cert.AdamCwRefIdeal.main_arg2)
          ∧ r.2.mem ((c.tc : Thread Cert.AdamCwRefIdeal.nD Cert.AdamCwRefIdeal.τ).loc Cert.AdamCwRefIdeal.main_arg3) = m' ((c.tc : Thread Cert.AdamCwRefIdeal.nD Cert.AdamCwRefIdeal.τ).loc Cert.AdamCwRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_MixBwd_MixBwdIdeal : Prop :=
  True

def preserves_MixFwd_MixFwdIdeal : Prop :=
  True

def Claim : Prop :=
  ∃ (hDu : Cert.Du.Facts) (hDuIdeal : Cert.DuIdeal.Facts) (hDuRefIdeal : Cert.DuRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hDy : Cert.Dy.Facts) (hDyIdeal : Cert.DyIdeal.Facts) (hDyRefIdeal : Cert.DyRefIdeal.Facts) (hDwOut : Cert.DwOut.Facts) (hDwOutIdeal : Cert.DwOutIdeal.Facts) (hDwOutRefIdeal : Cert.DwOutRefIdeal.Facts) (hDwIn : Cert.DwIn.Facts) (hDwInIdeal : Cert.DwInIdeal.Facts) (hDwInRefIdeal : Cert.DwInRefIdeal.Facts) (hMlpDx : Cert.MlpDx.Facts) (hMlpDxIdeal : Cert.MlpDxIdeal.Facts) (hMlpDxRefIdeal : Cert.MlpDxRefIdeal.Facts) (hInDx : Cert.InDx.Facts) (hInDxIdeal : Cert.InDxIdeal.Facts) (hInDxRefIdeal : Cert.InDxRefIdeal.Facts) (hInProj : Cert.InProj.Facts) (hInProjIdeal : Cert.InProjIdeal.Facts) (hInProjRefIdeal : Cert.InProjRefIdeal.Facts) (hUpProj : Cert.UpProj.Facts) (hUpProjIdeal : Cert.UpProjIdeal.Facts) (hUpProjRefIdeal : Cert.UpProjRefIdeal.Facts) (hOutProj : Cert.OutProj.Facts) (hOutProjIdeal : Cert.OutProjIdeal.Facts) (hOutProjRefIdeal : Cert.OutProjRefIdeal.Facts) (hDownProj : Cert.DownProj.Facts) (hDownProjIdeal : Cert.DownProjIdeal.Facts) (hDownProjRefIdeal : Cert.DownProjRefIdeal.Facts) (hLossHead : Cert.LossHead.Facts) (hLossHeadIdeal : Cert.LossHeadIdeal.Facts) (hLossHeadRefIdeal : Cert.LossHeadRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamSc : Cert.AdamSc.Facts) (hAdamScIdeal : Cert.AdamScIdeal.Facts) (hAdamScRefIdeal : Cert.AdamScRefIdeal.Facts) (hAdamCw : Cert.AdamCw.Facts) (hAdamCwIdeal : Cert.AdamCwIdeal.Facts) (hAdamCwRefIdeal : Cert.AdamCwRefIdeal.Facts) (hAdamSmall : Cert.AdamSmall.Facts) (hAdamSmallIdeal : Cert.AdamSmallIdeal.Facts) (hAdamSmallRefIdeal : Cert.AdamSmallRefIdeal.Facts) (hMixBwd : Cert.MixBwd.Facts) (hMixBwdIdeal : Cert.MixBwdIdeal.Facts) (hMixFwd : Cert.MixFwd.Facts) (hMixFwdIdeal : Cert.MixFwdIdeal.Facts),
    quiescent_Du (hDu := hDu)
    ∧ quiescent_DuIdeal (hDuIdeal := hDuIdeal)
    ∧ quiescent_DuRefIdeal (hDuRefIdeal := hDuRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_Dy (hDy := hDy)
    ∧ quiescent_DyIdeal (hDyIdeal := hDyIdeal)
    ∧ quiescent_DyRefIdeal (hDyRefIdeal := hDyRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_MlpDx (hMlpDx := hMlpDx)
    ∧ quiescent_MlpDxIdeal (hMlpDxIdeal := hMlpDxIdeal)
    ∧ quiescent_MlpDxRefIdeal (hMlpDxRefIdeal := hMlpDxRefIdeal)
    ∧ quiescent_InDx (hInDx := hInDx)
    ∧ quiescent_InDxIdeal (hInDxIdeal := hInDxIdeal)
    ∧ quiescent_InDxRefIdeal (hInDxRefIdeal := hInDxRefIdeal)
    ∧ quiescent_InProj (hInProj := hInProj)
    ∧ quiescent_InProjIdeal (hInProjIdeal := hInProjIdeal)
    ∧ quiescent_InProjRefIdeal (hInProjRefIdeal := hInProjRefIdeal)
    ∧ quiescent_UpProj (hUpProj := hUpProj)
    ∧ quiescent_UpProjIdeal (hUpProjIdeal := hUpProjIdeal)
    ∧ quiescent_UpProjRefIdeal (hUpProjRefIdeal := hUpProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_DownProj (hDownProj := hDownProj)
    ∧ quiescent_DownProjIdeal (hDownProjIdeal := hDownProjIdeal)
    ∧ quiescent_DownProjRefIdeal (hDownProjRefIdeal := hDownProjRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSc (hAdamSc := hAdamSc)
    ∧ quiescent_AdamScIdeal (hAdamScIdeal := hAdamScIdeal)
    ∧ quiescent_AdamScRefIdeal (hAdamScRefIdeal := hAdamScRefIdeal)
    ∧ quiescent_AdamCw (hAdamCw := hAdamCw)
    ∧ quiescent_AdamCwIdeal (hAdamCwIdeal := hAdamCwIdeal)
    ∧ quiescent_AdamCwRefIdeal (hAdamCwRefIdeal := hAdamCwRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_MixBwd (hMixBwd := hMixBwd)
    ∧ quiescent_MixBwdIdeal (hMixBwdIdeal := hMixBwdIdeal)
    ∧ quiescent_MixFwd (hMixFwd := hMixFwd)
    ∧ quiescent_MixFwdIdeal (hMixFwdIdeal := hMixFwdIdeal)
    ∧ preserves_Du_DuIdeal
    ∧ algebraic_DuIdeal_DuRefIdeal (hDuIdeal := hDuIdeal) (hDuRefIdeal := hDuRefIdeal)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_Dy_DyIdeal
    ∧ algebraic_DyIdeal_DyRefIdeal (hDyIdeal := hDyIdeal) (hDyRefIdeal := hDyRefIdeal)
    ∧ preserves_DwOut_DwOutIdeal
    ∧ algebraic_DwOutIdeal_DwOutRefIdeal (hDwOutIdeal := hDwOutIdeal) (hDwOutRefIdeal := hDwOutRefIdeal)
    ∧ preserves_DwIn_DwInIdeal
    ∧ algebraic_DwInIdeal_DwInRefIdeal (hDwInIdeal := hDwInIdeal) (hDwInRefIdeal := hDwInRefIdeal)
    ∧ preserves_MlpDx_MlpDxIdeal
    ∧ algebraic_MlpDxIdeal_MlpDxRefIdeal (hMlpDxIdeal := hMlpDxIdeal) (hMlpDxRefIdeal := hMlpDxRefIdeal)
    ∧ preserves_InDx_InDxIdeal
    ∧ algebraic_InDxIdeal_InDxRefIdeal (hInDxIdeal := hInDxIdeal) (hInDxRefIdeal := hInDxRefIdeal)
    ∧ preserves_InProj_InProjIdeal
    ∧ algebraic_InProjIdeal_InProjRefIdeal (hInProjIdeal := hInProjIdeal) (hInProjRefIdeal := hInProjRefIdeal)
    ∧ preserves_UpProj_UpProjIdeal
    ∧ algebraic_UpProjIdeal_UpProjRefIdeal (hUpProjIdeal := hUpProjIdeal) (hUpProjRefIdeal := hUpProjRefIdeal)
    ∧ preserves_OutProj_OutProjIdeal
    ∧ algebraic_OutProjIdeal_OutProjRefIdeal (hOutProjIdeal := hOutProjIdeal) (hOutProjRefIdeal := hOutProjRefIdeal)
    ∧ preserves_DownProj_DownProjIdeal
    ∧ algebraic_DownProjIdeal_DownProjRefIdeal (hDownProjIdeal := hDownProjIdeal) (hDownProjRefIdeal := hDownProjRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamSc_AdamScIdeal
    ∧ algebraic_AdamScIdeal_AdamScRefIdeal (hAdamScIdeal := hAdamScIdeal) (hAdamScRefIdeal := hAdamScRefIdeal)
    ∧ preserves_AdamCw_AdamCwIdeal
    ∧ algebraic_AdamCwIdeal_AdamCwRefIdeal (hAdamCwIdeal := hAdamCwIdeal) (hAdamCwRefIdeal := hAdamCwRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_MixBwd_MixBwdIdeal
    ∧ preserves_MixFwd_MixFwdIdeal
-- ==== Du.lean ====
abbrev S8192x1024 : Shape := ⟨2, ![8192, 1024]⟩
abbrev S4096x1024 : Shape := ⟨2, ![4096, 1024]⟩
abbrev S8192x4096 : Shape := ⟨2, ![8192, 4096]⟩
abbrev S512x1024 : Shape := ⟨2, ![512, 1024]⟩
abbrev S512x4096 : Shape := ⟨2, ![512, 4096]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DuRefIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S4096x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== DwDown.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwDownRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S8192x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== DwUp.lean ====
abbrev S8192x1024 : Shape := ⟨2, ![8192, 1024]⟩
abbrev S8192x4096 : Shape := ⟨2, ![8192, 4096]⟩
abbrev S8x1024x512 : Shape := ⟨3, ![8, 1024, 512]⟩
abbrev S4096x1024 : Shape := ⟨2, ![4096, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwUpRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dy.lean ====
abbrev S8192x1024 : Shape := ⟨2, ![8192, 1024]⟩
abbrev S2048x1024 : Shape := ⟨2, ![2048, 1024]⟩
abbrev S8192x2048 : Shape := ⟨2, ![8192, 2048]⟩
abbrev S512x1024 : Shape := ⟨2, ![512, 1024]⟩
abbrev S512x2048 : Shape := ⟨2, ![512, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x2048, .bf16⟩
  | .local _ .vmem, ⟨4, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DyRefIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwOut.lean ====
abbrev S8192x2048 : Shape := ⟨2, ![8192, 2048]⟩
abbrev S8192x1024 : Shape := ⟨2, ![8192, 1024]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwOutRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwIn.lean ====
abbrev S8192x1024 : Shape := ⟨2, ![8192, 1024]⟩
abbrev S8192x5760 : Shape := ⟨2, ![8192, 5760]⟩
abbrev S1024x5760 : Shape := ⟨2, ![1024, 5760]⟩
abbrev S4096x1024 : Shape := ⟨2, ![4096, 1024]⟩
abbrev S4096x1152 : Shape := ⟨2, ![4096, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5760, .bf16⟩
  | .hbm, ⟨2, _⟩ => ⟨S1024x5760, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1152, .bf16⟩
  | .local _ .vmem, ⟨3, _⟩ => ⟨S4096x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInRefIdeal.lean ====
abbrev S8192x1024 : Shape := ⟨2, ![8192, 1024]⟩
abbrev S8192x5760 : Shape := ⟨2, ![8192, 5760]⟩
abbrev S_ : Shape := ⟨0, ![]⟩
abbrev S1024x5760 : Shape := ⟨2, ![1024, 5760]⟩
abbrev S5760x1024 : Shape := ⟨2, ![5760, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5760, .bf16⟩
  | .hbm, ⟨2, _⟩ => ⟨S_, .f32⟩
  | .hbm, ⟨3, _⟩ => ⟨S1024x5760, .f32⟩
  | .hbm, ⟨4, _⟩ => ⟨S8192x1024, .f32⟩
  | .hbm, ⟨5, _⟩ => ⟨S8192x5760, .f32⟩
  | .hbm, ⟨6, _⟩ => ⟨S8192x5760, .f32⟩
  | .hbm, ⟨7, _⟩ => ⟨S5760x1024, .f32⟩
  | .hbm, ⟨8, _⟩ => ⟨S1024x5760, .f32⟩
  | .hbm, ⟨9, _⟩ => ⟨S1024x5760, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpDx.lean ====
abbrev S8192x4096 : Shape := ⟨2, ![8192, 4096]⟩
abbrev S8x1024x512 : Shape := ⟨3, ![8, 1024, 512]⟩
abbrev S8192x1024 : Shape := ⟨2, ![8192, 1024]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S8x1024x512, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpDxRefIdeal.lean ====
abbrev S8192x4096 : Shape := ⟨2, ![8192, 4096]⟩
abbrev S8x1024x512 : Shape := ⟨3, ![8, 1024, 512]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x8x512 : Shape := ⟨3, ![1024, 8, 512]⟩
abbrev S1024x4096 : Shape := ⟨2, ![1024, 4096]⟩
abbrev S1024 : Shape := ⟨1, ![1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8x1024x512, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8x1024x512, .f32⟩
  | .hbm, ⟨25, _⟩ => ⟨S1024x8x512, .f32⟩
  | .hbm, ⟨26, _⟩ => ⟨S1024x4096, .f32⟩
  | .hbm, ⟨27, _⟩ => ⟨S8192x4096, .f32⟩
  | .hbm, ⟨28, _⟩ => ⟨S8192x4096, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S_, .i32⟩
  | .hbm, ⟨56, _⟩ => ⟨S_, .f32⟩
  | .hbm, ⟨57, _⟩ => ⟨S8x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c : Ref sig .tc := ⟨.hbm, 55, rfl⟩
abbrev main_call0_v0 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== InDx.lean ====
abbrev S8192x5760 : Shape := ⟨2, ![8192, 5760]⟩
abbrev S1024x5760 : Shape := ⟨2, ![1024, 5760]⟩
abbrev S8192x1024 : Shape := ⟨2, ![8192, 1024]⟩
abbrev S1x1024 : Shape := ⟨2, ![1, 1024]⟩
abbrev S8x1024 : Shape := ⟨2, ![8, 1024]⟩
abbrev S512x5760 : Shape := ⟨2, ![512, 5760]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x5760, .bf16⟩
  | .hbm, ⟨1, _⟩ => ⟨S1024x5760, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .local _ .vmem, ⟨0, _⟩ => ⟨S512x5760, .bf16⟩
  | .local _ .vmem, ⟨1, _⟩ => ⟨S512x5760, .bf16⟩
  | .local _ .vmem, ⟨2, _⟩ => ⟨S1024x5760, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S8192x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5760 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5760 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InDxRefIdeal.lean ====
abbrev S8192x5760 : Shape := ⟨2, ![8192, 5760]⟩
abbrev S1024x5760 : Shape := ⟨2, ![1024, 5760]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x1024 : Shape := ⟨2, ![8, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x5760, .bf16⟩
  | .hbm, ⟨1, _⟩ => ⟨S1024x5760, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x5760, .f32⟩
  | .hbm, ⟨25, _⟩ => ⟨S8192x5760, .f32⟩
  | .hbm, ⟨26, _⟩ => ⟨S8192x5760, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | .hbm, ⟨53, _⟩ => ⟨S_, .i32⟩
  | .hbm, ⟨54, _⟩ => ⟨S_, .f32⟩
  | .hbm, ⟨55, _⟩ => ⟨S8x1024, .f32⟩
  | _, _ => ⟨S8192x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c : Ref sig .tc := ⟨.hbm, 53, rfl⟩
abbrev main_call0_v0 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== InProj.lean ====
abbrev S8192x1024 : Shape := ⟨2, ![8192, 1024]⟩
abbrev S1x1024 : Shape := ⟨2, ![1, 1024]⟩
abbrev S1024x5760 : Shape := ⟨2, ![1024, 5760]⟩
abbrev S8192x5760 : Shape := ⟨2, ![8192, 5760]⟩
abbrev S512x1024 : Shape := ⟨2, ![512, 1024]⟩
abbrev S512x5760 : Shape := ⟨2, ![512, 5760]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1024x1152 : Shape := ⟨2, ![1024, 1152]⟩
abbrev S512x1152 : Shape := ⟨2, ![512, 1152]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5760, .bf16⟩
  | .hbm, ⟨3, _⟩ => ⟨S8192x5760, .bf16⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5760, .bf16⟩
  | .local _ .vmem, ⟨4, _⟩ => ⟨S512x5760, .bf16⟩
  | .local _ .vmem, ⟨5, _⟩ => ⟨S512x5760, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5760 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5760 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S8192x1024 : Shape := ⟨2, ![8192, 1024]⟩
abbrev S1x1024 : Shape := ⟨2, ![1, 1024]⟩
abbrev S1024x5760 : Shape := ⟨2, ![1024, 5760]⟩
abbrev S_ : Shape := ⟨0, ![]⟩
abbrev S8192 : Shape := ⟨1, ![8192]⟩
abbrev S8192x1 : Shape := ⟨2, ![8192, 1]⟩
abbrev S8192x5760 : Shape := ⟨2, ![8192, 5760]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5760, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x5760, .f32⟩
  | .hbm, ⟨19, _⟩ => ⟨S8192x5760, .f32⟩
  | .hbm, ⟨20, _⟩ => ⟨S8192x5760, .bf16⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== UpProj.lean ====
abbrev S8192x1024 : Shape := ⟨2, ![8192, 1024]⟩
abbrev S1x1024 : Shape := ⟨2, ![1, 1024]⟩
abbrev S8x1024x512 : Shape := ⟨3, ![8, 1024, 512]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x512, .bf16⟩
  | .hbm, ⟨3, _⟩ => ⟨S8192x4096, .bf16⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S512x4096, .bf16⟩
  | .local _ .vmem, ⟨5, _⟩ => ⟨S512x4096, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpProjRefIdeal.lean ====
abbrev S8192x1024 : Shape := ⟨2, ![8192, 1024]⟩
abbrev S1x1024 : Shape := ⟨2, ![1, 1024]⟩
abbrev S8x1024x512 : Shape := ⟨3, ![8, 1024, 512]⟩
abbrev S_ : Shape := ⟨0, ![]⟩
abbrev S8192 : Shape := ⟨1, ![8192]⟩
abbrev S8192x1 : Shape := ⟨2, ![8192, 1]⟩
abbrev S1024x8x512 : Shape := ⟨3, ![1024, 8, 512]⟩
abbrev S1024x4096 : Shape := ⟨2, ![1024, 4096]⟩
abbrev S8192x4096 : Shape := ⟨2, ![8192, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x512, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8x1024x512, .f32⟩
  | .hbm, ⟨19, _⟩ => ⟨S1024x8x512, .f32⟩
  | .hbm, ⟨20, _⟩ => ⟨S1024x4096, .f32⟩
  | .hbm, ⟨21, _⟩ => ⟨S8192x4096, .f32⟩
  | .hbm, ⟨22, _⟩ => ⟨S8192x4096, .bf16⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== OutProj.lean ====
abbrev S8192x2048 : Shape := ⟨2, ![8192, 2048]⟩
abbrev S2048x1024 : Shape := ⟨2, ![2048, 1024]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutProjRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownProj.lean ====
abbrev S8192x4096 : Shape := ⟨2, ![8192, 4096]⟩
abbrev S4096x1024 : Shape := ⟨2, ![4096, 1024]⟩
abbrev S8192x1024 : Shape := ⟨2, ![8192, 1024]⟩
abbrev S512x4096 : Shape := ⟨2, ![512, 4096]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownProjRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S4096x1024, .f32⟩
  | .hbm, ⟨9, _⟩ => ⟨S8192x1024, .f32⟩
  | .hbm, ⟨10, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S8x128 : Shape := ⟨2, ![8, 128]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8x128, .f32⟩
  | .hbm, ⟨4, _⟩ => ⟨S8192x1024, .f32⟩
  | .hbm, ⟨5, _⟩ => ⟨S8192x1024, .bf16⟩
  | .hbm, ⟨6, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩
abbrev S8x1024 : Shape := ⟨2, ![8, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8x128, .f32⟩
  | .hbm, ⟨69, _⟩ => ⟨S8192x1024, .bf16⟩
  | .hbm, ⟨70, _⟩ => ⟨S_, .i32⟩
  | .hbm, ⟨71, _⟩ => ⟨S_, .f32⟩
  | .hbm, ⟨72, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c : Ref sig .tc := ⟨.hbm, 70, rfl⟩
abbrev main_call0_v0 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== AdamOut.lean ====
abbrev S4x256x1024 : Shape := ⟨3, ![4, 256, 1024]⟩
abbrev S8x256x1024 : Shape := ⟨3, ![8, 256, 1024]⟩
abbrev S1x128x1024 : Shape := ⟨3, ![1, 128, 1024]⟩
abbrev S8x128x1024 : Shape := ⟨3, ![8, 128, 1024]⟩
abbrev S128x1024 : Shape := ⟨2, ![128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S8x256x1024, .bf16⟩
  | .hbm, ⟨2, _⟩ => ⟨S8x256x1024, .bf16⟩
  | .hbm, ⟨3, _⟩ => ⟨S8x256x1024, .bf16⟩
  | .hbm, ⟨4, _⟩ => ⟨S8x256x1024, .bf16⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S8x128x1024, .bf16⟩
  | .local _ .vmem, ⟨9, _⟩ => ⟨S8x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamOutRefIdeal.lean ====
abbrev S4x256x1024 : Shape := ⟨3, ![4, 256, 1024]⟩
abbrev S8x256x1024 : Shape := ⟨3, ![8, 256, 1024]⟩
abbrev S_ : Shape := ⟨0, ![]⟩
abbrev S256x1024 : Shape := ⟨2, ![256, 1024]⟩
abbrev S1x256x1024 : Shape := ⟨3, ![1, 256, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S8x256x1024, .bf16⟩
  | .hbm, ⟨2, _⟩ => ⟨S8x256x1024, .bf16⟩
  | .hbm, ⟨3, _⟩ => ⟨S8x256x1024, .bf16⟩
  | .hbm, ⟨4, _⟩ => ⟨S8x256x1024, .bf16⟩
  | .hbm, ⟨5, _⟩ => ⟨S4x256x1024, .f32⟩
  | .hbm, ⟨6, _⟩ => ⟨S4x256x1024, .f32⟩
  | .hbm, ⟨7, _⟩ => ⟨S8x256x1024, .f32⟩
  | .hbm, ⟨8, _⟩ => ⟨S_, .f32⟩
  | .hbm, ⟨9, _⟩ => ⟨S256x1024, .f32⟩
  | .hbm, ⟨10, _⟩ => ⟨S8x256x1024, .f32⟩
  | .hbm, ⟨11, _⟩ => ⟨S_, .f32⟩
  | .hbm, ⟨12, _⟩ => ⟨S256x1024, .f32⟩
  | .hbm, ⟨13, _⟩ => ⟨S8x256x1024, .f32⟩
  | .hbm, ⟨14, _⟩ => ⟨S_, .f32⟩
  | .hbm, ⟨15, _⟩ => ⟨S256x1024, .f32⟩
  | .hbm, ⟨16, _⟩ => ⟨S8x256x1024, .f32⟩
  | .hbm, ⟨17, _⟩ => ⟨S_, .f32⟩
  | .hbm, ⟨18, _⟩ => ⟨S256x1024, .f32⟩
  | .hbm, ⟨19, _⟩ => ⟨S1x256x1024, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S4x256x1024, .f32⟩
  | .hbm, ⟨24, _⟩ => ⟨S_, .f32⟩
  | .hbm, ⟨25, _⟩ => ⟨S4x256x1024, .f32⟩
  | .hbm, ⟨26, _⟩ => ⟨S4x256x1024, .f32⟩
  | .hbm, ⟨27, _⟩ => ⟨S_, .f32⟩
  | .hbm, ⟨28, _⟩ => ⟨S4x256x1024, .f32⟩
  | .hbm, ⟨29, _⟩ => ⟨S4x256x1024, .f32⟩
  | .hbm, ⟨30, _⟩ => ⟨S4x256x1024, .f32⟩
  | .hbm, ⟨31, _⟩ => ⟨S_, .f32⟩
  | .hbm, ⟨32, _⟩ => ⟨S4x256x1024, .f32⟩
  | .hbm, ⟨33, _⟩ => ⟨S4x256x1024, .f32⟩
  | .hbm, ⟨34, _⟩ => ⟨S4x256x1024, .f32⟩
  | .hbm, ⟨35, _⟩ => ⟨S_, .f32⟩
  | .hbm, ⟨36, _⟩ => ⟨S4x256x1024, .f32⟩
  | .hbm, ⟨37, _⟩ => ⟨S4x256x1024, .f32⟩
  | .hbm, ⟨38, _⟩ => ⟨S4x256x1024, .f32⟩
  | .hbm, ⟨39, _⟩ => ⟨S_, .f32⟩
  | .hbm, ⟨40, _⟩ => ⟨S4x256x1024, .f32⟩
  | .hbm, ⟨41, _⟩ => ⟨S4x256x1024, .f32⟩
  | .hbm, ⟨42, _⟩ => ⟨S_, .f32⟩
  | .hbm, ⟨43, _⟩ => ⟨S4x256x1024, .f32⟩
  | .hbm, ⟨44, _⟩ => ⟨S4x256x1024, .f32⟩
  | .hbm, ⟨45, _⟩ => ⟨S4x256x1024, .f32⟩
  | .hbm, ⟨46, _⟩ => ⟨S_, .f32⟩
  | .hbm, ⟨47, _⟩ => ⟨S4x256x1024, .f32⟩
  | .hbm, ⟨48, _⟩ => ⟨S4x256x1024, .f32⟩
  | .hbm, ⟨49, _⟩ => ⟨S4x256x1024, .f32⟩
  | .hbm, ⟨50, _⟩ => ⟨S_, .f32⟩
  | .hbm, ⟨51, _⟩ => ⟨S4x256x1024, .f32⟩
  | .hbm, ⟨52, _⟩ => ⟨S4x256x1024, .f32⟩
  | .hbm, ⟨53, _⟩ => ⟨S4x256x1024, .f32⟩
  | .hbm, ⟨54, _⟩ => ⟨S_, .f32⟩
  | .hbm, ⟨55, _⟩ => ⟨S4x256x1024, .f32⟩
  | .hbm, ⟨56, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== AdamUp.lean ====
abbrev S4x1024x512 : Shape := ⟨3, ![4, 1024, 512]⟩
abbrev S8x1024x512 : Shape := ⟨3, ![8, 1024, 512]⟩
abbrev S1x128x512 : Shape := ⟨3, ![1, 128, 512]⟩
abbrev S8x128x512 : Shape := ⟨3, ![8, 128, 512]⟩
abbrev S128x512 : Shape := ⟨2, ![128, 512]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x512, .f32⟩
  | .hbm, ⟨1, _⟩ => ⟨S8x1024x512, .bf16⟩
  | .hbm, ⟨2, _⟩ => ⟨S8x1024x512, .bf16⟩
  | .hbm, ⟨3, _⟩ => ⟨S8x1024x512, .bf16⟩
  | .hbm, ⟨4, _⟩ => ⟨S8x1024x512, .bf16⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .local _ .vmem, ⟨0, _⟩ => ⟨S1x128x512, .f32⟩
  | .local _ .vmem, ⟨1, _⟩ => ⟨S1x128x512, .f32⟩
  | .local _ .vmem, ⟨2, _⟩ => ⟨S8x128x512, .bf16⟩
  | .local _ .vmem, ⟨3, _⟩ => ⟨S8x128x512, .bf16⟩
  | .local _ .vmem, ⟨4, _⟩ => ⟨S8x128x512, .bf16⟩
  | .local _ .vmem, ⟨5, _⟩ => ⟨S8x128x512, .bf16⟩
  | .local _ .vmem, ⟨6, _⟩ => ⟨S8x128x512, .bf16⟩
  | .local _ .vmem, ⟨7, _⟩ => ⟨S8x128x512, .bf16⟩
  | .local _ .vmem, ⟨8, _⟩ => ⟨S8x128x512, .bf16⟩
  | .local _ .vmem, ⟨9, _⟩ => ⟨S8x128x512, .bf16⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .vmem, ⟨18, _⟩ => ⟨S1x128x512, .f32⟩
  | .local _ .vmem, ⟨19, _⟩ => ⟨S1x128x512, .f32⟩
  | .local _ .vmem, ⟨20, _⟩ => ⟨S1x128x512, .f32⟩
  | .local _ .vmem, ⟨21, _⟩ => ⟨S1x128x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamUpRefIdeal.lean ====
abbrev S4x1024x512 : Shape := ⟨3, ![4, 1024, 512]⟩
abbrev S8x1024x512 : Shape := ⟨3, ![8, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 57
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S8x1024x512, .bf16⟩
  | .hbm, ⟨2, _⟩ => ⟨S8x1024x512, .bf16⟩
  | .hbm, ⟨3, _⟩ => ⟨S8x1024x512, .bf16⟩
  | .hbm, ⟨4, _⟩ => ⟨S8x1024x512, .bf16⟩
  | .hbm, ⟨5, _⟩ => ⟨S4x1024x512, .f32⟩
  | .hbm, ⟨6, _⟩ => ⟨S4x1024x512, .f32⟩
  | .hbm, ⟨7, _⟩ => ⟨S8x1024x512, .f32⟩
  | .hbm, ⟨8, _⟩ => ⟨S_, .f32⟩
  | .hbm, ⟨9, _⟩ => ⟨S1024x512, .f32⟩
  | .hbm, ⟨10, _⟩ => ⟨S8x1024x512, .f32⟩
  | .hbm, ⟨11, _⟩ => ⟨S_, .f32⟩
  | .hbm, ⟨12, _⟩ => ⟨S1024x512, .f32⟩
  | .hbm, ⟨13, _⟩ => ⟨S8x1024x512, .f32⟩
  | .hbm, ⟨14, _⟩ => ⟨S_, .f32⟩
  | .hbm, ⟨15, _⟩ => ⟨S1024x512, .f32⟩
  | .hbm, ⟨16, _⟩ => ⟨S8x1024x512, .f32⟩
  | .hbm, ⟨17, _⟩ => ⟨S_, .f32⟩
  | .hbm, ⟨18, _⟩ => ⟨S1024x512, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S4x1024x512, .f32⟩
  | .hbm, ⟨24, _⟩ => ⟨S_, .f32⟩
  | .hbm, ⟨25, _⟩ => ⟨S4x1024x512, .f32⟩
  | .hbm, ⟨26, _⟩ => ⟨S4x1024x512, .f32⟩
  | .hbm, ⟨27, _⟩ => ⟨S_, .f32⟩
  | .hbm, ⟨28, _⟩ => ⟨S4x1024x512, .f32⟩
  | .hbm, ⟨29, _⟩ => ⟨S4x1024x512, .f32⟩
  | .hbm, ⟨30, _⟩ => ⟨S4x1024x512, .f32⟩
  | .hbm, ⟨31, _⟩ => ⟨S_, .f32⟩
  | .hbm, ⟨32, _⟩ => ⟨S4x1024x512, .f32⟩
  | .hbm, ⟨33, _⟩ => ⟨S4x1024x512, .f32⟩
  | .hbm, ⟨34, _⟩ => ⟨S4x1024x512, .f32⟩
  | .hbm, ⟨35, _⟩ => ⟨S_, .f32⟩
  | .hbm, ⟨36, _⟩ => ⟨S4x1024x512, .f32⟩
  | .hbm, ⟨37, _⟩ => ⟨S4x1024x512, .f32⟩
  | .hbm, ⟨38, _⟩ => ⟨S4x1024x512, .f32⟩
  | .hbm, ⟨39, _⟩ => ⟨S_, .f32⟩
  | .hbm, ⟨40, _⟩ => ⟨S4x1024x512, .f32⟩
  | .hbm, ⟨41, _⟩ => ⟨S4x1024x512, .f32⟩
  | .hbm, ⟨42, _⟩ => ⟨S_, .f32⟩
  | .hbm, ⟨43, _⟩ => ⟨S4x1024x512, .f32⟩
  | .hbm, ⟨44, _⟩ => ⟨S4x1024x512, .f32⟩
  | .hbm, ⟨45, _⟩ => ⟨S4x1024x512, .f32⟩
  | .hbm, ⟨46, _⟩ => ⟨S_, .f32⟩
  | .hbm, ⟨47, _⟩ => ⟨S4x1024x512, .f32⟩
  | .hbm, ⟨48, _⟩ => ⟨S4x1024x512, .f32⟩
  | .hbm, ⟨49, _⟩ => ⟨S4x1024x512, .f32⟩
  | .hbm, ⟨50, _⟩ => ⟨S_, .f32⟩
  | .hbm, ⟨51, _⟩ => ⟨S4x1024x512, .f32⟩
  | .hbm, ⟨52, _⟩ => ⟨S4x1024x512, .f32⟩
  | .hbm, ⟨53, _⟩ => ⟨S4x1024x512, .f32⟩
  | .hbm, ⟨54, _⟩ => ⟨S_, .f32⟩
  | .hbm, ⟨55, _⟩ => ⟨S4x1024x512, .f32⟩
  | .hbm, ⟨56, _⟩ => ⟨S4x1024x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== AdamDown.lean ====
abbrev S4x512x1024 : Shape := ⟨3, ![4, 512, 1024]⟩
abbrev S8x512x1024 : Shape := ⟨3, ![8, 512, 1024]⟩
abbrev S1x128x1024 : Shape := ⟨3, ![1, 128, 1024]⟩
abbrev S8x128x1024 : Shape := ⟨3, ![8, 128, 1024]⟩
abbrev S128x1024 : Shape := ⟨2, ![128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x512x1024, .f32⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S8x512x1024, .bf16⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S8x128x1024, .bf16⟩
  | .local _ .vmem, ⟨9, _⟩ => ⟨S8x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamDownRefIdeal.lean ====
abbrev S4x512x1024 : Shape := ⟨3, ![4, 512, 1024]⟩
abbrev S8x512x1024 : Shape := ⟨3, ![8, 512, 1024]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S8x512x1024, .bf16⟩
  | .hbm, ⟨5, _⟩ => ⟨S4x512x1024, .f32⟩
  | .hbm, ⟨6, _⟩ => ⟨S4x512x1024, .f32⟩
  | .hbm, ⟨7, _⟩ => ⟨S8x512x1024, .f32⟩
  | .hbm, ⟨8, _⟩ => ⟨S_, .f32⟩
  | .hbm, ⟨9, _⟩ => ⟨S512x1024, .f32⟩
  | .hbm, ⟨10, _⟩ => ⟨S8x512x1024, .f32⟩
  | .hbm, ⟨11, _⟩ => ⟨S_, .f32⟩
  | .hbm, ⟨12, _⟩ => ⟨S512x1024, .f32⟩
  | .hbm, ⟨13, _⟩ => ⟨S8x512x1024, .f32⟩
  | .hbm, ⟨14, _⟩ => ⟨S_, .f32⟩
  | .hbm, ⟨15, _⟩ => ⟨S512x1024, .f32⟩
  | .hbm, ⟨16, _⟩ => ⟨S8x512x1024, .f32⟩
  | .hbm, ⟨17, _⟩ => ⟨S_, .f32⟩
  | .hbm, ⟨18, _⟩ => ⟨S512x1024, .f32⟩
  | .hbm, ⟨19, _⟩ => ⟨S1x512x1024, .f32⟩
  | .hbm, ⟨20, _⟩ => ⟨S1x512x1024, .f32⟩
  | .hbm, ⟨21, _⟩ => ⟨S1x512x1024, .f32⟩
  | .hbm, ⟨22, _⟩ => ⟨S1x512x1024, .f32⟩
  | .hbm, ⟨23, _⟩ => ⟨S4x512x1024, .f32⟩
  | .hbm, ⟨24, _⟩ => ⟨S_, .f32⟩
  | .hbm, ⟨25, _⟩ => ⟨S4x512x1024, .f32⟩
  | .hbm, ⟨26, _⟩ => ⟨S4x512x1024, .f32⟩
  | .hbm, ⟨27, _⟩ => ⟨S_, .f32⟩
  | .hbm, ⟨28, _⟩ => ⟨S4x512x1024, .f32⟩
  | .hbm, ⟨29, _⟩ => ⟨S4x512x1024, .f32⟩
  | .hbm, ⟨30, _⟩ => ⟨S4x512x1024, .f32⟩
  | .hbm, ⟨31, _⟩ => ⟨S_, .f32⟩
  | .hbm, ⟨32, _⟩ => ⟨S4x512x1024, .f32⟩
  | .hbm, ⟨33, _⟩ => ⟨S4x512x1024, .f32⟩
  | .hbm, ⟨34, _⟩ => ⟨S4x512x1024, .f32⟩
  | .hbm, ⟨35, _⟩ => ⟨S_, .f32⟩
  | .hbm, ⟨36, _⟩ => ⟨S4x512x1024, .f32⟩
  | .hbm, ⟨37, _⟩ => ⟨S4x512x1024, .f32⟩
  | .hbm, ⟨38, _⟩ => ⟨S4x512x1024, .f32⟩
  | .hbm, ⟨39, _⟩ => ⟨S_, .f32⟩
  | .hbm, ⟨40, _⟩ => ⟨S4x512x1024, .f32⟩
  | .hbm, ⟨41, _⟩ => ⟨S4x512x1024, .f32⟩
  | .hbm, ⟨42, _⟩ => ⟨S_, .f32⟩
  | .hbm, ⟨43, _⟩ => ⟨S4x512x1024, .f32⟩
  | .hbm, ⟨44, _⟩ => ⟨S4x512x1024, .f32⟩
  | .hbm, ⟨45, _⟩ => ⟨S4x512x1024, .f32⟩
  | .hbm, ⟨46, _⟩ => ⟨S_, .f32⟩
  | .hbm, ⟨47, _⟩ => ⟨S4x512x1024, .f32⟩
  | .hbm, ⟨48, _⟩ => ⟨S4x512x1024, .f32⟩
  | .hbm, ⟨49, _⟩ => ⟨S4x512x1024, .f32⟩
  | .hbm, ⟨50, _⟩ => ⟨S_, .f32⟩
  | .hbm, ⟨51, _⟩ => ⟨S4x512x1024, .f32⟩
  | .hbm, ⟨52, _⟩ => ⟨S4x512x1024, .f32⟩
  | .hbm, ⟨53, _⟩ => ⟨S4x512x1024, .f32⟩
  | .hbm, ⟨54, _⟩ => ⟨S_, .f32⟩
  | .hbm, ⟨55, _⟩ => ⟨S4x512x1024, .f32⟩
  | .hbm, ⟨56, _⟩ => ⟨S4x512x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== AdamIn.lean ====
abbrev S4x1024x706 : Shape := ⟨3, ![4, 1024, 706]⟩
abbrev S8x1024x768 : Shape := ⟨3, ![8, 1024, 768]⟩
abbrev S1x128x706 : Shape := ⟨3, ![1, 128, 706]⟩
abbrev S8x128x768 : Shape := ⟨3, ![8, 128, 768]⟩
abbrev S128x706 : Shape := ⟨2, ![128, 706]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x706, .f32⟩
  | .hbm, ⟨1, _⟩ => ⟨S8x1024x768, .bf16⟩
  | .hbm, ⟨2, _⟩ => ⟨S8x1024x768, .bf16⟩
  | .hbm, ⟨3, _⟩ => ⟨S8x1024x768, .bf16⟩
  | .hbm, ⟨4, _⟩ => ⟨S8x1024x768, .bf16⟩
  | .hbm, ⟨5, _⟩ => ⟨S4x1024x706, .f32⟩
  | .hbm, ⟨6, _⟩ => ⟨S4x1024x706, .f32⟩
  | .hbm, ⟨7, _⟩ => ⟨S4x1024x706, .f32⟩
  | .hbm, ⟨8, _⟩ => ⟨S4x1024x706, .f32⟩
  | .hbm, ⟨9, _⟩ => ⟨S4x1024x706, .f32⟩
  | .hbm, ⟨10, _⟩ => ⟨S4x1024x706, .f32⟩
  | .local _ .vmem, ⟨0, _⟩ => ⟨S1x128x706, .f32⟩
  | .local _ .vmem, ⟨1, _⟩ => ⟨S1x128x706, .f32⟩
  | .local _ .vmem, ⟨2, _⟩ => ⟨S8x128x768, .bf16⟩
  | .local _ .vmem, ⟨3, _⟩ => ⟨S8x128x768, .bf16⟩
  | .local _ .vmem, ⟨4, _⟩ => ⟨S8x128x768, .bf16⟩
  | .local _ .vmem, ⟨5, _⟩ => ⟨S8x128x768, .bf16⟩
  | .local _ .vmem, ⟨6, _⟩ => ⟨S8x128x768, .bf16⟩
  | .local _ .vmem, ⟨7, _⟩ => ⟨S8x128x768, .bf16⟩
  | .local _ .vmem, ⟨8, _⟩ => ⟨S8x128x768, .bf16⟩
  | .local _ .vmem, ⟨9, _⟩ => ⟨S8x128x768, .bf16⟩
  | .local _ .vmem, ⟨10, _⟩ => ⟨S1x128x706, .f32⟩
  | .local _ .vmem, ⟨11, _⟩ => ⟨S1x128x706, .f32⟩
  | .local _ .vmem, ⟨12, _⟩ => ⟨S1x128x706, .f32⟩
  | .local _ .vmem, ⟨13, _⟩ => ⟨S1x128x706, .f32⟩
  | .local _ .vmem, ⟨14, _⟩ => ⟨S1x128x706, .f32⟩
  | .local _ .vmem, ⟨15, _⟩ => ⟨S1x128x706, .f32⟩
  | .local _ .vmem, ⟨16, _⟩ => ⟨S1x128x706, .f32⟩
  | .local _ .vmem, ⟨17, _⟩ => ⟨S1x128x706, .f32⟩
  | .local _ .vmem, ⟨18, _⟩ => ⟨S1x128x706, .f32⟩
  | .local _ .vmem, ⟨19, _⟩ => ⟨S1x128x706, .f32⟩
  | .local _ .vmem, ⟨20, _⟩ => ⟨S1x128x706, .f32⟩
  | .local _ .vmem, ⟨21, _⟩ => ⟨S1x128x706, .f32⟩
  | _, _ => ⟨S4x1024x706, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x706 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x706 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x706 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x706 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x706 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x706 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x706 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamInRefIdeal.lean ====
abbrev S4x1024x706 : Shape := ⟨3, ![4, 1024, 706]⟩
abbrev S8x1024x768 : Shape := ⟨3, ![8, 1024, 768]⟩
abbrev S8x1024x706 : Shape := ⟨3, ![8, 1024, 706]⟩
abbrev S_ : Shape := ⟨0, ![]⟩
abbrev S1024x706 : Shape := ⟨2, ![1024, 706]⟩
abbrev S1x1024x706 : Shape := ⟨3, ![1, 1024, 706]⟩

abbrev nBuf : Space → Nat
  | .hbm => 61
  | .vmem => 0
  | .smem => 0
  | _ => 0

abbrev bufTy : (tb : Table) → Fin (tcTables nBuf tb) → BufTy
  | .hbm, ⟨0, _⟩ => ⟨S4x1024x706, .f32⟩
  | .hbm, ⟨1, _⟩ => ⟨S8x1024x768, .bf16⟩
  | .hbm, ⟨2, _⟩ => ⟨S8x1024x768, .bf16⟩
  | .hbm, ⟨3, _⟩ => ⟨S8x1024x768, .bf16⟩
  | .hbm, ⟨4, _⟩ => ⟨S8x1024x768, .bf16⟩
  | .hbm, ⟨5, _⟩ => ⟨S4x1024x706, .f32⟩
  | .hbm, ⟨6, _⟩ => ⟨S4x1024x706, .f32⟩
  | .hbm, ⟨7, _⟩ => ⟨S8x1024x768, .f32⟩
  | .hbm, ⟨8, _⟩ => ⟨S8x1024x706, .f32⟩
  | .hbm, ⟨9, _⟩ => ⟨S_, .f32⟩
  | .hbm, ⟨10, _⟩ => ⟨S1024x706, .f32⟩
  | .hbm, ⟨11, _⟩ => ⟨S8x1024x768, .f32⟩
  | .hbm, ⟨12, _⟩ => ⟨S8x1024x706, .f32⟩
  | .hbm, ⟨13, _⟩ => ⟨S_, .f32⟩
  | .hbm, ⟨14, _⟩ => ⟨S1024x706, .f32⟩
  | .hbm, ⟨15, _⟩ => ⟨S8x1024x768, .f32⟩
  | .hbm, ⟨16, _⟩ => ⟨S8x1024x706, .f32⟩
  | .hbm, ⟨17, _⟩ => ⟨S_, .f32⟩
  | .hbm, ⟨18, _⟩ => ⟨S1024x706, .f32⟩
  | .hbm, ⟨19, _⟩ => ⟨S8x1024x768, .f32⟩
  | .hbm, ⟨20, _⟩ => ⟨S8x1024x706, .f32⟩
  | .hbm, ⟨21, _⟩ => ⟨S_, .f32⟩
  | .hbm, ⟨22, _⟩ => ⟨S1024x706, .f32⟩
  | .hbm, ⟨23, _⟩ => ⟨S1x1024x706, .f32⟩
  | .hbm, ⟨24, _⟩ => ⟨S1x1024x706, .f32⟩
  | .hbm, ⟨25, _⟩ => ⟨S1x1024x706, .f32⟩
  | .hbm, ⟨26, _⟩ => ⟨S1x1024x706, .f32⟩
  | .hbm, ⟨27, _⟩ => ⟨S4x1024x706, .f32⟩
  | .hbm, ⟨28, _⟩ => ⟨S_, .f32⟩
  | .hbm, ⟨29, _⟩ => ⟨S4x1024x706, .f32⟩
  | .hbm, ⟨30, _⟩ => ⟨S4x1024x706, .f32⟩
  | .hbm, ⟨31, _⟩ => ⟨S_, .f32⟩
  | .hbm, ⟨32, _⟩ => ⟨S4x1024x706, .f32⟩
  | .hbm, ⟨33, _⟩ => ⟨S4x1024x706, .f32⟩
  | .hbm, ⟨34, _⟩ => ⟨S4x1024x706, .f32⟩
  | .hbm, ⟨35, _⟩ => ⟨S_, .f32⟩
  | .hbm, ⟨36, _⟩ => ⟨S4x1024x706, .f32⟩
  | .hbm, ⟨37, _⟩ => ⟨S4x1024x706, .f32⟩
  | .hbm, ⟨38, _⟩ => ⟨S4x1024x706, .f32⟩
  | .hbm, ⟨39, _⟩ => ⟨S_, .f32⟩
  | .hbm, ⟨40, _⟩ => ⟨S4x1024x706, .f32⟩
  | .hbm, ⟨41, _⟩ => ⟨S4x1024x706, .f32⟩
  | .hbm, ⟨42, _⟩ => ⟨S4x1024x706, .f32⟩
  | .hbm, ⟨43, _⟩ => ⟨S_, .f32⟩
  | .hbm, ⟨44, _⟩ => ⟨S4x1024x706, .f32⟩
  | .hbm, ⟨45, _⟩ => ⟨S4x1024x706, .f32⟩
  | .hbm, ⟨46, _⟩ => ⟨S_, .f32⟩
  | .hbm, ⟨47, _⟩ => ⟨S4x1024x706, .f32⟩
  | .hbm, ⟨48, _⟩ => ⟨S4x1024x706, .f32⟩
  | .hbm, ⟨49, _⟩ => ⟨S4x1024x706, .f32⟩
  | .hbm, ⟨50, _⟩ => ⟨S_, .f32⟩
  | .hbm, ⟨51, _⟩ => ⟨S4x1024x706, .f32⟩
  | .hbm, ⟨52, _⟩ => ⟨S4x1024x706, .f32⟩
  | .hbm, ⟨53, _⟩ => ⟨S4x1024x706, .f32⟩
  | .hbm, ⟨54, _⟩ => ⟨S_, .f32⟩
  | .hbm, ⟨55, _⟩ => ⟨S4x1024x706, .f32⟩
  | .hbm, ⟨56, _⟩ => ⟨S4x1024x706, .f32⟩
  | .hbm, ⟨57, _⟩ => ⟨S4x1024x706, .f32⟩
  | .hbm, ⟨58, _⟩ => ⟨S_, .f32⟩
  | .hbm, ⟨59, _⟩ => ⟨S4x1024x706, .f32⟩
  | .hbm, ⟨60, _⟩ => ⟨S4x1024x706, .f32⟩
  | _, _ => ⟨S4x1024x706, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== AdamSc.lean ====
abbrev S12x128 : Shape := ⟨2, ![12, 128]⟩
abbrev S8x12x128 : Shape := ⟨3, ![8, 12, 128]⟩
abbrev S1x12x128 : Shape := ⟨3, ![1, 12, 128]⟩

abbrev nBuf : Space → Nat
  | .hbm => 8
  | .vmem => 8
  | .smem => 0
  | _ => 0

abbrev bufTy : (tb : Table) → Fin (tcTables nBuf tb) → BufTy
  | .hbm, ⟨0, _⟩ => ⟨S12x128, .f32⟩
  | .hbm, ⟨1, _⟩ => ⟨S8x12x128, .f32⟩
  | .hbm, ⟨2, _⟩ => ⟨S12x128, .f32⟩
  | .hbm, ⟨3, _⟩ => ⟨S12x128, .f32⟩
  | .hbm, ⟨4, _⟩ => ⟨S12x128, .f32⟩
  | .hbm, ⟨5, _⟩ => ⟨S12x128, .f32⟩
  | .hbm, ⟨6, _⟩ => ⟨S12x128, .f32⟩
  | .hbm, ⟨7, _⟩ => ⟨S12x128, .f32⟩
  | .local _ .vmem, ⟨0, _⟩ => ⟨S12x128, .f32⟩
  | .local _ .vmem, ⟨1, _⟩ => ⟨S8x12x128, .f32⟩
  | .local _ .vmem, ⟨2, _⟩ => ⟨S12x128, .f32⟩
  | .local _ .vmem, ⟨3, _⟩ => ⟨S12x128, .f32⟩
  | .local _ .vmem, ⟨4, _⟩ => ⟨S12x128, .f32⟩
  | .local _ .vmem, ⟨5, _⟩ => ⟨S12x128, .f32⟩
  | .local _ .vmem, ⟨6, _⟩ => ⟨S12x128, .f32⟩
  | .local _ .vmem, ⟨7, _⟩ => ⟨S12x128, .f32⟩
  | _, _ => ⟨S12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S12x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamScRefIdeal.lean ====
abbrev S12x128 : Shape := ⟨2, ![12, 128]⟩
abbrev S8x12x128 : Shape := ⟨3, ![8, 12, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S12x128, .f32⟩
  | .hbm, ⟨1, _⟩ => ⟨S8x12x128, .f32⟩
  | .hbm, ⟨2, _⟩ => ⟨S12x128, .f32⟩
  | .hbm, ⟨3, _⟩ => ⟨S12x128, .f32⟩
  | .hbm, ⟨4, _⟩ => ⟨S_, .f32⟩
  | .hbm, ⟨5, _⟩ => ⟨S12x128, .f32⟩
  | .hbm, ⟨6, _⟩ => ⟨S_, .f32⟩
  | .hbm, ⟨7, _⟩ => ⟨S12x128, .f32⟩
  | .hbm, ⟨8, _⟩ => ⟨S12x128, .f32⟩
  | .hbm, ⟨9, _⟩ => ⟨S_, .f32⟩
  | .hbm, ⟨10, _⟩ => ⟨S12x128, .f32⟩
  | .hbm, ⟨11, _⟩ => ⟨S12x128, .f32⟩
  | .hbm, ⟨12, _⟩ => ⟨S12x128, .f32⟩
  | .hbm, ⟨13, _⟩ => ⟨S_, .f32⟩
  | .hbm, ⟨14, _⟩ => ⟨S12x128, .f32⟩
  | .hbm, ⟨15, _⟩ => ⟨S12x128, .f32⟩
  | .hbm, ⟨16, _⟩ => ⟨S12x128, .f32⟩
  | .hbm, ⟨17, _⟩ => ⟨S_, .f32⟩
  | .hbm, ⟨18, _⟩ => ⟨S12x128, .f32⟩
  | .hbm, ⟨19, _⟩ => ⟨S12x128, .f32⟩
  | .hbm, ⟨20, _⟩ => ⟨S12x128, .f32⟩
  | .hbm, ⟨21, _⟩ => ⟨S_, .f32⟩
  | .hbm, ⟨22, _⟩ => ⟨S12x128, .f32⟩
  | .hbm, ⟨23, _⟩ => ⟨S12x128, .f32⟩
  | .hbm, ⟨24, _⟩ => ⟨S_, .f32⟩
  | .hbm, ⟨25, _⟩ => ⟨S12x128, .f32⟩
  | .hbm, ⟨26, _⟩ => ⟨S12x128, .f32⟩
  | .hbm, ⟨27, _⟩ => ⟨S12x128, .f32⟩
  | .hbm, ⟨28, _⟩ => ⟨S_, .f32⟩
  | .hbm, ⟨29, _⟩ => ⟨S12x128, .f32⟩
  | .hbm, ⟨30, _⟩ => ⟨S12x128, .f32⟩
  | .hbm, ⟨31, _⟩ => ⟨S12x128, .f32⟩
  | .hbm, ⟨32, _⟩ => ⟨S_, .f32⟩
  | .hbm, ⟨33, _⟩ => ⟨S12x128, .f32⟩
  | .hbm, ⟨34, _⟩ => ⟨S12x128, .f32⟩
  | .hbm, ⟨35, _⟩ => ⟨S12x128, .f32⟩
  | .hbm, ⟨36, _⟩ => ⟨S_, .f32⟩
  | .hbm, ⟨37, _⟩ => ⟨S12x128, .f32⟩
  | .hbm, ⟨38, _⟩ => ⟨S12x128, .f32⟩
  | _, _ => ⟨S12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamCw.lean ====
abbrev S16x192 : Shape := ⟨2, ![16, 192]⟩
abbrev S8x16x192 : Shape := ⟨3, ![8, 16, 192]⟩
abbrev S1x16x192 : Shape := ⟨3, ![1, 16, 192]⟩

abbrev nBuf : Space → Nat
  | .hbm => 8
  | .vmem => 8
  | .smem => 0
  | _ => 0

abbrev bufTy : (tb : Table) → Fin (tcTables nBuf tb) → BufTy
  | .hbm, ⟨0, _⟩ => ⟨S16x192, .f32⟩
  | .hbm, ⟨1, _⟩ => ⟨S8x16x192, .f32⟩
  | .hbm, ⟨2, _⟩ => ⟨S16x192, .f32⟩
  | .hbm, ⟨3, _⟩ => ⟨S16x192, .f32⟩
  | .hbm, ⟨4, _⟩ => ⟨S16x192, .f32⟩
  | .hbm, ⟨5, _⟩ => ⟨S16x192, .f32⟩
  | .hbm, ⟨6, _⟩ => ⟨S16x192, .f32⟩
  | .hbm, ⟨7, _⟩ => ⟨S16x192, .f32⟩
  | .local _ .vmem, ⟨0, _⟩ => ⟨S16x192, .f32⟩
  | .local _ .vmem, ⟨1, _⟩ => ⟨S8x16x192, .f32⟩
  | .local _ .vmem, ⟨2, _⟩ => ⟨S16x192, .f32⟩
  | .local _ .vmem, ⟨3, _⟩ => ⟨S16x192, .f32⟩
  | .local _ .vmem, ⟨4, _⟩ => ⟨S16x192, .f32⟩
  | .local _ .vmem, ⟨5, _⟩ => ⟨S16x192, .f32⟩
  | .local _ .vmem, ⟨6, _⟩ => ⟨S16x192, .f32⟩
  | .local _ .vmem, ⟨7, _⟩ => ⟨S16x192, .f32⟩
  | _, _ => ⟨S16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x16x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamCwRefIdeal.lean ====
abbrev S16x192 : Shape := ⟨2, ![16, 192]⟩
abbrev S8x16x192 : Shape := ⟨3, ![8, 16, 192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16x192, .f32⟩
  | .hbm, ⟨1, _⟩ => ⟨S8x16x192, .f32⟩
  | .hbm, ⟨2, _⟩ => ⟨S16x192, .f32⟩
  | .hbm, ⟨3, _⟩ => ⟨S16x192, .f32⟩
  | .hbm, ⟨4, _⟩ => ⟨S_, .f32⟩
  | .hbm, ⟨5, _⟩ => ⟨S16x192, .f32⟩
  | .hbm, ⟨6, _⟩ => ⟨S_, .f32⟩
  | .hbm, ⟨7, _⟩ => ⟨S16x192, .f32⟩
  | .hbm, ⟨8, _⟩ => ⟨S16x192, .f32⟩
  | .hbm, ⟨9, _⟩ => ⟨S_, .f32⟩
  | .hbm, ⟨10, _⟩ => ⟨S16x192, .f32⟩
  | .hbm, ⟨11, _⟩ => ⟨S16x192, .f32⟩
  | .hbm, ⟨12, _⟩ => ⟨S16x192, .f32⟩
  | .hbm, ⟨13, _⟩ => ⟨S_, .f32⟩
  | .hbm, ⟨14, _⟩ => ⟨S16x192, .f32⟩
  | .hbm, ⟨15, _⟩ => ⟨S16x192, .f32⟩
  | .hbm, ⟨16, _⟩ => ⟨S16x192, .f32⟩
  | .hbm, ⟨17, _⟩ => ⟨S_, .f32⟩
  | .hbm, ⟨18, _⟩ => ⟨S16x192, .f32⟩
  | .hbm, ⟨19, _⟩ => ⟨S16x192, .f32⟩
  | .hbm, ⟨20, _⟩ => ⟨S16x192, .f32⟩
  | .hbm, ⟨21, _⟩ => ⟨S_, .f32⟩
  | .hbm, ⟨22, _⟩ => ⟨S16x192, .f32⟩
  | .hbm, ⟨23, _⟩ => ⟨S16x192, .f32⟩
  | .hbm, ⟨24, _⟩ => ⟨S_, .f32⟩
  | .hbm, ⟨25, _⟩ => ⟨S16x192, .f32⟩
  | .hbm, ⟨26, _⟩ => ⟨S16x192, .f32⟩
  | .hbm, ⟨27, _⟩ => ⟨S16x192, .f32⟩
  | .hbm, ⟨28, _⟩ => ⟨S_, .f32⟩
  | .hbm, ⟨29, _⟩ => ⟨S16x192, .f32⟩
  | .hbm, ⟨30, _⟩ => ⟨S16x192, .f32⟩
  | .hbm, ⟨31, _⟩ => ⟨S16x192, .f32⟩
  | .hbm, ⟨32, _⟩ => ⟨S_, .f32⟩
  | .hbm, ⟨33, _⟩ => ⟨S16x192, .f32⟩
  | .hbm, ⟨34, _⟩ => ⟨S16x192, .f32⟩
  | .hbm, ⟨35, _⟩ => ⟨S16x192, .f32⟩
  | .hbm, ⟨36, _⟩ => ⟨S_, .f32⟩
  | .hbm, ⟨37, _⟩ => ⟨S16x192, .f32⟩
  | .hbm, ⟨38, _⟩ => ⟨S16x192, .f32⟩
  | _, _ => ⟨S16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S154x128 : Shape := ⟨2, ![154, 128]⟩
abbrev S8x154x128 : Shape := ⟨3, ![8, 154, 128]⟩
abbrev S1x154x128 : Shape := ⟨3, ![1, 154, 128]⟩

abbrev nBuf : Space → Nat
  | .hbm => 8
  | .vmem => 8
  | .smem => 0
  | _ => 0

abbrev bufTy : (tb : Table) → Fin (tcTables nBuf tb) → BufTy
  | .hbm, ⟨0, _⟩ => ⟨S154x128, .f32⟩
  | .hbm, ⟨1, _⟩ => ⟨S8x154x128, .f32⟩
  | .hbm, ⟨2, _⟩ => ⟨S154x128, .f32⟩
  | .hbm, ⟨3, _⟩ => ⟨S154x128, .f32⟩
  | .hbm, ⟨4, _⟩ => ⟨S154x128, .f32⟩
  | .hbm, ⟨5, _⟩ => ⟨S154x128, .f32⟩
  | .hbm, ⟨6, _⟩ => ⟨S154x128, .f32⟩
  | .hbm, ⟨7, _⟩ => ⟨S154x128, .f32⟩
  | .local _ .vmem, ⟨0, _⟩ => ⟨S154x128, .f32⟩
  | .local _ .vmem, ⟨1, _⟩ => ⟨S8x154x128, .f32⟩
  | .local _ .vmem, ⟨2, _⟩ => ⟨S154x128, .f32⟩
  | .local _ .vmem, ⟨3, _⟩ => ⟨S154x128, .f32⟩
  | .local _ .vmem, ⟨4, _⟩ => ⟨S154x128, .f32⟩
  | .local _ .vmem, ⟨5, _⟩ => ⟨S154x128, .f32⟩
  | .local _ .vmem, ⟨6, _⟩ => ⟨S154x128, .f32⟩
  | .local _ .vmem, ⟨7, _⟩ => ⟨S154x128, .f32⟩
  | _, _ => ⟨S154x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S154x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x154x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S154x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S154x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S154x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S154x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S154x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S154x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S154x128 : Shape := ⟨2, ![154, 128]⟩
abbrev S8x154x128 : Shape := ⟨3, ![8, 154, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S154x128, .f32⟩
  | .hbm, ⟨1, _⟩ => ⟨S8x154x128, .f32⟩
  | .hbm, ⟨2, _⟩ => ⟨S154x128, .f32⟩
  | .hbm, ⟨3, _⟩ => ⟨S154x128, .f32⟩
  | .hbm, ⟨4, _⟩ => ⟨S_, .f32⟩
  | .hbm, ⟨5, _⟩ => ⟨S154x128, .f32⟩
  | .hbm, ⟨6, _⟩ => ⟨S_, .f32⟩
  | .hbm, ⟨7, _⟩ => ⟨S154x128, .f32⟩
  | .hbm, ⟨8, _⟩ => ⟨S154x128, .f32⟩
  | .hbm, ⟨9, _⟩ => ⟨S_, .f32⟩
  | .hbm, ⟨10, _⟩ => ⟨S154x128, .f32⟩
  | .hbm, ⟨11, _⟩ => ⟨S154x128, .f32⟩
  | .hbm, ⟨12, _⟩ => ⟨S154x128, .f32⟩
  | .hbm, ⟨13, _⟩ => ⟨S_, .f32⟩
  | .hbm, ⟨14, _⟩ => ⟨S154x128, .f32⟩
  | .hbm, ⟨15, _⟩ => ⟨S154x128, .f32⟩
  | .hbm, ⟨16, _⟩ => ⟨S154x128, .f32⟩
  | .hbm, ⟨17, _⟩ => ⟨S_, .f32⟩
  | .hbm, ⟨18, _⟩ => ⟨S154x128, .f32⟩
  | .hbm, ⟨19, _⟩ => ⟨S154x128, .f32⟩
  | .hbm, ⟨20, _⟩ => ⟨S154x128, .f32⟩
  | .hbm, ⟨21, _⟩ => ⟨S_, .f32⟩
  | .hbm, ⟨22, _⟩ => ⟨S154x128, .f32⟩
  | .hbm, ⟨23, _⟩ => ⟨S154x128, .f32⟩
  | .hbm, ⟨24, _⟩ => ⟨S_, .f32⟩
  | .hbm, ⟨25, _⟩ => ⟨S154x128, .f32⟩
  | .hbm, ⟨26, _⟩ => ⟨S154x128, .f32⟩
  | .hbm, ⟨27, _⟩ => ⟨S154x128, .f32⟩
  | .hbm, ⟨28, _⟩ => ⟨S_, .f32⟩
  | .hbm, ⟨29, _⟩ => ⟨S154x128, .f32⟩
  | .hbm, ⟨30, _⟩ => ⟨S154x128, .f32⟩
  | .hbm, ⟨31, _⟩ => ⟨S154x128, .f32⟩
  | .hbm, ⟨32, _⟩ => ⟨S_, .f32⟩
  | .hbm, ⟨33, _⟩ => ⟨S154x128, .f32⟩
  | .hbm, ⟨34, _⟩ => ⟨S154x128, .f32⟩
  | .hbm, ⟨35, _⟩ => ⟨S154x128, .f32⟩
  | .hbm, ⟨36, _⟩ => ⟨S_, .f32⟩
  | .hbm, ⟨37, _⟩ => ⟨S154x128, .f32⟩
  | .hbm, ⟨38, _⟩ => ⟨S154x128, .f32⟩
  | _, _ => ⟨S154x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== MixBwd.lean ====
abbrev S8192x5760 : Shape := ⟨2, ![8192, 5760]⟩
abbrev S8192x2048 : Shape := ⟨2, ![8192, 2048]⟩
abbrev S128x128x1024 : Shape := ⟨3, ![128, 128, 1024]⟩
abbrev S8192x3584 : Shape := ⟨2, ![8192, 3584]⟩
abbrev S8x1024 : Shape := ⟨2, ![8, 1024]⟩
abbrev S8x512 : Shape := ⟨2, ![8, 512]⟩
abbrev S4x1x1024 : Shape := ⟨3, ![4, 1, 1024]⟩
abbrev S4x1x512 : Shape := ⟨3, ![4, 1, 512]⟩
abbrev S4x1x128 : Shape := ⟨3, ![4, 1, 128]⟩
abbrev S128x1024 : Shape := ⟨2, ![128, 1024]⟩
abbrev S1024x128 : Shape := ⟨2, ![1024, 128]⟩
abbrev S8x128 : Shape := ⟨2, ![8, 128]⟩
abbrev S256x1024 : Shape := ⟨2, ![256, 1024]⟩
abbrev S256x512 : Shape := ⟨2, ![256, 512]⟩
abbrev S256x128 : Shape := ⟨2, ![256, 128]⟩
abbrev S256x2048 : Shape := ⟨2, ![256, 2048]⟩
abbrev S4x128x1024 : Shape := ⟨3, ![4, 128, 1024]⟩
abbrev S256x3584 : Shape := ⟨2, ![256, 3584]⟩
abbrev S1x1x1024 : Shape := ⟨3, ![1, 1, 1024]⟩
abbrev S1x1x512 : Shape := ⟨3, ![1, 1, 512]⟩
abbrev S1x1x128 : Shape := ⟨3, ![1, 1, 128]⟩
abbrev S256x5760 : Shape := ⟨2, ![256, 5760]⟩
abbrev S256x256 : Shape := ⟨2, ![256, 256]⟩
abbrev S768x256 : Shape := ⟨2, ![768, 256]⟩
abbrev S512x256 : Shape := ⟨2, ![512, 256]⟩
abbrev S512x1024 : Shape := ⟨2, ![512, 1024]⟩
abbrev S248x1024 : Shape := ⟨2, ![248, 1024]⟩
abbrev S1x1024 : Shape := ⟨2, ![1, 1024]⟩
abbrev S1024 : Shape := ⟨1, ![1024]⟩
abbrev S1x128 : Shape := ⟨2, ![1, 128]⟩
abbrev S64x1024 : Shape := ⟨2, ![64, 1024]⟩
abbrev S64x512 : Shape := ⟨2, ![64, 512]⟩
abbrev S64x128 : Shape := ⟨2, ![64, 128]⟩
abbrev S256 : Shape := ⟨1, ![256]⟩
abbrev S256x1 : Shape := ⟨2, ![256, 1]⟩
abbrev S1x512 : Shape := ⟨2, ![1, 512]⟩
abbrev S512 : Shape := ⟨1, ![512]⟩
abbrev S1x128x512 : Shape := ⟨3, ![1, 128, 512]⟩
abbrev S128x512 : Shape := ⟨2, ![128, 512]⟩
abbrev S64x64 : Shape := ⟨2, ![64, 64]⟩
abbrev S128x128 : Shape := ⟨2, ![128, 128]⟩
abbrev S128 : Shape := ⟨1, ![128]⟩
abbrev S768x1024 : Shape := ⟨2, ![768, 1024]⟩
abbrev S768x512 : Shape := ⟨2, ![768, 512]⟩
abbrev S248x512 : Shape := ⟨2, ![248, 512]⟩
abbrev S8x1 : Shape := ⟨2, ![8, 1]⟩

abbrev nBuf : Space → Nat
  | .hbm => 21
  | .vmem => 53
  | .smem => 0
  | _ => 0

abbrev bufTy : (tb : Table) → Fin (tcTables nBuf tb) → BufTy
  | .hbm, ⟨0, _⟩ => ⟨S8192x5760, .bf16⟩
  | .hbm, ⟨1, _⟩ => ⟨S8192x2048, .bf16⟩
  | .hbm, ⟨2, _⟩ => ⟨S128x128x1024, .bf16⟩
  | .hbm, ⟨3, _⟩ => ⟨S8192x3584, .bf16⟩
  | .hbm, ⟨4, _⟩ => ⟨S8x1024, .f32⟩
  | .hbm, ⟨5, _⟩ => ⟨S8x1024, .f32⟩
  | .hbm, ⟨6, _⟩ => ⟨S8x512, .f32⟩
  | .hbm, ⟨7, _⟩ => ⟨S4x1x1024, .f32⟩
  | .hbm, ⟨8, _⟩ => ⟨S4x1x512, .f32⟩
  | .hbm, ⟨9, _⟩ => ⟨S4x1x128, .f32⟩
  | .hbm, ⟨10, _⟩ => ⟨S4x1x128, .f32⟩
  | .hbm, ⟨11, _⟩ => ⟨S4x1x1024, .f32⟩
  | .hbm, ⟨12, _⟩ => ⟨S4x1x1024, .f32⟩
  | .hbm, ⟨13, _⟩ => ⟨S128x1024, .bf16⟩
  | .hbm, ⟨14, _⟩ => ⟨S1024x128, .bf16⟩
  | .hbm, ⟨15, _⟩ => ⟨S8192x5760, .bf16⟩
  | .hbm, ⟨16, _⟩ => ⟨S8x1024, .f32⟩
  | .hbm, ⟨17, _⟩ => ⟨S8x1024, .f32⟩
  | .hbm, ⟨18, _⟩ => ⟨S8x512, .f32⟩
  | .hbm, ⟨19, _⟩ => ⟨S8x1024, .f32⟩
  | .hbm, ⟨20, _⟩ => ⟨S8x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x512, .bf16⟩
  | .local _ .vmem, ⟨11, _⟩ => ⟨S256x512, .bf16⟩
  | .local _ .vmem, ⟨12, _⟩ => ⟨S256x128, .bf16⟩
  | .local _ .vmem, ⟨13, _⟩ => ⟨S256x128, .bf16⟩
  | .local _ .vmem, ⟨14, _⟩ => ⟨S256x2048, .bf16⟩
  | .local _ .vmem, ⟨15, _⟩ => ⟨S256x2048, .bf16⟩
  | .local _ .vmem, ⟨16, _⟩ => ⟨S4x128x1024, .bf16⟩
  | .local _ .vmem, ⟨17, _⟩ => ⟨S4x128x1024, .bf16⟩
  | .local _ .vmem, ⟨18, _⟩ => ⟨S256x3584, .bf16⟩
  | .local _ .vmem, ⟨19, _⟩ => ⟨S256x3584, .bf16⟩
  | .local _ .vmem, ⟨20, _⟩ => ⟨S8x1024, .f32⟩
  | .local _ .vmem, ⟨21, _⟩ => ⟨S8x1024, .f32⟩
  | .local _ .vmem, ⟨22, _⟩ => ⟨S8x512, .f32⟩
  | .local _ .vmem, ⟨23, _⟩ => ⟨S1x1x1024, .f32⟩
  | .local _ .vmem, ⟨24, _⟩ => ⟨S1x1x512, .f32⟩
  | .local _ .vmem, ⟨25, _⟩ => ⟨S1x1x128, .f32⟩
  | .local _ .vmem, ⟨26, _⟩ => ⟨S1x1x128, .f32⟩
  | .local _ .vmem, ⟨27, _⟩ => ⟨S1x1x1024, .f32⟩
  | .local _ .vmem, ⟨28, _⟩ => ⟨S1x1x1024, .f32⟩
  | .local _ .vmem, ⟨29, _⟩ => ⟨S128x1024, .bf16⟩
  | .local _ .vmem, ⟨30, _⟩ => ⟨S1024x128, .bf16⟩
  | .local _ .vmem, ⟨31, _⟩ => ⟨S256x5760, .bf16⟩
  | .local _ .vmem, ⟨32, _⟩ => ⟨S256x5760, .bf16⟩
  | .local _ .vmem, ⟨33, _⟩ => ⟨S8x1024, .f32⟩
  | .local _ .vmem, ⟨34, _⟩ => ⟨S8x1024, .f32⟩
  | .local _ .vmem, ⟨35, _⟩ => ⟨S8x512, .f32⟩
  | .local _ .vmem, ⟨36, _⟩ => ⟨S8x1024, .f32⟩
  | .local _ .vmem, ⟨37, _⟩ => ⟨S8x128, .f32⟩
  | .local _ .vmem, ⟨38, _⟩ => ⟨S128x1024, .f32⟩
  | .local _ .vmem, ⟨39, _⟩ => ⟨S256x1024, .f32⟩
  | .local _ .vmem, ⟨40, _⟩ => ⟨S256x512, .f32⟩
  | .local _ .vmem, ⟨41, _⟩ => ⟨S256x1024, .f32⟩
  | .local _ .vmem, ⟨42, _⟩ => ⟨S256x1024, .f32⟩
  | .local _ .vmem, ⟨43, _⟩ => ⟨S256x1024, .f32⟩
  | .local _ .vmem, ⟨44, _⟩ => ⟨S256x1024, .f32⟩
  | .local _ .vmem, ⟨45, _⟩ => ⟨S256x512, .f32⟩
  | .local _ .vmem, ⟨46, _⟩ => ⟨S256x1024, .f32⟩
  | .local _ .vmem, ⟨47, _⟩ => ⟨S256x1024, .f32⟩
  | .local _ .vmem, ⟨48, _⟩ => ⟨S8x1024, .f32⟩
  | .local _ .vmem, ⟨49, _⟩ => ⟨S8x1024, .f32⟩
  | .local _ .vmem, ⟨50, _⟩ => ⟨S8x512, .f32⟩
  | .local _ .vmem, ⟨51, _⟩ => ⟨S256x1024, .f32⟩
  | .local _ .vmem, ⟨52, _⟩ => ⟨S256x512, .f32⟩
  | _, _ => ⟨S8192x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg23_0 : Ref sig .tc := ⟨.vmem, 34, rfl⟩
abbrev cc0_stg24_0 : Ref sig .tc := ⟨.vmem, 35, rfl⟩
abbrev cc0_stg25_0 : Ref sig .tc := ⟨.vmem, 36, rfl⟩
abbrev cc0_stg26_0 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch4 : Ref sig .tc := ⟨.vmem, 42, rfl⟩
abbrev cc0_scratch5 : Ref sig .tc := ⟨.vmem, 43, rfl⟩
abbrev cc0_scratch6 : Ref sig .tc := ⟨.vmem, 44, rfl⟩
abbrev cc0_scratch7 : Ref sig .tc := ⟨.vmem, 45, rfl⟩
abbrev cc0_scratch8 : Ref sig .tc := ⟨.vmem, 46, rfl⟩
abbrev cc0_scratch9 : Ref sig .tc := ⟨.vmem, 47, rfl⟩
abbrev cc0_scratch10 : Ref sig .tc := ⟨.vmem, 48, rfl⟩
abbrev cc0_scratch11 : Ref sig .tc := ⟨.vmem, 49, rfl⟩
abbrev cc0_scratch12 : Ref sig .tc := ⟨.vmem, 50, rfl⟩
abbrev cc0_scratch13 : Ref sig .tc := ⟨.vmem, 51, rfl⟩
abbrev cc0_scratch14 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem21_1 : DmaSem sig := 32
abbrev cc0_sem22_0 : DmaSem sig := 33
abbrev cc0_sem23_0 : DmaSem sig := 34
abbrev cc0_sem24_0 : DmaSem sig := 35
abbrev cc0_sem25_0 : DmaSem sig := 36
abbrev cc0_sem26_0 : DmaSem sig := 37

abbrev nD : Nat := 1
abbrev τ : Topo := Topo.v7x

variable {F : FTy → Type} [FloatOps F]

abbrev grid0 : Pipeline.Grid := ⟨1, ![32], ![false]⟩

def k0_mult1 : BitVec 32 :=
  let c3_i32_158 : BitVec 32 := 3#32
  let c0_i32_157 : BitVec 32 := 0#32
  let v378 : BitVec 32 := Scalar.subi c3_i32_158 c0_i32_157
  let c64_i32 : BitVec 32 := 64#32
  let v379 : BitVec 32 := Scalar.muli v378 c64_i32
  v379
def k0_off1 (c0_i32_157 : BitVec 32) : Fin 2 → Nat :=
  let c3_i32_158 : BitVec 32 := 3#32
  let v378 : BitVec 32 := Scalar.subi c3_i32_158 c0_i32_157
  let c64_i32 : BitVec 32 := 64#32
  let v379 : BitVec 32 := Scalar.muli v378 c64_i32
  let v380 : BitVec 32 := v379
  let v381 : Index := Scalar.indexCast v380
  let c0_159 : Index := 0#32
  ![v381.toNat, 0]
def k0_off2 (c0_i32_157 : BitVec 32) : Fin 2 → Nat :=
  let c3_i32_158 : BitVec 32 := 3#32
  let v378 : BitVec 32 := Scalar.subi c3_i32_158 c0_i32_157
  let c64_i32 : BitVec 32 := 64#32
  let v379 : BitVec 32 := Scalar.muli v378 c64_i32
  let v380 : BitVec 32 := v379
  let v404 : Index := Scalar.indexCast v380
  let c0_165 : Index := 0#32
  ![v404.toNat, 0]
def k0_off3 (c0_i32_157 : BitVec 32) : Fin 3 → Nat :=
  let c3_i32_158 : BitVec 32 := 3#32
  let v378 : BitVec 32 := Scalar.subi c3_i32_158 c0_i32_157
  let v412 : Index := Scalar.indexCast v378
  let c0_167 : Index := 0#32
  let c0_168 : Index := 0#32
  ![v412.toNat, 0, 0]
def k0_off4 (c0_i32_157 : BitVec 32) : Fin 2 → Nat :=
  let c3_i32_158 : BitVec 32 := 3#32
  let v378 : BitVec 32 := Scalar.subi c3_i32_158 c0_i32_157
  let c64_i32 : BitVec 32 := 64#32
  let v379 : BitVec 32 := Scalar.muli v378 c64_i32
  let v380 : BitVec 32 := v379
  let v558 : Index := Scalar.indexCast v380
  let c0_211 : Index := 0#32
  ![v558.toNat, 0]
def k0_mult2 : BitVec 32 :=
  let c3_i32_158 : BitVec 32 := 3#32
  let c0_i32_157 : BitVec 32 := 0#32
  let v378 : BitVec 32 := Scalar.subi c3_i32_158 c0_i32_157
  let c64_i32 : BitVec 32 := 64#32
  let v379 : BitVec 32 := Scalar.muli v378 c64_i32
  let v380 : BitVec 32 := v379
  let c64_i32_212 : BitVec 32 := 64#32
  let v562 : BitVec 32 := Scalar.addi v380 c64_i32_212
  let c8_i32_213 : BitVec 32 := 8#32
  let v563 : BitVec 32 := Scalar.subi v562 c8_i32_213
  v563
def k0_off5 (c0_i32_157 : BitVec 32) : Fin 2 → Nat :=
  let c3_i32_158 : BitVec 32 := 3#32
  let v378 : BitVec 32 := Scalar.subi c3_i32_158 c0_i32_157
  let c64_i32 : BitVec 32 := 64#32
  let v379 : BitVec 32 := Scalar.muli v378 c64_i32
  let v380 : BitVec 32 := v379
  let c64_i32_212 : BitVec 32 := 64#32
  let v562 : BitVec 32 := Scalar.addi v380 c64_i32_212
  let c8_i32_213 : BitVec 32 := 8#32
  let v563 : BitVec 32 := Scalar.subi v562 c8_i32_213
  let v564 : BitVec 32 := v563
  let v565 : Index := Scalar.indexCast v564
  let c0_214 : Index := 0#32
  ![v565.toNat, 0]
def k0_off6 (c0_i32_157 : BitVec 32) : Fin 2 → Nat :=
  let c3_i32_158 : BitVec 32 := 3#32
  let v378 : BitVec 32 := Scalar.subi c3_i32_158 c0_i32_157
  let c64_i32 : BitVec 32 := 64#32
  let v379 : BitVec 32 := Scalar.muli v378 c64_i32
  let v380 : BitVec 32 := v379
  let v595 : Index := Scalar.indexCast v380
  let c0_223 : Index := 0#32
  ![v595.toNat, 0]
def k0_off7 (c0_i32_157 : BitVec 32) : Fin 2 → Nat :=
  let c3_i32_158 : BitVec 32 := 3#32
  let v378 : BitVec 32 := Scalar.subi c3_i32_158 c0_i32_157
  let c64_i32 : BitVec 32 := 64#32
  let v379 : BitVec 32 := Scalar.muli v378 c64_i32
  let v380 : BitVec 32 := v379
  let v599 : Index := Scalar.indexCast v380
  let c256 : Index := 256#32
  ![v599.toNat, 256]
def k0_off8 (c0_i32_157 : BitVec 32) : Fin 3 → Nat :=
  let c3_i32_158 : BitVec 32 := 3#32
  let v378 : BitVec 32 := Scalar.subi c3_i32_158 c0_i32_157
  let v607 : Index := Scalar.indexCast v378
  let c0_224 : Index := 0#32
  let c512_225 : Index := 512#32
  ![v607.toNat, 0, 512]
def k0_off9 (c0_i32_157 : BitVec 32) : Fin 2 → Nat :=
  let c3_i32_158 : BitVec 32 := 3#32
  let v378 : BitVec 32 := Scalar.subi c3_i32_158 c0_i32_157
  let c64_i32 : BitVec 32 := 64#32
  let v379 : BitVec 32 := Scalar.muli v378 c64_i32
  let v380 : BitVec 32 := v379
  let v753 : Index := Scalar.indexCast v380
  let c512_268 : Index := 512#32
  ![v753.toNat, 512]
def k0_mult3 : BitVec 32 :=
  let c3_i32_158 : BitVec 32 := 3#32
  let c0_i32_157 : BitVec 32 := 0#32
  let v378 : BitVec 32 := Scalar.subi c3_i32_158 c0_i32_157
  let c64_i32 : BitVec 32 := 64#32
  let v379 : BitVec 32 := Scalar.muli v378 c64_i32
  let v380 : BitVec 32 := v379
  let c64_i32_269 : BitVec 32 := 64#32
  let v757 : BitVec 32 := Scalar.addi v380 c64_i32_269
  let c8_i32_270 : BitVec 32 := 8#32
  let v758 : BitVec 32 := Scalar.subi v757 c8_i32_270
  v758
def k0_off10 (c0_i32_157 : BitVec 32) : Fin 2 → Nat :=
  let c3_i32_158 : BitVec 32 := 3#32
  let v378 : BitVec 32 := Scalar.subi c3_i32_158 c0_i32_157
  let c64_i32 : BitVec 32 := 64#32
  let v379 : BitVec 32 := Scalar.muli v378 c64_i32
  let v380 : BitVec 32 := v379
  let c64_i32_269 : BitVec 32 := 64#32
  let v757 : BitVec 32 := Scalar.addi v380 c64_i32_269
  let c8_i32_270 : BitVec 32 := 8#32
  let v758 : BitVec 32 := Scalar.subi v757 c8_i32_270
  let v759 : BitVec 32 := v758
  let v760 : Index := Scalar.indexCast v759
  let c512_271 : Index := 512#32
  ![v760.toNat, 512]
def k0_off11 (c0_i32_157 : BitVec 32) : Fin 2 → Nat :=
  let c3_i32_158 : BitVec 32 := 3#32
  let v378 : BitVec 32 := Scalar.subi c3_i32_158 c0_i32_157
  let c64_i32 : BitVec 32 := 64#32
  let v379 : BitVec 32 := Scalar.muli v378 c64_i32
  let v380 : BitVec 32 := v379
  let v790 : Index := Scalar.indexCast v380
  let c128 : Index := 128#32
  ![v790.toNat, 128]
def k0_off12 (c0_i32_157 : BitVec 32) : Fin 2 → Nat :=
  let c3_i32_158 : BitVec 32 := 3#32
  let v378 : BitVec 32 := Scalar.subi c3_i32_158 c0_i32_157
  let c64_i32 : BitVec 32 := 64#32
  let v379 : BitVec 32 := Scalar.muli v378 c64_i32
  let v380 : BitVec 32 := v379
  let v794 : Index := Scalar.indexCast v380
  let c384 : Index := 384#32
  ![v794.toNat, 384]
def k0_mult4 : BitVec 32 :=
  let c3_i32_281 : BitVec 32 := 3#32
  let c1_i32_280 : BitVec 32 := 1#32
  let v798 : BitVec 32 := Scalar.subi c3_i32_281 c1_i32_280
  let c64_i32_282 : BitVec 32 := 64#32
  let v799 : BitVec 32 := Scalar.muli v798 c64_i32_282
  v799
def k0_mult5 : BitVec 32 :=
  let c3_i32_281 : BitVec 32 := 3#32
  let c1_i32_280 : BitVec 32 := 1#32
  let v798 : BitVec 32 := Scalar.subi c3_i32_281 c1_i32_280
  let c64_i32_282 : BitVec 32 := 64#32
  let v799 : BitVec 32 := Scalar.muli v798 c64_i32_282
  let v800 : BitVec 32 := v799
  let c64_i32_336 : BitVec 32 := 64#32
  let v982 : BitVec 32 := Scalar.addi v800 c64_i32_336
  let c8_i32_337 : BitVec 32 := 8#32
  let v983 : BitVec 32 := Scalar.subi v982 c8_i32_337
  v983
def k0_mult6 : BitVec 32 :=
  let c3_i32_281 : BitVec 32 := 3#32
  let c1_i32_280 : BitVec 32 := 1#32
  let v798 : BitVec 32 := Scalar.subi c3_i32_281 c1_i32_280
  let c64_i32_282 : BitVec 32 := 64#32
  let v799 : BitVec 32 := Scalar.muli v798 c64_i32_282
  let v800 : BitVec 32 := v799
  let c64_i32_394 : BitVec 32 := 64#32
  let v1177 : BitVec 32 := Scalar.addi v800 c64_i32_394
  let c8_i32_395 : BitVec 32 := 8#32
  let v1178 : BitVec 32 := Scalar.subi v1177 c8_i32_395
  v1178
def k0_mult7 : BitVec 32 :=
  let c3_i32_408 : BitVec 32 := 3#32
  let c2_i32_407 : BitVec 32 := 2#32
  let v1218 : BitVec 32 := Scalar.subi c3_i32_408 c2_i32_407
  let c64_i32_409 : BitVec 32 := 64#32
  let v1219 : BitVec 32 := Scalar.muli v1218 c64_i32_409
  v1219
def k0_mult8 : BitVec 32 :=
  let c3_i32_408 : BitVec 32 := 3#32
  let c2_i32_407 : BitVec 32 := 2#32
  let v1218 : BitVec 32 := Scalar.subi c3_i32_408 c2_i32_407
  let c64_i32_409 : BitVec 32 := 64#32
  let v1219 : BitVec 32 := Scalar.muli v1218 c64_i32_409
  let v1220 : BitVec 32 := v1219
  let c64_i32_463 : BitVec 32 := 64#32
  let v1402 : BitVec 32 := Scalar.addi v1220 c64_i32_463
  let c8_i32_464 : BitVec 32 := 8#32
  let v1403 : BitVec 32 := Scalar.subi v1402 c8_i32_464
  v1403
def k0_mult9 : BitVec 32 :=
  let c3_i32_408 : BitVec 32 := 3#32
  let c2_i32_407 : BitVec 32 := 2#32
  let v1218 : BitVec 32 := Scalar.subi c3_i32_408 c2_i32_407
  let c64_i32_409 : BitVec 32 := 64#32
  let v1219 : BitVec 32 := Scalar.muli v1218 c64_i32_409
  let v1220 : BitVec 32 := v1219
  let c64_i32_521 : BitVec 32 := 64#32
  let v1597 : BitVec 32 := Scalar.addi v1220 c64_i32_521
  let c8_i32_522 : BitVec 32 := 8#32
  let v1598 : BitVec 32 := Scalar.subi v1597 c8_i32_522
  v1598
def k0_mult10 : BitVec 32 :=
  let c3_i32_535 : BitVec 32 := 3#32
  let c3_i32_534 : BitVec 32 := 3#32
  let v1638 : BitVec 32 := Scalar.subi c3_i32_535 c3_i32_534
  let c64_i32_536 : BitVec 32 := 64#32
  let v1639 : BitVec 32 := Scalar.muli v1638 c64_i32_536
  v1639
def k0_mult11 : BitVec 32 :=
  let c3_i32_535 : BitVec 32 := 3#32
  let c3_i32_534 : BitVec 32 := 3#32
  let v1638 : BitVec 32 := Scalar.subi c3_i32_535 c3_i32_534
  let c64_i32_536 : BitVec 32 := 64#32
  let v1639 : BitVec 32 := Scalar.muli v1638 c64_i32_536
  let v1640 : BitVec 32 := v1639
  let c64_i32_590 : BitVec 32 := 64#32
  let v1822 : BitVec 32 := Scalar.addi v1640 c64_i32_590
  let c8_i32_591 : BitVec 32 := 8#32
  let v1823 : BitVec 32 := Scalar.subi v1822 c8_i32_591
  v1823
def k0_mult12 : BitVec 32 :=
  let c3_i32_535 : BitVec 32 := 3#32
  let c3_i32_534 : BitVec 32 := 3#32
  let v1638 : BitVec 32 := Scalar.subi c3_i32_535 c3_i32_534
  let c64_i32_536 : BitVec 32 := 64#32
  let v1639 : BitVec 32 := Scalar.muli v1638 c64_i32_536
  let v1640 : BitVec 32 := v1639
  let c64_i32_648 : BitVec 32 := 64#32
  let v2017 : BitVec 32 := Scalar.addi v1640 c64_i32_648
  let c8_i32_649 : BitVec 32 := 8#32
  let v2018 : BitVec 32 := Scalar.subi v2017 c8_i32_649
  v2018
def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c10_i32 : BitVec 32 := 10#32
  let c0_i32 : BitVec 32 := 0#32
  ![v0.toNat, c10_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c44_i32 : BitVec 32 := 44#32
  let c0_i32 : BitVec 32 := 0#32
  ![v0.toNat, c44_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_18 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3584 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x5760 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S8x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S8x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S8x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== MixFwd.lean ====
abbrev S8192x5760 : Shape := ⟨2, ![8192, 5760]⟩
abbrev S8x1024 : Shape := ⟨2, ![8, 1024]⟩
abbrev S8x512 : Shape := ⟨2, ![8, 512]⟩
abbrev S4x1x1024 : Shape := ⟨3, ![4, 1, 1024]⟩
abbrev S4x1x512 : Shape := ⟨3, ![4, 1, 512]⟩
abbrev S4x1x128 : Shape := ⟨3, ![4, 1, 128]⟩
abbrev S128x1024 : Shape := ⟨2, ![128, 1024]⟩
abbrev S8192x2048 : Shape := ⟨2, ![8192, 2048]⟩
abbrev S128x128x1024 : Shape := ⟨3, ![128, 128, 1024]⟩
abbrev S8192x3584 : Shape := ⟨2, ![8192, 3584]⟩
abbrev S256x1024 : Shape := ⟨2, ![256, 1024]⟩
abbrev S256x512 : Shape := ⟨2, ![256, 512]⟩
abbrev S256x128 : Shape := ⟨2, ![256, 128]⟩
abbrev S1x1x1024 : Shape := ⟨3, ![1, 1, 1024]⟩
abbrev S1x1x512 : Shape := ⟨3, ![1, 1, 512]⟩
abbrev S1x1x128 : Shape := ⟨3, ![1, 1, 128]⟩
abbrev S256x2048 : Shape := ⟨2, ![256, 2048]⟩
abbrev S4x128x1024 : Shape := ⟨3, ![4, 128, 1024]⟩
abbrev S256x3584 : Shape := ⟨2, ![256, 3584]⟩
abbrev S256x256 : Shape := ⟨2, ![256, 256]⟩
abbrev S768x256 : Shape := ⟨2, ![768, 256]⟩
abbrev S512x256 : Shape := ⟨2, ![512, 256]⟩
abbrev S512x1024 : Shape := ⟨2, ![512, 1024]⟩
abbrev S248x1024 : Shape := ⟨2, ![248, 1024]⟩
abbrev S1x1024 : Shape := ⟨2, ![1, 1024]⟩
abbrev S768x1024 : Shape := ⟨2, ![768, 1024]⟩
abbrev S768x512 : Shape := ⟨2, ![768, 512]⟩
abbrev S248x512 : Shape := ⟨2, ![248, 512]⟩
abbrev S1x512 : Shape := ⟨2, ![1, 512]⟩
abbrev S1x128 : Shape := ⟨2, ![1, 128]⟩
abbrev S64x1024 : Shape := ⟨2, ![64, 1024]⟩
abbrev S64x512 : Shape := ⟨2, ![64, 512]⟩
abbrev S1024 : Shape := ⟨1, ![1024]⟩
abbrev S64x128 : Shape := ⟨2, ![64, 128]⟩
abbrev S64x64 : Shape := ⟨2, ![64, 64]⟩
abbrev S128x512 : Shape := ⟨2, ![128, 512]⟩
abbrev S1x128x512 : Shape := ⟨3, ![1, 128, 512]⟩
abbrev S128x128 : Shape := ⟨2, ![128, 128]⟩
abbrev S64 : Shape := ⟨1, ![64]⟩
abbrev S64x1 : Shape := ⟨2, ![64, 1]⟩

abbrev nBuf : Space → Nat
  | .hbm => 14
  | .vmem => 44
  | .smem => 0
  | _ => 0

abbrev bufTy : (tb : Table) → Fin (tcTables nBuf tb) → BufTy
  | .hbm, ⟨0, _⟩ => ⟨S8192x5760, .bf16⟩
  | .hbm, ⟨1, _⟩ => ⟨S8x1024, .f32⟩
  | .hbm, ⟨2, _⟩ => ⟨S8x1024, .f32⟩
  | .hbm, ⟨3, _⟩ => ⟨S8x512, .f32⟩
  | .hbm, ⟨4, _⟩ => ⟨S4x1x1024, .f32⟩
  | .hbm, ⟨5, _⟩ => ⟨S4x1x512, .f32⟩
  | .hbm, ⟨6, _⟩ => ⟨S4x1x128, .f32⟩
  | .hbm, ⟨7, _⟩ => ⟨S4x1x128, .f32⟩
  | .hbm, ⟨8, _⟩ => ⟨S4x1x1024, .f32⟩
  | .hbm, ⟨9, _⟩ => ⟨S4x1x1024, .f32⟩
  | .hbm, ⟨10, _⟩ => ⟨S128x1024, .bf16⟩
  | .hbm, ⟨11, _⟩ => ⟨S8192x2048, .bf16⟩
  | .hbm, ⟨12, _⟩ => ⟨S128x128x1024, .bf16⟩
  | .hbm, ⟨13, _⟩ => ⟨S8192x3584, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x512, .bf16⟩
  | .local _ .vmem, ⟨11, _⟩ => ⟨S256x512, .bf16⟩
  | .local _ .vmem, ⟨12, _⟩ => ⟨S256x128, .bf16⟩
  | .local _ .vmem, ⟨13, _⟩ => ⟨S256x128, .bf16⟩
  | .local _ .vmem, ⟨14, _⟩ => ⟨S8x1024, .bf16⟩
  | .local _ .vmem, ⟨15, _⟩ => ⟨S8x1024, .bf16⟩
  | .local _ .vmem, ⟨16, _⟩ => ⟨S8x1024, .bf16⟩
  | .local _ .vmem, ⟨17, _⟩ => ⟨S8x1024, .bf16⟩
  | .local _ .vmem, ⟨18, _⟩ => ⟨S8x1024, .bf16⟩
  | .local _ .vmem, ⟨19, _⟩ => ⟨S8x1024, .bf16⟩
  | .local _ .vmem, ⟨20, _⟩ => ⟨S8x512, .bf16⟩
  | .local _ .vmem, ⟨21, _⟩ => ⟨S8x512, .bf16⟩
  | .local _ .vmem, ⟨22, _⟩ => ⟨S8x1024, .f32⟩
  | .local _ .vmem, ⟨23, _⟩ => ⟨S8x1024, .f32⟩
  | .local _ .vmem, ⟨24, _⟩ => ⟨S8x512, .f32⟩
  | .local _ .vmem, ⟨25, _⟩ => ⟨S1x1x1024, .f32⟩
  | .local _ .vmem, ⟨26, _⟩ => ⟨S1x1x512, .f32⟩
  | .local _ .vmem, ⟨27, _⟩ => ⟨S1x1x128, .f32⟩
  | .local _ .vmem, ⟨28, _⟩ => ⟨S1x1x128, .f32⟩
  | .local _ .vmem, ⟨29, _⟩ => ⟨S1x1x1024, .f32⟩
  | .local _ .vmem, ⟨30, _⟩ => ⟨S1x1x1024, .f32⟩
  | .local _ .vmem, ⟨31, _⟩ => ⟨S128x1024, .bf16⟩
  | .local _ .vmem, ⟨32, _⟩ => ⟨S256x2048, .bf16⟩
  | .local _ .vmem, ⟨33, _⟩ => ⟨S256x2048, .bf16⟩
  | .local _ .vmem, ⟨34, _⟩ => ⟨S4x128x1024, .bf16⟩
  | .local _ .vmem, ⟨35, _⟩ => ⟨S4x128x1024, .bf16⟩
  | .local _ .vmem, ⟨36, _⟩ => ⟨S256x3584, .bf16⟩
  | .local _ .vmem, ⟨37, _⟩ => ⟨S256x3584, .bf16⟩
  | .local _ .vmem, ⟨38, _⟩ => ⟨S128x1024, .f32⟩
  | .local _ .vmem, ⟨39, _⟩ => ⟨S256x1024, .f32⟩
  | .local _ .vmem, ⟨40, _⟩ => ⟨S256x512, .f32⟩
  | .local _ .vmem, ⟨41, _⟩ => ⟨S256x1024, .f32⟩
  | .local _ .vmem, ⟨42, _⟩ => ⟨S256x1024, .f32⟩
  | .local _ .vmem, ⟨43, _⟩ => ⟨S256x1024, .f32⟩
  | _, _ => ⟨S8192x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch4 : Ref sig .tc := ⟨.vmem, 42, rfl⟩
abbrev cc0_scratch5 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37

abbrev nD : Nat := 1
abbrev τ : Topo := Topo.v7x

variable {F : FTy → Type} [FloatOps F]

abbrev grid0 : Pipeline.Grid := ⟨1, ![32], ![false]⟩

def k0_mult1 : BitVec 32 :=
  let c0_i32_127 : BitVec 32 := 0#32
  let c64_i32 : BitVec 32 := 64#32
  let v314 : BitVec 32 := Scalar.muli c0_i32_127 c64_i32
  v314
def k0_off1 (c0_i32_127 : BitVec 32) : Fin 2 → Nat :=
  let c64_i32 : BitVec 32 := 64#32
  let v314 : BitVec 32 := Scalar.muli c0_i32_127 c64_i32
  let v315 : BitVec 32 := v314
  let v316 : Index := Scalar.indexCast v315
  let c0_128 : Index := 0#32
  ![v316.toNat, 0]
def k0_off2 (c0_i32_127 : BitVec 32) : Fin 2 → Nat :=
  let c64_i32 : BitVec 32 := 64#32
  let v314 : BitVec 32 := Scalar.muli c0_i32_127 c64_i32
  let v315 : BitVec 32 := v314
  let v339 : Index := Scalar.indexCast v315
  let c0_134 : Index := 0#32
  ![v339.toNat, 0]
def k0_off3 (c0_i32_127 : BitVec 32) : Fin 2 → Nat :=
  let c64_i32 : BitVec 32 := 64#32
  let v314 : BitVec 32 := Scalar.muli c0_i32_127 c64_i32
  let v315 : BitVec 32 := v314
  let v376 : Index := Scalar.indexCast v315
  let c0_146 : Index := 0#32
  ![v376.toNat, 0]
def k0_off4 (c0_i32_127 : BitVec 32) : Fin 2 → Nat :=
  let c64_i32 : BitVec 32 := 64#32
  let v314 : BitVec 32 := Scalar.muli c0_i32_127 c64_i32
  let v315 : BitVec 32 := v314
  let v394 : Index := Scalar.indexCast v315
  let c128 : Index := 128#32
  ![v394.toNat, 128]
def k0_off5 (c0_i32_127 : BitVec 32) : Fin 2 → Nat :=
  let c64_i32 : BitVec 32 := 64#32
  let v314 : BitVec 32 := Scalar.muli c0_i32_127 c64_i32
  let v315 : BitVec 32 := v314
  let v412 : Index := Scalar.indexCast v315
  let c256 : Index := 256#32
  ![v412.toNat, 256]
def k0_off6 (c0_i32_127 : BitVec 32) : Fin 2 → Nat :=
  let c64_i32 : BitVec 32 := 64#32
  let v314 : BitVec 32 := Scalar.muli c0_i32_127 c64_i32
  let v315 : BitVec 32 := v314
  let v430 : Index := Scalar.indexCast v315
  let c384 : Index := 384#32
  ![v430.toNat, 384]
def k0_off7 (c0_i32_127 : BitVec 32) : Fin 2 → Nat :=
  let c64_i32 : BitVec 32 := 64#32
  let v314 : BitVec 32 := Scalar.muli c0_i32_127 c64_i32
  let v315 : BitVec 32 := v314
  let v479 : Index := Scalar.indexCast v315
  let c512_172 : Index := 512#32
  ![v479.toNat, 512]
def k0_off8 (c0_i32_127 : BitVec 32) : Fin 2 → Nat :=
  let c64_i32 : BitVec 32 := 64#32
  let v314 : BitVec 32 := Scalar.muli c0_i32_127 c64_i32
  let v315 : BitVec 32 := v314
  let v497 : Index := Scalar.indexCast v315
  let c640 : Index := 640#32
  ![v497.toNat, 640]
def k0_off9 (c0_i32_127 : BitVec 32) : Fin 2 → Nat :=
  let c64_i32 : BitVec 32 := 64#32
  let v314 : BitVec 32 := Scalar.muli c0_i32_127 c64_i32
  let v315 : BitVec 32 := v314
  let v515 : Index := Scalar.indexCast v315
  let c768 : Index := 768#32
  ![v515.toNat, 768]
def k0_off10 (c0_i32_127 : BitVec 32) : Fin 2 → Nat :=
  let c64_i32 : BitVec 32 := 64#32
  let v314 : BitVec 32 := Scalar.muli c0_i32_127 c64_i32
  let v315 : BitVec 32 := v314
  let v533 : Index := Scalar.indexCast v315
  let c896 : Index := 896#32
  ![v533.toNat, 896]
def k0_mult2 : BitVec 32 :=
  let c1_i32_188 : BitVec 32 := 1#32
  let c64_i32_189 : BitVec 32 := 64#32
  let v547 : BitVec 32 := Scalar.muli c1_i32_188 c64_i32_189
  v547
def k0_mult3 : BitVec 32 :=
  let c2_i32_257 : BitVec 32 := 2#32
  let c64_i32_258 : BitVec 32 := 64#32
  let v780 : BitVec 32 := Scalar.muli c2_i32_257 c64_i32_258
  v780
def k0_mult4 : BitVec 32 :=
  let c3_i32_326 : BitVec 32 := 3#32
  let c64_i32_327 : BitVec 32 := 64#32
  let v1013 : BitVec 32 := Scalar.muli c3_i32_326 c64_i32_327
  v1013
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_8 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_10 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_18 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_19 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S4x128x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x3584 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Proof.Block.lean ====
/-
  Lemmas that the products share: a load through a unit-stride rectangle at an index, and a window's block at an index, as the
  array's element whose coordinates are named by naturals.
-/
module

public import Idealize.ShloMosaic.Lib.Pipeline.Value
public import Idealize.ShloMosaic.Lib.Pointwise
public import Idealize.ShloMosaic.Lib.Quiescent
public import Idealize.ShloMosaic.Lib.ValueIdx

@[expose] public section

noncomputable section

namespace Cert.Block

open Idealize.ShloMosaic Idealize.SL.Sem

/-- A unit-stride rectangle's index `y` sits in the array at the offset plus `y`. -/
theorem emb_val {s : Shape} (off size : Fin s.rank → Nat) (inb : ∀ a, off a + size a ≤ s.size a)
    (y : (Rect.unit off size inb).shape.Idx) (a : Fin s.rank) :
    ((Rect.unit off size inb).emb y a : Nat) = off a + (y a : Nat) := by
  rw [Rect.emb_apply]; show off a + 1 * (y a : Nat) = _; omega

/-- A load through a rectangle, at an index. -/
theorem ld_apply {s : Shape} {Val : EltTy → Type} {e : EltTy} (X : s.Idx → Val e) (r : Rect s) (y : r.shape.Idx) :
    View.ld X r y = X (r.emb y) := rfl

/-- A function of a two-axis index is determined by the coordinates. -/
theorem congr2 {α : Type} {a b : Nat} (X : (⟨2, ![a, b]⟩ : Shape).Idx → α) {i j : (⟨2, ![a, b]⟩ : Shape).Idx}
    (h0 : (i 0 : Nat) = (j 0 : Nat)) (h1 : (i 1 : Nat) = (j 1 : Nat)) : X i = X j :=
  congrArg X (funext fun d => match d with | ⟨0, _⟩ => Fin.ext h0 | ⟨1, _⟩ => Fin.ext h1)

/-- The function of naturals that a function on the first `n` of them extends to, zero beyond. -/
def ext {n : Nat} (g : Fin n → EReal) (k : Nat) : EReal := if h : k < n then g ⟨k, h⟩ else 0

/-- The sum of the first `N` terms. -/
def part {n : Nat} (g : Fin n → EReal) (N : Nat) : EReal := ∑ k ∈ Finset.range N, ext g k

theorem ext_eq {n : Nat} (g : Fin n → EReal) (k : Nat) (h : k < n) : ext g k = g ⟨k, h⟩ := dif_pos h

/-- The first block of `b` terms. -/
theorem part_first {n : Nat} (g : Fin n → EReal) (b : Nat) : part g b = ∑ k : Fin b, ext g k := by
  unfold part; exact Finset.sum_range _

/-- One more block of `b` terms. -/
theorem part_add {n : Nat} (g : Fin n → EReal) (N b : Nat) : part g (N + b) = part g N + ∑ k : Fin b, ext g (N + k) := by
  unfold part; rw [Finset.sum_range_add, Finset.sum_range (fun x => ext g (N + x))]

/-- All the terms. -/
theorem part_all {n : Nat} (g : Fin n → EReal) (N : Nat) (h : N = n) : part g N = ∑ k : Fin n, g k := by
  rw [h, part_first]; exact Finset.sum_congr rfl fun k _ => ext_eq g k k.isLt

/-- An accumulator that a point divisible by `nt` sets to its block of `b` terms, and that every other point adds its block to,
    holds the terms so far. -/
theorem part_of_steps {N n : Nat} (nt b q : Nat) (hnt : 0 < nt) (S : (t : Nat) → t < N → EReal) (g : Fin n → EReal)
    (hA : ∀ t h, t % nt = 0 → t / nt = q → S t h = ∑ k : Fin b, ext g (t % nt * b + k))
    (hB : ∀ t h, ¬t % nt = 0 → t / nt = q → S t h = S (t - 1) (by omega) + ∑ k : Fin b, ext g (t % nt * b + k)) :
    ∀ t h, t / nt = q → S t h = part g (t % nt * b + b) := by
  intro t
  induction t with
  | zero =>
    intro h hq
    rw [hA 0 h (Nat.zero_mod _) hq, part_add, Nat.zero_mod, Nat.zero_mul]
    unfold part; rw [Finset.range_zero, Finset.sum_empty, zero_add]
  | succ t ih =>
    intro h hq
    by_cases h0 : (t + 1) % nt = 0
    · rw [hA _ h h0 hq, part_add, h0, Nat.zero_mul]
      unfold part; rw [Finset.range_zero, Finset.sum_empty, zero_add]
    · have hd := Nat.div_add_mod (t + 1) nt
      have hl := Nat.mod_lt (t + 1) hnt
      have e : t = nt * q + ((t + 1) % nt - 1) := by rw [hq] at hd; omega
      have hdiv : t / nt = q := by
        rw [e, Nat.mul_add_div hnt, Nat.div_eq_of_lt (by omega), Nat.add_zero]
      have hmod : (t + 1) % nt = t % nt + 1 := by
        have := Nat.div_add_mod t nt
        rw [hdiv] at this; omega
      rw [hB _ h h0 hq, part_add]
      congr 1
      rw [hmod, Nat.add_mul, Nat.one_mul]
      exact ih _ hdiv

end Cert.Block

end
-- ==== Proof.Du.lean ====
/-
  The value of the gradient of the squared activation: what the kernel's run leaves in its result is, at every index, the
  product of a row of the incoming gradient with a row of the weight, times twice the positive part of the saved activation.
-/
module

public import proofs.«01_k».proof.Proof.Block
public import proofs.«01_k».proof.Proof.Gen.DuIdeal.Value
public import proofs.«01_k».proof.Proof.Gen.DuRefIdeal.Run
public import proofs.«01_k».proof.Proof.Gen.DuRefIdeal.Read

@[expose] public section

noncomputable section

open Idealize.ShloMosaic Idealize.ShloMosaic.TcCoe Idealize.SL.Sem
open Idealize.ShloMosaic.Pipeline (Dat)

namespace Cert.DuVal

open Cert.DuIdeal Cert.DuIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The result, as a function of the gradient `dy`, the weight `w` and the saved activation `u` over `n` rows. -/
def du {n : Nat} (dy : (⟨2, ![n, 1024]⟩ : Shape).Idx → EReal) (w : (⟨2, ![4096, 1024]⟩ : Shape).Idx → EReal)
    (u : (⟨2, ![n, 4096]⟩ : Shape).Idx → EReal) (y : (⟨2, ![n, 4096]⟩ : Shape).Idx) : EReal :=
  (∑ k : Fin 1024, dy (ix2 (y 0) k) * w (ix2 (y 1) k)) * (Ideal.ofBits .f32 0x40000000#32 * max (u y) 0)

/-- One chunk of the body, at an index. -/
theorem pay_apply (v : Vec Ideal S512x1024 .bf16) (w : Vec Ideal S1024x1024 .bf16) (u : Vec Ideal S512x1024 .bf16) (x : S512x1024.Idx) :
    k0_pay3 (F := Ideal) v w u x
      = (∑ k : Fin 1024, v (ix2 (x 0) k) * w (ix2 (x 1) k)) * (Ideal.ofBits .f32 0x40000000#32 * max (u x) 0) := by
  unfold k0_pay3
  simp only [pointwise, zero_add]

/-- A chunk of the body at column offset `o` is the block of `du` there. -/
theorem piece (x0 : Vec Ideal S512x1024 .bf16) (x1 : Vec Ideal S4096x1024 .bf16) (x2 : Vec Ideal S512x4096 .bf16) (o : Nat)
    (h1 : ∀ a, (![o, 0] : Fin 2 → Nat) a + S1024x1024.size a ≤ S4096x1024.size a)
    (h2 : ∀ a, (![0, o] : Fin 2 → Nat) a + S512x1024.size a ≤ S512x4096.size a) (x : S512x1024.Idx) :
    k0_pay3 (F := Ideal) (View.ld x0 r0_0) (View.ld x1 (Rect.unit (s := S4096x1024) ![o, 0] S1024x1024.size h1))
        (View.ld x2 (Rect.unit (s := S512x4096) ![0, o] S512x1024.size h2)) x
      = du x0 x1 x2 ((Rect.unit (s := S512x4096) ![0, o] S512x1024.size h2).emb x) := by
  rw [View.ld_unit_zero hz, pay_apply]
  unfold du
  have e0 : ((Rect.unit (s := S512x4096) ![0, o] S512x1024.size h2).emb x 0 : Nat) = x 0 :=
    (Block.emb_val (s := S512x4096) ![0, o] S512x1024.size h2 x 0).trans (Nat.zero_add _)
  have e1 : ((Rect.unit (s := S512x4096) ![0, o] S512x1024.size h2).emb x 1 : Nat) = o + x 1 := Block.emb_val (s := S512x4096) ![0, o] S512x1024.size h2 x 1
  congr 1
  refine Finset.sum_congr rfl fun k _ => ?_
  congr 1
  · exact Block.congr2 x0 e0.symm rfl
  · exact Block.congr2 x1 ((Block.emb_val (s := S4096x1024) ![o, 0] S1024x1024.size h1 (ix2 (x 1) k) 0).trans e1.symm)
      ((Block.emb_val (s := S4096x1024) ![o, 0] S1024x1024.size h1 (ix2 (x 1) k) 1).trans (Nat.zero_add _))

/-- What the body leaves in the result's staging buffer is `du` of the blocks. -/
theorem out_eq (x0 : Vec Ideal S512x1024 .bf16) (x1 : Vec Ideal S4096x1024 .bf16) (x2 : Vec Ideal S512x4096 .bf16) :
    out0_3 (F := Ideal) x0 x1 x2 = du x0 x1 x2 := by
  funext y
  unfold out0_3
  refine View.canon_apply_of_pieces (Val := Elt Ideal) (e := .bf16) (du x0 x1 x2) _ ?_ y (cover0_3 _ _ _ _ y)
  intro p hp
  simp only [List.mem_cons, List.not_mem_nil, or_false] at hp
  rcases hp with rfl | rfl | rfl | rfl
  · exact piece x0 x1 x2 3072 _ _
  · exact piece x0 x1 x2 2048 _ _
  · exact piece x0 x1 x2 1024 _ _
  · exact piece x0 x1 x2 0 _ _

/-- The result array the run is shown to leave. -/
abbrev result (c : Dev nD) : Buf (Elt Ideal) ((c : Thread nD τ).loc main_v0) :=
  du (m ((c : Thread nD τ).loc main_arg0)) (m ((c : Thread nD τ).loc main_arg1)) (m ((c : Thread nD τ).loc main_arg2))

/-- The block indices of the windows at each grid point. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- What point `t` writes back is block `t` of the result. -/
theorem flushed_eq (c : Dev nD) (t : Fin cfg0.N) :
    (dats m 0 c).flushed 3 t = ((cfg0.win 3).blk t).view.read (Elt Ideal) (result m c) := by
  obtain ⟨⟨a0, a1⟩, ⟨b0, b1⟩, ⟨c0, c1⟩, d0, d1⟩ := idx t
  rw [Cert.DuIdeal.Value.flushed3, out_eq]
  funext y
  have f0 : (((cfg0.win 3).blk t).view.emb y 0 : Nat) = t.val * 512 + (y 0 : Nat) := by
    rw [← d0]; exact Pipeline.Window.rect_emb_val win0_3 t y 0
  have f1 : (((cfg0.win 3).blk t).view.emb y 1 : Nat) = (y 1 : Nat) :=
    Pipeline.Window.rect_emb_val_of_index_zero win0_3 t 1 d1 y
  show du (iblk m c 0 t) (iblk m c 1 t) (iblk m c 2 t) y = result m c (((cfg0.win 3).blk t).view.emb y)
  unfold result du
  congr 1
  · refine Finset.sum_congr rfl fun k _ => ?_
    congr 1
    · refine Block.congr2 (m ((c : Thread nD τ).loc main_arg0)) ?_ ?_
      · exact ((Pipeline.Window.rect_emb_val win0_0 t (ix2 (y 0) k) 0).trans (by rw [a0]; rfl)).trans f0.symm
      · exact Pipeline.Window.rect_emb_val_of_index_zero win0_0 t 1 a1 (ix2 (y 0) k)
    · refine Block.congr2 (m ((c : Thread nD τ).loc main_arg1)) ?_ ?_
      · exact (Pipeline.Window.rect_emb_val_of_index_zero win0_1 t 0 b0 (ix2 (y 1) k)).trans f1.symm
      · exact Pipeline.Window.rect_emb_val_of_index_zero win0_1 t 1 b1 (ix2 (y 1) k)

/-- The blocks tile the result. -/
theorem cover (i : S8192x4096.Idx) : ∃ t : Fin cfg0.N, (cfg0.win 3).flush t = true ∧ i ∈ ((cfg0.win 3).blk t).view.set := by
  have h0 : (i 0 : Nat) < 8192 := (i 0).isLt
  have h1 : (i 1 : Nat) < 4096 := (i 1).isLt
  have hN : cfg0.N = 16 := N_0
  obtain ⟨t, ht⟩ : ∃ t : Fin cfg0.N, t.val = (i 0 : Nat) / 512 := ⟨⟨(i 0 : Nat) / 512, by omega⟩, rfl⟩
  obtain ⟨-, -, -, d0, d1⟩ := idx t
  refine ⟨t, flush0_3 t, ?_⟩
  show i ∈ ((View.whole main_v0).slice (win0_3.rect t)).set
  rw [View.set_slice_whole, Rect.mem_set_unit]
  intro a
  match a with
  | ⟨0, _⟩ =>
    show win0_3.index t (0 : Fin 2) * 512 ≤ (i 0 : Nat) ∧ (i 0 : Nat) < win0_3.index t (0 : Fin 2) * 512 + 512
    rw [d0]; omega
  | ⟨1, _⟩ =>
    show win0_3.index t (1 : Fin 2) * 4096 ≤ (i 1 : Nat) ∧ (i 1 : Nat) < win0_3.index t (1 : Fin 2) * 4096 + 4096
    rw [d1]; omega

/-- The run, with the result named. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans
    ((dats m 0 c).arrAt_eq_of_cover 3 (result m c) (fun t _ => flushed_eq m c t) cover), (h c).2⟩) (Cert.DuIdeal.Value.run_blocks m ρ)

end Cert.DuVal

namespace Cert.DuVal

open Cert.DuRefIdeal Cert.DuRefIdeal.Gen Cert.DuRefIdeal.Read

/-- The reference's result is the same function of the arguments. -/
theorem ref_eq (x0 : (⟨S8192x1024, .bf16⟩ : BufTy).Contents (Elt Ideal)) (x1 : (⟨S4096x1024, .bf16⟩ : BufTy).Contents (Elt Ideal))
    (x2 : (⟨S8192x4096, .bf16⟩ : BufTy).Contents (Elt Ideal)) : val_main_v15 (F := Ideal) x0 x1 x2 = du x0 x1 x2 := by
  funext i
  simp only [val_main_v15, val_main_v14, val_main_v13, val_main_v12, val_main_v11, val_main_v10, val_main_v8, val_main_v7, val_main_v6,
    val_main_v3, val_main_v2, val_main_v1, val_main_v0, val_main_call0_v0, val_main_call0_cst, val_main_cst, val_main_cst_1,
    val_main_cst_2, pointwise, zero_add]
  unfold du
  split
  · rfl
  · next h => rw [max_eq_right (not_lt.mp h), mul_zero, mul_zero]

/-- The reference's run, with the result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = du (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v15_eq _ _ _).trans (ref_eq _ _ _)), (h c).2⟩)
    (Cert.DuRefIdeal.Value.run (F := Ideal) m ρ)

end Cert.DuVal

end
-- ==== Proof.DwDown.lean ====
/-
  The value of the gradient of the second feed-forward weight: what the kernel's run leaves in its result is, at every index,
  the product of a column of the squared positive parts of the saved activation with a column of the incoming gradient,
  summed over all the rows; the kernel sums them in four blocks of rows.
-/
module

public import proofs.«01_k».proof.Proof.Block
public import proofs.«01_k».proof.Proof.Gen.DwDownIdeal.Value
public import proofs.«01_k».proof.Proof.Gen.DwDownRefIdeal.Run
public import proofs.«01_k».proof.Proof.Gen.DwDownRefIdeal.Read
public import Idealize.ShloMosaic.Lib.Tactic

@[expose] public section

noncomputable section

open Idealize.ShloMosaic Idealize.ShloMosaic.TcCoe Idealize.SL.Sem
open Idealize.ShloMosaic.Pipeline (Dat)

namespace Cert.DwDownVal

open Cert.DwDownIdeal Cert.DwDownIdeal.Gen

variable (m : (ℓ : Loc nD τ sig) → Buf (Elt Ideal) ℓ) (ρ : Dev nD → PrngReg)

theorem hz : (![0, 0] : Fin 2 → Nat) = fun _ => 0 := funext fun a => by fin_cases a <;> rfl

/-- One term of the result at `(p, q)`: what row `k` adds. -/
def term (a : (⟨2, ![8192, 4096]⟩ : Shape).Idx → EReal) (b : (⟨2, ![8192, 1024]⟩ : Shape).Idx → EReal)
    (p : Fin 4096) (q : Fin 1024) (k : Fin 8192) : EReal :=
  max (a (ix2 k p)) 0 * max (a (ix2 k p)) 0 * b (ix2 k q)

/-- The result, as a function of the saved activation `a` and the gradient `b`. -/
def dw (a : (⟨2, ![8192, 4096]⟩ : Shape).Idx → EReal) (b : (⟨2, ![8192, 1024]⟩ : Shape).Idx → EReal)
    (y : (⟨2, ![4096, 1024]⟩ : Shape).Idx) : EReal :=
  ∑ k : Fin 8192, term a b (y 0) (y 1) k

/-- The product of one block of rows, at an index. -/
theorem pay_apply (v w : Vec Ideal S2048x1024 .bf16) (x : S1024x1024.Idx) :
    k0_pay1 (F := Ideal) v w x = ∑ k : Fin 2048, max (v (ix2 k (x 0))) 0 * max (v (ix2 k (x 0))) 0 * w (ix2 k (x 1)) := by
  unfold k0_pay1
  simp only [pointwise, zero_add]

/-- What is stored at the end, at an index. -/
theorem pay4_apply (s : Vec Ideal S1024x1024 .f32) (x : S1024x1024.Idx) : k0_pay4 (F := Ideal) s x = s x := by
  unfold k0_pay4
  simp only [pointwise]

/-- The first block's point leaves the block's product in the accumulator. -/
theorem acc_A (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1024 .bf16) (h4 : a4.IsWhole)
    (a5 : Memref sig .tc .vmem S1024x1024 .f32) (h5 : a5.IsWhole) (hc0 : cond0_0 i) (hc1 : ¬cond0_1 i) (hc2 : ¬cond0_2 i)
    (x0 x1 : Vec Ideal S2048x1024 .bf16) :
    sout0_A_0 (F := Ideal) c i a2 h2 a3 h3 a4 h4 a5 h5 hc0 hc1 hc2 x0 x1 = k0_pay1 (F := Ideal) x0 x1 := by
  unfold sout0_A_0
  rw [View.read_writes_eq_canon _ _ _ (scover0_A_0 c i a2 h2 a3 h3 a4 h4 a5 h5 hc0 hc1 hc2 x0 x1)]
  unfold kernelRun0_A
  dsimp only
  rw [View.canon_unit_zero hz]
  unfold k0_pay2
  simp only [View.readAt_eq_ld, h2.read_unread, h3.read_unread, View.ld_unit_zero (S := S2048x1024) hz, shapeCast_self]

/-- A later block's point adds the block's product to the accumulator. -/
theorem acc_B (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1024 .bf16) (h4 : a4.IsWhole)
    (a5 : Memref sig .tc .vmem S1024x1024 .f32) (h5 : a5.IsWhole) (hc0 : ¬cond0_0 i) (hc1 : cond0_1 i) (hc2 : ¬cond0_2 i)
    (x0 x1 : Vec Ideal S2048x1024 .bf16) (s : Vec Ideal S1024x1024 .f32) :
    sout0_B_0 (F := Ideal) c i a2 h2 a3 h3 a4 h4 a5 h5 hc0 hc1 hc2 x0 x1 s = addf s (k0_pay1 (F := Ideal) x0 x1) := by
  unfold sout0_B_0
  rw [View.read_writes_eq_canon _ _ _ (scover0_B_0 c i a2 h2 a3 h3 a4 h4 a5 h5 hc0 hc1 hc2 x0 x1 s)]
  unfold kernelRun0_B
  dsimp only
  sl_unfold_words
  rw [View.canon_unit_zero hz]
  unfold k0_pay3
  simp only [View.readAt_eq_ld, h2.read_unread, h3.read_unread, h5.read_unread, View.ld_unit_zero (S := S2048x1024) hz,
    View.ld_unit_zero (S := S1024x1024) hz, shapeCast_self]

/-- The last block's point adds the block's product to the accumulator. -/
theorem acc_C (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1024 .bf16) (h4 : a4.IsWhole)
    (a5 : Memref sig .tc .vmem S1024x1024 .f32) (h5 : a5.IsWhole) (hc0 : ¬cond0_0 i) (hc1 : cond0_1 i) (hc2 : cond0_2 i)
    (x0 x1 : Vec Ideal S2048x1024 .bf16) (s : Vec Ideal S1024x1024 .f32) :
    sout0_C_0 (F := Ideal) c i a2 h2 a3 h3 a4 h4 a5 h5 hc0 hc1 hc2 x0 x1 s = addf s (k0_pay1 (F := Ideal) x0 x1) := by
  unfold sout0_C_0
  rw [View.read_writes_eq_canon _ _ _ (scover0_C_0 c i a2 h2 a3 h3 a4 h4 a5 h5 hc0 hc1 hc2 x0 x1 s)]
  unfold kernelRun0_C
  dsimp only
  sl_unfold_words
  rw [View.canon_unit_zero hz]
  unfold k0_pay3
  simp only [View.readAt_eq_ld, h2.read_unread, h3.read_unread, h5.read_unread, View.ld_unit_zero (S := S2048x1024) hz,
    View.ld_unit_zero (S := S1024x1024) hz, shapeCast_self]

/-- The last block's point stores the accumulator. -/
theorem out_C (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1024 .bf16) (h4 : a4.IsWhole)
    (a5 : Memref sig .tc .vmem S1024x1024 .f32) (h5 : a5.IsWhole) (hc0 : ¬cond0_0 i) (hc1 : cond0_1 i) (hc2 : cond0_2 i)
    (x0 x1 : Vec Ideal S2048x1024 .bf16) (s : Vec Ideal S1024x1024 .f32) :
    out0_C_2 (F := Ideal) c i a2 h2 a3 h3 a4 h4 a5 h5 hc0 hc1 hc2 x0 x1 s
      = k0_pay4 (F := Ideal) (addf s (k0_pay1 (F := Ideal) x0 x1)) := by
  unfold out0_C_2
  rw [View.read_writes_eq_canon _ _ _ (cover0_C_2 c i a2 h2 a3 h3 a4 h4 a5 h5 hc0 hc1 hc2 x0 x1 s)]
  unfold kernelRun0_C
  dsimp only
  sl_unfold_words
  rw [View.canon_unit_zero hz, View.readCov_unit_zero (S := S1024x1024) _ hz]
  unfold k0_pay3
  simp only [View.readAt_eq_ld, h2.read_unread, h3.read_unread, h5.read_unread, View.ld_unit_zero (S := S2048x1024) hz,
    View.ld_unit_zero (S := S1024x1024) hz, shapeCast_self]

/-- The block indices of the windows at each grid point. -/
theorem idx : ∀ t : Fin cfg0.N, (win0_0.index t (0 : Fin 2) = t.val % 4 ∧ win0_0.index t (1 : Fin 2) = t.val / 4)
    ∧ (win0_1.index t (0 : Fin 2) = t.val % 4 ∧ win0_1.index t (1 : Fin 2) = 0)
    ∧ (win0_2.index t (0 : Fin 2) = t.val / 4 ∧ win0_2.index t (1 : Fin 2) = 0) :=
  (by decide +kernel : ∀ t : Fin grid0.N, _)

/-- The product of the blocks at point `t`. -/
def prod (c : Dev nD) (t : Fin cfg0.N) : Vec Ideal S1024x1024 .f32 := k0_pay1 (F := Ideal) (iblk m c 0 t) (iblk m c 1 t)

/-- The product of the blocks at point `t` is the terms of that block of rows. -/
theorem block_eq (c : Dev nD) (t : Fin cfg0.N) (x : S1024x1024.Idx) (p : Fin 4096) (q : Fin 1024)
    (hp : (p : Nat) = t.val / 4 * 1024 + (x 0 : Nat)) (hq : (q : Nat) = x 1) :
    prod m c t x
      = ∑ k : Fin 2048, Block.ext (term (m ((c : Thread nD τ).loc main_arg0)) (m ((c : Thread nD τ).loc main_arg1)) p q) (t.val % 4 * 2048 + k) := by
  obtain ⟨⟨a0, a1⟩, ⟨b0, b1⟩, -⟩ := idx t
  unfold prod
  rw [pay_apply]
  refine Finset.sum_congr rfl fun k _ => ?_
  have hk : (k : Nat) < 2048 := k.isLt
  rw [Block.ext_eq _ _ (by omega)]
  unfold term
  have e : (iblk m c 0 t : Vec Ideal S2048x1024 .bf16) (ix2 k (x 0)) = m ((c : Thread nD τ).loc main_arg0) (ix2 ⟨t.val % 4 * 2048 + k, by omega⟩ p) := by
    refine Block.congr2 (m ((c : Thread nD τ).loc main_arg0)) ?_ ?_
    · exact (Pipeline.Window.rect_emb_val win0_0 t (ix2 k (x 0)) 0).trans (by rw [a0]; rfl)
    · exact (Pipeline.Window.rect_emb_val win0_0 t (ix2 k (x 0)) 1).trans (by rw [a1]; exact hp.symm)
  have e' : (iblk m c 1 t : Vec Ideal S2048x1024 .bf16) (ix2 k (x 1)) = m ((c : Thread nD τ).loc main_arg1) (ix2 ⟨t.val % 4 * 2048 + k, by omega⟩ q) := by
    refine Block.congr2 (m ((c : Thread nD τ).loc main_arg1)) ?_ ?_
    · exact (Pipeline.Window.rect_emb_val win0_1 t (ix2 k (x 1)) 0).trans (by rw [b0]; rfl)
    · exact (Pipeline.Window.rect_emb_val_of_index_zero win0_1 t 1 b1 (ix2 k (x 1))).trans hq.symm
  rw [e, e']

/-- The accumulator after point `t`. -/
def acc (c : Dev nD) (t : Nat) (h : t < cfg0.N) : Vec Ideal S1024x1024 .f32 := (outsAt0 m c t h).2

theorem step_A (c : Dev nD) (t : Fin cfg0.N) (h0 : t.val % 4 = 0) : acc m c t.val t.isLt = prod m c t := by
  have h1 : ¬1 ≤ t.val % 4 := by omega
  have h2 : ¬t.val % 4 = 3 := by omega
  unfold acc prod
  rw [outsAt0_A m c t h0 h1 h2]
  dsimp only
  rw [acc_A]

theorem step_B (c : Dev nD) (t : Fin cfg0.N) (h0 : ¬t.val % 4 = 0) :
    acc m c t.val t.isLt = addf (F := Ideal) (s := S1024x1024) (φ := .f32) (acc m c (t.val - 1) (by omega)) (prod m c t) := by
  have h1 : 1 ≤ t.val % 4 := by omega
  unfold acc prod
  by_cases h2 : t.val % 4 = 3
  · rw [outsAt0_C m c t h0 h1 h2]
    dsimp only
    rw [acc_C]
  · rw [outsAt0_B m c t h0 h1 h2]
    dsimp only
    rw [acc_B]

/-- What the accumulator holds after point `t`: the terms of the blocks of rows so far. -/
theorem acc_eq (c : Dev nD) (x : S1024x1024.Idx) (p : Fin 4096) (q : Fin 1024) (hq : (q : Nat) = x 1) (t : ℕ) (h : t < cfg0.N)
    (hp : (p : Nat) = t / 4 * 1024 + (x 0 : Nat)) :
    acc m c t h x = Block.part (term (m ((c : Thread nD τ).loc main_arg0)) (m ((c : Thread nD τ).loc main_arg1)) p q) (t % 4 * 2048 + 2048) := by
  refine Block.part_of_steps 4 2048 (t / 4) (by omega) (fun t h => acc m c t h x) _ (fun s hs h0 hsq => ?_) (fun s hs h0 hsq => ?_) t h rfl
  · exact (congrFun (step_A m c ⟨s, hs⟩ h0) x).trans (block_eq m c ⟨s, hs⟩ x p q (by rw [hp, ← hsq]) hq)
  · exact (congrFun (step_B m c ⟨s, hs⟩ h0) x).trans (congrArg (acc m c (s - 1) _ x + ·) (block_eq m c ⟨s, hs⟩ x p q (by rw [hp, ← hsq]) hq))

/-- The result array the run is shown to leave. -/
abbrev result (c : Dev nD) : Buf (Elt Ideal) ((c : Thread nD τ).loc main_v0) :=
  dw (m ((c : Thread nD τ).loc main_arg0)) (m ((c : Thread nD τ).loc main_arg1))

/-- What a last point `t` writes back is its block of the result. -/
theorem flushed_eq (c : Dev nD) (t : Fin cfg0.N) (hf : (cfg0.win 2).flush t = true) :
    (dats m 0 c).flushed 2 t = ((cfg0.win 2).blk t).view.read (Elt Ideal) (result m c) := by
  have h2 : t.val % 4 = 3 := (flush0_2 t).mp hf
  have h1 : 1 ≤ t.val % 4 := by omega
  have h0 : ¬t.val % 4 = 0 := by omega
  obtain ⟨-, -, d0, d1⟩ := idx t
  have hs : (dats m 0 c).flushed 2 t = (cfg0.win 2).cut (grid0.coords t) (k0_pay4 (F := Ideal) (acc m c t.val t.isLt)) := by
    rw [Cert.DwDownIdeal.Value.flushed2_C m c t h0 h1 h2, out_C, step_B m c t h0]; rfl
  rw [hs]
  funext y
  have f0 : (((cfg0.win 2).blk t).view.emb y 0 : Nat) = t.val / 4 * 1024 + (y 0 : Nat) := by
    rw [← d0]; exact Pipeline.Window.rect_emb_val win0_2 t y 0
  have f1 : (((cfg0.win 2).blk t).view.emb y 1 : Nat) = (y 1 : Nat) :=
    Pipeline.Window.rect_emb_val_of_index_zero win0_2 t 1 d1 y
  have key := acc_eq m c y (((cfg0.win 2).blk t).view.emb y 0) (((cfg0.win 2).blk t).view.emb y 1) f1 t.val t.isLt f0
  rw [Block.part_all _ _ (by omega)] at key
  have hc : ∀ X : Vec Ideal S1024x1024 .bf16, (cfg0.win 2).cut (grid0.coords t) X y = X y := fun _ => rfl
  have hr : ∀ X : Buf (Elt Ideal) ((c : Thread nD τ).loc main_v0),
      ((cfg0.win 2).blk t).view.read (Elt Ideal) X y = X (((cfg0.win 2).blk t).view.emb y) := fun _ => rfl
  exact (hc _).trans ((pay4_apply _ _).trans (key.trans (hr (result m c)).symm))

/-- The blocks tile the result. -/
theorem cover (i : S4096x1024.Idx) : ∃ t : Fin cfg0.N, (cfg0.win 2).flush t = true ∧ i ∈ ((cfg0.win 2).blk t).view.set := by
  have h0 : (i 0 : Nat) < 4096 := (i 0).isLt
  have h1 : (i 1 : Nat) < 1024 := (i 1).isLt
  have hN : cfg0.N = 16 := N_0
  obtain ⟨t, ht⟩ : ∃ t : Fin cfg0.N, t.val = (i 0 : Nat) / 1024 * 4 + 3 := ⟨⟨(i 0 : Nat) / 1024 * 4 + 3, by omega⟩, rfl⟩
  obtain ⟨-, -, d0, d1⟩ := idx t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 2) * 1024 ≤ (i 0 : Nat) ∧ (i 0 : Nat) < win0_2.index t (0 : Fin 2) * 1024 + 1024
    rw [d0]; omega
  | ⟨1, _⟩ =>
    show win0_2.index t (1 : Fin 2) * 1024 ≤ (i 1 : Nat) ∧ (i 1 : Nat) < win0_2.index t (1 : Fin 2) * 1024 + 1024
    rw [d1]; omega

/-- The run, with the result named. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans
    ((dats m 0 c).arrAt_eq_of_cover 2 (result m c) (fun t ht => flushed_eq m c t ht) cover), (h c).2⟩) (Cert.DwDownIdeal.Value.run_blocks m ρ)

end Cert.DwDownVal

namespace Cert.DwDownVal

open Cert.DwDownRefIdeal Cert.DwDownRefIdeal.Gen Cert.DwDownRefIdeal.Read

/-- The reference's result is the same function of the arguments. -/
theorem ref_eq (x0 : (⟨S8192x4096, .bf16⟩ : BufTy).Contents (Elt Ideal)) (x1 : (⟨S8192x1024, .bf16⟩ : BufTy).Contents (Elt Ideal)) :
    val_main_v8 (F := Ideal) x0 x1 = dw x0 x1 := by
  funext i
  simp only [val_main_v8, val_main_v7, val_main_v6, val_main_v5, val_main_v3, val_main_v2, val_main_v1, val_main_call0_v0,
    val_main_call0_cst, pointwise, zero_add]
  unfold dw term
  exact Finset.sum_congr rfl fun k _ => mul_comm _ _

/-- The reference's run, with the result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v8_eq _ _).trans (ref_eq _ _)), (h c).2⟩)
    (Cert.DwDownRefIdeal.Value.run (F := Ideal) m ρ)

end Cert.DwDownVal

end
-- ==== Proof.DwUp.lean ====
/-
  The value of the gradient of the first feed-forward weight, kept as eight blocks of columns: what the kernel's run leaves in
  its result is, at every index, the product of a column of the normalised inputs with a column of the gradient, summed
  over all the rows; the kernel sums them in two blocks of rows.
-/
module

public import proofs.«01_k».proof.Proof.Block
public import proofs.«01_k».proof.Proof.Gen.DwUpIdeal.Value
public import proofs.«01_k».proof.Proof.Gen.DwUpRefIdeal.Run
public import proofs.«01_k».proof.Proof.Gen.DwUpRefIdeal.Read
public import Idealize.ShloMosaic.Lib.Tactic
public import Idealize.ShloMosaic.Lib.Pipeline.ReadBack

@[expose] public section

noncomputable section

open Idealize.ShloMosaic Idealize.ShloMosaic.TcCoe Idealize.SL.Sem
open Idealize.ShloMosaic.Pipeline (Dat)

namespace Cert.DwUpVal

open Cert.DwUpIdeal Cert.DwUpIdeal.Gen

variable (m : (ℓ : Loc nD τ sig) → Buf (Elt Ideal) ℓ) (ρ : Dev nD → PrngReg)

theorem hz : (![0, 0] : Fin 2 → Nat) = fun _ => 0 := funext fun a => by fin_cases a <;> rfl

/-- One term of the result at `(p, q)`: what row `k` adds. -/
def term (a : (⟨2, ![8192, 1024]⟩ : Shape).Idx → EReal) (b : (⟨2, ![8192, 4096]⟩ : Shape).Idx → EReal)
    (p : Fin 1024) (q : Fin 4096) (k : Fin 8192) : EReal :=
  a (ix2 k p) * b (ix2 k q)

/-- The column that an index of the blocked result names. -/
def col (y : (⟨3, ![8, 1024, 512]⟩ : Shape).Idx) : Fin 4096 :=
  ⟨(y 0 : Nat) * 512 + (y 2 : Nat), by have h0 : (y 0 : Nat) < 8 := (y 0).isLt; have h2 : (y 2 : Nat) < 512 := (y 2).isLt; omega⟩

/-- The result, as a function of the normalised inputs `a` and the gradient `b`: block `i` holds columns `512 i` to `512 i + 511`. -/
def dw (a : (⟨2, ![8192, 1024]⟩ : Shape).Idx → EReal) (b : (⟨2, ![8192, 4096]⟩ : Shape).Idx → EReal)
    (y : (⟨3, ![8, 1024, 512]⟩ : Shape).Idx) : EReal :=
  ∑ k : Fin 8192, term a b (y 1) (col y) k

/-- The product of one block of rows, at an index. -/
theorem pay_apply (v w : Vec Ideal S4096x1024 .bf16) (x : S1024x1024.Idx) :
    k0_pay1 (F := Ideal) v w x = ∑ k : Fin 4096, v (ix2 k (x 0)) * w (ix2 k (x 1)) := by
  unfold k0_pay1
  simp only [pointwise, zero_add]

/-- What is stored at the end, at an index. -/
theorem pay4_apply (s : Vec Ideal S1024x512 .f32) (x : S1x1024x512.Idx) : k0_pay4 (F := Ideal) s x = s (ix2 (x 1) (x 2)) := by
  unfold k0_pay4
  simp only [pointwise]

/-- The first block's point leaves the block's product in the accumulator. -/
theorem acc_A (c : Dev nD) (i : grid0.Coords) (a2 : Memref sig .tc .vmem S4096x1024 .bf16) (h2 : a2.IsWhole)
    (a3 : Memref sig .tc .vmem S4096x1024 .bf16) (h3 : a3.IsWhole) (a4 : Memref sig .tc .vmem S2x1024x512 .bf16) (h4 : a4.IsWhole)
    (a5 : Memref sig .tc .vmem S1024x1024 .f32) (h5 : a5.IsWhole) (hc0 : cond0_0 i) (hc1 : ¬cond0_1 i) (hc2 : ¬cond0_2 i)
    (x0 x1 : Vec Ideal S4096x1024 .bf16) :
    sout0_A_0 (F := Ideal) c i a2 h2 a3 h3 a4 h4 a5 h5 hc0 hc1 hc2 x0 x1 = k0_pay1 (F := Ideal) x0 x1 := by
  unfold sout0_A_0
  rw [View.read_writes_eq_canon _ _ _ (scover0_A_0 c i a2 h2 a3 h3 a4 h4 a5 h5 hc0 hc1 hc2 x0 x1)]
  unfold kernelRun0_A
  dsimp only
  rw [View.canon_unit_zero hz]
  unfold k0_pay2
  simp only [View.readAt_eq_ld, h2.read_unread, h3.read_unread, View.ld_unit_zero (S := S4096x1024) hz, shapeCast_self]

/-- A later block's point adds the block's product to the accumulator. -/
theorem acc_B (c : Dev nD) (i : grid0.Coords) (a2 : Memref sig .tc .vmem S4096x1024 .bf16) (h2 : a2.IsWhole)
    (a3 : Memref sig .tc .vmem S4096x1024 .bf16) (h3 : a3.IsWhole) (a4 : Memref sig .tc .vmem S2x1024x512 .bf16) (h4 : a4.IsWhole)
    (a5 : Memref sig .tc .vmem S1024x1024 .f32) (h5 : a5.IsWhole) (hc0 : ¬cond0_0 i) (hc1 : cond0_1 i) (hc2 : cond0_2 i)
    (x0 x1 : Vec Ideal S4096x1024 .bf16) (s : Vec Ideal S1024x1024 .f32) :
    sout0_B_0 (F := Ideal) c i a2 h2 a3 h3 a4 h4 a5 h5 hc0 hc1 hc2 x0 x1 s = addf s (k0_pay1 (F := Ideal) x0 x1) := by
  unfold sout0_B_0
  rw [View.read_writes_eq_canon _ _ _ (scover0_B_0 c i a2 h2 a3 h3 a4 h4 a5 h5 hc0 hc1 hc2 x0 x1 s)]
  unfold kernelRun0_B
  dsimp only
  sl_unfold_words
  rw [View.canon_unit_zero hz]
  unfold k0_pay3
  simp only [View.readAt_eq_ld, h2.read_unread, h3.read_unread, h5.read_unread, View.ld_unit_zero (S := S4096x1024) hz,
    View.ld_unit_zero (S := S1024x1024) hz, shapeCast_self]

/-- What the last block's point stores, at an index. -/
def blocks (s : Vec Ideal S1024x1024 .f32) (y : S2x1024x512.Idx) : EReal :=
  s (ix2 (y 1) ⟨(y 0 : Nat) * 512 + (y 2 : Nat), by have h0 : (y 0 : Nat) < 2 := (y 0).isLt; have h2 : (y 2 : Nat) < 512 := (y 2).isLt; omega⟩)

/-- One of the two stores, at an index. -/
theorem piece (s : Vec Ideal S1024x1024 .f32) (o e : Nat)
    (h1 : ∀ a, (![0, o] : Fin 2 → Nat) a + S1024x512.size a ≤ S1024x1024.size a)
    (h2 : ∀ a, (![e, 0, 0] : Fin 3 → Nat) a + S1x1024x512.size a ≤ S2x1024x512.size a) (ho : o = e * 512) (x : S1x1024x512.Idx) :
    k0_pay4 (F := Ideal) (View.ld (Val := Elt Ideal) (e' := .f32) (shapeCast S1024x1024 s shapeCasts_S1024x1024_S1024x1024)
        (Rect.unit (s := S1024x1024) ![0, o] S1024x512.size h1)) x
      = blocks s ((Rect.unit (s := S2x1024x512) ![e, 0, 0] S1x1024x512.size h2).emb x) := by
  rw [pay4_apply, shapeCast_self]
  have e0 := Block.emb_val (s := S2x1024x512) ![e, 0, 0] S1x1024x512.size h2 x 0
  have e1 := (Block.emb_val (s := S2x1024x512) ![e, 0, 0] S1x1024x512.size h2 x 1).trans (Nat.zero_add _)
  have e2 := (Block.emb_val (s := S2x1024x512) ![e, 0, 0] S1x1024x512.size h2 x 2).trans (Nat.zero_add _)
  have g0 := (Block.emb_val (s := S1024x1024) ![0, o] S1024x512.size h1 (ix2 (x 1) (x 2)) 0).trans (Nat.zero_add _)
  have g1 := Block.emb_val (s := S1024x1024) ![0, o] S1024x512.size h1 (ix2 (x 1) (x 2)) 1
  have z : (x 0 : Nat) < 1 := (x 0).isLt
  rw [Block.ld_apply]
  unfold blocks
  refine Block.congr2 s (g0.trans e1.symm) (g1.trans ?_)
  show o + (x 2 : Nat) = ((Rect.unit (s := S2x1024x512) ![e, 0, 0] S1x1024x512.size h2).emb x 0 : Nat) * 512
    + ((Rect.unit (s := S2x1024x512) ![e, 0, 0] S1x1024x512.size h2).emb x 2 : Nat)
  have e0' : ((Rect.unit (s := S2x1024x512) ![e, 0, 0] S1x1024x512.size h2).emb x 0 : Nat) = e + (x 0 : Nat) := e0
  rw [e0', e2]; omega

/-- The last block's point stores the accumulator. -/
theorem out_B (c : Dev nD) (i : grid0.Coords) (a2 : Memref sig .tc .vmem S4096x1024 .bf16) (h2 : a2.IsWhole)
    (a3 : Memref sig .tc .vmem S4096x1024 .bf16) (h3 : a3.IsWhole) (a4 : Memref sig .tc .vmem S2x1024x512 .bf16) (h4 : a4.IsWhole)
    (a5 : Memref sig .tc .vmem S1024x1024 .f32) (h5 : a5.IsWhole) (hc0 : ¬cond0_0 i) (hc1 : cond0_1 i) (hc2 : cond0_2 i)
    (x0 x1 : Vec Ideal S4096x1024 .bf16) (s : Vec Ideal S1024x1024 .f32) :
    out0_B_2 (F := Ideal) c i a2 h2 a3 h3 a4 h4 a5 h5 hc0 hc1 hc2 x0 x1 s
      = blocks (addf s (k0_pay1 (F := Ideal) x0 x1)) := by
  funext y
  unfold out0_B_2
  rw [View.read_writes_eq_canon _ _ _ (cover0_B_2 c i a2 h2 a3 h3 a4 h4 a5 h5 hc0 hc1 hc2 x0 x1 s)]
  refine View.canon_apply_of_pieces (Val := Elt Ideal) (e := .bf16) _ _ ?_ y (cover0_B_2 c i a2 h2 a3 h3 a4 h4 a5 h5 hc0 hc1 hc2 x0 x1 s y)
  unfold kernelRun0_B
  dsimp only
  sl_unfold_words
  have e2 : (View.readAt (Elt Ideal) a2.view (Rect.unit ![0, 0] S4096x1024.size inb_S4096x1024_S4096x1024_0_0).toLoadRect (h2.unread x0)) = x0 := by
    rw [View.readAt_eq_ld, h2.read_unread, View.ld_unit_zero (S := S4096x1024) hz]
  have e3 : (View.readAt (Elt Ideal) a3.view (Rect.unit ![0, 0] S4096x1024.size inb_S4096x1024_S4096x1024_0_0).toLoadRect (h3.unread x1)) = x1 := by
    rw [View.readAt_eq_ld, h3.read_unread, View.ld_unit_zero (S := S4096x1024) hz]
  have e5 : (View.readAt (Elt Ideal) a5.view (Rect.unit ![0, 0] S1024x1024.size inb_S1024x1024_S1024x1024_0_0).toLoadRect (h5.unread s)) = s := by
    rw [View.readAt_eq_ld, h5.read_unread, View.ld_unit_zero (S := S1024x1024) hz]
  rw [e2, e3, e5, View.readCov_fill _ _ _ _ _ (by decide), View.readCov_fill _ _ _ _ _ (by decide)]
  intro p hp
  simp only [List.mem_cons, List.not_mem_nil, or_false] at hp
  rcases hp with rfl | rfl
  · exact piece (addf s (k0_pay1 (F := Ideal) x0 x1)) 512 1 _ inb_S2x1024x512_S1x1024x512_1_0_0 (by omega)
  · exact piece (addf s (k0_pay1 (F := Ideal) x0 x1)) 0 0 _ inb_S2x1024x512_S1x1024x512_0_0_0 (by omega)

/-- The block indices of the windows at each grid point. -/
theorem idx : ∀ t : Fin cfg0.N, (win0_0.index t (0 : Fin 2) = t.val % 2 ∧ win0_0.index t (1 : Fin 2) = 0)
    ∧ (win0_1.index t (0 : Fin 2) = t.val % 2 ∧ win0_1.index t (1 : Fin 2) = t.val / 2)
    ∧ (win0_2.index t (0 : Fin 3) = t.val / 2 ∧ win0_2.index t (1 : Fin 3) = 0 ∧ win0_2.index t (2 : Fin 3) = 0) :=
  (by decide +kernel : ∀ t : Fin grid0.N, _)

/-- The product of the blocks at point `t`. -/
def prod (c : Dev nD) (t : Fin cfg0.N) : Vec Ideal S1024x1024 .f32 := k0_pay1 (F := Ideal) (iblk m c 0 t) (iblk m c 1 t)

/-- The product of the blocks at point `t` is the terms of that block of rows. -/
theorem block_eq (c : Dev nD) (t : Fin cfg0.N) (x : S1024x1024.Idx) (p : Fin 1024) (q : Fin 4096)
    (hp : (p : Nat) = x 0) (hq : (q : Nat) = t.val / 2 * 1024 + (x 1 : Nat)) :
    prod m c t x
      = ∑ k : Fin 4096, Block.ext (term (m ((c : Thread nD τ).loc main_arg0)) (m ((c : Thread nD τ).loc main_arg1)) p q) (t.val % 2 * 4096 + k) := by
  obtain ⟨⟨a0, a1⟩, ⟨b0, b1⟩, -⟩ := idx t
  unfold prod
  rw [pay_apply]
  refine Finset.sum_congr rfl fun k _ => ?_
  have hk : (k : Nat) < 4096 := k.isLt
  rw [Block.ext_eq _ _ (by omega)]
  unfold term
  congr 1
  · refine Block.congr2 (m ((c : Thread nD τ).loc main_arg0)) ?_ ?_
    · exact (Pipeline.Window.rect_emb_val win0_0 t (ix2 k (x 0)) 0).trans (by rw [a0]; rfl)
    · exact (Pipeline.Window.rect_emb_val_of_index_zero win0_0 t 1 a1 (ix2 k (x 0))).trans hp.symm
  · refine Block.congr2 (m ((c : Thread nD τ).loc main_arg1)) ?_ ?_
    · exact (Pipeline.Window.rect_emb_val win0_1 t (ix2 k (x 1)) 0).trans (by rw [b0]; rfl)
    · exact (Pipeline.Window.rect_emb_val win0_1 t (ix2 k (x 1)) 1).trans (by rw [b1]; exact hq.symm)

/-- The accumulator after point `t`. -/
def acc (c : Dev nD) (t : Nat) (h : t < cfg0.N) : Vec Ideal S1024x1024 .f32 := (outsAt0 m c t h).2

theorem step_A (c : Dev nD) (t : Fin cfg0.N) (h0 : t.val % 2 = 0) : acc m c t.val t.isLt = prod m c t := by
  have h1 : ¬t.val % 2 = 1 := by omega
  unfold acc prod
  rw [outsAt0_A m c t h0 h1 h1]
  dsimp only
  rw [acc_A]

theorem step_B (c : Dev nD) (t : Fin cfg0.N) (h0 : ¬t.val % 2 = 0) :
    acc m c t.val t.isLt = addf (F := Ideal) (s := S1024x1024) (φ := .f32) (acc m c (t.val - 1) (by omega)) (prod m c t) := by
  have h1 : t.val % 2 = 1 := by omega
  unfold acc prod
  rw [outsAt0_B m c t h0 h1 h1]
  dsimp only
  rw [acc_B]

/-- What the accumulator holds after point `t`: the terms of the blocks of rows so far. -/
theorem acc_eq (c : Dev nD) (x : S1024x1024.Idx) (p : Fin 1024) (q : Fin 4096) (hp : (p : Nat) = x 0) (t : ℕ) (h : t < cfg0.N)
    (hq : (q : Nat) = t / 2 * 1024 + (x 1 : Nat)) :
    acc m c t h x = Block.part (term (m ((c : Thread nD τ).loc main_arg0)) (m ((c : Thread nD τ).loc main_arg1)) p q) (t % 2 * 4096 + 4096) := by
  refine Block.part_of_steps 2 4096 (t / 2) (by omega) (fun t h => acc m c t h x) _ (fun s hs h0 hsq => ?_) (fun s hs h0 hsq => ?_) t h rfl
  · exact (congrFun (step_A m c ⟨s, hs⟩ h0) x).trans (block_eq m c ⟨s, hs⟩ x p q hp (by rw [hq, ← hsq]))
  · exact (congrFun (step_B m c ⟨s, hs⟩ h0) x).trans (congrArg (acc m c (s - 1) _ x + ·) (block_eq m c ⟨s, hs⟩ x p q hp (by rw [hq, ← hsq])))

/-- The result array the run is shown to leave. -/
abbrev result (c : Dev nD) : Buf (Elt Ideal) ((c : Thread nD τ).loc main_v0) :=
  dw (m ((c : Thread nD τ).loc main_arg0)) (m ((c : Thread nD τ).loc main_arg1))

/-- What a last point `t` writes back is its block of the result. -/
theorem flushed_eq (c : Dev nD) (t : Fin cfg0.N) (hf : (cfg0.win 2).flush t = true) :
    (dats m 0 c).flushed 2 t = ((cfg0.win 2).blk t).view.read (Elt Ideal) (result m c) := by
  have h1 : t.val % 2 = 1 := (flush0_2 t).mp hf
  have h0 : ¬t.val % 2 = 0 := by omega
  have hN : t.val % 2 * 4096 + 4096 = 8192 := by omega
  obtain ⟨-, -, d0, d1, d2⟩ := idx t
  have hs : (dats m 0 c).flushed 2 t = (cfg0.win 2).cut (grid0.coords t) (blocks (acc m c t.val t.isLt)) := by
    rw [Cert.DwUpIdeal.Value.flushed2_B m c t h0 h1 h1, out_B, step_B m c t h0]; rfl
  rw [hs]
  funext y
  have hc : ∀ X : Vec Ideal S2x1024x512 .bf16, (cfg0.win 2).cut (grid0.coords t) X y = X y := fun _ => rfl
  have hr : ∀ X : Buf (Elt Ideal) ((c : Thread nD τ).loc main_v0),
      ((cfg0.win 2).blk t).view.read (Elt Ideal) X y = X (((cfg0.win 2).blk t).view.emb y) := fun _ => rfl
  have f0 : (((cfg0.win 2).blk t).view.emb y 0 : Nat) = t.val / 2 * 2 + (y 0 : Nat) := by
    rw [← d0]; exact Pipeline.Window.rect_emb_val win0_2 t y 0
  have f1 : (((cfg0.win 2).blk t).view.emb y 1 : Nat) = (y 1 : Nat) :=
    Pipeline.Window.rect_emb_val_of_index_zero win0_2 t 1 d1 y
  have f2 : (((cfg0.win 2).blk t).view.emb y 2 : Nat) = (y 2 : Nat) :=
    Pipeline.Window.rect_emb_val_of_index_zero win0_2 t 2 d2 y
  have hq : (((cfg0.win 2).blk t).view.emb y 0 : Nat) * 512 + (((cfg0.win 2).blk t).view.emb y 2 : Nat)
      = t.val / 2 * 1024 + ((y 0 : Nat) * 512 + (y 2 : Nat)) := by rw [f0, f2]; ring
  have b0 : (y 0 : Nat) < 2 := (y 0).isLt
  have b2 : (y 2 : Nat) < 512 := (y 2).isLt
  have key := acc_eq m c (ix2 (y 1) ⟨(y 0 : Nat) * 512 + (y 2 : Nat), by omega⟩) (((cfg0.win 2).blk t).view.emb y 1)
    (col (((cfg0.win 2).blk t).view.emb y)) f1 t.val t.isLt hq
  have hk := Block.part_all (term (m ((c : Thread nD τ).loc main_arg0)) (m ((c : Thread nD τ).loc main_arg1)) (((cfg0.win 2).blk t).view.emb y 1)
    (col (((cfg0.win 2).blk t).view.emb y))) (t.val % 2 * 4096 + 4096) hN
  replace key := key.trans hk
  have hb : blocks (acc m c t.val t.isLt) y = acc m c t.val t.isLt (ix2 (y 1) ⟨(y 0 : Nat) * 512 + (y 2 : Nat), by omega⟩) := by
    unfold blocks; with_reducible rfl
  refine (hc _).trans (hb.trans (key.trans ?_))
  rw [hr]
  unfold result dw
  with_reducible rfl

/-- The blocks tile the result. -/
theorem cover (i : S8x1024x512.Idx) : ∃ t : Fin cfg0.N, (cfg0.win 2).flush t = true ∧ i ∈ ((cfg0.win 2).blk t).view.set := by
  have h0 : (i 0 : Nat) < 8 := (i 0).isLt
  have h1 : (i 1 : Nat) < 1024 := (i 1).isLt
  have h2 : (i 2 : Nat) < 512 := (i 2).isLt
  have hN : cfg0.N = 8 := N_0
  obtain ⟨t, ht⟩ : ∃ t : Fin cfg0.N, t.val = (i 0 : Nat) / 2 * 2 + 1 := ⟨⟨(i 0 : Nat) / 2 * 2 + 1, by omega⟩, rfl⟩
  obtain ⟨-, -, d0, d1, d2⟩ := idx t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 3) * 2 ≤ (i 0 : Nat) ∧ (i 0 : Nat) < win0_2.index t (0 : Fin 3) * 2 + 2
    rw [d0]; omega
  | ⟨1, _⟩ =>
    show win0_2.index t (1 : Fin 3) * 1024 ≤ (i 1 : Nat) ∧ (i 1 : Nat) < win0_2.index t (1 : Fin 3) * 1024 + 1024
    rw [d1]; omega
  | ⟨2, _⟩ =>
    show win0_2.index t (2 : Fin 3) * 512 ≤ (i 2 : Nat) ∧ (i 2 : Nat) < win0_2.index t (2 : Fin 3) * 512 + 512
    rw [d2]; omega

/-- The run, with the result named. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans
    ((dats m 0 c).arrAt_eq_of_cover 2 (result m c) (fun t ht => flushed_eq m c t ht) cover), (h c).2⟩) (Cert.DwUpIdeal.Value.run_blocks m ρ)

end Cert.DwUpVal

namespace Cert.DwUpVal

open Cert.DwUpRefIdeal Cert.DwUpRefIdeal.Gen Cert.DwUpRefIdeal.Read

/-- The reference's result is the same function of the arguments. -/
theorem ref_eq (x0 : (⟨S8192x1024, .bf16⟩ : BufTy).Contents (Elt Ideal)) (x1 : (⟨S8192x4096, .bf16⟩ : BufTy).Contents (Elt Ideal)) :
    val_main_v8 (F := Ideal) x0 x1 = dw x0 x1 := by
  funext i
  rw [val_main_v8_apply, val_main_v7_apply, val_main_v6_apply]
  have h0 : (i 0 : Nat) < 8 := (i 0).isLt
  have h1 : (i 1 : Nat) < 1024 := (i 1).isLt
  have h2 : (i 2 : Nat) < 512 := (i 2).isLt
  have e : idx_main_v6 (idx_main_v7 i) = ix2 (i 1) (col i) := by
    funext d
    match d with
    | ⟨0, _⟩ => exact Fin.ext (by show (((i 1 : Nat) * 8 + (i 0 : Nat)) * 512 + (i 2 : Nat)) / 4096 = (i 1 : Nat); omega)
    | ⟨1, _⟩ => exact Fin.ext (by show (((i 1 : Nat) * 8 + (i 0 : Nat)) * 512 + (i 2 : Nat)) % 4096 = (i 0 : Nat) * 512 + (i 2 : Nat); omega)
  rw [e]
  simp only [val_main_v5, val_main_v4, val_main_v3, val_main_v1, pointwise, zero_add]
  unfold dw term
  exact Finset.sum_congr rfl fun k _ => mul_comm _ _

/-- The reference's run, with the result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v8_eq _ _).trans (ref_eq _ _)), (h c).2⟩)
    (Cert.DwUpRefIdeal.Value.run (F := Ideal) m ρ)

end Cert.DwUpVal

end
-- ==== Proof.Dy.lean ====
/-
  The value of the gradient of the mixer's output: what the kernel's run leaves in its result is, at every index, the product
  of a row of the incoming gradient with a row of the output weight.
-/
module

public import proofs.«01_k».proof.Proof.Block
public import proofs.«01_k».proof.Proof.Gen.DyIdeal.Value
public import proofs.«01_k».proof.Proof.Gen.DyRefIdeal.Run
public import proofs.«01_k».proof.Proof.Gen.DyRefIdeal.Read

@[expose] public section

noncomputable section

open Idealize.ShloMosaic Idealize.ShloMosaic.TcCoe Idealize.SL.Sem
open Idealize.ShloMosaic.Pipeline (Dat)

namespace Cert.DyVal

open Cert.DyIdeal Cert.DyIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The result, as a function of the gradient `dy` and the weight `w` over `n` rows. -/
def dy {n : Nat} (g : (⟨2, ![n, 1024]⟩ : Shape).Idx → EReal) (w : (⟨2, ![2048, 1024]⟩ : Shape).Idx → EReal)
    (y : (⟨2, ![n, 2048]⟩ : Shape).Idx) : EReal :=
  ∑ k : Fin 1024, g (ix2 (y 0) k) * w (ix2 (y 1) k)

/-- One chunk of the body, at an index. -/
theorem pay_apply (v : Vec Ideal S512x1024 .bf16) (w : Vec Ideal S1024x1024 .bf16) (x : S512x1024.Idx) :
    k0_pay1 (F := Ideal) v w x = ∑ k : Fin 1024, v (ix2 (x 0) k) * w (ix2 (x 1) k) := by
  unfold k0_pay1
  simp only [pointwise, zero_add]

/-- A chunk of the body at column offset `o` is the block of `dy` there. -/
theorem piece (x0 : Vec Ideal S512x1024 .bf16) (x1 : Vec Ideal S2048x1024 .bf16) (o : Nat)
    (h1 : ∀ a, (![o, 0] : Fin 2 → Nat) a + S1024x1024.size a ≤ S2048x1024.size a)
    (h2 : ∀ a, (![0, o] : Fin 2 → Nat) a + S512x1024.size a ≤ S512x2048.size a) (x : S512x1024.Idx) :
    k0_pay1 (F := Ideal) (View.ld x0 r0_0) (View.ld x1 (Rect.unit (s := S2048x1024) ![o, 0] S1024x1024.size h1)) x
      = dy x0 x1 ((Rect.unit (s := S512x2048) ![0, o] S512x1024.size h2).emb x) := by
  rw [View.ld_unit_zero hz, pay_apply]
  unfold dy
  have e0 : ((Rect.unit (s := S512x2048) ![0, o] S512x1024.size h2).emb x 0 : Nat) = x 0 :=
    (Block.emb_val (s := S512x2048) ![0, o] S512x1024.size h2 x 0).trans (Nat.zero_add _)
  have e1 : ((Rect.unit (s := S512x2048) ![0, o] S512x1024.size h2).emb x 1 : Nat) = o + x 1 := Block.emb_val (s := S512x2048) ![0, o] S512x1024.size h2 x 1
  refine Finset.sum_congr rfl fun k _ => ?_
  congr 1
  · exact Block.congr2 x0 e0.symm rfl
  · exact Block.congr2 x1 ((Block.emb_val (s := S2048x1024) ![o, 0] S1024x1024.size h1 (ix2 (x 1) k) 0).trans e1.symm)
      ((Block.emb_val (s := S2048x1024) ![o, 0] S1024x1024.size h1 (ix2 (x 1) k) 1).trans (Nat.zero_add _))

/-- What the body leaves in the result's staging buffer is `dy` of the blocks. -/
theorem out_eq (x0 : Vec Ideal S512x1024 .bf16) (x1 : Vec Ideal S2048x1024 .bf16) :
    out0_2 (F := Ideal) x0 x1 = dy x0 x1 := by
  funext y
  unfold out0_2
  refine View.canon_apply_of_pieces (Val := Elt Ideal) (e := .bf16) (dy x0 x1) _ ?_ y (cover0_2 _ _ y)
  intro p hp
  simp only [List.mem_cons, List.not_mem_nil, or_false] at hp
  rcases hp with rfl | rfl
  · exact piece x0 x1 1024 _ inb_S512x2048_S512x1024_0_1024
  · exact piece x0 x1 0 _ inb_S512x2048_S512x1024_0_0

/-- The result array the run is shown to leave. -/
abbrev result (c : Dev nD) : Buf (Elt Ideal) ((c : Thread nD τ).loc main_v0) :=
  dy (m ((c : Thread nD τ).loc main_arg0)) (m ((c : Thread nD τ).loc main_arg1))

/-- The block indices of the windows at each grid point. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

/-- What point `t` writes back is block `t` of the result. -/
theorem flushed_eq (c : Dev nD) (t : Fin cfg0.N) :
    (dats m 0 c).flushed 2 t = ((cfg0.win 2).blk t).view.read (Elt Ideal) (result m c) := by
  obtain ⟨⟨a0, a1⟩, ⟨b0, b1⟩, d0, d1⟩ := idx t
  rw [Cert.DyIdeal.Value.flushed2, out_eq]
  funext y
  have f0 : (((cfg0.win 2).blk t).view.emb y 0 : Nat) = t.val * 512 + (y 0 : Nat) := by
    rw [← d0]; exact Pipeline.Window.rect_emb_val win0_2 t y 0
  have f1 : (((cfg0.win 2).blk t).view.emb y 1 : Nat) = (y 1 : Nat) :=
    Pipeline.Window.rect_emb_val_of_index_zero win0_2 t 1 d1 y
  show dy (iblk m c 0 t) (iblk m c 1 t) y = result m c (((cfg0.win 2).blk t).view.emb y)
  unfold result dy
  · refine Finset.sum_congr rfl fun k _ => ?_
    congr 1
    · refine Block.congr2 (m ((c : Thread nD τ).loc main_arg0)) ?_ ?_
      · exact ((Pipeline.Window.rect_emb_val win0_0 t (ix2 (y 0) k) 0).trans (by rw [a0]; rfl)).trans f0.symm
      · exact Pipeline.Window.rect_emb_val_of_index_zero win0_0 t 1 a1 (ix2 (y 0) k)
    · refine Block.congr2 (m ((c : Thread nD τ).loc main_arg1)) ?_ ?_
      · exact (Pipeline.Window.rect_emb_val_of_index_zero win0_1 t 0 b0 (ix2 (y 1) k)).trans f1.symm
      · exact Pipeline.Window.rect_emb_val_of_index_zero win0_1 t 1 b1 (ix2 (y 1) k)

/-- The blocks tile the result. -/
theorem cover (i : S8192x2048.Idx) : ∃ t : Fin cfg0.N, (cfg0.win 2).flush t = true ∧ i ∈ ((cfg0.win 2).blk t).view.set := by
  have h0 : (i 0 : Nat) < 8192 := (i 0).isLt
  have h1 : (i 1 : Nat) < 2048 := (i 1).isLt
  have hN : cfg0.N = 16 := N_0
  obtain ⟨t, ht⟩ : ∃ t : Fin cfg0.N, t.val = (i 0 : Nat) / 512 := ⟨⟨(i 0 : Nat) / 512, by omega⟩, rfl⟩
  obtain ⟨-, -, d0, d1⟩ := idx t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 512 ≤ (i 0 : Nat) ∧ (i 0 : Nat) < win0_2.index t (0 : Fin 2) * 512 + 512
    rw [d0]; omega
  | ⟨1, _⟩ =>
    show win0_2.index t (1 : Fin 2) * 2048 ≤ (i 1 : Nat) ∧ (i 1 : Nat) < win0_2.index t (1 : Fin 2) * 2048 + 2048
    rw [d1]; omega

/-- The run, with the result named. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans
    ((dats m 0 c).arrAt_eq_of_cover 2 (result m c) (fun t _ => flushed_eq m c t) cover), (h c).2⟩) (Cert.DyIdeal.Value.run_blocks m ρ)

end Cert.DyVal

namespace Cert.DyVal

open Cert.DyRefIdeal Cert.DyRefIdeal.Gen Cert.DyRefIdeal.Read

/-- The reference's result is the same function of the arguments. -/
theorem ref_eq (x0 : (⟨S8192x1024, .bf16⟩ : BufTy).Contents (Elt Ideal)) (x1 : (⟨S2048x1024, .bf16⟩ : BufTy).Contents (Elt Ideal)) :
    val_main_v5 (F := Ideal) x0 x1 = dy x0 x1 := by
  funext i
  simp only [val_main_v5, val_main_v4, val_main_v3, val_main_v2, val_main_v1, val_main_v0, pointwise, zero_add]
  rfl

/-- The reference's run, with the result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = dy (m ((c.tc : Thread nD τ).loc main_arg0))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v5_eq _ _).trans (ref_eq _ _)), (h c).2⟩)
    (Cert.DyRefIdeal.Value.run (F := Ideal) m ρ)

end Cert.DyVal

end
-- ==== Proof.DwOut.lean ====
/-
  The value of the gradient of the mixer's output weight: what the kernel's run leaves in its result is, at every index, the
  product of a column of the gated values with a column of the incoming gradient, summed over all the rows; the kernel
  sums them in two blocks of rows.
-/
module

public import proofs.«01_k».proof.Proof.Block
public import proofs.«01_k».proof.Proof.Gen.DwOutIdeal.Value
public import proofs.«01_k».proof.Proof.Gen.DwOutRefIdeal.Run
public import proofs.«01_k».proof.Proof.Gen.DwOutRefIdeal.Read
public import Idealize.ShloMosaic.Lib.Tactic

@[expose] public section

noncomputable section

open Idealize.ShloMosaic Idealize.ShloMosaic.TcCoe Idealize.SL.Sem
open Idealize.ShloMosaic.Pipeline (Dat)

namespace Cert.DwOutVal

open Cert.DwOutIdeal Cert.DwOutIdeal.Gen

variable (m : (ℓ : Loc nD τ sig) → Buf (Elt Ideal) ℓ) (ρ : Dev nD → PrngReg)

theorem hz : (![0, 0] : Fin 2 → Nat) = fun _ => 0 := funext fun a => by fin_cases a <;> rfl

/-- One term of the result at `(p, q)`: what row `k` adds. -/
def term (a : (⟨2, ![8192, 2048]⟩ : Shape).Idx → EReal) (b : (⟨2, ![8192, 1024]⟩ : Shape).Idx → EReal)
    (p : Fin 2048) (q : Fin 1024) (k : Fin 8192) : EReal :=
  a (ix2 k p) * b (ix2 k q)

/-- The result, as a function of the gated values `a` and the gradient `b`. -/
def dw (a : (⟨2, ![8192, 2048]⟩ : Shape).Idx → EReal) (b : (⟨2, ![8192, 1024]⟩ : Shape).Idx → EReal)
    (y : (⟨2, ![2048, 1024]⟩ : Shape).Idx) : EReal :=
  ∑ k : Fin 8192, term a b (y 0) (y 1) k

/-- The product of one block of rows, at an index. -/
theorem pay_apply (v w : Vec Ideal S4096x1024 .bf16) (x : S1024x1024.Idx) :
    k0_pay1 (F := Ideal) v w x = ∑ k : Fin 4096, v (ix2 k (x 0)) * w (ix2 k (x 1)) := by
  unfold k0_pay1
  simp only [pointwise, zero_add]

/-- What is stored at the end, at an index. -/
theorem pay4_apply (s : Vec Ideal S1024x1024 .f32) (x : S1024x1024.Idx) : k0_pay4 (F := Ideal) s x = s x := by
  unfold k0_pay4
  simp only [pointwise]

/-- The first block's point leaves the block's product in the accumulator. -/
theorem acc_A (c : Dev nD) (i : grid0.Coords) (a2 : Memref sig .tc .vmem S4096x1024 .bf16) (h2 : a2.IsWhole)
    (a3 : Memref sig .tc .vmem S4096x1024 .bf16) (h3 : a3.IsWhole) (a4 : Memref sig .tc .vmem S1024x1024 .bf16) (h4 : a4.IsWhole)
    (a5 : Memref sig .tc .vmem S1024x1024 .f32) (h5 : a5.IsWhole) (hc0 : cond0_0 i) (hc1 : ¬cond0_1 i) (hc2 : ¬cond0_2 i)
    (x0 x1 : Vec Ideal S4096x1024 .bf16) :
    sout0_A_0 (F := Ideal) c i a2 h2 a3 h3 a4 h4 a5 h5 hc0 hc1 hc2 x0 x1 = k0_pay1 (F := Ideal) x0 x1 := by
  unfold sout0_A_0
  rw [View.read_writes_eq_canon _ _ _ (scover0_A_0 c i a2 h2 a3 h3 a4 h4 a5 h5 hc0 hc1 hc2 x0 x1)]
  unfold kernelRun0_A
  dsimp only
  rw [View.canon_unit_zero hz]
  unfold k0_pay2
  simp only [View.readAt_eq_ld, h2.read_unread, h3.read_unread, View.ld_unit_zero (S := S4096x1024) hz, shapeCast_self]

/-- A later block's point adds the block's product to the accumulator. -/
theorem acc_B (c : Dev nD) (i : grid0.Coords) (a2 : Memref sig .tc .vmem S4096x1024 .bf16) (h2 : a2.IsWhole)
    (a3 : Memref sig .tc .vmem S4096x1024 .bf16) (h3 : a3.IsWhole) (a4 : Memref sig .tc .vmem S1024x1024 .bf16) (h4 : a4.IsWhole)
    (a5 : Memref sig .tc .vmem S1024x1024 .f32) (h5 : a5.IsWhole) (hc0 : ¬cond0_0 i) (hc1 : cond0_1 i) (hc2 : cond0_2 i)
    (x0 x1 : Vec Ideal S4096x1024 .bf16) (s : Vec Ideal S1024x1024 .f32) :
    sout0_B_0 (F := Ideal) c i a2 h2 a3 h3 a4 h4 a5 h5 hc0 hc1 hc2 x0 x1 s = addf s (k0_pay1 (F := Ideal) x0 x1) := by
  unfold sout0_B_0
  rw [View.read_writes_eq_canon _ _ _ (scover0_B_0 c i a2 h2 a3 h3 a4 h4 a5 h5 hc0 hc1 hc2 x0 x1 s)]
  unfold kernelRun0_B
  dsimp only
  sl_unfold_words
  rw [View.canon_unit_zero hz]
  unfold k0_pay3
  simp only [View.readAt_eq_ld, h2.read_unread, h3.read_unread, h5.read_unread, View.ld_unit_zero (S := S4096x1024) hz,
    View.ld_unit_zero (S := S1024x1024) hz, shapeCast_self]

/-- The last block's point stores the accumulator. -/
theorem out_B (c : Dev nD) (i : grid0.Coords) (a2 : Memref sig .tc .vmem S4096x1024 .bf16) (h2 : a2.IsWhole)
    (a3 : Memref sig .tc .vmem S4096x1024 .bf16) (h3 : a3.IsWhole) (a4 : Memref sig .tc .vmem S1024x1024 .bf16) (h4 : a4.IsWhole)
    (a5 : Memref sig .tc .vmem S1024x1024 .f32) (h5 : a5.IsWhole) (hc0 : ¬cond0_0 i) (hc1 : cond0_1 i) (hc2 : cond0_2 i)
    (x0 x1 : Vec Ideal S4096x1024 .bf16) (s : Vec Ideal S1024x1024 .f32) :
    out0_B_2 (F := Ideal) c i a2 h2 a3 h3 a4 h4 a5 h5 hc0 hc1 hc2 x0 x1 s
      = k0_pay4 (F := Ideal) (addf s (k0_pay1 (F := Ideal) x0 x1)) := by
  unfold out0_B_2
  rw [View.read_writes_eq_canon _ _ _ (cover0_B_2 c i a2 h2 a3 h3 a4 h4 a5 h5 hc0 hc1 hc2 x0 x1 s)]
  unfold kernelRun0_B
  dsimp only
  sl_unfold_words
  rw [View.canon_unit_zero hz, View.readCov_unit_zero (S := S1024x1024) _ hz]
  unfold k0_pay3
  simp only [View.readAt_eq_ld, h2.read_unread, h3.read_unread, h5.read_unread, View.ld_unit_zero (S := S4096x1024) hz,
    View.ld_unit_zero (S := S1024x1024) hz, shapeCast_self]

/-- The block indices of the windows at each grid point. -/
theorem idx : ∀ t : Fin cfg0.N, (win0_0.index t (0 : Fin 2) = t.val % 2 ∧ win0_0.index t (1 : Fin 2) = t.val / 2)
    ∧ (win0_1.index t (0 : Fin 2) = t.val % 2 ∧ win0_1.index t (1 : Fin 2) = 0)
    ∧ (win0_2.index t (0 : Fin 2) = t.val / 2 ∧ win0_2.index t (1 : Fin 2) = 0) :=
  (by decide +kernel : ∀ t : Fin grid0.N, _)

/-- The product of the blocks at point `t`. -/
def prod (c : Dev nD) (t : Fin cfg0.N) : Vec Ideal S1024x1024 .f32 := k0_pay1 (F := Ideal) (iblk m c 0 t) (iblk m c 1 t)

/-- The product of the blocks at point `t` is the terms of that block of rows. -/
theorem block_eq (c : Dev nD) (t : Fin cfg0.N) (x : S1024x1024.Idx) (p : Fin 2048) (q : Fin 1024)
    (hp : (p : Nat) = t.val / 2 * 1024 + (x 0 : Nat)) (hq : (q : Nat) = x 1) :
    prod m c t x
      = ∑ k : Fin 4096, Block.ext (term (m ((c : Thread nD τ).loc main_arg0)) (m ((c : Thread nD τ).loc main_arg1)) p q) (t.val % 2 * 4096 + k) := by
  obtain ⟨⟨a0, a1⟩, ⟨b0, b1⟩, -⟩ := idx t
  unfold prod
  rw [pay_apply]
  refine Finset.sum_congr rfl fun k _ => ?_
  have hk : (k : Nat) < 4096 := k.isLt
  rw [Block.ext_eq _ _ (by omega)]
  unfold term
  congr 1
  · refine Block.congr2 (m ((c : Thread nD τ).loc main_arg0)) ?_ ?_
    · exact (Pipeline.Window.rect_emb_val win0_0 t (ix2 k (x 0)) 0).trans (by rw [a0]; rfl)
    · exact (Pipeline.Window.rect_emb_val win0_0 t (ix2 k (x 0)) 1).trans (by rw [a1]; exact hp.symm)
  · refine Block.congr2 (m ((c : Thread nD τ).loc main_arg1)) ?_ ?_
    · exact (Pipeline.Window.rect_emb_val win0_1 t (ix2 k (x 1)) 0).trans (by rw [b0]; rfl)
    · exact (Pipeline.Window.rect_emb_val_of_index_zero win0_1 t 1 b1 (ix2 k (x 1))).trans hq.symm

/-- The accumulator after point `t`. -/
def acc (c : Dev nD) (t : Nat) (h : t < cfg0.N) : Vec Ideal S1024x1024 .f32 := (outsAt0 m c t h).2

theorem step_A (c : Dev nD) (t : Fin cfg0.N) (h0 : t.val % 2 = 0) : acc m c t.val t.isLt = prod m c t := by
  have h1 : ¬t.val % 2 = 1 := by omega
  unfold acc prod
  rw [outsAt0_A m c t h0 h1 h1]
  dsimp only
  rw [acc_A]

theorem step_B (c : Dev nD) (t : Fin cfg0.N) (h0 : ¬t.val % 2 = 0) :
    acc m c t.val t.isLt = addf (F := Ideal) (s := S1024x1024) (φ := .f32) (acc m c (t.val - 1) (by omega)) (prod m c t) := by
  have h1 : t.val % 2 = 1 := by omega
  unfold acc prod
  rw [outsAt0_B m c t h0 h1 h1]
  dsimp only
  rw [acc_B]

/-- What the accumulator holds after point `t`: the terms of the blocks of rows so far. -/
theorem acc_eq (c : Dev nD) (x : S1024x1024.Idx) (p : Fin 2048) (q : Fin 1024) (hq : (q : Nat) = x 1) (t : ℕ) (h : t < cfg0.N)
    (hp : (p : Nat) = t / 2 * 1024 + (x 0 : Nat)) :
    acc m c t h x = Block.part (term (m ((c : Thread nD τ).loc main_arg0)) (m ((c : Thread nD τ).loc main_arg1)) p q) (t % 2 * 4096 + 4096) := by
  refine Block.part_of_steps 2 4096 (t / 2) (by omega) (fun t h => acc m c t h x) _ (fun s hs h0 hsq => ?_) (fun s hs h0 hsq => ?_) t h rfl
  · exact (congrFun (step_A m c ⟨s, hs⟩ h0) x).trans (block_eq m c ⟨s, hs⟩ x p q (by rw [hp, ← hsq]) hq)
  · exact (congrFun (step_B m c ⟨s, hs⟩ h0) x).trans (congrArg (acc m c (s - 1) _ x + ·) (block_eq m c ⟨s, hs⟩ x p q (by rw [hp, ← hsq]) hq))

/-- The result array the run is shown to leave. -/
abbrev result (c : Dev nD) : Buf (Elt Ideal) ((c : Thread nD τ).loc main_v0) :=
  dw (m ((c : Thread nD τ).loc main_arg0)) (m ((c : Thread nD τ).loc main_arg1))

/-- What a last point `t` writes back is its block of the result. -/
theorem flushed_eq (c : Dev nD) (t : Fin cfg0.N) (hf : (cfg0.win 2).flush t = true) :
    (dats m 0 c).flushed 2 t = ((cfg0.win 2).blk t).view.read (Elt Ideal) (result m c) := by
  have h1 : t.val % 2 = 1 := (flush0_2 t).mp hf
  have h0 : ¬t.val % 2 = 0 := by omega
  obtain ⟨-, -, d0, d1⟩ := idx t
  have hs : (dats m 0 c).flushed 2 t = (cfg0.win 2).cut (grid0.coords t) (k0_pay4 (F := Ideal) (acc m c t.val t.isLt)) := by
    rw [Cert.DwOutIdeal.Value.flushed2_B m c t h0 h1 h1, out_B, step_B m c t h0]; rfl
  rw [hs]
  funext y
  have f0 : (((cfg0.win 2).blk t).view.emb y 0 : Nat) = t.val / 2 * 1024 + (y 0 : Nat) := by
    rw [← d0]; exact Pipeline.Window.rect_emb_val win0_2 t y 0
  have f1 : (((cfg0.win 2).blk t).view.emb y 1 : Nat) = (y 1 : Nat) :=
    Pipeline.Window.rect_emb_val_of_index_zero win0_2 t 1 d1 y
  have key := acc_eq m c y (((cfg0.win 2).blk t).view.emb y 0) (((cfg0.win 2).blk t).view.emb y 1) f1 t.val t.isLt f0
  rw [Block.part_all _ _ (by omega)] at key
  have hc : ∀ X : Vec Ideal S1024x1024 .bf16, (cfg0.win 2).cut (grid0.coords t) X y = X y := fun _ => rfl
  have hr : ∀ X : Buf (Elt Ideal) ((c : Thread nD τ).loc main_v0),
      ((cfg0.win 2).blk t).view.read (Elt Ideal) X y = X (((cfg0.win 2).blk t).view.emb y) := fun _ => rfl
  exact (hc _).trans ((pay4_apply _ _).trans (key.trans (hr (result m c)).symm))

/-- The blocks tile the result. -/
theorem cover (i : S2048x1024.Idx) : ∃ t : Fin cfg0.N, (cfg0.win 2).flush t = true ∧ i ∈ ((cfg0.win 2).blk t).view.set := by
  have h0 : (i 0 : Nat) < 2048 := (i 0).isLt
  have h1 : (i 1 : Nat) < 1024 := (i 1).isLt
  have hN : cfg0.N = 4 := N_0
  obtain ⟨t, ht⟩ : ∃ t : Fin cfg0.N, t.val = (i 0 : Nat) / 1024 * 2 + 1 := ⟨⟨(i 0 : Nat) / 1024 * 2 + 1, by omega⟩, rfl⟩
  obtain ⟨-, -, d0, d1⟩ := idx t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 2) * 1024 ≤ (i 0 : Nat) ∧ (i 0 : Nat) < win0_2.index t (0 : Fin 2) * 1024 + 1024
    rw [d0]; omega
  | ⟨1, _⟩ =>
    show win0_2.index t (1 : Fin 2) * 1024 ≤ (i 1 : Nat) ∧ (i 1 : Nat) < win0_2.index t (1 : Fin 2) * 1024 + 1024
    rw [d1]; omega

/-- The run, with the result named. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans
    ((dats m 0 c).arrAt_eq_of_cover 2 (result m c) (fun t ht => flushed_eq m c t ht) cover), (h c).2⟩) (Cert.DwOutIdeal.Value.run_blocks m ρ)

end Cert.DwOutVal

namespace Cert.DwOutVal

open Cert.DwOutRefIdeal Cert.DwOutRefIdeal.Gen Cert.DwOutRefIdeal.Read

/-- The reference's result is the same function of the arguments. -/
theorem ref_eq (x0 : (⟨S8192x2048, .bf16⟩ : BufTy).Contents (Elt Ideal)) (x1 : (⟨S8192x1024, .bf16⟩ : BufTy).Contents (Elt Ideal)) :
    val_main_v6 (F := Ideal) x0 x1 = dw x0 x1 := by
  funext i
  simp only [val_main_v6, val_main_v5, val_main_v4, val_main_v3, val_main_v1, pointwise, zero_add]
  unfold dw term
  exact Finset.sum_congr rfl fun k _ => mul_comm _ _

/-- The reference's run, with the result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v6_eq _ _).trans (ref_eq _ _)), (h c).2⟩)
    (Cert.DwOutRefIdeal.Value.run (F := Ideal) m ρ)

end Cert.DwOutVal

end
-- ==== Proof.DwIn.lean ====
/-
  The value of the gradient of the mixer's input weight: what the kernel's run leaves in its result is, at every index, the
  product of a column of the normalised inputs with a column of the gradient of the projections, summed over all the rows;
  the kernel sums them in two blocks of rows.
-/
module

public import proofs.«01_k».proof.Proof.Block
public import proofs.«01_k».proof.Proof.Gen.DwInIdeal.Value
public import proofs.«01_k».proof.Proof.Gen.DwInRefIdeal.Run
public import proofs.«01_k».proof.Proof.Gen.DwInRefIdeal.Read
public import Idealize.ShloMosaic.Lib.Tactic

@[expose] public section

noncomputable section

open Idealize.ShloMosaic Idealize.ShloMosaic.TcCoe Idealize.SL.Sem
open Idealize.ShloMosaic.Pipeline (Dat)

namespace Cert.DwInVal

open Cert.DwInIdeal Cert.DwInIdeal.Gen

variable (m : (ℓ : Loc nD τ sig) → Buf (Elt Ideal) ℓ) (ρ : Dev nD → PrngReg)

theorem hz : (![0, 0] : Fin 2 → Nat) = fun _ => 0 := funext fun a => by fin_cases a <;> rfl

/-- One term of the result at `(p, q)`: what row `k` adds. -/
def term (a : (⟨2, ![8192, 1024]⟩ : Shape).Idx → EReal) (b : (⟨2, ![8192, 5760]⟩ : Shape).Idx → EReal)
    (p : Fin 1024) (q : Fin 5760) (k : Fin 8192) : EReal :=
  a (ix2 k p) * b (ix2 k q)

/-- The result, as a function of the normalised inputs `a` and the gradient of the projections `b`. -/
def dw (a : (⟨2, ![8192, 1024]⟩ : Shape).Idx → EReal) (b : (⟨2, ![8192, 5760]⟩ : Shape).Idx → EReal)
    (y : (⟨2, ![1024, 5760]⟩ : Shape).Idx) : EReal :=
  ∑ k : Fin 8192, term a b (y 0) (y 1) k

/-- The product of one block of rows, at an index. -/
theorem pay_apply (v : Vec Ideal S4096x1024 .bf16) (w : Vec Ideal S4096x1152 .bf16) (x : S1024x1152.Idx) :
    k0_pay1 (F := Ideal) v w x = ∑ k : Fin 4096, v (ix2 k (x 0)) * w (ix2 k (x 1)) := by
  unfold k0_pay1
  simp only [pointwise, zero_add]

/-- What is stored at the end, at an index. -/
theorem pay4_apply (s : Vec Ideal S1024x1152 .f32) (x : S1024x1152.Idx) : k0_pay4 (F := Ideal) s x = s x := by
  unfold k0_pay4
  simp only [pointwise]

/-- The first block's point leaves the block's product in the accumulator. -/
theorem acc_A (c : Dev nD) (i : grid0.Coords) (a2 : Memref sig .tc .vmem S4096x1024 .bf16) (h2 : a2.IsWhole)
    (a3 : Memref sig .tc .vmem S4096x1152 .bf16) (h3 : a3.IsWhole) (a4 : Memref sig .tc .vmem S1024x1152 .bf16) (h4 : a4.IsWhole)
    (a5 : Memref sig .tc .vmem S1024x1152 .f32) (h5 : a5.IsWhole) (hc0 : cond0_0 i) (hc1 : ¬cond0_1 i) (hc2 : ¬cond0_2 i)
    (x0 : Vec Ideal S4096x1024 .bf16) (x1 : Vec Ideal S4096x1152 .bf16) :
    sout0_A_0 (F := Ideal) c i a2 h2 a3 h3 a4 h4 a5 h5 hc0 hc1 hc2 x0 x1 = k0_pay1 (F := Ideal) x0 x1 := by
  unfold sout0_A_0
  rw [View.read_writes_eq_canon _ _ _ (scover0_A_0 c i a2 h2 a3 h3 a4 h4 a5 h5 hc0 hc1 hc2 x0 x1)]
  unfold kernelRun0_A
  dsimp only
  rw [View.canon_unit_zero hz]
  unfold k0_pay2
  simp only [View.readAt_eq_ld, h2.read_unread, h3.read_unread, View.ld_unit_zero (S := S4096x1024) hz, View.ld_unit_zero (S := S4096x1152) hz, shapeCast_self]

/-- A later block's point adds the block's product to the accumulator. -/
theorem acc_B (c : Dev nD) (i : grid0.Coords) (a2 : Memref sig .tc .vmem S4096x1024 .bf16) (h2 : a2.IsWhole)
    (a3 : Memref sig .tc .vmem S4096x1152 .bf16) (h3 : a3.IsWhole) (a4 : Memref sig .tc .vmem S1024x1152 .bf16) (h4 : a4.IsWhole)
    (a5 : Memref sig .tc .vmem S1024x1152 .f32) (h5 : a5.IsWhole) (hc0 : ¬cond0_0 i) (hc1 : cond0_1 i) (hc2 : cond0_2 i)
    (x0 : Vec Ideal S4096x1024 .bf16) (x1 : Vec Ideal S4096x1152 .bf16) (s : Vec Ideal S1024x1152 .f32) :
    sout0_B_0 (F := Ideal) c i a2 h2 a3 h3 a4 h4 a5 h5 hc0 hc1 hc2 x0 x1 s = addf s (k0_pay1 (F := Ideal) x0 x1) := by
  unfold sout0_B_0
  rw [View.read_writes_eq_canon _ _ _ (scover0_B_0 c i a2 h2 a3 h3 a4 h4 a5 h5 hc0 hc1 hc2 x0 x1 s)]
  unfold kernelRun0_B
  dsimp only
  sl_unfold_words
  rw [View.canon_unit_zero hz]
  unfold k0_pay3
  simp only [View.readAt_eq_ld, h2.read_unread, h3.read_unread, h5.read_unread, View.ld_unit_zero (S := S4096x1024) hz, View.ld_unit_zero (S := S4096x1152) hz,
    View.ld_unit_zero (S := S1024x1152) hz, shapeCast_self]

/-- The last block's point stores the accumulator. -/
theorem out_B (c : Dev nD) (i : grid0.Coords) (a2 : Memref sig .tc .vmem S4096x1024 .bf16) (h2 : a2.IsWhole)
    (a3 : Memref sig .tc .vmem S4096x1152 .bf16) (h3 : a3.IsWhole) (a4 : Memref sig .tc .vmem S1024x1152 .bf16) (h4 : a4.IsWhole)
    (a5 : Memref sig .tc .vmem S1024x1152 .f32) (h5 : a5.IsWhole) (hc0 : ¬cond0_0 i) (hc1 : cond0_1 i) (hc2 : cond0_2 i)
    (x0 : Vec Ideal S4096x1024 .bf16) (x1 : Vec Ideal S4096x1152 .bf16) (s : Vec Ideal S1024x1152 .f32) :
    out0_B_2 (F := Ideal) c i a2 h2 a3 h3 a4 h4 a5 h5 hc0 hc1 hc2 x0 x1 s
      = k0_pay4 (F := Ideal) (addf s (k0_pay1 (F := Ideal) x0 x1)) := by
  unfold out0_B_2
  rw [View.read_writes_eq_canon _ _ _ (cover0_B_2 c i a2 h2 a3 h3 a4 h4 a5 h5 hc0 hc1 hc2 x0 x1 s)]
  unfold kernelRun0_B
  dsimp only
  sl_unfold_words
  rw [View.canon_unit_zero hz, View.readCov_unit_zero (S := S1024x1152) _ hz]
  unfold k0_pay3
  simp only [View.readAt_eq_ld, h2.read_unread, h3.read_unread, h5.read_unread, View.ld_unit_zero (S := S4096x1024) hz, View.ld_unit_zero (S := S4096x1152) hz,
    View.ld_unit_zero (S := S1024x1152) hz, shapeCast_self]

/-- The block indices of the windows at each grid point. -/
theorem idx : ∀ t : Fin cfg0.N, (win0_0.index t (0 : Fin 2) = t.val % 2 ∧ win0_0.index t (1 : Fin 2) = 0)
    ∧ (win0_1.index t (0 : Fin 2) = t.val % 2 ∧ win0_1.index t (1 : Fin 2) = t.val / 2)
    ∧ (win0_2.index t (0 : Fin 2) = 0 ∧ win0_2.index t (1 : Fin 2) = t.val / 2) :=
  (by decide +kernel : ∀ t : Fin grid0.N, _)

/-- The product of the blocks at point `t`. -/
def prod (c : Dev nD) (t : Fin cfg0.N) : Vec Ideal S1024x1152 .f32 := k0_pay1 (F := Ideal) (iblk m c 0 t) (iblk m c 1 t)

/-- The product of the blocks at point `t` is the terms of that block of rows. -/
theorem block_eq (c : Dev nD) (t : Fin cfg0.N) (x : S1024x1152.Idx) (p : Fin 1024) (q : Fin 5760)
    (hp : (p : Nat) = x 0) (hq : (q : Nat) = t.val / 2 * 1152 + (x 1 : Nat)) :
    prod m c t x
      = ∑ k : Fin 4096, Block.ext (term (m ((c : Thread nD τ).loc main_arg0)) (m ((c : Thread nD τ).loc main_arg1)) p q) (t.val % 2 * 4096 + k) := by
  obtain ⟨⟨a0, a1⟩, ⟨b0, b1⟩, -⟩ := idx t
  unfold prod
  rw [pay_apply]
  refine Finset.sum_congr rfl fun k _ => ?_
  have hk : (k : Nat) < 4096 := k.isLt
  rw [Block.ext_eq _ _ (by omega)]
  unfold term
  congr 1
  · refine Block.congr2 (m ((c : Thread nD τ).loc main_arg0)) ?_ ?_
    · exact (Pipeline.Window.rect_emb_val win0_0 t (ix2 k (x 0)) 0).trans (by rw [a0]; rfl)
    · exact (Pipeline.Window.rect_emb_val_of_index_zero win0_0 t 1 a1 (ix2 k (x 0))).trans hp.symm
  · refine Block.congr2 (m ((c : Thread nD τ).loc main_arg1)) ?_ ?_
    · exact (Pipeline.Window.rect_emb_val win0_1 t (ix2 k (x 1)) 0).trans (by rw [b0]; rfl)
    · exact (Pipeline.Window.rect_emb_val win0_1 t (ix2 k (x 1)) 1).trans (by rw [b1]; exact hq.symm)

/-- The accumulator after point `t`. -/
def acc (c : Dev nD) (t : Nat) (h : t < cfg0.N) : Vec Ideal S1024x1152 .f32 := (outsAt0 m c t h).2

theorem step_A (c : Dev nD) (t : Fin cfg0.N) (h0 : t.val % 2 = 0) : acc m c t.val t.isLt = prod m c t := by
  have h1 : ¬t.val % 2 = 1 := by omega
  unfold acc prod
  rw [outsAt0_A m c t h0 h1 h1]
  dsimp only
  rw [acc_A]

theorem step_B (c : Dev nD) (t : Fin cfg0.N) (h0 : ¬t.val % 2 = 0) :
    acc m c t.val t.isLt = addf (F := Ideal) (s := S1024x1152) (φ := .f32) (acc m c (t.val - 1) (by omega)) (prod m c t) := by
  have h1 : t.val % 2 = 1 := by omega
  unfold acc prod
  rw [outsAt0_B m c t h0 h1 h1]
  dsimp only
  rw [acc_B]

/-- What the accumulator holds after point `t`: the terms of the blocks of rows so far. -/
theorem acc_eq (c : Dev nD) (x : S1024x1152.Idx) (p : Fin 1024) (q : Fin 5760) (hp : (p : Nat) = x 0) (t : ℕ) (h : t < cfg0.N)
    (hq : (q : Nat) = t / 2 * 1152 + (x 1 : Nat)) :
    acc m c t h x = Block.part (term (m ((c : Thread nD τ).loc main_arg0)) (m ((c : Thread nD τ).loc main_arg1)) p q) (t % 2 * 4096 + 4096) := by
  refine Block.part_of_steps 2 4096 (t / 2) (by omega) (fun t h => acc m c t h x) _ (fun s hs h0 hsq => ?_) (fun s hs h0 hsq => ?_) t h rfl
  · exact (congrFun (step_A m c ⟨s, hs⟩ h0) x).trans (block_eq m c ⟨s, hs⟩ x p q hp (by rw [hq, ← hsq]))
  · exact (congrFun (step_B m c ⟨s, hs⟩ h0) x).trans (congrArg (acc m c (s - 1) _ x + ·) (block_eq m c ⟨s, hs⟩ x p q hp (by rw [hq, ← hsq])))

/-- The result array the run is shown to leave. -/
abbrev result (c : Dev nD) : Buf (Elt Ideal) ((c : Thread nD τ).loc main_v0) :=
  dw (m ((c : Thread nD τ).loc main_arg0)) (m ((c : Thread nD τ).loc main_arg1))

/-- What a last point `t` writes back is its block of the result. -/
theorem flushed_eq (c : Dev nD) (t : Fin cfg0.N) (hf : (cfg0.win 2).flush t = true) :
    (dats m 0 c).flushed 2 t = ((cfg0.win 2).blk t).view.read (Elt Ideal) (result m c) := by
  have h1 : t.val % 2 = 1 := (flush0_2 t).mp hf
  have h0 : ¬t.val % 2 = 0 := by omega
  obtain ⟨-, -, d0, d1⟩ := idx t
  have hs : (dats m 0 c).flushed 2 t = (cfg0.win 2).cut (grid0.coords t) (k0_pay4 (F := Ideal) (acc m c t.val t.isLt)) := by
    rw [Cert.DwInIdeal.Value.flushed2_B m c t h0 h1 h1, out_B, step_B m c t h0]; rfl
  rw [hs]
  funext y
  have f0 : (((cfg0.win 2).blk t).view.emb y 0 : Nat) = (y 0 : Nat) :=
    Pipeline.Window.rect_emb_val_of_index_zero win0_2 t 0 d0 y
  have f1 : (((cfg0.win 2).blk t).view.emb y 1 : Nat) = t.val / 2 * 1152 + (y 1 : Nat) := by
    rw [← d1]; exact Pipeline.Window.rect_emb_val win0_2 t y 1
  have key := acc_eq m c y (((cfg0.win 2).blk t).view.emb y 0) (((cfg0.win 2).blk t).view.emb y 1) f0 t.val t.isLt f1
  rw [Block.part_all _ _ (by omega)] at key
  have hc : ∀ X : Vec Ideal S1024x1152 .bf16, (cfg0.win 2).cut (grid0.coords t) X y = X y := fun _ => rfl
  have hr : ∀ X : Buf (Elt Ideal) ((c : Thread nD τ).loc main_v0),
      ((cfg0.win 2).blk t).view.read (Elt Ideal) X y = X (((cfg0.win 2).blk t).view.emb y) := fun _ => rfl
  exact (hc _).trans ((pay4_apply _ _).trans (key.trans (hr (result m c)).symm))

/-- The blocks tile the result. -/
theorem cover (i : S1024x5760.Idx) : ∃ t : Fin cfg0.N, (cfg0.win 2).flush t = true ∧ i ∈ ((cfg0.win 2).blk t).view.set := by
  have h0 : (i 0 : Nat) < 1024 := (i 0).isLt
  have h1 : (i 1 : Nat) < 5760 := (i 1).isLt
  have hN : cfg0.N = 10 := N_0
  obtain ⟨t, ht⟩ : ∃ t : Fin cfg0.N, t.val = (i 1 : Nat) / 1152 * 2 + 1 := ⟨⟨(i 1 : Nat) / 1152 * 2 + 1, by omega⟩, rfl⟩
  obtain ⟨-, -, d0, d1⟩ := idx t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 2) * 1024 ≤ (i 0 : Nat) ∧ (i 0 : Nat) < win0_2.index t (0 : Fin 2) * 1024 + 1024
    rw [d0]; omega
  | ⟨1, _⟩ =>
    show win0_2.index t (1 : Fin 2) * 1152 ≤ (i 1 : Nat) ∧ (i 1 : Nat) < win0_2.index t (1 : Fin 2) * 1152 + 1152
    rw [d1]; omega

/-- The run, with the result named. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans
    ((dats m 0 c).arrAt_eq_of_cover 2 (result m c) (fun t ht => flushed_eq m c t ht) cover), (h c).2⟩) (Cert.DwInIdeal.Value.run_blocks m ρ)

end Cert.DwInVal

namespace Cert.DwInVal

open Cert.DwInRefIdeal Cert.DwInRefIdeal.Gen Cert.DwInRefIdeal.Read

/-- The reference's result is the same function of the arguments. -/
theorem ref_eq (x0 : (⟨S8192x1024, .bf16⟩ : BufTy).Contents (Elt Ideal)) (x1 : (⟨S8192x5760, .bf16⟩ : BufTy).Contents (Elt Ideal)) :
    val_main_v6 (F := Ideal) x0 x1 = dw x0 x1 := by
  funext i
  simp only [val_main_v6, val_main_v5, val_main_v4, val_main_v3, val_main_v1, pointwise, zero_add]
  unfold dw term
  exact Finset.sum_congr rfl fun k _ => mul_comm _ _

/-- The reference's run, with the result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v6_eq _ _).trans (ref_eq _ _)), (h c).2⟩)
    (Cert.DwInRefIdeal.Value.run (F := Ideal) m ρ)

end Cert.DwInVal

end
-- ==== Proof.Norm.lean ====
/-
  The norm of a row and what the products that begin with it share.
-/
module

public import proofs.«01_k».proof.Proof.Block

@[expose] public section

noncomputable section

open Idealize.ShloMosaic Idealize.SL.Sem

namespace Cert.Norm

/-- A function of a three-axis index is determined by the coordinates. -/
theorem congr3 {α : Type} {a b c : Nat} (X : (⟨3, ![a, b, c]⟩ : Shape).Idx → α) {i j : (⟨3, ![a, b, c]⟩ : Shape).Idx}
    (h0 : (i 0 : Nat) = (j 0 : Nat)) (h1 : (i 1 : Nat) = (j 1 : Nat)) (h2 : (i 2 : Nat) = (j 2 : Nat)) : X i = X j :=
  congrArg X (funext fun d => match d with | ⟨0, _⟩ => Fin.ext h0 | ⟨1, _⟩ => Fin.ext h1 | ⟨2, _⟩ => Fin.ext h2)

/-- The inverse root of a row's mean square. -/
def scale (row : Fin 1024 → EReal) : EReal :=
  Ideal.rsqrt (Ideal.div (∑ k : Fin 1024, row k * row k) (Ideal.ofBits FTy.f32 0x44800000#32) + Ideal.ofBits FTy.f32 0x3727C5AC#32)

/-- A normed row, at a column. -/
def nrm {n : Nat} (x : (⟨2, ![n, 1024]⟩ : Shape).Idx → EReal) (w : (⟨2, ![1, 1024]⟩ : Shape).Idx → EReal) (p : Fin n)
    (k : Fin 1024) : EReal :=
  x (ix2 p k) * scale (fun j => x (ix2 p j)) * w (ix2 0 k)

/-- The normed rows. -/
def rows {n : Nat} (x : (⟨2, ![n, 1024]⟩ : Shape).Idx → EReal) (w : (⟨2, ![1, 1024]⟩ : Shape).Idx → EReal)
    (y : (⟨2, ![n, 1024]⟩ : Shape).Idx) : EReal :=
  nrm x w (y 0) (y 1)

/-- Equal rows and equal weights have equal norms. -/
theorem nrm_congr {n n' : Nat} (x : (⟨2, ![n, 1024]⟩ : Shape).Idx → EReal) (x' : (⟨2, ![n', 1024]⟩ : Shape).Idx → EReal)
    (w w' : (⟨2, ![1, 1024]⟩ : Shape).Idx → EReal) (p : Fin n) (p' : Fin n') (k k' : Fin 1024)
    (hx : ∀ j, x (ix2 p j) = x' (ix2 p' j)) (hw : ∀ j, w (ix2 0 j) = w' (ix2 0 j)) (hk : (k : Nat) = k') :
    nrm x w p k = nrm x' w' p' k' := by
  have e : k = k' := Fin.ext hk
  subst e
  unfold nrm
  rw [hx k, hw k, show (fun j => x (ix2 p j)) = fun j => x' (ix2 p' j) from funext hx]

/-- A normed row as the printed operations have it. -/
theorem rows_apply {n : Nat} (x : (⟨2, ![n, 1024]⟩ : Shape).Idx → EReal) (w : (⟨2, ![1, 1024]⟩ : Shape).Idx → EReal)
    (y : (⟨2, ![n, 1024]⟩ : Shape).Idx) (p : Fin n) (hp : (p : Nat) = y 0) (z : (⟨2, ![1, 1024]⟩ : Shape).Idx)
    (hz : (z 1 : Nat) = y 1) : x y * scale (fun k => x (ix2 p k)) * w z = rows x w y := by
  obtain rfl : p = y 0 := Fin.ext hp
  unfold rows nrm
  rw [Block.congr2 x (i := y) (j := ix2 (y 0) (y 1)) rfl rfl,
    Block.congr2 w (i := z) (j := ix2 0 (y 1)) (by have := (z 0).isLt; show (z 0 : Nat) = 0; exact Nat.lt_one_iff.mp this) hz]

end Cert.Norm

end
-- ==== Proof.NormBwd.lean ====
/-
  The backward pass of the norm of a row: the form that subtracts the mean of the products from each product is the derivative
  of the norm, over the extended reals and for every row.
-/
module

public import proofs.«01_k».proof.Proof.Norm

@[expose] public section

noncomputable section

open Idealize.ShloMosaic Idealize.SL.Sem

namespace Cert.Norm

/-- The number of columns. -/
abbrev cols : EReal := Ideal.ofBits FTy.f32 0x44800000#32

theorem cols_eq : cols = ((1024 : ℝ) : EReal) := by
  simp [cols, Ideal.ofBits, Ideal.ieee, -EReal.coe_mul]; norm_num

theorem half_eq : Ideal.ofBits FTy.f32 0xBF000000#32 = ((-(1 / 2) : ℝ) : EReal) := by
  simp [Ideal.ofBits, Ideal.ieee, -EReal.coe_mul, -EReal.coe_neg]; norm_num

theorem eps_pos : ∃ e : ℝ, 0 < e ∧ Ideal.ofBits FTy.f32 0x3727C5AC#32 = (e : EReal) := by
  refine ⟨_, ?_, by simp [Ideal.ofBits, Ideal.ieee, -EReal.coe_mul]; rfl⟩
  norm_num

/-- The mean square of a row and the small number added to it. -/
def ms (row : Fin 1024 → EReal) : EReal :=
  Ideal.div (∑ k : Fin 1024, row k * row k) cols + Ideal.ofBits FTy.f32 0x3727C5AC#32

theorem scale_eq (row : Fin 1024 → EReal) : scale row = Ideal.rsqrt (ms row) := rfl

theorem div_cols (a : EReal) : Ideal.div a cols = a * ((1 / 1024 : ℝ) : EReal) := by
  rw [cols_eq, Ideal.div_coe (by norm_num)]

/-- A sum of reals is the real of the sum. -/
theorem coe_sum {ι : Type} (s : Finset ι) (f : ι → ℝ) : (∑ k ∈ s, (f k : EReal)) = ((∑ k ∈ s, f k : ℝ) : EReal) := by
  classical
  induction s using Finset.induction with
  | empty => simp
  | insert a s ha ih => rw [Finset.sum_insert ha, Finset.sum_insert ha, ih, EReal.coe_add]

/-- A factor that is a real and not negative goes out of a sum. -/
theorem sum_mul_real {ι : Type} (s : Finset ι) (f : ι → EReal) (r : ℝ) (hr : 0 ≤ r) :
    (∑ k ∈ s, f k * (r : EReal)) = (∑ k ∈ s, f k) * (r : EReal) := by
  classical
  induction s using Finset.induction with
  | empty => simp
  | insert a s ha ih =>
    rw [Finset.sum_insert ha, Finset.sum_insert ha, ih,
      EReal.right_distrib_of_nonneg_of_ne_top (by exact_mod_cast hr) (EReal.coe_ne_top r)]

theorem sq_nonneg' (a : EReal) : 0 ≤ a * a := by
  rcases le_total 0 a with h | h
  · exact EReal.mul_nonneg h h
  · exact EReal.mul_nonneg_iff.mpr (Or.inr ⟨h, h⟩)

/-- The mean square is infinite, or it is a positive real and the row is real. -/
theorem ms_cases (row : Fin 1024 → EReal) :
    ms row = ⊤ ∨ ∃ (v : ℝ) (f : Fin 1024 → ℝ), 0 < v ∧ ms row = (v : EReal) ∧ row = fun k => (f k : EReal) := by
  obtain ⟨e, he, hee⟩ := eps_pos
  by_cases h : ∀ k, row k ≠ ⊤ ∧ row k ≠ ⊥
  · right
    have hf : row = fun k => ((row k).toReal : EReal) := funext fun k => (EReal.coe_toReal (h k).1 (h k).2).symm
    refine ⟨(∑ k, (row k).toReal * (row k).toReal) * (1 / 1024) + e, fun k => (row k).toReal, ?_, ?_, hf⟩
    · have : 0 ≤ ∑ k, (row k).toReal * (row k).toReal := Finset.sum_nonneg fun k _ => mul_self_nonneg _
      positivity
    · unfold ms
      rw [div_cols, hee, EReal.coe_add, EReal.coe_mul, ← coe_sum]
      refine congrArg (· * _ + _) (Finset.sum_congr rfl fun k _ => ?_)
      rw [EReal.coe_mul, EReal.coe_toReal (h k).1 (h k).2]
  · left
    obtain ⟨k, hk⟩ : ∃ k, row k = ⊤ ∨ row k = ⊥ := by
      by_contra hn
      exact h fun k => ⟨fun a => hn ⟨k, Or.inl a⟩, fun a => hn ⟨k, Or.inr a⟩⟩
    have hkk : row k * row k = ⊤ := by rcases hk with hk | hk <;> rw [hk] <;> rfl
    have hs : (∑ k, row k * row k) = ⊤ :=
      top_le_iff.mp (hkk ▸ Finset.single_le_sum (f := fun k => row k * row k) (fun j _ => sq_nonneg' _) (Finset.mem_univ k))
    unfold ms
    rw [hs, div_cols, hee, EReal.top_mul_coe_of_pos (by norm_num)]
    rfl

/-- Twice an extended real. -/
theorem add_self (a : EReal) : a + a = a * ((2 : ℝ) : EReal) := by
  induction a using EReal.rec with
  | bot => rw [EReal.bot_mul_coe_of_pos (by norm_num)]; rfl
  | top => rw [EReal.top_mul_coe_of_pos (by norm_num)]; rfl
  | coe x => rw [← EReal.coe_add, ← EReal.coe_mul]; congr 1; ring

/-- The correction that the mean square's derivative adds, twice. -/
def corr (row g : Fin 1024 → EReal) : EReal :=
  Ideal.div ((∑ k, row k * g k) * (Ideal.ofBits FTy.f32 0xBF000000#32 * Ideal.div (scale row) (ms row))) cols

/-- The backward pass of the norm, at a column: the products less their mean, and the derivative. -/
theorem bwd_eq (row g : Fin 1024 → EReal) (q : Fin 1024) :
    scale row * (g q - row q * scale row * Ideal.div (∑ k, g k * (row k * scale row)) cols)
      = g q * scale row + row q * corr row g + corr row g * row q := by
  unfold corr
  rcases ms_cases row with h | ⟨v, f, hv, h, hf⟩
  · rw [scale_eq, h, Ideal.rsqrt_top]
    have hd : Ideal.div (0 : EReal) ⊤ = 0 := by unfold Ideal.div; rw [if_neg (by decide)]; simp
    simp only [hd, div_cols, mul_zero, zero_mul, add_zero]
  · have hs : scale row = ((Real.sqrt v)⁻¹ : ℝ) := by
      rw [scale_eq, h, Ideal.rsqrt_coe, if_neg (not_lt.mpr hv.le), if_neg hv.ne']
    obtain ⟨r, hr⟩ : ∃ r : ℝ, r = (Real.sqrt v)⁻¹ := ⟨_, rfl⟩
    have hr0 : 0 < r := by rw [hr]; positivity
    have hrv : r * r = 1 / v := by
      rw [hr, ← mul_inv, Real.mul_self_sqrt hv.le, one_div]
    rw [hs, ← hr, h, hf]
    obtain ⟨S, hS⟩ : ∃ S : EReal, S = ∑ k, (f k : EReal) * g k := ⟨_, rfl⟩
    have h1 : (∑ k, g k * ((f k : EReal) * (r : EReal))) = S * r := by
      rw [hS, ← sum_mul_real _ _ _ hr0.le]
      exact Finset.sum_congr rfl fun k _ => by rw [← mul_assoc, mul_comm (g k)]
    dsimp only
    rw [h1, ← hS, div_cols, div_cols, half_eq, Ideal.div_coe hv.ne', sub_eq_add_neg,
      EReal.left_distrib_of_nonneg_of_ne_top (by exact_mod_cast hr0.le) (EReal.coe_ne_top r), add_assoc]
    have h2 : (r : EReal) * -((f q : EReal) * r * (S * r * ((1 / 1024 : ℝ) : EReal)))
        = S * ((-(r * (f q * r) * r * (1 / 1024)) : ℝ) : EReal) := by
      rw [mul_neg, EReal.coe_neg, mul_neg]
      congr 1
      simp only [EReal.coe_mul]
      ac_rfl
    have h3 : S * (((-(1 / 2) : ℝ) : EReal) * ((r : EReal) * ((1 / v : ℝ) : EReal))) * ((1 / 1024 : ℝ) : EReal)
        = S * ((-(1 / 2) * (r * (1 / v)) * (1 / 1024) : ℝ) : EReal) := by
      simp only [EReal.coe_mul]
      ac_rfl
    rw [h2, h3]
    have h4 : ∀ d : ℝ, (f q : EReal) * (S * (d : EReal)) + S * (d : EReal) * (f q : EReal) = S * ((d * f q * 2 : ℝ) : EReal) := by
      intro d
      rw [mul_comm (f q : EReal), add_self, mul_assoc, mul_assoc]
      simp only [EReal.coe_mul, mul_assoc]
    rw [h4, mul_comm (r : EReal)]
    refine congrArg (fun d : ℝ => g q * (r : EReal) + S * (d : EReal)) ?_
    rw [← hrv]; ring

/-- A row's gradient through the norm. -/
def dx {n : Nat} (x : (⟨2, ![n, 1024]⟩ : Shape).Idx → EReal) (nw : (⟨2, ![1, 1024]⟩ : Shape).Idx → EReal)
    (dh : Fin n → Fin 1024 → EReal) (res : (⟨2, ![n, 1024]⟩ : Shape).Idx → EReal) (p : Fin n) (q : Fin 1024) : EReal :=
  res (ix2 p q) + scale (fun k => x (ix2 p k)) * (dh p q * nw (ix2 0 q) - x (ix2 p q) * scale (fun k => x (ix2 p k))
    * Ideal.div (∑ k, dh p k * nw (ix2 0 k) * (x (ix2 p k) * scale (fun k => x (ix2 p k)))) cols)

theorem dx_congr {n n' : Nat} (x : (⟨2, ![n, 1024]⟩ : Shape).Idx → EReal) (x' : (⟨2, ![n', 1024]⟩ : Shape).Idx → EReal)
    (w w' : (⟨2, ![1, 1024]⟩ : Shape).Idx → EReal) (dh : Fin n → Fin 1024 → EReal) (dh' : Fin n' → Fin 1024 → EReal)
    (res : (⟨2, ![n, 1024]⟩ : Shape).Idx → EReal) (res' : (⟨2, ![n', 1024]⟩ : Shape).Idx → EReal) (p : Fin n) (p' : Fin n')
    (k k' : Fin 1024) (hx : ∀ j, x (ix2 p j) = x' (ix2 p' j)) (hw : ∀ j, w (ix2 0 j) = w' (ix2 0 j))
    (hd : ∀ j, dh p j = dh' p' j) (hr : ∀ j, res (ix2 p j) = res' (ix2 p' j)) (hk : (k : Nat) = k') :
    dx x w dh res p k = dx x' w' dh' res' p' k' := by
  obtain rfl : k = k' := Fin.ext hk
  unfold dx
  simp only [hx, hw, hd, hr]

/-- What a row adds to the norm's weight's gradient, at a column. -/
def dnwTerm {n : Nat} (x : (⟨2, ![n, 1024]⟩ : Shape).Idx → EReal) (dh : Fin n → Fin 1024 → EReal) (q : Fin 1024) (p : Fin n) : EReal :=
  dh p q * (x (ix2 p q) * scale (fun k => x (ix2 p k)))

theorem dnwTerm_congr {n n' : Nat} (x : (⟨2, ![n, 1024]⟩ : Shape).Idx → EReal) (x' : (⟨2, ![n', 1024]⟩ : Shape).Idx → EReal)
    (dh : Fin n → Fin 1024 → EReal) (dh' : Fin n' → Fin 1024 → EReal) (p : Fin n) (p' : Fin n') (k k' : Fin 1024)
    (hx : ∀ j, x (ix2 p j) = x' (ix2 p' j)) (hd : ∀ j, dh p j = dh' p' j) (hk : (k : Nat) = k') :
    dnwTerm x dh k p = dnwTerm x' dh' k' p' := by
  obtain rfl : k = k' := Fin.ext hk
  unfold dnwTerm
  simp only [hx, hd]

/-- The norm's weight's gradient, in the first of eight rows; the others are zero. -/
def dnw (x : (⟨2, ![8192, 1024]⟩ : Shape).Idx → EReal) (dh : Fin 8192 → Fin 1024 → EReal)
    (y : (⟨2, ![8, 1024]⟩ : Shape).Idx) : EReal :=
  if (y 0 : Nat) = 0 then ∑ p : Fin 8192, dnwTerm x dh (y 1) p else 0

end Cert.Norm

end
-- ==== Proof.Row.lean ====
/-
  The first of eight rows: a store of it, and a row padded to eight, at an index.
-/
module

public import proofs.«01_k».proof.Proof.Block
public import Idealize.ShloMosaic.Lib.WritesUnit

@[expose] public section

noncomputable section

open Idealize.ShloMosaic Idealize.SL.Sem

namespace Cert.Norm

/-- A store of the first of eight rows, at an index. -/
theorem row_write {sig : RefSig} {κ : Kind} {sp : Space} {e : EltTy} {Val : EltTy → Type}
    (v : View sig κ sp (⟨2, ![8, 1024]⟩ : Shape) e) (f : v.ty.Contents Val)
    (inb : ∀ a : Fin 2, (![0, 0] : Fin 2 → Nat) a + (![1, 1024] : Fin 2 → Nat) a ≤ (⟨2, ![8, 1024]⟩ : Shape).size a)
    (w : (⟨2, ![1, 1024]⟩ : Shape).Idx → Val e) (L : List (View.Piece Val (⟨2, ![8, 1024]⟩ : Shape) e)) (y : (⟨2, ![8, 1024]⟩ : Shape).Idx) :
    v.read Val (v.writes Val f ((⟨Rect.unit (s := (⟨2, ![8, 1024]⟩ : Shape)) ![0, 0] ![1, 1024] inb, w⟩ : View.Piece Val (⟨2, ![8, 1024]⟩ : Shape) e) :: L)) y
      = if (y 0 : Nat) = 0 then w (ix2 0 (y 1)) else v.read Val (v.writes Val f L) y := by
  by_cases hy : (y 0 : Nat) = 0
  · rw [if_pos hy]
    exact View.read_writes_cons_unit_of_mem v f inb w L y (ix2 0 (y 1)) rfl
      (Fin.forall_fin_two.mpr ⟨hy.trans (Nat.zero_add _).symm, (Nat.zero_add _).symm⟩)
  · rw [if_neg hy]
    exact View.read_writes_cons_unit_of_not_mem v f inb w L y rfl 0 (Or.inr (by show 0 + 1 ≤ (y 0 : Nat); omega))

/-- A store of all the eight rows, at an index. -/
theorem whole_write {sig : RefSig} {κ : Kind} {sp : Space} {e : EltTy} {Val : EltTy → Type}
    (v : View sig κ sp (⟨2, ![8, 1024]⟩ : Shape) e) (f : v.ty.Contents Val)
    (inb : ∀ a : Fin 2, (![0, 0] : Fin 2 → Nat) a + (![8, 1024] : Fin 2 → Nat) a ≤ (⟨2, ![8, 1024]⟩ : Shape).size a)
    (w : (⟨2, ![8, 1024]⟩ : Shape).Idx → Val e) (L : List (View.Piece Val (⟨2, ![8, 1024]⟩ : Shape) e)) (y : (⟨2, ![8, 1024]⟩ : Shape).Idx) :
    v.read Val (v.writes Val f ((⟨Rect.unit (s := (⟨2, ![8, 1024]⟩ : Shape)) ![0, 0] ![8, 1024] inb, w⟩ : View.Piece Val (⟨2, ![8, 1024]⟩ : Shape) e) :: L)) y
      = w y :=
  View.read_writes_cons_unit_of_mem v f inb w L y y rfl (Fin.forall_fin_two.mpr ⟨(Nat.zero_add _).symm, (Nat.zero_add _).symm⟩)

/-- A row padded to eight with a value, at an index. -/
theorem pad_row {α : Type} (x : (⟨2, ![1, 1024]⟩ : Shape).Idx → α) {u : Shape} (v : u.Idx → α)
    (h : (⟨2, ![1, 1024]⟩ : Shape).Pads ![0, 0] ![7, 0] ![0, 0] (⟨2, ![8, 1024]⟩ : Shape)) (hu : 0 < u.numel) (y : (⟨2, ![8, 1024]⟩ : Shape).Idx) :
    pad (⟨2, ![8, 1024]⟩ : Shape) ![0, 0] ![7, 0] ![0, 0] x v h hu y = if (y 0 : Nat) = 0 then x (ix2 0 (y 1)) else v (Shape.Idx.first hu) := by
  have h0 : (y 0 : Nat) < 8 := (y 0).isLt
  have h1 : (y 1 : Nat) < 1024 := (y 1).isLt
  by_cases hy : (y 0 : Nat) = 0
  · rw [if_pos hy]
    unfold pad
    rw [dif_pos (Fin.forall_fin_two.mpr
      ⟨⟨Nat.zero_le _, by show ((y 0 : Nat) - 0) % 1 = 0; omega, by show ((y 0 : Nat) - 0) / 1 < 1; omega⟩,
        ⟨Nat.zero_le _, by show ((y 1 : Nat) - 0) % 1 = 0; omega, by show ((y 1 : Nat) - 0) / 1 < 1024; omega⟩⟩)]
    exact Block.congr2 x (by show ((y 0 : Nat) - 0) / 1 = 0; omega) (by show ((y 1 : Nat) - 0) / 1 = y 1; omega)
  · rw [if_neg hy]
    unfold pad
    rw [dif_neg (fun hh => by have := (hh (0 : Fin 2)).2.2; change ((y 0 : Nat) - 0) / 1 < 1 at this; omega)]

end Cert.Norm

end
-- ==== Proof.MlpDx.lean ====
/-
  The value of the gradient through the MLP's up product and its norm: the gradient of the rows is the derivative of the norm
  applied to the product of the incoming gradient with the transposed weight, added to the gradient that passes by; the gradient
  of the norm's weight is a sum over all the rows, which the kernel makes in sixteen blocks in the first of eight rows.
-/
module

public import proofs.«01_k».proof.Proof.NormBwd
public import proofs.«01_k».proof.Proof.Row
public import proofs.«01_k».proof.Proof.Gen.MlpDxIdeal.Value
public import proofs.«01_k».proof.Proof.Gen.MlpDxRefIdeal.Run
public import proofs.«01_k».proof.Proof.Gen.MlpDxRefIdeal.Read
public import Idealize.ShloMosaic.Lib.Tactic
public import Idealize.ShloMosaic.Lib.Pipeline.ReadBack

@[expose] public section

noncomputable section

open Idealize.ShloMosaic Idealize.ShloMosaic.TcCoe Idealize.SL.Sem
open Idealize.ShloMosaic.Pipeline (Dat)

namespace Cert.MlpDxVal

open Cert.MlpDxIdeal Cert.MlpDxIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The weight's element at a row `q` and a column `k` of its chunks joined. -/
def at3 (w : (⟨3, ![8, 1024, 512]⟩ : Shape).Idx → EReal) (q : Fin 1024) (k : Fin 4096) : EReal :=
  w (ix3 (⟨(k : Nat) / 512, by have := k.isLt; omega⟩ : Fin 8) q (⟨(k : Nat) % 512, by omega⟩ : Fin 512))

/-- A product of the gradient of the normed rows. -/
def term {n : Nat} (d : (⟨2, ![n, 4096]⟩ : Shape).Idx → EReal) (w : (⟨3, ![8, 1024, 512]⟩ : Shape).Idx → EReal) (p : Fin n)
    (q : Fin 1024) (k : Fin 4096) : EReal :=
  d (ix2 p k) * at3 w q k

/-- The gradient of the normed rows: the incoming gradient `d` over `n` rows times the transposed weight `w`, in 8 chunks of columns. -/
def dh {n : Nat} (d : (⟨2, ![n, 4096]⟩ : Shape).Idx → EReal) (w : (⟨3, ![8, 1024, 512]⟩ : Shape).Idx → EReal) (p : Fin n)
    (q : Fin 1024) : EReal :=
  ∑ k : Fin 4096, term d w p q k

theorem dh_congr {n n' : Nat} (d : (⟨2, ![n, 4096]⟩ : Shape).Idx → EReal) (d' : (⟨2, ![n', 4096]⟩ : Shape).Idx → EReal)
    (w w' : (⟨3, ![8, 1024, 512]⟩ : Shape).Idx → EReal) (p : Fin n) (p' : Fin n') (q : Fin 1024)
    (hd : ∀ k, d (ix2 p k) = d' (ix2 p' k)) (hw : ∀ g k, w (ix3 g q k) = w' (ix3 g q k)) : dh d w p q = dh d' w' p' q := by
  unfold dh term at3
  simp only [hd, hw]

/-- The product of a chunk of the incoming gradient's columns with a chunk of the weight. -/
def chunk (a : Vec Ideal S512x512 .bf16) (b : Vec Ideal S1x1024x512 .bf16) (p : Fin 512) (q : Fin 1024) : EReal :=
  ∑ k : Fin 512, a (ix2 p k) * b (ix3 0 q k)

/-- The first four products of the body, at an index. -/
theorem pay4_apply (a0 : Vec Ideal S512x512 .bf16) (b0 : Vec Ideal S1x1024x512 .bf16) (a1 : Vec Ideal S512x512 .bf16)
    (b1 : Vec Ideal S1x1024x512 .bf16) (a2 : Vec Ideal S512x512 .bf16) (b2 : Vec Ideal S1x1024x512 .bf16)
    (a3 : Vec Ideal S512x512 .bf16) (b3 : Vec Ideal S1x1024x512 .bf16) (x : S512x1024.Idx) :
    k0_pay4 (F := Ideal) a0 b0 a1 b1 a2 b2 a3 b3 x
      = chunk a0 b0 (x 0) (x 1) + chunk a1 b1 (x 0) (x 1) + chunk a2 b2 (x 0) (x 1) + chunk a3 b3 (x 0) (x 1) := by
  unfold k0_pay4
  simp only [pointwise, zero_add]
  rfl

/-- The fifth product of the body, at an index. -/
theorem pay5_apply (a : Vec Ideal S512x512 .bf16) (b : Vec Ideal S1x1024x512 .bf16) (x : S512x1024.Idx) :
    k0_pay5 (F := Ideal) a b x = chunk a b (x 0) (x 1) := by
  unfold k0_pay5
  simp only [pointwise, zero_add]
  rfl

/-- The sum with the last three products of the body, at an index. -/
theorem pay6_apply (s t : FVec Ideal S512x1024 .f32) (a0 : Vec Ideal S512x512 .bf16) (b0 : Vec Ideal S1x1024x512 .bf16) (a1 : Vec Ideal S512x512 .bf16)
    (b1 : Vec Ideal S1x1024x512 .bf16) (a2 : Vec Ideal S512x512 .bf16) (b2 : Vec Ideal S1x1024x512 .bf16) (x : S512x1024.Idx) :
    k0_pay6 (F := Ideal) s t a0 b0 a1 b1 a2 b2 x
      = s x + t x + chunk a0 b0 (x 0) (x 1) + chunk a1 b1 (x 0) (x 1) + chunk a2 b2 (x 0) (x 1) := by
  unfold k0_pay6
  simp only [pointwise, zero_add]
  rfl

/-- Chunk `j` is the block of products at offset `512 * j`. -/
theorem chunk_eq (x0 : Vec Ideal S512x4096 .bf16) (x1 : Vec Ideal S8x1024x512 .bf16) (j o : Nat) (ho : o = 512 * j)
    (h1 : ∀ a, (![0, o] : Fin 2 → Nat) a + S512x512.size a ≤ S512x4096.size a)
    (h2 : ∀ a, (![j, 0, 0] : Fin 3 → Nat) a + S1x1024x512.size a ≤ S8x1024x512.size a) (p : Fin 512) (q : Fin 1024) :
    chunk (View.ld x0 (Rect.unit (s := S512x4096) ![0, o] S512x512.size h1))
        (View.ld x1 (Rect.unit (s := S8x1024x512) ![j, 0, 0] S1x1024x512.size h2)) p q
      = ∑ k : Fin 512, Block.ext (term x0 x1 p q) (o + k) := by
  have hj : j + 1 ≤ 8 := h2 0
  refine Finset.sum_congr rfl fun k _ => ?_
  have hk : (k : Nat) < 512 := k.isLt
  rw [Block.ext_eq _ _ (by omega)]
  unfold term at3
  have q0 : j = (o + (k : Nat)) / 512 := by omega
  have q1 : (k : Nat) = (o + (k : Nat)) % 512 := by omega
  congr 1
  · exact Block.congr2 x0 ((Block.emb_val (s := S512x4096) ![0, o] S512x512.size h1 (ix2 p k) 0).trans (Nat.zero_add _))
      (Block.emb_val (s := S512x4096) ![0, o] S512x512.size h1 (ix2 p k) 1)
  · exact Norm.congr3 x1 ((Block.emb_val (s := S8x1024x512) ![j, 0, 0] S1x1024x512.size h2 (ix3 0 q k) 0).trans q0)
      ((Block.emb_val (s := S8x1024x512) ![j, 0, 0] S1x1024x512.size h2 (ix3 0 q k) 1).trans (Nat.zero_add _))
      (((Block.emb_val (s := S8x1024x512) ![j, 0, 0] S1x1024x512.size h2 (ix3 0 q k) 2).trans (Nat.zero_add _)).trans q1)

/-- The product of the body: the eight chunks are all of its terms. -/
theorem prod_eq (x0 : Vec Ideal S512x4096 .bf16) (x1 : Vec Ideal S8x1024x512 .bf16) :
    k0_pay6 (F := Ideal) (k0_pay4 (F := Ideal)
      (View.ld x0 (Rect.unit (s := S512x4096) ![0, 0] S512x512.size inb_S512x4096_S512x512_0_0))
      (View.ld x1 (Rect.unit (s := S8x1024x512) ![0, 0, 0] S1x1024x512.size inb_S8x1024x512_S1x1024x512_0_0_0))
      (View.ld x0 (Rect.unit (s := S512x4096) ![0, 512] S512x512.size inb_S512x4096_S512x512_0_512))
      (View.ld x1 (Rect.unit (s := S8x1024x512) ![1, 0, 0] S1x1024x512.size inb_S8x1024x512_S1x1024x512_1_0_0))
      (View.ld x0 (Rect.unit (s := S512x4096) ![0, 1024] S512x512.size inb_S512x4096_S512x512_0_1024))
      (View.ld x1 (Rect.unit (s := S8x1024x512) ![2, 0, 0] S1x1024x512.size inb_S8x1024x512_S1x1024x512_2_0_0))
      (View.ld x0 (Rect.unit (s := S512x4096) ![0, 1536] S512x512.size inb_S512x4096_S512x512_0_1536))
      (View.ld x1 (Rect.unit (s := S8x1024x512) ![3, 0, 0] S1x1024x512.size inb_S8x1024x512_S1x1024x512_3_0_0)))
      (k0_pay5 (F := Ideal)
      (View.ld x0 (Rect.unit (s := S512x4096) ![0, 2048] S512x512.size inb_S512x4096_S512x512_0_2048))
      (View.ld x1 (Rect.unit (s := S8x1024x512) ![4, 0, 0] S1x1024x512.size inb_S8x1024x512_S1x1024x512_4_0_0)))
      (View.ld x0 (Rect.unit (s := S512x4096) ![0, 2560] S512x512.size inb_S512x4096_S512x512_0_2560))
      (View.ld x1 (Rect.unit (s := S8x1024x512) ![5, 0, 0] S1x1024x512.size inb_S8x1024x512_S1x1024x512_5_0_0))
      (View.ld x0 (Rect.unit (s := S512x4096) ![0, 3072] S512x512.size inb_S512x4096_S512x512_0_3072))
      (View.ld x1 (Rect.unit (s := S8x1024x512) ![6, 0, 0] S1x1024x512.size inb_S8x1024x512_S1x1024x512_6_0_0))
      (View.ld x0 (Rect.unit (s := S512x4096) ![0, 3584] S512x512.size inb_S512x4096_S512x512_0_3584))
      (View.ld x1 (Rect.unit (s := S8x1024x512) ![7, 0, 0] S1x1024x512.size inb_S8x1024x512_S1x1024x512_7_0_0))
      = fun x => dh x0 x1 (x 0) (x 1) := by
  funext x
  have hs : ∀ {a a' b b' c c' d d' e e' f f' g g' h h' : EReal}, a = a' → b = b' → c = c' → d = d' → e = e' → f = f' → g = g' → h = h' →
      a + b + c + d + e + f + g + h = a' + b' + c' + d' + e' + f' + g' + h' := by
    intros; subst_vars; rfl
  refine (pay6_apply _ _ _ _ _ _ _ _ x).trans ?_
  rw [pay4_apply, pay5_apply]
  refine (hs (chunk_eq x0 x1 0 0 rfl _ _ _ _) (chunk_eq x0 x1 1 512 rfl _ _ _ _) (chunk_eq x0 x1 2 1024 rfl _ _ _ _)
    (chunk_eq x0 x1 3 1536 rfl _ _ _ _) (chunk_eq x0 x1 4 2048 rfl _ _ _ _) (chunk_eq x0 x1 5 2560 rfl _ _ _ _)
    (chunk_eq x0 x1 6 3072 rfl _ _ _ _) (chunk_eq x0 x1 7 3584 rfl _ _ _ _)).trans ?_
  unfold dh
  rw [← Block.part_all (term x0 x1 (x 0) (x 1)) 4096 rfl]
  have e1 := Block.part_add (term x0 x1 (x 0) (x 1)) 3584 512
  have e2 := Block.part_add (term x0 x1 (x 0) (x 1)) 3072 512
  have e3 := Block.part_add (term x0 x1 (x 0) (x 1)) 2560 512
  have e4 := Block.part_add (term x0 x1 (x 0) (x 1)) 2048 512
  have e5 := Block.part_add (term x0 x1 (x 0) (x 1)) 1536 512
  have e6 := Block.part_add (term x0 x1 (x 0) (x 1)) 1024 512
  have e7 := Block.part_add (term x0 x1 (x 0) (x 1)) 512 512
  have e8 := Block.part_add (term x0 x1 (x 0) (x 1)) 0 512
  have e9 : Block.part (term x0 x1 (x 0) (x 1)) 0 = 0 := by
    unfold Block.part; rw [Finset.range_zero, Finset.sum_empty]
  refine Eq.symm (e1.trans (congrArg (· + _) (e2.trans (congrArg (· + _) (e3.trans (congrArg (· + _) (e4.trans
    (congrArg (· + _) (e5.trans (congrArg (· + _) (e6.trans (congrArg (· + _) (e7.trans (congrArg (· + _) (e8.trans ((congrArg (· + _) e9).trans (zero_add _)))))))))))))))))

/-- The inverse root of the mean square of the body. -/
theorem pay7_scale (x : Vec Ideal S512x1024 .f32) (y : S512x1.Idx) :
    k0_pay7 (F := Ideal) x y = Norm.scale (fun k => x (ix2 (y 0) k)) := by
  unfold k0_pay7
  simp only [pointwise, zero_add]
  rfl

/-- The scaled rows of the body. -/
theorem pay8_apply (x : Vec Ideal S512x1024 .f32) (y : S512x1024.Idx) :
    k0_pay8 (F := Ideal) x y = x y * Norm.scale (fun k => x (ix2 (y 0) k)) := by
  unfold k0_pay8
  simp only [pointwise, pay7_scale]
  rfl

/-- The rows' gradient of the body. -/
theorem pay1_gen (P : FVec Ideal S512x1024 .f32) (g : Fin 512 → Fin 1024 → EReal) (hP : P = fun x => g (x 0) (x 1))
    (x : Vec Ideal S512x1024 .f32) (nw : Vec Ideal S1x1024 .f32) (res : Vec Ideal S512x1024 .f32) (y : S512x1024.Idx) :
    k0_pay1 (F := Ideal) P (k0_pay7 (F := Ideal) x) (k0_pay8 (F := Ideal) x) nw res y = Norm.dx x nw g res (y 0) (y 1) := by
  obtain ⟨p, q, rfl⟩ : ∃ p q, y = ix2 p q := ⟨y 0, y 1, funext fun a => match a with | ⟨0, _⟩ => rfl | ⟨1, _⟩ => rfl⟩
  subst hP
  unfold k0_pay1 Norm.dx
  simp only [pointwise, zero_add, pay7_scale, pay8_apply]
  rfl

theorem pay2_gen (P : FVec Ideal S512x1024 .f32) (g : Fin 512 → Fin 1024 → EReal) (hP : P = fun x => g (x 0) (x 1))
    (x : Vec Ideal S512x1024 .f32) (nw : Vec Ideal S1x1024 .f32) (res : Vec Ideal S512x1024 .f32) (y : S512x1024.Idx) :
    k0_pay2 (F := Ideal) P (k0_pay7 (F := Ideal) x) (k0_pay8 (F := Ideal) x) nw res y = Norm.dx x nw g res (y 0) (y 1) := by
  unfold k0_pay2
  simp only [pointwise]
  exact pay1_gen P g hP x nw res y

theorem pay3_apply (y : S8x1024.Idx) : k0_pay3 (F := Ideal) y = 0 := by
  unfold k0_pay3
  simp only [pointwise]

/-- What a block adds to the norm's weight's gradient. -/
theorem pay9_apply (x0 : Vec Ideal S512x4096 .bf16) (x1 : Vec Ideal S8x1024x512 .bf16) (x : Vec Ideal S512x1024 .f32)
    (a : Vec Ideal S1x1024 .f32) (y : S1x1024.Idx) :
    k0_pay9 (F := Ideal) (k0_pay4 (F := Ideal)
      (View.ld x0 (Rect.unit (s := S512x4096) ![0, 0] S512x512.size inb_S512x4096_S512x512_0_0))
      (View.ld x1 (Rect.unit (s := S8x1024x512) ![0, 0, 0] S1x1024x512.size inb_S8x1024x512_S1x1024x512_0_0_0))
      (View.ld x0 (Rect.unit (s := S512x4096) ![0, 512] S512x512.size inb_S512x4096_S512x512_0_512))
      (View.ld x1 (Rect.unit (s := S8x1024x512) ![1, 0, 0] S1x1024x512.size inb_S8x1024x512_S1x1024x512_1_0_0))
      (View.ld x0 (Rect.unit (s := S512x4096) ![0, 1024] S512x512.size inb_S512x4096_S512x512_0_1024))
      (View.ld x1 (Rect.unit (s := S8x1024x512) ![2, 0, 0] S1x1024x512.size inb_S8x1024x512_S1x1024x512_2_0_0))
      (View.ld x0 (Rect.unit (s := S512x4096) ![0, 1536] S512x512.size inb_S512x4096_S512x512_0_1536))
      (View.ld x1 (Rect.unit (s := S8x1024x512) ![3, 0, 0] S1x1024x512.size inb_S8x1024x512_S1x1024x512_3_0_0)))
      (k0_pay5 (F := Ideal)
      (View.ld x0 (Rect.unit (s := S512x4096) ![0, 2048] S512x512.size inb_S512x4096_S512x512_0_2048))
      (View.ld x1 (Rect.unit (s := S8x1024x512) ![4, 0, 0] S1x1024x512.size inb_S8x1024x512_S1x1024x512_4_0_0)))
      (View.ld x0 (Rect.unit (s := S512x4096) ![0, 2560] S512x512.size inb_S512x4096_S512x512_0_2560))
      (View.ld x1 (Rect.unit (s := S8x1024x512) ![5, 0, 0] S1x1024x512.size inb_S8x1024x512_S1x1024x512_5_0_0))
      (View.ld x0 (Rect.unit (s := S512x4096) ![0, 3072] S512x512.size inb_S512x4096_S512x512_0_3072))
      (View.ld x1 (Rect.unit (s := S8x1024x512) ![6, 0, 0] S1x1024x512.size inb_S8x1024x512_S1x1024x512_6_0_0))
      (View.ld x0 (Rect.unit (s := S512x4096) ![0, 3584] S512x512.size inb_S512x4096_S512x512_0_3584))
      (View.ld x1 (Rect.unit (s := S8x1024x512) ![7, 0, 0] S1x1024x512.size inb_S8x1024x512_S1x1024x512_7_0_0))
      x a y
      = a y + ∑ p : Fin 512, Norm.dnwTerm x (dh x0 x1) (y 1) p := by
  unfold k0_pay9
  rw [prod_eq]
  simp only [pointwise, zero_add, pay8_apply, shapeCast_self]
  rfl

section
variable (c : Dev nD) (i : grid0.Coords) (a1 : Memref sig .tc .vmem S512x4096 .bf16) (h1 : a1.IsWhole)
  (a2 : Memref sig .tc .vmem S8x1024x512 .bf16) (h2 : a2.IsWhole) (a3 : Memref sig .tc .vmem S512x1024 .f32) (h3 : a3.IsWhole)
  (a4 : Memref sig .tc .vmem S1x1024 .f32) (h4 : a4.IsWhole) (a5 : Memref sig .tc .vmem S512x1024 .f32) (h5 : a5.IsWhole)
  (a6 : Memref sig .tc .vmem S512x1024 .f32) (h6 : a6.IsWhole) (a7 : Memref sig .tc .vmem S512x1024 .bf16) (h7 : a7.IsWhole)
  (a8 : Memref sig .tc .vmem S8x1024 .f32) (h8 : a8.IsWhole) (x0 : Vec Ideal S512x4096 .bf16) (x1 : Vec Ideal S8x1024x512 .bf16)
  (x2 : Vec Ideal S512x1024 .f32) (x3 : Vec Ideal S1x1024 .f32) (x4 : Vec Ideal S512x1024 .f32) (xo : Vec Ideal S8x1024 .f32)

/-- What the first point leaves in the rows' gradient. -/
theorem out5_A (hc0 : cond0_0 i) :
    out0_A_5 (F := Ideal) c i a1 h1 a2 h2 a3 h3 a4 h4 a5 h5 a6 h6 a7 h7 a8 h8 hc0 x0 x1 x2 x3 x4
      = fun y => Norm.dx x2 x3 (dh x0 x1) x4 (y 0) (y 1) := by
  unfold out0_A_5
  rw [View.read_writes_eq_canon _ _ _ (cover0_A_5 c i a1 h1 a2 h2 a3 h3 a4 h4 a5 h5 a6 h6 a7 h7 a8 h8 hc0 x0 x1 x2 x3 x4)]
  unfold kernelRun0_A
  dsimp only
  sl_unfold_words
  rw [View.canon_unit_zero hz]
  simp only [View.readAt_eq_ld, h1.read_unread, h2.read_unread, h3.read_unread, h4.read_unread, h5.read_unread, h8.read_unread,
    View.ld_unit_zero (S := S512x1024) hz,
    View.ld_unit_zero (S := S1x1024) hz]
  funext y
  exact pay1_gen _ _ (prod_eq x0 x1) x2 x3 x4 y

/-- What the first point leaves in the rows' gradient, rounded. -/
theorem out6_A (hc0 : cond0_0 i) :
    out0_A_6 (F := Ideal) c i a1 h1 a2 h2 a3 h3 a4 h4 a5 h5 a6 h6 a7 h7 a8 h8 hc0 x0 x1 x2 x3 x4
      = fun y => Norm.dx x2 x3 (dh x0 x1) x4 (y 0) (y 1) := by
  unfold out0_A_6
  rw [View.read_writes_eq_canon _ _ _ (cover0_A_6 c i a1 h1 a2 h2 a3 h3 a4 h4 a5 h5 a6 h6 a7 h7 a8 h8 hc0 x0 x1 x2 x3 x4)]
  unfold kernelRun0_A
  dsimp only
  sl_unfold_words
  rw [View.canon_unit_zero hz]
  simp only [View.readAt_eq_ld, h1.read_unread, h2.read_unread, h3.read_unread, h4.read_unread, h5.read_unread, h8.read_unread,
    View.ld_unit_zero (S := S512x1024) hz,
    View.ld_unit_zero (S := S1x1024) hz]
  funext y
  exact pay2_gen _ _ (prod_eq x0 x1) x2 x3 x4 y

/-- What a later point leaves in the rows' gradient. -/
theorem out5_B (hc0 : ¬cond0_0 i) :
    out0_B_5 (F := Ideal) c i a1 h1 a2 h2 a3 h3 a4 h4 a5 h5 a6 h6 a7 h7 a8 h8 hc0 x0 x1 x2 x3 x4 xo
      = fun y => Norm.dx x2 x3 (dh x0 x1) x4 (y 0) (y 1) := by
  unfold out0_B_5
  rw [View.read_writes_eq_canon _ _ _ (cover0_B_5 c i a1 h1 a2 h2 a3 h3 a4 h4 a5 h5 a6 h6 a7 h7 a8 h8 hc0 x0 x1 x2 x3 x4 xo)]
  unfold kernelRun0_B
  dsimp only
  sl_unfold_words
  rw [View.canon_unit_zero hz]
  simp only [View.readAt_eq_ld, h1.read_unread, h2.read_unread, h3.read_unread, h4.read_unread, h5.read_unread, h8.read_unread,
    View.ld_unit_zero (S := S512x1024) hz,
    View.ld_unit_zero (S := S1x1024) hz]
  funext y
  exact pay1_gen _ _ (prod_eq x0 x1) x2 x3 x4 y

/-- What a later point leaves in the rows' gradient, rounded. -/
theorem out6_B (hc0 : ¬cond0_0 i) :
    out0_B_6 (F := Ideal) c i a1 h1 a2 h2 a3 h3 a4 h4 a5 h5 a6 h6 a7 h7 a8 h8 hc0 x0 x1 x2 x3 x4 xo
      = fun y => Norm.dx x2 x3 (dh x0 x1) x4 (y 0) (y 1) := by
  unfold out0_B_6
  rw [View.read_writes_eq_canon _ _ _ (cover0_B_6 c i a1 h1 a2 h2 a3 h3 a4 h4 a5 h5 a6 h6 a7 h7 a8 h8 hc0 x0 x1 x2 x3 x4 xo)]
  unfold kernelRun0_B
  dsimp only
  sl_unfold_words
  rw [View.canon_unit_zero hz]
  simp only [View.readAt_eq_ld, h1.read_unread, h2.read_unread, h3.read_unread, h4.read_unread, h5.read_unread, h8.read_unread,
    View.ld_unit_zero (S := S512x1024) hz,
    View.ld_unit_zero (S := S1x1024) hz]
  funext y
  exact pay2_gen _ _ (prod_eq x0 x1) x2 x3 x4 y

/-- What the first point leaves in the norm's weight's gradient: its block's sum in the first row, zero in the others. -/
theorem out7_A (hc0 : cond0_0 i) (y : S8x1024.Idx) :
    out0_A_7 (F := Ideal) c i a1 h1 a2 h2 a3 h3 a4 h4 a5 h5 a6 h6 a7 h7 a8 h8 hc0 x0 x1 x2 x3 x4 y
      = if (y 0 : Nat) = 0 then ∑ p : Fin 512, Norm.dnwTerm x2 (dh x0 x1) (y 1) p else 0 := by
  unfold out0_A_7 kernelRun0_A
  dsimp only
  sl_unfold_words
  refine (Norm.row_write _ _ _ _ _ y).trans ?_
  by_cases hy : (y 0 : Nat) = 0
  · rw [if_pos hy, if_pos hy]
    simp only [View.readAt_eq_ld, h1.read_unread, h2.read_unread, h3.read_unread, h4.read_unread, h5.read_unread, h8.read_unread,
    View.ld_unit_zero (S := S512x1024) hz,
    View.ld_unit_zero (S := S1x1024) hz]
    rw [View.readCov_fill _ _ _ _ _ (by decide)]
    refine (pay9_apply x0 x1 x2 _ _).trans ?_
    rw [Block.ld_apply, pay3_apply, zero_add]
    rfl
  · rw [if_neg hy, if_neg hy]
    exact (Norm.whole_write _ _ _ _ _ y).trans (pay3_apply y)

/-- What a later point leaves in the norm's weight's gradient: the first row has the block's sum added. -/
theorem out7_B (hc0 : ¬cond0_0 i) (y : S8x1024.Idx) :
    out0_B_7 (F := Ideal) c i a1 h1 a2 h2 a3 h3 a4 h4 a5 h5 a6 h6 a7 h7 a8 h8 hc0 x0 x1 x2 x3 x4 xo y
      = if (y 0 : Nat) = 0 then xo y + ∑ p : Fin 512, Norm.dnwTerm x2 (dh x0 x1) (y 1) p else xo y := by
  unfold out0_B_7 kernelRun0_B
  dsimp only
  sl_unfold_words
  refine (Norm.row_write _ _ _ _ _ y).trans ?_
  by_cases hy : (y 0 : Nat) = 0
  · rw [if_pos hy, if_pos hy]
    simp only [View.readAt_eq_ld, h1.read_unread, h2.read_unread, h3.read_unread, h4.read_unread, h5.read_unread, h8.read_unread,
    View.ld_unit_zero (S := S512x1024) hz,
    View.ld_unit_zero (S := S1x1024) hz]
    refine (pay9_apply x0 x1 x2 _ _).trans ?_
    refine congrArg (· + _) ?_
    rw [Block.ld_apply]
    exact Block.congr2 xo ((Block.emb_val (s := S8x1024) ![0, 0] ![1, 1024] inb_S8x1024_S1x1024_0_0 (ix2 0 (y 1)) 0).trans hy.symm)
      ((Block.emb_val (s := S8x1024) ![0, 0] ![1, 1024] inb_S8x1024_S1x1024_0_0 (ix2 0 (y 1)) 1).trans (Nat.zero_add _))
  · rw [if_neg hy, if_neg hy]
    exact congrFun (h8.read_unread xo) y

end

/-- The block indices of the windows at each grid point. -/
theorem idx : ∀ t : Fin cfg0.N, (win0_0.index t (0 : Fin 2) = t.val ∧ win0_0.index t (1 : Fin 2) = 0)
    ∧ (win0_1.index t (0 : Fin 3) = 0 ∧ win0_1.index t (1 : Fin 3) = 0 ∧ win0_1.index t (2 : Fin 3) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0) :=
  (by decide +kernel : ∀ t : Fin grid0.N, _)

/-- The gradient of the normed rows, of the whole arrays. -/
abbrev DH (c : Dev nD) : Fin 8192 → Fin 1024 → EReal :=
  dh (m ((c : Thread nD τ).loc main_arg0)) (m ((c : Thread nD τ).loc main_arg1))

/-- The result arrays the run is shown to leave. -/
abbrev result0 (c : Dev nD) : Buf (Elt Ideal) ((c : Thread nD τ).loc main_v0_0) := fun y : S8192x1024.Idx =>
  Norm.dx (m ((c : Thread nD τ).loc main_arg2)) (m ((c : Thread nD τ).loc main_arg3)) (DH m c) (m ((c : Thread nD τ).loc main_arg4)) (y 0) (y 1)
abbrev result1 (c : Dev nD) : Buf (Elt Ideal) ((c : Thread nD τ).loc main_v0_1) := fun y : S8192x1024.Idx =>
  Norm.dx (m ((c : Thread nD τ).loc main_arg2)) (m ((c : Thread nD τ).loc main_arg3)) (DH m c) (m ((c : Thread nD τ).loc main_arg4)) (y 0) (y 1)
abbrev result2 (c : Dev nD) : Buf (Elt Ideal) ((c : Thread nD τ).loc main_v0_2) :=
  Norm.dnw (m ((c : Thread nD τ).loc main_arg2)) (DH m c)

/-- A block of the rows is its rows of the array. -/
theorem x_blk (c : Dev nD) (t : Fin cfg0.N) (p : Fin 512) (p' : Fin 8192) (hp : (p' : Nat) = t.val * 512 + p) (j : Fin 1024) :
    iblk m c 2 t (ix2 p j) = m ((c : Thread nD τ).loc main_arg2) (ix2 p' j) := by
  obtain ⟨-, -, ⟨a0, a1⟩, -⟩ := idx t
  refine Block.congr2 (m ((c : Thread nD τ).loc main_arg2)) ?_ ?_
  · exact ((Pipeline.Window.rect_emb_val win0_2 t (ix2 p j) 0).trans (by rw [a0]; rfl)).trans hp.symm
  · exact Pipeline.Window.rect_emb_val_of_index_zero win0_2 t 1 a1 (ix2 p j)

/-- The norm's weight's only block. -/
theorem w_blk (c : Dev nD) (t : Fin cfg0.N) (j : Fin 1024) :
    iblk m c 3 t (ix2 0 j) = m ((c : Thread nD τ).loc main_arg3) (ix2 0 j) := by
  obtain ⟨-, -, -, ⟨a0, a1⟩, -⟩ := idx t
  refine Block.congr2 (m ((c : Thread nD τ).loc main_arg3)) ?_ ?_
  · exact Pipeline.Window.rect_emb_val_of_index_zero win0_3 t 0 a0 (ix2 0 j)
  · exact Pipeline.Window.rect_emb_val_of_index_zero win0_3 t 1 a1 (ix2 0 j)

/-- A block of the gradient that passes by is its rows of the array. -/
theorem res_blk (c : Dev nD) (t : Fin cfg0.N) (p : Fin 512) (p' : Fin 8192) (hp : (p' : Nat) = t.val * 512 + p) (j : Fin 1024) :
    iblk m c 4 t (ix2 p j) = m ((c : Thread nD τ).loc main_arg4) (ix2 p' j) := by
  obtain ⟨-, -, -, -, ⟨a0, a1⟩, -⟩ := idx t
  refine Block.congr2 (m ((c : Thread nD τ).loc main_arg4)) ?_ ?_
  · exact ((Pipeline.Window.rect_emb_val win0_4 t (ix2 p j) 0).trans (by rw [a0]; rfl)).trans hp.symm
  · exact Pipeline.Window.rect_emb_val_of_index_zero win0_4 t 1 a1 (ix2 p j)

/-- The gradient of the normed rows of a block is its rows of the whole. -/
theorem dh_blk (c : Dev nD) (t : Fin cfg0.N) (p : Fin 512) (p' : Fin 8192) (hp : (p' : Nat) = t.val * 512 + p) (j : Fin 1024) :
    dh (iblk m c 0 t) (iblk m c 1 t) p j = DH m c p' j := by
  obtain ⟨⟨a0, a1⟩, ⟨b0, b1, b2⟩, -⟩ := idx t
  refine dh_congr (iblk m c 0 t) _ (iblk m c 1 t) _ p p' j (fun k => ?_) (fun g k => ?_)
  · refine Block.congr2 (m ((c : Thread nD τ).loc main_arg0)) ?_ ?_
    · exact ((Pipeline.Window.rect_emb_val win0_0 t (ix2 p k) 0).trans (by rw [a0]; rfl)).trans hp.symm
    · exact Pipeline.Window.rect_emb_val_of_index_zero win0_0 t 1 a1 (ix2 p k)
  · refine Norm.congr3 (m ((c : Thread nD τ).loc main_arg1)) ?_ ?_ ?_
    · exact Pipeline.Window.rect_emb_val_of_index_zero win0_1 t 0 b0 (ix3 g j k)
    · exact Pipeline.Window.rect_emb_val_of_index_zero win0_1 t 1 b1 (ix3 g j k)
    · exact Pipeline.Window.rect_emb_val_of_index_zero win0_1 t 2 b2 (ix3 g j k)

/-- The rows' gradient of a block is its rows of the whole. -/
theorem dx_blk (c : Dev nD) (t : Fin cfg0.N) (p : Fin 512) (p' : Fin 8192) (hp : (p' : Nat) = t.val * 512 + p) (q q' : Fin 1024)
    (hq : (q : Nat) = q') :
    Norm.dx (iblk m c 2 t) (iblk m c 3 t) (dh (iblk m c 0 t) (iblk m c 1 t)) (iblk m c 4 t) p q
      = Norm.dx (m ((c : Thread nD τ).loc main_arg2)) (m ((c : Thread nD τ).loc main_arg3)) (DH m c) (m ((c : Thread nD τ).loc main_arg4)) p' q' :=
  Norm.dx_congr (iblk m c 2 t) _ (iblk m c 3 t) _ _ _ (iblk m c 4 t) _ p p' q q' (fun j => x_blk m c t p p' hp j) (fun j => w_blk m c t j)
    (fun j => dh_blk m c t p p' hp j) (fun j => res_blk m c t p p' hp j) hq

/-- What point `t` writes back to the rows' gradient is block `t` of it. -/
theorem flushed5_eq (c : Dev nD) (t : Fin cfg0.N) :
    (dats m 0 c).flushed 5 t = ((cfg0.win 5).blk t).view.read (Elt Ideal) (result0 m c) := by
  obtain ⟨-, -, -, -, -, ⟨d0, d1⟩, -⟩ := idx t
  have hs : (dats m 0 c).flushed 5 t = (cfg0.win 5).cut (grid0.coords t) (fun y : S512x1024.Idx =>
      Norm.dx (iblk m c 2 t) (iblk m c 3 t) (dh (iblk m c 0 t) (iblk m c 1 t)) (iblk m c 4 t) (y 0) (y 1)) := by
    by_cases h0 : t.val % 16 = 0
    · rw [Cert.MlpDxIdeal.Value.flushed5_A m c t h0, out5_A]
    · rw [Cert.MlpDxIdeal.Value.flushed5_B m c t h0, out5_B]
  rw [hs]
  funext y
  have f0 : (((cfg0.win 5).blk t).view.emb y 0 : Nat) = t.val * 512 + (y 0 : Nat) := by
    rw [← d0]; exact Pipeline.Window.rect_emb_val win0_5 t y 0
  have f1 : (((cfg0.win 5).blk t).view.emb y 1 : Nat) = (y 1 : Nat) :=
    Pipeline.Window.rect_emb_val_of_index_zero win0_5 t 1 d1 y
  show Norm.dx (iblk m c 2 t) (iblk m c 3 t) (dh (iblk m c 0 t) (iblk m c 1 t)) (iblk m c 4 t) (y 0) (y 1)
    = result0 m c (((cfg0.win 5).blk t).view.emb y)
  exact dx_blk m c t _ _ f0 _ _ f1.symm

/-- The blocks tile the rows' gradient. -/
theorem cover5 (i : S8192x1024.Idx) : ∃ t : Fin cfg0.N, (cfg0.win 5).flush t = true ∧ i ∈ ((cfg0.win 5).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0 : Nat) / 512 := ⟨⟨(i 0 : Nat) / 512, by omega⟩, rfl⟩
  obtain ⟨-, -, -, -, -, ⟨d0, d1⟩, -⟩ := idx t
  refine ⟨t, flush0_5 t, ?_⟩
  show i ∈ ((View.whole main_v0_0).slice (win0_5.rect t)).set
  rw [View.set_slice_whole, Rect.mem_set_unit]
  intro a
  match a with
  | ⟨0, _⟩ =>
    show win0_5.index t (0 : Fin 2) * 512 ≤ (i 0 : Nat) ∧ (i 0 : Nat) < win0_5.index t (0 : Fin 2) * 512 + 512
    rw [d0]; omega
  | ⟨1, _⟩ =>
    show win0_5.index t (1 : Fin 2) * 1024 ≤ (i 1 : Nat) ∧ (i 1 : Nat) < win0_5.index t (1 : Fin 2) * 1024 + 1024
    rw [d1]; omega

/-- What point `t` writes back to the rows' gradient, rounded, is block `t` of it. -/
theorem flushed6_eq (c : Dev nD) (t : Fin cfg0.N) :
    (dats m 0 c).flushed 6 t = ((cfg0.win 6).blk t).view.read (Elt Ideal) (result1 m c) := by
  obtain ⟨-, -, -, -, -, -, ⟨d0, d1⟩, -⟩ := idx t
  have hs : (dats m 0 c).flushed 6 t = (cfg0.win 6).cut (grid0.coords t) (fun y : S512x1024.Idx =>
      Norm.dx (iblk m c 2 t) (iblk m c 3 t) (dh (iblk m c 0 t) (iblk m c 1 t)) (iblk m c 4 t) (y 0) (y 1)) := by
    by_cases h0 : t.val % 16 = 0
    · rw [Cert.MlpDxIdeal.Value.flushed6_A m c t h0, out6_A]
    · rw [Cert.MlpDxIdeal.Value.flushed6_B m c t h0, out6_B]
  rw [hs]
  funext y
  have f0 : (((cfg0.win 6).blk t).view.emb y 0 : Nat) = t.val * 512 + (y 0 : Nat) := by
    rw [← d0]; exact Pipeline.Window.rect_emb_val win0_6 t y 0
  have f1 : (((cfg0.win 6).blk t).view.emb y 1 : Nat) = (y 1 : Nat) :=
    Pipeline.Window.rect_emb_val_of_index_zero win0_6 t 1 d1 y
  show Norm.dx (iblk m c 2 t) (iblk m c 3 t) (dh (iblk m c 0 t) (iblk m c 1 t)) (iblk m c 4 t) (y 0) (y 1)
    = result1 m c (((cfg0.win 6).blk t).view.emb y)
  exact dx_blk m c t _ _ f0 _ _ f1.symm

/-- The blocks tile the rows' gradient, rounded. -/
theorem cover6 (i : S8192x1024.Idx) : ∃ t : Fin cfg0.N, (cfg0.win 6).flush t = true ∧ i ∈ ((cfg0.win 6).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0 : Nat) / 512 := ⟨⟨(i 0 : Nat) / 512, by omega⟩, rfl⟩
  obtain ⟨-, -, -, -, -, -, ⟨d0, d1⟩, -⟩ := idx t
  refine ⟨t, flush0_6 t, ?_⟩
  show i ∈ ((View.whole main_v0_1).slice (win0_6.rect t)).set
  rw [View.set_slice_whole, Rect.mem_set_unit]
  intro a
  match a with
  | ⟨0, _⟩ =>
    show win0_6.index t (0 : Fin 2) * 512 ≤ (i 0 : Nat) ∧ (i 0 : Nat) < win0_6.index t (0 : Fin 2) * 512 + 512
    rw [d0]; omega
  | ⟨1, _⟩ =>
    show win0_6.index t (1 : Fin 2) * 1024 ≤ (i 1 : Nat) ∧ (i 1 : Nat) < win0_6.index t (1 : Fin 2) * 1024 + 1024
    rw [d1]; omega

/-- The norm's weight's gradient after point `t`. -/
def acc (c : Dev nD) (t : Nat) (h : t < cfg0.N) : Vec Ideal S8x1024 .f32 := (outsAt0 m c t h).2.2

/-- The sum of the rows of the block at point `t`. -/
def blockSum (c : Dev nD) (t : Fin cfg0.N) (q : Fin 1024) : EReal :=
  ∑ p : Fin 512, Norm.dnwTerm (iblk m c 2 t) (dh (iblk m c 0 t) (iblk m c 1 t)) q p

theorem step_A (c : Dev nD) (t : Fin cfg0.N) (h0 : t.val % 16 = 0) (y : S8x1024.Idx) :
    acc m c t.val t.isLt y = if (y 0 : Nat) = 0 then blockSum m c t (y 1) else 0 := by
  unfold acc
  rw [outsAt0_A m c t h0]
  dsimp only
  rw [out7_A]
  rfl

theorem step_B (c : Dev nD) (t : Fin cfg0.N) (h0 : ¬t.val % 16 = 0) (y : S8x1024.Idx) :
    acc m c t.val t.isLt y = if (y 0 : Nat) = 0 then acc m c (t.val - 1) (by omega) y + blockSum m c t (y 1)
      else acc m c (t.val - 1) (by omega) y := by
  unfold acc
  rw [outsAt0_B m c t h0]
  dsimp only
  rw [out7_B]
  rfl

/-- The sum of the block at point `t` is the terms of its rows of the whole. -/
theorem block_eq (c : Dev nD) (t : Fin cfg0.N) (q : Fin 1024) :
    blockSum m c t q = ∑ p : Fin 512, Block.ext (Norm.dnwTerm (m ((c : Thread nD τ).loc main_arg2)) (DH m c) q) (t.val % 16 * 512 + p) := by
  have hN : cfg0.N = 16 := N_0
  have ht : t.val < 16 := hN ▸ t.isLt
  refine Finset.sum_congr rfl fun p _ => ?_
  have hp : (p : Nat) < 512 := p.isLt
  rw [Block.ext_eq _ _ (by omega)]
  have e : t.val % 16 * 512 + (p : Nat) = t.val * 512 + p := by rw [Nat.mod_eq_of_lt ht]
  exact Norm.dnwTerm_congr (iblk m c 2 t) _ _ _ p _ q q (fun j => x_blk m c t p _ e j) (fun j => dh_blk m c t p _ e j) rfl

/-- The first row after point `t` holds the terms of the blocks of rows so far. -/
theorem acc_row (c : Dev nD) (y : S8x1024.Idx) (hy : (y 0 : Nat) = 0) (t : ℕ) (h : t < cfg0.N) :
    acc m c t h y = Block.part (Norm.dnwTerm (m ((c : Thread nD τ).loc main_arg2)) (DH m c) (y 1)) (t % 16 * 512 + 512) := by
  have hN : cfg0.N = 16 := N_0
  refine Block.part_of_steps 16 512 0 (by omega) (fun t h => acc m c t h y) _ (fun s hs h0 _ => ?_) (fun s hs h0 _ => ?_) t h (by omega)
  · exact ((step_A m c ⟨s, hs⟩ h0 y).trans (if_pos hy)).trans (block_eq m c ⟨s, hs⟩ (y 1))
  · exact ((step_B m c ⟨s, hs⟩ h0 y).trans (if_pos hy)).trans (congrArg (acc m c (s - 1) _ y + ·) (block_eq m c ⟨s, hs⟩ (y 1)))

/-- The other rows stay zero. -/
theorem acc_zero (c : Dev nD) (y : S8x1024.Idx) (hy : ¬(y 0 : Nat) = 0) (t : ℕ) : ∀ h : t < cfg0.N, acc m c t h y = 0 := by
  induction t with
  | zero => exact fun h => (step_A m c ⟨0, h⟩ rfl y).trans (if_neg hy)
  | succ t ih =>
    intro h
    by_cases h0 : (t + 1) % 16 = 0
    · exact (step_A m c ⟨t + 1, h⟩ h0 y).trans (if_neg hy)
    · exact ((step_B m c ⟨t + 1, h⟩ h0 y).trans (if_neg hy)).trans (ih _)

/-- What the last point writes back to the norm's weight's gradient is all of it. -/
theorem flushed7_eq (c : Dev nD) (t : Fin cfg0.N) (hf : (cfg0.win 7).flush t = true) :
    (dats m 0 c).flushed 7 t = ((cfg0.win 7).blk t).view.read (Elt Ideal) (result2 m c) := by
  have h1 : t.val % 16 = 15 := (flush0_7 t).mp hf
  obtain ⟨-, -, -, -, -, -, -, ⟨d0, d1⟩⟩ := idx t
  have hs : (dats m 0 c).flushed 7 t = (cfg0.win 7).cut (grid0.coords t) (acc m c t.val t.isLt) := by
    rw [Cert.MlpDxIdeal.Value.flushed7]; rfl
  rw [hs]
  funext y
  have f0 : (((cfg0.win 7).blk t).view.emb y 0 : Nat) = (y 0 : Nat) :=
    Pipeline.Window.rect_emb_val_of_index_zero win0_7 t 0 d0 y
  have f1 : (((cfg0.win 7).blk t).view.emb y 1 : Nat) = (y 1 : Nat) :=
    Pipeline.Window.rect_emb_val_of_index_zero win0_7 t 1 d1 y
  have hc : ∀ X : Vec Ideal S8x1024 .f32, (cfg0.win 7).cut (grid0.coords t) X y = X y := fun _ => rfl
  have hr : ∀ X : Buf (Elt Ideal) ((c : Thread nD τ).loc main_v0_2),
      ((cfg0.win 7).blk t).view.read (Elt Ideal) X y = X (((cfg0.win 7).blk t).view.emb y) := fun _ => rfl
  refine (hc _).trans (Eq.trans ?_ (hr (result2 m c)).symm)
  show acc m c t.val t.isLt y = Norm.dnw _ _ _
  unfold Norm.dnw
  by_cases hy : (y 0 : Nat) = 0
  · rw [if_pos (f0.trans hy), acc_row m c y hy, Block.part_all _ _ (by omega)]
    have e : y 1 = ((cfg0.win 7).blk t).view.emb y 1 := Fin.ext f1.symm
    exact congrArg (fun q : Fin 1024 => ∑ p : Fin 8192, Norm.dnwTerm (m ((c : Thread nD τ).loc main_arg2)) (DH m c) q p) e
  · rw [if_neg (fun h => hy (f0.symm.trans h))]
    exact acc_zero m c y hy _ _

/-- The one block is the norm's weight's gradient. -/
theorem cover7 (i : S8x1024.Idx) : ∃ t : Fin cfg0.N, (cfg0.win 7).flush t = true ∧ i ∈ ((cfg0.win 7).blk t).view.set := by
  have h0 : (i 0 : Nat) < 8 := (i 0).isLt
  have h1 : (i 1 : Nat) < 1024 := (i 1).isLt
  have hN : cfg0.N = 16 := N_0
  obtain ⟨t, ht⟩ : ∃ t : Fin cfg0.N, t.val = 15 := ⟨⟨15, by omega⟩, rfl⟩
  obtain ⟨-, -, -, -, -, -, -, ⟨d0, d1⟩⟩ := idx t
  refine ⟨t, (flush0_7 t).mpr (by omega), ?_⟩
  show i ∈ ((View.whole main_v0_2).slice (win0_7.rect t)).set
  rw [View.set_slice_whole, Rect.mem_set_unit]
  intro a
  match a with
  | ⟨0, _⟩ =>
    show win0_7.index t (0 : Fin 2) * 8 ≤ (i 0 : Nat) ∧ (i 0 : Nat) < win0_7.index t (0 : Fin 2) * 8 + 8
    rw [d0]; omega
  | ⟨1, _⟩ =>
    show win0_7.index t (1 : Fin 2) * 1024 ≤ (i 1 : Nat) ∧ (i 1 : Nat) < win0_7.index t (1 : Fin 2) * 1024 + 1024
    rw [d1]; omega

/-- The run, with the results named. -/
theorem run : θ_run defs (onTc (τ := τ) (main (F := Ideal))) ⟨m, fun _ => 0, ρ⟩ fun r => ∀ c : Dev nD,
      r.2.mem ((c : Thread nD τ).loc main_v0_0) = result0 m c
      ∧ r.2.mem ((c : Thread nD τ).loc main_v0_1) = result1 m c
      ∧ r.2.mem ((c : Thread nD τ).loc main_v0_2) = result2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans
    ((dats m 0 c).arrAt_eq_of_cover 5 (result0 m c) (fun t _ => flushed5_eq m c t) cover5), (h c).2.1.trans
    ((dats m 0 c).arrAt_eq_of_cover 6 (result1 m c) (fun t _ => flushed6_eq m c t) cover6), (h c).2.2.1.trans
    ((dats m 0 c).arrAt_eq_of_cover 7 (result2 m c) (fun t ht => flushed7_eq m c t ht) cover7), (h c).2.2.2⟩)
    (Cert.MlpDxIdeal.Value.run_blocks m ρ)

end Cert.MlpDxVal

namespace Cert.MlpDxVal

open Cert.MlpDxRefIdeal Cert.MlpDxRefIdeal.Gen Cert.MlpDxRefIdeal.Read

variable (x0 : (⟨S8192x4096, .bf16⟩ : BufTy).Contents (Elt Ideal)) (x1 : (⟨S8x1024x512, .bf16⟩ : BufTy).Contents (Elt Ideal))
  (x2 : (⟨S8192x1024, .f32⟩ : BufTy).Contents (Elt Ideal)) (x3 : (⟨S1x1024, .f32⟩ : BufTy).Contents (Elt Ideal))
  (x4 : (⟨S8192x1024, .f32⟩ : BufTy).Contents (Elt Ideal))

/-- The reference's gradient of the normed rows. -/
theorem ref_dh : val_main_v20 (F := Ideal) x0 x1 = fun i => dh x0 x1 (i 0) (i 1) := by
  funext i
  refine (val_main_v20_apply x0 x1 i).trans ?_
  unfold dh term at3
  refine Finset.sum_congr rfl fun k _ => ?_
  refine congrArg₂ (· * ·) ((val_main_v19_apply x0 _).trans (Block.congr2 x0 rfl rfl)) ?_
  rw [val_main_v17_apply, val_main_v16_apply]
  have hq : (i 1 : Nat) < 1024 := (i 1).isLt
  have hk : (k : Nat) < 4096 := k.isLt
  refine Norm.congr3 x1 ?_ ?_ ?_
  · show ((i 1 : Nat) * 4096 + (k : Nat)) / 512 % 8 = (k : Nat) / 512
    omega
  · show ((i 1 : Nat) * 4096 + (k : Nat)) / 4096 = (i 1 : Nat)
    omega
  · show ((i 1 : Nat) * 4096 + (k : Nat)) % 512 = (k : Nat) % 512
    omega

/-- The reference's inverse root of the mean square. -/
theorem ref_scale (i : S8192x1.Idx) : val_main_v7 (F := Ideal) x2 i = Norm.scale (fun k => x2 (ix2 (i 0) k)) := by
  simp only [val_main_v7, val_main_v6, val_main_v5, val_main_v4, val_main_v3, val_main_v2, val_main_v1, val_main_v0, val_main_cst,
    val_main_cst_0, val_main_cst_1, pointwise, zero_add]
  rfl

/-- The reference's mean square. -/
theorem ref_ms (i : S8192x1.Idx) : val_main_v6 (F := Ideal) x2 i = Norm.ms (fun k => x2 (ix2 (i 0) k)) := by
  simp only [val_main_v6, val_main_v5, val_main_v4, val_main_v3, val_main_v2, val_main_v1, val_main_v0, val_main_cst,
    val_main_cst_0, val_main_cst_1, pointwise, zero_add]
  rfl

/-- The reference's products with the norm's weight. -/
theorem ref_g (i : S8192x1024.Idx) : val_main_v25 (F := Ideal) x0 x1 x3 i = dh x0 x1 (i 0) (i 1) * x3 (ix2 0 (i 1)) := by
  simp only [val_main_v25, val_main_v24, pointwise, ref_dh]
  rfl

/-- The reference's sum of a row with those products. -/
theorem ref_sum (p : Fin 8192) (i : S8192.Idx) (hi : (i 0 : Nat) = p) : val_main_v27 (F := Ideal) x0 x1 x2 x3 i
    = ∑ k : Fin 1024, x2 (ix2 p k) * (dh x0 x1 p k * x3 (ix2 0 k)) := by
  rw [val_main_v27_apply]
  simp only [val_main_cst_4, pointwise, zero_add]
  refine Finset.sum_congr rfl fun k _ => ?_
  refine (Block.congr2 (val_main_v26 (F := Ideal) x0 x1 x2 x3) (i := idx_main_v27 i k) (j := ix2 p k) hi rfl).trans ?_
  rw [val_main_v26_apply, ref_g]
  rfl

/-- The reference's correction by the mean square's derivative. -/
theorem ref_corr (p : Fin 8192) (i : S8192.Idx) (hi : i 0 = p) : val_main_v34 (F := Ideal) x0 x1 x2 x3 i
    = Norm.corr (fun k => x2 (ix2 p k)) (fun k => dh x0 x1 p k * x3 (ix2 0 k)) := by
  subst hi
  rw [val_main_v34_apply, Fin.sum_univ_one, val_main_v33_apply, val_main_v31_apply, val_main_v28_apply,
    ref_sum x0 x1 x2 x3 (i 0) _ (by show (i 0 : Nat) * 1 + 0 = i 0; omega), val_main_v10_apply, val_main_v8_apply, ref_ms, ref_scale]
  simp only [val_main_v32, val_main_v9, val_main_cst_2, val_main_cst_5, val_main_cst_6, pointwise, zero_add]
  rfl

/-- The reference's gradient of the rows is the same function of the arguments. -/
theorem ref_dx : val_main_v40 (F := Ideal) x0 x1 x2 x3 x4 = fun y : S8192x1024.Idx => Norm.dx x2 x3 (dh x0 x1) x4 (y 0) (y 1) := by
  funext y
  obtain ⟨p, q, rfl⟩ : ∃ p q, y = ix2 p q := ⟨y 0, y 1, funext fun a => match a with | ⟨0, _⟩ => rfl | ⟨1, _⟩ => rfl⟩
  unfold Norm.dx
  have h := Norm.bwd_eq (fun k => x2 (ix2 p k)) (fun k => dh x0 x1 p k * x3 (ix2 0 k)) q
  rw [val_main_v40_apply, val_main_v39_apply, val_main_v38_apply, val_main_v37_apply, val_main_v36_apply, val_main_v35_apply,
    val_main_v30_apply, val_main_v29_apply, ref_g, ref_scale, ref_corr x0 x1 x2 x3 p _ rfl]
  exact congrArg (x4 (ix2 p q) + ·) h.symm

/-- The reference's gradient of the norm's weight is the same function of the arguments. -/
theorem ref_dnw : val_main_v42 (F := Ideal) x0 x1 x2 = Norm.dnw x2 (dh x0 x1) := by
  funext y
  unfold val_main_v42 Norm.dnw
  refine (Norm.pad_row _ _ _ _ y).trans ?_
  by_cases hy : (y 0 : Nat) = 0
  · rw [if_pos hy, if_pos hy, val_main_v23_apply, val_main_v22_apply]
    simp only [val_main_cst_3, pointwise, zero_add]
    refine Finset.sum_congr rfl fun p _ => ?_
    refine Eq.trans (Block.congr2 (val_main_v21 (F := Ideal) x0 x1 x2) (j := ix2 p (y 1)) rfl (by show 0 * 1024 + (y 1 : Nat) = y 1; omega)) ?_
    rw [val_main_v21_apply, val_main_v12_apply, val_main_v11_apply, ref_scale, ref_dh]
    exact mul_comm _ _
  · rw [if_neg hy, if_neg hy]
    show ((BitVec.toInt (0#32) : ℝ) : EReal) = 0
    norm_num

/-- The reference's run, with the results named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = (fun y : S8192x1024.Idx => Norm.dx (m ((c.tc : Thread nD τ).loc main_arg2))
        (m ((c.tc : Thread nD τ).loc main_arg3)) (dh (m ((c.tc : Thread nD τ).loc main_arg0)) (m ((c.tc : Thread nD τ).loc main_arg1)))
        (m ((c.tc : Thread nD τ).loc main_arg4)) (y 0) (y 1))
      ∧ r.2.mem ((c.tc : Thread nD τ).loc main_v41) = (fun y : S8192x1024.Idx => Norm.dx (m ((c.tc : Thread nD τ).loc main_arg2))
        (m ((c.tc : Thread nD τ).loc main_arg3)) (dh (m ((c.tc : Thread nD τ).loc main_arg0)) (m ((c.tc : Thread nD τ).loc main_arg1)))
        (m ((c.tc : Thread nD τ).loc main_arg4)) (y 0) (y 1))
      ∧ r.2.mem ((c.tc : Thread nD τ).loc main_v42) = Norm.dnw (m ((c.tc : Thread nD τ).loc main_arg2))
        (dh (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v40_eq m c).trans (ref_dx _ _ _ _ _)),
      (h c).2.1.trans ((val_main_v41_eq m c).trans (ref_dx _ _ _ _ _)),
      (h c).2.2.1.trans ((val_main_v42_eq _ _ _).trans (ref_dnw _ _ _)), (h c).2.2.2⟩)
    (Cert.MlpDxRefIdeal.Value.run (F := Ideal) m ρ)

end Cert.MlpDxVal

end
-- ==== Proof.InDx.lean ====
/-
  The value of the gradient through the mixer's input product and its norm: the gradient of the rows is the derivative of the norm
  applied to the product of the incoming gradient with the transposed weight, added to the gradient that passes by; the gradient
  of the norm's weight is a sum over all the rows, which the kernel makes in sixteen blocks in the first of eight rows.
-/
module

public import proofs.«01_k».proof.Proof.NormBwd
public import proofs.«01_k».proof.Proof.Row
public import proofs.«01_k».proof.Proof.Gen.InDxIdeal.Value
public import proofs.«01_k».proof.Proof.Gen.InDxRefIdeal.Run
public import proofs.«01_k».proof.Proof.Gen.InDxRefIdeal.Read
public import Idealize.ShloMosaic.Lib.Tactic
public import Idealize.ShloMosaic.Lib.Pipeline.ReadBack

@[expose] public section

noncomputable section

open Idealize.ShloMosaic Idealize.ShloMosaic.TcCoe Idealize.SL.Sem
open Idealize.ShloMosaic.Pipeline (Dat)

namespace Cert.InDxVal

open Cert.InDxIdeal Cert.InDxIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The gradient of the normed rows: the incoming gradient `d` over `n` rows times the transposed weight `w`. -/
def dh {n : Nat} (d : (⟨2, ![n, 5760]⟩ : Shape).Idx → EReal) (w : (⟨2, ![1024, 5760]⟩ : Shape).Idx → EReal) (p : Fin n)
    (q : Fin 1024) : EReal :=
  ∑ k : Fin 5760, d (ix2 p k) * w (ix2 q k)

theorem dh_congr {n n' : Nat} (d : (⟨2, ![n, 5760]⟩ : Shape).Idx → EReal) (d' : (⟨2, ![n', 5760]⟩ : Shape).Idx → EReal)
    (w w' : (⟨2, ![1024, 5760]⟩ : Shape).Idx → EReal) (p : Fin n) (p' : Fin n') (q : Fin 1024)
    (hd : ∀ k, d (ix2 p k) = d' (ix2 p' k)) (hw : ∀ k, w (ix2 q k) = w' (ix2 q k)) : dh d w p q = dh d' w' p' q := by
  unfold dh
  simp only [hd, hw]

/-- The product of the body, at an index. -/
theorem pay4_eq (v : Vec Ideal S512x5760 .bf16) (w : Vec Ideal S1024x5760 .bf16) :
    k0_pay4 (F := Ideal) v w = fun x => dh v w (x 0) (x 1) := by
  funext x
  unfold k0_pay4
  simp only [pointwise, zero_add]
  rfl

/-- The scaled rows of the body. -/
theorem pay6_apply (x : Vec Ideal S512x1024 .f32) (y : S512x1024.Idx) :
    k0_pay6 (F := Ideal) x y = x y * Norm.scale (fun k => x (ix2 (y 0) k)) := by
  unfold k0_pay6 k0_pay5
  simp only [pointwise, zero_add]
  rfl

/-- What a block adds to the norm's weight's gradient. -/
theorem pay7_apply (v : Vec Ideal S512x5760 .bf16) (w : Vec Ideal S1024x5760 .bf16) (x : Vec Ideal S512x1024 .f32)
    (a : Vec Ideal S1x1024 .f32) (y : S1x1024.Idx) :
    k0_pay7 (F := Ideal) v w x a y = a y + ∑ p : Fin 512, Norm.dnwTerm x (dh v w) (y 1) p := by
  unfold k0_pay7
  simp only [pointwise, zero_add, pay4_eq, pay6_apply, shapeCast_self]
  rfl

/-- The inverse root of the mean square of the body. -/
theorem pay5_apply (x : Vec Ideal S512x1024 .f32) (y : S512x1.Idx) :
    k0_pay5 (F := Ideal) x y = Norm.scale (fun k => x (ix2 (y 0) k)) := by
  unfold k0_pay5
  simp only [pointwise, zero_add]
  rfl

/-- The products with the norm's weight of the body. -/
theorem pay8_apply (v : Vec Ideal S512x5760 .bf16) (w : Vec Ideal S1024x5760 .bf16) (nw : Vec Ideal S1x1024 .f32) (y : S512x1024.Idx) :
    k0_pay8 (F := Ideal) v w nw y = dh v w (y 0) (y 1) * nw (ix2 0 (y 1)) := by
  unfold k0_pay8
  simp only [pointwise, pay4_eq]
  rfl

/-- The rows' gradient of the body. -/
theorem pay1_apply (v : Vec Ideal S512x5760 .bf16) (w : Vec Ideal S1024x5760 .bf16) (x : Vec Ideal S512x1024 .f32)
    (nw : Vec Ideal S1x1024 .f32) (res : Vec Ideal S512x1024 .f32) (y : S512x1024.Idx) :
    k0_pay1 (F := Ideal) (k0_pay5 (F := Ideal) x) (k0_pay6 (F := Ideal) x) (k0_pay8 (F := Ideal) v w nw) res
      (k0_pay9 (F := Ideal) v w x nw) y = Norm.dx x nw (dh v w) res (y 0) (y 1) := by
  obtain ⟨p, q, rfl⟩ : ∃ p q, y = ix2 p q := ⟨y 0, y 1, funext fun a => match a with | ⟨0, _⟩ => rfl | ⟨1, _⟩ => rfl⟩
  unfold k0_pay1 k0_pay9 Norm.dx
  simp only [pointwise, zero_add, pay5_apply, pay6_apply, pay8_apply]
  rfl

theorem pay2_apply (v : Vec Ideal S512x5760 .bf16) (w : Vec Ideal S1024x5760 .bf16) (x : Vec Ideal S512x1024 .f32)
    (nw : Vec Ideal S1x1024 .f32) (res : Vec Ideal S512x1024 .f32) (y : S512x1024.Idx) :
    k0_pay2 (F := Ideal) (k0_pay5 (F := Ideal) x) (k0_pay6 (F := Ideal) x) (k0_pay8 (F := Ideal) v w nw) res
      (k0_pay9 (F := Ideal) v w x nw) y = Norm.dx x nw (dh v w) res (y 0) (y 1) := by
  unfold k0_pay2
  simp only [pointwise]
  exact pay1_apply v w x nw res y

theorem pay3_apply (y : S8x1024.Idx) : k0_pay3 (F := Ideal) y = 0 := by
  unfold k0_pay3
  simp only [pointwise]

section
variable (c : Dev nD) (i : grid0.Coords) (a1 : Memref sig .tc .vmem S512x5760 .bf16) (h1 : a1.IsWhole)
  (a2 : Memref sig .tc .vmem S1024x5760 .bf16) (h2 : a2.IsWhole) (a3 : Memref sig .tc .vmem S512x1024 .f32) (h3 : a3.IsWhole)
  (a4 : Memref sig .tc .vmem S1x1024 .f32) (h4 : a4.IsWhole) (a5 : Memref sig .tc .vmem S512x1024 .f32) (h5 : a5.IsWhole)
  (a6 : Memref sig .tc .vmem S512x1024 .f32) (h6 : a6.IsWhole) (a7 : Memref sig .tc .vmem S512x1024 .bf16) (h7 : a7.IsWhole)
  (a8 : Memref sig .tc .vmem S8x1024 .f32) (h8 : a8.IsWhole) (x0 : Vec Ideal S512x5760 .bf16) (x1 : Vec Ideal S1024x5760 .bf16)
  (x2 : Vec Ideal S512x1024 .f32) (x3 : Vec Ideal S1x1024 .f32) (x4 : Vec Ideal S512x1024 .f32) (xo : Vec Ideal S8x1024 .f32)

/-- What the first point leaves in the rows' gradient. -/
theorem out5_A (hc0 : cond0_0 i) :
    out0_A_5 (F := Ideal) c i a1 h1 a2 h2 a3 h3 a4 h4 a5 h5 a6 h6 a7 h7 a8 h8 hc0 x0 x1 x2 x3 x4
      = fun y => Norm.dx x2 x3 (dh x0 x1) x4 (y 0) (y 1) := by
  unfold out0_A_5
  rw [View.read_writes_eq_canon _ _ _ (cover0_A_5 c i a1 h1 a2 h2 a3 h3 a4 h4 a5 h5 a6 h6 a7 h7 a8 h8 hc0 x0 x1 x2 x3 x4)]
  unfold kernelRun0_A
  dsimp only
  sl_unfold_words
  rw [View.canon_unit_zero hz]
  simp only [View.readAt_eq_ld, h1.read_unread, h2.read_unread, h3.read_unread, h4.read_unread, h5.read_unread, h8.read_unread,
    View.ld_unit_zero (S := S512x5760) hz, View.ld_unit_zero (S := S1024x5760) hz, View.ld_unit_zero (S := S512x1024) hz,
    View.ld_unit_zero (S := S1x1024) hz]
  funext y
  exact pay1_apply x0 x1 x2 x3 x4 y

/-- What the first point leaves in the rows' gradient, rounded. -/
theorem out6_A (hc0 : cond0_0 i) :
    out0_A_6 (F := Ideal) c i a1 h1 a2 h2 a3 h3 a4 h4 a5 h5 a6 h6 a7 h7 a8 h8 hc0 x0 x1 x2 x3 x4
      = fun y => Norm.dx x2 x3 (dh x0 x1) x4 (y 0) (y 1) := by
  unfold out0_A_6
  rw [View.read_writes_eq_canon _ _ _ (cover0_A_6 c i a1 h1 a2 h2 a3 h3 a4 h4 a5 h5 a6 h6 a7 h7 a8 h8 hc0 x0 x1 x2 x3 x4)]
  unfold kernelRun0_A
  dsimp only
  sl_unfold_words
  rw [View.canon_unit_zero hz]
  simp only [View.readAt_eq_ld, h1.read_unread, h2.read_unread, h3.read_unread, h4.read_unread, h5.read_unread, h8.read_unread,
    View.ld_unit_zero (S := S512x5760) hz, View.ld_unit_zero (S := S1024x5760) hz, View.ld_unit_zero (S := S512x1024) hz,
    View.ld_unit_zero (S := S1x1024) hz]
  funext y
  exact pay2_apply x0 x1 x2 x3 x4 y

/-- What a later point leaves in the rows' gradient. -/
theorem out5_B (hc0 : ¬cond0_0 i) :
    out0_B_5 (F := Ideal) c i a1 h1 a2 h2 a3 h3 a4 h4 a5 h5 a6 h6 a7 h7 a8 h8 hc0 x0 x1 x2 x3 x4 xo
      = fun y => Norm.dx x2 x3 (dh x0 x1) x4 (y 0) (y 1) := by
  unfold out0_B_5
  rw [View.read_writes_eq_canon _ _ _ (cover0_B_5 c i a1 h1 a2 h2 a3 h3 a4 h4 a5 h5 a6 h6 a7 h7 a8 h8 hc0 x0 x1 x2 x3 x4 xo)]
  unfold kernelRun0_B
  dsimp only
  sl_unfold_words
  rw [View.canon_unit_zero hz]
  simp only [View.readAt_eq_ld, h1.read_unread, h2.read_unread, h3.read_unread, h4.read_unread, h5.read_unread, h8.read_unread,
    View.ld_unit_zero (S := S512x5760) hz, View.ld_unit_zero (S := S1024x5760) hz, View.ld_unit_zero (S := S512x1024) hz,
    View.ld_unit_zero (S := S1x1024) hz]
  funext y
  exact pay1_apply x0 x1 x2 x3 x4 y

/-- What a later point leaves in the rows' gradient, rounded. -/
theorem out6_B (hc0 : ¬cond0_0 i) :
    out0_B_6 (F := Ideal) c i a1 h1 a2 h2 a3 h3 a4 h4 a5 h5 a6 h6 a7 h7 a8 h8 hc0 x0 x1 x2 x3 x4 xo
      = fun y => Norm.dx x2 x3 (dh x0 x1) x4 (y 0) (y 1) := by
  unfold out0_B_6
  rw [View.read_writes_eq_canon _ _ _ (cover0_B_6 c i a1 h1 a2 h2 a3 h3 a4 h4 a5 h5 a6 h6 a7 h7 a8 h8 hc0 x0 x1 x2 x3 x4 xo)]
  unfold kernelRun0_B
  dsimp only
  sl_unfold_words
  rw [View.canon_unit_zero hz]
  simp only [View.readAt_eq_ld, h1.read_unread, h2.read_unread, h3.read_unread, h4.read_unread, h5.read_unread, h8.read_unread,
    View.ld_unit_zero (S := S512x5760) hz, View.ld_unit_zero (S := S1024x5760) hz, View.ld_unit_zero (S := S512x1024) hz,
    View.ld_unit_zero (S := S1x1024) hz]
  funext y
  exact pay2_apply x0 x1 x2 x3 x4 y

/-- What the first point leaves in the norm's weight's gradient: its block's sum in the first row, zero in the others. -/
theorem out7_A (hc0 : cond0_0 i) (y : S8x1024.Idx) :
    out0_A_7 (F := Ideal) c i a1 h1 a2 h2 a3 h3 a4 h4 a5 h5 a6 h6 a7 h7 a8 h8 hc0 x0 x1 x2 x3 x4 y
      = if (y 0 : Nat) = 0 then ∑ p : Fin 512, Norm.dnwTerm x2 (dh x0 x1) (y 1) p else 0 := by
  unfold out0_A_7 kernelRun0_A
  dsimp only
  sl_unfold_words
  refine (Norm.row_write _ _ _ _ _ y).trans ?_
  by_cases hy : (y 0 : Nat) = 0
  · rw [if_pos hy, if_pos hy]
    simp only [View.readAt_eq_ld, h1.read_unread, h2.read_unread, h3.read_unread, h4.read_unread, h5.read_unread, h8.read_unread,
    View.ld_unit_zero (S := S512x5760) hz, View.ld_unit_zero (S := S1024x5760) hz, View.ld_unit_zero (S := S512x1024) hz,
    View.ld_unit_zero (S := S1x1024) hz]
    rw [View.readCov_fill _ _ _ _ _ (by decide)]
    refine (pay7_apply x0 x1 x2 _ _).trans ?_
    rw [Block.ld_apply, pay3_apply, zero_add]
    rfl
  · rw [if_neg hy, if_neg hy]
    exact (Norm.whole_write _ _ _ _ _ y).trans (pay3_apply y)

/-- What a later point leaves in the norm's weight's gradient: the first row has the block's sum added. -/
theorem out7_B (hc0 : ¬cond0_0 i) (y : S8x1024.Idx) :
    out0_B_7 (F := Ideal) c i a1 h1 a2 h2 a3 h3 a4 h4 a5 h5 a6 h6 a7 h7 a8 h8 hc0 x0 x1 x2 x3 x4 xo y
      = if (y 0 : Nat) = 0 then xo y + ∑ p : Fin 512, Norm.dnwTerm x2 (dh x0 x1) (y 1) p else xo y := by
  unfold out0_B_7 kernelRun0_B
  dsimp only
  sl_unfold_words
  refine (Norm.row_write _ _ _ _ _ y).trans ?_
  by_cases hy : (y 0 : Nat) = 0
  · rw [if_pos hy, if_pos hy]
    simp only [View.readAt_eq_ld, h1.read_unread, h2.read_unread, h3.read_unread, h4.read_unread, h5.read_unread, h8.read_unread,
    View.ld_unit_zero (S := S512x5760) hz, View.ld_unit_zero (S := S1024x5760) hz, View.ld_unit_zero (S := S512x1024) hz,
    View.ld_unit_zero (S := S1x1024) hz]
    refine (pay7_apply x0 x1 x2 _ _).trans ?_
    refine congrArg (· + _) ?_
    rw [Block.ld_apply]
    exact Block.congr2 xo ((Block.emb_val (s := S8x1024) ![0, 0] ![1, 1024] inb_S8x1024_S1x1024_0_0 (ix2 0 (y 1)) 0).trans hy.symm)
      ((Block.emb_val (s := S8x1024) ![0, 0] ![1, 1024] inb_S8x1024_S1x1024_0_0 (ix2 0 (y 1)) 1).trans (Nat.zero_add _))
  · rw [if_neg hy, if_neg hy]
    exact congrFun (h8.read_unread xo) y

end

/-- The block indices of the windows at each grid point. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0) :=
  (by decide +kernel : ∀ t : Fin grid0.N, _)

/-- The gradient of the normed rows, of the whole arrays. -/
abbrev DH (c : Dev nD) : Fin 8192 → Fin 1024 → EReal :=
  dh (m ((c : Thread nD τ).loc main_arg0)) (m ((c : Thread nD τ).loc main_arg1))

/-- The result arrays the run is shown to leave. -/
abbrev result0 (c : Dev nD) : Buf (Elt Ideal) ((c : Thread nD τ).loc main_v0_0) := fun y : S8192x1024.Idx =>
  Norm.dx (m ((c : Thread nD τ).loc main_arg2)) (m ((c : Thread nD τ).loc main_arg3)) (DH m c) (m ((c : Thread nD τ).loc main_arg4)) (y 0) (y 1)
abbrev result1 (c : Dev nD) : Buf (Elt Ideal) ((c : Thread nD τ).loc main_v0_1) := fun y : S8192x1024.Idx =>
  Norm.dx (m ((c : Thread nD τ).loc main_arg2)) (m ((c : Thread nD τ).loc main_arg3)) (DH m c) (m ((c : Thread nD τ).loc main_arg4)) (y 0) (y 1)
abbrev result2 (c : Dev nD) : Buf (Elt Ideal) ((c : Thread nD τ).loc main_v0_2) :=
  Norm.dnw (m ((c : Thread nD τ).loc main_arg2)) (DH m c)

/-- A block of the rows is its rows of the array. -/
theorem x_blk (c : Dev nD) (t : Fin cfg0.N) (p : Fin 512) (p' : Fin 8192) (hp : (p' : Nat) = t.val * 512 + p) (j : Fin 1024) :
    iblk m c 2 t (ix2 p j) = m ((c : Thread nD τ).loc main_arg2) (ix2 p' j) := by
  obtain ⟨-, -, ⟨a0, a1⟩, -⟩ := idx t
  refine Block.congr2 (m ((c : Thread nD τ).loc main_arg2)) ?_ ?_
  · exact ((Pipeline.Window.rect_emb_val win0_2 t (ix2 p j) 0).trans (by rw [a0]; rfl)).trans hp.symm
  · exact Pipeline.Window.rect_emb_val_of_index_zero win0_2 t 1 a1 (ix2 p j)

/-- The norm's weight's only block. -/
theorem w_blk (c : Dev nD) (t : Fin cfg0.N) (j : Fin 1024) :
    iblk m c 3 t (ix2 0 j) = m ((c : Thread nD τ).loc main_arg3) (ix2 0 j) := by
  obtain ⟨-, -, -, ⟨a0, a1⟩, -⟩ := idx t
  refine Block.congr2 (m ((c : Thread nD τ).loc main_arg3)) ?_ ?_
  · exact Pipeline.Window.rect_emb_val_of_index_zero win0_3 t 0 a0 (ix2 0 j)
  · exact Pipeline.Window.rect_emb_val_of_index_zero win0_3 t 1 a1 (ix2 0 j)

/-- A block of the gradient that passes by is its rows of the array. -/
theorem res_blk (c : Dev nD) (t : Fin cfg0.N) (p : Fin 512) (p' : Fin 8192) (hp : (p' : Nat) = t.val * 512 + p) (j : Fin 1024) :
    iblk m c 4 t (ix2 p j) = m ((c : Thread nD τ).loc main_arg4) (ix2 p' j) := by
  obtain ⟨-, -, -, -, ⟨a0, a1⟩, -⟩ := idx t
  refine Block.congr2 (m ((c : Thread nD τ).loc main_arg4)) ?_ ?_
  · exact ((Pipeline.Window.rect_emb_val win0_4 t (ix2 p j) 0).trans (by rw [a0]; rfl)).trans hp.symm
  · exact Pipeline.Window.rect_emb_val_of_index_zero win0_4 t 1 a1 (ix2 p j)

/-- The gradient of the normed rows of a block is its rows of the whole. -/
theorem dh_blk (c : Dev nD) (t : Fin cfg0.N) (p : Fin 512) (p' : Fin 8192) (hp : (p' : Nat) = t.val * 512 + p) (j : Fin 1024) :
    dh (iblk m c 0 t) (iblk m c 1 t) p j = DH m c p' j := by
  obtain ⟨⟨a0, a1⟩, ⟨b0, b1⟩, -⟩ := idx t
  refine dh_congr (iblk m c 0 t) _ (iblk m c 1 t) _ p p' j (fun k => ?_) (fun k => ?_)
  · refine Block.congr2 (m ((c : Thread nD τ).loc main_arg0)) ?_ ?_
    · exact ((Pipeline.Window.rect_emb_val win0_0 t (ix2 p k) 0).trans (by rw [a0]; rfl)).trans hp.symm
    · exact Pipeline.Window.rect_emb_val_of_index_zero win0_0 t 1 a1 (ix2 p k)
  · refine Block.congr2 (m ((c : Thread nD τ).loc main_arg1)) ?_ ?_
    · exact Pipeline.Window.rect_emb_val_of_index_zero win0_1 t 0 b0 (ix2 j k)
    · exact Pipeline.Window.rect_emb_val_of_index_zero win0_1 t 1 b1 (ix2 j k)

/-- The rows' gradient of a block is its rows of the whole. -/
theorem dx_blk (c : Dev nD) (t : Fin cfg0.N) (p : Fin 512) (p' : Fin 8192) (hp : (p' : Nat) = t.val * 512 + p) (q q' : Fin 1024)
    (hq : (q : Nat) = q') :
    Norm.dx (iblk m c 2 t) (iblk m c 3 t) (dh (iblk m c 0 t) (iblk m c 1 t)) (iblk m c 4 t) p q
      = Norm.dx (m ((c : Thread nD τ).loc main_arg2)) (m ((c : Thread nD τ).loc main_arg3)) (DH m c) (m ((c : Thread nD τ).loc main_arg4)) p' q' :=
  Norm.dx_congr (iblk m c 2 t) _ (iblk m c 3 t) _ _ _ (iblk m c 4 t) _ p p' q q' (fun j => x_blk m c t p p' hp j) (fun j => w_blk m c t j)
    (fun j => dh_blk m c t p p' hp j) (fun j => res_blk m c t p p' hp j) hq

/-- What point `t` writes back to the rows' gradient is block `t` of it. -/
theorem flushed5_eq (c : Dev nD) (t : Fin cfg0.N) :
    (dats m 0 c).flushed 5 t = ((cfg0.win 5).blk t).view.read (Elt Ideal) (result0 m c) := by
  obtain ⟨-, -, -, -, -, ⟨d0, d1⟩, -⟩ := idx t
  have hs : (dats m 0 c).flushed 5 t = (cfg0.win 5).cut (grid0.coords t) (fun y : S512x1024.Idx =>
      Norm.dx (iblk m c 2 t) (iblk m c 3 t) (dh (iblk m c 0 t) (iblk m c 1 t)) (iblk m c 4 t) (y 0) (y 1)) := by
    by_cases h0 : t.val % 16 = 0
    · rw [Cert.InDxIdeal.Value.flushed5_A m c t h0, out5_A]
    · rw [Cert.InDxIdeal.Value.flushed5_B m c t h0, out5_B]
  rw [hs]
  funext y
  have f0 : (((cfg0.win 5).blk t).view.emb y 0 : Nat) = t.val * 512 + (y 0 : Nat) := by
    rw [← d0]; exact Pipeline.Window.rect_emb_val win0_5 t y 0
  have f1 : (((cfg0.win 5).blk t).view.emb y 1 : Nat) = (y 1 : Nat) :=
    Pipeline.Window.rect_emb_val_of_index_zero win0_5 t 1 d1 y
  show Norm.dx (iblk m c 2 t) (iblk m c 3 t) (dh (iblk m c 0 t) (iblk m c 1 t)) (iblk m c 4 t) (y 0) (y 1)
    = result0 m c (((cfg0.win 5).blk t).view.emb y)
  exact dx_blk m c t _ _ f0 _ _ f1.symm

/-- The blocks tile the rows' gradient. -/
theorem cover5 (i : S8192x1024.Idx) : ∃ t : Fin cfg0.N, (cfg0.win 5).flush t = true ∧ i ∈ ((cfg0.win 5).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0 : Nat) / 512 := ⟨⟨(i 0 : Nat) / 512, by omega⟩, rfl⟩
  obtain ⟨-, -, -, -, -, ⟨d0, d1⟩, -⟩ := idx t
  refine ⟨t, flush0_5 t, ?_⟩
  show i ∈ ((View.whole main_v0_0).slice (win0_5.rect t)).set
  rw [View.set_slice_whole, Rect.mem_set_unit]
  intro a
  match a with
  | ⟨0, _⟩ =>
    show win0_5.index t (0 : Fin 2) * 512 ≤ (i 0 : Nat) ∧ (i 0 : Nat) < win0_5.index t (0 : Fin 2) * 512 + 512
    rw [d0]; omega
  | ⟨1, _⟩ =>
    show win0_5.index t (1 : Fin 2) * 1024 ≤ (i 1 : Nat) ∧ (i 1 : Nat) < win0_5.index t (1 : Fin 2) * 1024 + 1024
    rw [d1]; omega

/-- What point `t` writes back to the rows' gradient, rounded, is block `t` of it. -/
theorem flushed6_eq (c : Dev nD) (t : Fin cfg0.N) :
    (dats m 0 c).flushed 6 t = ((cfg0.win 6).blk t).view.read (Elt Ideal) (result1 m c) := by
  obtain ⟨-, -, -, -, -, -, ⟨d0, d1⟩, -⟩ := idx t
  have hs : (dats m 0 c).flushed 6 t = (cfg0.win 6).cut (grid0.coords t) (fun y : S512x1024.Idx =>
      Norm.dx (iblk m c 2 t) (iblk m c 3 t) (dh (iblk m c 0 t) (iblk m c 1 t)) (iblk m c 4 t) (y 0) (y 1)) := by
    by_cases h0 : t.val % 16 = 0
    · rw [Cert.InDxIdeal.Value.flushed6_A m c t h0, out6_A]
    · rw [Cert.InDxIdeal.Value.flushed6_B m c t h0, out6_B]
  rw [hs]
  funext y
  have f0 : (((cfg0.win 6).blk t).view.emb y 0 : Nat) = t.val * 512 + (y 0 : Nat) := by
    rw [← d0]; exact Pipeline.Window.rect_emb_val win0_6 t y 0
  have f1 : (((cfg0.win 6).blk t).view.emb y 1 : Nat) = (y 1 : Nat) :=
    Pipeline.Window.rect_emb_val_of_index_zero win0_6 t 1 d1 y
  show Norm.dx (iblk m c 2 t) (iblk m c 3 t) (dh (iblk m c 0 t) (iblk m c 1 t)) (iblk m c 4 t) (y 0) (y 1)
    = result1 m c (((cfg0.win 6).blk t).view.emb y)
  exact dx_blk m c t _ _ f0 _ _ f1.symm

/-- The blocks tile the rows' gradient, rounded. -/
theorem cover6 (i : S8192x1024.Idx) : ∃ t : Fin cfg0.N, (cfg0.win 6).flush t = true ∧ i ∈ ((cfg0.win 6).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0 : Nat) / 512 := ⟨⟨(i 0 : Nat) / 512, by omega⟩, rfl⟩
  obtain ⟨-, -, -, -, -, -, ⟨d0, d1⟩, -⟩ := idx t
  refine ⟨t, flush0_6 t, ?_⟩
  show i ∈ ((View.whole main_v0_1).slice (win0_6.rect t)).set
  rw [View.set_slice_whole, Rect.mem_set_unit]
  intro a
  match a with
  | ⟨0, _⟩ =>
    show win0_6.index t (0 : Fin 2) * 512 ≤ (i 0 : Nat) ∧ (i 0 : Nat) < win0_6.index t (0 : Fin 2) * 512 + 512
    rw [d0]; omega
  | ⟨1, _⟩ =>
    show win0_6.index t (1 : Fin 2) * 1024 ≤ (i 1 : Nat) ∧ (i 1 : Nat) < win0_6.index t (1 : Fin 2) * 1024 + 1024
    rw [d1]; omega

/-- The norm's weight's gradient after point `t`. -/
def acc (c : Dev nD) (t : Nat) (h : t < cfg0.N) : Vec Ideal S8x1024 .f32 := (outsAt0 m c t h).2.2

/-- The sum of the rows of the block at point `t`. -/
def blockSum (c : Dev nD) (t : Fin cfg0.N) (q : Fin 1024) : EReal :=
  ∑ p : Fin 512, Norm.dnwTerm (iblk m c 2 t) (dh (iblk m c 0 t) (iblk m c 1 t)) q p

theorem step_A (c : Dev nD) (t : Fin cfg0.N) (h0 : t.val % 16 = 0) (y : S8x1024.Idx) :
    acc m c t.val t.isLt y = if (y 0 : Nat) = 0 then blockSum m c t (y 1) else 0 := by
  unfold acc
  rw [outsAt0_A m c t h0]
  dsimp only
  rw [out7_A]
  rfl

theorem step_B (c : Dev nD) (t : Fin cfg0.N) (h0 : ¬t.val % 16 = 0) (y : S8x1024.Idx) :
    acc m c t.val t.isLt y = if (y 0 : Nat) = 0 then acc m c (t.val - 1) (by omega) y + blockSum m c t (y 1)
      else acc m c (t.val - 1) (by omega) y := by
  unfold acc
  rw [outsAt0_B m c t h0]
  dsimp only
  rw [out7_B]
  rfl

/-- The sum of the block at point `t` is the terms of its rows of the whole. -/
theorem block_eq (c : Dev nD) (t : Fin cfg0.N) (q : Fin 1024) :
    blockSum m c t q = ∑ p : Fin 512, Block.ext (Norm.dnwTerm (m ((c : Thread nD τ).loc main_arg2)) (DH m c) q) (t.val % 16 * 512 + p) := by
  have hN : cfg0.N = 16 := N_0
  have ht : t.val < 16 := hN ▸ t.isLt
  refine Finset.sum_congr rfl fun p _ => ?_
  have hp : (p : Nat) < 512 := p.isLt
  rw [Block.ext_eq _ _ (by omega)]
  have e : t.val % 16 * 512 + (p : Nat) = t.val * 512 + p := by rw [Nat.mod_eq_of_lt ht]
  exact Norm.dnwTerm_congr (iblk m c 2 t) _ _ _ p _ q q (fun j => x_blk m c t p _ e j) (fun j => dh_blk m c t p _ e j) rfl

/-- The first row after point `t` holds the terms of the blocks of rows so far. -/
theorem acc_row (c : Dev nD) (y : S8x1024.Idx) (hy : (y 0 : Nat) = 0) (t : ℕ) (h : t < cfg0.N) :
    acc m c t h y = Block.part (Norm.dnwTerm (m ((c : Thread nD τ).loc main_arg2)) (DH m c) (y 1)) (t % 16 * 512 + 512) := by
  have hN : cfg0.N = 16 := N_0
  refine Block.part_of_steps 16 512 0 (by omega) (fun t h => acc m c t h y) _ (fun s hs h0 _ => ?_) (fun s hs h0 _ => ?_) t h (by omega)
  · exact ((step_A m c ⟨s, hs⟩ h0 y).trans (if_pos hy)).trans (block_eq m c ⟨s, hs⟩ (y 1))
  · exact ((step_B m c ⟨s, hs⟩ h0 y).trans (if_pos hy)).trans (congrArg (acc m c (s - 1) _ y + ·) (block_eq m c ⟨s, hs⟩ (y 1)))

/-- The other rows stay zero. -/
theorem acc_zero (c : Dev nD) (y : S8x1024.Idx) (hy : ¬(y 0 : Nat) = 0) (t : ℕ) : ∀ h : t < cfg0.N, acc m c t h y = 0 := by
  induction t with
  | zero => exact fun h => (step_A m c ⟨0, h⟩ rfl y).trans (if_neg hy)
  | succ t ih =>
    intro h
    by_cases h0 : (t + 1) % 16 = 0
    · exact (step_A m c ⟨t + 1, h⟩ h0 y).trans (if_neg hy)
    · exact ((step_B m c ⟨t + 1, h⟩ h0 y).trans (if_neg hy)).trans (ih _)

/-- What the last point writes back to the norm's weight's gradient is all of it. -/
theorem flushed7_eq (c : Dev nD) (t : Fin cfg0.N) (hf : (cfg0.win 7).flush t = true) :
    (dats m 0 c).flushed 7 t = ((cfg0.win 7).blk t).view.read (Elt Ideal) (result2 m c) := by
  have h1 : t.val % 16 = 15 := (flush0_7 t).mp hf
  obtain ⟨-, -, -, -, -, -, -, ⟨d0, d1⟩⟩ := idx t
  have hs : (dats m 0 c).flushed 7 t = (cfg0.win 7).cut (grid0.coords t) (acc m c t.val t.isLt) := by
    rw [Cert.InDxIdeal.Value.flushed7]; rfl
  rw [hs]
  funext y
  have f0 : (((cfg0.win 7).blk t).view.emb y 0 : Nat) = (y 0 : Nat) :=
    Pipeline.Window.rect_emb_val_of_index_zero win0_7 t 0 d0 y
  have f1 : (((cfg0.win 7).blk t).view.emb y 1 : Nat) = (y 1 : Nat) :=
    Pipeline.Window.rect_emb_val_of_index_zero win0_7 t 1 d1 y
  have hc : ∀ X : Vec Ideal S8x1024 .f32, (cfg0.win 7).cut (grid0.coords t) X y = X y := fun _ => rfl
  have hr : ∀ X : Buf (Elt Ideal) ((c : Thread nD τ).loc main_v0_2),
      ((cfg0.win 7).blk t).view.read (Elt Ideal) X y = X (((cfg0.win 7).blk t).view.emb y) := fun _ => rfl
  refine (hc _).trans (Eq.trans ?_ (hr (result2 m c)).symm)
  show acc m c t.val t.isLt y = Norm.dnw _ _ _
  unfold Norm.dnw
  by_cases hy : (y 0 : Nat) = 0
  · rw [if_pos (f0.trans hy), acc_row m c y hy, Block.part_all _ _ (by omega)]
    have e : y 1 = ((cfg0.win 7).blk t).view.emb y 1 := Fin.ext f1.symm
    exact congrArg (fun q : Fin 1024 => ∑ p : Fin 8192, Norm.dnwTerm (m ((c : Thread nD τ).loc main_arg2)) (DH m c) q p) e
  · rw [if_neg (fun h => hy (f0.symm.trans h))]
    exact acc_zero m c y hy _ _

/-- The one block is the norm's weight's gradient. -/
theorem cover7 (i : S8x1024.Idx) : ∃ t : Fin cfg0.N, (cfg0.win 7).flush t = true ∧ i ∈ ((cfg0.win 7).blk t).view.set := by
  have h0 : (i 0 : Nat) < 8 := (i 0).isLt
  have h1 : (i 1 : Nat) < 1024 := (i 1).isLt
  have hN : cfg0.N = 16 := N_0
  obtain ⟨t, ht⟩ : ∃ t : Fin cfg0.N, t.val = 15 := ⟨⟨15, by omega⟩, rfl⟩
  obtain ⟨-, -, -, -, -, -, -, ⟨d0, d1⟩⟩ := idx t
  refine ⟨t, (flush0_7 t).mpr (by omega), ?_⟩
  show i ∈ ((View.whole main_v0_2).slice (win0_7.rect t)).set
  rw [View.set_slice_whole, Rect.mem_set_unit]
  intro a
  match a with
  | ⟨0, _⟩ =>
    show win0_7.index t (0 : Fin 2) * 8 ≤ (i 0 : Nat) ∧ (i 0 : Nat) < win0_7.index t (0 : Fin 2) * 8 + 8
    rw [d0]; omega
  | ⟨1, _⟩ =>
    show win0_7.index t (1 : Fin 2) * 1024 ≤ (i 1 : Nat) ∧ (i 1 : Nat) < win0_7.index t (1 : Fin 2) * 1024 + 1024
    rw [d1]; omega

/-- The run, with the results named. -/
theorem run : θ_run defs (onTc (τ := τ) (main (F := Ideal))) ⟨m, fun _ => 0, ρ⟩ fun r => ∀ c : Dev nD,
      r.2.mem ((c : Thread nD τ).loc main_v0_0) = result0 m c
      ∧ r.2.mem ((c : Thread nD τ).loc main_v0_1) = result1 m c
      ∧ r.2.mem ((c : Thread nD τ).loc main_v0_2) = result2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans
    ((dats m 0 c).arrAt_eq_of_cover 5 (result0 m c) (fun t _ => flushed5_eq m c t) cover5), (h c).2.1.trans
    ((dats m 0 c).arrAt_eq_of_cover 6 (result1 m c) (fun t _ => flushed6_eq m c t) cover6), (h c).2.2.1.trans
    ((dats m 0 c).arrAt_eq_of_cover 7 (result2 m c) (fun t ht => flushed7_eq m c t ht) cover7), (h c).2.2.2⟩)
    (Cert.InDxIdeal.Value.run_blocks m ρ)

end Cert.InDxVal

namespace Cert.InDxVal

open Cert.InDxRefIdeal Cert.InDxRefIdeal.Gen Cert.InDxRefIdeal.Read

variable (x0 : (⟨S8192x5760, .bf16⟩ : BufTy).Contents (Elt Ideal)) (x1 : (⟨S1024x5760, .bf16⟩ : BufTy).Contents (Elt Ideal))
  (x2 : (⟨S8192x1024, .f32⟩ : BufTy).Contents (Elt Ideal)) (x3 : (⟨S1x1024, .f32⟩ : BufTy).Contents (Elt Ideal))
  (x4 : (⟨S8192x1024, .f32⟩ : BufTy).Contents (Elt Ideal))

/-- The reference's gradient of the normed rows. -/
theorem ref_dh : val_main_v18 (F := Ideal) x0 x1 = fun i => dh x0 x1 (i 0) (i 1) := by
  funext i
  simp only [val_main_v18, val_main_v17, val_main_v15, pointwise, zero_add]
  rfl

/-- The reference's inverse root of the mean square. -/
theorem ref_scale (i : S8192x1.Idx) : val_main_v7 (F := Ideal) x2 i = Norm.scale (fun k => x2 (ix2 (i 0) k)) := by
  simp only [val_main_v7, val_main_v6, val_main_v5, val_main_v4, val_main_v3, val_main_v2, val_main_v1, val_main_v0, val_main_cst,
    val_main_cst_0, val_main_cst_1, pointwise, zero_add]
  rfl

/-- The reference's mean square. -/
theorem ref_ms (i : S8192x1.Idx) : val_main_v6 (F := Ideal) x2 i = Norm.ms (fun k => x2 (ix2 (i 0) k)) := by
  simp only [val_main_v6, val_main_v5, val_main_v4, val_main_v3, val_main_v2, val_main_v1, val_main_v0, val_main_cst,
    val_main_cst_0, val_main_cst_1, pointwise, zero_add]
  rfl

/-- The reference's products with the norm's weight. -/
theorem ref_g (i : S8192x1024.Idx) : val_main_v23 (F := Ideal) x0 x1 x3 i = dh x0 x1 (i 0) (i 1) * x3 (ix2 0 (i 1)) := by
  simp only [val_main_v23, val_main_v22, pointwise, ref_dh]
  rfl

/-- The reference's sum of a row with those products. -/
theorem ref_sum (p : Fin 8192) (i : S8192.Idx) (hi : (i 0 : Nat) = p) : val_main_v25 (F := Ideal) x0 x1 x2 x3 i
    = ∑ k : Fin 1024, x2 (ix2 p k) * (dh x0 x1 p k * x3 (ix2 0 k)) := by
  rw [val_main_v25_apply]
  simp only [val_main_cst_4, pointwise, zero_add]
  refine Finset.sum_congr rfl fun k _ => ?_
  refine (Block.congr2 (val_main_v24 (F := Ideal) x0 x1 x2 x3) (i := idx_main_v25 i k) (j := ix2 p k) hi rfl).trans ?_
  rw [val_main_v24_apply, ref_g]
  rfl

/-- The reference's correction by the mean square's derivative. -/
theorem ref_corr (p : Fin 8192) (i : S8192.Idx) (hi : i 0 = p) : val_main_v32 (F := Ideal) x0 x1 x2 x3 i
    = Norm.corr (fun k => x2 (ix2 p k)) (fun k => dh x0 x1 p k * x3 (ix2 0 k)) := by
  subst hi
  rw [val_main_v32_apply, Fin.sum_univ_one, val_main_v31_apply, val_main_v29_apply, val_main_v26_apply,
    ref_sum x0 x1 x2 x3 (i 0) _ (by show (i 0 : Nat) * 1 + 0 = i 0; omega), val_main_v10_apply, val_main_v8_apply, ref_ms, ref_scale]
  simp only [val_main_v30, val_main_v9, val_main_cst_2, val_main_cst_5, val_main_cst_6, pointwise, zero_add]
  rfl

/-- The reference's gradient of the rows is the same function of the arguments. -/
theorem ref_dx : val_main_v38 (F := Ideal) x0 x1 x2 x3 x4 = fun y : S8192x1024.Idx => Norm.dx x2 x3 (dh x0 x1) x4 (y 0) (y 1) := by
  funext y
  obtain ⟨p, q, rfl⟩ : ∃ p q, y = ix2 p q := ⟨y 0, y 1, funext fun a => match a with | ⟨0, _⟩ => rfl | ⟨1, _⟩ => rfl⟩
  unfold Norm.dx
  have h := Norm.bwd_eq (fun k => x2 (ix2 p k)) (fun k => dh x0 x1 p k * x3 (ix2 0 k)) q
  rw [val_main_v38_apply, val_main_v37_apply, val_main_v36_apply, val_main_v35_apply, val_main_v34_apply, val_main_v33_apply,
    val_main_v28_apply, val_main_v27_apply, ref_g, ref_scale, ref_corr x0 x1 x2 x3 p _ rfl]
  exact congrArg (x4 (ix2 p q) + ·) h.symm

/-- The reference's gradient of the norm's weight is the same function of the arguments. -/
theorem ref_dnw : val_main_v40 (F := Ideal) x0 x1 x2 = Norm.dnw x2 (dh x0 x1) := by
  funext y
  unfold val_main_v40 Norm.dnw
  refine (Norm.pad_row _ _ _ _ y).trans ?_
  by_cases hy : (y 0 : Nat) = 0
  · rw [if_pos hy, if_pos hy, val_main_v21_apply, val_main_v20_apply]
    simp only [val_main_cst_3, pointwise, zero_add]
    refine Finset.sum_congr rfl fun p _ => ?_
    refine Eq.trans (Block.congr2 (val_main_v19 (F := Ideal) x0 x1 x2) (j := ix2 p (y 1)) rfl (by show 0 * 1024 + (y 1 : Nat) = y 1; omega)) ?_
    rw [val_main_v19_apply, val_main_v12_apply, val_main_v11_apply, ref_scale, ref_dh]
    exact mul_comm _ _
  · rw [if_neg hy, if_neg hy]
    show ((BitVec.toInt (0#32) : ℝ) : EReal) = 0
    norm_num

/-- The reference's run, with the results named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = (fun y : S8192x1024.Idx => Norm.dx (m ((c.tc : Thread nD τ).loc main_arg2))
        (m ((c.tc : Thread nD τ).loc main_arg3)) (dh (m ((c.tc : Thread nD τ).loc main_arg0)) (m ((c.tc : Thread nD τ).loc main_arg1)))
        (m ((c.tc : Thread nD τ).loc main_arg4)) (y 0) (y 1))
      ∧ r.2.mem ((c.tc : Thread nD τ).loc main_v39) = (fun y : S8192x1024.Idx => Norm.dx (m ((c.tc : Thread nD τ).loc main_arg2))
        (m ((c.tc : Thread nD τ).loc main_arg3)) (dh (m ((c.tc : Thread nD τ).loc main_arg0)) (m ((c.tc : Thread nD τ).loc main_arg1)))
        (m ((c.tc : Thread nD τ).loc main_arg4)) (y 0) (y 1))
      ∧ r.2.mem ((c.tc : Thread nD τ).loc main_v40) = Norm.dnw (m ((c.tc : Thread nD τ).loc main_arg2))
        (dh (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v38_eq m c).trans (ref_dx _ _ _ _ _)),
      (h c).2.1.trans ((val_main_v39_eq m c).trans (ref_dx _ _ _ _ _)),
      (h c).2.2.1.trans ((val_main_v40_eq _ _ _).trans (ref_dnw _ _ _)), (h c).2.2.2⟩)
    (Cert.InDxRefIdeal.Value.run (F := Ideal) m ρ)

end Cert.InDxVal

end
-- ==== Proof.InProj.lean ====
/-
  The value of the norm and the mixer's input product: what the kernel's run leaves in its two results is, at every index, the
  product of a normed row with a column of the weight, and the normed row.
-/
module

public import proofs.«01_k».proof.Proof.Norm
public import proofs.«01_k».proof.Proof.Gen.InProjIdeal.Value
public import proofs.«01_k».proof.Proof.Gen.InProjRefIdeal.Run
public import proofs.«01_k».proof.Proof.Gen.InProjRefIdeal.Read

@[expose] public section

noncomputable section

open Idealize.ShloMosaic Idealize.ShloMosaic.TcCoe Idealize.SL.Sem
open Idealize.ShloMosaic.Pipeline (Dat)

namespace Cert.InProjVal

open Cert.InProjIdeal Cert.InProjIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The product, as a function of the rows `x`, the norm's weight `nw` and the weight `w` over `n` rows. -/
def out {n : Nat} (x : (⟨2, ![n, 1024]⟩ : Shape).Idx → EReal) (nw : (⟨2, ![1, 1024]⟩ : Shape).Idx → EReal)
    (w : (⟨2, ![1024, 5760]⟩ : Shape).Idx → EReal) (y : (⟨2, ![n, 5760]⟩ : Shape).Idx) : EReal :=
  ∑ k : Fin 1024, Norm.nrm x nw (y 0) k * w (ix2 k (y 1))

/-- The normed rows of the body. -/
theorem pay2_eq (v : Vec Ideal S512x1024 .f32) (w : Vec Ideal S1x1024 .f32) : k0_pay2 (F := Ideal) v w = Norm.rows v w := by
  funext x
  unfold k0_pay2
  simp only [pointwise, zero_add]
  exact Norm.rows_apply v w x _ rfl _ rfl

/-- A wide chunk of the body, at an index. -/
theorem pay3_apply (v : Vec Ideal S512x1024 .f32) (w : Vec Ideal S1x1024 .f32) (u : Vec Ideal S1024x1536 .bf16) (x : S512x1536.Idx) :
    k0_pay3 (F := Ideal) v w u x = ∑ k : Fin 1024, Norm.nrm v w (x 0) k * u (ix2 k (x 1)) := by
  unfold k0_pay3
  simp only [pointwise, zero_add, pay2_eq]
  rfl

/-- The narrow chunk of the body, at an index. -/
theorem pay1_apply (v : Vec Ideal S512x1024 .f32) (w : Vec Ideal S1x1024 .f32) (u : Vec Ideal S1024x1152 .bf16) (x : S512x1152.Idx) :
    k0_pay1 (F := Ideal) (k0_pay2 (F := Ideal) v w) u x = ∑ k : Fin 1024, Norm.nrm v w (x 0) k * u (ix2 k (x 1)) := by
  unfold k0_pay1
  simp only [pointwise, zero_add, pay2_eq]
  rfl

/-- A chunk of `c` columns at column offset `o` is the block of `out` there. -/
theorem piece (x0 : Vec Ideal S512x1024 .f32) (x1 : Vec Ideal S1x1024 .f32) (x2 : Vec Ideal S1024x5760 .bf16) (o c : Nat)
    (h1 : ∀ a, (![0, o] : Fin 2 → Nat) a + (![1024, c] : Fin 2 → Nat) a ≤ S1024x5760.size a)
    (h2 : ∀ a, (![0, o] : Fin 2 → Nat) a + (![512, c] : Fin 2 → Nat) a ≤ S512x5760.size a) (x : (⟨2, ![512, c]⟩ : Shape).Idx) :
    (∑ k : Fin 1024, Norm.nrm x0 x1 (x 0) k * View.ld x2 (Rect.unit (s := S1024x5760) ![0, o] ![1024, c] h1) (ix2 k (x 1)))
      = out x0 x1 x2 ((Rect.unit (s := S512x5760) ![0, o] ![512, c] h2).emb x) := by
  unfold out
  have e0 : ((Rect.unit (s := S512x5760) ![0, o] ![512, c] h2).emb x 0 : Nat) = x 0 :=
    (Block.emb_val (s := S512x5760) ![0, o] ![512, c] h2 x 0).trans (Nat.zero_add _)
  have e1 : ((Rect.unit (s := S512x5760) ![0, o] ![512, c] h2).emb x 1 : Nat) = o + x 1 :=
    Block.emb_val (s := S512x5760) ![0, o] ![512, c] h2 x 1
  refine Finset.sum_congr rfl fun k _ => ?_
  congr 1
  · exact Norm.nrm_congr x0 x0 x1 x1 _ _ k k (fun j => Block.congr2 x0 e0.symm rfl) (fun _ => rfl) rfl
  · exact Block.congr2 x2 ((Block.emb_val (s := S1024x5760) ![0, o] ![1024, c] h1 (ix2 k (x 1)) 0).trans (Nat.zero_add _))
      ((Block.emb_val (s := S1024x5760) ![0, o] ![1024, c] h1 (ix2 k (x 1)) 1).trans e1.symm)

section
variable (c : Dev nD) (i : grid0.Coords) (arg1 : Memref sig .tc .vmem S512x1024 .f32) (harg1 : arg1.IsWhole)
  (arg2 : Memref sig .tc .vmem S1x1024 .f32) (harg2 : arg2.IsWhole) (arg3 : Memref sig .tc .vmem S1024x5760 .bf16) (harg3 : arg3.IsWhole)
  (arg4 : Memref sig .tc .vmem S512x5760 .bf16) (harg4 : arg4.IsWhole) (arg5 : Memref sig .tc .vmem S512x1024 .bf16) (harg5 : arg5.IsWhole)
  (x0 : Vec Ideal S512x1024 .f32) (x1 : Vec Ideal S1x1024 .f32) (x2 : Vec Ideal S1024x5760 .bf16)

/-- What the body leaves in the product's staging buffer is `out` of the blocks. -/
theorem out3_eq : out0_A_3 (F := Ideal) c i arg1 harg1 arg2 harg2 arg3 harg3 arg4 harg4 arg5 harg5 x0 x1 x2 = out x0 x1 x2 := by
  unfold out0_A_3
  rw [View.read_writes_eq_canon _ _ _ (cover0_A_3 c i arg1 harg1 arg2 harg2 arg3 harg3 arg4 harg4 arg5 harg5 x0 x1 x2)]
  funext y
  refine View.canon_apply_of_pieces (Val := Elt Ideal) (e := .bf16) (out x0 x1 x2) _ ?_ y
    (cover0_A_3 c i arg1 harg1 arg2 harg2 arg3 harg3 arg4 harg4 arg5 harg5 x0 x1 x2 y)
  unfold kernelRun0_A
  dsimp only
  sl_unfold_words
  simp only [View.readAt_eq_ld, harg1.read_unread, harg2.read_unread, harg3.read_unread]
  intro p hp
  simp only [List.mem_cons, List.not_mem_nil, or_false] at hp
  rcases hp with rfl | rfl | rfl | rfl
  · intro x
    refine Eq.trans ?_ (piece x0 x1 x2 4608 1152 inb_S1024x5760_S1024x1152_0_4608 inb_S512x5760_S512x1152_0_4608 x)
    dsimp only
    rw [View.ld_unit_zero hz, View.ld_unit_zero hz]
    exact pay1_apply x0 x1 _ x
  · intro x
    refine Eq.trans ?_ (piece x0 x1 x2 3072 1536 inb_S1024x5760_S1024x1536_0_3072 inb_S512x5760_S512x1536_0_3072 x)
    dsimp only
    rw [View.ld_unit_zero hz, View.ld_unit_zero hz]
    exact pay3_apply x0 x1 _ x
  · intro x
    refine Eq.trans ?_ (piece x0 x1 x2 1536 1536 inb_S1024x5760_S1024x1536_0_1536 inb_S512x5760_S512x1536_0_1536 x)
    dsimp only
    rw [View.ld_unit_zero hz, View.ld_unit_zero hz]
    exact pay3_apply x0 x1 _ x
  · intro x
    refine Eq.trans ?_ (piece x0 x1 x2 0 1536 inb_S1024x5760_S1024x1536_0_0 inb_S512x5760_S512x1536_0_0 x)
    dsimp only
    rw [View.ld_unit_zero hz, View.ld_unit_zero hz]
    exact pay3_apply x0 x1 _ x

/-- What the body leaves in the normed rows' staging buffer is the normed rows of the block. -/
theorem out4_eq : out0_A_4 (F := Ideal) c i arg1 harg1 arg2 harg2 arg3 harg3 arg4 harg4 arg5 harg5 x0 x1 x2 = Norm.rows x0 x1 := by
  unfold out0_A_4
  rw [View.read_writes_eq_canon _ _ _ (cover0_A_4 c i arg1 harg1 arg2 harg2 arg3 harg3 arg4 harg4 arg5 harg5 x0 x1 x2)]
  unfold kernelRun0_A
  dsimp only
  sl_unfold_words
  simp only [View.readAt_eq_ld, harg1.read_unread, harg2.read_unread, harg3.read_unread]
  rw [View.canon_unit_zero hz, View.ld_unit_zero hz, View.ld_unit_zero hz]
  exact pay2_eq x0 x1

end

/-- The result arrays the run is shown to leave. -/
abbrev result0 (c : Dev nD) : Buf (Elt Ideal) ((c : Thread nD τ).loc main_v0_0) :=
  out (m ((c : Thread nD τ).loc main_arg0)) (m ((c : Thread nD τ).loc main_arg1)) (m ((c : Thread nD τ).loc main_arg2))
abbrev result1 (c : Dev nD) : Buf (Elt Ideal) ((c : Thread nD τ).loc main_v0_1) :=
  Norm.rows (m ((c : Thread nD τ).loc main_arg0)) (m ((c : Thread nD τ).loc main_arg1))

/-- The block indices of the windows at each grid point. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-- A block of the rows and of the norm's weight, normed, is the block of the normed rows. -/
theorem nrm_blk (c : Dev nD) (t : Fin cfg0.N) (p : Fin 512) (p' : Fin 8192) (hp : (p' : Nat) = t.val * 512 + p) (k k' : Fin 1024)
    (hk : (k : Nat) = k') :
    Norm.nrm (iblk m c 0 t) (iblk m c 1 t) p k
      = Norm.nrm (m ((c : Thread nD τ).loc main_arg0)) (m ((c : Thread nD τ).loc main_arg1)) p' k' := by
  obtain ⟨⟨a0, a1⟩, ⟨b0, b1⟩, -⟩ := idx t
  refine Norm.nrm_congr (iblk m c 0 t) _ (iblk m c 1 t) _ p p' k k' (fun j => ?_) (fun j => ?_) hk
  · refine Block.congr2 (m ((c : Thread nD τ).loc main_arg0)) ?_ ?_
    · exact ((Pipeline.Window.rect_emb_val win0_0 t (ix2 p j) 0).trans (by rw [a0]; rfl)).trans hp.symm
    · exact Pipeline.Window.rect_emb_val_of_index_zero win0_0 t 1 a1 (ix2 p j)
  · refine Block.congr2 (m ((c : Thread nD τ).loc main_arg1)) ?_ ?_
    · exact Pipeline.Window.rect_emb_val_of_index_zero win0_1 t 0 b0 (ix2 0 j)
    · exact Pipeline.Window.rect_emb_val_of_index_zero win0_1 t 1 b1 (ix2 0 j)

/-- What point `t` writes back to the product is block `t` of it. -/
theorem flushed3_eq (c : Dev nD) (t : Fin cfg0.N) :
    (dats m 0 c).flushed 3 t = ((cfg0.win 3).blk t).view.read (Elt Ideal) (result0 m c) := by
  obtain ⟨-, -, ⟨e0, e1⟩, ⟨d0, d1⟩, -⟩ := idx t
  rw [Cert.InProjIdeal.Value.flushed3_A, out3_eq]
  funext y
  have f0 : (((cfg0.win 3).blk t).view.emb y 0 : Nat) = t.val * 512 + (y 0 : Nat) := by
    rw [← d0]; exact Pipeline.Window.rect_emb_val win0_3 t y 0
  have f1 : (((cfg0.win 3).blk t).view.emb y 1 : Nat) = (y 1 : Nat) :=
    Pipeline.Window.rect_emb_val_of_index_zero win0_3 t 1 d1 y
  show out (iblk m c 0 t) (iblk m c 1 t) (iblk m c 2 t) y = result0 m c (((cfg0.win 3).blk t).view.emb y)
  unfold result0 out
  refine Finset.sum_congr rfl fun k _ => ?_
  congr 1
  · exact nrm_blk m c t _ _ f0 k k rfl
  · refine Block.congr2 (m ((c : Thread nD τ).loc main_arg2)) ?_ ?_
    · exact Pipeline.Window.rect_emb_val_of_index_zero win0_2 t 0 e0 (ix2 k (y 1))
    · exact (Pipeline.Window.rect_emb_val_of_index_zero win0_2 t 1 e1 (ix2 k (y 1))).trans f1.symm

/-- What point `t` writes back to the normed rows is block `t` of them. -/
theorem flushed4_eq (c : Dev nD) (t : Fin cfg0.N) :
    (dats m 0 c).flushed 4 t = ((cfg0.win 4).blk t).view.read (Elt Ideal) (result1 m c) := by
  obtain ⟨-, -, -, -, ⟨d0, d1⟩⟩ := idx t
  rw [Cert.InProjIdeal.Value.flushed4_A, out4_eq]
  funext y
  have f0 : (((cfg0.win 4).blk t).view.emb y 0 : Nat) = t.val * 512 + (y 0 : Nat) := by
    rw [← d0]; exact Pipeline.Window.rect_emb_val win0_4 t y 0
  have f1 : (((cfg0.win 4).blk t).view.emb y 1 : Nat) = (y 1 : Nat) :=
    Pipeline.Window.rect_emb_val_of_index_zero win0_4 t 1 d1 y
  show Norm.rows (iblk m c 0 t) (iblk m c 1 t) y = result1 m c (((cfg0.win 4).blk t).view.emb y)
  exact nrm_blk m c t _ _ f0 _ _ f1.symm

/-- The blocks tile the product. -/
theorem cover3 (i : S8192x5760.Idx) : ∃ t : Fin cfg0.N, (cfg0.win 3).flush t = true ∧ i ∈ ((cfg0.win 3).blk t).view.set := by
  have h0 : (i 0 : Nat) < 8192 := (i 0).isLt
  have h1 : (i 1 : Nat) < 5760 := (i 1).isLt
  have hN : cfg0.N = 16 := N_0
  obtain ⟨t, ht⟩ : ∃ t : Fin cfg0.N, t.val = (i 0 : Nat) / 512 := ⟨⟨(i 0 : Nat) / 512, by omega⟩, rfl⟩
  obtain ⟨-, -, -, ⟨d0, d1⟩, -⟩ := idx t
  refine ⟨t, flush0_3 t, ?_⟩
  show i ∈ ((View.whole main_v0_0).slice (win0_3.rect t)).set
  rw [View.set_slice_whole, Rect.mem_set_unit]
  intro a
  match a with
  | ⟨0, _⟩ =>
    show win0_3.index t (0 : Fin 2) * 512 ≤ (i 0 : Nat) ∧ (i 0 : Nat) < win0_3.index t (0 : Fin 2) * 512 + 512
    rw [d0]; omega
  | ⟨1, _⟩ =>
    show win0_3.index t (1 : Fin 2) * 5760 ≤ (i 1 : Nat) ∧ (i 1 : Nat) < win0_3.index t (1 : Fin 2) * 5760 + 5760
    rw [d1]; omega

/-- The blocks tile the normed rows. -/
theorem cover4 (i : S8192x1024.Idx) : ∃ t : Fin cfg0.N, (cfg0.win 4).flush t = true ∧ i ∈ ((cfg0.win 4).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0 : Nat) / 512 := ⟨⟨(i 0 : Nat) / 512, by omega⟩, rfl⟩
  obtain ⟨-, -, -, -, ⟨d0, d1⟩⟩ := idx t
  refine ⟨t, flush0_4 t, ?_⟩
  show i ∈ ((View.whole main_v0_1).slice (win0_4.rect t)).set
  rw [View.set_slice_whole, Rect.mem_set_unit]
  intro a
  match a with
  | ⟨0, _⟩ =>
    show win0_4.index t (0 : Fin 2) * 512 ≤ (i 0 : Nat) ∧ (i 0 : Nat) < win0_4.index t (0 : Fin 2) * 512 + 512
    rw [d0]; omega
  | ⟨1, _⟩ =>
    show win0_4.index t (1 : Fin 2) * 1024 ≤ (i 1 : Nat) ∧ (i 1 : Nat) < win0_4.index t (1 : Fin 2) * 1024 + 1024
    rw [d1]; omega

/-- The run, with the results named. -/
theorem run : θ_run defs (onTc (τ := τ) (main (F := Ideal))) ⟨m, fun _ => 0, ρ⟩ fun r => ∀ c : Dev nD,
      r.2.mem ((c : Thread nD τ).loc main_v0_0) = result0 m c
      ∧ r.2.mem ((c : Thread nD τ).loc main_v0_1) = result1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans
    ((dats m 0 c).arrAt_eq_of_cover 3 (result0 m c) (fun t _ => flushed3_eq m c t) cover3), (h c).2.1.trans
    ((dats m 0 c).arrAt_eq_of_cover 4 (result1 m c) (fun t _ => flushed4_eq m c t) cover4), (h c).2.2⟩)
    (Cert.InProjIdeal.Value.run_blocks m ρ)

end Cert.InProjVal

namespace Cert.InProjVal

open Cert.InProjRefIdeal Cert.InProjRefIdeal.Gen Cert.InProjRefIdeal.Read

/-- The reference's normed rows are the same function of the arguments. -/
theorem ref_rows (x0 : (⟨S8192x1024, .f32⟩ : BufTy).Contents (Elt Ideal)) (x1 : (⟨S1x1024, .f32⟩ : BufTy).Contents (Elt Ideal)) :
    val_main_v11 (F := Ideal) x0 x1 = Norm.rows x0 x1 := by
  funext i
  simp only [val_main_v11, val_main_v10, val_main_v9, val_main_v8, val_main_v7, val_main_v6, val_main_v5, val_main_v4, val_main_v3,
    val_main_v2, val_main_v1, val_main_v0, val_main_cst, val_main_cst_0, val_main_cst_1, pointwise, zero_add]
  exact Norm.rows_apply x0 x1 i _ rfl _ rfl

/-- The reference's product is the same function of the arguments. -/
theorem ref_out (x0 : (⟨S8192x1024, .f32⟩ : BufTy).Contents (Elt Ideal)) (x1 : (⟨S1x1024, .f32⟩ : BufTy).Contents (Elt Ideal))
    (x2 : (⟨S1024x5760, .bf16⟩ : BufTy).Contents (Elt Ideal)) : val_main_v14 (F := Ideal) x0 x1 x2 = out x0 x1 x2 := by
  funext i
  simp only [val_main_v14, val_main_v13, val_main_v12, pointwise, zero_add, ref_rows]
  rfl

/-- The reference's run, with the results named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = out (m ((c.tc : Thread nD τ).loc main_arg0))
          (m ((c.tc : Thread nD τ).loc main_arg1)) (m ((c.tc : Thread nD τ).loc main_arg2))
      ∧ r.2.mem ((c.tc : Thread nD τ).loc main_v15) = Norm.rows (m ((c.tc : Thread nD τ).loc main_arg0))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v14_eq _ _ _).trans (ref_out _ _ _)),
      (h c).2.1.trans ((val_main_v15_eq _ _).trans (ref_rows _ _)), (h c).2.2⟩)
    (Cert.InProjRefIdeal.Value.run (F := Ideal) m ρ)

end Cert.InProjVal

end
-- ==== Proof.UpProj.lean ====
/-
  The value of the norm and the MLP's up product: what the kernel's run leaves in its two results is, at every index, the
  product of a normed row with a column of the weight, and the normed row.
-/
module

public import proofs.«01_k».proof.Proof.Norm
public import proofs.«01_k».proof.Proof.Gen.UpProjIdeal.Value
public import proofs.«01_k».proof.Proof.Gen.UpProjRefIdeal.Run
public import proofs.«01_k».proof.Proof.Gen.UpProjRefIdeal.Read

@[expose] public section

noncomputable section

open Idealize.ShloMosaic Idealize.ShloMosaic.TcCoe Idealize.SL.Sem
open Idealize.ShloMosaic.Pipeline (Dat)

namespace Cert.UpProjVal

open Cert.UpProjIdeal Cert.UpProjIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The column of the weight's chunks that a column of the product is. -/
def col (k : Fin 1024) (q : Fin 4096) : (⟨3, ![8, 1024, 512]⟩ : Shape).Idx :=
  ix3 (⟨(q : Nat) / 512, by have := q.isLt; omega⟩ : Fin 8) k (⟨(q : Nat) % 512, by omega⟩ : Fin 512)

/-- The product, as a function of the rows `x`, the norm's weight `nw` and the weight `w` in 8 chunks of columns, over `n` rows. -/
def out {n : Nat} (x : (⟨2, ![n, 1024]⟩ : Shape).Idx → EReal) (nw : (⟨2, ![1, 1024]⟩ : Shape).Idx → EReal)
    (w : (⟨3, ![8, 1024, 512]⟩ : Shape).Idx → EReal) (y : (⟨2, ![n, 4096]⟩ : Shape).Idx) : EReal :=
  ∑ k : Fin 1024, Norm.nrm x nw (y 0) k * w (col k (y 1))

/-- The normed rows of the body. -/
theorem pay1_eq (v : Vec Ideal S512x1024 .f32) (w : Vec Ideal S1x1024 .f32) : k0_pay1 (F := Ideal) v w = Norm.rows v w := by
  funext x
  unfold k0_pay1
  simp only [pointwise, zero_add]
  exact Norm.rows_apply v w x _ rfl _ rfl

/-- A chunk of the body, at an index. -/
theorem pay2_apply (v : Vec Ideal S512x1024 .f32) (w : Vec Ideal S1x1024 .f32) (u : Vec Ideal S1x1024x512 .bf16) (x : S512x512.Idx) :
    k0_pay2 (F := Ideal) v w u x = ∑ k : Fin 1024, Norm.nrm v w (x 0) k * u (ix3 0 k (x 1)) := by
  unfold k0_pay2
  simp only [pointwise, zero_add, pay1_eq]
  rfl

/-- Chunk `j` is the block of `out` at column offset `512 * j`. -/
theorem piece (x0 : Vec Ideal S512x1024 .f32) (x1 : Vec Ideal S1x1024 .f32) (x2 : Vec Ideal S8x1024x512 .bf16) (j o : Nat) (ho : o = 512 * j)
    (h1 : ∀ a, (![j, 0, 0] : Fin 3 → Nat) a + S1x1024x512.size a ≤ S8x1024x512.size a)
    (h2 : ∀ a, (![0, o] : Fin 2 → Nat) a + S512x512.size a ≤ S512x4096.size a) (x : S512x512.Idx) :
    k0_pay2 (F := Ideal) (View.ld x0 r0_0) (View.ld x1 r0_1)
        (View.ld x2 (Rect.unit (s := S8x1024x512) ![j, 0, 0] S1x1024x512.size h1)) x
      = out x0 x1 x2 ((Rect.unit (s := S512x4096) ![0, o] S512x512.size h2).emb x) := by
  rw [View.ld_unit_zero hz, View.ld_unit_zero hz, pay2_apply]
  unfold out
  have hx : (x 1 : Nat) < 512 := (x 1).isLt
  have e0 : ((Rect.unit (s := S512x4096) ![0, o] S512x512.size h2).emb x 0 : Nat) = x 0 :=
    (Block.emb_val (s := S512x4096) ![0, o] S512x512.size h2 x 0).trans (Nat.zero_add _)
  have e1 : ((Rect.unit (s := S512x4096) ![0, o] S512x512.size h2).emb x 1 : Nat) = o + x 1 :=
    Block.emb_val (s := S512x4096) ![0, o] S512x512.size h2 x 1
  have q0 : j = ((Rect.unit (s := S512x4096) ![0, o] S512x512.size h2).emb x 1 : Nat) / 512 := by rw [e1, ho]; omega
  have q1 : (x 1 : Nat) = ((Rect.unit (s := S512x4096) ![0, o] S512x512.size h2).emb x 1 : Nat) % 512 := by rw [e1, ho]; omega
  refine Finset.sum_congr rfl fun k _ => ?_
  congr 1
  · exact Norm.nrm_congr x0 x0 x1 x1 _ _ k k (fun j => Block.congr2 x0 e0.symm rfl) (fun _ => rfl) rfl
  · exact Norm.congr3 x2
      ((Block.emb_val (s := S8x1024x512) ![j, 0, 0] S1x1024x512.size h1 (ix3 0 k (x 1)) 0).trans q0)
      ((Block.emb_val (s := S8x1024x512) ![j, 0, 0] S1x1024x512.size h1 (ix3 0 k (x 1)) 1).trans (Nat.zero_add _))
      ((Block.emb_val (s := S8x1024x512) ![j, 0, 0] S1x1024x512.size h1 (ix3 0 k (x 1)) 2).trans ((Nat.zero_add _).trans q1))

/-- What the body leaves in the product's staging buffer is `out` of the blocks. -/
theorem out3_eq (x0 : Vec Ideal S512x1024 .f32) (x1 : Vec Ideal S1x1024 .f32) (x2 : Vec Ideal S8x1024x512 .bf16) :
    out0_3 (F := Ideal) x0 x1 x2 = out x0 x1 x2 := by
  funext y
  unfold out0_3
  refine View.canon_apply_of_pieces (Val := Elt Ideal) (e := .bf16) (out x0 x1 x2) _ ?_ y (cover0_3 _ _ _ _ _ _ _ _ y)
  intro p hp
  simp only [List.mem_cons, List.not_mem_nil, or_false] at hp
  rcases hp with rfl | rfl | rfl | rfl | rfl | rfl | rfl | rfl
  · exact piece x0 x1 x2 7 3584 rfl inb_S8x1024x512_S1x1024x512_7_0_0 inb_S512x4096_S512x512_0_3584
  · exact piece x0 x1 x2 6 3072 rfl inb_S8x1024x512_S1x1024x512_6_0_0 inb_S512x4096_S512x512_0_3072
  · exact piece x0 x1 x2 5 2560 rfl inb_S8x1024x512_S1x1024x512_5_0_0 inb_S512x4096_S512x512_0_2560
  · exact piece x0 x1 x2 4 2048 rfl inb_S8x1024x512_S1x1024x512_4_0_0 inb_S512x4096_S512x512_0_2048
  · exact piece x0 x1 x2 3 1536 rfl inb_S8x1024x512_S1x1024x512_3_0_0 inb_S512x4096_S512x512_0_1536
  · exact piece x0 x1 x2 2 1024 rfl inb_S8x1024x512_S1x1024x512_2_0_0 inb_S512x4096_S512x512_0_1024
  · exact piece x0 x1 x2 1 512 rfl inb_S8x1024x512_S1x1024x512_1_0_0 inb_S512x4096_S512x512_0_512
  · exact piece x0 x1 x2 0 0 rfl inb_S8x1024x512_S1x1024x512_0_0_0 inb_S512x4096_S512x512_0_0

/-- What the body leaves in the normed rows' staging buffer is the normed rows of the block. -/
theorem out4_eq (x0 : Vec Ideal S512x1024 .f32) (x1 : Vec Ideal S1x1024 .f32) (x2 : Vec Ideal S8x1024x512 .bf16) :
    out0_4 (F := Ideal) x0 x1 x2 = Norm.rows x0 x1 := by
  unfold out0_4
  rw [View.canon_unit_zero hz, View.ld_unit_zero hz, View.ld_unit_zero hz]
  exact pay1_eq x0 x1

/-- The result arrays the run is shown to leave. -/
abbrev result0 (c : Dev nD) : Buf (Elt Ideal) ((c : Thread nD τ).loc main_v0_0) :=
  out (m ((c : Thread nD τ).loc main_arg0)) (m ((c : Thread nD τ).loc main_arg1)) (m ((c : Thread nD τ).loc main_arg2))
abbrev result1 (c : Dev nD) : Buf (Elt Ideal) ((c : Thread nD τ).loc main_v0_1) :=
  Norm.rows (m ((c : Thread nD τ).loc main_arg0)) (m ((c : Thread nD τ).loc main_arg1))

/-- The block indices of the windows at each grid point. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-- A block of the rows and of the norm's weight, normed, is the block of the normed rows. -/
theorem nrm_blk (c : Dev nD) (t : Fin cfg0.N) (p : Fin 512) (p' : Fin 8192) (hp : (p' : Nat) = t.val * 512 + p) (k k' : Fin 1024)
    (hk : (k : Nat) = k') :
    Norm.nrm (iblk m c 0 t) (iblk m c 1 t) p k
      = Norm.nrm (m ((c : Thread nD τ).loc main_arg0)) (m ((c : Thread nD τ).loc main_arg1)) p' k' := by
  obtain ⟨⟨a0, a1⟩, ⟨b0, b1⟩, -⟩ := idx t
  refine Norm.nrm_congr (iblk m c 0 t) _ (iblk m c 1 t) _ p p' k k' (fun j => ?_) (fun j => ?_) hk
  · refine Block.congr2 (m ((c : Thread nD τ).loc main_arg0)) ?_ ?_
    · exact ((Pipeline.Window.rect_emb_val win0_0 t (ix2 p j) 0).trans (by rw [a0]; rfl)).trans hp.symm
    · exact Pipeline.Window.rect_emb_val_of_index_zero win0_0 t 1 a1 (ix2 p j)
  · refine Block.congr2 (m ((c : Thread nD τ).loc main_arg1)) ?_ ?_
    · exact Pipeline.Window.rect_emb_val_of_index_zero win0_1 t 0 b0 (ix2 0 j)
    · exact Pipeline.Window.rect_emb_val_of_index_zero win0_1 t 1 b1 (ix2 0 j)

/-- What point `t` writes back to the product is block `t` of it. -/
theorem flushed3_eq (c : Dev nD) (t : Fin cfg0.N) :
    (dats m 0 c).flushed 3 t = ((cfg0.win 3).blk t).view.read (Elt Ideal) (result0 m c) := by
  obtain ⟨-, -, ⟨e0, e1, e2⟩, ⟨d0, d1⟩, -⟩ := idx t
  rw [Cert.UpProjIdeal.Value.flushed3, out3_eq]
  funext y
  have f0 : (((cfg0.win 3).blk t).view.emb y 0 : Nat) = t.val * 512 + (y 0 : Nat) := by
    rw [← d0]; exact Pipeline.Window.rect_emb_val win0_3 t y 0
  have f1 : (((cfg0.win 3).blk t).view.emb y 1 : Nat) = (y 1 : Nat) :=
    Pipeline.Window.rect_emb_val_of_index_zero win0_3 t 1 d1 y
  show out (iblk m c 0 t) (iblk m c 1 t) (iblk m c 2 t) y = result0 m c (((cfg0.win 3).blk t).view.emb y)
  unfold result0 out
  refine Finset.sum_congr rfl fun k _ => ?_
  congr 1
  · exact nrm_blk m c t _ _ f0 k k rfl
  · refine Norm.congr3 (m ((c : Thread nD τ).loc main_arg2)) ?_ ?_ ?_
    · exact (Pipeline.Window.rect_emb_val_of_index_zero win0_2 t 0 e0 (col k (y 1))).trans (congrArg (· / 512) f1.symm)
    · exact Pipeline.Window.rect_emb_val_of_index_zero win0_2 t 1 e1 (col k (y 1))
    · exact (Pipeline.Window.rect_emb_val_of_index_zero win0_2 t 2 e2 (col k (y 1))).trans (congrArg (· % 512) f1.symm)

/-- What point `t` writes back to the normed rows is block `t` of them. -/
theorem flushed4_eq (c : Dev nD) (t : Fin cfg0.N) :
    (dats m 0 c).flushed 4 t = ((cfg0.win 4).blk t).view.read (Elt Ideal) (result1 m c) := by
  obtain ⟨-, -, -, -, ⟨d0, d1⟩⟩ := idx t
  rw [Cert.UpProjIdeal.Value.flushed4, out4_eq]
  funext y
  have f0 : (((cfg0.win 4).blk t).view.emb y 0 : Nat) = t.val * 512 + (y 0 : Nat) := by
    rw [← d0]; exact Pipeline.Window.rect_emb_val win0_4 t y 0
  have f1 : (((cfg0.win 4).blk t).view.emb y 1 : Nat) = (y 1 : Nat) :=
    Pipeline.Window.rect_emb_val_of_index_zero win0_4 t 1 d1 y
  show Norm.rows (iblk m c 0 t) (iblk m c 1 t) y = result1 m c (((cfg0.win 4).blk t).view.emb y)
  exact nrm_blk m c t _ _ f0 _ _ f1.symm

/-- The blocks tile the product. -/
theorem cover3 (i : S8192x4096.Idx) : ∃ t : Fin cfg0.N, (cfg0.win 3).flush t = true ∧ i ∈ ((cfg0.win 3).blk t).view.set := by
  have h0 : (i 0 : Nat) < 8192 := (i 0).isLt
  have h1 : (i 1 : Nat) < 4096 := (i 1).isLt
  have hN : cfg0.N = 16 := N_0
  obtain ⟨t, ht⟩ : ∃ t : Fin cfg0.N, t.val = (i 0 : Nat) / 512 := ⟨⟨(i 0 : Nat) / 512, by omega⟩, rfl⟩
  obtain ⟨-, -, -, ⟨d0, d1⟩, -⟩ := idx t
  refine ⟨t, flush0_3 t, ?_⟩
  show i ∈ ((View.whole main_v0_0).slice (win0_3.rect t)).set
  rw [View.set_slice_whole, Rect.mem_set_unit]
  intro a
  match a with
  | ⟨0, _⟩ =>
    show win0_3.index t (0 : Fin 2) * 512 ≤ (i 0 : Nat) ∧ (i 0 : Nat) < win0_3.index t (0 : Fin 2) * 512 + 512
    rw [d0]; omega
  | ⟨1, _⟩ =>
    show win0_3.index t (1 : Fin 2) * 4096 ≤ (i 1 : Nat) ∧ (i 1 : Nat) < win0_3.index t (1 : Fin 2) * 4096 + 4096
    rw [d1]; omega

/-- The blocks tile the normed rows. -/
theorem cover4 (i : S8192x1024.Idx) : ∃ t : Fin cfg0.N, (cfg0.win 4).flush t = true ∧ i ∈ ((cfg0.win 4).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0 : Nat) / 512 := ⟨⟨(i 0 : Nat) / 512, by omega⟩, rfl⟩
  obtain ⟨-, -, -, -, ⟨d0, d1⟩⟩ := idx t
  refine ⟨t, flush0_4 t, ?_⟩
  show i ∈ ((View.whole main_v0_1).slice (win0_4.rect t)).set
  rw [View.set_slice_whole, Rect.mem_set_unit]
  intro a
  match a with
  | ⟨0, _⟩ =>
    show win0_4.index t (0 : Fin 2) * 512 ≤ (i 0 : Nat) ∧ (i 0 : Nat) < win0_4.index t (0 : Fin 2) * 512 + 512
    rw [d0]; omega
  | ⟨1, _⟩ =>
    show win0_4.index t (1 : Fin 2) * 1024 ≤ (i 1 : Nat) ∧ (i 1 : Nat) < win0_4.index t (1 : Fin 2) * 1024 + 1024
    rw [d1]; omega

/-- The run, with the results named. -/
theorem run : θ_run defs (onTc (τ := τ) (main (F := Ideal))) ⟨m, fun _ => 0, ρ⟩ fun r => ∀ c : Dev nD,
      r.2.mem ((c : Thread nD τ).loc main_v0_0) = result0 m c
      ∧ r.2.mem ((c : Thread nD τ).loc main_v0_1) = result1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans
    ((dats m 0 c).arrAt_eq_of_cover 3 (result0 m c) (fun t _ => flushed3_eq m c t) cover3), (h c).2.1.trans
    ((dats m 0 c).arrAt_eq_of_cover 4 (result1 m c) (fun t _ => flushed4_eq m c t) cover4), (h c).2.2⟩)
    (Cert.UpProjIdeal.Value.run_blocks m ρ)

end Cert.UpProjVal

namespace Cert.UpProjVal

open Cert.UpProjRefIdeal Cert.UpProjRefIdeal.Gen Cert.UpProjRefIdeal.Read

/-- The reference's normed rows are the same function of the arguments. -/
theorem ref_rows (x0 : (⟨S8192x1024, .f32⟩ : BufTy).Contents (Elt Ideal)) (x1 : (⟨S1x1024, .f32⟩ : BufTy).Contents (Elt Ideal)) :
    val_main_v11 (F := Ideal) x0 x1 = Norm.rows x0 x1 := by
  funext i
  simp only [val_main_v11, val_main_v10, val_main_v9, val_main_v8, val_main_v7, val_main_v6, val_main_v5, val_main_v4, val_main_v3,
    val_main_v2, val_main_v1, val_main_v0, val_main_cst, val_main_cst_0, val_main_cst_1, pointwise, zero_add]
  exact Norm.rows_apply x0 x1 i _ rfl _ rfl

/-- The reference's product is the same function of the arguments. -/
theorem ref_out (x0 : (⟨S8192x1024, .f32⟩ : BufTy).Contents (Elt Ideal)) (x1 : (⟨S1x1024, .f32⟩ : BufTy).Contents (Elt Ideal))
    (x2 : (⟨S8x1024x512, .bf16⟩ : BufTy).Contents (Elt Ideal)) : val_main_v16 (F := Ideal) x0 x1 x2 = out x0 x1 x2 := by
  funext i
  refine (val_main_v15_apply x0 x1 x2 i).trans ?_
  unfold out
  refine Finset.sum_congr rfl fun k _ => ?_
  congr 1
  · rw [ref_rows]
    exact Norm.nrm_congr x0 x0 x1 x1 _ _ _ _ (fun _ => rfl) (fun _ => rfl) rfl
  · rw [val_main_v14_apply, val_main_v13_apply]
    have hk : (k : Nat) < 1024 := k.isLt
    have hq : (i 1 : Nat) < 4096 := (i 1).isLt
    refine Norm.congr3 x2 ?_ ?_ ?_
    · show ((k : Nat) * 4096 + (i 1 : Nat)) / 512 % 8 = (i 1 : Nat) / 512
      omega
    · show ((k : Nat) * 4096 + (i 1 : Nat)) / 4096 = (k : Nat)
      omega
    · show ((k : Nat) * 4096 + (i 1 : Nat)) % 512 = (i 1 : Nat) % 512
      omega

/-- The reference's run, with the results named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = out (m ((c.tc : Thread nD τ).loc main_arg0))
          (m ((c.tc : Thread nD τ).loc main_arg1)) (m ((c.tc : Thread nD τ).loc main_arg2))
      ∧ r.2.mem ((c.tc : Thread nD τ).loc main_v17) = Norm.rows (m ((c.tc : Thread nD τ).loc main_arg0))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v16_eq _ _ _).trans (ref_out _ _ _)),
      (h c).2.1.trans ((val_main_v17_eq _ _).trans (ref_rows _ _)), (h c).2.2⟩)
    (Cert.UpProjRefIdeal.Value.run (F := Ideal) m ρ)

end Cert.UpProjVal

end
-- ==== Proof.OutProj.lean ====
/-
  The value of the mixer's output product: what the kernel's run leaves in its result is, at every index, the residual plus the
  product of a row of the gated values with a column of the weight.
-/
module

public import proofs.«01_k».proof.Proof.Block
public import proofs.«01_k».proof.Proof.Gen.OutProjIdeal.Value
public import proofs.«01_k».proof.Proof.Gen.OutProjRefIdeal.Run
public import proofs.«01_k».proof.Proof.Gen.OutProjRefIdeal.Read

@[expose] public section

noncomputable section

open Idealize.ShloMosaic Idealize.ShloMosaic.TcCoe Idealize.SL.Sem
open Idealize.ShloMosaic.Pipeline (Dat)

namespace Cert.OutProjVal

open Cert.OutProjIdeal Cert.OutProjIdeal.Gen

variable (m : (ℓ : Loc nD τ sig) → Buf (Elt Ideal) ℓ) (ρ : Dev nD → PrngReg)

theorem hz : (![0, 0] : Fin 2 → Nat) = fun _ => 0 := funext fun a => by fin_cases a <;> rfl

/-- What one input contributes to a product. -/
def act (a : EReal) : EReal := a

/-- The result, as a function of the inputs `a`, the weight `w` and the residual `res` over `n` rows. -/
def out {n : Nat} (a : (⟨2, ![n, 2048]⟩ : Shape).Idx → EReal) (w : (⟨2, ![2048, 1024]⟩ : Shape).Idx → EReal)
    (res : (⟨2, ![n, 1024]⟩ : Shape).Idx → EReal) (y : (⟨2, ![n, 1024]⟩ : Shape).Idx) : EReal :=
  res y + ∑ k : Fin 2048, act (a (ix2 (y 0) k)) * w (ix2 k (y 1))

/-- What the body stores, at an index. -/
theorem pay_apply (a : Vec Ideal S512x2048 .bf16) (res : Vec Ideal S512x1024 .f32) (w : Vec Ideal S2048x1024 .bf16) (y : S512x1024.Idx) :
    k0_pay1 (F := Ideal) a res w y = out a w res y := by
  unfold k0_pay1 out act
  simp only [pointwise, zero_add]

/-- What the body leaves in the result's staging buffer is `out` of the blocks. -/
theorem out_eq (x0 : Vec Ideal S512x2048 .bf16) (x1 : Vec Ideal S2048x1024 .bf16) (x2 : Vec Ideal S512x1024 .f32) :
    out0_3 (F := Ideal) x0 x1 x2 = out x0 x1 x2 := by
  unfold out0_3
  rw [View.canon_unit_zero hz, View.ld_unit_zero hz, View.ld_unit_zero hz, View.ld_unit_zero hz]
  exact funext fun y => pay_apply x0 x2 x1 y

/-- The result array the run is shown to leave. -/
abbrev result (c : Dev nD) : Buf (Elt Ideal) ((c : Thread nD τ).loc main_v0) :=
  out (m ((c : Thread nD τ).loc main_arg0)) (m ((c : Thread nD τ).loc main_arg1)) (m ((c : Thread nD τ).loc main_arg2))

/-- The block indices of the windows at each grid point. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- What point `t` writes back is block `t` of the result. -/
theorem flushed_eq (c : Dev nD) (t : Fin cfg0.N) :
    (dats m 0 c).flushed 3 t = ((cfg0.win 3).blk t).view.read (Elt Ideal) (result m c) := by
  obtain ⟨⟨a0, a1⟩, ⟨b0, b1⟩, ⟨e0, e1⟩, d0, d1⟩ := idx t
  rw [Cert.OutProjIdeal.Value.flushed3, out_eq]
  funext y
  have f0 : (((cfg0.win 3).blk t).view.emb y 0 : Nat) = t.val * 512 + (y 0 : Nat) := by
    rw [← d0]; exact Pipeline.Window.rect_emb_val win0_3 t y 0
  have f1 : (((cfg0.win 3).blk t).view.emb y 1 : Nat) = (y 1 : Nat) :=
    Pipeline.Window.rect_emb_val_of_index_zero win0_3 t 1 d1 y
  show out (iblk m c 0 t) (iblk m c 1 t) (iblk m c 2 t) y = result m c (((cfg0.win 3).blk t).view.emb y)
  unfold result out
  congr 1
  · refine Finset.sum_congr rfl fun k _ => ?_
    congr 1
    · refine congrArg act (Block.congr2 (m ((c : Thread nD τ).loc main_arg0)) ?_ ?_)
      · exact ((Pipeline.Window.rect_emb_val win0_0 t (ix2 (y 0) k) 0).trans (by rw [a0]; rfl)).trans f0.symm
      · exact Pipeline.Window.rect_emb_val_of_index_zero win0_0 t 1 a1 (ix2 (y 0) k)
    · refine Block.congr2 (m ((c : Thread nD τ).loc main_arg1)) ?_ ?_
      · exact Pipeline.Window.rect_emb_val_of_index_zero win0_1 t 0 b0 (ix2 k (y 1))
      · exact (Pipeline.Window.rect_emb_val_of_index_zero win0_1 t 1 b1 (ix2 k (y 1))).trans f1.symm

/-- The blocks tile the result. -/
theorem cover (i : S8192x1024.Idx) : ∃ t : Fin cfg0.N, (cfg0.win 3).flush t = true ∧ i ∈ ((cfg0.win 3).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0 : Nat) / 512 := ⟨⟨(i 0 : Nat) / 512, by omega⟩, rfl⟩
  obtain ⟨-, -, -, d0, d1⟩ := idx t
  refine ⟨t, flush0_3 t, ?_⟩
  show i ∈ ((View.whole main_v0).slice (win0_3.rect t)).set
  rw [View.set_slice_whole, Rect.mem_set_unit]
  intro a
  match a with
  | ⟨0, _⟩ =>
    show win0_3.index t (0 : Fin 2) * 512 ≤ (i 0 : Nat) ∧ (i 0 : Nat) < win0_3.index t (0 : Fin 2) * 512 + 512
    rw [d0]; omega
  | ⟨1, _⟩ =>
    show win0_3.index t (1 : Fin 2) * 1024 ≤ (i 1 : Nat) ∧ (i 1 : Nat) < win0_3.index t (1 : Fin 2) * 1024 + 1024
    rw [d1]; omega

/-- The run, with the result named. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans
    ((dats m 0 c).arrAt_eq_of_cover 3 (result m c) (fun t _ => flushed_eq m c t) cover), (h c).2⟩) (Cert.OutProjIdeal.Value.run_blocks m ρ)

end Cert.OutProjVal

namespace Cert.OutProjVal

open Cert.OutProjRefIdeal Cert.OutProjRefIdeal.Gen Cert.OutProjRefIdeal.Read

/-- The reference's result is the same function of the arguments. -/
theorem ref_eq (x0 : (⟨S8192x2048, .bf16⟩ : BufTy).Contents (Elt Ideal)) (x1 : (⟨S2048x1024, .bf16⟩ : BufTy).Contents (Elt Ideal))
    (x2 : (⟨S8192x1024, .f32⟩ : BufTy).Contents (Elt Ideal)) : val_main_v3 (F := Ideal) x0 x1 x2 = out x0 x1 x2 := by
  funext i
  simp only [val_main_v3, val_main_v2, val_main_v1, val_main_v0, pointwise, zero_add]
  rfl

/-- The reference's run, with the result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = out (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v3_eq _ _ _).trans (ref_eq _ _ _)), (h c).2⟩)
    (Cert.OutProjRefIdeal.Value.run (F := Ideal) m ρ)

end Cert.OutProjVal

end
-- ==== Proof.DownProj.lean ====
/-
  The value of the MLP's down product: what the kernel's run leaves in its result is, at every index, the residual plus the
  product of a row of the squared activation with a column of the weight.
-/
module

public import proofs.«01_k».proof.Proof.Block
public import proofs.«01_k».proof.Proof.Gen.DownProjIdeal.Value
public import proofs.«01_k».proof.Proof.Gen.DownProjRefIdeal.Run
public import proofs.«01_k».proof.Proof.Gen.DownProjRefIdeal.Read

@[expose] public section

noncomputable section

open Idealize.ShloMosaic Idealize.ShloMosaic.TcCoe Idealize.SL.Sem
open Idealize.ShloMosaic.Pipeline (Dat)

namespace Cert.DownProjVal

open Cert.DownProjIdeal Cert.DownProjIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The square of the positive part. -/
def act (a : EReal) : EReal := max a 0 * max a 0

/-- The result, as a function of the inputs `a`, the weight `w` and the residual `res` over `n` rows. -/
def out {n : Nat} (a : (⟨2, ![n, 4096]⟩ : Shape).Idx → EReal) (w : (⟨2, ![4096, 1024]⟩ : Shape).Idx → EReal)
    (res : (⟨2, ![n, 1024]⟩ : Shape).Idx → EReal) (y : (⟨2, ![n, 1024]⟩ : Shape).Idx) : EReal :=
  res y + ∑ k : Fin 4096, act (a (ix2 (y 0) k)) * w (ix2 k (y 1))

/-- What the body stores, at an index. -/
theorem pay_apply (a : Vec Ideal S512x4096 .bf16) (res : Vec Ideal S512x1024 .f32) (w : Vec Ideal S4096x1024 .bf16) (y : S512x1024.Idx) :
    k0_pay1 (F := Ideal) a res w y = out a w res y := by
  unfold k0_pay1 out act
  simp only [pointwise, zero_add]

/-- What the body leaves in the result's staging buffer is `out` of the blocks. -/
theorem out_eq (x0 : Vec Ideal S512x4096 .bf16) (x1 : Vec Ideal S4096x1024 .bf16) (x2 : Vec Ideal S512x1024 .f32) :
    out0_3 (F := Ideal) x0 x1 x2 = out x0 x1 x2 := by
  unfold out0_3
  rw [View.canon_unit_zero hz, View.ld_unit_zero hz, View.ld_unit_zero hz, View.ld_unit_zero hz]
  exact funext fun y => pay_apply x0 x2 x1 y

/-- The result array the run is shown to leave. -/
abbrev result (c : Dev nD) : Buf (Elt Ideal) ((c : Thread nD τ).loc main_v0) :=
  out (m ((c : Thread nD τ).loc main_arg0)) (m ((c : Thread nD τ).loc main_arg1)) (m ((c : Thread nD τ).loc main_arg2))

/-- The block indices of the windows at each grid point. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- What point `t` writes back is block `t` of the result. -/
theorem flushed_eq (c : Dev nD) (t : Fin cfg0.N) :
    (dats m 0 c).flushed 3 t = ((cfg0.win 3).blk t).view.read (Elt Ideal) (result m c) := by
  obtain ⟨⟨a0, a1⟩, ⟨b0, b1⟩, ⟨e0, e1⟩, d0, d1⟩ := idx t
  rw [Cert.DownProjIdeal.Value.flushed3, out_eq]
  funext y
  have f0 : (((cfg0.win 3).blk t).view.emb y 0 : Nat) = t.val * 512 + (y 0 : Nat) := by
    rw [← d0]; exact Pipeline.Window.rect_emb_val win0_3 t y 0
  have f1 : (((cfg0.win 3).blk t).view.emb y 1 : Nat) = (y 1 : Nat) :=
    Pipeline.Window.rect_emb_val_of_index_zero win0_3 t 1 d1 y
  show out (iblk m c 0 t) (iblk m c 1 t) (iblk m c 2 t) y = result m c (((cfg0.win 3).blk t).view.emb y)
  unfold result out
  congr 1
  · refine Finset.sum_congr rfl fun k _ => ?_
    congr 1
    · refine congrArg act (Block.congr2 (m ((c : Thread nD τ).loc main_arg0)) ?_ ?_)
      · exact ((Pipeline.Window.rect_emb_val win0_0 t (ix2 (y 0) k) 0).trans (by rw [a0]; rfl)).trans f0.symm
      · exact Pipeline.Window.rect_emb_val_of_index_zero win0_0 t 1 a1 (ix2 (y 0) k)
    · refine Block.congr2 (m ((c : Thread nD τ).loc main_arg1)) ?_ ?_
      · exact Pipeline.Window.rect_emb_val_of_index_zero win0_1 t 0 b0 (ix2 k (y 1))
      · exact (Pipeline.Window.rect_emb_val_of_index_zero win0_1 t 1 b1 (ix2 k (y 1))).trans f1.symm

/-- The blocks tile the result. -/
theorem cover (i : S8192x1024.Idx) : ∃ t : Fin cfg0.N, (cfg0.win 3).flush t = true ∧ i ∈ ((cfg0.win 3).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0 : Nat) / 512 := ⟨⟨(i 0 : Nat) / 512, by omega⟩, rfl⟩
  obtain ⟨-, -, -, d0, d1⟩ := idx t
  refine ⟨t, flush0_3 t, ?_⟩
  show i ∈ ((View.whole main_v0).slice (win0_3.rect t)).set
  rw [View.set_slice_whole, Rect.mem_set_unit]
  intro a
  match a with
  | ⟨0, _⟩ =>
    show win0_3.index t (0 : Fin 2) * 512 ≤ (i 0 : Nat) ∧ (i 0 : Nat) < win0_3.index t (0 : Fin 2) * 512 + 512
    rw [d0]; omega
  | ⟨1, _⟩ =>
    show win0_3.index t (1 : Fin 2) * 1024 ≤ (i 1 : Nat) ∧ (i 1 : Nat) < win0_3.index t (1 : Fin 2) * 1024 + 1024
    rw [d1]; omega

/-- The run, with the result named. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans
    ((dats m 0 c).arrAt_eq_of_cover 3 (result m c) (fun t _ => flushed_eq m c t) cover), (h c).2⟩) (Cert.DownProjIdeal.Value.run_blocks m ρ)

end Cert.DownProjVal

namespace Cert.DownProjVal

open Cert.DownProjRefIdeal Cert.DownProjRefIdeal.Gen Cert.DownProjRefIdeal.Read

/-- The reference's result is the same function of the arguments. -/
theorem ref_eq (x0 : (⟨S8192x4096, .bf16⟩ : BufTy).Contents (Elt Ideal)) (x1 : (⟨S4096x1024, .bf16⟩ : BufTy).Contents (Elt Ideal))
    (x2 : (⟨S8192x1024, .f32⟩ : BufTy).Contents (Elt Ideal)) : val_main_v5 (F := Ideal) x0 x1 x2 = out x0 x1 x2 := by
  funext i
  simp only [val_main_v5, val_main_v4, val_main_v3, val_main_v2, val_main_v1, val_main_v0, val_main_call0_v0, val_main_call0_cst, pointwise, zero_add]
  rfl

/-- The reference's run, with the result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = out (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v5_eq _ _ _).trans (ref_eq _ _ _)), (h c).2⟩)
    (Cert.DownProjRefIdeal.Value.run (F := Ideal) m ρ)

end Cert.DownProjVal

end
-- ==== Proof.LossHead.lean ====
/-
  The value of the loss and its gradient: the loss is half the sum over the rows of the mean of the squared differences from the
  target, made by the kernel in sixteen blocks of rows; the gradient of the rows is the derivative of the norm applied to the
  differences over the number of columns; the gradient of the norm's weight is a sum over all the rows.
-/
module

public import proofs.«01_k».proof.Proof.NormBwd
public import proofs.«01_k».proof.Proof.Row
public import proofs.«01_k».proof.Proof.Gen.LossHeadIdeal.Value
public import proofs.«01_k».proof.Proof.Gen.LossHeadRefIdeal.Run
public import proofs.«01_k».proof.Proof.Gen.LossHeadRefIdeal.Read
public import Idealize.ShloMosaic.Lib.Tactic
public import Idealize.ShloMosaic.Lib.Pipeline.ReadBack

@[expose] public section

noncomputable section

open Idealize.ShloMosaic Idealize.ShloMosaic.TcCoe Idealize.SL.Sem
open Idealize.ShloMosaic.Pipeline (Dat)

namespace Cert.LossHeadVal

/-- The difference of the normed rows from the target. -/
def err {n : Nat} (x : (⟨2, ![n, 1024]⟩ : Shape).Idx → EReal) (fw : (⟨2, ![1, 1024]⟩ : Shape).Idx → EReal)
    (t : (⟨2, ![n, 1024]⟩ : Shape).Idx → EReal) (p : Fin n) (q : Fin 1024) : EReal :=
  x (ix2 p q) * Norm.scale (fun k => x (ix2 p k)) * fw (ix2 0 q) - t (ix2 p q)

/-- The gradient of the normed rows: the difference over the number of columns. -/
def dh {n : Nat} (x : (⟨2, ![n, 1024]⟩ : Shape).Idx → EReal) (fw : (⟨2, ![1, 1024]⟩ : Shape).Idx → EReal)
    (t : (⟨2, ![n, 1024]⟩ : Shape).Idx → EReal) (p : Fin n) (q : Fin 1024) : EReal :=
  err x fw t p q * Ideal.ofBits FTy.f32 0x3A800000#32

/-- What a row adds to the loss. -/
def rowLoss {n : Nat} (x : (⟨2, ![n, 1024]⟩ : Shape).Idx → EReal) (fw : (⟨2, ![1, 1024]⟩ : Shape).Idx → EReal)
    (t : (⟨2, ![n, 1024]⟩ : Shape).Idx → EReal) (p : Fin n) : EReal :=
  Ideal.ofBits FTy.f32 0x3F000000#32 * ((∑ k, err x fw t p k * err x fw t p k) * Ideal.ofBits FTy.f32 0x3A800000#32)

/-- The loss. -/
def total (x : (⟨2, ![8192, 1024]⟩ : Shape).Idx → EReal) (fw : (⟨2, ![1, 1024]⟩ : Shape).Idx → EReal)
    (t : (⟨2, ![8192, 1024]⟩ : Shape).Idx → EReal) : EReal := ∑ p, rowLoss x fw t p

/-- The gradient that passes by is zero. -/
abbrev none {n : Nat} : (⟨2, ![n, 1024]⟩ : Shape).Idx → EReal := fun _ => 0

theorem err_congr {n n' : Nat} (x t : (⟨2, ![n, 1024]⟩ : Shape).Idx → EReal) (x' t' : (⟨2, ![n', 1024]⟩ : Shape).Idx → EReal)
    (w w' : (⟨2, ![1, 1024]⟩ : Shape).Idx → EReal) (p : Fin n) (p' : Fin n') (hx : ∀ k, x (ix2 p k) = x' (ix2 p' k))
    (hw : ∀ k, w (ix2 0 k) = w' (ix2 0 k)) (ht : ∀ k, t (ix2 p k) = t' (ix2 p' k)) (q : Fin 1024) : err x w t p q = err x' w' t' p' q := by
  unfold err
  simp only [hx, hw, ht]

theorem rowLoss_congr {n n' : Nat} (x t : (⟨2, ![n, 1024]⟩ : Shape).Idx → EReal) (x' t' : (⟨2, ![n', 1024]⟩ : Shape).Idx → EReal)
    (w w' : (⟨2, ![1, 1024]⟩ : Shape).Idx → EReal) (p : Fin n) (p' : Fin n') (h : ∀ q, err x w t p q = err x' w' t' p' q) :
    rowLoss x w t p = rowLoss x' w' t' p' := by
  unfold rowLoss
  simp only [h]

theorem half_eq : Ideal.ofBits FTy.f32 0x3F000000#32 = ((1 / 2 : ℝ) : EReal) := by
  simp [Ideal.ofBits, Ideal.ieee, -EReal.coe_mul]; norm_num

theorem two_eq : Ideal.ofBits FTy.f32 0x40000000#32 = ((2 : ℝ) : EReal) := by
  simp [Ideal.ofBits, Ideal.ieee, -EReal.coe_mul]; norm_num

theorem inv_cols_eq : Ideal.ofBits FTy.f32 0x3A800000#32 = ((1 / 1024 : ℝ) : EReal) := by
  simp [Ideal.ofBits, Ideal.ieee, -EReal.coe_mul]; norm_num

/-- A half goes into a sum. -/
theorem half_sum {n : Nat} (f : Fin n → EReal) :
    Ideal.ofBits FTy.f32 0x3F000000#32 * ∑ p, f p = ∑ p, Ideal.ofBits FTy.f32 0x3F000000#32 * f p := by
  rw [half_eq, mul_comm, ← Norm.sum_mul_real _ _ _ (by norm_num)]
  exact Finset.sum_congr rfl fun p _ => mul_comm _ _

/-- The derivative of half the mean of the squares, at a difference. -/
theorem grad_eq (e : EReal) : Ideal.div (Ideal.ofBits FTy.f32 0x3F000000#32 * 1) Norm.cols
    * (Ideal.ofBits FTy.f32 0x40000000#32 * e) = e * Ideal.ofBits FTy.f32 0x3A800000#32 := by
  rw [mul_one, Norm.div_cols, half_eq, two_eq, inv_cols_eq, mul_comm e, ← mul_assoc]
  refine congrArg (· * e) ?_
  rw [← EReal.coe_mul, ← EReal.coe_mul]
  norm_num

section

open Cert.LossHeadIdeal Cert.LossHeadIdeal.Gen

variable (m : (ℓ : Loc nD τ sig) → Buf (Elt Ideal) ℓ) (ρ : Dev nD → PrngReg)

theorem hz : (![0, 0] : Fin 2 → Nat) = fun _ => 0 := funext fun a => by fin_cases a <;> rfl

section
variable (x : Vec Ideal S512x1024 .f32) (fw : Vec Ideal S1x1024 .f32) (t : Vec Ideal S512x1024 .f32)

/-- The inverse root of the mean square of the body. -/
theorem pay6_apply (y : S512x1.Idx) : k0_pay6 (F := Ideal) x y = Norm.scale (fun k => x (ix2 (y 0) k)) := by
  unfold k0_pay6
  simp only [pointwise, zero_add]
  rfl

/-- The scaled rows of the body. -/
theorem pay7_apply (y : S512x1024.Idx) : k0_pay7 (F := Ideal) x y = x y * Norm.scale (fun k => x (ix2 (y 0) k)) := by
  unfold k0_pay7
  simp only [pointwise, pay6_apply]
  rfl

/-- The differences of the body. -/
theorem pay8_eq : k0_pay8 (F := Ideal) x fw t = fun y => err x fw t (y 0) (y 1) := by
  funext y
  obtain ⟨p, q, rfl⟩ : ∃ p q, y = ix2 p q := ⟨y 0, y 1, funext fun a => match a with | ⟨0, _⟩ => rfl | ⟨1, _⟩ => rfl⟩
  unfold k0_pay8
  simp only [pointwise, pay7_apply]
  rfl

/-- What a block adds to the loss. -/
theorem pay9_apply (a : Vec Ideal S8x128 .f32) (y : S8x128.Idx) :
    k0_pay9 (F := Ideal) x fw t a y = a y + ∑ p : Fin 512, rowLoss x fw t p := by
  unfold k0_pay9
  simp only [pointwise, zero_add, pay8_eq, shapeCast_self]
  exact congrArg (a y + ·) (half_sum _)

/-- The gradient of the normed rows of the body. -/
theorem pay10_eq : k0_pay10 (F := Ideal) x fw t = fun y => dh x fw t (y 0) (y 1) := by
  funext y
  unfold k0_pay10
  simp only [pointwise, pay8_eq]
  rfl

/-- What a block adds to the norm's weight's gradient. -/
theorem pay1_apply (a : Vec Ideal S1x1024 .f32) (y : S1x1024.Idx) :
    k0_pay1 (F := Ideal) (k0_pay7 (F := Ideal) x) (k0_pay10 (F := Ideal) x fw t) a y
      = a y + ∑ p : Fin 512, Norm.dnwTerm x (dh x fw t) (y 1) p := by
  unfold k0_pay1
  simp only [pointwise, zero_add, pay10_eq, pay7_apply, shapeCast_self]
  rfl

/-- The rows' gradient of the body. -/
theorem pay2_apply (y : S512x1024.Idx) :
    k0_pay2 (F := Ideal) (k0_pay6 (F := Ideal) x) (k0_pay7 (F := Ideal) x) fw (k0_pay10 (F := Ideal) x fw t) y
      = Norm.dx x fw (dh x fw t) none (y 0) (y 1) := by
  obtain ⟨p, q, rfl⟩ : ∃ p q, y = ix2 p q := ⟨y 0, y 1, funext fun a => match a with | ⟨0, _⟩ => rfl | ⟨1, _⟩ => rfl⟩
  unfold k0_pay2 Norm.dx
  simp only [pointwise, zero_add, pay6_apply, pay7_apply, pay10_eq]
  rfl

theorem pay3_apply (y : S512x1024.Idx) :
    k0_pay3 (F := Ideal) (k0_pay6 (F := Ideal) x) (k0_pay7 (F := Ideal) x) fw (k0_pay10 (F := Ideal) x fw t) y
      = Norm.dx x fw (dh x fw t) none (y 0) (y 1) := by
  unfold k0_pay3
  simp only [pointwise]
  exact pay2_apply x fw t y

theorem pay4_apply (y : S8x128.Idx) : k0_pay4 (F := Ideal) y = 0 := by
  unfold k0_pay4
  simp only [pointwise]

theorem pay5_apply (y : S8x1024.Idx) : k0_pay5 (F := Ideal) y = 0 := by
  unfold k0_pay5
  simp only [pointwise]

end

section
variable (c : Dev nD) (i : grid0.Coords) (a1 : Memref sig .tc .vmem S512x1024 .f32) (h1 : a1.IsWhole)
  (a2 : Memref sig .tc .vmem S1x1024 .f32) (h2 : a2.IsWhole) (a3 : Memref sig .tc .vmem S512x1024 .f32) (h3 : a3.IsWhole)
  (a4 : Memref sig .tc .vmem S8x128 .f32) (h4 : a4.IsWhole) (a5 : Memref sig .tc .vmem S512x1024 .f32) (h5 : a5.IsWhole)
  (a6 : Memref sig .tc .vmem S512x1024 .bf16) (h6 : a6.IsWhole) (a7 : Memref sig .tc .vmem S8x1024 .f32) (h7 : a7.IsWhole)
  (x0 : Vec Ideal S512x1024 .f32) (x1 : Vec Ideal S1x1024 .f32) (x2 : Vec Ideal S512x1024 .f32) (xl : Vec Ideal S8x128 .f32)
  (xo : Vec Ideal S8x1024 .f32)

/-- What the first point leaves in the loss. -/
theorem out3_A (hc0 : cond0_0 i) (y : S8x128.Idx) :
    out0_A_3 (F := Ideal) c i a1 h1 a2 h2 a3 h3 a4 h4 a5 h5 a6 h6 a7 h7 hc0 x0 x1 x2 y = ∑ p : Fin 512, rowLoss x0 x1 x2 p := by
  unfold out0_A_3 kernelRun0_A
  dsimp only
  sl_unfold_words
  refine (View.read_writes_cons_unit_of_mem _ _ _ _ _ y y rfl
    (Fin.forall_fin_two.mpr ⟨(Nat.zero_add _).symm, (Nat.zero_add _).symm⟩)).trans ?_
  rw [View.readCov_unit_zero (S := S8x128) _ hz]
  simp only [View.readAt_eq_ld, h1.read_unread, h2.read_unread, h3.read_unread, h4.read_unread, h7.read_unread,
    View.ld_unit_zero (S := S512x1024) hz, View.ld_unit_zero (S := S1x1024) hz, View.ld_unit_zero (S := S8x128) hz]
  refine (pay9_apply x0 x1 x2 _ y).trans ?_
  rw [pay4_apply, zero_add]

/-- What the first point leaves in the rows' gradient. -/
theorem out4_A (hc0 : cond0_0 i) :
    out0_A_4 (F := Ideal) c i a1 h1 a2 h2 a3 h3 a4 h4 a5 h5 a6 h6 a7 h7 hc0 x0 x1 x2
      = fun y => Norm.dx x0 x1 (dh x0 x1 x2) none (y 0) (y 1) := by
  unfold out0_A_4
  rw [View.read_writes_eq_canon _ _ _ (cover0_A_4 c i a1 h1 a2 h2 a3 h3 a4 h4 a5 h5 a6 h6 a7 h7 hc0 x0 x1 x2)]
  unfold kernelRun0_A
  dsimp only
  sl_unfold_words
  rw [View.canon_unit_zero hz]
  simp only [View.readAt_eq_ld, h1.read_unread, h2.read_unread, h3.read_unread, h4.read_unread, h7.read_unread,
    View.ld_unit_zero (S := S512x1024) hz, View.ld_unit_zero (S := S1x1024) hz, View.ld_unit_zero (S := S8x128) hz]
  funext y
  exact pay2_apply x0 x1 x2 y

/-- What the first point leaves in the rows' gradient, rounded. -/
theorem out5_A (hc0 : cond0_0 i) :
    out0_A_5 (F := Ideal) c i a1 h1 a2 h2 a3 h3 a4 h4 a5 h5 a6 h6 a7 h7 hc0 x0 x1 x2
      = fun y => Norm.dx x0 x1 (dh x0 x1 x2) none (y 0) (y 1) := by
  unfold out0_A_5
  rw [View.read_writes_eq_canon _ _ _ (cover0_A_5 c i a1 h1 a2 h2 a3 h3 a4 h4 a5 h5 a6 h6 a7 h7 hc0 x0 x1 x2)]
  unfold kernelRun0_A
  dsimp only
  sl_unfold_words
  rw [View.canon_unit_zero hz]
  simp only [View.readAt_eq_ld, h1.read_unread, h2.read_unread, h3.read_unread, h4.read_unread, h7.read_unread,
    View.ld_unit_zero (S := S512x1024) hz, View.ld_unit_zero (S := S1x1024) hz, View.ld_unit_zero (S := S8x128) hz]
  funext y
  exact pay3_apply x0 x1 x2 y

/-- What a later point leaves in the loss. -/
theorem out3_B (hc0 : ¬cond0_0 i) :
    out0_B_3 (F := Ideal) c i a1 h1 a2 h2 a3 h3 a4 h4 a5 h5 a6 h6 a7 h7 hc0 x0 x1 x2 xl xo
      = fun y => xl y + ∑ p : Fin 512, rowLoss x0 x1 x2 p := by
  unfold out0_B_3
  rw [View.read_writes_eq_canon _ _ _ (cover0_B_3 c i a1 h1 a2 h2 a3 h3 a4 h4 a5 h5 a6 h6 a7 h7 hc0 x0 x1 x2 xl xo)]
  unfold kernelRun0_B
  dsimp only
  sl_unfold_words
  rw [View.canon_unit_zero hz]
  simp only [View.readAt_eq_ld, h1.read_unread, h2.read_unread, h3.read_unread, h4.read_unread, h7.read_unread,
    View.ld_unit_zero (S := S512x1024) hz, View.ld_unit_zero (S := S1x1024) hz, View.ld_unit_zero (S := S8x128) hz]
  funext y
  exact pay9_apply x0 x1 x2 xl y

/-- What a later point leaves in the rows' gradient. -/
theorem out4_B (hc0 : ¬cond0_0 i) :
    out0_B_4 (F := Ideal) c i a1 h1 a2 h2 a3 h3 a4 h4 a5 h5 a6 h6 a7 h7 hc0 x0 x1 x2 xl xo
      = fun y => Norm.dx x0 x1 (dh x0 x1 x2) none (y 0) (y 1) := by
  unfold out0_B_4
  rw [View.read_writes_eq_canon _ _ _ (cover0_B_4 c i a1 h1 a2 h2 a3 h3 a4 h4 a5 h5 a6 h6 a7 h7 hc0 x0 x1 x2 xl xo)]
  unfold kernelRun0_B
  dsimp only
  sl_unfold_words
  rw [View.canon_unit_zero hz]
  simp only [View.readAt_eq_ld, h1.read_unread, h2.read_unread, h3.read_unread, h4.read_unread, h7.read_unread,
    View.ld_unit_zero (S := S512x1024) hz, View.ld_unit_zero (S := S1x1024) hz, View.ld_unit_zero (S := S8x128) hz]
  funext y
  exact pay2_apply x0 x1 x2 y

/-- What a later point leaves in the rows' gradient, rounded. -/
theorem out5_B (hc0 : ¬cond0_0 i) :
    out0_B_5 (F := Ideal) c i a1 h1 a2 h2 a3 h3 a4 h4 a5 h5 a6 h6 a7 h7 hc0 x0 x1 x2 xl xo
      = fun y => Norm.dx x0 x1 (dh x0 x1 x2) none (y 0) (y 1) := by
  unfold out0_B_5
  rw [View.read_writes_eq_canon _ _ _ (cover0_B_5 c i a1 h1 a2 h2 a3 h3 a4 h4 a5 h5 a6 h6 a7 h7 hc0 x0 x1 x2 xl xo)]
  unfold kernelRun0_B
  dsimp only
  sl_unfold_words
  rw [View.canon_unit_zero hz]
  simp only [View.readAt_eq_ld, h1.read_unread, h2.read_unread, h3.read_unread, h4.read_unread, h7.read_unread,
    View.ld_unit_zero (S := S512x1024) hz, View.ld_unit_zero (S := S1x1024) hz, View.ld_unit_zero (S := S8x128) hz]
  funext y
  exact pay3_apply x0 x1 x2 y

/-- What the first point leaves in the norm's weight's gradient: its block's sum in the first row, zero in the others. -/
theorem out6_A (hc0 : cond0_0 i) (y : S8x1024.Idx) :
    out0_A_6 (F := Ideal) c i a1 h1 a2 h2 a3 h3 a4 h4 a5 h5 a6 h6 a7 h7 hc0 x0 x1 x2 y
      = if (y 0 : Nat) = 0 then ∑ p : Fin 512, Norm.dnwTerm x0 (dh x0 x1 x2) (y 1) p else 0 := by
  unfold out0_A_6 kernelRun0_A
  dsimp only
  sl_unfold_words
  refine (Norm.row_write _ _ _ _ _ y).trans ?_
  by_cases hy : (y 0 : Nat) = 0
  · rw [if_pos hy, if_pos hy]
    simp only [View.readAt_eq_ld, h1.read_unread, h2.read_unread, h3.read_unread, h4.read_unread, h7.read_unread,
    View.ld_unit_zero (S := S512x1024) hz, View.ld_unit_zero (S := S1x1024) hz, View.ld_unit_zero (S := S8x128) hz]
    rw [View.readCov_fill _ _ _ _ _ (by decide)]
    refine (pay1_apply x0 x1 x2 _ _).trans ?_
    rw [Block.ld_apply, pay5_apply, zero_add]
    rfl
  · rw [if_neg hy, if_neg hy]
    exact (Norm.whole_write _ _ _ _ _ y).trans (pay5_apply y)

/-- What a later point leaves in the norm's weight's gradient: the first row has the block's sum added. -/
theorem out6_B (hc0 : ¬cond0_0 i) (y : S8x1024.Idx) :
    out0_B_6 (F := Ideal) c i a1 h1 a2 h2 a3 h3 a4 h4 a5 h5 a6 h6 a7 h7 hc0 x0 x1 x2 xl xo y
      = if (y 0 : Nat) = 0 then xo y + ∑ p : Fin 512, Norm.dnwTerm x0 (dh x0 x1 x2) (y 1) p else xo y := by
  unfold out0_B_6 kernelRun0_B
  dsimp only
  sl_unfold_words
  refine (Norm.row_write _ _ _ _ _ y).trans ?_
  by_cases hy : (y 0 : Nat) = 0
  · rw [if_pos hy, if_pos hy]
    simp only [View.readAt_eq_ld, h1.read_unread, h2.read_unread, h3.read_unread, h4.read_unread, h7.read_unread,
    View.ld_unit_zero (S := S512x1024) hz, View.ld_unit_zero (S := S1x1024) hz, View.ld_unit_zero (S := S8x128) hz]
    refine (pay1_apply x0 x1 x2 _ _).trans ?_
    refine congrArg (· + _) ?_
    rw [Block.ld_apply]
    exact Block.congr2 xo ((Block.emb_val (s := S8x1024) ![0, 0] ![1, 1024] inb_S8x1024_S1x1024_0_0 (ix2 0 (y 1)) 0).trans hy.symm)
      ((Block.emb_val (s := S8x1024) ![0, 0] ![1, 1024] inb_S8x1024_S1x1024_0_0 (ix2 0 (y 1)) 1).trans (Nat.zero_add _))
  · rw [if_neg hy, if_neg hy]
    exact congrFun (h7.read_unread xo) y

end

/-- The block indices of the windows at each grid point. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

/-- The arguments: the rows, the norm's weight, the target. -/
abbrev X (c : Dev nD) : S8192x1024.Idx → EReal := m ((c : Thread nD τ).loc main_arg0)
abbrev W (c : Dev nD) : S1x1024.Idx → EReal := m ((c : Thread nD τ).loc main_arg1)
abbrev T (c : Dev nD) : S8192x1024.Idx → EReal := m ((c : Thread nD τ).loc main_arg2)

/-- The result arrays the run is shown to leave. -/
abbrev result0 (c : Dev nD) : Buf (Elt Ideal) ((c : Thread nD τ).loc main_v0_0) := fun _ : S8x128.Idx => total (X m c) (W m c) (T m c)
abbrev result1 (c : Dev nD) : Buf (Elt Ideal) ((c : Thread nD τ).loc main_v0_1) := fun y : S8192x1024.Idx =>
  Norm.dx (X m c) (W m c) (dh (X m c) (W m c) (T m c)) none (y 0) (y 1)
abbrev result2 (c : Dev nD) : Buf (Elt Ideal) ((c : Thread nD τ).loc main_v0_2) := fun y : S8192x1024.Idx =>
  Norm.dx (X m c) (W m c) (dh (X m c) (W m c) (T m c)) none (y 0) (y 1)
abbrev result3 (c : Dev nD) : Buf (Elt Ideal) ((c : Thread nD τ).loc main_v0_3) :=
  Norm.dnw (X m c) (dh (X m c) (W m c) (T m c))

/-- A block of the rows is its rows of the array. -/
theorem x_blk (c : Dev nD) (t : Fin cfg0.N) (p : Fin 512) (p' : Fin 8192) (hp : (p' : Nat) = t.val * 512 + p) (j : Fin 1024) :
    iblk m c 0 t (ix2 p j) = X m c (ix2 p' j) := by
  obtain ⟨⟨a0, a1⟩, -⟩ := idx t
  refine Block.congr2 (X m c) ?_ ?_
  · exact ((Pipeline.Window.rect_emb_val win0_0 t (ix2 p j) 0).trans (by rw [a0]; rfl)).trans hp.symm
  · exact Pipeline.Window.rect_emb_val_of_index_zero win0_0 t 1 a1 (ix2 p j)

/-- The norm's weight's only block. -/
theorem w_blk (c : Dev nD) (t : Fin cfg0.N) (j : Fin 1024) : iblk m c 1 t (ix2 0 j) = W m c (ix2 0 j) := by
  obtain ⟨-, ⟨a0, a1⟩, -⟩ := idx t
  refine Block.congr2 (W m c) ?_ ?_
  · exact Pipeline.Window.rect_emb_val_of_index_zero win0_1 t 0 a0 (ix2 0 j)
  · exact Pipeline.Window.rect_emb_val_of_index_zero win0_1 t 1 a1 (ix2 0 j)

/-- A block of the target is its rows of the array. -/
theorem t_blk (c : Dev nD) (t : Fin cfg0.N) (p : Fin 512) (p' : Fin 8192) (hp : (p' : Nat) = t.val * 512 + p) (j : Fin 1024) :
    iblk m c 2 t (ix2 p j) = T m c (ix2 p' j) := by
  obtain ⟨-, -, ⟨a0, a1⟩, -⟩ := idx t
  refine Block.congr2 (T m c) ?_ ?_
  · exact ((Pipeline.Window.rect_emb_val win0_2 t (ix2 p j) 0).trans (by rw [a0]; rfl)).trans hp.symm
  · exact Pipeline.Window.rect_emb_val_of_index_zero win0_2 t 1 a1 (ix2 p j)

/-- The differences of a block are its rows of the whole. -/
theorem err_blk (c : Dev nD) (t : Fin cfg0.N) (p : Fin 512) (p' : Fin 8192) (hp : (p' : Nat) = t.val * 512 + p) (j : Fin 1024) :
    err (iblk m c 0 t) (iblk m c 1 t) (iblk m c 2 t) p j = err (X m c) (W m c) (T m c) p' j :=
  err_congr (iblk m c 0 t) (iblk m c 2 t) _ _ (iblk m c 1 t) _ p p' (fun k => x_blk m c t p p' hp k) (fun k => w_blk m c t k)
    (fun k => t_blk m c t p p' hp k) j

/-- The gradient of the normed rows of a block is its rows of the whole. -/
theorem dh_blk (c : Dev nD) (t : Fin cfg0.N) (p : Fin 512) (p' : Fin 8192) (hp : (p' : Nat) = t.val * 512 + p) (j : Fin 1024) :
    dh (iblk m c 0 t) (iblk m c 1 t) (iblk m c 2 t) p j = dh (X m c) (W m c) (T m c) p' j :=
  congrArg (· * _) (err_blk m c t p p' hp j)

/-- The rows' gradient of a block is its rows of the whole. -/
theorem dx_blk (c : Dev nD) (t : Fin cfg0.N) (p : Fin 512) (p' : Fin 8192) (hp : (p' : Nat) = t.val * 512 + p) (q q' : Fin 1024)
    (hq : (q : Nat) = q') :
    Norm.dx (iblk m c 0 t) (iblk m c 1 t) (dh (iblk m c 0 t) (iblk m c 1 t) (iblk m c 2 t)) none p q
      = Norm.dx (X m c) (W m c) (dh (X m c) (W m c) (T m c)) none p' q' :=
  Norm.dx_congr (iblk m c 0 t) _ (iblk m c 1 t) _ _ _ none _ p p' q q' (fun j => x_blk m c t p p' hp j) (fun j => w_blk m c t j)
    (fun j => dh_blk m c t p p' hp j) (fun _ => rfl) hq

/-- What point `t` writes back to the rows' gradient is block `t` of it. -/
theorem flushed4_eq (c : Dev nD) (t : Fin cfg0.N) :
    (dats m 0 c).flushed 4 t = ((cfg0.win 4).blk t).view.read (Elt Ideal) (result1 m c) := by
  obtain ⟨-, -, -, -, ⟨d0, d1⟩, -⟩ := idx t
  have hs : (dats m 0 c).flushed 4 t = (cfg0.win 4).cut (grid0.coords t) (fun y : S512x1024.Idx =>
      Norm.dx (iblk m c 0 t) (iblk m c 1 t) (dh (iblk m c 0 t) (iblk m c 1 t) (iblk m c 2 t)) none (y 0) (y 1)) := by
    by_cases h0 : t.val % 16 = 0
    · rw [Cert.LossHeadIdeal.Value.flushed4_A m c t h0, out4_A]
    · rw [Cert.LossHeadIdeal.Value.flushed4_B m c t h0, out4_B]
  rw [hs]
  funext y
  have f0 : (((cfg0.win 4).blk t).view.emb y 0 : Nat) = t.val * 512 + (y 0 : Nat) := by
    rw [← d0]; exact Pipeline.Window.rect_emb_val win0_4 t y 0
  have f1 : (((cfg0.win 4).blk t).view.emb y 1 : Nat) = (y 1 : Nat) :=
    Pipeline.Window.rect_emb_val_of_index_zero win0_4 t 1 d1 y
  show Norm.dx (iblk m c 0 t) (iblk m c 1 t) (dh (iblk m c 0 t) (iblk m c 1 t) (iblk m c 2 t)) none (y 0) (y 1)
    = result1 m c (((cfg0.win 4).blk t).view.emb y)
  exact dx_blk m c t _ _ f0 _ _ f1.symm

/-- The blocks tile the rows' gradient. -/
theorem cover4 (i : S8192x1024.Idx) : ∃ t : Fin cfg0.N, (cfg0.win 4).flush t = true ∧ i ∈ ((cfg0.win 4).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0 : Nat) / 512 := ⟨⟨(i 0 : Nat) / 512, by omega⟩, rfl⟩
  obtain ⟨-, -, -, -, ⟨d0, d1⟩, -⟩ := idx t
  refine ⟨t, flush0_4 t, ?_⟩
  show i ∈ ((View.whole main_v0_1).slice (win0_4.rect t)).set
  rw [View.set_slice_whole, Rect.mem_set_unit]
  intro a
  match a with
  | ⟨0, _⟩ =>
    show win0_4.index t (0 : Fin 2) * 512 ≤ (i 0 : Nat) ∧ (i 0 : Nat) < win0_4.index t (0 : Fin 2) * 512 + 512
    rw [d0]; omega
  | ⟨1, _⟩ =>
    show win0_4.index t (1 : Fin 2) * 1024 ≤ (i 1 : Nat) ∧ (i 1 : Nat) < win0_4.index t (1 : Fin 2) * 1024 + 1024
    rw [d1]; omega

/-- What point `t` writes back to the rows' gradient, rounded, is block `t` of it. -/
theorem flushed5_eq (c : Dev nD) (t : Fin cfg0.N) :
    (dats m 0 c).flushed 5 t = ((cfg0.win 5).blk t).view.read (Elt Ideal) (result2 m c) := by
  obtain ⟨-, -, -, -, -, ⟨d0, d1⟩, -⟩ := idx t
  have hs : (dats m 0 c).flushed 5 t = (cfg0.win 5).cut (grid0.coords t) (fun y : S512x1024.Idx =>
      Norm.dx (iblk m c 0 t) (iblk m c 1 t) (dh (iblk m c 0 t) (iblk m c 1 t) (iblk m c 2 t)) none (y 0) (y 1)) := by
    by_cases h0 : t.val % 16 = 0
    · rw [Cert.LossHeadIdeal.Value.flushed5_A m c t h0, out5_A]
    · rw [Cert.LossHeadIdeal.Value.flushed5_B m c t h0, out5_B]
  rw [hs]
  funext y
  have f0 : (((cfg0.win 5).blk t).view.emb y 0 : Nat) = t.val * 512 + (y 0 : Nat) := by
    rw [← d0]; exact Pipeline.Window.rect_emb_val win0_5 t y 0
  have f1 : (((cfg0.win 5).blk t).view.emb y 1 : Nat) = (y 1 : Nat) :=
    Pipeline.Window.rect_emb_val_of_index_zero win0_5 t 1 d1 y
  show Norm.dx (iblk m c 0 t) (iblk m c 1 t) (dh (iblk m c 0 t) (iblk m c 1 t) (iblk m c 2 t)) none (y 0) (y 1)
    = result2 m c (((cfg0.win 5).blk t).view.emb y)
  exact dx_blk m c t _ _ f0 _ _ f1.symm

/-- The blocks tile the rows' gradient, rounded. -/
theorem cover5 (i : S8192x1024.Idx) : ∃ t : Fin cfg0.N, (cfg0.win 5).flush t = true ∧ i ∈ ((cfg0.win 5).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0 : Nat) / 512 := ⟨⟨(i 0 : Nat) / 512, by omega⟩, rfl⟩
  obtain ⟨-, -, -, -, -, ⟨d0, d1⟩, -⟩ := idx t
  refine ⟨t, flush0_5 t, ?_⟩
  show i ∈ ((View.whole main_v0_2).slice (win0_5.rect t)).set
  rw [View.set_slice_whole, Rect.mem_set_unit]
  intro a
  match a with
  | ⟨0, _⟩ =>
    show win0_5.index t (0 : Fin 2) * 512 ≤ (i 0 : Nat) ∧ (i 0 : Nat) < win0_5.index t (0 : Fin 2) * 512 + 512
    rw [d0]; omega
  | ⟨1, _⟩ =>
    show win0_5.index t (1 : Fin 2) * 1024 ≤ (i 1 : Nat) ∧ (i 1 : Nat) < win0_5.index t (1 : Fin 2) * 1024 + 1024
    rw [d1]; omega

/-- The norm's weight's gradient after point `t`. -/
def acc (c : Dev nD) (t : Nat) (h : t < cfg0.N) : Vec Ideal S8x1024 .f32 := (outsAt0 m c t h).2.2.2

/-- The sum of the rows of the block at point `t`. -/
def blockSum (c : Dev nD) (t : Fin cfg0.N) (q : Fin 1024) : EReal :=
  ∑ p : Fin 512, Norm.dnwTerm (iblk m c 0 t) (dh (iblk m c 0 t) (iblk m c 1 t) (iblk m c 2 t)) q p

theorem step_A (c : Dev nD) (t : Fin cfg0.N) (h0 : t.val % 16 = 0) (y : S8x1024.Idx) :
    acc m c t.val t.isLt y = if (y 0 : Nat) = 0 then blockSum m c t (y 1) else 0 := by
  unfold acc
  rw [outsAt0_A m c t h0]
  dsimp only
  rw [out6_A]
  rfl

theorem step_B (c : Dev nD) (t : Fin cfg0.N) (h0 : ¬t.val % 16 = 0) (y : S8x1024.Idx) :
    acc m c t.val t.isLt y = if (y 0 : Nat) = 0 then acc m c (t.val - 1) (by omega) y + blockSum m c t (y 1)
      else acc m c (t.val - 1) (by omega) y := by
  unfold acc
  rw [outsAt0_B m c t h0]
  dsimp only
  rw [out6_B]
  rfl

/-- The sum of the block at point `t` is the terms of its rows of the whole. -/
theorem block_eq (c : Dev nD) (t : Fin cfg0.N) (q : Fin 1024) :
    blockSum m c t q = ∑ p : Fin 512, Block.ext (Norm.dnwTerm (X m c) (dh (X m c) (W m c) (T m c)) q) (t.val % 16 * 512 + p) := by
  have hN : cfg0.N = 16 := N_0
  have ht : t.val < 16 := hN ▸ t.isLt
  refine Finset.sum_congr rfl fun p _ => ?_
  have hp : (p : Nat) < 512 := p.isLt
  rw [Block.ext_eq _ _ (by omega)]
  have e : t.val % 16 * 512 + (p : Nat) = t.val * 512 + p := by rw [Nat.mod_eq_of_lt ht]
  exact Norm.dnwTerm_congr (iblk m c 0 t) _ _ _ p _ q q (fun j => x_blk m c t p _ e j) (fun j => dh_blk m c t p _ e j) rfl

/-- The first row after point `t` holds the terms of the blocks of rows so far. -/
theorem acc_row (c : Dev nD) (y : S8x1024.Idx) (hy : (y 0 : Nat) = 0) (t : ℕ) (h : t < cfg0.N) :
    acc m c t h y = Block.part (Norm.dnwTerm (X m c) (dh (X m c) (W m c) (T m c)) (y 1)) (t % 16 * 512 + 512) := by
  have hN : cfg0.N = 16 := N_0
  refine Block.part_of_steps 16 512 0 (by omega) (fun t h => acc m c t h y) _ (fun s hs h0 _ => ?_) (fun s hs h0 _ => ?_) t h (by omega)
  · exact ((step_A m c ⟨s, hs⟩ h0 y).trans (if_pos hy)).trans (block_eq m c ⟨s, hs⟩ (y 1))
  · exact ((step_B m c ⟨s, hs⟩ h0 y).trans (if_pos hy)).trans (congrArg (acc m c (s - 1) _ y + ·) (block_eq m c ⟨s, hs⟩ (y 1)))

/-- The other rows stay zero. -/
theorem acc_zero (c : Dev nD) (y : S8x1024.Idx) (hy : ¬(y 0 : Nat) = 0) (t : ℕ) : ∀ h : t < cfg0.N, acc m c t h y = 0 := by
  induction t with
  | zero => exact fun h => (step_A m c ⟨0, h⟩ rfl y).trans (if_neg hy)
  | succ t ih =>
    intro h
    by_cases h0 : (t + 1) % 16 = 0
    · exact (step_A m c ⟨t + 1, h⟩ h0 y).trans (if_neg hy)
    · exact ((step_B m c ⟨t + 1, h⟩ h0 y).trans (if_neg hy)).trans (ih _)

/-- What the last point writes back to the norm's weight's gradient is all of it. -/
theorem flushed6_eq (c : Dev nD) (t : Fin cfg0.N) (hf : (cfg0.win 6).flush t = true) :
    (dats m 0 c).flushed 6 t = ((cfg0.win 6).blk t).view.read (Elt Ideal) (result3 m c) := by
  have h1 : t.val % 16 = 15 := (flush0_6 t).mp hf
  obtain ⟨-, -, -, -, -, -, ⟨d0, d1⟩⟩ := idx t
  have hs : (dats m 0 c).flushed 6 t = (cfg0.win 6).cut (grid0.coords t) (acc m c t.val t.isLt) := by
    rw [Cert.LossHeadIdeal.Value.flushed6]; rfl
  rw [hs]
  funext y
  have f0 : (((cfg0.win 6).blk t).view.emb y 0 : Nat) = (y 0 : Nat) :=
    Pipeline.Window.rect_emb_val_of_index_zero win0_6 t 0 d0 y
  have f1 : (((cfg0.win 6).blk t).view.emb y 1 : Nat) = (y 1 : Nat) :=
    Pipeline.Window.rect_emb_val_of_index_zero win0_6 t 1 d1 y
  have hc : ∀ X : Vec Ideal S8x1024 .f32, (cfg0.win 6).cut (grid0.coords t) X y = X y := fun _ => rfl
  have hr : ∀ X : Buf (Elt Ideal) ((c : Thread nD τ).loc main_v0_3),
      ((cfg0.win 6).blk t).view.read (Elt Ideal) X y = X (((cfg0.win 6).blk t).view.emb y) := fun _ => rfl
  refine (hc _).trans (Eq.trans ?_ (hr (result3 m c)).symm)
  show acc m c t.val t.isLt y = Norm.dnw _ _ _
  unfold Norm.dnw
  by_cases hy : (y 0 : Nat) = 0
  · rw [if_pos (f0.trans hy), acc_row m c y hy, Block.part_all _ _ (by omega)]
    have e : y 1 = ((cfg0.win 6).blk t).view.emb y 1 := Fin.ext f1.symm
    exact congrArg (fun q : Fin 1024 => ∑ p : Fin 8192, Norm.dnwTerm (X m c) (dh (X m c) (W m c) (T m c)) q p) e
  · rw [if_neg (fun h => hy (f0.symm.trans h))]
    exact acc_zero m c y hy _ _

/-- The one block is the norm's weight's gradient. -/
theorem cover6 (i : S8x1024.Idx) : ∃ t : Fin cfg0.N, (cfg0.win 6).flush t = true ∧ i ∈ ((cfg0.win 6).blk t).view.set := by
  have h0 : (i 0 : Nat) < 8 := (i 0).isLt
  have h1 : (i 1 : Nat) < 1024 := (i 1).isLt
  have hN : cfg0.N = 16 := N_0
  obtain ⟨t, ht⟩ : ∃ t : Fin cfg0.N, t.val = 15 := ⟨⟨15, by omega⟩, rfl⟩
  obtain ⟨-, -, -, -, -, -, ⟨d0, d1⟩⟩ := idx t
  refine ⟨t, (flush0_6 t).mpr (by omega), ?_⟩
  show i ∈ ((View.whole main_v0_3).slice (win0_6.rect t)).set
  rw [View.set_slice_whole, Rect.mem_set_unit]
  intro a
  match a with
  | ⟨0, _⟩ =>
    show win0_6.index t (0 : Fin 2) * 8 ≤ (i 0 : Nat) ∧ (i 0 : Nat) < win0_6.index t (0 : Fin 2) * 8 + 8
    rw [d0]; omega
  | ⟨1, _⟩ =>
    show win0_6.index t (1 : Fin 2) * 1024 ≤ (i 1 : Nat) ∧ (i 1 : Nat) < win0_6.index t (1 : Fin 2) * 1024 + 1024
    rw [d1]; omega

/-- The loss after point `t`. -/
def lacc (c : Dev nD) (t : Nat) (h : t < cfg0.N) : Vec Ideal S8x128 .f32 := (outsAt0 m c t h).1

/-- The loss of the rows of the block at point `t` is the terms of its rows of the whole. -/
theorem loss_blk (c : Dev nD) (t : Fin cfg0.N) :
    ∑ p : Fin 512, rowLoss (iblk m c 0 t) (iblk m c 1 t) (iblk m c 2 t) p
      = ∑ p : Fin 512, Block.ext (rowLoss (X m c) (W m c) (T m c)) (t.val % 16 * 512 + p) := by
  have hN : cfg0.N = 16 := N_0
  have ht : t.val < 16 := hN ▸ t.isLt
  refine Finset.sum_congr rfl fun p _ => ?_
  have hp : (p : Nat) < 512 := p.isLt
  rw [Block.ext_eq _ _ (by omega)]
  have e : t.val % 16 * 512 + (p : Nat) = t.val * 512 + p := by rw [Nat.mod_eq_of_lt ht]
  exact rowLoss_congr (iblk m c 0 t) (iblk m c 2 t) _ _ (iblk m c 1 t) _ p _ (fun j => err_blk m c t p _ e j)

theorem lstep_A (c : Dev nD) (t : Fin cfg0.N) (h0 : t.val % 16 = 0) (y : S8x128.Idx) :
    lacc m c t.val t.isLt y = ∑ p : Fin 512, rowLoss (iblk m c 0 t) (iblk m c 1 t) (iblk m c 2 t) p := by
  unfold lacc
  rw [outsAt0_A m c t h0]
  dsimp only
  rw [out3_A]

theorem lstep_B (c : Dev nD) (t : Fin cfg0.N) (h0 : ¬t.val % 16 = 0) (y : S8x128.Idx) :
    lacc m c t.val t.isLt y = lacc m c (t.val - 1) (by omega) y + ∑ p : Fin 512, rowLoss (iblk m c 0 t) (iblk m c 1 t) (iblk m c 2 t) p := by
  unfold lacc
  rw [outsAt0_B m c t h0]
  dsimp only
  rw [out3_B]

/-- Every element of the loss after point `t` holds the terms of the blocks of rows so far. -/
theorem lacc_eq (c : Dev nD) (y : S8x128.Idx) (t : ℕ) (h : t < cfg0.N) :
    lacc m c t h y = Block.part (rowLoss (X m c) (W m c) (T m c)) (t % 16 * 512 + 512) := by
  have hN : cfg0.N = 16 := N_0
  refine Block.part_of_steps 16 512 0 (by omega) (fun t h => lacc m c t h y) _ (fun s hs h0 _ => ?_) (fun s hs h0 _ => ?_) t h (by omega)
  · exact (lstep_A m c ⟨s, hs⟩ h0 y).trans (loss_blk m c ⟨s, hs⟩)
  · exact (lstep_B m c ⟨s, hs⟩ h0 y).trans (congrArg (lacc m c (s - 1) _ y + ·) (loss_blk m c ⟨s, hs⟩))

/-- What the last point writes back to the loss is all of it. -/
theorem flushed3_eq (c : Dev nD) (t : Fin cfg0.N) (hf : (cfg0.win 3).flush t = true) :
    (dats m 0 c).flushed 3 t = ((cfg0.win 3).blk t).view.read (Elt Ideal) (result0 m c) := by
  have h1 : t.val % 16 = 15 := (flush0_3 t).mp hf
  have hs : (dats m 0 c).flushed 3 t = (cfg0.win 3).cut (grid0.coords t) (lacc m c t.val t.isLt) := by
    rw [Cert.LossHeadIdeal.Value.flushed3]; rfl
  rw [hs]
  funext y
  have hc : ∀ X : Vec Ideal S8x128 .f32, (cfg0.win 3).cut (grid0.coords t) X y = X y := fun _ => rfl
  have hr : ∀ X : Buf (Elt Ideal) ((c : Thread nD τ).loc main_v0_0),
      ((cfg0.win 3).blk t).view.read (Elt Ideal) X y = X (((cfg0.win 3).blk t).view.emb y) := fun _ => rfl
  refine (hc _).trans (Eq.trans ?_ (hr (result0 m c)).symm)
  show lacc m c t.val t.isLt y = total (X m c) (W m c) (T m c)
  rw [lacc_eq m c y, Block.part_all _ _ (by omega)]
  rfl

/-- The one block is the loss. -/
theorem cover3 (i : S8x128.Idx) : ∃ t : Fin cfg0.N, (cfg0.win 3).flush t = true ∧ i ∈ ((cfg0.win 3).blk t).view.set := by
  have h0 : (i 0 : Nat) < 8 := (i 0).isLt
  have h1 : (i 1 : Nat) < 128 := (i 1).isLt
  have hN : cfg0.N = 16 := N_0
  obtain ⟨t, ht⟩ : ∃ t : Fin cfg0.N, t.val = 15 := ⟨⟨15, by omega⟩, rfl⟩
  obtain ⟨-, -, -, ⟨d0, d1⟩, -⟩ := idx t
  refine ⟨t, (flush0_3 t).mpr (by omega), ?_⟩
  show i ∈ ((View.whole main_v0_0).slice (win0_3.rect t)).set
  rw [View.set_slice_whole, Rect.mem_set_unit]
  intro a
  match a with
  | ⟨0, _⟩ =>
    show win0_3.index t (0 : Fin 2) * 8 ≤ (i 0 : Nat) ∧ (i 0 : Nat) < win0_3.index t (0 : Fin 2) * 8 + 8
    rw [d0]; omega
  | ⟨1, _⟩ =>
    show win0_3.index t (1 : Fin 2) * 128 ≤ (i 1 : Nat) ∧ (i 1 : Nat) < win0_3.index t (1 : Fin 2) * 128 + 128
    rw [d1]; omega

/-- The run, with the results named. -/
theorem run : θ_run defs (onTc (τ := τ) (main (F := Ideal))) ⟨m, fun _ => 0, ρ⟩ fun r => ∀ c : Dev nD,
      r.2.mem ((c : Thread nD τ).loc main_v0_0) = result0 m c
      ∧ r.2.mem ((c : Thread nD τ).loc main_v0_1) = result1 m c
      ∧ r.2.mem ((c : Thread nD τ).loc main_v0_2) = result2 m c
      ∧ r.2.mem ((c : Thread nD τ).loc main_v0_3) = result3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans
    ((dats m 0 c).arrAt_eq_of_cover 3 (result0 m c) (fun t ht => flushed3_eq m c t ht) cover3), (h c).2.1.trans
    ((dats m 0 c).arrAt_eq_of_cover 4 (result1 m c) (fun t _ => flushed4_eq m c t) cover4), (h c).2.2.1.trans
    ((dats m 0 c).arrAt_eq_of_cover 5 (result2 m c) (fun t _ => flushed5_eq m c t) cover5), (h c).2.2.2.1.trans
    ((dats m 0 c).arrAt_eq_of_cover 6 (result3 m c) (fun t ht => flushed6_eq m c t ht) cover6), (h c).2.2.2.2⟩)
    (Cert.LossHeadIdeal.Value.run_blocks m ρ)

end

section

open Cert.LossHeadRefIdeal Cert.LossHeadRefIdeal.Gen Cert.LossHeadRefIdeal.Read

variable (x0 : (⟨S8192x1024, .f32⟩ : BufTy).Contents (Elt Ideal)) (x1 : (⟨S1x1024, .f32⟩ : BufTy).Contents (Elt Ideal))
  (x2 : (⟨S8192x1024, .f32⟩ : BufTy).Contents (Elt Ideal))

/-- The reference's inverse root of the mean square. -/
theorem ref_scale (i : S8192x1.Idx) : val_main_v7 (F := Ideal) x0 i = Norm.scale (fun k => x0 (ix2 (i 0) k)) := by
  simp only [val_main_v7, val_main_v6, val_main_v5, val_main_v4, val_main_v3, val_main_v2, val_main_v1, val_main_v0, val_main_cst,
    val_main_cst_0, val_main_cst_1, pointwise, zero_add]
  rfl

/-- The reference's mean square. -/
theorem ref_ms (i : S8192x1.Idx) : val_main_v6 (F := Ideal) x0 i = Norm.ms (fun k => x0 (ix2 (i 0) k)) := by
  simp only [val_main_v6, val_main_v5, val_main_v4, val_main_v3, val_main_v2, val_main_v1, val_main_v0, val_main_cst,
    val_main_cst_0, val_main_cst_1, pointwise, zero_add]
  rfl

/-- The reference's scaled rows. -/
theorem ref_xh (i : S8192x1024.Idx) : val_main_v12 (F := Ideal) x0 i = x0 i * Norm.scale (fun k => x0 (ix2 (i 0) k)) := by
  rw [val_main_v12_apply, val_main_v11_apply, ref_scale]
  rfl

/-- The reference's differences. -/
theorem ref_err (p : Fin 8192) (q : Fin 1024) (i : S8192x1024.Idx) (h0 : (i 0 : Nat) = p) (h1 : (i 1 : Nat) = q) :
    val_main_v15 (F := Ideal) x0 x1 x2 i = err x0 x1 x2 p q := by
  obtain rfl : i = ix2 p q := funext fun a => match a with | ⟨0, _⟩ => Fin.ext h0 | ⟨1, _⟩ => Fin.ext h1
  rw [val_main_v15_apply, val_main_v14_apply, val_main_v13_apply, ref_xh]
  exact congrArg (fun z => x0 (ix2 p q) * Norm.scale (fun k => x0 (ix2 p k)) * z - x2 (ix2 p q)) (Block.congr2 x1 rfl rfl)

/-- The reference's gradient of the normed rows. -/
theorem ref_dh (p : Fin 8192) (q : Fin 1024) (i : S8192x1024.Idx) (h0 : (i 0 : Nat) = p) (h1 : (i 1 : Nat) = q) :
    val_main_v29 (F := Ideal) x0 x1 x2 i = dh x0 x1 x2 p q := by
  rw [val_main_v29_apply, val_main_v18_apply, ref_err x0 x1 x2 p q i h0 h1]
  simp only [val_main_v28, val_main_v27, val_main_v26, val_main_v25, val_main_v24, val_main_v17, val_main_cst_3, val_main_cst_8,
    val_main_cst_9, val_main_cst_10, pointwise]
  exact grad_eq _

/-- A sum over the indices of one axis is the sum over its coordinate. -/
theorem sum_one (f : S8192.Idx → EReal) : ∑ j : S8192.Idx, f j = ∑ p : Fin 8192, f (fun a => match a with | ⟨0, _⟩ => p) :=
  Fintype.sum_equiv ⟨fun j => j 0, fun p => fun a => match a with | ⟨0, _⟩ => p,
    fun j => funext fun a => match a with | ⟨0, _⟩ => rfl, fun _ => rfl⟩ _ _
    fun j => congrArg f (funext fun a => match a with | ⟨0, _⟩ => rfl)

/-- The reference's loss is the sum of the rows' terms. -/
theorem ref_loss : val_main_v49 (F := Ideal) x0 x1 x2 = fun _ => total x0 x1 x2 := by
  funext y
  rw [val_main_v49_apply, val_main_v23_apply, val_main_v22_apply, sum_one]
  simp only [val_main_cst_6, val_main_cst_7, pointwise, zero_add]
  refine (half_sum _).trans (Finset.sum_congr rfl fun p _ => congrArg (_ * ·) ?_)
  rw [val_main_v21_apply, val_main_v19_apply]
  simp only [val_main_v20, val_main_cst_4, val_main_cst_5, pointwise, zero_add]
  refine (Norm.div_cols _).trans ?_
  rw [inv_cols_eq]
  refine congrArg (· * _) (Finset.sum_congr rfl fun k _ => ?_)
  rw [val_main_v16_apply, ref_err x0 x1 x2 p k _ rfl rfl]
  rfl

/-- The reference's products with the norm's weight. -/
theorem ref_g (p : Fin 8192) (q : Fin 1024) (i : S8192x1024.Idx) (h0 : (i 0 : Nat) = p) (h1 : (i 1 : Nat) = q) :
    val_main_v34 (F := Ideal) x0 x1 x2 i = dh x0 x1 x2 p q * x1 (ix2 0 q) := by
  rw [val_main_v34_apply, val_main_v33_apply, ref_dh x0 x1 x2 p q i h0 h1]
  exact congrArg (dh x0 x1 x2 p q * ·) (Block.congr2 x1 (i := idx_main_v33 i) (j := ix2 0 q) rfl h1)

/-- The reference's sum of a row with those products. -/
theorem ref_sum (p : Fin 8192) (i : S8192.Idx) (hi : (i 0 : Nat) = p) : val_main_v36 (F := Ideal) x0 x1 x2 i
    = ∑ k : Fin 1024, x0 (ix2 p k) * (dh x0 x1 x2 p k * x1 (ix2 0 k)) := by
  rw [val_main_v36_apply]
  simp only [val_main_cst_12, pointwise, zero_add]
  refine Finset.sum_congr rfl fun k _ => ?_
  rw [val_main_v35_apply, ref_g x0 x1 x2 p k _ hi rfl]
  exact congrArg (· * _) (Block.congr2 x0 hi rfl)

/-- The reference's correction by the mean square's derivative. -/
theorem ref_corr (p : Fin 8192) (i : S8192.Idx) (hi : i 0 = p) : val_main_v43 (F := Ideal) x0 x1 x2 i
    = Norm.corr (fun k => x0 (ix2 p k)) (fun k => dh x0 x1 x2 p k * x1 (ix2 0 k)) := by
  subst hi
  rw [val_main_v43_apply, Fin.sum_univ_one, val_main_v42_apply, val_main_v40_apply, val_main_v37_apply,
    ref_sum x0 x1 x2 (i 0) _ (by show (i 0 : Nat) * 1 + 0 = i 0; omega), val_main_v10_apply, val_main_v8_apply, ref_ms, ref_scale]
  simp only [val_main_v41, val_main_v9, val_main_cst_2, val_main_cst_13, val_main_cst_14, pointwise, zero_add]
  rfl

/-- The reference's gradient of the rows is the same function of the arguments. -/
theorem ref_dx : val_main_v48 (F := Ideal) x0 x1 x2 = fun y : S8192x1024.Idx => Norm.dx x0 x1 (dh x0 x1 x2) none (y 0) (y 1) := by
  funext y
  obtain ⟨p, q, rfl⟩ : ∃ p q, y = ix2 p q := ⟨y 0, y 1, funext fun a => match a with | ⟨0, _⟩ => rfl | ⟨1, _⟩ => rfl⟩
  unfold Norm.dx
  have h := Norm.bwd_eq (fun k => x0 (ix2 p k)) (fun k => dh x0 x1 x2 p k * x1 (ix2 0 k)) q
  rw [val_main_v48_apply, val_main_v47_apply, val_main_v46_apply, val_main_v45_apply, val_main_v44_apply, val_main_v39_apply,
    val_main_v38_apply, ref_g x0 x1 x2 p q _ rfl rfl, ref_scale, ref_corr x0 x1 x2 p _ rfl, zero_add]
  exact h.symm

/-- The reference's gradient of the norm's weight is the same function of the arguments. -/
theorem ref_dnw : val_main_v51 (F := Ideal) x0 x1 x2 = Norm.dnw x0 (dh x0 x1 x2) := by
  funext y
  unfold val_main_v51 Norm.dnw
  refine (Norm.pad_row _ _ _ _ y).trans ?_
  by_cases hy : (y 0 : Nat) = 0
  · rw [if_pos hy, if_pos hy, val_main_v32_apply, val_main_v31_apply]
    simp only [val_main_cst_11, pointwise, zero_add]
    refine Finset.sum_congr rfl fun p _ => ?_
    refine Eq.trans (Block.congr2 (val_main_v30 (F := Ideal) x0 x1 x2) (j := ix2 p (y 1)) rfl (by show 0 * 1024 + (y 1 : Nat) = y 1; omega)) ?_
    rw [val_main_v30_apply, ref_xh, ref_dh x0 x1 x2 p (y 1) _ rfl rfl]
    exact mul_comm _ _
  · rw [if_neg hy, if_neg hy]
    show ((BitVec.toInt (0#32) : ℝ) : EReal) = 0
    norm_num

/-- The reference's run, with the results named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = (fun _ : S8x128.Idx => total (m ((c.tc : Thread nD τ).loc main_arg0))
        (m ((c.tc : Thread nD τ).loc main_arg1)) (m ((c.tc : Thread nD τ).loc main_arg2)))
      ∧ r.2.mem ((c.tc : Thread nD τ).loc main_v48) = (fun y : S8192x1024.Idx => Norm.dx (m ((c.tc : Thread nD τ).loc main_arg0))
        (m ((c.tc : Thread nD τ).loc main_arg1)) (dh (m ((c.tc : Thread nD τ).loc main_arg0)) (m ((c.tc : Thread nD τ).loc main_arg1))
        (m ((c.tc : Thread nD τ).loc main_arg2))) none (y 0) (y 1))
      ∧ r.2.mem ((c.tc : Thread nD τ).loc main_v50) = (fun y : S8192x1024.Idx => Norm.dx (m ((c.tc : Thread nD τ).loc main_arg0))
        (m ((c.tc : Thread nD τ).loc main_arg1)) (dh (m ((c.tc : Thread nD τ).loc main_arg0)) (m ((c.tc : Thread nD τ).loc main_arg1))
        (m ((c.tc : Thread nD τ).loc main_arg2))) none (y 0) (y 1))
      ∧ r.2.mem ((c.tc : Thread nD τ).loc main_v51) = Norm.dnw (m ((c.tc : Thread nD τ).loc main_arg0))
        (dh (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v49_eq _ _ _).trans (ref_loss _ _ _)),
      (h c).2.1.trans ((val_main_v48_eq m c).trans (ref_dx _ _ _)),
      (h c).2.2.1.trans ((val_main_v50_eq m c).trans (ref_dx _ _ _)),
      (h c).2.2.2.1.trans ((val_main_v51_eq _ _ _).trans (ref_dnw _ _ _)), (h c).2.2.2.2⟩)
    (Cert.LossHeadRefIdeal.Value.run (F := Ideal) m ρ)

end

end Cert.LossHeadVal

end
-- ==== Proof.Adam.lean ====
/-
  The step of the optimiser at one element, over the extended reals: the sum of the eight devices' gradients, the new first
  moment, the new second moment, and what is added to the weight.
-/
module

public import proofs.«01_k».proof.Proof.Norm
public import Idealize.ShloMosaic.Lib.Pipeline.ValueKit.Tiles

@[expose] public section

noncomputable section

namespace Cert.Adam

open Idealize.ShloMosaic Idealize.SL.Sem

/-- The new first moment, from the old one `m` and the gradient `g`. -/
def newM (g m : EReal) : EReal := Ideal.ofBits FTy.f32 0x3F666666#32 * m + Ideal.ofBits FTy.f32 0x3DCCCCCD#32 * g

/-- The new second moment, from the old one `v` and the gradient `g`. -/
def newV (g v : EReal) : EReal := Ideal.ofBits FTy.f32 0x3F7FBE77#32 * v + Ideal.ofBits FTy.f32 0x3A83126F#32 * (g * g)

/-- What is added to the weight `w`, from the gradient and the old moments. -/
def delta (w g m v : EReal) : EReal :=
  Ideal.ofBits FTy.f32 0xBA83126F#32
    * (Ideal.div (Ideal.div (newM g m) (Ideal.ofBits FTy.f32 0x3F26BD02#32))
        (Ideal.sqrt (Ideal.div (newV g v) (Ideal.ofBits FTy.f32 0x3C231ACC#32)) + Ideal.ofBits FTy.f32 0x322BCC77#32)
      + Ideal.ofBits FTy.f32 0x3C23D70A#32 * w)

/-- The eight devices' gradients at row `p` and column `q`, added up. -/
def sum8 {r k : Nat} (s : (⟨3, ![8, r, k]⟩ : Shape).Idx → EReal) (p : Fin r) (q : Fin k) : EReal :=
  ∑ j : Fin 8, s (ix3 j p q)

/-- The sum of the eight, taken one after the other. -/
theorem sum8_eq {r k : Nat} (s : (⟨3, ![8, r, k]⟩ : Shape).Idx → EReal) (p : Fin r) (q : Fin k) {a0 a1 a2 a3 a4 a5 a6 a7 : EReal}
    (h0 : a0 = s (ix3 0 p q)) (h1 : a1 = s (ix3 1 p q)) (h2 : a2 = s (ix3 2 p q)) (h3 : a3 = s (ix3 3 p q))
    (h4 : a4 = s (ix3 4 p q)) (h5 : a5 = s (ix3 5 p q)) (h6 : a6 = s (ix3 6 p q)) (h7 : a7 = s (ix3 7 p q)) :
    a0 + a1 + a2 + a3 + a4 + a5 + a6 + a7 = sum8 s p q := by
  rw [h0, h1, h2, h3, h4, h5, h6, h7]
  unfold sum8
  rw [Fin.sum_univ_eight]

/-- The sum at an element depends on the gradients at that element only. -/
theorem sum8_congr {r r' k k' : Nat} (s : (⟨3, ![8, r, k]⟩ : Shape).Idx → EReal) (s' : (⟨3, ![8, r', k']⟩ : Shape).Idx → EReal)
    (p : Fin r) (p' : Fin r') (q : Fin k) (q' : Fin k') (h : ∀ j, s (ix3 j p q) = s' (ix3 j p' q')) : sum8 s p q = sum8 s' p' q' :=
  Finset.sum_congr rfl fun j _ => h j

/-- The gradient of a weight of four layers, from the eight devices' gradients of each layer; the arrays that hold these may have
    more columns than the weight. -/
def grad4 {r k w : Nat} (hk : k ≤ w) (s0 s1 s2 s3 : (⟨3, ![8, r, w]⟩ : Shape).Idx → EReal) (y : (⟨3, ![4, r, k]⟩ : Shape).Idx) : EReal :=
  if (y 0 : Nat) = 0 then sum8 s0 (y 1) (Fin.castLE hk (y 2))
  else if (y 0 : Nat) = 1 then sum8 s1 (y 1) (Fin.castLE hk (y 2))
  else if (y 0 : Nat) = 2 then sum8 s2 (y 1) (Fin.castLE hk (y 2))
  else sum8 s3 (y 1) (Fin.castLE hk (y 2))

section
variable {r k w : Nat} (hk : k ≤ w) (s0 s1 s2 s3 : (⟨3, ![8, r, w]⟩ : Shape).Idx → EReal) (y : (⟨3, ![4, r, k]⟩ : Shape).Idx)

theorem grad4_0 (h : (y 0 : Nat) = 0) : grad4 hk s0 s1 s2 s3 y = sum8 s0 (y 1) (Fin.castLE hk (y 2)) := if_pos h

theorem grad4_1 (h : (y 0 : Nat) = 1) : grad4 hk s0 s1 s2 s3 y = sum8 s1 (y 1) (Fin.castLE hk (y 2)) :=
  (if_neg (by omega)).trans (if_pos h)

theorem grad4_2 (h : (y 0 : Nat) = 2) : grad4 hk s0 s1 s2 s3 y = sum8 s2 (y 1) (Fin.castLE hk (y 2)) :=
  (if_neg (by omega)).trans ((if_neg (by omega)).trans (if_pos h))

theorem grad4_3 (h : (y 0 : Nat) = 3) : grad4 hk s0 s1 s2 s3 y = sum8 s3 (y 1) (Fin.castLE hk (y 2)) :=
  (if_neg (by omega)).trans ((if_neg (by omega)).trans (if_neg (by omega)))

end

end Cert.Adam
-- ==== Proof.AdamOut.lean ====
/-
  The optimiser's step of the mixer's output weight, of four layers: the kernel's four results and the reference's are the same function of
  the weight, the eight devices' gradients of each layer and the two moments.
-/
module

public import proofs.«01_k».proof.Proof.Adam
public import proofs.«01_k».proof.Proof.Gen.AdamOutIdeal.Value
public import proofs.«01_k».proof.Proof.Gen.AdamOutRefIdeal.Run
public import proofs.«01_k».proof.Proof.Gen.AdamOutRefIdeal.Read

@[expose] public section

noncomputable section

open Idealize.ShloMosaic Idealize.ShloMosaic.TcCoe Idealize.SL.Sem
open Idealize.ShloMosaic.Pipeline (Dat)

namespace Cert.AdamOutVal

section Kernel

open Cert.AdamOutIdeal Cert.AdamOutIdeal.Gen

variable (m : (ℓ : Loc nD τ sig) → Buf (Elt Ideal) ℓ) (ρ : Dev nD → PrngReg)

theorem hz : (![0, 0, 0] : Fin 3 → Nat) = fun _ => 0 := funext fun a => by fin_cases a <;> rfl

/-- A device's gradient is its part of the array of all devices'. -/
theorem part_eq (x : Vec Ideal S8x128x1024 .bf16) (j : Nat) (hj : j < 8)
    (h : ∀ a, (![j, 0, 0] : Fin 3 → Nat) a + S1x128x1024.size a ≤ S8x128x1024.size a) (p : Fin 128) (q : Fin 1024) :
    View.ld x (Rect.unit (s := S8x128x1024) ![j, 0, 0] S1x128x1024.size h) (ix3 0 p q) = x (ix3 (⟨j, hj⟩ : Fin 8) p (Fin.castLE (by decide : 1024 ≤ 1024) q)) :=
  Norm.congr3 x (Block.emb_val (s := S8x128x1024) ![j, 0, 0] S1x128x1024.size h (ix3 0 p q) 0)
    ((Block.emb_val (s := S8x128x1024) ![j, 0, 0] S1x128x1024.size h (ix3 0 p q) 1).trans (Nat.zero_add _))
    ((Block.emb_val (s := S8x128x1024) ![j, 0, 0] S1x128x1024.size h (ix3 0 p q) 2).trans (Nat.zero_add _))

theorem ix_eq (y : S1x128x1024.Idx) : ∃ p q, y = ix3 0 p q :=
  ⟨y 1, y 2, funext fun a => match a with
    | ⟨0, _⟩ => Fin.ext (by have h : (y 0 : Nat) < 1 := (y 0).isLt; show (y 0 : Nat) = 0; omega)
    | ⟨1, _⟩ => rfl
    | ⟨2, _⟩ => rfl⟩

theorem sum_eq (a0 a1 a2 a3 a4 a5 a6 a7 : Vec Ideal S1x128x1024 .bf16) (p : Fin 128) (q : Fin 1024) :
    k0_pay9 (F := Ideal) a0 a1 a2 a3 a4 a5 a6 a7 (ix2 p q)
      = a0 (ix3 0 p q) + a1 (ix3 0 p q) + a2 (ix3 0 p q) + a3 (ix3 0 p q) + a4 (ix3 0 p q) + a5 (ix3 0 p q) + a6 (ix3 0 p q)
        + a7 (ix3 0 p q) := by
  unfold k0_pay9
  simp only [pointwise]

/-- The sum of the eight devices' gradients as the body of layer 0 takes it. -/
abbrev sumOf (x : Vec Ideal S8x128x1024 .bf16) : FVec Ideal S128x1024 .f32 :=
  k0_pay9 (F := Ideal)
    (View.ld x (Rect.unit (s := S8x128x1024) ![0, 0, 0] S1x128x1024.size inb_S8x128x1024_S1x128x1024_0_0_0))
    (View.ld x (Rect.unit (s := S8x128x1024) ![1, 0, 0] S1x128x1024.size inb_S8x128x1024_S1x128x1024_1_0_0))
    (View.ld x (Rect.unit (s := S8x128x1024) ![2, 0, 0] S1x128x1024.size inb_S8x128x1024_S1x128x1024_2_0_0))
    (View.ld x (Rect.unit (s := S8x128x1024) ![3, 0, 0] S1x128x1024.size inb_S8x128x1024_S1x128x1024_3_0_0))
    (View.ld x (Rect.unit (s := S8x128x1024) ![4, 0, 0] S1x128x1024.size inb_S8x128x1024_S1x128x1024_4_0_0))
    (View.ld x (Rect.unit (s := S8x128x1024) ![5, 0, 0] S1x128x1024.size inb_S8x128x1024_S1x128x1024_5_0_0))
    (View.ld x (Rect.unit (s := S8x128x1024) ![6, 0, 0] S1x128x1024.size inb_S8x128x1024_S1x128x1024_6_0_0))
    (View.ld x (Rect.unit (s := S8x128x1024) ![7, 0, 0] S1x128x1024.size inb_S8x128x1024_S1x128x1024_7_0_0))

/-- It is the sum over the devices. -/
theorem sumOf_eq (x : Vec Ideal S8x128x1024 .bf16) (p : Fin 128) (q : Fin 1024) : sumOf x (ix2 p q) = Adam.sum8 x p (Fin.castLE (by decide : 1024 ≤ 1024) q) := by
  refine (sum_eq _ _ _ _ _ _ _ _ p q).trans ?_
  exact Adam.sum8_eq x p (Fin.castLE (by decide : 1024 ≤ 1024) q) (part_eq x 0 (by decide) _ p q) (part_eq x 1 (by decide) _ p q)
    (part_eq x 2 (by decide) _ p q) (part_eq x 3 (by decide) _ p q) (part_eq x 4 (by decide) _ p q)
    (part_eq x 5 (by decide) _ p q) (part_eq x 6 (by decide) _ p q) (part_eq x 7 (by decide) _ p q)

section
variable (x : Vec Ideal S8x128x1024 .bf16) (x0 x5 x6 : Vec Ideal S1x128x1024 .f32) (y : S1x128x1024.Idx)

/-- The gradient of a block at an element, from the devices' gradients of the block. -/
abbrev g1 : EReal := Adam.sum8 x (y 1) (Fin.castLE (by decide : 1024 ≤ 1024) (y 2))

theorem pay7 : k0_pay13 (F := Ideal) (sumOf x) y = (g1 x y) := by
  obtain ⟨p, q, rfl⟩ := ix_eq y
  unfold k0_pay13
  simp only [pointwise, sumOf_eq]
  rfl

theorem pay8 : k0_pay14 (F := Ideal) (sumOf x) (k0_pay10 (F := Ideal) x5) x6 x0 y = Adam.delta (x0 y) (g1 x y) (x5 y) (x6 y) := by
  obtain ⟨p, q, rfl⟩ := ix_eq y
  unfold k0_pay14 k0_pay11 k0_pay12 k0_pay10 Adam.delta Adam.newM Adam.newV
  simp only [pointwise, sumOf_eq]
  rfl

theorem pay9 : k0_pay1 (F := Ideal) (k0_pay11 (F := Ideal) (sumOf x) (k0_pay10 (F := Ideal) x5)) y = Adam.newM (g1 x y) (x5 y) := by
  obtain ⟨p, q, rfl⟩ := ix_eq y
  unfold k0_pay1 k0_pay11 k0_pay10 Adam.newM
  simp only [pointwise, sumOf_eq]
  rfl

theorem pay10 : k0_pay2 (F := Ideal) (k0_pay12 (F := Ideal) (sumOf x) x6) y = Adam.newV (g1 x y) (x6 y) := by
  obtain ⟨p, q, rfl⟩ := ix_eq y
  unfold k0_pay2 k0_pay12 Adam.newV
  simp only [pointwise, sumOf_eq]
  rfl

end

/-! The bodies of the other layers compute what the body of layer 0 does. -/

theorem same_B : k0_pay15 (F := Ideal) = k0_pay9 ∧ k0_pay16 (F := Ideal) = k0_pay10 ∧ k0_pay17 (F := Ideal) = k0_pay11 ∧ k0_pay18 (F := Ideal) = k0_pay12 ∧ k0_pay19 (F := Ideal) = k0_pay13 ∧ k0_pay20 (F := Ideal) = k0_pay14 ∧ k0_pay3 (F := Ideal) = k0_pay1 ∧ k0_pay4 (F := Ideal) = k0_pay2 :=
  ⟨rfl, rfl, rfl, rfl, rfl, rfl, rfl, rfl⟩

theorem same_C : k0_pay21 (F := Ideal) = k0_pay9 ∧ k0_pay22 (F := Ideal) = k0_pay10 ∧ k0_pay23 (F := Ideal) = k0_pay11 ∧ k0_pay24 (F := Ideal) = k0_pay12 ∧ k0_pay25 (F := Ideal) = k0_pay13 ∧ k0_pay26 (F := Ideal) = k0_pay14 ∧ k0_pay5 (F := Ideal) = k0_pay1 ∧ k0_pay6 (F := Ideal) = k0_pay2 :=
  ⟨rfl, rfl, rfl, rfl, rfl, rfl, rfl, rfl⟩

theorem same_D : k0_pay27 (F := Ideal) = k0_pay9 ∧ k0_pay28 (F := Ideal) = k0_pay10 ∧ k0_pay29 (F := Ideal) = k0_pay11 ∧ k0_pay30 (F := Ideal) = k0_pay12 ∧ k0_pay31 (F := Ideal) = k0_pay13 ∧ k0_pay32 (F := Ideal) = k0_pay14 ∧ k0_pay7 (F := Ideal) = k0_pay1 ∧ k0_pay8 (F := Ideal) = k0_pay2 :=
  ⟨rfl, rfl, rfl, rfl, rfl, rfl, rfl, rfl⟩

/-- The block of layer `t / 2` and row block `t % 2`, all columns. -/
abbrev Here (t : Fin cfg0.N) (k : Fin 3 → Nat) : Prop := k 0 = t.val / 2 ∧ k 1 = t.val % 2 ∧ k 2 = 0

/-- The block of all devices and row block `t % 2`, all columns, at the points of one layer. -/
abbrev Part (t : Fin cfg0.N) (layer : Nat) (k : Fin 3 → Nat) : Prop := t.val / 2 = layer → k 0 = 0 ∧ k 1 = t.val % 2 ∧ k 2 = 0

/-- The block indices of the windows at each grid point. -/
theorem idx : ∀ t : Fin cfg0.N, (Here t (win0_0.index t) ∧ Here t (win0_5.index t) ∧ Here t (win0_6.index t) ∧ Here t (win0_7.index t)
    ∧ Here t (win0_8.index t) ∧ Here t (win0_9.index t) ∧ Here t (win0_10.index t))
    ∧ Part t 0 (win0_1.index t) ∧ Part t 1 (win0_2.index t) ∧ Part t 2 (win0_3.index t) ∧ Part t 3 (win0_4.index t) :=
  (by decide +kernel : ∀ t : Fin grid0.N, _)

/-- The element of the weight that a block's element is. -/
def at4 (t : Fin cfg0.N) (y : S1x128x1024.Idx) : S4x256x1024.Idx :=
  ix3 (⟨t.val / 2, by have h := t.isLt; have hN : cfg0.N = 8 := N_0; omega⟩ : Fin 4)
    (⟨t.val % 2 * 128 + (y 1 : Nat), by have h : (y 1 : Nat) < 128 := (y 1).isLt; omega⟩ : Fin 256) (y 2)

/-- An index of the weight that is a block's offset and the index in the block is that element. -/
theorem eq_at4 {α : Type} (X : S4x256x1024.Idx → α) {t : Fin cfg0.N} {k : Fin 3 → Nat} (hk : Here t k) (y : S1x128x1024.Idx) (e : S4x256x1024.Idx)
    (he : ∀ a : Fin 3, (e a : Nat) = k a * S1x128x1024.size a + y a) : X e = X (at4 t y) := by
  have hy : (y 0 : Nat) < 1 := (y 0).isLt
  refine Norm.congr3 X ((he 0).trans ?_) ((he 1).trans ?_) ((he 2).trans ?_)
  · rw [hk.1]; show t.val / 2 * 1 + (y 0 : Nat) = t.val / 2; omega
  · rw [hk.2.1]; rfl
  · rw [hk.2.2]; exact (congrArg (· + (y 2 : Nat)) (Nat.zero_mul _)).trans (Nat.zero_add _)

/-- A gradient block at an element is its layer's gradient there. -/
theorem eq_part (X : S8x256x1024.Idx → EReal) {t : Fin cfg0.N} {k : Fin 3 → Nat} (hk : k 0 = 0 ∧ k 1 = t.val % 2 ∧ k 2 = 0) (y : S1x128x1024.Idx)
    (x : Vec Ideal S8x128x1024 .bf16) (hx : ∀ j, ∃ e : S8x256x1024.Idx, x j = X e ∧ ∀ a : Fin 3, (e a : Nat) = k a * S8x128x1024.size a + j a) :
    g1 x y = Adam.sum8 X (at4 t y 1) (Fin.castLE (by decide : 1024 ≤ 1024) (at4 t y 2)) := by
  refine Adam.sum8_congr _ _ _ _ _ _ fun j => ?_
  obtain ⟨e, hxe, he⟩ := hx (ix3 j (y 1) (Fin.castLE (by decide : 1024 ≤ 1024) (y 2)))
  refine hxe.trans (Norm.congr3 X ((he 0).trans ?_) ((he 1).trans ?_) ((he 2).trans ?_))
  · rw [hk.1]; exact (congrArg (· + (j : Nat)) (Nat.zero_mul _)).trans (Nat.zero_add _)
  · rw [hk.2.1]; rfl
  · rw [hk.2.2]; exact (congrArg (· + (y 2 : Nat)) (Nat.zero_mul _)).trans (Nat.zero_add _)

/-- The point whose block an element of the weight lies in. -/
theorem point (i : S4x256x1024.Idx) : ∃ t : Fin cfg0.N, ∀ k, Here t k → ∀ a : Fin 3,
    k a * S1x128x1024.size a ≤ (i a : Nat) ∧ (i a : Nat) < k a * S1x128x1024.size a + S1x128x1024.size a := by
  have h0 : (i 0 : Nat) < 4 := (i 0).isLt
  have h1 : (i 1 : Nat) < 256 := (i 1).isLt
  have h2 : (i 2 : Nat) < 1024 := (i 2).isLt
  have hN : cfg0.N = 8 := N_0
  obtain ⟨t, ht⟩ : ∃ t : Fin cfg0.N, t.val = (i 0 : Nat) * 2 + (i 1 : Nat) / 128 := ⟨⟨(i 0 : Nat) * 2 + (i 1 : Nat) / 128, by omega⟩, rfl⟩
  refine ⟨t, fun k hk a => ?_⟩
  obtain ⟨d0, d1, d2⟩ := hk
  match a with
  | ⟨0, _⟩ => show k 0 * 1 ≤ (i 0 : Nat) ∧ (i 0 : Nat) < k 0 * 1 + 1; omega
  | ⟨1, _⟩ => show k 1 * 128 ≤ (i 1 : Nat) ∧ (i 1 : Nat) < k 1 * 128 + 128; omega
  | ⟨2, _⟩ => show k 2 * 1024 ≤ (i 2 : Nat) ∧ (i 2 : Nat) < k 2 * 1024 + 1024; omega

/-- The gradient of the whole weight. -/
abbrev G (c : Dev nD) : S4x256x1024.Idx → EReal := Adam.grad4 (by decide : 1024 ≤ 1024) (m ((c : Thread nD τ).loc main_arg1)) (m ((c : Thread nD τ).loc main_arg2)) (m ((c : Thread nD τ).loc main_arg3)) (m ((c : Thread nD τ).loc main_arg4))

theorem blk0 (c : Dev nD) (t : Fin cfg0.N) (y : S1x128x1024.Idx) : iblk m c 0 t y = m ((c : Thread nD τ).loc main_arg0) (at4 t y) :=
  eq_at4 (m ((c : Thread nD τ).loc main_arg0)) (idx t).1.1 y _ (Pipeline.Window.rect_emb_val win0_0 t y)

theorem blk5 (c : Dev nD) (t : Fin cfg0.N) (y : S1x128x1024.Idx) : iblk m c 5 t y = m ((c : Thread nD τ).loc main_arg5) (at4 t y) :=
  eq_at4 (m ((c : Thread nD τ).loc main_arg5)) (idx t).1.2.1 y _ (Pipeline.Window.rect_emb_val win0_5 t y)

theorem blk6 (c : Dev nD) (t : Fin cfg0.N) (y : S1x128x1024.Idx) : iblk m c 6 t y = m ((c : Thread nD τ).loc main_arg6) (at4 t y) :=
  eq_at4 (m ((c : Thread nD τ).loc main_arg6)) (idx t).1.2.2.1 y _ (Pipeline.Window.rect_emb_val win0_6 t y)

theorem grad_blk0 (c : Dev nD) (t : Fin cfg0.N) (hl : t.val / 2 = 0) (y : S1x128x1024.Idx) : g1 (iblk m c 1 t) y = G m c (at4 t y) :=
  (eq_part (m ((c : Thread nD τ).loc main_arg1)) ((idx t).2.1 hl) y (iblk m c 1 t) fun j => ⟨_, rfl, Pipeline.Window.rect_emb_val win0_1 t j⟩).trans
    (Adam.grad4_0 (by decide : 1024 ≤ 1024) (m ((c : Thread nD τ).loc main_arg1)) (m ((c : Thread nD τ).loc main_arg2)) (m ((c : Thread nD τ).loc main_arg3)) (m ((c : Thread nD τ).loc main_arg4)) (at4 t y) hl).symm

theorem grad_blk1 (c : Dev nD) (t : Fin cfg0.N) (hl : t.val / 2 = 1) (y : S1x128x1024.Idx) : g1 (iblk m c 2 t) y = G m c (at4 t y) :=
  (eq_part (m ((c : Thread nD τ).loc main_arg2)) ((idx t).2.2.1 hl) y (iblk m c 2 t) fun j => ⟨_, rfl, Pipeline.Window.rect_emb_val win0_2 t j⟩).trans
    (Adam.grad4_1 (by decide : 1024 ≤ 1024) (m ((c : Thread nD τ).loc main_arg1)) (m ((c : Thread nD τ).loc main_arg2)) (m ((c : Thread nD τ).loc main_arg3)) (m ((c : Thread nD τ).loc main_arg4)) (at4 t y) hl).symm

theorem grad_blk2 (c : Dev nD) (t : Fin cfg0.N) (hl : t.val / 2 = 2) (y : S1x128x1024.Idx) : g1 (iblk m c 3 t) y = G m c (at4 t y) :=
  (eq_part (m ((c : Thread nD τ).loc main_arg3)) ((idx t).2.2.2.1 hl) y (iblk m c 3 t) fun j => ⟨_, rfl, Pipeline.Window.rect_emb_val win0_3 t j⟩).trans
    (Adam.grad4_2 (by decide : 1024 ≤ 1024) (m ((c : Thread nD τ).loc main_arg1)) (m ((c : Thread nD τ).loc main_arg2)) (m ((c : Thread nD τ).loc main_arg3)) (m ((c : Thread nD τ).loc main_arg4)) (at4 t y) hl).symm

theorem grad_blk3 (c : Dev nD) (t : Fin cfg0.N) (hl : t.val / 2 = 3) (y : S1x128x1024.Idx) : g1 (iblk m c 4 t) y = G m c (at4 t y) :=
  (eq_part (m ((c : Thread nD τ).loc main_arg4)) ((idx t).2.2.2.2 hl) y (iblk m c 4 t) fun j => ⟨_, rfl, Pipeline.Window.rect_emb_val win0_4 t j⟩).trans
    (Adam.grad4_3 (by decide : 1024 ≤ 1024) (m ((c : Thread nD τ).loc main_arg1)) (m ((c : Thread nD τ).loc main_arg2)) (m ((c : Thread nD τ).loc main_arg3)) (m ((c : Thread nD τ).loc main_arg4)) (at4 t y) hl).symm

/-- The gradient, as the run is shown to leave it. -/
abbrev result0 (c : Dev nD) : Buf (Elt Ideal) ((c : Thread nD τ).loc main_v0_0) := fun y : S4x256x1024.Idx =>
  (G m c y)

/-- What is added to the weight, as the run is shown to leave it. -/
abbrev result1 (c : Dev nD) : Buf (Elt Ideal) ((c : Thread nD τ).loc main_v0_1) := fun y : S4x256x1024.Idx =>
  Adam.delta ((m ((c : Thread nD τ).loc main_arg0)) y) (G m c y) ((m ((c : Thread nD τ).loc main_arg5)) y) ((m ((c : Thread nD τ).loc main_arg6)) y)

/-- The new first moment, as the run is shown to leave it. -/
abbrev result2 (c : Dev nD) : Buf (Elt Ideal) ((c : Thread nD τ).loc main_v0_2) := fun y : S4x256x1024.Idx =>
  Adam.newM (G m c y) ((m ((c : Thread nD τ).loc main_arg5)) y)

/-- The new second moment, as the run is shown to leave it. -/
abbrev result3 (c : Dev nD) : Buf (Elt Ideal) ((c : Thread nD τ).loc main_v0_3) := fun y : S4x256x1024.Idx =>
  Adam.newV (G m c y) ((m ((c : Thread nD τ).loc main_arg6)) y)

/-- What the body computes from gradients that are those of its layer: the elements of the four results that its blocks are. -/
theorem ends (c : Dev nD) (t : Fin cfg0.N) (x : Vec Ideal S8x128x1024 .bf16) (hx : ∀ y, g1 x y = G m c (at4 t y)) :
    k0_pay13 (F := Ideal) (sumOf x) = (fun y : S1x128x1024.Idx => result0 m c (at4 t y))
    ∧ k0_pay14 (F := Ideal) (sumOf x) (k0_pay10 (F := Ideal) (iblk m c 5 t)) (iblk m c 6 t) (iblk m c 0 t) = (fun y : S1x128x1024.Idx => result1 m c (at4 t y))
    ∧ k0_pay1 (F := Ideal) (k0_pay11 (F := Ideal) (sumOf x) (k0_pay10 (F := Ideal) (iblk m c 5 t))) = (fun y : S1x128x1024.Idx => result2 m c (at4 t y))
    ∧ k0_pay2 (F := Ideal) (k0_pay12 (F := Ideal) (sumOf x) (iblk m c 6 t)) = (fun y : S1x128x1024.Idx => result3 m c (at4 t y)) :=
  ⟨funext fun y => (pay7 x y).trans (by rw [hx]),
    funext fun y => (pay8 x (iblk m c 0 t) (iblk m c 5 t) (iblk m c 6 t) y).trans (by rw [hx, blk0, blk5, blk6]),
    funext fun y => (pay9 x (iblk m c 5 t) y).trans (by rw [hx, blk5]),
    funext fun y => (pay10 x (iblk m c 6 t) y).trans (by rw [hx, blk6])⟩

/-- What a point writes back: the elements of the four results that its blocks are. -/
def Left (c : Dev nD) (t : Fin cfg0.N) : Prop :=
  (dats m 0 c).flushed 7 t = (cfg0.win 7).cut (grid0.coords t) (fun y : S1x128x1024.Idx => result0 m c (at4 t y))
  ∧ (dats m 0 c).flushed 8 t = (cfg0.win 8).cut (grid0.coords t) (fun y : S1x128x1024.Idx => result1 m c (at4 t y))
  ∧ (dats m 0 c).flushed 9 t = (cfg0.win 9).cut (grid0.coords t) (fun y : S1x128x1024.Idx => result2 m c (at4 t y))
  ∧ (dats m 0 c).flushed 10 t = (cfg0.win 10).cut (grid0.coords t) (fun y : S1x128x1024.Idx => result3 m c (at4 t y))

set_option maxHeartbeats 600000 in
theorem left_A (c : Dev nD) (t : Fin cfg0.N) (hl : t.val / 2 = 0) : Left m c t := by
  have hN : t.val < 8 := t.isLt.trans_eq N_0
  have e := ends m c t _ (grad_blk0 m c t hl)
  unfold Left
  rw [Cert.AdamOutIdeal.Value.flushed7_A m c t (by omega) (by omega) (by omega) (by omega),
    Cert.AdamOutIdeal.Value.flushed8_A m c t (by omega) (by omega) (by omega) (by omega),
    Cert.AdamOutIdeal.Value.flushed9_A m c t (by omega) (by omega) (by omega) (by omega),
    Cert.AdamOutIdeal.Value.flushed10_A m c t (by omega) (by omega) (by omega) (by omega)]
  unfold out0_A_7 out0_A_8 out0_A_9 out0_A_10
  rw [View.read_writes_eq_canon _ _ _ (cover0_A_7 _ _ _ _ _ _ _ _ _ _ _ _ _ _ _ _ _ _ _ _ _ _ _ _ _ _ _ _ _ _ _ _ _ _ _),
    View.read_writes_eq_canon _ _ _ (cover0_A_8 _ _ _ _ _ _ _ _ _ _ _ _ _ _ _ _ _ _ _ _ _ _ _ _ _ _ _ _ _ _ _ _ _ _ _),
    View.read_writes_eq_canon _ _ _ (cover0_A_9 _ _ _ _ _ _ _ _ _ _ _ _ _ _ _ _ _ _ _ _ _ _ _ _ _ _ _ _ _ _ _ _ _ _ _),
    View.read_writes_eq_canon _ _ _ (cover0_A_10 _ _ _ _ _ _ _ _ _ _ _ _ _ _ _ _ _ _ _ _ _ _ _ _ _ _ _ _ _ _ _ _ _ _ _)]
  unfold kernelRun0_A
  dsimp only
  sl_unfold_words
  rw [View.canon_unit_zero hz, View.canon_unit_zero hz, View.canon_unit_zero hz, View.canon_unit_zero hz]
  simp only [View.readAt_eq_ld, (hs0_0 t).read_unread, (hs0_1 t).read_unread, (hs0_5 t).read_unread,
    (hs0_6 t).read_unread, View.ld_unit_zero (S := S1x128x1024) hz]
  exact ⟨congrArg _ e.1, congrArg _ e.2.1, congrArg _ e.2.2.1, congrArg _ e.2.2.2⟩

set_option maxHeartbeats 600000 in
theorem left_B (c : Dev nD) (t : Fin cfg0.N) (hl : t.val / 2 = 1) : Left m c t := by
  have hN : t.val < 8 := t.isLt.trans_eq N_0
  have e := ends m c t _ (grad_blk1 m c t hl)
  unfold Left
  rw [Cert.AdamOutIdeal.Value.flushed7_B m c t (by omega) (by omega) (by omega) (by omega),
    Cert.AdamOutIdeal.Value.flushed8_B m c t (by omega) (by omega) (by omega) (by omega),
    Cert.AdamOutIdeal.Value.flushed9_B m c t (by omega) (by omega) (by omega) (by omega),
    Cert.AdamOutIdeal.Value.flushed10_B m c t (by omega) (by omega) (by omega) (by omega)]
  unfold out0_B_7 out0_B_8 out0_B_9 out0_B_10
  rw [View.read_writes_eq_canon _ _ _ (cover0_B_7 _ _ _ _ _ _ _ _ _ _ _ _ _ _ _ _ _ _ _ _ _ _ _ _ _ _ _ _ _ _ _ _ _ _ _),
    View.read_writes_eq_canon _ _ _ (cover0_B_8 _ _ _ _ _ _ _ _ _ _ _ _ _ _ _ _ _ _ _ _ _ _ _ _ _ _ _ _ _ _ _ _ _ _ _),
    View.read_writes_eq_canon _ _ _ (cover0_B_9 _ _ _ _ _ _ _ _ _ _ _ _ _ _ _ _ _ _ _ _ _ _ _ _ _ _ _ _ _ _ _ _ _ _ _),
    View.read_writes_eq_canon _ _ _ (cover0_B_10 _ _ _ _ _ _ _ _ _ _ _ _ _ _ _ _ _ _ _ _ _ _ _ _ _ _ _ _ _ _ _ _ _ _ _)]
  unfold kernelRun0_B
  dsimp only
  sl_unfold_words
  rw [View.canon_unit_zero hz, View.canon_unit_zero hz, View.canon_unit_zero hz, View.canon_unit_zero hz]
  simp only [View.readAt_eq_ld, (hs0_0 t).read_unread, (hs0_2 t).read_unread, (hs0_5 t).read_unread,
    (hs0_6 t).read_unread, View.ld_unit_zero (S := S1x128x1024) hz, same_B]
  exact ⟨congrArg _ e.1, congrArg _ e.2.1, congrArg _ e.2.2.1, congrArg _ e.2.2.2⟩

set_option maxHeartbeats 600000 in
theorem left_C (c : Dev nD) (t : Fin cfg0.N) (hl : t.val / 2 = 2) : Left m c t := by
  have hN : t.val < 8 := t.isLt.trans_eq N_0
  have e := ends m c t _ (grad_blk2 m c t hl)
  unfold Left
  rw [Cert.AdamOutIdeal.Value.flushed7_C m c t (by omega) (by omega) (by omega) (by omega),
    Cert.AdamOutIdeal.Value.flushed8_C m c t (by omega) (by omega) (by omega) (by omega),
    Cert.AdamOutIdeal.Value.flushed9_C m c t (by omega) (by omega) (by omega) (by omega),
    Cert.AdamOutIdeal.Value.flushed10_C m c t (by omega) (by omega) (by omega) (by omega)]
  unfold out0_C_7 out0_C_8 out0_C_9 out0_C_10
  rw [View.read_writes_eq_canon _ _ _ (cover0_C_7 _ _ _ _ _ _ _ _ _ _ _ _ _ _ _ _ _ _ _ _ _ _ _ _ _ _ _ _ _ _ _ _ _ _ _),
    View.read_writes_eq_canon _ _ _ (cover0_C_8 _ _ _ _ _ _ _ _ _ _ _ _ _ _ _ _ _ _ _ _ _ _ _ _ _ _ _ _ _ _ _ _ _ _ _),
    View.read_writes_eq_canon _ _ _ (cover0_C_9 _ _ _ _ _ _ _ _ _ _ _ _ _ _ _ _ _ _ _ _ _ _ _ _ _ _ _ _ _ _ _ _ _ _ _),
    View.read_writes_eq_canon _ _ _ (cover0_C_10 _ _ _ _ _ _ _ _ _ _ _ _ _ _ _ _ _ _ _ _ _ _ _ _ _ _ _ _ _ _ _ _ _ _ _)]
  unfold kernelRun0_C
  dsimp only
  sl_unfold_words
  rw [View.canon_unit_zero hz, View.canon_unit_zero hz, View.canon_unit_zero hz, View.canon_unit_zero hz]
  simp only [View.readAt_eq_ld, (hs0_0 t).read_unread, (hs0_3 t).read_unread, (hs0_5 t).read_unread,
    (hs0_6 t).read_unread, View.ld_unit_zero (S := S1x128x1024) hz, same_C]
  exact ⟨congrArg _ e.1, congrArg _ e.2.1, congrArg _ e.2.2.1, congrArg _ e.2.2.2⟩

set_option maxHeartbeats 600000 in
theorem left_D (c : Dev nD) (t : Fin cfg0.N) (hl : t.val / 2 = 3) : Left m c t := by
  have hN : t.val < 8 := t.isLt.trans_eq N_0
  have e := ends m c t _ (grad_blk3 m c t hl)
  unfold Left
  rw [Cert.AdamOutIdeal.Value.flushed7_D m c t (by omega) (by omega) (by omega) (by omega),
    Cert.AdamOutIdeal.Value.flushed8_D m c t (by omega) (by omega) (by omega) (by omega),
    Cert.AdamOutIdeal.Value.flushed9_D m c t (by omega) (by omega) (by omega) (by omega),
    Cert.AdamOutIdeal.Value.flushed10_D m c t (by omega) (by omega) (by omega) (by omega)]
  unfold out0_D_7 out0_D_8 out0_D_9 out0_D_10
  rw [View.read_writes_eq_canon _ _ _ (cover0_D_7 _ _ _ _ _ _ _ _ _ _ _ _ _ _ _ _ _ _ _ _ _ _ _ _ _ _ _ _ _ _ _ _ _ _ _),
    View.read_writes_eq_canon _ _ _ (cover0_D_8 _ _ _ _ _ _ _ _ _ _ _ _ _ _ _ _ _ _ _ _ _ _ _ _ _ _ _ _ _ _ _ _ _ _ _),
    View.read_writes_eq_canon _ _ _ (cover0_D_9 _ _ _ _ _ _ _ _ _ _ _ _ _ _ _ _ _ _ _ _ _ _ _ _ _ _ _ _ _ _ _ _ _ _ _),
    View.read_writes_eq_canon _ _ _ (cover0_D_10 _ _ _ _ _ _ _ _ _ _ _ _ _ _ _ _ _ _ _ _ _ _ _ _ _ _ _ _ _ _ _ _ _ _ _)]
  unfold kernelRun0_D
  dsimp only
  sl_unfold_words
  rw [View.canon_unit_zero hz, View.canon_unit_zero hz, View.canon_unit_zero hz, View.canon_unit_zero hz]
  simp only [View.readAt_eq_ld, (hs0_0 t).read_unread, (hs0_4 t).read_unread, (hs0_5 t).read_unread,
    (hs0_6 t).read_unread, View.ld_unit_zero (S := S1x128x1024) hz, same_D]
  exact ⟨congrArg _ e.1, congrArg _ e.2.1, congrArg _ e.2.2.1, congrArg _ e.2.2.2⟩

theorem left (c : Dev nD) (t : Fin cfg0.N) : Left m c t := by
  have hN : t.val < 8 := t.isLt.trans_eq N_0
  rcases (by omega : t.val / 2 = 0 ∨ t.val / 2 = 1 ∨ t.val / 2 = 2 ∨ t.val / 2 = 3) with hl | hl | hl | hl
  · exact left_A m c t hl
  · exact left_B m c t hl
  · exact left_C m c t hl
  · exact left_D m c t hl

theorem final7 (c : Dev nD) : (dats m 0 c).arrAt 7 cfg0.N = result0 m c :=
  (dats m 0 c).arrAt_eq_of_cover 7 (result0 m c)
    (fun t _ => (left m c t).1.trans (funext fun y => (eq_at4 (result0 m c) (idx t).1.2.2.2.1 y _
      (Pipeline.Window.rect_emb_val win0_7 t y)).symm))
    (fun i => (point i).imp fun t h => ⟨flush0_7 t, by
      show i ∈ ((View.whole main_v0_0).slice (win0_7.rect t)).set
      rw [View.set_slice_whole, Rect.mem_set_unit]
      exact h (win0_7.index t) (idx t).1.2.2.2.1⟩)

theorem final8 (c : Dev nD) : (dats m 0 c).arrAt 8 cfg0.N = result1 m c :=
  (dats m 0 c).arrAt_eq_of_cover 8 (result1 m c)
    (fun t _ => (left m c t).2.1.trans (funext fun y => (eq_at4 (result1 m c) (idx t).1.2.2.2.2.1 y _
      (Pipeline.Window.rect_emb_val win0_8 t y)).symm))
    (fun i => (point i).imp fun t h => ⟨flush0_8 t, by
      show i ∈ ((View.whole main_v0_1).slice (win0_8.rect t)).set
      rw [View.set_slice_whole, Rect.mem_set_unit]
      exact h (win0_8.index t) (idx t).1.2.2.2.2.1⟩)

theorem final9 (c : Dev nD) : (dats m 0 c).arrAt 9 cfg0.N = result2 m c :=
  (dats m 0 c).arrAt_eq_of_cover 9 (result2 m c)
    (fun t _ => (left m c t).2.2.1.trans (funext fun y => (eq_at4 (result2 m c) (idx t).1.2.2.2.2.2.1 y _
      (Pipeline.Window.rect_emb_val win0_9 t y)).symm))
    (fun i => (point i).imp fun t h => ⟨flush0_9 t, by
      show i ∈ ((View.whole main_v0_2).slice (win0_9.rect t)).set
      rw [View.set_slice_whole, Rect.mem_set_unit]
      exact h (win0_9.index t) (idx t).1.2.2.2.2.2.1⟩)

theorem final10 (c : Dev nD) : (dats m 0 c).arrAt 10 cfg0.N = result3 m c :=
  (dats m 0 c).arrAt_eq_of_cover 10 (result3 m c)
    (fun t _ => (left m c t).2.2.2.trans (funext fun y => (eq_at4 (result3 m c) (idx t).1.2.2.2.2.2.2 y _
      (Pipeline.Window.rect_emb_val win0_10 t y)).symm))
    (fun i => (point i).imp fun t h => ⟨flush0_10 t, by
      show i ∈ ((View.whole main_v0_3).slice (win0_10.rect t)).set
      rw [View.set_slice_whole, Rect.mem_set_unit]
      exact h (win0_10.index t) (idx t).1.2.2.2.2.2.2⟩)

/-- The kernel ends with its four results at these functions of the arguments, the arguments as they were. -/
theorem run : θ_run defs (onTc (τ := τ) (main (F := Ideal))) ⟨m, fun _ => 0, ρ⟩ fun r => ∀ c : Dev nD,
      r.2.mem ((c.tc : Thread nD τ).loc main_v0_0) = result0 m c
      ∧ r.2.mem ((c.tc : Thread nD τ).loc main_v0_1) = result1 m c
      ∧ r.2.mem ((c.tc : Thread nD τ).loc main_v0_2) = result2 m c
      ∧ r.2.mem ((c.tc : Thread nD τ).loc main_v0_3) = result3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c).1.trans (final7 m c), (h c).2.1.trans (final8 m c), (h c).2.2.1.trans (final9 m c), (h c).2.2.2.1.trans (final10 m c),
      (h c).2.2.2.2⟩) (Cert.AdamOutIdeal.Value.run_blocks m ρ)

end Kernel

section Reference

open Cert.AdamOutRefIdeal Cert.AdamOutRefIdeal.Gen Cert.AdamOutRefIdeal.Read

variable (x0 : Vec Ideal S4x256x1024 .f32) (x1 x2 x3 x4 : Vec Ideal S8x256x1024 .bf16) (x5 x6 : Vec Ideal S4x256x1024 .f32)

/-- The reference's gradient of layer 0. -/
theorem ref_sum0 (i : S1x256x1024.Idx) : val_main_v8 (F := Ideal) x1 i = Adam.sum8 x1 (i 1) (Fin.castLE (by decide : 1024 ≤ 1024) (i 2)) := by
  refine (val_main_v8_apply x1 i).trans ((val_main_v1_apply x1 _).trans ?_)
  rw [val_main_cst_apply]
  simp only [val_main_v0_apply, pointwise, zero_add]
  exact Finset.sum_congr rfl fun j _ => Norm.congr3 x1 rfl rfl rfl

/-- The reference's gradient of layer 1. -/
theorem ref_sum1 (i : S1x256x1024.Idx) : val_main_v9 (F := Ideal) x2 i = Adam.sum8 x2 (i 1) (Fin.castLE (by decide : 1024 ≤ 1024) (i 2)) := by
  refine (val_main_v9_apply x2 i).trans ((val_main_v3_apply x2 _).trans ?_)
  rw [val_main_cst_0_apply]
  simp only [val_main_v2_apply, pointwise, zero_add]
  exact Finset.sum_congr rfl fun j _ => Norm.congr3 x2 rfl rfl rfl

/-- The reference's gradient of layer 2. -/
theorem ref_sum2 (i : S1x256x1024.Idx) : val_main_v10 (F := Ideal) x3 i = Adam.sum8 x3 (i 1) (Fin.castLE (by decide : 1024 ≤ 1024) (i 2)) := by
  refine (val_main_v10_apply x3 i).trans ((val_main_v5_apply x3 _).trans ?_)
  rw [val_main_cst_1_apply]
  simp only [val_main_v4_apply, pointwise, zero_add]
  exact Finset.sum_congr rfl fun j _ => Norm.congr3 x3 rfl rfl rfl

/-- The reference's gradient of layer 3. -/
theorem ref_sum3 (i : S1x256x1024.Idx) : val_main_v11 (F := Ideal) x4 i = Adam.sum8 x4 (i 1) (Fin.castLE (by decide : 1024 ≤ 1024) (i 2)) := by
  refine (val_main_v11_apply x4 i).trans ((val_main_v7_apply x4 _).trans ?_)
  rw [val_main_cst_2_apply]
  simp only [val_main_v6_apply, pointwise, zero_add]
  exact Finset.sum_congr rfl fun j _ => Norm.congr3 x4 rfl rfl rfl

/-- The reference's gradient: the four layers' one after the other. -/
theorem ref_grad (y : S4x256x1024.Idx) : val_main_v12 (F := Ideal) x1 x2 x3 x4 y = Adam.grad4 (by decide : 1024 ≤ 1024) x1 x2 x3 x4 y := by
  unfold val_main_v12
  refine concatenate_unit_eq _ _ _ y _ rfl (concatAt_cons _ _ _ 0 ?_ (concatAt_cons _ _ _ 1 ?_ (concatAt_cons _ _ _ 2 ?_
    (concatAt_cons _ _ _ 3 ?_ trivial))))
  · intro hj hr i h0 hb
    refine (ref_sum0 x1 i).trans ((Adam.grad4_0 (by decide : 1024 ≤ 1024) x1 x2 x3 x4 y hj).trans ?_).symm
    exact congrArg₂ (Adam.sum8 x1) (Fin.ext (hb 1 (by decide)).symm) (Fin.ext (hb 2 (by decide)).symm)
  · intro hj hr i h0 hb
    refine (ref_sum1 x2 i).trans ((Adam.grad4_1 (by decide : 1024 ≤ 1024) x1 x2 x3 x4 y hj).trans ?_).symm
    exact congrArg₂ (Adam.sum8 x2) (Fin.ext (hb 1 (by decide)).symm) (Fin.ext (hb 2 (by decide)).symm)
  · intro hj hr i h0 hb
    refine (ref_sum2 x3 i).trans ((Adam.grad4_2 (by decide : 1024 ≤ 1024) x1 x2 x3 x4 y hj).trans ?_).symm
    exact congrArg₂ (Adam.sum8 x3) (Fin.ext (hb 1 (by decide)).symm) (Fin.ext (hb 2 (by decide)).symm)
  · intro hj hr i h0 hb
    refine (ref_sum3 x4 i).trans ((Adam.grad4_3 (by decide : 1024 ≤ 1024) x1 x2 x3 x4 y hj).trans ?_).symm
    exact congrArg₂ (Adam.sum8 x4) (Fin.ext (hb 1 (by decide)).symm) (Fin.ext (hb 2 (by decide)).symm)

theorem ref_mom (y : S4x256x1024.Idx) : val_main_v17 (F := Ideal) x1 x2 x3 x4 x5 y = Adam.newM (Adam.grad4 (by decide : 1024 ≤ 1024) x1 x2 x3 x4 y) (x5 y) := by
  unfold Adam.newM
  rw [← ref_grad x1 x2 x3 x4 y]
  simp only [val_main_v17_apply, val_main_v16_apply, val_main_v15_apply, val_main_v14_apply, val_main_v13_apply, val_main_cst_3_apply, val_main_cst_4_apply, pointwise]

theorem ref_vel (y : S4x256x1024.Idx) : val_main_v23 (F := Ideal) x1 x2 x3 x4 x6 y = Adam.newV (Adam.grad4 (by decide : 1024 ≤ 1024) x1 x2 x3 x4 y) (x6 y) := by
  unfold Adam.newV
  rw [← ref_grad x1 x2 x3 x4 y]
  simp only [val_main_v23_apply, val_main_v22_apply, val_main_v21_apply, val_main_v20_apply, val_main_v19_apply, val_main_v18_apply, val_main_cst_5_apply, val_main_cst_6_apply, pointwise]

theorem ref_delta (y : S4x256x1024.Idx) :
    val_main_v36 (F := Ideal) x0 x1 x2 x3 x4 x5 x6 y = Adam.delta (x0 y) (Adam.grad4 (by decide : 1024 ≤ 1024) x1 x2 x3 x4 y) (x5 y) (x6 y) := by
  unfold Adam.delta
  rw [← ref_mom x1 x2 x3 x4 x5 y, ← ref_vel x1 x2 x3 x4 x6 y]
  simp only [val_main_v36_apply, val_main_v35_apply, val_main_v34_apply, val_main_v33_apply, val_main_v32_apply, val_main_v31_apply, val_main_v30_apply,
    val_main_v29_apply, val_main_v28_apply, val_main_v27_apply, val_main_v26_apply, val_main_v25_apply, val_main_v24_apply,
    val_main_cst_7_apply, val_main_cst_8_apply, val_main_cst_9_apply, val_main_cst_10_apply, val_main_cst_11_apply, pointwise]

/-- The reference ends with its four results at the same functions of the arguments, the arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = (fun y : S4x256x1024.Idx => (Adam.grad4 (by decide : 1024 ≤ 1024) (m ((c.tc : Thread nD τ).loc main_arg1)) (m ((c.tc : Thread nD τ).loc main_arg2)) (m ((c.tc : Thread nD τ).loc main_arg3)) (m ((c.tc : Thread nD τ).loc main_arg4)) y))
      ∧ r.2.mem ((c.tc : Thread nD τ).loc main_v36) = (fun y : S4x256x1024.Idx => Adam.delta ((m ((c.tc : Thread nD τ).loc main_arg0)) y) (Adam.grad4 (by decide : 1024 ≤ 1024) (m ((c.tc : Thread nD τ).loc main_arg1)) (m ((c.tc : Thread nD τ).loc main_arg2)) (m ((c.tc : Thread nD τ).loc main_arg3)) (m ((c.tc : Thread nD τ).loc main_arg4)) y) ((m ((c.tc : Thread nD τ).loc main_arg5)) y) ((m ((c.tc : Thread nD τ).loc main_arg6)) y))
      ∧ r.2.mem ((c.tc : Thread nD τ).loc main_v17) = (fun y : S4x256x1024.Idx => Adam.newM (Adam.grad4 (by decide : 1024 ≤ 1024) (m ((c.tc : Thread nD τ).loc main_arg1)) (m ((c.tc : Thread nD τ).loc main_arg2)) (m ((c.tc : Thread nD τ).loc main_arg3)) (m ((c.tc : Thread nD τ).loc main_arg4)) y) ((m ((c.tc : Thread nD τ).loc main_arg5)) y))
      ∧ r.2.mem ((c.tc : Thread nD τ).loc main_v23) = (fun y : S4x256x1024.Idx => Adam.newV (Adam.grad4 (by decide : 1024 ≤ 1024) (m ((c.tc : Thread nD τ).loc main_arg1)) (m ((c.tc : Thread nD τ).loc main_arg2)) (m ((c.tc : Thread nD τ).loc main_arg3)) (m ((c.tc : Thread nD τ).loc main_arg4)) y) ((m ((c.tc : Thread nD τ).loc main_arg6)) y))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).1.trans (val_main_v12_eq _ _ _ _)).trans (funext fun y => ref_grad _ _ _ _ y),
      ((h c).2.1.trans (val_main_v36_eq m c)).trans (funext fun y => ref_delta _ _ _ _ _ _ _ y),
      ((h c).2.2.1.trans (val_main_v17_eq _ _ _ _ _)).trans (funext fun y => ref_mom _ _ _ _ _ y),
      ((h c).2.2.2.1.trans (val_main_v23_eq _ _ _ _ _)).trans (funext fun y => ref_vel _ _ _ _ _ y),
      (h c).2.2.2.2⟩) (Cert.AdamOutRefIdeal.Value.run m ρ)

end Reference

end Cert.AdamOutVal
-- ==== Proof.AdamUp.lean ====
/-
  The optimiser's step of the MLP's up weight, of four layers: the kernel's four results and the reference's are the same function of
  the weight, the eight devices' gradients of each layer and the two moments.
-/
module

public import proofs.«01_k».proof.Proof.Adam
public import proofs.«01_k».proof.Proof.Gen.AdamUpIdeal.Value
public import proofs.«01_k».proof.Proof.Gen.AdamUpRefIdeal.Run
public import proofs.«01_k».proof.Proof.Gen.AdamUpRefIdeal.Read

@[expose] public section

noncomputable section

open Idealize.ShloMosaic Idealize.ShloMosaic.TcCoe Idealize.SL.Sem
open Idealize.ShloMosaic.Pipeline (Dat)

namespace Cert.AdamUpVal

section Kernel

open Cert.AdamUpIdeal Cert.AdamUpIdeal.Gen

variable (m : (ℓ : Loc nD τ sig) → Buf (Elt Ideal) ℓ) (ρ : Dev nD → PrngReg)

theorem hz : (![0, 0, 0] : Fin 3 → Nat) = fun _ => 0 := funext fun a => by fin_cases a <;> rfl

/-- A device's gradient is its part of the array of all devices'. -/
theorem part_eq (x : Vec Ideal S8x128x512 .bf16) (j : Nat) (hj : j < 8)
    (h : ∀ a, (![j, 0, 0] : Fin 3 → Nat) a + S1x128x512.size a ≤ S8x128x512.size a) (p : Fin 128) (q : Fin 512) :
    View.ld x (Rect.unit (s := S8x128x512) ![j, 0, 0] S1x128x512.size h) (ix3 0 p q) = x (ix3 (⟨j, hj⟩ : Fin 8) p (Fin.castLE (by decide : 512 ≤ 512) q)) :=
  Norm.congr3 x (Block.emb_val (s := S8x128x512) ![j, 0, 0] S1x128x512.size h (ix3 0 p q) 0)
    ((Block.emb_val (s := S8x128x512) ![j, 0, 0] S1x128x512.size h (ix3 0 p q) 1).trans (Nat.zero_add _))
    ((Block.emb_val (s := S8x128x512) ![j, 0, 0] S1x128x512.size h (ix3 0 p q) 2).trans (Nat.zero_add _))

theorem ix_eq (y : S1x128x512.Idx) : ∃ p q, y = ix3 0 p q :=
  ⟨y 1, y 2, funext fun a => match a with
    | ⟨0, _⟩ => Fin.ext (by have h : (y 0 : Nat) < 1 := (y 0).isLt; show (y 0 : Nat) = 0; omega)
    | ⟨1, _⟩ => rfl
    | ⟨2, _⟩ => rfl⟩

theorem sum_eq (a0 a1 a2 a3 a4 a5 a6 a7 : Vec Ideal S1x128x512 .bf16) (p : Fin 128) (q : Fin 512) :
    k0_pay9 (F := Ideal) a0 a1 a2 a3 a4 a5 a6 a7 (ix2 p q)
      = a0 (ix3 0 p q) + a1 (ix3 0 p q) + a2 (ix3 0 p q) + a3 (ix3 0 p q) + a4 (ix3 0 p q) + a5 (ix3 0 p q) + a6 (ix3 0 p q)
        + a7 (ix3 0 p q) := by
  unfold k0_pay9
  simp only [pointwise]

/-- The sum of the eight devices' gradients as the body of layer 0 takes it. -/
abbrev sumOf (x : Vec Ideal S8x128x512 .bf16) : FVec Ideal S128x512 .f32 :=
  k0_pay9 (F := Ideal)
    (View.ld x (Rect.unit (s := S8x128x512) ![0, 0, 0] S1x128x512.size inb_S8x128x512_S1x128x512_0_0_0))
    (View.ld x (Rect.unit (s := S8x128x512) ![1, 0, 0] S1x128x512.size inb_S8x128x512_S1x128x512_1_0_0))
    (View.ld x (Rect.unit (s := S8x128x512) ![2, 0, 0] S1x128x512.size inb_S8x128x512_S1x128x512_2_0_0))
    (View.ld x (Rect.unit (s := S8x128x512) ![3, 0, 0] S1x128x512.size inb_S8x128x512_S1x128x512_3_0_0))
    (View.ld x (Rect.unit (s := S8x128x512) ![4, 0, 0] S1x128x512.size inb_S8x128x512_S1x128x512_4_0_0))
    (View.ld x (Rect.unit (s := S8x128x512) ![5, 0, 0] S1x128x512.size inb_S8x128x512_S1x128x512_5_0_0))
    (View.ld x (Rect.unit (s := S8x128x512) ![6, 0, 0] S1x128x512.size inb_S8x128x512_S1x128x512_6_0_0))
    (View.ld x (Rect.unit (s := S8x128x512) ![7, 0, 0] S1x128x512.size inb_S8x128x512_S1x128x512_7_0_0))

/-- It is the sum over the devices. -/
theorem sumOf_eq (x : Vec Ideal S8x128x512 .bf16) (p : Fin 128) (q : Fin 512) : sumOf x (ix2 p q) = Adam.sum8 x p (Fin.castLE (by decide : 512 ≤ 512) q) := by
  refine (sum_eq _ _ _ _ _ _ _ _ p q).trans ?_
  exact Adam.sum8_eq x p (Fin.castLE (by decide : 512 ≤ 512) q) (part_eq x 0 (by decide) _ p q) (part_eq x 1 (by decide) _ p q)
    (part_eq x 2 (by decide) _ p q) (part_eq x 3 (by decide) _ p q) (part_eq x 4 (by decide) _ p q)
    (part_eq x 5 (by decide) _ p q) (part_eq x 6 (by decide) _ p q) (part_eq x 7 (by decide) _ p q)

section
variable (x : Vec Ideal S8x128x512 .bf16) (x0 x5 x6 : Vec Ideal S1x128x512 .f32) (y : S1x128x512.Idx)

/-- The gradient of a block at an element, from the devices' gradients of the block. -/
abbrev g1 : EReal := Adam.sum8 x (y 1) (Fin.castLE (by decide : 512 ≤ 512) (y 2))

theorem pay7 : k0_pay13 (F := Ideal) (sumOf x) y = (g1 x y) := by
  obtain ⟨p, q, rfl⟩ := ix_eq y
  unfold k0_pay13
  simp only [pointwise, sumOf_eq]
  rfl

theorem pay8 : k0_pay14 (F := Ideal) (sumOf x) (k0_pay10 (F := Ideal) x5) x6 x0 y = Adam.delta (x0 y) (g1 x y) (x5 y) (x6 y) := by
  obtain ⟨p, q, rfl⟩ := ix_eq y
  unfold k0_pay14 k0_pay11 k0_pay12 k0_pay10 Adam.delta Adam.newM Adam.newV
  simp only [pointwise, sumOf_eq]
  rfl

theorem pay9 : k0_pay1 (F := Ideal) (k0_pay11 (F := Ideal) (sumOf x) (k0_pay10 (F := Ideal) x5)) y = Adam.newM (g1 x y) (x5 y) := by
  obtain ⟨p, q, rfl⟩ := ix_eq y
  unfold k0_pay1 k0_pay11 k0_pay10 Adam.newM
  simp only [pointwise, sumOf_eq]
  rfl

theorem pay10 : k0_pay2 (F := Ideal) (k0_pay12 (F := Ideal) (sumOf x) x6) y = Adam.newV (g1 x y) (x6 y) := by
  obtain ⟨p, q, rfl⟩ := ix_eq y
  unfold k0_pay2 k0_pay12 Adam.newV
  simp only [pointwise, sumOf_eq]
  rfl

end

/-! The bodies of the other layers compute what the body of layer 0 does. -/

theorem same_B : k0_pay15 (F := Ideal) = k0_pay9 ∧ k0_pay16 (F := Ideal) = k0_pay10 ∧ k0_pay17 (F := Ideal) = k0_pay11 ∧ k0_pay18 (F := Ideal) = k0_pay12 ∧ k0_pay19 (F := Ideal) = k0_pay13 ∧ k0_pay20 (F := Ideal) = k0_pay14 ∧ k0_pay3 (F := Ideal) = k0_pay1 ∧ k0_pay4 (F := Ideal) = k0_pay2 :=
  ⟨rfl, rfl, rfl, rfl, rfl, rfl, rfl, rfl⟩

theorem same_C : k0_pay21 (F := Ideal) = k0_pay9 ∧ k0_pay22 (F := Ideal) = k0_pay10 ∧ k0_pay23 (F := Ideal) = k0_pay11 ∧ k0_pay24 (F := Ideal) = k0_pay12 ∧ k0_pay25 (F := Ideal) = k0_pay13 ∧ k0_pay26 (F := Ideal) = k0_pay14 ∧ k0_pay5 (F := Ideal) = k0_pay1 ∧ k0_pay6 (F := Ideal) = k0_pay2 :=
  ⟨rfl, rfl, rfl, rfl, rfl, rfl, rfl, rfl⟩

theorem same_D : k0_pay27 (F := Ideal) = k0_pay9 ∧ k0_pay28 (F := Ideal) = k0_pay10 ∧ k0_pay29 (F := Ideal) = k0_pay11 ∧ k0_pay30 (F := Ideal) = k0_pay12 ∧ k0_pay31 (F := Ideal) = k0_pay13 ∧ k0_pay32 (F := Ideal) = k0_pay14 ∧ k0_pay7 (F := Ideal) = k0_pay1 ∧ k0_pay8 (F := Ideal) = k0_pay2 :=
  ⟨rfl, rfl, rfl, rfl, rfl, rfl, rfl, rfl⟩

/-- The block of layer `t / 8` and row block `t % 8`, all columns. -/
abbrev Here (t : Fin cfg0.N) (k : Fin 3 → Nat) : Prop := k 0 = t.val / 8 ∧ k 1 = t.val % 8 ∧ k 2 = 0

/-- The block of all devices and row block `t % 8`, all columns, at the points of one layer. -/
abbrev Part (t : Fin cfg0.N) (layer : Nat) (k : Fin 3 → Nat) : Prop := t.val / 8 = layer → k 0 = 0 ∧ k 1 = t.val % 8 ∧ k 2 = 0

/-- The block indices of the windows at each grid point. -/
theorem idx : ∀ t : Fin cfg0.N, (Here t (win0_0.index t) ∧ Here t (win0_5.index t) ∧ Here t (win0_6.index t) ∧ Here t (win0_7.index t)
    ∧ Here t (win0_8.index t) ∧ Here t (win0_9.index t) ∧ Here t (win0_10.index t))
    ∧ Part t 0 (win0_1.index t) ∧ Part t 1 (win0_2.index t) ∧ Part t 2 (win0_3.index t) ∧ Part t 3 (win0_4.index t) :=
  (by decide +kernel : ∀ t : Fin grid0.N, _)

/-- The element of the weight that a block's element is. -/
def at4 (t : Fin cfg0.N) (y : S1x128x512.Idx) : S4x1024x512.Idx :=
  ix3 (⟨t.val / 8, by have h := t.isLt; have hN : cfg0.N = 32 := N_0; omega⟩ : Fin 4)
    (⟨t.val % 8 * 128 + (y 1 : Nat), by have h : (y 1 : Nat) < 128 := (y 1).isLt; omega⟩ : Fin 1024) (y 2)

/-- An index of the weight that is a block's offset and the index in the block is that element. -/
theorem eq_at4 {α : Type} (X : S4x1024x512.Idx → α) {t : Fin cfg0.N} {k : Fin 3 → Nat} (hk : Here t k) (y : S1x128x512.Idx) (e : S4x1024x512.Idx)
    (he : ∀ a : Fin 3, (e a : Nat) = k a * S1x128x512.size a + y a) : X e = X (at4 t y) := by
  have hy : (y 0 : Nat) < 1 := (y 0).isLt
  refine Norm.congr3 X ((he 0).trans ?_) ((he 1).trans ?_) ((he 2).trans ?_)
  · rw [hk.1]; show t.val / 8 * 1 + (y 0 : Nat) = t.val / 8; omega
  · rw [hk.2.1]; rfl
  · rw [hk.2.2]; exact (congrArg (· + (y 2 : Nat)) (Nat.zero_mul _)).trans (Nat.zero_add _)

/-- A gradient block at an element is its layer's gradient there. -/
theorem eq_part (X : S8x1024x512.Idx → EReal) {t : Fin cfg0.N} {k : Fin 3 → Nat} (hk : k 0 = 0 ∧ k 1 = t.val % 8 ∧ k 2 = 0) (y : S1x128x512.Idx)
    (x : Vec Ideal S8x128x512 .bf16) (hx : ∀ j, ∃ e : S8x1024x512.Idx, x j = X e ∧ ∀ a : Fin 3, (e a : Nat) = k a * S8x128x512.size a + j a) :
    g1 x y = Adam.sum8 X (at4 t y 1) (Fin.castLE (by decide : 512 ≤ 512) (at4 t y 2)) := by
  refine Adam.sum8_congr _ _ _ _ _ _ fun j => ?_
  obtain ⟨e, hxe, he⟩ := hx (ix3 j (y 1) (Fin.castLE (by decide : 512 ≤ 512) (y 2)))
  refine hxe.trans (Norm.congr3 X ((he 0).trans ?_) ((he 1).trans ?_) ((he 2).trans ?_))
  · rw [hk.1]; exact (congrArg (· + (j : Nat)) (Nat.zero_mul _)).trans (Nat.zero_add _)
  · rw [hk.2.1]; rfl
  · rw [hk.2.2]; exact (congrArg (· + (y 2 : Nat)) (Nat.zero_mul _)).trans (Nat.zero_add _)

/-- The point whose block an element of the weight lies in. -/
theorem point (i : S4x1024x512.Idx) : ∃ t : Fin cfg0.N, ∀ k, Here t k → ∀ a : Fin 3,
    k a * S1x128x512.size a ≤ (i a : Nat) ∧ (i a : Nat) < k a * S1x128x512.size a + S1x128x512.size a := by
  have h0 : (i 0 : Nat) < 4 := (i 0).isLt
  have h1 : (i 1 : Nat) < 1024 := (i 1).isLt
  have h2 : (i 2 : Nat) < 512 := (i 2).isLt
  have hN : cfg0.N = 32 := N_0
  obtain ⟨t, ht⟩ : ∃ t : Fin cfg0.N, t.val = (i 0 : Nat) * 8 + (i 1 : Nat) / 128 := ⟨⟨(i 0 : Nat) * 8 + (i 1 : Nat) / 128, by omega⟩, rfl⟩
  refine ⟨t, fun k hk a => ?_⟩
  obtain ⟨d0, d1, d2⟩ := hk
  match a with
  | ⟨0, _⟩ => show k 0 * 1 ≤ (i 0 : Nat) ∧ (i 0 : Nat) < k 0 * 1 + 1; omega
  | ⟨1, _⟩ => show k 1 * 128 ≤ (i 1 : Nat) ∧ (i 1 : Nat) < k 1 * 128 + 128; omega
  | ⟨2, _⟩ => show k 2 * 512 ≤ (i 2 : Nat) ∧ (i 2 : Nat) < k 2 * 512 + 512; omega

/-- The gradient of the whole weight. -/
abbrev G (c : Dev nD) : S4x1024x512.Idx → EReal := Adam.grad4 (by decide : 512 ≤ 512) (m ((c : Thread nD τ).loc main_arg1)) (m ((c : Thread nD τ).loc main_arg2)) (m ((c : Thread nD τ).loc main_arg3)) (m ((c : Thread nD τ).loc main_arg4))

theorem blk0 (c : Dev nD) (t : Fin cfg0.N) (y : S1x128x512.Idx) : iblk m c 0 t y = m ((c : Thread nD τ).loc main_arg0) (at4 t y) :=
  eq_at4 (m ((c : Thread nD τ).loc main_arg0)) (idx t).1.1 y _ (Pipeline.Window.rect_emb_val win0_0 t y)

theorem blk5 (c : Dev nD) (t : Fin cfg0.N) (y : S1x128x512.Idx) : iblk m c 5 t y = m ((c : Thread nD τ).loc main_arg5) (at4 t y) :=
  eq_at4 (m ((c : Thread nD τ).loc main_arg5)) (idx t).1.2.1 y _ (Pipeline.Window.rect_emb_val win0_5 t y)

theorem blk6 (c : Dev nD) (t : Fin cfg0.N) (y : S1x128x512.Idx) : iblk m c 6 t y = m ((c : Thread nD τ).loc main_arg6) (at4 t y) :=
  eq_at4 (m ((c : Thread nD τ).loc main_arg6)) (idx t).1.2.2.1 y _ (Pipeline.Window.rect_emb_val win0_6 t y)

theorem grad_blk0 (c : Dev nD) (t : Fin cfg0.N) (hl : t.val / 8 = 0) (y : S1x128x512.Idx) : g1 (iblk m c 1 t) y = G m c (at4 t y) :=
  (eq_part (m ((c : Thread nD τ).loc main_arg1)) ((idx t).2.1 hl) y (iblk m c 1 t) fun j => ⟨_, rfl, Pipeline.Window.rect_emb_val win0_1 t j⟩).trans
    (Adam.grad4_0 (by decide : 512 ≤ 512) (m ((c : Thread nD τ).loc main_arg1)) (m ((c : Thread nD τ).loc main_arg2)) (m ((c : Thread nD τ).loc main_arg3)) (m ((c : Thread nD τ).loc main_arg4)) (at4 t y) hl).symm

theorem grad_blk1 (c : Dev nD) (t : Fin cfg0.N) (hl : t.val / 8 = 1) (y : S1x128x512.Idx) : g1 (iblk m c 2 t) y = G m c (at4 t y) :=
  (eq_part (m ((c : Thread nD τ).loc main_arg2)) ((idx t).2.2.1 hl) y (iblk m c 2 t) fun j => ⟨_, rfl, Pipeline.Window.rect_emb_val win0_2 t j⟩).trans
    (Adam.grad4_1 (by decide : 512 ≤ 512) (m ((c : Thread nD τ).loc main_arg1)) (m ((c : Thread nD τ).loc main_arg2)) (m ((c : Thread nD τ).loc main_arg3)) (m ((c : Thread nD τ).loc main_arg4)) (at4 t y) hl).symm

theorem grad_blk2 (c : Dev nD) (t : Fin cfg0.N) (hl : t.val / 8 = 2) (y : S1x128x512.Idx) : g1 (iblk m c 3 t) y = G m c (at4 t y) :=
  (eq_part (m ((c : Thread nD τ).loc main_arg3)) ((idx t).2.2.2.1 hl) y (iblk m c 3 t) fun j => ⟨_, rfl, Pipeline.Window.rect_emb_val win0_3 t j⟩).trans
    (Adam.grad4_2 (by decide : 512 ≤ 512) (m ((c : Thread nD τ).loc main_arg1)) (m ((c : Thread nD τ).loc main_arg2)) (m ((c : Thread nD τ).loc main_arg3)) (m ((c : Thread nD τ).loc main_arg4)) (at4 t y) hl).symm

theorem grad_blk3 (c : Dev nD) (t : Fin cfg0.N) (hl : t.val / 8 = 3) (y : S1x128x512.Idx) : g1 (iblk m c 4 t) y = G m c (at4 t y) :=
  (eq_part (m ((c : Thread nD τ).loc main_arg4)) ((idx t).2.2.2.2 hl) y (iblk m c 4 t) fun j => ⟨_, rfl, Pipeline.Window.rect_emb_val win0_4 t j⟩).trans
    (Adam.grad4_3 (by decide : 512 ≤ 512) (m ((c : Thread nD τ).loc main_arg1)) (m ((c : Thread nD τ).loc main_arg2)) (m ((c : Thread nD τ).loc main_arg3)) (m ((c : Thread nD τ).loc main_arg4)) (at4 t y) hl).symm

/-- The gradient, as the run is shown to leave it. -/
abbrev result0 (c : Dev nD) : Buf (Elt Ideal) ((c : Thread nD τ).loc main_v0_0) := fun y : S4x1024x512.Idx =>
  (G m c y)

/-- What is added to the weight, as the run is shown to leave it. -/
abbrev result1 (c : Dev nD) : Buf (Elt Ideal) ((c : Thread nD τ).loc main_v0_1) := fun y : S4x1024x512.Idx =>
  Adam.delta ((m ((c : Thread nD τ).loc main_arg0)) y) (G m c y) ((m ((c : Thread nD τ).loc main_arg5)) y) ((m ((c : Thread nD τ).loc main_arg6)) y)

/-- The new first moment, as the run is shown to leave it. -/
abbrev result2 (c : Dev nD) : Buf (Elt Ideal) ((c : Thread nD τ).loc main_v0_2) := fun y : S4x1024x512.Idx =>
  Adam.newM (G m c y) ((m ((c : Thread nD τ).loc main_arg5)) y)

/-- The new second moment, as the run is shown to leave it. -/
abbrev result3 (c : Dev nD) : Buf (Elt Ideal) ((c : Thread nD τ).loc main_v0_3) := fun y : S4x1024x512.Idx =>
  Adam.newV (G m c y) ((m ((c : Thread nD τ).loc main_arg6)) y)

/-- What the body computes from gradients that are those of its layer: the elements of the four results that its blocks are. -/
theorem ends (c : Dev nD) (t : Fin cfg0.N) (x : Vec Ideal S8x128x512 .bf16) (hx : ∀ y, g1 x y = G m c (at4 t y)) :
    k0_pay13 (F := Ideal) (sumOf x) = (fun y : S1x128x512.Idx => result0 m c (at4 t y))
    ∧ k0_pay14 (F := Ideal) (sumOf x) (k0_pay10 (F := Ideal) (iblk m c 5 t)) (iblk m c 6 t) (iblk m c 0 t) = (fun y : S1x128x512.Idx => result1 m c (at4 t y))
    ∧ k0_pay1 (F := Ideal) (k0_pay11 (F := Ideal) (sumOf x) (k0_pay10 (F := Ideal) (iblk m c 5 t))) = (fun y : S1x128x512.Idx => result2 m c (at4 t y))
    ∧ k0_pay2 (F := Ideal) (k0_pay12 (F := Ideal) (sumOf x) (iblk m c 6 t)) = (fun y : S1x128x512.Idx => result3 m c (at4 t y)) :=
  ⟨funext fun y => (pay7 x y).trans (by rw [hx]),
    funext fun y => (pay8 x (iblk m c 0 t) (iblk m c 5 t) (iblk m c 6 t) y).trans (by rw [hx, blk0, blk5, blk6]),
    funext fun y => (pay9 x (iblk m c 5 t) y).trans (by rw [hx, blk5]),
    funext fun y => (pay10 x (iblk m c 6 t) y).trans (by rw [hx, blk6])⟩

/-- What a point writes back: the elements of the four results that its blocks are. -/
def Left (c : Dev nD) (t : Fin cfg0.N) : Prop :=
  (dats m 0 c).flushed 7 t = (cfg0.win 7).cut (grid0.coords t) (fun y : S1x128x512.Idx => result0 m c (at4 t y))
  ∧ (dats m 0 c).flushed 8 t = (cfg0.win 8).cut (grid0.coords t) (fun y : S1x128x512.Idx => result1 m c (at4 t y))
  ∧ (dats m 0 c).flushed 9 t = (cfg0.win 9).cut (grid0.coords t) (fun y : S1x128x512.Idx => result2 m c (at4 t y))
  ∧ (dats m 0 c).flushed 10 t = (cfg0.win 10).cut (grid0.coords t) (fun y : S1x128x512.Idx => result3 m c (at4 t y))

set_option maxHeartbeats 600000 in
theorem left_A (c : Dev nD) (t : Fin cfg0.N) (hl : t.val / 8 = 0) : Left m c t := by
  have hN : t.val < 32 := t.isLt.trans_eq N_0
  have e := ends m c t _ (grad_blk0 m c t hl)
  unfold Left
  rw [Cert.AdamUpIdeal.Value.flushed7_A m c t (by omega) (by omega) (by omega) (by omega),
    Cert.AdamUpIdeal.Value.flushed8_A m c t (by omega) (by omega) (by omega) (by omega),
    Cert.AdamUpIdeal.Value.flushed9_A m c t (by omega) (by omega) (by omega) (by omega),
    Cert.AdamUpIdeal.Value.flushed10_A m c t (by omega) (by omega) (by omega) (by omega)]
  unfold out0_A_7 out0_A_8 out0_A_9 out0_A_10
  rw [View.read_writes_eq_canon _ _ _ (cover0_A_7 _ _ _ _ _ _ _ _ _ _ _ _ _ _ _ _ _ _ _ _ _ _ _ _ _ _ _ _ _ _ _ _ _ _ _),
    View.read_writes_eq_canon _ _ _ (cover0_A_8 _ _ _ _ _ _ _ _ _ _ _ _ _ _ _ _ _ _ _ _ _ _ _ _ _ _ _ _ _ _ _ _ _ _ _),
    View.read_writes_eq_canon _ _ _ (cover0_A_9 _ _ _ _ _ _ _ _ _ _ _ _ _ _ _ _ _ _ _ _ _ _ _ _ _ _ _ _ _ _ _ _ _ _ _),
    View.read_writes_eq_canon _ _ _ (cover0_A_10 _ _ _ _ _ _ _ _ _ _ _ _ _ _ _ _ _ _ _ _ _ _ _ _ _ _ _ _ _ _ _ _ _ _ _)]
  unfold kernelRun0_A
  dsimp only
  sl_unfold_words
  rw [View.canon_unit_zero hz, View.canon_unit_zero hz, View.canon_unit_zero hz, View.canon_unit_zero hz]
  simp only [View.readAt_eq_ld, (hs0_0 t).read_unread, (hs0_1 t).read_unread, (hs0_5 t).read_unread,
    (hs0_6 t).read_unread, View.ld_unit_zero (S := S1x128x512) hz]
  exact ⟨congrArg _ e.1, congrArg _ e.2.1, congrArg _ e.2.2.1, congrArg _ e.2.2.2⟩

set_option maxHeartbeats 600000 in
theorem left_B (c : Dev nD) (t : Fin cfg0.N) (hl : t.val / 8 = 1) : Left m c t := by
  have hN : t.val < 32 := t.isLt.trans_eq N_0
  have e := ends m c t _ (grad_blk1 m c t hl)
  unfold Left
  rw [Cert.AdamUpIdeal.Value.flushed7_B m c t (by omega) (by omega) (by omega) (by omega),
    Cert.AdamUpIdeal.Value.flushed8_B m c t (by omega) (by omega) (by omega) (by omega),
    Cert.AdamUpIdeal.Value.flushed9_B m c t (by omega) (by omega) (by omega) (by omega),
    Cert.AdamUpIdeal.Value.flushed10_B m c t (by omega) (by omega) (by omega) (by omega)]
  unfold out0_B_7 out0_B_8 out0_B_9 out0_B_10
  rw [View.read_writes_eq_canon _ _ _ (cover0_B_7 _ _ _ _ _ _ _ _ _ _ _ _ _ _ _ _ _ _ _ _ _ _ _ _ _ _ _ _ _ _ _ _ _ _ _),
    View.read_writes_eq_canon _ _ _ (cover0_B_8 _ _ _ _ _ _ _ _ _ _ _ _ _ _ _ _ _ _ _ _ _ _ _ _ _ _ _ _ _ _ _ _ _ _ _),
    View.read_writes_eq_canon _ _ _ (cover0_B_9 _ _ _ _ _ _ _ _ _ _ _ _ _ _ _ _ _ _ _ _ _ _ _ _ _ _ _ _ _ _ _ _ _ _ _),
    View.read_writes_eq_canon _ _ _ (cover0_B_10 _ _ _ _ _ _ _ _ _ _ _ _ _ _ _ _ _ _ _ _ _ _ _ _ _ _ _ _ _ _ _ _ _ _ _)]
  unfold kernelRun0_B
  dsimp only
  sl_unfold_words
  rw [View.canon_unit_zero hz, View.canon_unit_zero hz, View.canon_unit_zero hz, View.canon_unit_zero hz]
  simp only [View.readAt_eq_ld, (hs0_0 t).read_unread, (hs0_2 t).read_unread, (hs0_5 t).read_unread,
    (hs0_6 t).read_unread, View.ld_unit_zero (S := S1x128x512) hz, same_B]
  exact ⟨congrArg _ e.1, congrArg _ e.2.1, congrArg _ e.2.2.1, congrArg _ e.2.2.2⟩

set_option maxHeartbeats 600000 in
theorem left_C (c : Dev nD) (t : Fin cfg0.N) (hl : t.val / 8 = 2) : Left m c t := by
  have hN : t.val < 32 := t.isLt.trans_eq N_0
  have e := ends m c t _ (grad_blk2 m c t hl)
  unfold Left
  rw [Cert.AdamUpIdeal.Value.flushed7_C m c t (by omega) (by omega) (by omega) (by omega),
    Cert.AdamUpIdeal.Value.flushed8_C m c t (by omega) (by omega) (by omega) (by omega),
    Cert.AdamUpIdeal.Value.flushed9_C m c t (by omega) (by omega) (by omega) (by omega),
    Cert.AdamUpIdeal.Value.flushed10_C m c t (by omega) (by omega) (by omega) (by omega)]
  unfold out0_C_7 out0_C_8 out0_C_9 out0_C_10
  rw [View.read_writes_eq_canon _ _ _ (cover0_C_7 _ _ _ _ _ _ _ _ _ _ _ _ _ _ _ _ _ _ _ _ _ _ _ _ _ _ _ _ _ _ _ _ _ _ _),
    View.read_writes_eq_canon _ _ _ (cover0_C_8 _ _ _ _ _ _ _ _ _ _ _ _ _ _ _ _ _ _ _ _ _ _ _ _ _ _ _ _ _ _ _ _ _ _ _),
    View.read_writes_eq_canon _ _ _ (cover0_C_9 _ _ _ _ _ _ _ _ _ _ _ _ _ _ _ _ _ _ _ _ _ _ _ _ _ _ _ _ _ _ _ _ _ _ _),
    View.read_writes_eq_canon _ _ _ (cover0_C_10 _ _ _ _ _ _ _ _ _ _ _ _ _ _ _ _ _ _ _ _ _ _ _ _ _ _ _ _ _ _ _ _ _ _ _)]
  unfold kernelRun0_C
  dsimp only
  sl_unfold_words
  rw [View.canon_unit_zero hz, View.canon_unit_zero hz, View.canon_unit_zero hz, View.canon_unit_zero hz]
  simp only [View.readAt_eq_ld, (hs0_0 t).read_unread, (hs0_3 t).read_unread, (hs0_5 t).read_unread,
    (hs0_6 t).read_unread, View.ld_unit_zero (S := S1x128x512) hz, same_C]
  exact ⟨congrArg _ e.1, congrArg _ e.2.1, congrArg _ e.2.2.1, congrArg _ e.2.2.2⟩

set_option maxHeartbeats 600000 in
theorem left_D (c : Dev nD) (t : Fin cfg0.N) (hl : t.val / 8 = 3) : Left m c t := by
  have hN : t.val < 32 := t.isLt.trans_eq N_0
  have e := ends m c t _ (grad_blk3 m c t hl)
  unfold Left
  rw [Cert.AdamUpIdeal.Value.flushed7_D m c t (by omega) (by omega) (by omega) (by omega),
    Cert.AdamUpIdeal.Value.flushed8_D m c t (by omega) (by omega) (by omega) (by omega),
    Cert.AdamUpIdeal.Value.flushed9_D m c t (by omega) (by omega) (by omega) (by omega),
    Cert.AdamUpIdeal.Value.flushed10_D m c t (by omega) (by omega) (by omega) (by omega)]
  unfold out0_D_7 out0_D_8 out0_D_9 out0_D_10
  rw [View.read_writes_eq_canon _ _ _ (cover0_D_7 _ _ _ _ _ _ _ _ _ _ _ _ _ _ _ _ _ _ _ _ _ _ _ _ _ _ _ _ _ _ _ _ _ _ _),
    View.read_writes_eq_canon _ _ _ (cover0_D_8 _ _ _ _ _ _ _ _ _ _ _ _ _ _ _ _ _ _ _ _ _ _ _ _ _ _ _ _ _ _ _ _ _ _ _),
    View.read_writes_eq_canon _ _ _ (cover0_D_9 _ _ _ _ _ _ _ _ _ _ _ _ _ _ _ _ _ _ _ _ _ _ _ _ _ _ _ _ _ _ _ _ _ _ _),
    View.read_writes_eq_canon _ _ _ (cover0_D_10 _ _ _ _ _ _ _ _ _ _ _ _ _ _ _ _ _ _ _ _ _ _ _ _ _ _ _ _ _ _ _ _ _ _ _)]
  unfold kernelRun0_D
  dsimp only
  sl_unfold_words
  rw [View.canon_unit_zero hz, View.canon_unit_zero hz, View.canon_unit_zero hz, View.canon_unit_zero hz]
  simp only [View.readAt_eq_ld, (hs0_0 t).read_unread, (hs0_4 t).read_unread, (hs0_5 t).read_unread,
    (hs0_6 t).read_unread, View.ld_unit_zero (S := S1x128x512) hz, same_D]
  exact ⟨congrArg _ e.1, congrArg _ e.2.1, congrArg _ e.2.2.1, congrArg _ e.2.2.2⟩

theorem left (c : Dev nD) (t : Fin cfg0.N) : Left m c t := by
  have hN : t.val < 32 := t.isLt.trans_eq N_0
  rcases (by omega : t.val / 8 = 0 ∨ t.val / 8 = 1 ∨ t.val / 8 = 2 ∨ t.val / 8 = 3) with hl | hl | hl | hl
  · exact left_A m c t hl
  · exact left_B m c t hl
  · exact left_C m c t hl
  · exact left_D m c t hl

theorem final7 (c : Dev nD) : (dats m 0 c).arrAt 7 cfg0.N = result0 m c :=
  (dats m 0 c).arrAt_eq_of_cover 7 (result0 m c)
    (fun t _ => (left m c t).1.trans (funext fun y => (eq_at4 (result0 m c) (idx t).1.2.2.2.1 y _
      (Pipeline.Window.rect_emb_val win0_7 t y)).symm))
    (fun i => (point i).imp fun t h => ⟨flush0_7 t, by
      show i ∈ ((View.whole main_v0_0).slice (win0_7.rect t)).set
      rw [View.set_slice_whole, Rect.mem_set_unit]
      exact h (win0_7.index t) (idx t).1.2.2.2.1⟩)

theorem final8 (c : Dev nD) : (dats m 0 c).arrAt 8 cfg0.N = result1 m c :=
  (dats m 0 c).arrAt_eq_of_cover 8 (result1 m c)
    (fun t _ => (left m c t).2.1.trans (funext fun y => (eq_at4 (result1 m c) (idx t).1.2.2.2.2.1 y _
      (Pipeline.Window.rect_emb_val win0_8 t y)).symm))
    (fun i => (point i).imp fun t h => ⟨flush0_8 t, by
      show i ∈ ((View.whole main_v0_1).slice (win0_8.rect t)).set
      rw [View.set_slice_whole, Rect.mem_set_unit]
      exact h (win0_8.index t) (idx t).1.2.2.2.2.1⟩)

theorem final9 (c : Dev nD) : (dats m 0 c).arrAt 9 cfg0.N = result2 m c :=
  (dats m 0 c).arrAt_eq_of_cover 9 (result2 m c)
    (fun t _ => (left m c t).2.2.1.trans (funext fun y => (eq_at4 (result2 m c) (idx t).1.2.2.2.2.2.1 y _
      (Pipeline.Window.rect_emb_val win0_9 t y)).symm))
    (fun i => (point i).imp fun t h => ⟨flush0_9 t, by
      show i ∈ ((View.whole main_v0_2).slice (win0_9.rect t)).set
      rw [View.set_slice_whole, Rect.mem_set_unit]
      exact h (win0_9.index t) (idx t).1.2.2.2.2.2.1⟩)

theorem final10 (c : Dev nD) : (dats m 0 c).arrAt 10 cfg0.N = result3 m c :=
  (dats m 0 c).arrAt_eq_of_cover 10 (result3 m c)
    (fun t _ => (left m c t).2.2.2.trans (funext fun y => (eq_at4 (result3 m c) (idx t).1.2.2.2.2.2.2 y _
      (Pipeline.Window.rect_emb_val win0_10 t y)).symm))
    (fun i => (point i).imp fun t h => ⟨flush0_10 t, by
      show i ∈ ((View.whole main_v0_3).slice (win0_10.rect t)).set
      rw [View.set_slice_whole, Rect.mem_set_unit]
      exact h (win0_10.index t) (idx t).1.2.2.2.2.2.2⟩)

/-- The kernel ends with its four results at these functions of the arguments, the arguments as they were. -/
theorem run : θ_run defs (onTc (τ := τ) (main (F := Ideal))) ⟨m, fun _ => 0, ρ⟩ fun r => ∀ c : Dev nD,
      r.2.mem ((c.tc : Thread nD τ).loc main_v0_0) = result0 m c
      ∧ r.2.mem ((c.tc : Thread nD τ).loc main_v0_1) = result1 m c
      ∧ r.2.mem ((c.tc : Thread nD τ).loc main_v0_2) = result2 m c
      ∧ r.2.mem ((c.tc : Thread nD τ).loc main_v0_3) = result3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c).1.trans (final7 m c), (h c).2.1.trans (final8 m c), (h c).2.2.1.trans (final9 m c), (h c).2.2.2.1.trans (final10 m c),
      (h c).2.2.2.2⟩) (Cert.AdamUpIdeal.Value.run_blocks m ρ)

end Kernel

section Reference

open Cert.AdamUpRefIdeal Cert.AdamUpRefIdeal.Gen Cert.AdamUpRefIdeal.Read

variable (x0 : Vec Ideal S4x1024x512 .f32) (x1 x2 x3 x4 : Vec Ideal S8x1024x512 .bf16) (x5 x6 : Vec Ideal S4x1024x512 .f32)

/-- The reference's gradient of layer 0. -/
theorem ref_sum0 (i : S1x1024x512.Idx) : val_main_v8 (F := Ideal) x1 i = Adam.sum8 x1 (i 1) (Fin.castLE (by decide : 512 ≤ 512) (i 2)) := by
  refine (val_main_v8_apply x1 i).trans ((val_main_v1_apply x1 _).trans ?_)
  rw [val_main_cst_apply]
  simp only [val_main_v0_apply, pointwise, zero_add]
  exact Finset.sum_congr rfl fun j _ => Norm.congr3 x1 rfl rfl rfl

/-- The reference's gradient of layer 1. -/
theorem ref_sum1 (i : S1x1024x512.Idx) : val_main_v9 (F := Ideal) x2 i = Adam.sum8 x2 (i 1) (Fin.castLE (by decide : 512 ≤ 512) (i 2)) := by
  refine (val_main_v9_apply x2 i).trans ((val_main_v3_apply x2 _).trans ?_)
  rw [val_main_cst_0_apply]
  simp only [val_main_v2_apply, pointwise, zero_add]
  exact Finset.sum_congr rfl fun j _ => Norm.congr3 x2 rfl rfl rfl

/-- The reference's gradient of layer 2. -/
theorem ref_sum2 (i : S1x1024x512.Idx) : val_main_v10 (F := Ideal) x3 i = Adam.sum8 x3 (i 1) (Fin.castLE (by decide : 512 ≤ 512) (i 2)) := by
  refine (val_main_v10_apply x3 i).trans ((val_main_v5_apply x3 _).trans ?_)
  rw [val_main_cst_1_apply]
  simp only [val_main_v4_apply, pointwise, zero_add]
  exact Finset.sum_congr rfl fun j _ => Norm.congr3 x3 rfl rfl rfl

/-- The reference's gradient of layer 3. -/
theorem ref_sum3 (i : S1x1024x512.Idx) : val_main_v11 (F := Ideal) x4 i = Adam.sum8 x4 (i 1) (Fin.castLE (by decide : 512 ≤ 512) (i 2)) := by
  refine (val_main_v11_apply x4 i).trans ((val_main_v7_apply x4 _).trans ?_)
  rw [val_main_cst_2_apply]
  simp only [val_main_v6_apply, pointwise, zero_add]
  exact Finset.sum_congr rfl fun j _ => Norm.congr3 x4 rfl rfl rfl

/-- The reference's gradient: the four layers' one after the other. -/
theorem ref_grad (y : S4x1024x512.Idx) : val_main_v12 (F := Ideal) x1 x2 x3 x4 y = Adam.grad4 (by decide : 512 ≤ 512) x1 x2 x3 x4 y := by
  unfold val_main_v12
  refine concatenate_unit_eq _ _ _ y _ rfl (concatAt_cons _ _ _ 0 ?_ (concatAt_cons _ _ _ 1 ?_ (concatAt_cons _ _ _ 2 ?_
    (concatAt_cons _ _ _ 3 ?_ trivial))))
  · intro hj hr i h0 hb
    refine (ref_sum0 x1 i).trans ((Adam.grad4_0 (by decide : 512 ≤ 512) x1 x2 x3 x4 y hj).trans ?_).symm
    exact congrArg₂ (Adam.sum8 x1) (Fin.ext (hb 1 (by decide)).symm) (Fin.ext (hb 2 (by decide)).symm)
  · intro hj hr i h0 hb
    refine (ref_sum1 x2 i).trans ((Adam.grad4_1 (by decide : 512 ≤ 512) x1 x2 x3 x4 y hj).trans ?_).symm
    exact congrArg₂ (Adam.sum8 x2) (Fin.ext (hb 1 (by decide)).symm) (Fin.ext (hb 2 (by decide)).symm)
  · intro hj hr i h0 hb
    refine (ref_sum2 x3 i).trans ((Adam.grad4_2 (by decide : 512 ≤ 512) x1 x2 x3 x4 y hj).trans ?_).symm
    exact congrArg₂ (Adam.sum8 x3) (Fin.ext (hb 1 (by decide)).symm) (Fin.ext (hb 2 (by decide)).symm)
  · intro hj hr i h0 hb
    refine (ref_sum3 x4 i).trans ((Adam.grad4_3 (by decide : 512 ≤ 512) x1 x2 x3 x4 y hj).trans ?_).symm
    exact congrArg₂ (Adam.sum8 x4) (Fin.ext (hb 1 (by decide)).symm) (Fin.ext (hb 2 (by decide)).symm)

theorem ref_mom (y : S4x1024x512.Idx) : val_main_v17 (F := Ideal) x1 x2 x3 x4 x5 y = Adam.newM (Adam.grad4 (by decide : 512 ≤ 512) x1 x2 x3 x4 y) (x5 y) := by
  unfold Adam.newM
  rw [← ref_grad x1 x2 x3 x4 y]
  simp only [val_main_v17_apply, val_main_v16_apply, val_main_v15_apply, val_main_v14_apply, val_main_v13_apply, val_main_cst_3_apply, val_main_cst_4_apply, pointwise]

theorem ref_vel (y : S4x1024x512.Idx) : val_main_v23 (F := Ideal) x1 x2 x3 x4 x6 y = Adam.newV (Adam.grad4 (by decide : 512 ≤ 512) x1 x2 x3 x4 y) (x6 y) := by
  unfold Adam.newV
  rw [← ref_grad x1 x2 x3 x4 y]
  simp only [val_main_v23_apply, val_main_v22_apply, val_main_v21_apply, val_main_v20_apply, val_main_v19_apply, val_main_v18_apply, val_main_cst_5_apply, val_main_cst_6_apply, pointwise]

theorem ref_delta (y : S4x1024x512.Idx) :
    val_main_v36 (F := Ideal) x0 x1 x2 x3 x4 x5 x6 y = Adam.delta (x0 y) (Adam.grad4 (by decide : 512 ≤ 512) x1 x2 x3 x4 y) (x5 y) (x6 y) := by
  unfold Adam.delta
  rw [← ref_mom x1 x2 x3 x4 x5 y, ← ref_vel x1 x2 x3 x4 x6 y]
  simp only [val_main_v36_apply, val_main_v35_apply, val_main_v34_apply, val_main_v33_apply, val_main_v32_apply, val_main_v31_apply, val_main_v30_apply,
    val_main_v29_apply, val_main_v28_apply, val_main_v27_apply, val_main_v26_apply, val_main_v25_apply, val_main_v24_apply,
    val_main_cst_7_apply, val_main_cst_8_apply, val_main_cst_9_apply, val_main_cst_10_apply, val_main_cst_11_apply, pointwise]

/-- The reference ends with its four results at the same functions of the arguments, the arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = (fun y : S4x1024x512.Idx => (Adam.grad4 (by decide : 512 ≤ 512) (m ((c.tc : Thread nD τ).loc main_arg1)) (m ((c.tc : Thread nD τ).loc main_arg2)) (m ((c.tc : Thread nD τ).loc main_arg3)) (m ((c.tc : Thread nD τ).loc main_arg4)) y))
      ∧ r.2.mem ((c.tc : Thread nD τ).loc main_v36) = (fun y : S4x1024x512.Idx => Adam.delta ((m ((c.tc : Thread nD τ).loc main_arg0)) y) (Adam.grad4 (by decide : 512 ≤ 512) (m ((c.tc : Thread nD τ).loc main_arg1)) (m ((c.tc : Thread nD τ).loc main_arg2)) (m ((c.tc : Thread nD τ).loc main_arg3)) (m ((c.tc : Thread nD τ).loc main_arg4)) y) ((m ((c.tc : Thread nD τ).loc main_arg5)) y) ((m ((c.tc : Thread nD τ).loc main_arg6)) y))
      ∧ r.2.mem ((c.tc : Thread nD τ).loc main_v17) = (fun y : S4x1024x512.Idx => Adam.newM (Adam.grad4 (by decide : 512 ≤ 512) (m ((c.tc : Thread nD τ).loc main_arg1)) (m ((c.tc : Thread nD τ).loc main_arg2)) (m ((c.tc : Thread nD τ).loc main_arg3)) (m ((c.tc : Thread nD τ).loc main_arg4)) y) ((m ((c.tc : Thread nD τ).loc main_arg5)) y))
      ∧ r.2.mem ((c.tc : Thread nD τ).loc main_v23) = (fun y : S4x1024x512.Idx => Adam.newV (Adam.grad4 (by decide : 512 ≤ 512) (m ((c.tc : Thread nD τ).loc main_arg1)) (m ((c.tc : Thread nD τ).loc main_arg2)) (m ((c.tc : Thread nD τ).loc main_arg3)) (m ((c.tc : Thread nD τ).loc main_arg4)) y) ((m ((c.tc : Thread nD τ).loc main_arg6)) y))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).1.trans (val_main_v12_eq _ _ _ _)).trans (funext fun y => ref_grad _ _ _ _ y),
      ((h c).2.1.trans (val_main_v36_eq m c)).trans (funext fun y => ref_delta _ _ _ _ _ _ _ y),
      ((h c).2.2.1.trans (val_main_v17_eq _ _ _ _ _)).trans (funext fun y => ref_mom _ _ _ _ _ y),
      ((h c).2.2.2.1.trans (val_main_v23_eq _ _ _ _ _)).trans (funext fun y => ref_vel _ _ _ _ _ y),
      (h c).2.2.2.2⟩) (Cert.AdamUpRefIdeal.Value.run m ρ)

end Reference

end Cert.AdamUpVal
-- ==== Proof.AdamDown.lean ====
/-
  The optimiser's step of the MLP's down weight, of four layers: the kernel's four results and the reference's are the same function of
  the weight, the eight devices' gradients of each layer and the two moments.
-/
module

public import proofs.«01_k».proof.Proof.Adam
public import proofs.«01_k».proof.Proof.Gen.AdamDownIdeal.Value
public import proofs.«01_k».proof.Proof.Gen.AdamDownRefIdeal.Run
public import proofs.«01_k».proof.Proof.Gen.AdamDownRefIdeal.Read

@[expose] public section

noncomputable section

open Idealize.ShloMosaic Idealize.ShloMosaic.TcCoe Idealize.SL.Sem
open Idealize.ShloMosaic.Pipeline (Dat)

namespace Cert.AdamDownVal

section Kernel

open Cert.AdamDownIdeal Cert.AdamDownIdeal.Gen

variable (m : (ℓ : Loc nD τ sig) → Buf (Elt Ideal) ℓ) (ρ : Dev nD → PrngReg)

theorem hz : (![0, 0, 0] : Fin 3 → Nat) = fun _ => 0 := funext fun a => by fin_cases a <;> rfl

/-- A device's gradient is its part of the array of all devices'. -/
theorem part_eq (x : Vec Ideal S8x128x1024 .bf16) (j : Nat) (hj : j < 8)
    (h : ∀ a, (![j, 0, 0] : Fin 3 → Nat) a + S1x128x1024.size a ≤ S8x128x1024.size a) (p : Fin 128) (q : Fin 1024) :
    View.ld x (Rect.unit (s := S8x128x1024) ![j, 0, 0] S1x128x1024.size h) (ix3 0 p q) = x (ix3 (⟨j, hj⟩ : Fin 8) p (Fin.castLE (by decide : 1024 ≤ 1024) q)) :=
  Norm.congr3 x (Block.emb_val (s := S8x128x1024) ![j, 0, 0] S1x128x1024.size h (ix3 0 p q) 0)
    ((Block.emb_val (s := S8x128x1024) ![j, 0, 0] S1x128x1024.size h (ix3 0 p q) 1).trans (Nat.zero_add _))
    ((Block.emb_val (s := S8x128x1024) ![j, 0, 0] S1x128x1024.size h (ix3 0 p q) 2).trans (Nat.zero_add _))

theorem ix_eq (y : S1x128x1024.Idx) : ∃ p q, y = ix3 0 p q :=
  ⟨y 1, y 2, funext fun a => match a with
    | ⟨0, _⟩ => Fin.ext (by have h : (y 0 : Nat) < 1 := (y 0).isLt; show (y 0 : Nat) = 0; omega)
    | ⟨1, _⟩ => rfl
    | ⟨2, _⟩ => rfl⟩

theorem sum_eq (a0 a1 a2 a3 a4 a5 a6 a7 : Vec Ideal S1x128x1024 .bf16) (p : Fin 128) (q : Fin 1024) :
    k0_pay9 (F := Ideal) a0 a1 a2 a3 a4 a5 a6 a7 (ix2 p q)
      = a0 (ix3 0 p q) + a1 (ix3 0 p q) + a2 (ix3 0 p q) + a3 (ix3 0 p q) + a4 (ix3 0 p q) + a5 (ix3 0 p q) + a6 (ix3 0 p q)
        + a7 (ix3 0 p q) := by
  unfold k0_pay9
  simp only [pointwise]

/-- The sum of the eight devices' gradients as the body of layer 0 takes it. -/
abbrev sumOf (x : Vec Ideal S8x128x1024 .bf16) : FVec Ideal S128x1024 .f32 :=
  k0_pay9 (F := Ideal)
    (View.ld x (Rect.unit (s := S8x128x1024) ![0, 0, 0] S1x128x1024.size inb_S8x128x1024_S1x128x1024_0_0_0))
    (View.ld x (Rect.unit (s := S8x128x1024) ![1, 0, 0] S1x128x1024.size inb_S8x128x1024_S1x128x1024_1_0_0))
    (View.ld x (Rect.unit (s := S8x128x1024) ![2, 0, 0] S1x128x1024.size inb_S8x128x1024_S1x128x1024_2_0_0))
    (View.ld x (Rect.unit (s := S8x128x1024) ![3, 0, 0] S1x128x1024.size inb_S8x128x1024_S1x128x1024_3_0_0))
    (View.ld x (Rect.unit (s := S8x128x1024) ![4, 0, 0] S1x128x1024.size inb_S8x128x1024_S1x128x1024_4_0_0))
    (View.ld x (Rect.unit (s := S8x128x1024) ![5, 0, 0] S1x128x1024.size inb_S8x128x1024_S1x128x1024_5_0_0))
    (View.ld x (Rect.unit (s := S8x128x1024) ![6, 0, 0] S1x128x1024.size inb_S8x128x1024_S1x128x1024_6_0_0))
    (View.ld x (Rect.unit (s := S8x128x1024) ![7, 0, 0] S1x128x1024.size inb_S8x128x1024_S1x128x1024_7_0_0))

/-- It is the sum over the devices. -/
theorem sumOf_eq (x : Vec Ideal S8x128x1024 .bf16) (p : Fin 128) (q : Fin 1024) : sumOf x (ix2 p q) = Adam.sum8 x p (Fin.castLE (by decide : 1024 ≤ 1024) q) := by
  refine (sum_eq _ _ _ _ _ _ _ _ p q).trans ?_
  exact Adam.sum8_eq x p (Fin.castLE (by decide : 1024 ≤ 1024) q) (part_eq x 0 (by decide) _ p q) (part_eq x 1 (by decide) _ p q)
    (part_eq x 2 (by decide) _ p q) (part_eq x 3 (by decide) _ p q) (part_eq x 4 (by decide) _ p q)
    (part_eq x 5 (by decide) _ p q) (part_eq x 6 (by decide) _ p q) (part_eq x 7 (by decide) _ p q)

section
variable (x : Vec Ideal S8x128x1024 .bf16) (x0 x5 x6 : Vec Ideal S1x128x1024 .f32) (y : S1x128x1024.Idx)

/-- The gradient of a block at an element, from the devices' gradients of the block. -/
abbrev g1 : EReal := Adam.sum8 x (y 1) (Fin.castLE (by decide : 1024 ≤ 1024) (y 2))

theorem pay7 : k0_pay13 (F := Ideal) (sumOf x) y = (g1 x y) := by
  obtain ⟨p, q, rfl⟩ := ix_eq y
  unfold k0_pay13
  simp only [pointwise, sumOf_eq]
  rfl

theorem pay8 : k0_pay14 (F := Ideal) (sumOf x) (k0_pay10 (F := Ideal) x5) x6 x0 y = Adam.delta (x0 y) (g1 x y) (x5 y) (x6 y) := by
  obtain ⟨p, q, rfl⟩ := ix_eq y
  unfold k0_pay14 k0_pay11 k0_pay12 k0_pay10 Adam.delta Adam.newM Adam.newV
  simp only [pointwise, sumOf_eq]
  rfl

theorem pay9 : k0_pay1 (F := Ideal) (k0_pay11 (F := Ideal) (sumOf x) (k0_pay10 (F := Ideal) x5)) y = Adam.newM (g1 x y) (x5 y) := by
  obtain ⟨p, q, rfl⟩ := ix_eq y
  unfold k0_pay1 k0_pay11 k0_pay10 Adam.newM
  simp only [pointwise, sumOf_eq]
  rfl

theorem pay10 : k0_pay2 (F := Ideal) (k0_pay12 (F := Ideal) (sumOf x) x6) y = Adam.newV (g1 x y) (x6 y) := by
  obtain ⟨p, q, rfl⟩ := ix_eq y
  unfold k0_pay2 k0_pay12 Adam.newV
  simp only [pointwise, sumOf_eq]
  rfl

end

/-! The bodies of the other layers compute what the body of layer 0 does. -/

theorem same_B : k0_pay15 (F := Ideal) = k0_pay9 ∧ k0_pay16 (F := Ideal) = k0_pay10 ∧ k0_pay17 (F := Ideal) = k0_pay11 ∧ k0_pay18 (F := Ideal) = k0_pay12 ∧ k0_pay19 (F := Ideal) = k0_pay13 ∧ k0_pay20 (F := Ideal) = k0_pay14 ∧ k0_pay3 (F := Ideal) = k0_pay1 ∧ k0_pay4 (F := Ideal) = k0_pay2 :=
  ⟨rfl, rfl, rfl, rfl, rfl, rfl, rfl, rfl⟩

theorem same_C : k0_pay21 (F := Ideal) = k0_pay9 ∧ k0_pay22 (F := Ideal) = k0_pay10 ∧ k0_pay23 (F := Ideal) = k0_pay11 ∧ k0_pay24 (F := Ideal) = k0_pay12 ∧ k0_pay25 (F := Ideal) = k0_pay13 ∧ k0_pay26 (F := Ideal) = k0_pay14 ∧ k0_pay5 (F := Ideal) = k0_pay1 ∧ k0_pay6 (F := Ideal) = k0_pay2 :=
  ⟨rfl, rfl, rfl, rfl, rfl, rfl, rfl, rfl⟩

theorem same_D : k0_pay27 (F := Ideal) = k0_pay9 ∧ k0_pay28 (F := Ideal) = k0_pay10 ∧ k0_pay29 (F := Ideal) = k0_pay11 ∧ k0_pay30 (F := Ideal) = k0_pay12 ∧ k0_pay31 (F := Ideal) = k0_pay13 ∧ k0_pay32 (F := Ideal) = k0_pay14 ∧ k0_pay7 (F := Ideal) = k0_pay1 ∧ k0_pay8 (F := Ideal) = k0_pay2 :=
  ⟨rfl, rfl, rfl, rfl, rfl, rfl, rfl, rfl⟩

/-- The block of layer `t / 4` and row block `t % 4`, all columns. -/
abbrev Here (t : Fin cfg0.N) (k : Fin 3 → Nat) : Prop := k 0 = t.val / 4 ∧ k 1 = t.val % 4 ∧ k 2 = 0

/-- The block of all devices and row block `t % 4`, all columns, at the points of one layer. -/
abbrev Part (t : Fin cfg0.N) (layer : Nat) (k : Fin 3 → Nat) : Prop := t.val / 4 = layer → k 0 = 0 ∧ k 1 = t.val % 4 ∧ k 2 = 0

/-- The block indices of the windows at each grid point. -/
theorem idx : ∀ t : Fin cfg0.N, (Here t (win0_0.index t) ∧ Here t (win0_5.index t) ∧ Here t (win0_6.index t) ∧ Here t (win0_7.index t)
    ∧ Here t (win0_8.index t) ∧ Here t (win0_9.index t) ∧ Here t (win0_10.index t))
    ∧ Part t 0 (win0_1.index t) ∧ Part t 1 (win0_2.index t) ∧ Part t 2 (win0_3.index t) ∧ Part t 3 (win0_4.index t) :=
  (by decide +kernel : ∀ t : Fin grid0.N, _)

/-- The element of the weight that a block's element is. -/
def at4 (t : Fin cfg0.N) (y : S1x128x1024.Idx) : S4x512x1024.Idx :=
  ix3 (⟨t.val / 4, by have h := t.isLt; have hN : cfg0.N = 16 := N_0; omega⟩ : Fin 4)
    (⟨t.val % 4 * 128 + (y 1 : Nat), by have h : (y 1 : Nat) < 128 := (y 1).isLt; omega⟩ : Fin 512) (y 2)

/-- An index of the weight that is a block's offset and the index in the block is that element. -/
theorem eq_at4 {α : Type} (X : S4x512x1024.Idx → α) {t : Fin cfg0.N} {k : Fin 3 → Nat} (hk : Here t k) (y : S1x128x1024.Idx) (e : S4x512x1024.Idx)
    (he : ∀ a : Fin 3, (e a : Nat) = k a * S1x128x1024.size a + y a) : X e = X (at4 t y) := by
  have hy : (y 0 : Nat) < 1 := (y 0).isLt
  refine Norm.congr3 X ((he 0).trans ?_) ((he 1).trans ?_) ((he 2).trans ?_)
  · rw [hk.1]; show t.val / 4 * 1 + (y 0 : Nat) = t.val / 4; omega
  · rw [hk.2.1]; rfl
  · rw [hk.2.2]; exact (congrArg (· + (y 2 : Nat)) (Nat.zero_mul _)).trans (Nat.zero_add _)

/-- A gradient block at an element is its layer's gradient there. -/
theorem eq_part (X : S8x512x1024.Idx → EReal) {t : Fin cfg0.N} {k : Fin 3 → Nat} (hk : k 0 = 0 ∧ k 1 = t.val % 4 ∧ k 2 = 0) (y : S1x128x1024.Idx)
    (x : Vec Ideal S8x128x1024 .bf16) (hx : ∀ j, ∃ e : S8x512x1024.Idx, x j = X e ∧ ∀ a : Fin 3, (e a : Nat) = k a * S8x128x1024.size a + j a) :
    g1 x y = Adam.sum8 X (at4 t y 1) (Fin.castLE (by decide : 1024 ≤ 1024) (at4 t y 2)) := by
  refine Adam.sum8_congr _ _ _ _ _ _ fun j => ?_
  obtain ⟨e, hxe, he⟩ := hx (ix3 j (y 1) (Fin.castLE (by decide : 1024 ≤ 1024) (y 2)))
  refine hxe.trans (Norm.congr3 X ((he 0).trans ?_) ((he 1).trans ?_) ((he 2).trans ?_))
  · rw [hk.1]; exact (congrArg (· + (j : Nat)) (Nat.zero_mul _)).trans (Nat.zero_add _)
  · rw [hk.2.1]; rfl
  · rw [hk.2.2]; exact (congrArg (· + (y 2 : Nat)) (Nat.zero_mul _)).trans (Nat.zero_add _)

/-- The point whose block an element of the weight lies in. -/
theorem point (i : S4x512x1024.Idx) : ∃ t : Fin cfg0.N, ∀ k, Here t k → ∀ a : Fin 3,
    k a * S1x128x1024.size a ≤ (i a : Nat) ∧ (i a : Nat) < k a * S1x128x1024.size a + S1x128x1024.size a := by
  have h0 : (i 0 : Nat) < 4 := (i 0).isLt
  have h1 : (i 1 : Nat) < 512 := (i 1).isLt
  have h2 : (i 2 : Nat) < 1024 := (i 2).isLt
  have hN : cfg0.N = 16 := N_0
  obtain ⟨t, ht⟩ : ∃ t : Fin cfg0.N, t.val = (i 0 : Nat) * 4 + (i 1 : Nat) / 128 := ⟨⟨(i 0 : Nat) * 4 + (i 1 : Nat) / 128, by omega⟩, rfl⟩
  refine ⟨t, fun k hk a => ?_⟩
  obtain ⟨d0, d1, d2⟩ := hk
  match a with
  | ⟨0, _⟩ => show k 0 * 1 ≤ (i 0 : Nat) ∧ (i 0 : Nat) < k 0 * 1 + 1; omega
  | ⟨1, _⟩ => show k 1 * 128 ≤ (i 1 : Nat) ∧ (i 1 : Nat) < k 1 * 128 + 128; omega
  | ⟨2, _⟩ => show k 2 * 1024 ≤ (i 2 : Nat) ∧ (i 2 : Nat) < k 2 * 1024 + 1024; omega

/-- The gradient of the whole weight. -/
abbrev G (c : Dev nD) : S4x512x1024.Idx → EReal := Adam.grad4 (by decide : 1024 ≤ 1024) (m ((c : Thread nD τ).loc main_arg1)) (m ((c : Thread nD τ).loc main_arg2)) (m ((c : Thread nD τ).loc main_arg3)) (m ((c : Thread nD τ).loc main_arg4))

theorem blk0 (c : Dev nD) (t : Fin cfg0.N) (y : S1x128x1024.Idx) : iblk m c 0 t y = m ((c : Thread nD τ).loc main_arg0) (at4 t y) :=
  eq_at4 (m ((c : Thread nD τ).loc main_arg0)) (idx t).1.1 y _ (Pipeline.Window.rect_emb_val win0_0 t y)

theorem blk5 (c : Dev nD) (t : Fin cfg0.N) (y : S1x128x1024.Idx) : iblk m c 5 t y = m ((c : Thread nD τ).loc main_arg5) (at4 t y) :=
  eq_at4 (m ((c : Thread nD τ).loc main_arg5)) (idx t).1.2.1 y _ (Pipeline.Window.rect_emb_val win0_5 t y)

theorem blk6 (c : Dev nD) (t : Fin cfg0.N) (y : S1x128x1024.Idx) : iblk m c 6 t y = m ((c : Thread nD τ).loc main_arg6) (at4 t y) :=
  eq_at4 (m ((c : Thread nD τ).loc main_arg6)) (idx t).1.2.2.1 y _ (Pipeline.Window.rect_emb_val win0_6 t y)

theorem grad_blk0 (c : Dev nD) (t : Fin cfg0.N) (hl : t.val / 4 = 0) (y : S1x128x1024.Idx) : g1 (iblk m c 1 t) y = G m c (at4 t y) :=
  (eq_part (m ((c : Thread nD τ).loc main_arg1)) ((idx t).2.1 hl) y (iblk m c 1 t) fun j => ⟨_, rfl, Pipeline.Window.rect_emb_val win0_1 t j⟩).trans
    (Adam.grad4_0 (by decide : 1024 ≤ 1024) (m ((c : Thread nD τ).loc main_arg1)) (m ((c : Thread nD τ).loc main_arg2)) (m ((c : Thread nD τ).loc main_arg3)) (m ((c : Thread nD τ).loc main_arg4)) (at4 t y) hl).symm

theorem grad_blk1 (c : Dev nD) (t : Fin cfg0.N) (hl : t.val / 4 = 1) (y : S1x128x1024.Idx) : g1 (iblk m c 2 t) y = G m c (at4 t y) :=
  (eq_part (m ((c : Thread nD τ).loc main_arg2)) ((idx t).2.2.1 hl) y (iblk m c 2 t) fun j => ⟨_, rfl, Pipeline.Window.rect_emb_val win0_2 t j⟩).trans
    (Adam.grad4_1 (by decide : 1024 ≤ 1024) (m ((c : Thread nD τ).loc main_arg1)) (m ((c : Thread nD τ).loc main_arg2)) (m ((c : Thread nD τ).loc main_arg3)) (m ((c : Thread nD τ).loc main_arg4)) (at4 t y) hl).symm

theorem grad_blk2 (c : Dev nD) (t : Fin cfg0.N) (hl : t.val / 4 = 2) (y : S1x128x1024.Idx) : g1 (iblk m c 3 t) y = G m c (at4 t y) :=
  (eq_part (m ((c : Thread nD τ).loc main_arg3)) ((idx t).2.2.2.1 hl) y (iblk m c 3 t) fun j => ⟨_, rfl, Pipeline.Window.rect_emb_val win0_3 t j⟩).trans
    (Adam.grad4_2 (by decide : 1024 ≤ 1024) (m ((c : Thread nD τ).loc main_arg1)) (m ((c : Thread nD τ).loc main_arg2)) (m ((c : Thread nD τ).loc main_arg3)) (m ((c : Thread nD τ).loc main_arg4)) (at4 t y) hl).symm

theorem grad_blk3 (c : Dev nD) (t : Fin cfg0.N) (hl : t.val / 4 = 3) (y : S1x128x1024.Idx) : g1 (iblk m c 4 t) y = G m c (at4 t y) :=
  (eq_part (m ((c : Thread nD τ).loc main_arg4)) ((idx t).2.2.2.2 hl) y (iblk m c 4 t) fun j => ⟨_, rfl, Pipeline.Window.rect_emb_val win0_4 t j⟩).trans
    (Adam.grad4_3 (by decide : 1024 ≤ 1024) (m ((c : Thread nD τ).loc main_arg1)) (m ((c : Thread nD τ).loc main_arg2)) (m ((c : Thread nD τ).loc main_arg3)) (m ((c : Thread nD τ).loc main_arg4)) (at4 t y) hl).symm

/-- The gradient, as the run is shown to leave it. -/
abbrev result0 (c : Dev nD) : Buf (Elt Ideal) ((c : Thread nD τ).loc main_v0_0) := fun y : S4x512x1024.Idx =>
  (G m c y)

/-- What is added to the weight, as the run is shown to leave it. -/
abbrev result1 (c : Dev nD) : Buf (Elt Ideal) ((c : Thread nD τ).loc main_v0_1) := fun y : S4x512x1024.Idx =>
  Adam.delta ((m ((c : Thread nD τ).loc main_arg0)) y) (G m c y) ((m ((c : Thread nD τ).loc main_arg5)) y) ((m ((c : Thread nD τ).loc main_arg6)) y)

/-- The new first moment, as the run is shown to leave it. -/
abbrev result2 (c : Dev nD) : Buf (Elt Ideal) ((c : Thread nD τ).loc main_v0_2) := fun y : S4x512x1024.Idx =>
  Adam.newM (G m c y) ((m ((c : Thread nD τ).loc main_arg5)) y)

/-- The new second moment, as the run is shown to leave it. -/
abbrev result3 (c : Dev nD) : Buf (Elt Ideal) ((c : Thread nD τ).loc main_v0_3) := fun y : S4x512x1024.Idx =>
  Adam.newV (G m c y) ((m ((c : Thread nD τ).loc main_arg6)) y)

/-- What the body computes from gradients that are those of its layer: the elements of the four results that its blocks are. -/
theorem ends (c : Dev nD) (t : Fin cfg0.N) (x : Vec Ideal S8x128x1024 .bf16) (hx : ∀ y, g1 x y = G m c (at4 t y)) :
    k0_pay13 (F := Ideal) (sumOf x) = (fun y : S1x128x1024.Idx => result0 m c (at4 t y))
    ∧ k0_pay14 (F := Ideal) (sumOf x) (k0_pay10 (F := Ideal) (iblk m c 5 t)) (iblk m c 6 t) (iblk m c 0 t) = (fun y : S1x128x1024.Idx => result1 m c (at4 t y))
    ∧ k0_pay1 (F := Ideal) (k0_pay11 (F := Ideal) (sumOf x) (k0_pay10 (F := Ideal) (iblk m c 5 t))) = (fun y : S1x128x1024.Idx => result2 m c (at4 t y))
    ∧ k0_pay2 (F := Ideal) (k0_pay12 (F := Ideal) (sumOf x) (iblk m c 6 t)) = (fun y : S1x128x1024.Idx => result3 m c (at4 t y)) :=
  ⟨funext fun y => (pay7 x y).trans (by rw [hx]),
    funext fun y => (pay8 x (iblk m c 0 t) (iblk m c 5 t) (iblk m c 6 t) y).trans (by rw [hx, blk0, blk5, blk6]),
    funext fun y => (pay9 x (iblk m c 5 t) y).trans (by rw [hx, blk5]),
    funext fun y => (pay10 x (iblk m c 6 t) y).trans (by rw [hx, blk6])⟩

/-- What a point writes back: the elements of the four results that its blocks are. -/
def Left (c : Dev nD) (t : Fin cfg0.N) : Prop :=
  (dats m 0 c).flushed 7 t = (cfg0.win 7).cut (grid0.coords t) (fun y : S1x128x1024.Idx => result0 m c (at4 t y))
  ∧ (dats m 0 c).flushed 8 t = (cfg0.win 8).cut (grid0.coords t) (fun y : S1x128x1024.Idx => result1 m c (at4 t y))
  ∧ (dats m 0 c).flushed 9 t = (cfg0.win 9).cut (grid0.coords t) (fun y : S1x128x1024.Idx => result2 m c (at4 t y))
  ∧ (dats m 0 c).flushed 10 t = (cfg0.win 10).cut (grid0.coords t) (fun y : S1x128x1024.Idx => result3 m c (at4 t y))

set_option maxHeartbeats 600000 in
theorem left_A (c : Dev nD) (t : Fin cfg0.N) (hl : t.val / 4 = 0) : Left m c t := by
  have hN : t.val < 16 := t.isLt.trans_eq N_0
  have e := ends m c t _ (grad_blk0 m c t hl)
  unfold Left
  rw [Cert.AdamDownIdeal.Value.flushed7_A m c t (by omega) (by omega) (by omega) (by omega),
    Cert.AdamDownIdeal.Value.flushed8_A m c t (by omega) (by omega) (by omega) (by omega),
    Cert.AdamDownIdeal.Value.flushed9_A m c t (by omega) (by omega) (by omega) (by omega),
    Cert.AdamDownIdeal.Value.flushed10_A m c t (by omega) (by omega) (by omega) (by omega)]
  unfold out0_A_7 out0_A_8 out0_A_9 out0_A_10
  rw [View.read_writes_eq_canon _ _ _ (cover0_A_7 _ _ _ _ _ _ _ _ _ _ _ _ _ _ _ _ _ _ _ _ _ _ _ _ _ _ _ _ _ _ _ _ _ _ _),
    View.read_writes_eq_canon _ _ _ (cover0_A_8 _ _ _ _ _ _ _ _ _ _ _ _ _ _ _ _ _ _ _ _ _ _ _ _ _ _ _ _ _ _ _ _ _ _ _),
    View.read_writes_eq_canon _ _ _ (cover0_A_9 _ _ _ _ _ _ _ _ _ _ _ _ _ _ _ _ _ _ _ _ _ _ _ _ _ _ _ _ _ _ _ _ _ _ _),
    View.read_writes_eq_canon _ _ _ (cover0_A_10 _ _ _ _ _ _ _ _ _ _ _ _ _ _ _ _ _ _ _ _ _ _ _ _ _ _ _ _ _ _ _ _ _ _ _)]
  unfold kernelRun0_A
  dsimp only
  sl_unfold_words
  rw [View.canon_unit_zero hz, View.canon_unit_zero hz, View.canon_unit_zero hz, View.canon_unit_zero hz]
  simp only [View.readAt_eq_ld, (hs0_0 t).read_unread, (hs0_1 t).read_unread, (hs0_5 t).read_unread,
    (hs0_6 t).read_unread, View.ld_unit_zero (S := S1x128x1024) hz]
  exact ⟨congrArg _ e.1, congrArg _ e.2.1, congrArg _ e.2.2.1, congrArg _ e.2.2.2⟩

set_option maxHeartbeats 600000 in
theorem left_B (c : Dev nD) (t : Fin cfg0.N) (hl : t.val / 4 = 1) : Left m c t := by
  have hN : t.val < 16 := t.isLt.trans_eq N_0
  have e := ends m c t _ (grad_blk1 m c t hl)
  unfold Left
  rw [Cert.AdamDownIdeal.Value.flushed7_B m c t (by omega) (by omega) (by omega) (by omega),
    Cert.AdamDownIdeal.Value.flushed8_B m c t (by omega) (by omega) (by omega) (by omega),
    Cert.AdamDownIdeal.Value.flushed9_B m c t (by omega) (by omega) (by omega) (by omega),
    Cert.AdamDownIdeal.Value.flushed10_B m c t (by omega) (by omega) (by omega) (by omega)]
  unfold out0_B_7 out0_B_8 out0_B_9 out0_B_10
  rw [View.read_writes_eq_canon _ _ _ (cover0_B_7 _ _ _ _ _ _ _ _ _ _ _ _ _ _ _ _ _ _ _ _ _ _ _ _ _ _ _ _ _ _ _ _ _ _ _),
    View.read_writes_eq_canon _ _ _ (cover0_B_8 _ _ _ _ _ _ _ _ _ _ _ _ _ _ _ _ _ _ _ _ _ _ _ _ _ _ _ _ _ _ _ _ _ _ _),
    View.read_writes_eq_canon _ _ _ (cover0_B_9 _ _ _ _ _ _ _ _ _ _ _ _ _ _ _ _ _ _ _ _ _ _ _ _ _ _ _ _ _ _ _ _ _ _ _),
    View.read_writes_eq_canon _ _ _ (cover0_B_10 _ _ _ _ _ _ _ _ _ _ _ _ _ _ _ _ _ _ _ _ _ _ _ _ _ _ _ _ _ _ _ _ _ _ _)]
  unfold kernelRun0_B
  dsimp only
  sl_unfold_words
  rw [View.canon_unit_zero hz, View.canon_unit_zero hz, View.canon_unit_zero hz, View.canon_unit_zero hz]
  simp only [View.readAt_eq_ld, (hs0_0 t).read_unread, (hs0_2 t).read_unread, (hs0_5 t).read_unread,
    (hs0_6 t).read_unread, View.ld_unit_zero (S := S1x128x1024) hz, same_B]
  exact ⟨congrArg _ e.1, congrArg _ e.2.1, congrArg _ e.2.2.1, congrArg _ e.2.2.2⟩

set_option maxHeartbeats 600000 in
theorem left_C (c : Dev nD) (t : Fin cfg0.N) (hl : t.val / 4 = 2) : Left m c t := by
  have hN : t.val < 16 := t.isLt.trans_eq N_0
  have e := ends m c t _ (grad_blk2 m c t hl)
  unfold Left
  rw [Cert.AdamDownIdeal.Value.flushed7_C m c t (by omega) (by omega) (by omega) (by omega),
    Cert.AdamDownIdeal.Value.flushed8_C m c t (by omega) (by omega) (by omega) (by omega),
    Cert.AdamDownIdeal.Value.flushed9_C m c t (by omega) (by omega) (by omega) (by omega),
    Cert.AdamDownIdeal.Value.flushed10_C m c t (by omega) (by omega) (by omega) (by omega)]
  unfold out0_C_7 out0_C_8 out0_C_9 out0_C_10
  rw [View.read_writes_eq_canon _ _ _ (cover0_C_7 _ _ _ _ _ _ _ _ _ _ _ _ _ _ _ _ _ _ _ _ _ _ _ _ _ _ _ _ _ _ _ _ _ _ _),
    View.read_writes_eq_canon _ _ _ (cover0_C_8 _ _ _ _ _ _ _ _ _ _ _ _ _ _ _ _ _ _ _ _ _ _ _ _ _ _ _ _ _ _ _ _ _ _ _),
    View.read_writes_eq_canon _ _ _ (cover0_C_9 _ _ _ _ _ _ _ _ _ _ _ _ _ _ _ _ _ _ _ _ _ _ _ _ _ _ _ _ _ _ _ _ _ _ _),
    View.read_writes_eq_canon _ _ _ (cover0_C_10 _ _ _ _ _ _ _ _ _ _ _ _ _ _ _ _ _ _ _ _ _ _ _ _ _ _ _ _ _ _ _ _ _ _ _)]
  unfold kernelRun0_C
  dsimp only
  sl_unfold_words
  rw [View.canon_unit_zero hz, View.canon_unit_zero hz, View.canon_unit_zero hz, View.canon_unit_zero hz]
  simp only [View.readAt_eq_ld, (hs0_0 t).read_unread, (hs0_3 t).read_unread, (hs0_5 t).read_unread,
    (hs0_6 t).read_unread, View.ld_unit_zero (S := S1x128x1024) hz, same_C]
  exact ⟨congrArg _ e.1, congrArg _ e.2.1, congrArg _ e.2.2.1, congrArg _ e.2.2.2⟩

set_option maxHeartbeats 600000 in
theorem left_D (c : Dev nD) (t : Fin cfg0.N) (hl : t.val / 4 = 3) : Left m c t := by
  have hN : t.val < 16 := t.isLt.trans_eq N_0
  have e := ends m c t _ (grad_blk3 m c t hl)
  unfold Left
  rw [Cert.AdamDownIdeal.Value.flushed7_D m c t (by omega) (by omega) (by omega) (by omega),
    Cert.AdamDownIdeal.Value.flushed8_D m c t (by omega) (by omega) (by omega) (by omega),
    Cert.AdamDownIdeal.Value.flushed9_D m c t (by omega) (by omega) (by omega) (by omega),
    Cert.AdamDownIdeal.Value.flushed10_D m c t (by omega) (by omega) (by omega) (by omega)]
  unfold out0_D_7 out0_D_8 out0_D_9 out0_D_10
  rw [View.read_writes_eq_canon _ _ _ (cover0_D_7 _ _ _ _ _ _ _ _ _ _ _ _ _ _ _ _ _ _ _ _ _ _ _ _ _ _ _ _ _ _ _ _ _ _ _),
    View.read_writes_eq_canon _ _ _ (cover0_D_8 _ _ _ _ _ _ _ _ _ _ _ _ _ _ _ _ _ _ _ _ _ _ _ _ _ _ _ _ _ _ _ _ _ _ _),
    View.read_writes_eq_canon _ _ _ (cover0_D_9 _ _ _ _ _ _ _ _ _ _ _ _ _ _ _ _ _ _ _ _ _ _ _ _ _ _ _ _ _ _ _ _ _ _ _),
    View.read_writes_eq_canon _ _ _ (cover0_D_10 _ _ _ _ _ _ _ _ _ _ _ _ _ _ _ _ _ _ _ _ _ _ _ _ _ _ _ _ _ _ _ _ _ _ _)]
  unfold kernelRun0_D
  dsimp only
  sl_unfold_words
  rw [View.canon_unit_zero hz, View.canon_unit_zero hz, View.canon_unit_zero hz, View.canon_unit_zero hz]
  simp only [View.readAt_eq_ld, (hs0_0 t).read_unread, (hs0_4 t).read_unread, (hs0_5 t).read_unread,
    (hs0_6 t).read_unread, View.ld_unit_zero (S := S1x128x1024) hz, same_D]
  exact ⟨congrArg _ e.1, congrArg _ e.2.1, congrArg _ e.2.2.1, congrArg _ e.2.2.2⟩

theorem left (c : Dev nD) (t : Fin cfg0.N) : Left m c t := by
  have hN : t.val < 16 := t.isLt.trans_eq N_0
  rcases (by omega : t.val / 4 = 0 ∨ t.val / 4 = 1 ∨ t.val / 4 = 2 ∨ t.val / 4 = 3) with hl | hl | hl | hl
  · exact left_A m c t hl
  · exact left_B m c t hl
  · exact left_C m c t hl
  · exact left_D m c t hl

theorem final7 (c : Dev nD) : (dats m 0 c).arrAt 7 cfg0.N = result0 m c :=
  (dats m 0 c).arrAt_eq_of_cover 7 (result0 m c)
    (fun t _ => (left m c t).1.trans (funext fun y => (eq_at4 (result0 m c) (idx t).1.2.2.2.1 y _
      (Pipeline.Window.rect_emb_val win0_7 t y)).symm))
    (fun i => (point i).imp fun t h => ⟨flush0_7 t, by
      show i ∈ ((View.whole main_v0_0).slice (win0_7.rect t)).set
      rw [View.set_slice_whole, Rect.mem_set_unit]
      exact h (win0_7.index t) (idx t).1.2.2.2.1⟩)

theorem final8 (c : Dev nD) : (dats m 0 c).arrAt 8 cfg0.N = result1 m c :=
  (dats m 0 c).arrAt_eq_of_cover 8 (result1 m c)
    (fun t _ => (left m c t).2.1.trans (funext fun y => (eq_at4 (result1 m c) (idx t).1.2.2.2.2.1 y _
      (Pipeline.Window.rect_emb_val win0_8 t y)).symm))
    (fun i => (point i).imp fun t h => ⟨flush0_8 t, by
      show i ∈ ((View.whole main_v0_1).slice (win0_8.rect t)).set
      rw [View.set_slice_whole, Rect.mem_set_unit]
      exact h (win0_8.index t) (idx t).1.2.2.2.2.1⟩)

theorem final9 (c : Dev nD) : (dats m 0 c).arrAt 9 cfg0.N = result2 m c :=
  (dats m 0 c).arrAt_eq_of_cover 9 (result2 m c)
    (fun t _ => (left m c t).2.2.1.trans (funext fun y => (eq_at4 (result2 m c) (idx t).1.2.2.2.2.2.1 y _
      (Pipeline.Window.rect_emb_val win0_9 t y)).symm))
    (fun i => (point i).imp fun t h => ⟨flush0_9 t, by
      show i ∈ ((View.whole main_v0_2).slice (win0_9.rect t)).set
      rw [View.set_slice_whole, Rect.mem_set_unit]
      exact h (win0_9.index t) (idx t).1.2.2.2.2.2.1⟩)

theorem final10 (c : Dev nD) : (dats m 0 c).arrAt 10 cfg0.N = result3 m c :=
  (dats m 0 c).arrAt_eq_of_cover 10 (result3 m c)
    (fun t _ => (left m c t).2.2.2.trans (funext fun y => (eq_at4 (result3 m c) (idx t).1.2.2.2.2.2.2 y _
      (Pipeline.Window.rect_emb_val win0_10 t y)).symm))
    (fun i => (point i).imp fun t h => ⟨flush0_10 t, by
      show i ∈ ((View.whole main_v0_3).slice (win0_10.rect t)).set
      rw [View.set_slice_whole, Rect.mem_set_unit]
      exact h (win0_10.index t) (idx t).1.2.2.2.2.2.2⟩)

/-- The kernel ends with its four results at these functions of the arguments, the arguments as they were. -/
theorem run : θ_run defs (onTc (τ := τ) (main (F := Ideal))) ⟨m, fun _ => 0, ρ⟩ fun r => ∀ c : Dev nD,
      r.2.mem ((c.tc : Thread nD τ).loc main_v0_0) = result0 m c
      ∧ r.2.mem ((c.tc : Thread nD τ).loc main_v0_1) = result1 m c
      ∧ r.2.mem ((c.tc : Thread nD τ).loc main_v0_2) = result2 m c
      ∧ r.2.mem ((c.tc : Thread nD τ).loc main_v0_3) = result3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c).1.trans (final7 m c), (h c).2.1.trans (final8 m c), (h c).2.2.1.trans (final9 m c), (h c).2.2.2.1.trans (final10 m c),
      (h c).2.2.2.2⟩) (Cert.AdamDownIdeal.Value.run_blocks m ρ)

end Kernel

section Reference

open Cert.AdamDownRefIdeal Cert.AdamDownRefIdeal.Gen Cert.AdamDownRefIdeal.Read

variable (x0 : Vec Ideal S4x512x1024 .f32) (x1 x2 x3 x4 : Vec Ideal S8x512x1024 .bf16) (x5 x6 : Vec Ideal S4x512x1024 .f32)

/-- The reference's gradient of layer 0. -/
theorem ref_sum0 (i : S1x512x1024.Idx) : val_main_v8 (F := Ideal) x1 i = Adam.sum8 x1 (i 1) (Fin.castLE (by decide : 1024 ≤ 1024) (i 2)) := by
  refine (val_main_v8_apply x1 i).trans ((val_main_v1_apply x1 _).trans ?_)
  rw [val_main_cst_apply]
  simp only [val_main_v0_apply, pointwise, zero_add]
  exact Finset.sum_congr rfl fun j _ => Norm.congr3 x1 rfl rfl rfl

/-- The reference's gradient of layer 1. -/
theorem ref_sum1 (i : S1x512x1024.Idx) : val_main_v9 (F := Ideal) x2 i = Adam.sum8 x2 (i 1) (Fin.castLE (by decide : 1024 ≤ 1024) (i 2)) := by
  refine (val_main_v9_apply x2 i).trans ((val_main_v3_apply x2 _).trans ?_)
  rw [val_main_cst_0_apply]
  simp only [val_main_v2_apply, pointwise, zero_add]
  exact Finset.sum_congr rfl fun j _ => Norm.congr3 x2 rfl rfl rfl

/-- The reference's gradient of layer 2. -/
theorem ref_sum2 (i : S1x512x1024.Idx) : val_main_v10 (F := Ideal) x3 i = Adam.sum8 x3 (i 1) (Fin.castLE (by decide : 1024 ≤ 1024) (i 2)) := by
  refine (val_main_v10_apply x3 i).trans ((val_main_v5_apply x3 _).trans ?_)
  rw [val_main_cst_1_apply]
  simp only [val_main_v4_apply, pointwise, zero_add]
  exact Finset.sum_congr rfl fun j _ => Norm.congr3 x3 rfl rfl rfl

/-- The reference's gradient of layer 3. -/
theorem ref_sum3 (i : S1x512x1024.Idx) : val_main_v11 (F := Ideal) x4 i = Adam.sum8 x4 (i 1) (Fin.castLE (by decide : 1024 ≤ 1024) (i 2)) := by
  refine (val_main_v11_apply x4 i).trans ((val_main_v7_apply x4 _).trans ?_)
  rw [val_main_cst_2_apply]
  simp only [val_main_v6_apply, pointwise, zero_add]
  exact Finset.sum_congr rfl fun j _ => Norm.congr3 x4 rfl rfl rfl

/-- The reference's gradient: the four layers' one after the other. -/
theorem ref_grad (y : S4x512x1024.Idx) : val_main_v12 (F := Ideal) x1 x2 x3 x4 y = Adam.grad4 (by decide : 1024 ≤ 1024) x1 x2 x3 x4 y := by
  unfold val_main_v12
  refine concatenate_unit_eq _ _ _ y _ rfl (concatAt_cons _ _ _ 0 ?_ (concatAt_cons _ _ _ 1 ?_ (concatAt_cons _ _ _ 2 ?_
    (concatAt_cons _ _ _ 3 ?_ trivial))))
  · intro hj hr i h0 hb
    refine (ref_sum0 x1 i).trans ((Adam.grad4_0 (by decide : 1024 ≤ 1024) x1 x2 x3 x4 y hj).trans ?_).symm
    exact congrArg₂ (Adam.sum8 x1) (Fin.ext (hb 1 (by decide)).symm) (Fin.ext (hb 2 (by decide)).symm)
  · intro hj hr i h0 hb
    refine (ref_sum1 x2 i).trans ((Adam.grad4_1 (by decide : 1024 ≤ 1024) x1 x2 x3 x4 y hj).trans ?_).symm
    exact congrArg₂ (Adam.sum8 x2) (Fin.ext (hb 1 (by decide)).symm) (Fin.ext (hb 2 (by decide)).symm)
  · intro hj hr i h0 hb
    refine (ref_sum2 x3 i).trans ((Adam.grad4_2 (by decide : 1024 ≤ 1024) x1 x2 x3 x4 y hj).trans ?_).symm
    exact congrArg₂ (Adam.sum8 x3) (Fin.ext (hb 1 (by decide)).symm) (Fin.ext (hb 2 (by decide)).symm)
  · intro hj hr i h0 hb
    refine (ref_sum3 x4 i).trans ((Adam.grad4_3 (by decide : 1024 ≤ 1024) x1 x2 x3 x4 y hj).trans ?_).symm
    exact congrArg₂ (Adam.sum8 x4) (Fin.ext (hb 1 (by decide)).symm) (Fin.ext (hb 2 (by decide)).symm)

theorem ref_mom (y : S4x512x1024.Idx) : val_main_v17 (F := Ideal) x1 x2 x3 x4 x5 y = Adam.newM (Adam.grad4 (by decide : 1024 ≤ 1024) x1 x2 x3 x4 y) (x5 y) := by
  unfold Adam.newM
  rw [← ref_grad x1 x2 x3 x4 y]
  simp only [val_main_v17_apply, val_main_v16_apply, val_main_v15_apply, val_main_v14_apply, val_main_v13_apply, val_main_cst_3_apply, val_main_cst_4_apply, pointwise]

theorem ref_vel (y : S4x512x1024.Idx) : val_main_v23 (F := Ideal) x1 x2 x3 x4 x6 y = Adam.newV (Adam.grad4 (by decide : 1024 ≤ 1024) x1 x2 x3 x4 y) (x6 y) := by
  unfold Adam.newV
  rw [← ref_grad x1 x2 x3 x4 y]
  simp only [val_main_v23_apply, val_main_v22_apply, val_main_v21_apply, val_main_v20_apply, val_main_v19_apply, val_main_v18_apply, val_main_cst_5_apply, val_main_cst_6_apply, pointwise]

theorem ref_delta (y : S4x512x1024.Idx) :
    val_main_v36 (F := Ideal) x0 x1 x2 x3 x4 x5 x6 y = Adam.delta (x0 y) (Adam.grad4 (by decide : 1024 ≤ 1024) x1 x2 x3 x4 y) (x5 y) (x6 y) := by
  unfold Adam.delta
  rw [← ref_mom x1 x2 x3 x4 x5 y, ← ref_vel x1 x2 x3 x4 x6 y]
  simp only [val_main_v36_apply, val_main_v35_apply, val_main_v34_apply, val_main_v33_apply, val_main_v32_apply, val_main_v31_apply, val_main_v30_apply,
    val_main_v29_apply, val_main_v28_apply, val_main_v27_apply, val_main_v26_apply, val_main_v25_apply, val_main_v24_apply,
    val_main_cst_7_apply, val_main_cst_8_apply, val_main_cst_9_apply, val_main_cst_10_apply, val_main_cst_11_apply, pointwise]

/-- The reference ends with its four results at the same functions of the arguments, the arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = (fun y : S4x512x1024.Idx => (Adam.grad4 (by decide : 1024 ≤ 1024) (m ((c.tc : Thread nD τ).loc main_arg1)) (m ((c.tc : Thread nD τ).loc main_arg2)) (m ((c.tc : Thread nD τ).loc main_arg3)) (m ((c.tc : Thread nD τ).loc main_arg4)) y))
      ∧ r.2.mem ((c.tc : Thread nD τ).loc main_v36) = (fun y : S4x512x1024.Idx => Adam.delta ((m ((c.tc : Thread nD τ).loc main_arg0)) y) (Adam.grad4 (by decide : 1024 ≤ 1024) (m ((c.tc : Thread nD τ).loc main_arg1)) (m ((c.tc : Thread nD τ).loc main_arg2)) (m ((c.tc : Thread nD τ).loc main_arg3)) (m ((c.tc : Thread nD τ).loc main_arg4)) y) ((m ((c.tc : Thread nD τ).loc main_arg5)) y) ((m ((c.tc : Thread nD τ).loc main_arg6)) y))
      ∧ r.2.mem ((c.tc : Thread nD τ).loc main_v17) = (fun y : S4x512x1024.Idx => Adam.newM (Adam.grad4 (by decide : 1024 ≤ 1024) (m ((c.tc : Thread nD τ).loc main_arg1)) (m ((c.tc : Thread nD τ).loc main_arg2)) (m ((c.tc : Thread nD τ).loc main_arg3)) (m ((c.tc : Thread nD τ).loc main_arg4)) y) ((m ((c.tc : Thread nD τ).loc main_arg5)) y))
      ∧ r.2.mem ((c.tc : Thread nD τ).loc main_v23) = (fun y : S4x512x1024.Idx => Adam.newV (Adam.grad4 (by decide : 1024 ≤ 1024) (m ((c.tc : Thread nD τ).loc main_arg1)) (m ((c.tc : Thread nD τ).loc main_arg2)) (m ((c.tc : Thread nD τ).loc main_arg3)) (m ((c.tc : Thread nD τ).loc main_arg4)) y) ((m ((c.tc : Thread nD τ).loc main_arg6)) y))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).1.trans (val_main_v12_eq _ _ _ _)).trans (funext fun y => ref_grad _ _ _ _ y),
      ((h c).2.1.trans (val_main_v36_eq m c)).trans (funext fun y => ref_delta _ _ _ _ _ _ _ y),
      ((h c).2.2.1.trans (val_main_v17_eq _ _ _ _ _)).trans (funext fun y => ref_mom _ _ _ _ _ y),
      ((h c).2.2.2.1.trans (val_main_v23_eq _ _ _ _ _)).trans (funext fun y => ref_vel _ _ _ _ _ y),
      (h c).2.2.2.2⟩) (Cert.AdamDownRefIdeal.Value.run m ρ)

end Reference

end Cert.AdamDownVal
-- ==== Proof.AdamIn.lean ====
/-
  The optimiser's step of the mixer's input weight, of four layers: the kernel's four results and the reference's are the same function of
  the weight, the eight devices' gradients of each layer and the two moments.
-/
module

public import proofs.«01_k».proof.Proof.Adam
public import proofs.«01_k».proof.Proof.Gen.AdamInIdeal.Value
public import proofs.«01_k».proof.Proof.Gen.AdamInRefIdeal.Run
public import proofs.«01_k».proof.Proof.Gen.AdamInRefIdeal.Read

@[expose] public section

noncomputable section

open Idealize.ShloMosaic Idealize.ShloMosaic.TcCoe Idealize.SL.Sem
open Idealize.ShloMosaic.Pipeline (Dat)

namespace Cert.AdamInVal

section Kernel

open Cert.AdamInIdeal Cert.AdamInIdeal.Gen

variable (m : (ℓ : Loc nD τ sig) → Buf (Elt Ideal) ℓ) (ρ : Dev nD → PrngReg)

theorem hz : (![0, 0, 0] : Fin 3 → Nat) = fun _ => 0 := funext fun a => by fin_cases a <;> rfl

/-- A device's gradient is its part of the array of all devices'. -/
theorem part_eq (x : Vec Ideal S8x128x768 .bf16) (j : Nat) (hj : j < 8)
    (h : ∀ a, (![j, 0, 0] : Fin 3 → Nat) a + S1x128x706.size a ≤ S8x128x768.size a) (p : Fin 128) (q : Fin 706) :
    View.ld x (Rect.unit (s := S8x128x768) ![j, 0, 0] S1x128x706.size h) (ix3 0 p q) = x (ix3 (⟨j, hj⟩ : Fin 8) p (Fin.castLE (by decide : 706 ≤ 768) q)) :=
  Norm.congr3 x (Block.emb_val (s := S8x128x768) ![j, 0, 0] S1x128x706.size h (ix3 0 p q) 0)
    ((Block.emb_val (s := S8x128x768) ![j, 0, 0] S1x128x706.size h (ix3 0 p q) 1).trans (Nat.zero_add _))
    ((Block.emb_val (s := S8x128x768) ![j, 0, 0] S1x128x706.size h (ix3 0 p q) 2).trans (Nat.zero_add _))

theorem ix_eq (y : S1x128x706.Idx) : ∃ p q, y = ix3 0 p q :=
  ⟨y 1, y 2, funext fun a => match a with
    | ⟨0, _⟩ => Fin.ext (by have h : (y 0 : Nat) < 1 := (y 0).isLt; show (y 0 : Nat) = 0; omega)
    | ⟨1, _⟩ => rfl
    | ⟨2, _⟩ => rfl⟩

theorem sum_eq (a0 a1 a2 a3 a4 a5 a6 a7 : Vec Ideal S1x128x706 .bf16) (p : Fin 128) (q : Fin 706) :
    k0_pay9 (F := Ideal) a0 a1 a2 a3 a4 a5 a6 a7 (ix2 p q)
      = a0 (ix3 0 p q) + a1 (ix3 0 p q) + a2 (ix3 0 p q) + a3 (ix3 0 p q) + a4 (ix3 0 p q) + a5 (ix3 0 p q) + a6 (ix3 0 p q)
        + a7 (ix3 0 p q) := by
  unfold k0_pay9
  simp only [pointwise]

/-- The sum of the eight devices' gradients as the body of layer 0 takes it. -/
abbrev sumOf (x : Vec Ideal S8x128x768 .bf16) : FVec Ideal S128x706 .f32 :=
  k0_pay9 (F := Ideal)
    (View.ld x (Rect.unit (s := S8x128x768) ![0, 0, 0] S1x128x706.size inb_S8x128x768_S1x128x706_0_0_0))
    (View.ld x (Rect.unit (s := S8x128x768) ![1, 0, 0] S1x128x706.size inb_S8x128x768_S1x128x706_1_0_0))
    (View.ld x (Rect.unit (s := S8x128x768) ![2, 0, 0] S1x128x706.size inb_S8x128x768_S1x128x706_2_0_0))
    (View.ld x (Rect.unit (s := S8x128x768) ![3, 0, 0] S1x128x706.size inb_S8x128x768_S1x128x706_3_0_0))
    (View.ld x (Rect.unit (s := S8x128x768) ![4, 0, 0] S1x128x706.size inb_S8x128x768_S1x128x706_4_0_0))
    (View.ld x (Rect.unit (s := S8x128x768) ![5, 0, 0] S1x128x706.size inb_S8x128x768_S1x128x706_5_0_0))
    (View.ld x (Rect.unit (s := S8x128x768) ![6, 0, 0] S1x128x706.size inb_S8x128x768_S1x128x706_6_0_0))
    (View.ld x (Rect.unit (s := S8x128x768) ![7, 0, 0] S1x128x706.size inb_S8x128x768_S1x128x706_7_0_0))

/-- It is the sum over the devices. -/
theorem sumOf_eq (x : Vec Ideal S8x128x768 .bf16) (p : Fin 128) (q : Fin 706) : sumOf x (ix2 p q) = Adam.sum8 x p (Fin.castLE (by decide : 706 ≤ 768) q) := by
  refine (sum_eq _ _ _ _ _ _ _ _ p q).trans ?_
  exact Adam.sum8_eq x p (Fin.castLE (by decide : 706 ≤ 768) q) (part_eq x 0 (by decide) _ p q) (part_eq x 1 (by decide) _ p q)
    (part_eq x 2 (by decide) _ p q) (part_eq x 3 (by decide) _ p q) (part_eq x 4 (by decide) _ p q)
    (part_eq x 5 (by decide) _ p q) (part_eq x 6 (by decide) _ p q) (part_eq x 7 (by decide) _ p q)

section
variable (x : Vec Ideal S8x128x768 .bf16) (x0 x5 x6 : Vec Ideal S1x128x706 .f32) (y : S1x128x706.Idx)

/-- The gradient of a block at an element, from the devices' gradients of the block. -/
abbrev g1 : EReal := Adam.sum8 x (y 1) (Fin.castLE (by decide : 706 ≤ 768) (y 2))

theorem pay7 : k0_pay13 (F := Ideal) (sumOf x) y = (g1 x y) := by
  obtain ⟨p, q, rfl⟩ := ix_eq y
  unfold k0_pay13
  simp only [pointwise, sumOf_eq]
  rfl

theorem pay8 : k0_pay14 (F := Ideal) (sumOf x) (k0_pay10 (F := Ideal) x5) x6 x0 y = Adam.delta (x0 y) (g1 x y) (x5 y) (x6 y) := by
  obtain ⟨p, q, rfl⟩ := ix_eq y
  unfold k0_pay14 k0_pay11 k0_pay12 k0_pay10 Adam.delta Adam.newM Adam.newV
  simp only [pointwise, sumOf_eq]
  rfl

theorem pay9 : k0_pay1 (F := Ideal) (k0_pay11 (F := Ideal) (sumOf x) (k0_pay10 (F := Ideal) x5)) y = Adam.newM (g1 x y) (x5 y) := by
  obtain ⟨p, q, rfl⟩ := ix_eq y
  unfold k0_pay1 k0_pay11 k0_pay10 Adam.newM
  simp only [pointwise, sumOf_eq]
  rfl

theorem pay10 : k0_pay2 (F := Ideal) (k0_pay12 (F := Ideal) (sumOf x) x6) y = Adam.newV (g1 x y) (x6 y) := by
  obtain ⟨p, q, rfl⟩ := ix_eq y
  unfold k0_pay2 k0_pay12 Adam.newV
  simp only [pointwise, sumOf_eq]
  rfl

end

/-! The bodies of the other layers compute what the body of layer 0 does. -/

theorem same_B : k0_pay15 (F := Ideal) = k0_pay9 ∧ k0_pay16 (F := Ideal) = k0_pay10 ∧ k0_pay17 (F := Ideal) = k0_pay11 ∧ k0_pay18 (F := Ideal) = k0_pay12 ∧ k0_pay19 (F := Ideal) = k0_pay13 ∧ k0_pay20 (F := Ideal) = k0_pay14 ∧ k0_pay3 (F := Ideal) = k0_pay1 ∧ k0_pay4 (F := Ideal) = k0_pay2 :=
  ⟨rfl, rfl, rfl, rfl, rfl, rfl, rfl, rfl⟩

theorem same_C : k0_pay21 (F := Ideal) = k0_pay9 ∧ k0_pay22 (F := Ideal) = k0_pay10 ∧ k0_pay23 (F := Ideal) = k0_pay11 ∧ k0_pay24 (F := Ideal) = k0_pay12 ∧ k0_pay25 (F := Ideal) = k0_pay13 ∧ k0_pay26 (F := Ideal) = k0_pay14 ∧ k0_pay5 (F := Ideal) = k0_pay1 ∧ k0_pay6 (F := Ideal) = k0_pay2 :=
  ⟨rfl, rfl, rfl, rfl, rfl, rfl, rfl, rfl⟩

theorem same_D : k0_pay27 (F := Ideal) = k0_pay9 ∧ k0_pay28 (F := Ideal) = k0_pay10 ∧ k0_pay29 (F := Ideal) = k0_pay11 ∧ k0_pay30 (F := Ideal) = k0_pay12 ∧ k0_pay31 (F := Ideal) = k0_pay13 ∧ k0_pay32 (F := Ideal) = k0_pay14 ∧ k0_pay7 (F := Ideal) = k0_pay1 ∧ k0_pay8 (F := Ideal) = k0_pay2 :=
  ⟨rfl, rfl, rfl, rfl, rfl, rfl, rfl, rfl⟩

/-- The block of layer `t / 8` and row block `t % 8`, all columns. -/
abbrev Here (t : Fin cfg0.N) (k : Fin 3 → Nat) : Prop := k 0 = t.val / 8 ∧ k 1 = t.val % 8 ∧ k 2 = 0

/-- The block of all devices and row block `t % 8`, all columns, at the points of one layer. -/
abbrev Part (t : Fin cfg0.N) (layer : Nat) (k : Fin 3 → Nat) : Prop := t.val / 8 = layer → k 0 = 0 ∧ k 1 = t.val % 8 ∧ k 2 = 0

/-- The block indices of the windows at each grid point. -/
theorem idx : ∀ t : Fin cfg0.N, (Here t (win0_0.index t) ∧ Here t (win0_5.index t) ∧ Here t (win0_6.index t) ∧ Here t (win0_7.index t)
    ∧ Here t (win0_8.index t) ∧ Here t (win0_9.index t) ∧ Here t (win0_10.index t))
    ∧ Part t 0 (win0_1.index t) ∧ Part t 1 (win0_2.index t) ∧ Part t 2 (win0_3.index t) ∧ Part t 3 (win0_4.index t) :=
  (by decide +kernel : ∀ t : Fin grid0.N, _)

/-- The element of the weight that a block's element is. -/
def at4 (t : Fin cfg0.N) (y : S1x128x706.Idx) : S4x1024x706.Idx :=
  ix3 (⟨t.val / 8, by have h := t.isLt; have hN : cfg0.N = 32 := N_0; omega⟩ : Fin 4)
    (⟨t.val % 8 * 128 + (y 1 : Nat), by have h : (y 1 : Nat) < 128 := (y 1).isLt; omega⟩ : Fin 1024) (y 2)

/-- An index of the weight that is a block's offset and the index in the block is that element. -/
theorem eq_at4 {α : Type} (X : S4x1024x706.Idx → α) {t : Fin cfg0.N} {k : Fin 3 → Nat} (hk : Here t k) (y : S1x128x706.Idx) (e : S4x1024x706.Idx)
    (he : ∀ a : Fin 3, (e a : Nat) = k a * S1x128x706.size a + y a) : X e = X (at4 t y) := by
  have hy : (y 0 : Nat) < 1 := (y 0).isLt
  refine Norm.congr3 X ((he 0).trans ?_) ((he 1).trans ?_) ((he 2).trans ?_)
  · rw [hk.1]; show t.val / 8 * 1 + (y 0 : Nat) = t.val / 8; omega
  · rw [hk.2.1]; rfl
  · rw [hk.2.2]; exact (congrArg (· + (y 2 : Nat)) (Nat.zero_mul _)).trans (Nat.zero_add _)

/-- A gradient block at an element is its layer's gradient there. -/
theorem eq_part (X : S8x1024x768.Idx → EReal) {t : Fin cfg0.N} {k : Fin 3 → Nat} (hk : k 0 = 0 ∧ k 1 = t.val % 8 ∧ k 2 = 0) (y : S1x128x706.Idx)
    (x : Vec Ideal S8x128x768 .bf16) (hx : ∀ j, ∃ e : S8x1024x768.Idx, x j = X e ∧ ∀ a : Fin 3, (e a : Nat) = k a * S8x128x768.size a + j a) :
    g1 x y = Adam.sum8 X (at4 t y 1) (Fin.castLE (by decide : 706 ≤ 768) (at4 t y 2)) := by
  refine Adam.sum8_congr _ _ _ _ _ _ fun j => ?_
  obtain ⟨e, hxe, he⟩ := hx (ix3 j (y 1) (Fin.castLE (by decide : 706 ≤ 768) (y 2)))
  refine hxe.trans (Norm.congr3 X ((he 0).trans ?_) ((he 1).trans ?_) ((he 2).trans ?_))
  · rw [hk.1]; exact (congrArg (· + (j : Nat)) (Nat.zero_mul _)).trans (Nat.zero_add _)
  · rw [hk.2.1]; rfl
  · rw [hk.2.2]; exact (congrArg (· + (y 2 : Nat)) (Nat.zero_mul _)).trans (Nat.zero_add _)

/-- The point whose block an element of the weight lies in. -/
theorem point (i : S4x1024x706.Idx) : ∃ t : Fin cfg0.N, ∀ k, Here t k → ∀ a : Fin 3,
    k a * S1x128x706.size a ≤ (i a : Nat) ∧ (i a : Nat) < k a * S1x128x706.size a + S1x128x706.size a := by
  have h0 : (i 0 : Nat) < 4 := (i 0).isLt
  have h1 : (i 1 : Nat) < 1024 := (i 1).isLt
  have h2 : (i 2 : Nat) < 706 := (i 2).isLt
  have hN : cfg0.N = 32 := N_0
  obtain ⟨t, ht⟩ : ∃ t : Fin cfg0.N, t.val = (i 0 : Nat) * 8 + (i 1 : Nat) / 128 := ⟨⟨(i 0 : Nat) * 8 + (i 1 : Nat) / 128, by omega⟩, rfl⟩
  refine ⟨t, fun k hk a => ?_⟩
  obtain ⟨d0, d1, d2⟩ := hk
  match a with
  | ⟨0, _⟩ => show k 0 * 1 ≤ (i 0 : Nat) ∧ (i 0 : Nat) < k 0 * 1 + 1; omega
  | ⟨1, _⟩ => show k 1 * 128 ≤ (i 1 : Nat) ∧ (i 1 : Nat) < k 1 * 128 + 128; omega
  | ⟨2, _⟩ => show k 2 * 706 ≤ (i 2 : Nat) ∧ (i 2 : Nat) < k 2 * 706 + 706; omega

/-- The gradient of the whole weight. -/
abbrev G (c : Dev nD) : S4x1024x706.Idx → EReal := Adam.grad4 (by decide : 706 ≤ 768) (m ((c : Thread nD τ).loc main_arg1)) (m ((c : Thread nD τ).loc main_arg2)) (m ((c : Thread nD τ).loc main_arg3)) (m ((c : Thread nD τ).loc main_arg4))

theorem blk0 (c : Dev nD) (t : Fin cfg0.N) (y : S1x128x706.Idx) : iblk m c 0 t y = m ((c : Thread nD τ).loc main_arg0) (at4 t y) :=
  eq_at4 (m ((c : Thread nD τ).loc main_arg0)) (idx t).1.1 y _ (Pipeline.Window.rect_emb_val win0_0 t y)

theorem blk5 (c : Dev nD) (t : Fin cfg0.N) (y : S1x128x706.Idx) : iblk m c 5 t y = m ((c : Thread nD τ).loc main_arg5) (at4 t y) :=
  eq_at4 (m ((c : Thread nD τ).loc main_arg5)) (idx t).1.2.1 y _ (Pipeline.Window.rect_emb_val win0_5 t y)

theorem blk6 (c : Dev nD) (t : Fin cfg0.N) (y : S1x128x706.Idx) : iblk m c 6 t y = m ((c : Thread nD τ).loc main_arg6) (at4 t y) :=
  eq_at4 (m ((c : Thread nD τ).loc main_arg6)) (idx t).1.2.2.1 y _ (Pipeline.Window.rect_emb_val win0_6 t y)

theorem grad_blk0 (c : Dev nD) (t : Fin cfg0.N) (hl : t.val / 8 = 0) (y : S1x128x706.Idx) : g1 (iblk m c 1 t) y = G m c (at4 t y) :=
  (eq_part (m ((c : Thread nD τ).loc main_arg1)) ((idx t).2.1 hl) y (iblk m c 1 t) fun j => ⟨_, rfl, Pipeline.Window.rect_emb_val win0_1 t j⟩).trans
    (Adam.grad4_0 (by decide : 706 ≤ 768) (m ((c : Thread nD τ).loc main_arg1)) (m ((c : Thread nD τ).loc main_arg2)) (m ((c : Thread nD τ).loc main_arg3)) (m ((c : Thread nD τ).loc main_arg4)) (at4 t y) hl).symm

theorem grad_blk1 (c : Dev nD) (t : Fin cfg0.N) (hl : t.val / 8 = 1) (y : S1x128x706.Idx) : g1 (iblk m c 2 t) y = G m c (at4 t y) :=
  (eq_part (m ((c : Thread nD τ).loc main_arg2)) ((idx t).2.2.1 hl) y (iblk m c 2 t) fun j => ⟨_, rfl, Pipeline.Window.rect_emb_val win0_2 t j⟩).trans
    (Adam.grad4_1 (by decide : 706 ≤ 768) (m ((c : Thread nD τ).loc main_arg1)) (m ((c : Thread nD τ).loc main_arg2)) (m ((c : Thread nD τ).loc main_arg3)) (m ((c : Thread nD τ).loc main_arg4)) (at4 t y) hl).symm

theorem grad_blk2 (c : Dev nD) (t : Fin cfg0.N) (hl : t.val / 8 = 2) (y : S1x128x706.Idx) : g1 (iblk m c 3 t) y = G m c (at4 t y) :=
  (eq_part (m ((c : Thread nD τ).loc main_arg3)) ((idx t).2.2.2.1 hl) y (iblk m c 3 t) fun j => ⟨_, rfl, Pipeline.Window.rect_emb_val win0_3 t j⟩).trans
    (Adam.grad4_2 (by decide : 706 ≤ 768) (m ((c : Thread nD τ).loc main_arg1)) (m ((c : Thread nD τ).loc main_arg2)) (m ((c : Thread nD τ).loc main_arg3)) (m ((c : Thread nD τ).loc main_arg4)) (at4 t y) hl).symm

theorem grad_blk3 (c : Dev nD) (t : Fin cfg0.N) (hl : t.val / 8 = 3) (y : S1x128x706.Idx) : g1 (iblk m c 4 t) y = G m c (at4 t y) :=
  (eq_part (m ((c : Thread nD τ).loc main_arg4)) ((idx t).2.2.2.2 hl) y (iblk m c 4 t) fun j => ⟨_, rfl, Pipeline.Window.rect_emb_val win0_4 t j⟩).trans
    (Adam.grad4_3 (by decide : 706 ≤ 768) (m ((c : Thread nD τ).loc main_arg1)) (m ((c : Thread nD τ).loc main_arg2)) (m ((c : Thread nD τ).loc main_arg3)) (m ((c : Thread nD τ).loc main_arg4)) (at4 t y) hl).symm

/-- The gradient, as the run is shown to leave it. -/
abbrev result0 (c : Dev nD) : Buf (Elt Ideal) ((c : Thread nD τ).loc main_v0_0) := fun y : S4x1024x706.Idx =>
  (G m c y)

/-- What is added to the weight, as the run is shown to leave it. -/
abbrev result1 (c : Dev nD) : Buf (Elt Ideal) ((c : Thread nD τ).loc main_v0_1) := fun y : S4x1024x706.Idx =>
  Adam.delta ((m ((c : Thread nD τ).loc main_arg0)) y) (G m c y) ((m ((c : Thread nD τ).loc main_arg5)) y) ((m ((c : Thread nD τ).loc main_arg6)) y)

/-- The new first moment, as the run is shown to leave it. -/
abbrev result2 (c : Dev nD) : Buf (Elt Ideal) ((c : Thread nD τ).loc main_v0_2) := fun y : S4x1024x706.Idx =>
  Adam.newM (G m c y) ((m ((c : Thread nD τ).loc main_arg5)) y)

/-- The new second moment, as the run is shown to leave it. -/
abbrev result3 (c : Dev nD) : Buf (Elt Ideal) ((c : Thread nD τ).loc main_v0_3) := fun y : S4x1024x706.Idx =>
  Adam.newV (G m c y) ((m ((c : Thread nD τ).loc main_arg6)) y)

/-- What the body computes from gradients that are those of its layer: the elements of the four results that its blocks are. -/
theorem ends (c : Dev nD) (t : Fin cfg0.N) (x : Vec Ideal S8x128x768 .bf16) (hx : ∀ y, g1 x y = G m c (at4 t y)) :
    k0_pay13 (F := Ideal) (sumOf x) = (fun y : S1x128x706.Idx => result0 m c (at4 t y))
    ∧ k0_pay14 (F := Ideal) (sumOf x) (k0_pay10 (F := Ideal) (iblk m c 5 t)) (iblk m c 6 t) (iblk m c 0 t) = (fun y : S1x128x706.Idx => result1 m c (at4 t y))
    ∧ k0_pay1 (F := Ideal) (k0_pay11 (F := Ideal) (sumOf x) (k0_pay10 (F := Ideal) (iblk m c 5 t))) = (fun y : S1x128x706.Idx => result2 m c (at4 t y))
    ∧ k0_pay2 (F := Ideal) (k0_pay12 (F := Ideal) (sumOf x) (iblk m c 6 t)) = (fun y : S1x128x706.Idx => result3 m c (at4 t y)) :=
  ⟨funext fun y => (pay7 x y).trans (by rw [hx]),
    funext fun y => (pay8 x (iblk m c 0 t) (iblk m c 5 t) (iblk m c 6 t) y).trans (by rw [hx, blk0, blk5, blk6]),
    funext fun y => (pay9 x (iblk m c 5 t) y).trans (by rw [hx, blk5]),
    funext fun y => (pay10 x (iblk m c 6 t) y).trans (by rw [hx, blk6])⟩

/-- What a point writes back: the elements of the four results that its blocks are. -/
def Left (c : Dev nD) (t : Fin cfg0.N) : Prop :=
  (dats m 0 c).flushed 7 t = (cfg0.win 7).cut (grid0.coords t) (fun y : S1x128x706.Idx => result0 m c (at4 t y))
  ∧ (dats m 0 c).flushed 8 t = (cfg0.win 8).cut (grid0.coords t) (fun y : S1x128x706.Idx => result1 m c (at4 t y))
  ∧ (dats m 0 c).flushed 9 t = (cfg0.win 9).cut (grid0.coords t) (fun y : S1x128x706.Idx => result2 m c (at4 t y))
  ∧ (dats m 0 c).flushed 10 t = (cfg0.win 10).cut (grid0.coords t) (fun y : S1x128x706.Idx => result3 m c (at4 t y))

set_option maxHeartbeats 600000 in
theorem left_A (c : Dev nD) (t : Fin cfg0.N) (hl : t.val / 8 = 0) : Left m c t := by
  have hN : t.val < 32 := t.isLt.trans_eq N_0
  have e := ends m c t _ (grad_blk0 m c t hl)
  unfold Left
  rw [Cert.AdamInIdeal.Value.flushed7_A m c t (by omega) (by omega) (by omega) (by omega),
    Cert.AdamInIdeal.Value.flushed8_A m c t (by omega) (by omega) (by omega) (by omega),
    Cert.AdamInIdeal.Value.flushed9_A m c t (by omega) (by omega) (by omega) (by omega),
    Cert.AdamInIdeal.Value.flushed10_A m c t (by omega) (by omega) (by omega) (by omega)]
  unfold out0_A_7 out0_A_8 out0_A_9 out0_A_10
  rw [View.read_writes_eq_canon _ _ _ (cover0_A_7 _ _ _ _ _ _ _ _ _ _ _ _ _ _ _ _ _ _ _ _ _ _ _ _ _ _ _ _ _ _ _ _ _ _ _),
    View.read_writes_eq_canon _ _ _ (cover0_A_8 _ _ _ _ _ _ _ _ _ _ _ _ _ _ _ _ _ _ _ _ _ _ _ _ _ _ _ _ _ _ _ _ _ _ _),
    View.read_writes_eq_canon _ _ _ (cover0_A_9 _ _ _ _ _ _ _ _ _ _ _ _ _ _ _ _ _ _ _ _ _ _ _ _ _ _ _ _ _ _ _ _ _ _ _),
    View.read_writes_eq_canon _ _ _ (cover0_A_10 _ _ _ _ _ _ _ _ _ _ _ _ _ _ _ _ _ _ _ _ _ _ _ _ _ _ _ _ _ _ _ _ _ _ _)]
  unfold kernelRun0_A
  dsimp only
  sl_unfold_words
  rw [View.canon_unit_zero hz, View.canon_unit_zero hz, View.canon_unit_zero hz, View.canon_unit_zero hz]
  simp only [View.readAt_eq_ld, (hs0_0 t).read_unread, (hs0_1 t).read_unread, (hs0_5 t).read_unread,
    (hs0_6 t).read_unread, View.ld_unit_zero (S := S1x128x706) hz]
  exact ⟨congrArg _ e.1, congrArg _ e.2.1, congrArg _ e.2.2.1, congrArg _ e.2.2.2⟩

set_option maxHeartbeats 600000 in
theorem left_B (c : Dev nD) (t : Fin cfg0.N) (hl : t.val / 8 = 1) : Left m c t := by
  have hN : t.val < 32 := t.isLt.trans_eq N_0
  have e := ends m c t _ (grad_blk1 m c t hl)
  unfold Left
  rw [Cert.AdamInIdeal.Value.flushed7_B m c t (by omega) (by omega) (by omega) (by omega),
    Cert.AdamInIdeal.Value.flushed8_B m c t (by omega) (by omega) (by omega) (by omega),
    Cert.AdamInIdeal.Value.flushed9_B m c t (by omega) (by omega) (by omega) (by omega),
    Cert.AdamInIdeal.Value.flushed10_B m c t (by omega) (by omega) (by omega) (by omega)]
  unfold out0_B_7 out0_B_8 out0_B_9 out0_B_10
  rw [View.read_writes_eq_canon _ _ _ (cover0_B_7 _ _ _ _ _ _ _ _ _ _ _ _ _ _ _ _ _ _ _ _ _ _ _ _ _ _ _ _ _ _ _ _ _ _ _),
    View.read_writes_eq_canon _ _ _ (cover0_B_8 _ _ _ _ _ _ _ _ _ _ _ _ _ _ _ _ _ _ _ _ _ _ _ _ _ _ _ _ _ _ _ _ _ _ _),
    View.read_writes_eq_canon _ _ _ (cover0_B_9 _ _ _ _ _ _ _ _ _ _ _ _ _ _ _ _ _ _ _ _ _ _ _ _ _ _ _ _ _ _ _ _ _ _ _),
    View.read_writes_eq_canon _ _ _ (cover0_B_10 _ _ _ _ _ _ _ _ _ _ _ _ _ _ _ _ _ _ _ _ _ _ _ _ _ _ _ _ _ _ _ _ _ _ _)]
  unfold kernelRun0_B
  dsimp only
  sl_unfold_words
  rw [View.canon_unit_zero hz, View.canon_unit_zero hz, View.canon_unit_zero hz, View.canon_unit_zero hz]
  simp only [View.readAt_eq_ld, (hs0_0 t).read_unread, (hs0_2 t).read_unread, (hs0_5 t).read_unread,
    (hs0_6 t).read_unread, View.ld_unit_zero (S := S1x128x706) hz, same_B]
  exact ⟨congrArg _ e.1, congrArg _ e.2.1, congrArg _ e.2.2.1, congrArg _ e.2.2.2⟩

set_option maxHeartbeats 600000 in
theorem left_C (c : Dev nD) (t : Fin cfg0.N) (hl : t.val / 8 = 2) : Left m c t := by
  have hN : t.val < 32 := t.isLt.trans_eq N_0
  have e := ends m c t _ (grad_blk2 m c t hl)
  unfold Left
  rw [Cert.AdamInIdeal.Value.flushed7_C m c t (by omega) (by omega) (by omega) (by omega),
    Cert.AdamInIdeal.Value.flushed8_C m c t (by omega) (by omega) (by omega) (by omega),
    Cert.AdamInIdeal.Value.flushed9_C m c t (by omega) (by omega) (by omega) (by omega),
    Cert.AdamInIdeal.Value.flushed10_C m c t (by omega) (by omega) (by omega) (by omega)]
  unfold out0_C_7 out0_C_8 out0_C_9 out0_C_10
  rw [View.read_writes_eq_canon _ _ _ (cover0_C_7 _ _ _ _ _ _ _ _ _ _ _ _ _ _ _ _ _ _ _ _ _ _ _ _ _ _ _ _ _ _ _ _ _ _ _),
    View.read_writes_eq_canon _ _ _ (cover0_C_8 _ _ _ _ _ _ _ _ _ _ _ _ _ _ _ _ _ _ _ _ _ _ _ _ _ _ _ _ _ _ _ _ _ _ _),
    View.read_writes_eq_canon _ _ _ (cover0_C_9 _ _ _ _ _ _ _ _ _ _ _ _ _ _ _ _ _ _ _ _ _ _ _ _ _ _ _ _ _ _ _ _ _ _ _),
    View.read_writes_eq_canon _ _ _ (cover0_C_10 _ _ _ _ _ _ _ _ _ _ _ _ _ _ _ _ _ _ _ _ _ _ _ _ _ _ _ _ _ _ _ _ _ _ _)]
  unfold kernelRun0_C
  dsimp only
  sl_unfold_words
  rw [View.canon_unit_zero hz, View.canon_unit_zero hz, View.canon_unit_zero hz, View.canon_unit_zero hz]
  simp only [View.readAt_eq_ld, (hs0_0 t).read_unread, (hs0_3 t).read_unread, (hs0_5 t).read_unread,
    (hs0_6 t).read_unread, View.ld_unit_zero (S := S1x128x706) hz, same_C]
  exact ⟨congrArg _ e.1, congrArg _ e.2.1, congrArg _ e.2.2.1, congrArg _ e.2.2.2⟩

set_option maxHeartbeats 600000 in
theorem left_D (c : Dev nD) (t : Fin cfg0.N) (hl : t.val / 8 = 3) : Left m c t := by
  have hN : t.val < 32 := t.isLt.trans_eq N_0
  have e := ends m c t _ (grad_blk3 m c t hl)
  unfold Left
  rw [Cert.AdamInIdeal.Value.flushed7_D m c t (by omega) (by omega) (by omega) (by omega),
    Cert.AdamInIdeal.Value.flushed8_D m c t (by omega) (by omega) (by omega) (by omega),
    Cert.AdamInIdeal.Value.flushed9_D m c t (by omega) (by omega) (by omega) (by omega),
    Cert.AdamInIdeal.Value.flushed10_D m c t (by omega) (by omega) (by omega) (by omega)]
  unfold out0_D_7 out0_D_8 out0_D_9 out0_D_10
  rw [View.read_writes_eq_canon _ _ _ (cover0_D_7 _ _ _ _ _ _ _ _ _ _ _ _ _ _ _ _ _ _ _ _ _ _ _ _ _ _ _ _ _ _ _ _ _ _ _),
    View.read_writes_eq_canon _ _ _ (cover0_D_8 _ _ _ _ _ _ _ _ _ _ _ _ _ _ _ _ _ _ _ _ _ _ _ _ _ _ _ _ _ _ _ _ _ _ _),
    View.read_writes_eq_canon _ _ _ (cover0_D_9 _ _ _ _ _ _ _ _ _ _ _ _ _ _ _ _ _ _ _ _ _ _ _ _ _ _ _ _ _ _ _ _ _ _ _),
    View.read_writes_eq_canon _ _ _ (cover0_D_10 _ _ _ _ _ _ _ _ _ _ _ _ _ _ _ _ _ _ _ _ _ _ _ _ _ _ _ _ _ _ _ _ _ _ _)]
  unfold kernelRun0_D
  dsimp only
  sl_unfold_words
  rw [View.canon_unit_zero hz, View.canon_unit_zero hz, View.canon_unit_zero hz, View.canon_unit_zero hz]
  simp only [View.readAt_eq_ld, (hs0_0 t).read_unread, (hs0_4 t).read_unread, (hs0_5 t).read_unread,
    (hs0_6 t).read_unread, View.ld_unit_zero (S := S1x128x706) hz, same_D]
  exact ⟨congrArg _ e.1, congrArg _ e.2.1, congrArg _ e.2.2.1, congrArg _ e.2.2.2⟩

theorem left (c : Dev nD) (t : Fin cfg0.N) : Left m c t := by
  have hN : t.val < 32 := t.isLt.trans_eq N_0
  rcases (by omega : t.val / 8 = 0 ∨ t.val / 8 = 1 ∨ t.val / 8 = 2 ∨ t.val / 8 = 3) with hl | hl | hl | hl
  · exact left_A m c t hl
  · exact left_B m c t hl
  · exact left_C m c t hl
  · exact left_D m c t hl

theorem final7 (c : Dev nD) : (dats m 0 c).arrAt 7 cfg0.N = result0 m c :=
  (dats m 0 c).arrAt_eq_of_cover 7 (result0 m c)
    (fun t _ => (left m c t).1.trans (funext fun y => (eq_at4 (result0 m c) (idx t).1.2.2.2.1 y _
      (Pipeline.Window.rect_emb_val win0_7 t y)).symm))
    (fun i => (point i).imp fun t h => ⟨flush0_7 t, by
      show i ∈ ((View.whole main_v0_0).slice (win0_7.rect t)).set
      rw [View.set_slice_whole, Rect.mem_set_unit]
      exact h (win0_7.index t) (idx t).1.2.2.2.1⟩)

theorem final8 (c : Dev nD) : (dats m 0 c).arrAt 8 cfg0.N = result1 m c :=
  (dats m 0 c).arrAt_eq_of_cover 8 (result1 m c)
    (fun t _ => (left m c t).2.1.trans (funext fun y => (eq_at4 (result1 m c) (idx t).1.2.2.2.2.1 y _
      (Pipeline.Window.rect_emb_val win0_8 t y)).symm))
    (fun i => (point i).imp fun t h => ⟨flush0_8 t, by
      show i ∈ ((View.whole main_v0_1).slice (win0_8.rect t)).set
      rw [View.set_slice_whole, Rect.mem_set_unit]
      exact h (win0_8.index t) (idx t).1.2.2.2.2.1⟩)

theorem final9 (c : Dev nD) : (dats m 0 c).arrAt 9 cfg0.N = result2 m c :=
  (dats m 0 c).arrAt_eq_of_cover 9 (result2 m c)
    (fun t _ => (left m c t).2.2.1.trans (funext fun y => (eq_at4 (result2 m c) (idx t).1.2.2.2.2.2.1 y _
      (Pipeline.Window.rect_emb_val win0_9 t y)).symm))
    (fun i => (point i).imp fun t h => ⟨flush0_9 t, by
      show i ∈ ((View.whole main_v0_2).slice (win0_9.rect t)).set
      rw [View.set_slice_whole, Rect.mem_set_unit]
      exact h (win0_9.index t) (idx t).1.2.2.2.2.2.1⟩)

theorem final10 (c : Dev nD) : (dats m 0 c).arrAt 10 cfg0.N = result3 m c :=
  (dats m 0 c).arrAt_eq_of_cover 10 (result3 m c)
    (fun t _ => (left m c t).2.2.2.trans (funext fun y => (eq_at4 (result3 m c) (idx t).1.2.2.2.2.2.2 y _
      (Pipeline.Window.rect_emb_val win0_10 t y)).symm))
    (fun i => (point i).imp fun t h => ⟨flush0_10 t, by
      show i ∈ ((View.whole main_v0_3).slice (win0_10.rect t)).set
      rw [View.set_slice_whole, Rect.mem_set_unit]
      exact h (win0_10.index t) (idx t).1.2.2.2.2.2.2⟩)

/-- The kernel ends with its four results at these functions of the arguments, the arguments as they were. -/
theorem run : θ_run defs (onTc (τ := τ) (main (F := Ideal))) ⟨m, fun _ => 0, ρ⟩ fun r => ∀ c : Dev nD,
      r.2.mem ((c.tc : Thread nD τ).loc main_v0_0) = result0 m c
      ∧ r.2.mem ((c.tc : Thread nD τ).loc main_v0_1) = result1 m c
      ∧ r.2.mem ((c.tc : Thread nD τ).loc main_v0_2) = result2 m c
      ∧ r.2.mem ((c.tc : Thread nD τ).loc main_v0_3) = result3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c).1.trans (final7 m c), (h c).2.1.trans (final8 m c), (h c).2.2.1.trans (final9 m c), (h c).2.2.2.1.trans (final10 m c),
      (h c).2.2.2.2⟩) (Cert.AdamInIdeal.Value.run_blocks m ρ)

end Kernel

section Reference

open Cert.AdamInRefIdeal Cert.AdamInRefIdeal.Gen Cert.AdamInRefIdeal.Read

variable (x0 : Vec Ideal S4x1024x706 .f32) (x1 x2 x3 x4 : Vec Ideal S8x1024x768 .bf16) (x5 x6 : Vec Ideal S4x1024x706 .f32)

/-- The reference's gradient of layer 0. -/
theorem ref_sum0 (i : S1x1024x706.Idx) : val_main_v12 (F := Ideal) x1 i = Adam.sum8 x1 (i 1) (Fin.castLE (by decide : 706 ≤ 768) (i 2)) := by
  refine (val_main_v12_apply x1 i).trans ((val_main_v2_apply x1 _).trans ?_)
  rw [val_main_cst_apply]
  simp only [val_main_v1_apply, val_main_v0_apply, pointwise, zero_add]
  exact Finset.sum_congr rfl fun j _ => Norm.congr3 x1 rfl rfl rfl

/-- The reference's gradient of layer 1. -/
theorem ref_sum1 (i : S1x1024x706.Idx) : val_main_v13 (F := Ideal) x2 i = Adam.sum8 x2 (i 1) (Fin.castLE (by decide : 706 ≤ 768) (i 2)) := by
  refine (val_main_v13_apply x2 i).trans ((val_main_v5_apply x2 _).trans ?_)
  rw [val_main_cst_0_apply]
  simp only [val_main_v4_apply, val_main_v3_apply, pointwise, zero_add]
  exact Finset.sum_congr rfl fun j _ => Norm.congr3 x2 rfl rfl rfl

/-- The reference's gradient of layer 2. -/
theorem ref_sum2 (i : S1x1024x706.Idx) : val_main_v14 (F := Ideal) x3 i = Adam.sum8 x3 (i 1) (Fin.castLE (by decide : 706 ≤ 768) (i 2)) := by
  refine (val_main_v14_apply x3 i).trans ((val_main_v8_apply x3 _).trans ?_)
  rw [val_main_cst_1_apply]
  simp only [val_main_v7_apply, val_main_v6_apply, pointwise, zero_add]
  exact Finset.sum_congr rfl fun j _ => Norm.congr3 x3 rfl rfl rfl

/-- The reference's gradient of layer 3. -/
theorem ref_sum3 (i : S1x1024x706.Idx) : val_main_v15 (F := Ideal) x4 i = Adam.sum8 x4 (i 1) (Fin.castLE (by decide : 706 ≤ 768) (i 2)) := by
  refine (val_main_v15_apply x4 i).trans ((val_main_v11_apply x4 _).trans ?_)
  rw [val_main_cst_2_apply]
  simp only [val_main_v10_apply, val_main_v9_apply, pointwise, zero_add]
  exact Finset.sum_congr rfl fun j _ => Norm.congr3 x4 rfl rfl rfl

/-- The reference's gradient: the four layers' one after the other. -/
theorem ref_grad (y : S4x1024x706.Idx) : val_main_v16 (F := Ideal) x1 x2 x3 x4 y = Adam.grad4 (by decide : 706 ≤ 768) x1 x2 x3 x4 y := by
  unfold val_main_v16
  refine concatenate_unit_eq _ _ _ y _ rfl (concatAt_cons _ _ _ 0 ?_ (concatAt_cons _ _ _ 1 ?_ (concatAt_cons _ _ _ 2 ?_
    (concatAt_cons _ _ _ 3 ?_ trivial))))
  · intro hj hr i h0 hb
    refine (ref_sum0 x1 i).trans ((Adam.grad4_0 (by decide : 706 ≤ 768) x1 x2 x3 x4 y hj).trans ?_).symm
    exact congrArg₂ (Adam.sum8 x1) (Fin.ext (hb 1 (by decide)).symm) (Fin.ext (hb 2 (by decide)).symm)
  · intro hj hr i h0 hb
    refine (ref_sum1 x2 i).trans ((Adam.grad4_1 (by decide : 706 ≤ 768) x1 x2 x3 x4 y hj).trans ?_).symm
    exact congrArg₂ (Adam.sum8 x2) (Fin.ext (hb 1 (by decide)).symm) (Fin.ext (hb 2 (by decide)).symm)
  · intro hj hr i h0 hb
    refine (ref_sum2 x3 i).trans ((Adam.grad4_2 (by decide : 706 ≤ 768) x1 x2 x3 x4 y hj).trans ?_).symm
    exact congrArg₂ (Adam.sum8 x3) (Fin.ext (hb 1 (by decide)).symm) (Fin.ext (hb 2 (by decide)).symm)
  · intro hj hr i h0 hb
    refine (ref_sum3 x4 i).trans ((Adam.grad4_3 (by decide : 706 ≤ 768) x1 x2 x3 x4 y hj).trans ?_).symm
    exact congrArg₂ (Adam.sum8 x4) (Fin.ext (hb 1 (by decide)).symm) (Fin.ext (hb 2 (by decide)).symm)

theorem ref_mom (y : S4x1024x706.Idx) : val_main_v21 (F := Ideal) x1 x2 x3 x4 x5 y = Adam.newM (Adam.grad4 (by decide : 706 ≤ 768) x1 x2 x3 x4 y) (x5 y) := by
  unfold Adam.newM
  rw [← ref_grad x1 x2 x3 x4 y]
  simp only [val_main_v21_apply, val_main_v20_apply, val_main_v19_apply, val_main_v18_apply, val_main_v17_apply, val_main_cst_3_apply, val_main_cst_4_apply, pointwise]

theorem ref_vel (y : S4x1024x706.Idx) : val_main_v27 (F := Ideal) x1 x2 x3 x4 x6 y = Adam.newV (Adam.grad4 (by decide : 706 ≤ 768) x1 x2 x3 x4 y) (x6 y) := by
  unfold Adam.newV
  rw [← ref_grad x1 x2 x3 x4 y]
  simp only [val_main_v27_apply, val_main_v26_apply, val_main_v25_apply, val_main_v24_apply, val_main_v23_apply, val_main_v22_apply, val_main_cst_5_apply, val_main_cst_6_apply, pointwise]

theorem ref_delta (y : S4x1024x706.Idx) :
    val_main_v40 (F := Ideal) x0 x1 x2 x3 x4 x5 x6 y = Adam.delta (x0 y) (Adam.grad4 (by decide : 706 ≤ 768) x1 x2 x3 x4 y) (x5 y) (x6 y) := by
  unfold Adam.delta
  rw [← ref_mom x1 x2 x3 x4 x5 y, ← ref_vel x1 x2 x3 x4 x6 y]
  simp only [val_main_v40_apply, val_main_v39_apply, val_main_v38_apply, val_main_v37_apply, val_main_v36_apply, val_main_v35_apply, val_main_v34_apply,
    val_main_v33_apply, val_main_v32_apply, val_main_v31_apply, val_main_v30_apply, val_main_v29_apply, val_main_v28_apply,
    val_main_cst_7_apply, val_main_cst_8_apply, val_main_cst_9_apply, val_main_cst_10_apply, val_main_cst_11_apply, pointwise]

/-- The reference ends with its four results at the same functions of the arguments, the arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = (fun y : S4x1024x706.Idx => (Adam.grad4 (by decide : 706 ≤ 768) (m ((c.tc : Thread nD τ).loc main_arg1)) (m ((c.tc : Thread nD τ).loc main_arg2)) (m ((c.tc : Thread nD τ).loc main_arg3)) (m ((c.tc : Thread nD τ).loc main_arg4)) y))
      ∧ r.2.mem ((c.tc : Thread nD τ).loc main_v40) = (fun y : S4x1024x706.Idx => Adam.delta ((m ((c.tc : Thread nD τ).loc main_arg0)) y) (Adam.grad4 (by decide : 706 ≤ 768) (m ((c.tc : Thread nD τ).loc main_arg1)) (m ((c.tc : Thread nD τ).loc main_arg2)) (m ((c.tc : Thread nD τ).loc main_arg3)) (m ((c.tc : Thread nD τ).loc main_arg4)) y) ((m ((c.tc : Thread nD τ).loc main_arg5)) y) ((m ((c.tc : Thread nD τ).loc main_arg6)) y))
      ∧ r.2.mem ((c.tc : Thread nD τ).loc main_v21) = (fun y : S4x1024x706.Idx => Adam.newM (Adam.grad4 (by decide : 706 ≤ 768) (m ((c.tc : Thread nD τ).loc main_arg1)) (m ((c.tc : Thread nD τ).loc main_arg2)) (m ((c.tc : Thread nD τ).loc main_arg3)) (m ((c.tc : Thread nD τ).loc main_arg4)) y) ((m ((c.tc : Thread nD τ).loc main_arg5)) y))
      ∧ r.2.mem ((c.tc : Thread nD τ).loc main_v27) = (fun y : S4x1024x706.Idx => Adam.newV (Adam.grad4 (by decide : 706 ≤ 768) (m ((c.tc : Thread nD τ).loc main_arg1)) (m ((c.tc : Thread nD τ).loc main_arg2)) (m ((c.tc : Thread nD τ).loc main_arg3)) (m ((c.tc : Thread nD τ).loc main_arg4)) y) ((m ((c.tc : Thread nD τ).loc main_arg6)) y))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).1.trans (val_main_v16_eq _ _ _ _)).trans (funext fun y => ref_grad _ _ _ _ y),
      ((h c).2.1.trans (val_main_v40_eq m c)).trans (funext fun y => ref_delta _ _ _ _ _ _ _ y),
      ((h c).2.2.1.trans (val_main_v21_eq _ _ _ _ _)).trans (funext fun y => ref_mom _ _ _ _ _ y),
      ((h c).2.2.2.1.trans (val_main_v27_eq _ _ _ _ _)).trans (funext fun y => ref_vel _ _ _ _ _ y),
      (h c).2.2.2.2⟩) (Cert.AdamInRefIdeal.Value.run m ρ)

end Reference

end Cert.AdamInVal
-- ==== Proof.AdamSc.lean ====
/-
  The optimiser's step of the short convolution's filters: the kernel's four results and the reference's are the same function of the weight, the
  eight devices' gradients and the two moments.
-/
module

public import proofs.«01_k».proof.Proof.Adam
public import proofs.«01_k».proof.Proof.Gen.AdamScIdeal.Value
public import proofs.«01_k».proof.Proof.Gen.AdamScRefIdeal.Run
public import proofs.«01_k».proof.Proof.Gen.AdamScRefIdeal.Read

@[expose] public section

noncomputable section

namespace Cert.AdamScVal

open Idealize.ShloMosaic Idealize.SL.Sem

section Kernel

open Cert.AdamScIdeal Cert.AdamScIdeal.Gen

/-- The sum of the body, at an index. -/
theorem pay3_apply (a0 a1 a2 a3 a4 a5 a6 a7 : Vec Ideal S1x12x128 .f32) (p : Fin 12) (q : Fin 128) :
    k0_pay3 (F := Ideal) a0 a1 a2 a3 a4 a5 a6 a7 (ix2 p q)
      = a0 (ix3 0 p q) + a1 (ix3 0 p q) + a2 (ix3 0 p q) + a3 (ix3 0 p q) + a4 (ix3 0 p q) + a5 (ix3 0 p q) + a6 (ix3 0 p q)
        + a7 (ix3 0 p q) := by
  unfold k0_pay3
  simp only [pointwise]

/-- A device's gradient is its part of the array of all devices'. -/
theorem part_eq (x1 : Vec Ideal S8x12x128 .f32) (j : Nat) (hj : j < 8)
    (h : ∀ a, (![j, 0, 0] : Fin 3 → Nat) a + S1x12x128.size a ≤ S8x12x128.size a) (p : Fin 12) (q : Fin 128) :
    View.ld x1 (Rect.unit (s := S8x12x128) ![j, 0, 0] S1x12x128.size h) (ix3 0 p q) = x1 (ix3 (⟨j, hj⟩ : Fin 8) p q) :=
  Norm.congr3 x1 (Block.emb_val (s := S8x12x128) ![j, 0, 0] S1x12x128.size h (ix3 0 p q) 0)
    ((Block.emb_val (s := S8x12x128) ![j, 0, 0] S1x12x128.size h (ix3 0 p q) 1).trans (Nat.zero_add _))
    ((Block.emb_val (s := S8x12x128) ![j, 0, 0] S1x12x128.size h (ix3 0 p q) 2).trans (Nat.zero_add _))

variable (x0 : Vec Ideal S12x128 .f32) (x1 : Vec Ideal S8x12x128 .f32) (x2 x3 : Vec Ideal S12x128 .f32)

/-- The gradient of the body is the sum over the devices. -/
theorem grad_eq (y : S12x128.Idx) : k0_pay5 (F := Ideal) x0 x1 x2 x3 y = Adam.sum8 x1 (y 0) (y 1) := by
  obtain ⟨p, q, rfl⟩ : ∃ p q, y = ix2 p q := ⟨y 0, y 1, funext fun a => match a with | ⟨0, _⟩ => rfl | ⟨1, _⟩ => rfl⟩
  unfold k0_pay5
  refine (pay3_apply _ _ _ _ _ _ _ _ p q).trans ?_
  exact Adam.sum8_eq x1 p q (part_eq x1 0 (by decide) _ p q) (part_eq x1 1 (by decide) _ p q) (part_eq x1 2 (by decide) _ p q)
    (part_eq x1 3 (by decide) _ p q) (part_eq x1 4 (by decide) _ p q) (part_eq x1 5 (by decide) _ p q)
    (part_eq x1 6 (by decide) _ p q) (part_eq x1 7 (by decide) _ p q)

theorem hz : (![0, 0] : Fin 2 → Nat) = fun _ => 0 := funext fun a => by fin_cases a <;> rfl

/-- The first moment of the body. -/
theorem mom_eq (y : S12x128.Idx) : k0_pay6 (F := Ideal) x0 x1 x2 x3 y = Adam.newM (Adam.sum8 x1 (y 0) (y 1)) (x2 y) := by
  have hg := grad_eq x0 x1 x2 x3 y
  have hl : View.ld x2 r0_8 = x2 := View.ld_unit_zero (S := S12x128) hz _ x2
  unfold k0_pay5 at hg
  unfold k0_pay6 k0_pay4 Adam.newM
  rw [hl]
  simp only [pointwise]
  rw [hg]

/-- The second moment of the body. -/
theorem pay1_apply (g v : Vec Ideal S12x128 .f32) (y : S12x128.Idx) : k0_pay1 (F := Ideal) g v y = Adam.newV (g y) (v y) := by
  unfold k0_pay1 Adam.newV
  simp only [pointwise]

theorem vel_eq (y : S12x128.Idx) :
    k0_pay1 (F := Ideal) (k0_pay5 (F := Ideal) x0 x1 x2 x3) x3 y = Adam.newV (Adam.sum8 x1 (y 0) (y 1)) (x3 y) := by
  rw [pay1_apply, grad_eq]

/-- The step of the body. -/
theorem delta_eq (y : S12x128.Idx) :
    k0_pay2 (F := Ideal) (k0_pay5 (F := Ideal) x0 x1 x2 x3) (k0_pay6 (F := Ideal) x0 x1 x2 x3) x3 x0 y
      = Adam.delta (x0 y) (Adam.sum8 x1 (y 0) (y 1)) (x2 y) (x3 y) := by
  unfold k0_pay2 Adam.delta
  simp only [pointwise, mom_eq, vel_eq]

/-- The gradient, as a function of the arguments. -/
def result0 (m : (ℓ : Loc nD τ sig) → Buf (Elt Ideal) ℓ) (c : Dev nD) : Buf (Elt Ideal) ((c.tc : Thread nD τ).loc main_v0_0) :=
  fun y => Adam.sum8 (m ((c.tc : Thread nD τ).loc main_arg1)) (y 0) (y 1)

/-- What is added to the weight, as a function of the arguments. -/
def result1 (m : (ℓ : Loc nD τ sig) → Buf (Elt Ideal) ℓ) (c : Dev nD) : Buf (Elt Ideal) ((c.tc : Thread nD τ).loc main_v0_1) :=
  fun y => Adam.delta (m ((c.tc : Thread nD τ).loc main_arg0) y) (Adam.sum8 (m ((c.tc : Thread nD τ).loc main_arg1)) (y 0) (y 1)) (m ((c.tc : Thread nD τ).loc main_arg2) y) (m ((c.tc : Thread nD τ).loc main_arg3) y)

/-- The new first moment, as a function of the arguments. -/
def result2 (m : (ℓ : Loc nD τ sig) → Buf (Elt Ideal) ℓ) (c : Dev nD) : Buf (Elt Ideal) ((c.tc : Thread nD τ).loc main_v0_2) :=
  fun y => Adam.newM (Adam.sum8 (m ((c.tc : Thread nD τ).loc main_arg1)) (y 0) (y 1)) (m ((c.tc : Thread nD τ).loc main_arg2) y)

/-- The new second moment, as a function of the arguments. -/
def result3 (m : (ℓ : Loc nD τ sig) → Buf (Elt Ideal) ℓ) (c : Dev nD) : Buf (Elt Ideal) ((c.tc : Thread nD τ).loc main_v0_3) :=
  fun y => Adam.newV (Adam.sum8 (m ((c.tc : Thread nD τ).loc main_arg1)) (y 0) (y 1)) (m ((c.tc : Thread nD τ).loc main_arg3) y)

/-- The kernel ends with its four results at these functions of the arguments, the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = result0 m c
      ∧ r.2.mem ((c.tc : Thread nD τ).loc main_v0_1) = result1 m c
      ∧ r.2.mem ((c.tc : Thread nD τ).loc main_v0_2) = result2 m c
      ∧ r.2.mem ((c.tc : Thread nD τ).loc main_v0_3) = result3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (funext fun y => grad_eq _ _ _ _ y), (h c).2.1.trans (funext fun y => delta_eq _ _ _ _ y),
      (h c).2.2.1.trans (funext fun y => mom_eq _ _ _ _ y), (h c).2.2.2.1.trans (funext fun y => vel_eq _ _ _ _ y),
      (h c).2.2.2.2⟩) (Value.run m ρ)

end Kernel

section Reference

open Cert.AdamScRefIdeal Cert.AdamScRefIdeal.Gen Cert.AdamScRefIdeal.Read

variable (x0 : Vec Ideal S12x128 .f32) (x1 : Vec Ideal S8x12x128 .f32) (x2 x3 : Vec Ideal S12x128 .f32)

/-- The reference's gradient. -/
theorem ref_grad (y : S12x128.Idx) : val_main_v0 (F := Ideal) x1 y = Adam.sum8 x1 (y 0) (y 1) := by
  refine (val_main_v0_apply x1 y).trans ?_
  rw [val_main_cst_apply]
  simp only [pointwise, zero_add]
  exact Finset.sum_congr rfl fun k _ => Norm.congr3 x1 rfl rfl rfl

theorem ref_mom (y : S12x128.Idx) : val_main_v5 (F := Ideal) x1 x2 y = Adam.newM (Adam.sum8 x1 (y 0) (y 1)) (x2 y) := by
  unfold Adam.newM
  rw [← ref_grad x1 y]
  simp only [val_main_v5_apply, val_main_v4_apply, val_main_v3_apply, val_main_v2_apply, val_main_v1_apply, val_main_cst_0_apply,
    val_main_cst_1_apply, pointwise]

theorem ref_vel (y : S12x128.Idx) : val_main_v11 (F := Ideal) x1 x3 y = Adam.newV (Adam.sum8 x1 (y 0) (y 1)) (x3 y) := by
  unfold Adam.newV
  rw [← ref_grad x1 y]
  simp only [val_main_v11_apply, val_main_v10_apply, val_main_v9_apply, val_main_v8_apply, val_main_v7_apply, val_main_v6_apply,
    val_main_cst_2_apply, val_main_cst_3_apply, pointwise]

theorem ref_delta (y : S12x128.Idx) :
    val_main_v24 (F := Ideal) x0 x1 x2 x3 y = Adam.delta (x0 y) (Adam.sum8 x1 (y 0) (y 1)) (x2 y) (x3 y) := by
  unfold Adam.delta
  rw [← ref_mom x1 x2 y, ← ref_vel x1 x3 y]
  simp only [val_main_v24_apply, val_main_v23_apply, val_main_v22_apply, val_main_v21_apply, val_main_v20_apply, val_main_v19_apply,
    val_main_v18_apply, val_main_v17_apply, val_main_v16_apply, val_main_v15_apply, val_main_v14_apply, val_main_v13_apply,
    val_main_v12_apply, val_main_cst_4_apply, val_main_cst_5_apply, val_main_cst_6_apply, val_main_cst_7_apply,
    val_main_cst_8_apply, pointwise]

/-- The reference ends with its four results at the same functions of the arguments, the arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = (fun y => Adam.sum8 (m ((c.tc : Thread nD τ).loc main_arg1)) (y 0) (y 1))
      ∧ r.2.mem ((c.tc : Thread nD τ).loc main_v24) = (fun y => Adam.delta (m ((c.tc : Thread nD τ).loc main_arg0) y) (Adam.sum8 (m ((c.tc : Thread nD τ).loc main_arg1)) (y 0) (y 1)) (m ((c.tc : Thread nD τ).loc main_arg2) y) (m ((c.tc : Thread nD τ).loc main_arg3) y))
      ∧ r.2.mem ((c.tc : Thread nD τ).loc main_v5) = (fun y => Adam.newM (Adam.sum8 (m ((c.tc : Thread nD τ).loc main_arg1)) (y 0) (y 1)) (m ((c.tc : Thread nD τ).loc main_arg2) y))
      ∧ r.2.mem ((c.tc : Thread nD τ).loc main_v11) = (fun y => Adam.newV (Adam.sum8 (m ((c.tc : Thread nD τ).loc main_arg1)) (y 0) (y 1)) (m ((c.tc : Thread nD τ).loc main_arg3) y))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1.trans (val_main_v0_eq _)).trans (funext fun y => ref_grad _ y),
      ((h c).2.1.trans (val_main_v24_eq _ _ _ _)).trans (funext fun y => ref_delta _ _ _ _ y),
      ((h c).2.2.1.trans (val_main_v5_eq _ _)).trans (funext fun y => ref_mom _ _ y),
      ((h c).2.2.2.1.trans (val_main_v11_eq _ _)).trans (funext fun y => ref_vel _ _ y),
      (h c).2.2.2.2⟩) (Cert.AdamScRefIdeal.Value.run m ρ)

end Reference

end Cert.AdamScVal
-- ==== Proof.AdamCw.lean ====
/-
  The optimiser's step of the mixer's convolution's filters: the kernel's four results and the reference's are the same function of the weight, the
  eight devices' gradients and the two moments.
-/
module

public import proofs.«01_k».proof.Proof.Adam
public import proofs.«01_k».proof.Proof.Gen.AdamCwIdeal.Value
public import proofs.«01_k».proof.Proof.Gen.AdamCwRefIdeal.Run
public import proofs.«01_k».proof.Proof.Gen.AdamCwRefIdeal.Read

@[expose] public section

noncomputable section

namespace Cert.AdamCwVal

open Idealize.ShloMosaic Idealize.SL.Sem

section Kernel

open Cert.AdamCwIdeal Cert.AdamCwIdeal.Gen

/-- The sum of the body, at an index. -/
theorem pay3_apply (a0 a1 a2 a3 a4 a5 a6 a7 : Vec Ideal S1x16x192 .f32) (p : Fin 16) (q : Fin 192) :
    k0_pay3 (F := Ideal) a0 a1 a2 a3 a4 a5 a6 a7 (ix2 p q)
      = a0 (ix3 0 p q) + a1 (ix3 0 p q) + a2 (ix3 0 p q) + a3 (ix3 0 p q) + a4 (ix3 0 p q) + a5 (ix3 0 p q) + a6 (ix3 0 p q)
        + a7 (ix3 0 p q) := by
  unfold k0_pay3
  simp only [pointwise]

/-- A device's gradient is its part of the array of all devices'. -/
theorem part_eq (x1 : Vec Ideal S8x16x192 .f32) (j : Nat) (hj : j < 8)
    (h : ∀ a, (![j, 0, 0] : Fin 3 → Nat) a + S1x16x192.size a ≤ S8x16x192.size a) (p : Fin 16) (q : Fin 192) :
    View.ld x1 (Rect.unit (s := S8x16x192) ![j, 0, 0] S1x16x192.size h) (ix3 0 p q) = x1 (ix3 (⟨j, hj⟩ : Fin 8) p q) :=
  Norm.congr3 x1 (Block.emb_val (s := S8x16x192) ![j, 0, 0] S1x16x192.size h (ix3 0 p q) 0)
    ((Block.emb_val (s := S8x16x192) ![j, 0, 0] S1x16x192.size h (ix3 0 p q) 1).trans (Nat.zero_add _))
    ((Block.emb_val (s := S8x16x192) ![j, 0, 0] S1x16x192.size h (ix3 0 p q) 2).trans (Nat.zero_add _))

variable (x0 : Vec Ideal S16x192 .f32) (x1 : Vec Ideal S8x16x192 .f32) (x2 x3 : Vec Ideal S16x192 .f32)

/-- The gradient of the body is the sum over the devices. -/
theorem grad_eq (y : S16x192.Idx) : k0_pay5 (F := Ideal) x0 x1 x2 x3 y = Adam.sum8 x1 (y 0) (y 1) := by
  obtain ⟨p, q, rfl⟩ : ∃ p q, y = ix2 p q := ⟨y 0, y 1, funext fun a => match a with | ⟨0, _⟩ => rfl | ⟨1, _⟩ => rfl⟩
  unfold k0_pay5
  refine (pay3_apply _ _ _ _ _ _ _ _ p q).trans ?_
  exact Adam.sum8_eq x1 p q (part_eq x1 0 (by decide) _ p q) (part_eq x1 1 (by decide) _ p q) (part_eq x1 2 (by decide) _ p q)
    (part_eq x1 3 (by decide) _ p q) (part_eq x1 4 (by decide) _ p q) (part_eq x1 5 (by decide) _ p q)
    (part_eq x1 6 (by decide) _ p q) (part_eq x1 7 (by decide) _ p q)

theorem hz : (![0, 0] : Fin 2 → Nat) = fun _ => 0 := funext fun a => by fin_cases a <;> rfl

/-- The first moment of the body. -/
theorem mom_eq (y : S16x192.Idx) : k0_pay6 (F := Ideal) x0 x1 x2 x3 y = Adam.newM (Adam.sum8 x1 (y 0) (y 1)) (x2 y) := by
  have hg := grad_eq x0 x1 x2 x3 y
  have hl : View.ld x2 r0_8 = x2 := View.ld_unit_zero (S := S16x192) hz _ x2
  unfold k0_pay5 at hg
  unfold k0_pay6 k0_pay4 Adam.newM
  rw [hl]
  simp only [pointwise]
  rw [hg]

/-- The second moment of the body. -/
theorem pay1_apply (g v : Vec Ideal S16x192 .f32) (y : S16x192.Idx) : k0_pay1 (F := Ideal) g v y = Adam.newV (g y) (v y) := by
  unfold k0_pay1 Adam.newV
  simp only [pointwise]

theorem vel_eq (y : S16x192.Idx) :
    k0_pay1 (F := Ideal) (k0_pay5 (F := Ideal) x0 x1 x2 x3) x3 y = Adam.newV (Adam.sum8 x1 (y 0) (y 1)) (x3 y) := by
  rw [pay1_apply, grad_eq]

/-- The step of the body. -/
theorem delta_eq (y : S16x192.Idx) :
    k0_pay2 (F := Ideal) (k0_pay5 (F := Ideal) x0 x1 x2 x3) (k0_pay6 (F := Ideal) x0 x1 x2 x3) x3 x0 y
      = Adam.delta (x0 y) (Adam.sum8 x1 (y 0) (y 1)) (x2 y) (x3 y) := by
  unfold k0_pay2 Adam.delta
  simp only [pointwise, mom_eq, vel_eq]

/-- The gradient, as a function of the arguments. -/
def result0 (m : (ℓ : Loc nD τ sig) → Buf (Elt Ideal) ℓ) (c : Dev nD) : Buf (Elt Ideal) ((c.tc : Thread nD τ).loc main_v0_0) :=
  fun y => Adam.sum8 (m ((c.tc : Thread nD τ).loc main_arg1)) (y 0) (y 1)

/-- What is added to the weight, as a function of the arguments. -/
def result1 (m : (ℓ : Loc nD τ sig) → Buf (Elt Ideal) ℓ) (c : Dev nD) : Buf (Elt Ideal) ((c.tc : Thread nD τ).loc main_v0_1) :=
  fun y => Adam.delta (m ((c.tc : Thread nD τ).loc main_arg0) y) (Adam.sum8 (m ((c.tc : Thread nD τ).loc main_arg1)) (y 0) (y 1)) (m ((c.tc : Thread nD τ).loc main_arg2) y) (m ((c.tc : Thread nD τ).loc main_arg3) y)

/-- The new first moment, as a function of the arguments. -/
def result2 (m : (ℓ : Loc nD τ sig) → Buf (Elt Ideal) ℓ) (c : Dev nD) : Buf (Elt Ideal) ((c.tc : Thread nD τ).loc main_v0_2) :=
  fun y => Adam.newM (Adam.sum8 (m ((c.tc : Thread nD τ).loc main_arg1)) (y 0) (y 1)) (m ((c.tc : Thread nD τ).loc main_arg2) y)

/-- The new second moment, as a function of the arguments. -/
def result3 (m : (ℓ : Loc nD τ sig) → Buf (Elt Ideal) ℓ) (c : Dev nD) : Buf (Elt Ideal) ((c.tc : Thread nD τ).loc main_v0_3) :=
  fun y => Adam.newV (Adam.sum8 (m ((c.tc : Thread nD τ).loc main_arg1)) (y 0) (y 1)) (m ((c.tc : Thread nD τ).loc main_arg3) y)

/-- The kernel ends with its four results at these functions of the arguments, the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = result0 m c
      ∧ r.2.mem ((c.tc : Thread nD τ).loc main_v0_1) = result1 m c
      ∧ r.2.mem ((c.tc : Thread nD τ).loc main_v0_2) = result2 m c
      ∧ r.2.mem ((c.tc : Thread nD τ).loc main_v0_3) = result3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (funext fun y => grad_eq _ _ _ _ y), (h c).2.1.trans (funext fun y => delta_eq _ _ _ _ y),
      (h c).2.2.1.trans (funext fun y => mom_eq _ _ _ _ y), (h c).2.2.2.1.trans (funext fun y => vel_eq _ _ _ _ y),
      (h c).2.2.2.2⟩) (Value.run m ρ)

end Kernel

section Reference

open Cert.AdamCwRefIdeal Cert.AdamCwRefIdeal.Gen Cert.AdamCwRefIdeal.Read

variable (x0 : Vec Ideal S16x192 .f32) (x1 : Vec Ideal S8x16x192 .f32) (x2 x3 : Vec Ideal S16x192 .f32)

/-- The reference's gradient. -/
theorem ref_grad (y : S16x192.Idx) : val_main_v0 (F := Ideal) x1 y = Adam.sum8 x1 (y 0) (y 1) := by
  refine (val_main_v0_apply x1 y).trans ?_
  rw [val_main_cst_apply]
  simp only [pointwise, zero_add]
  exact Finset.sum_congr rfl fun k _ => Norm.congr3 x1 rfl rfl rfl

theorem ref_mom (y : S16x192.Idx) : val_main_v5 (F := Ideal) x1 x2 y = Adam.newM (Adam.sum8 x1 (y 0) (y 1)) (x2 y) := by
  unfold Adam.newM
  rw [← ref_grad x1 y]
  simp only [val_main_v5_apply, val_main_v4_apply, val_main_v3_apply, val_main_v2_apply, val_main_v1_apply, val_main_cst_0_apply,
    val_main_cst_1_apply, pointwise]

theorem ref_vel (y : S16x192.Idx) : val_main_v11 (F := Ideal) x1 x3 y = Adam.newV (Adam.sum8 x1 (y 0) (y 1)) (x3 y) := by
  unfold Adam.newV
  rw [← ref_grad x1 y]
  simp only [val_main_v11_apply, val_main_v10_apply, val_main_v9_apply, val_main_v8_apply, val_main_v7_apply, val_main_v6_apply,
    val_main_cst_2_apply, val_main_cst_3_apply, pointwise]

theorem ref_delta (y : S16x192.Idx) :
    val_main_v24 (F := Ideal) x0 x1 x2 x3 y = Adam.delta (x0 y) (Adam.sum8 x1 (y 0) (y 1)) (x2 y) (x3 y) := by
  unfold Adam.delta
  rw [← ref_mom x1 x2 y, ← ref_vel x1 x3 y]
  simp only [val_main_v24_apply, val_main_v23_apply, val_main_v22_apply, val_main_v21_apply, val_main_v20_apply, val_main_v19_apply,
    val_main_v18_apply, val_main_v17_apply, val_main_v16_apply, val_main_v15_apply, val_main_v14_apply, val_main_v13_apply,
    val_main_v12_apply, val_main_cst_4_apply, val_main_cst_5_apply, val_main_cst_6_apply, val_main_cst_7_apply,
    val_main_cst_8_apply, pointwise]

/-- The reference ends with its four results at the same functions of the arguments, the arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = (fun y => Adam.sum8 (m ((c.tc : Thread nD τ).loc main_arg1)) (y 0) (y 1))
      ∧ r.2.mem ((c.tc : Thread nD τ).loc main_v24) = (fun y => Adam.delta (m ((c.tc : Thread nD τ).loc main_arg0) y) (Adam.sum8 (m ((c.tc : Thread nD τ).loc main_arg1)) (y 0) (y 1)) (m ((c.tc : Thread nD τ).loc main_arg2) y) (m ((c.tc : Thread nD τ).loc main_arg3) y))
      ∧ r.2.mem ((c.tc : Thread nD τ).loc main_v5) = (fun y => Adam.newM (Adam.sum8 (m ((c.tc : Thread nD τ).loc main_arg1)) (y 0) (y 1)) (m ((c.tc : Thread nD τ).loc main_arg2) y))
      ∧ r.2.mem ((c.tc : Thread nD τ).loc main_v11) = (fun y => Adam.newV (Adam.sum8 (m ((c.tc : Thread nD τ).loc main_arg1)) (y 0) (y 1)) (m ((c.tc : Thread nD τ).loc main_arg3) y))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1.trans (val_main_v0_eq _)).trans (funext fun y => ref_grad _ y),
      ((h c).2.1.trans (val_main_v24_eq _ _ _ _)).trans (funext fun y => ref_delta _ _ _ _ y),
      ((h c).2.2.1.trans (val_main_v5_eq _ _)).trans (funext fun y => ref_mom _ _ y),
      ((h c).2.2.2.1.trans (val_main_v11_eq _ _)).trans (funext fun y => ref_vel _ _ y),
      (h c).2.2.2.2⟩) (Cert.AdamCwRefIdeal.Value.run m ρ)

end Reference

end Cert.AdamCwVal
-- ==== Proof.AdamSmall.lean ====
/-
  The optimiser's step of the small weights, packed in one array: the kernel's four results and the reference's are the same function of the weight, the
  eight devices' gradients and the two moments.
-/
module

public import proofs.«01_k».proof.Proof.Adam
public import proofs.«01_k».proof.Proof.Gen.AdamSmallIdeal.Value
public import proofs.«01_k».proof.Proof.Gen.AdamSmallRefIdeal.Run
public import proofs.«01_k».proof.Proof.Gen.AdamSmallRefIdeal.Read

@[expose] public section

noncomputable section

namespace Cert.AdamSmallVal

open Idealize.ShloMosaic Idealize.SL.Sem

section Kernel

open Cert.AdamSmallIdeal Cert.AdamSmallIdeal.Gen

/-- The sum of the body, at an index. -/
theorem pay3_apply (a0 a1 a2 a3 a4 a5 a6 a7 : Vec Ideal S1x154x128 .f32) (p : Fin 154) (q : Fin 128) :
    k0_pay3 (F := Ideal) a0 a1 a2 a3 a4 a5 a6 a7 (ix2 p q)
      = a0 (ix3 0 p q) + a1 (ix3 0 p q) + a2 (ix3 0 p q) + a3 (ix3 0 p q) + a4 (ix3 0 p q) + a5 (ix3 0 p q) + a6 (ix3 0 p q)
        + a7 (ix3 0 p q) := by
  unfold k0_pay3
  simp only [pointwise]

/-- A device's gradient is its part of the array of all devices'. -/
theorem part_eq (x1 : Vec Ideal S8x154x128 .f32) (j : Nat) (hj : j < 8)
    (h : ∀ a, (![j, 0, 0] : Fin 3 → Nat) a + S1x154x128.size a ≤ S8x154x128.size a) (p : Fin 154) (q : Fin 128) :
    View.ld x1 (Rect.unit (s := S8x154x128) ![j, 0, 0] S1x154x128.size h) (ix3 0 p q) = x1 (ix3 (⟨j, hj⟩ : Fin 8) p q) :=
  Norm.congr3 x1 (Block.emb_val (s := S8x154x128) ![j, 0, 0] S1x154x128.size h (ix3 0 p q) 0)
    ((Block.emb_val (s := S8x154x128) ![j, 0, 0] S1x154x128.size h (ix3 0 p q) 1).trans (Nat.zero_add _))
    ((Block.emb_val (s := S8x154x128) ![j, 0, 0] S1x154x128.size h (ix3 0 p q) 2).trans (Nat.zero_add _))

variable (x0 : Vec Ideal S154x128 .f32) (x1 : Vec Ideal S8x154x128 .f32) (x2 x3 : Vec Ideal S154x128 .f32)

/-- The gradient of the body is the sum over the devices. -/
theorem grad_eq (y : S154x128.Idx) : k0_pay5 (F := Ideal) x0 x1 x2 x3 y = Adam.sum8 x1 (y 0) (y 1) := by
  obtain ⟨p, q, rfl⟩ : ∃ p q, y = ix2 p q := ⟨y 0, y 1, funext fun a => match a with | ⟨0, _⟩ => rfl | ⟨1, _⟩ => rfl⟩
  unfold k0_pay5
  refine (pay3_apply _ _ _ _ _ _ _ _ p q).trans ?_
  exact Adam.sum8_eq x1 p q (part_eq x1 0 (by decide) _ p q) (part_eq x1 1 (by decide) _ p q) (part_eq x1 2 (by decide) _ p q)
    (part_eq x1 3 (by decide) _ p q) (part_eq x1 4 (by decide) _ p q) (part_eq x1 5 (by decide) _ p q)
    (part_eq x1 6 (by decide) _ p q) (part_eq x1 7 (by decide) _ p q)

theorem hz : (![0, 0] : Fin 2 → Nat) = fun _ => 0 := funext fun a => by fin_cases a <;> rfl

/-- The first moment of the body. -/
theorem mom_eq (y : S154x128.Idx) : k0_pay6 (F := Ideal) x0 x1 x2 x3 y = Adam.newM (Adam.sum8 x1 (y 0) (y 1)) (x2 y) := by
  have hg := grad_eq x0 x1 x2 x3 y
  have hl : View.ld x2 r0_8 = x2 := View.ld_unit_zero (S := S154x128) hz _ x2
  unfold k0_pay5 at hg
  unfold k0_pay6 k0_pay4 Adam.newM
  rw [hl]
  simp only [pointwise]
  rw [hg]

/-- The second moment of the body. -/
theorem pay1_apply (g v : Vec Ideal S154x128 .f32) (y : S154x128.Idx) : k0_pay1 (F := Ideal) g v y = Adam.newV (g y) (v y) := by
  unfold k0_pay1 Adam.newV
  simp only [pointwise]

theorem vel_eq (y : S154x128.Idx) :
    k0_pay1 (F := Ideal) (k0_pay5 (F := Ideal) x0 x1 x2 x3) x3 y = Adam.newV (Adam.sum8 x1 (y 0) (y 1)) (x3 y) := by
  rw [pay1_apply, grad_eq]

/-- The step of the body. -/
theorem delta_eq (y : S154x128.Idx) :
    k0_pay2 (F := Ideal) (k0_pay5 (F := Ideal) x0 x1 x2 x3) (k0_pay6 (F := Ideal) x0 x1 x2 x3) x3 x0 y
      = Adam.delta (x0 y) (Adam.sum8 x1 (y 0) (y 1)) (x2 y) (x3 y) := by
  unfold k0_pay2 Adam.delta
  simp only [pointwise, mom_eq, vel_eq]

/-- The gradient, as a function of the arguments. -/
def result0 (m : (ℓ : Loc nD τ sig) → Buf (Elt Ideal) ℓ) (c : Dev nD) : Buf (Elt Ideal) ((c.tc : Thread nD τ).loc main_v0_0) :=
  fun y => Adam.sum8 (m ((c.tc : Thread nD τ).loc main_arg1)) (y 0) (y 1)

/-- What is added to the weight, as a function of the arguments. -/
def result1 (m : (ℓ : Loc nD τ sig) → Buf (Elt Ideal) ℓ) (c : Dev nD) : Buf (Elt Ideal) ((c.tc : Thread nD τ).loc main_v0_1) :=
  fun y => Adam.delta (m ((c.tc : Thread nD τ).loc main_arg0) y) (Adam.sum8 (m ((c.tc : Thread nD τ).loc main_arg1)) (y 0) (y 1)) (m ((c.tc : Thread nD τ).loc main_arg2) y) (m ((c.tc : Thread nD τ).loc main_arg3) y)

/-- The new first moment, as a function of the arguments. -/
def result2 (m : (ℓ : Loc nD τ sig) → Buf (Elt Ideal) ℓ) (c : Dev nD) : Buf (Elt Ideal) ((c.tc : Thread nD τ).loc main_v0_2) :=
  fun y => Adam.newM (Adam.sum8 (m ((c.tc : Thread nD τ).loc main_arg1)) (y 0) (y 1)) (m ((c.tc : Thread nD τ).loc main_arg2) y)

/-- The new second moment, as a function of the arguments. -/
def result3 (m : (ℓ : Loc nD τ sig) → Buf (Elt Ideal) ℓ) (c : Dev nD) : Buf (Elt Ideal) ((c.tc : Thread nD τ).loc main_v0_3) :=
  fun y => Adam.newV (Adam.sum8 (m ((c.tc : Thread nD τ).loc main_arg1)) (y 0) (y 1)) (m ((c.tc : Thread nD τ).loc main_arg3) y)

/-- The kernel ends with its four results at these functions of the arguments, the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = result0 m c
      ∧ r.2.mem ((c.tc : Thread nD τ).loc main_v0_1) = result1 m c
      ∧ r.2.mem ((c.tc : Thread nD τ).loc main_v0_2) = result2 m c
      ∧ r.2.mem ((c.tc : Thread nD τ).loc main_v0_3) = result3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (funext fun y => grad_eq _ _ _ _ y), (h c).2.1.trans (funext fun y => delta_eq _ _ _ _ y),
      (h c).2.2.1.trans (funext fun y => mom_eq _ _ _ _ y), (h c).2.2.2.1.trans (funext fun y => vel_eq _ _ _ _ y),
      (h c).2.2.2.2⟩) (Value.run m ρ)

end Kernel

section Reference

open Cert.AdamSmallRefIdeal Cert.AdamSmallRefIdeal.Gen Cert.AdamSmallRefIdeal.Read

variable (x0 : Vec Ideal S154x128 .f32) (x1 : Vec Ideal S8x154x128 .f32) (x2 x3 : Vec Ideal S154x128 .f32)

/-- The reference's gradient. -/
theorem ref_grad (y : S154x128.Idx) : val_main_v0 (F := Ideal) x1 y = Adam.sum8 x1 (y 0) (y 1) := by
  refine (val_main_v0_apply x1 y).trans ?_
  rw [val_main_cst_apply]
  simp only [pointwise, zero_add]
  exact Finset.sum_congr rfl fun k _ => Norm.congr3 x1 rfl rfl rfl

theorem ref_mom (y : S154x128.Idx) : val_main_v5 (F := Ideal) x1 x2 y = Adam.newM (Adam.sum8 x1 (y 0) (y 1)) (x2 y) := by
  unfold Adam.newM
  rw [← ref_grad x1 y]
  simp only [val_main_v5_apply, val_main_v4_apply, val_main_v3_apply, val_main_v2_apply, val_main_v1_apply, val_main_cst_0_apply,
    val_main_cst_1_apply, pointwise]

theorem ref_vel (y : S154x128.Idx) : val_main_v11 (F := Ideal) x1 x3 y = Adam.newV (Adam.sum8 x1 (y 0) (y 1)) (x3 y) := by
  unfold Adam.newV
  rw [← ref_grad x1 y]
  simp only [val_main_v11_apply, val_main_v10_apply, val_main_v9_apply, val_main_v8_apply, val_main_v7_apply, val_main_v6_apply,
    val_main_cst_2_apply, val_main_cst_3_apply, pointwise]

theorem ref_delta (y : S154x128.Idx) :
    val_main_v24 (F := Ideal) x0 x1 x2 x3 y = Adam.delta (x0 y) (Adam.sum8 x1 (y 0) (y 1)) (x2 y) (x3 y) := by
  unfold Adam.delta
  rw [← ref_mom x1 x2 y, ← ref_vel x1 x3 y]
  simp only [val_main_v24_apply, val_main_v23_apply, val_main_v22_apply, val_main_v21_apply, val_main_v20_apply, val_main_v19_apply,
    val_main_v18_apply, val_main_v17_apply, val_main_v16_apply, val_main_v15_apply, val_main_v14_apply, val_main_v13_apply,
    val_main_v12_apply, val_main_cst_4_apply, val_main_cst_5_apply, val_main_cst_6_apply, val_main_cst_7_apply,
    val_main_cst_8_apply, pointwise]

/-- The reference ends with its four results at the same functions of the arguments, the arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = (fun y => Adam.sum8 (m ((c.tc : Thread nD τ).loc main_arg1)) (y 0) (y 1))
      ∧ r.2.mem ((c.tc : Thread nD τ).loc main_v24) = (fun y => Adam.delta (m ((c.tc : Thread nD τ).loc main_arg0) y) (Adam.sum8 (m ((c.tc : Thread nD τ).loc main_arg1)) (y 0) (y 1)) (m ((c.tc : Thread nD τ).loc main_arg2) y) (m ((c.tc : Thread nD τ).loc main_arg3) y))
      ∧ r.2.mem ((c.tc : Thread nD τ).loc main_v5) = (fun y => Adam.newM (Adam.sum8 (m ((c.tc : Thread nD τ).loc main_arg1)) (y 0) (y 1)) (m ((c.tc : Thread nD τ).loc main_arg2) y))
      ∧ r.2.mem ((c.tc : Thread nD τ).loc main_v11) = (fun y => Adam.newV (Adam.sum8 (m ((c.tc : Thread nD τ).loc main_arg1)) (y 0) (y 1)) (m ((c.tc : Thread nD τ).loc main_arg3) y))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1.trans (val_main_v0_eq _)).trans (funext fun y => ref_grad _ y),
      ((h c).2.1.trans (val_main_v24_eq _ _ _ _)).trans (funext fun y => ref_delta _ _ _ _ y),
      ((h c).2.2.1.trans (val_main_v5_eq _ _)).trans (funext fun y => ref_mom _ _ y),
      ((h c).2.2.2.1.trans (val_main_v11_eq _ _)).trans (funext fun y => ref_vel _ _ y),
      (h c).2.2.2.2⟩) (Cert.AdamSmallRefIdeal.Value.run m ρ)

end Reference

end Cert.AdamSmallVal
-- ==== Proof.MixBwdRuns.lean ====
/-
  What the runs of the mixer's backward call share: its cases, its windows and its scratch.
-/
module

public import proofs.«01_k».proof.Proof.Gen.MixBwdIdeal.Frame
public import proofs.«01_k».proof.Proof.Gen.MixBwdIdeal.Skeleton

@[expose] public section

set_option maxRecDepth 16384

noncomputable section

namespace Cert.MixBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The arguments end unchanged if every window of an input does. -/
theorem rframe_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(Pipeline.RDat.FramePost.arr_in h c 6 rfl).trans ((hA c 6).trans (V_main_arg0 m c)),
      (Pipeline.RDat.FramePost.arr_in h c 7 rfl).trans ((hA c 7).trans (V_main_arg1 m c)),
      (Pipeline.RDat.FramePost.arr_in h c 8 rfl).trans ((hA c 8).trans (V_main_arg2 m c)),
      (Pipeline.RDat.FramePost.arr_in h c 9 rfl).trans ((hA c 9).trans (V_main_arg3 m c)),
      (Pipeline.RDat.FramePost.arr_in h c 10 rfl).trans ((hA c 10).trans (V_main_arg4 m c)),
      (Pipeline.RDat.FramePost.arr_in h c 11 rfl).trans ((hA c 11).trans (V_main_arg5 m c)),
      (Pipeline.RDat.FramePost.arr_in h c 12 rfl).trans ((hA c 12).trans (V_main_arg6 m c)),
      (Pipeline.RDat.FramePost.arr_in h c 13 rfl).trans ((hA c 13).trans (V_main_arg7 m c)),
      (Pipeline.RDat.FramePost.arr_in h c 14 rfl).trans ((hA c 14).trans (V_main_arg8 m c)),
      (Pipeline.RDat.FramePost.arr_in h c 15 rfl).trans ((hA c 15).trans (V_main_arg9 m c)),
      (Pipeline.RDat.FramePost.arr_in h c 16 rfl).trans ((hA c 16).trans (V_main_arg10 m c)),
      (Pipeline.RDat.FramePost.arr_in h c 17 rfl).trans ((hA c 17).trans (V_main_arg11 m c)),
      (Pipeline.RDat.FramePost.arr_in h c 18 rfl).trans ((hA c 18).trans (V_main_arg12 m c)),
      (Pipeline.RDat.FramePost.arr_in h c 19 rfl).trans ((hA c 19).trans (V_main_arg13 m c)),
      (Pipeline.RDat.FramePost.arr_in h c 20 rfl).trans ((hA c 20).trans (V_main_arg14 m c))⟩) h

/-! ## The body's cases -/

/-- The body is at the first point. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The body is at the last point. -/
abbrev cond0_1 (i : grid0.Coords) : Prop := (Scalar.cmpi .ne (Scalar.extui (Scalar.cmpi .eq (BitVec.ofNat 32 (i 0).val) 31#32)) 0#32) = 1#1
/-- It holds at the last point only. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, e0]
    word_cmp
   : ∀ t : Fin grid0.N, cond0_1 (grid0.coords t) ↔ t.val % 32 = 31)

/-! ## The windows and the scratch -/

/-- Each window at a point, and that it is whole. -/
abbrev ms0_0 (t : Fin cfg0.N) : Memref sig .tc .vmem S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x128x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x3584 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1x1024 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S128x1024 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1024x128 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S256x5760 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S8x1024 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S8x1024 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S8x512 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S8x1024 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S8x128 .f32 := win0_26.stage (cfg0.slots t 26)
abbrev hs0_26 (t : Fin cfg0.N) : (ms0_26 t).IsWhole := hstage0_26 ((cfg0.slots t 26).cast nbuf0_26)
/-- The scratch. -/
abbrev scM0_0 : Memref sig .tc .vmem S128x1024 .f32 := Memref.whole cc0_scratch0
abbrev scM0_1 : Memref sig .tc .vmem S256x1024 .f32 := Memref.whole cc0_scratch1
abbrev scM0_2 : Memref sig .tc .vmem S256x512 .f32 := Memref.whole cc0_scratch2
abbrev scM0_3 : Memref sig .tc .vmem S256x1024 .f32 := Memref.whole cc0_scratch3
abbrev scM0_4 : Memref sig .tc .vmem S256x1024 .f32 := Memref.whole cc0_scratch4
abbrev scM0_5 : Memref sig .tc .vmem S256x1024 .f32 := Memref.whole cc0_scratch5
abbrev scM0_6 : Memref sig .tc .vmem S256x1024 .f32 := Memref.whole cc0_scratch6
abbrev scM0_7 : Memref sig .tc .vmem S256x512 .f32 := Memref.whole cc0_scratch7
abbrev scM0_8 : Memref sig .tc .vmem S256x1024 .f32 := Memref.whole cc0_scratch8
abbrev scM0_9 : Memref sig .tc .vmem S256x1024 .f32 := Memref.whole cc0_scratch9
abbrev scM0_10 : Memref sig .tc .vmem S8x1024 .f32 := Memref.whole cc0_scratch10
abbrev scM0_11 : Memref sig .tc .vmem S8x1024 .f32 := Memref.whole cc0_scratch11
abbrev scM0_12 : Memref sig .tc .vmem S8x512 .f32 := Memref.whole cc0_scratch12
abbrev scM0_13 : Memref sig .tc .vmem S256x1024 .f32 := Memref.whole cc0_scratch13
abbrev scM0_14 : Memref sig .tc .vmem S256x512 .f32 := Memref.whole cc0_scratch14
/-- The carried scratch, as a view. -/
abbrev VS0_0 : View sig .tc .vmem S128x1024 .f32 := scM0_0.view

/-- What holds at the start, the scratch one by one. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, scM0_13, scM0_14, owns_whole]; try rfl

end Cert.MixBwdIdeal.Gen

end
-- ==== Proof.MixBwdRunA.lean ====
/-
  The run of the body of the mixer's backward call at the first point.
-/
module

public import proofs.«01_k».proof.Proof.MixBwdRuns

@[expose] public section

set_option maxRecDepth 16384

noncomputable section

namespace Cert.MixBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The body at the first point: the same with the carried scratch set to nought first. -/
noncomputable def kernelRun0_A (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S256x2048 .bf16) (harg8 : arg8.IsWhole) (arg9 : Memref sig .tc .vmem S4x128x1024 .bf16) (harg9 : arg9.IsWhole) (arg10 : Memref sig .tc .vmem S256x3584 .bf16) (harg10 : arg10.IsWhole) (arg11 : Memref sig .tc .vmem S8x1024 .f32) (harg11 : arg11.IsWhole) (arg12 : Memref sig .tc .vmem S8x1024 .f32) (harg12 : arg12.IsWhole) (arg13 : Memref sig .tc .vmem S8x512 .f32) (harg13 : arg13.IsWhole) (arg14 : Memref sig .tc .vmem S1x1x1024 .f32) (harg14 : arg14.IsWhole) (arg15 : Memref sig .tc .vmem S1x1x512 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S128x1024 .bf16) (harg20 : arg20.IsWhole) (arg21 : Memref sig .tc .vmem S1024x128 .bf16) (harg21 : arg21.IsWhole) (arg22 : Memref sig .tc .vmem S256x5760 .bf16) (harg22 : arg22.IsWhole) (arg23 : Memref sig .tc .vmem S8x1024 .f32) (harg23 : arg23.IsWhole) (arg24 : Memref sig .tc .vmem S8x1024 .f32) (harg24 : arg24.IsWhole) (arg25 : Memref sig .tc .vmem S8x512 .f32) (harg25 : arg25.IsWhole) (arg26 : Memref sig .tc .vmem S8x1024 .f32) (harg26 : arg26.IsWhole) (arg27 : Memref sig .tc .vmem S8x128 .f32) (harg27 : arg27.IsWhole) (arg28 : Memref sig .tc .vmem S128x1024 .f32) (harg28 : arg28.IsWhole) (arg29 : Memref sig .tc .vmem S256x1024 .f32) (harg29 : arg29.IsWhole) (arg30 : Memref sig .tc .vmem S256x512 .f32) (harg30 : arg30.IsWhole) (arg31 : Memref sig .tc .vmem S256x1024 .f32) (harg31 : arg31.IsWhole) (arg32 : Memref sig .tc .vmem S256x1024 .f32) (harg32 : arg32.IsWhole) (arg33 : Memref sig .tc .vmem S256x1024 .f32) (harg33 : arg33.IsWhole) (arg34 : Memref sig .tc .vmem S256x1024 .f32) (harg34 : arg34.IsWhole) (arg35 : Memref sig .tc .vmem S256x512 .f32) (harg35 : arg35.IsWhole) (arg36 : Memref sig .tc .vmem S256x1024 .f32) (harg36 : arg36.IsWhole) (arg37 : Memref sig .tc .vmem S256x1024 .f32) (harg37 : arg37.IsWhole) (arg38 : Memref sig .tc .vmem S8x1024 .f32) (harg38 : arg38.IsWhole) (arg39 : Memref sig .tc .vmem S8x1024 .f32) (harg39 : arg39.IsWhole) (arg40 : Memref sig .tc .vmem S8x512 .f32) (harg40 : arg40.IsWhole) (arg41 : Memref sig .tc .vmem S256x1024 .f32) (harg41 : arg41.IsWhole) (arg42 : Memref sig .tc .vmem S256x512 .f32) (harg42 : arg42.IsWhole) (hc0 : cond0_0 i) (hc1 : ¬cond0_1 i)
    (x0 : Vec F S256x1024 .bf16) (x1 : Vec F S256x1024 .bf16) (x2 : Vec F S256x1024 .bf16) (x3 : Vec F S256x1024 .bf16) (x4 : Vec F S256x1024 .bf16) (x5 : Vec F S256x512 .bf16) (x6 : Vec F S256x128 .bf16) (x7 : Vec F S256x2048 .bf16) (x8 : Vec F S4x128x1024 .bf16) (x9 : Vec F S256x3584 .bf16) (x10 : Vec F S8x1024 .f32) (x11 : Vec F S8x1024 .f32) (x12 : Vec F S8x512 .f32) (x13 : Vec F S1x1x1024 .f32) (x14 : Vec F S1x1x512 .f32) (x15 : Vec F S1x1x128 .f32) (x16 : Vec F S1x1x128 .f32) (x17 : Vec F S1x1x1024 .f32) (x18 : Vec F S1x1x1024 .f32) (x19 : Vec F S128x1024 .bf16) (x20 : Vec F S1024x128 .bf16) :
    Σ' (LS0 : List (View.Piece (Elt F) S128x1024 .f32)), Σ' (LT2 : List (View.Piece (Elt F) S256x512 .f32)), Σ' (LT4 : List (View.Piece (Elt F) S256x1024 .f32)), { LT5 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ f, arg28.view.loc (c : Thread nD τ) ↦[arg28.view.set]{fullShare} arg28.view.writes (Elt F) f LS0) ∗ (∃ d, owns (c : Thread nD τ) arg29 fullShare d) ∗ (∃ f, arg30.view.loc (c : Thread nD τ) ↦[arg30.view.set]{fullShare} arg30.view.writes (Elt F) f LT2) ∗ (∃ d, owns (c : Thread nD τ) arg31 fullShare d) ∗ (∃ f, arg32.view.loc (c : Thread nD τ) ↦[arg32.view.set]{fullShare} arg32.view.writes (Elt F) f LT4) ∗ (∃ f, arg33.view.loc (c : Thread nD τ) ↦[arg33.view.set]{fullShare} arg33.view.writes (Elt F) f LT5) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K } := by
  refine ⟨?_, ?_, ?_, ?_, fun E K => ?run⟩
  case run =>
    simp only [cc0_mixer_bwd_eq_skeleton]; unfold cc0_mixer_bwd_skel
    simp only [k0_part56_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [HS0]; · iexists _; iexact HS0
    isplitl [HS1]
    · iexists _, _; isplitr; swap; · iexact HS1
      ipureintro; rfl
    isplitl [HS2]; · iexists _; iexact HS2
    isplitl [HS3]
    · iexists _, _; isplitr; swap; · iexact HS3
      ipureintro; rfl
    isplitl [HS4]; · iexists _; iexact HS4
    isplitl [HS5]; · iexists _; iexact HS5
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    isplitl [HS12]
    · iexists _, _; isplitr; swap; · iexact HS12
      ipureintro; rfl
    isplitl [HS13]
    · iexists _, _; isplitr; swap; · iexact HS13
      ipureintro; rfl
    iexists _, _; isplitr; swap; · iexact HS14
    ipureintro; rfl

end Cert.MixBwdIdeal.Gen

end
-- ==== Proof.MixBwdRunB.lean ====
/-
  The run of the body of the mixer's backward call at a point between the first and the last.
-/
module

public import proofs.«01_k».proof.Proof.MixBwdRunA

@[expose] public section

set_option maxRecDepth 16384

noncomputable section

namespace Cert.MixBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The body at a point that is neither the first nor the last: from its inputs and the scratch of the point before, it ends
    with the inputs as they were, the carried scratch with the pieces `LS0` written, and the other scratch and the outputs at
    some contents. The pieces are found by the run. -/
noncomputable def kernelRun0_B (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S256x2048 .bf16) (harg8 : arg8.IsWhole) (arg9 : Memref sig .tc .vmem S4x128x1024 .bf16) (harg9 : arg9.IsWhole) (arg10 : Memref sig .tc .vmem S256x3584 .bf16) (harg10 : arg10.IsWhole) (arg11 : Memref sig .tc .vmem S8x1024 .f32) (harg11 : arg11.IsWhole) (arg12 : Memref sig .tc .vmem S8x1024 .f32) (harg12 : arg12.IsWhole) (arg13 : Memref sig .tc .vmem S8x512 .f32) (harg13 : arg13.IsWhole) (arg14 : Memref sig .tc .vmem S1x1x1024 .f32) (harg14 : arg14.IsWhole) (arg15 : Memref sig .tc .vmem S1x1x512 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S128x1024 .bf16) (harg20 : arg20.IsWhole) (arg21 : Memref sig .tc .vmem S1024x128 .bf16) (harg21 : arg21.IsWhole) (arg22 : Memref sig .tc .vmem S256x5760 .bf16) (harg22 : arg22.IsWhole) (arg23 : Memref sig .tc .vmem S8x1024 .f32) (harg23 : arg23.IsWhole) (arg24 : Memref sig .tc .vmem S8x1024 .f32) (harg24 : arg24.IsWhole) (arg25 : Memref sig .tc .vmem S8x512 .f32) (harg25 : arg25.IsWhole) (arg26 : Memref sig .tc .vmem S8x1024 .f32) (harg26 : arg26.IsWhole) (arg27 : Memref sig .tc .vmem S8x128 .f32) (harg27 : arg27.IsWhole) (arg28 : Memref sig .tc .vmem S128x1024 .f32) (harg28 : arg28.IsWhole) (arg29 : Memref sig .tc .vmem S256x1024 .f32) (harg29 : arg29.IsWhole) (arg30 : Memref sig .tc .vmem S256x512 .f32) (harg30 : arg30.IsWhole) (arg31 : Memref sig .tc .vmem S256x1024 .f32) (harg31 : arg31.IsWhole) (arg32 : Memref sig .tc .vmem S256x1024 .f32) (harg32 : arg32.IsWhole) (arg33 : Memref sig .tc .vmem S256x1024 .f32) (harg33 : arg33.IsWhole) (arg34 : Memref sig .tc .vmem S256x1024 .f32) (harg34 : arg34.IsWhole) (arg35 : Memref sig .tc .vmem S256x512 .f32) (harg35 : arg35.IsWhole) (arg36 : Memref sig .tc .vmem S256x1024 .f32) (harg36 : arg36.IsWhole) (arg37 : Memref sig .tc .vmem S256x1024 .f32) (harg37 : arg37.IsWhole) (arg38 : Memref sig .tc .vmem S8x1024 .f32) (harg38 : arg38.IsWhole) (arg39 : Memref sig .tc .vmem S8x1024 .f32) (harg39 : arg39.IsWhole) (arg40 : Memref sig .tc .vmem S8x512 .f32) (harg40 : arg40.IsWhole) (arg41 : Memref sig .tc .vmem S256x1024 .f32) (harg41 : arg41.IsWhole) (arg42 : Memref sig .tc .vmem S256x512 .f32) (harg42 : arg42.IsWhole) (hc0 : ¬cond0_0 i) (hc1 : ¬cond0_1 i)
    (x0 : Vec F S256x1024 .bf16) (x1 : Vec F S256x1024 .bf16) (x2 : Vec F S256x1024 .bf16) (x3 : Vec F S256x1024 .bf16) (x4 : Vec F S256x1024 .bf16) (x5 : Vec F S256x512 .bf16) (x6 : Vec F S256x128 .bf16) (x7 : Vec F S256x2048 .bf16) (x8 : Vec F S4x128x1024 .bf16) (x9 : Vec F S256x3584 .bf16) (x10 : Vec F S8x1024 .f32) (x11 : Vec F S8x1024 .f32) (x12 : Vec F S8x512 .f32) (x13 : Vec F S1x1x1024 .f32) (x14 : Vec F S1x1x512 .f32) (x15 : Vec F S1x1x128 .f32) (x16 : Vec F S1x1x128 .f32) (x17 : Vec F S1x1x1024 .f32) (x18 : Vec F S1x1x1024 .f32) (x19 : Vec F S128x1024 .bf16) (x20 : Vec F S1024x128 .bf16) (xs0 : Vec F S128x1024 .f32) :
    Σ' (LS0 : List (View.Piece (Elt F) S128x1024 .f32)), Σ' (LT2 : List (View.Piece (Elt F) S256x512 .f32)), Σ' (LT4 : List (View.Piece (Elt F) S256x1024 .f32)), { LT5 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ owns (c : Thread nD τ) arg28 fullShare xs0 ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ f, arg28.view.loc (c : Thread nD τ) ↦[arg28.view.set]{fullShare} arg28.view.writes (Elt F) f LS0) ∗ (∃ d, owns (c : Thread nD τ) arg29 fullShare d) ∗ (∃ f, arg30.view.loc (c : Thread nD τ) ↦[arg30.view.set]{fullShare} arg30.view.writes (Elt F) f LT2) ∗ (∃ d, owns (c : Thread nD τ) arg31 fullShare d) ∗ (∃ f, arg32.view.loc (c : Thread nD τ) ↦[arg32.view.set]{fullShare} arg32.view.writes (Elt F) f LT4) ∗ (∃ f, arg33.view.loc (c : Thread nD τ) ↦[arg33.view.set]{fullShare} arg33.view.writes (Elt F) f LT5) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K } := by
  refine ⟨?_, ?_, ?_, ?_, fun E K => ?run⟩
  case run =>
    simp only [cc0_mixer_bwd_eq_skeleton]; unfold cc0_mixer_bwd_skel
    simp only [k0_part56_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg28.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [HS0]; · iexists _; iexact HS0
    isplitl [HS1]
    · iexists _, _; isplitr; swap; · iexact HS1
      ipureintro; rfl
    isplitl [HS2]; · iexists _; iexact HS2
    isplitl [HS3]
    · iexists _, _; isplitr; swap; · iexact HS3
      ipureintro; rfl
    isplitl [HS4]; · iexists _; iexact HS4
    isplitl [HS5]; · iexists _; iexact HS5
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    isplitl [HS12]
    · iexists _, _; isplitr; swap; · iexact HS12
      ipureintro; rfl
    isplitl [HS13]
    · iexists _, _; isplitr; swap; · iexact HS13
      ipureintro; rfl
    iexists _, _; isplitr; swap; · iexact HS14
    ipureintro; rfl

end Cert.MixBwdIdeal.Gen

end
-- ==== Proof.MixBwdRunC.lean ====
/-
  The run of the body of the mixer's backward call at the last point.
-/
module

public import proofs.«01_k».proof.Proof.MixBwdRunA

@[expose] public section

set_option maxRecDepth 16384

noncomputable section

namespace Cert.MixBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The body at the last point: the same as at the points between, with the store of the sum over the heads at the end. -/
noncomputable def kernelRun0_C (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S256x2048 .bf16) (harg8 : arg8.IsWhole) (arg9 : Memref sig .tc .vmem S4x128x1024 .bf16) (harg9 : arg9.IsWhole) (arg10 : Memref sig .tc .vmem S256x3584 .bf16) (harg10 : arg10.IsWhole) (arg11 : Memref sig .tc .vmem S8x1024 .f32) (harg11 : arg11.IsWhole) (arg12 : Memref sig .tc .vmem S8x1024 .f32) (harg12 : arg12.IsWhole) (arg13 : Memref sig .tc .vmem S8x512 .f32) (harg13 : arg13.IsWhole) (arg14 : Memref sig .tc .vmem S1x1x1024 .f32) (harg14 : arg14.IsWhole) (arg15 : Memref sig .tc .vmem S1x1x512 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S128x1024 .bf16) (harg20 : arg20.IsWhole) (arg21 : Memref sig .tc .vmem S1024x128 .bf16) (harg21 : arg21.IsWhole) (arg22 : Memref sig .tc .vmem S256x5760 .bf16) (harg22 : arg22.IsWhole) (arg23 : Memref sig .tc .vmem S8x1024 .f32) (harg23 : arg23.IsWhole) (arg24 : Memref sig .tc .vmem S8x1024 .f32) (harg24 : arg24.IsWhole) (arg25 : Memref sig .tc .vmem S8x512 .f32) (harg25 : arg25.IsWhole) (arg26 : Memref sig .tc .vmem S8x1024 .f32) (harg26 : arg26.IsWhole) (arg27 : Memref sig .tc .vmem S8x128 .f32) (harg27 : arg27.IsWhole) (arg28 : Memref sig .tc .vmem S128x1024 .f32) (harg28 : arg28.IsWhole) (arg29 : Memref sig .tc .vmem S256x1024 .f32) (harg29 : arg29.IsWhole) (arg30 : Memref sig .tc .vmem S256x512 .f32) (harg30 : arg30.IsWhole) (arg31 : Memref sig .tc .vmem S256x1024 .f32) (harg31 : arg31.IsWhole) (arg32 : Memref sig .tc .vmem S256x1024 .f32) (harg32 : arg32.IsWhole) (arg33 : Memref sig .tc .vmem S256x1024 .f32) (harg33 : arg33.IsWhole) (arg34 : Memref sig .tc .vmem S256x1024 .f32) (harg34 : arg34.IsWhole) (arg35 : Memref sig .tc .vmem S256x512 .f32) (harg35 : arg35.IsWhole) (arg36 : Memref sig .tc .vmem S256x1024 .f32) (harg36 : arg36.IsWhole) (arg37 : Memref sig .tc .vmem S256x1024 .f32) (harg37 : arg37.IsWhole) (arg38 : Memref sig .tc .vmem S8x1024 .f32) (harg38 : arg38.IsWhole) (arg39 : Memref sig .tc .vmem S8x1024 .f32) (harg39 : arg39.IsWhole) (arg40 : Memref sig .tc .vmem S8x512 .f32) (harg40 : arg40.IsWhole) (arg41 : Memref sig .tc .vmem S256x1024 .f32) (harg41 : arg41.IsWhole) (arg42 : Memref sig .tc .vmem S256x512 .f32) (harg42 : arg42.IsWhole) (hc0 : ¬cond0_0 i) (hc1 : cond0_1 i)
    (x0 : Vec F S256x1024 .bf16) (x1 : Vec F S256x1024 .bf16) (x2 : Vec F S256x1024 .bf16) (x3 : Vec F S256x1024 .bf16) (x4 : Vec F S256x1024 .bf16) (x5 : Vec F S256x512 .bf16) (x6 : Vec F S256x128 .bf16) (x7 : Vec F S256x2048 .bf16) (x8 : Vec F S4x128x1024 .bf16) (x9 : Vec F S256x3584 .bf16) (x10 : Vec F S8x1024 .f32) (x11 : Vec F S8x1024 .f32) (x12 : Vec F S8x512 .f32) (x13 : Vec F S1x1x1024 .f32) (x14 : Vec F S1x1x512 .f32) (x15 : Vec F S1x1x128 .f32) (x16 : Vec F S1x1x128 .f32) (x17 : Vec F S1x1x1024 .f32) (x18 : Vec F S1x1x1024 .f32) (x19 : Vec F S128x1024 .bf16) (x20 : Vec F S1024x128 .bf16) (xs0 : Vec F S128x1024 .f32) :
    Σ' (LS0 : List (View.Piece (Elt F) S128x1024 .f32)), Σ' (LT2 : List (View.Piece (Elt F) S256x512 .f32)), Σ' (LT4 : List (View.Piece (Elt F) S256x1024 .f32)), { LT5 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ owns (c : Thread nD τ) arg28 fullShare xs0 ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ f, arg28.view.loc (c : Thread nD τ) ↦[arg28.view.set]{fullShare} arg28.view.writes (Elt F) f LS0) ∗ (∃ d, owns (c : Thread nD τ) arg29 fullShare d) ∗ (∃ f, arg30.view.loc (c : Thread nD τ) ↦[arg30.view.set]{fullShare} arg30.view.writes (Elt F) f LT2) ∗ (∃ d, owns (c : Thread nD τ) arg31 fullShare d) ∗ (∃ f, arg32.view.loc (c : Thread nD τ) ↦[arg32.view.set]{fullShare} arg32.view.writes (Elt F) f LT4) ∗ (∃ f, arg33.view.loc (c : Thread nD τ) ↦[arg33.view.set]{fullShare} arg33.view.writes (Elt F) f LT5) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K } := by
  refine ⟨?_, ?_, ?_, ?_, fun E K => ?run⟩
  case run =>
    simp only [cc0_mixer_bwd_eq_skeleton]; unfold cc0_mixer_bwd_skel
    simp only [k0_part56_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg28.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [HS0]; · iexists _; iexact HS0
    isplitl [HS1]
    · iexists _, _; isplitr; swap; · iexact HS1
      ipureintro; rfl
    isplitl [HS2]; · iexists _; iexact HS2
    isplitl [HS3]
    · iexists _, _; isplitr; swap; · iexact HS3
      ipureintro; rfl
    isplitl [HS4]; · iexists _; iexact HS4
    isplitl [HS5]; · iexists _; iexact HS5
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    isplitl [HS12]
    · iexists _, _; isplitr; swap; · iexact HS12
      ipureintro; rfl
    isplitl [HS13]
    · iexists _, _; isplitr; swap; · iexact HS13
      ipureintro; rfl
    iexists _, _; isplitr; swap; · iexact HS14
    ipureintro; rfl

end Cert.MixBwdIdeal.Gen

end
-- ==== Proof.MixBwdFrame.lean ====
/-
  The frame of the mixer's backward call: its arguments end unchanged and every semaphore counter is at zero. The body has
  three cases, the first point, the last and those between; nothing is said of the results.
-/
module

public import proofs.«01_k».proof.Proof.MixBwdRunB
public import proofs.«01_k».proof.Proof.MixBwdRunC
public import Idealize.ShloMosaic.Lib.Claim

@[expose] public section

set_option maxRecDepth 16384

noncomputable section

namespace Cert.MixBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section

variable (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S256x2048 .bf16) (harg8 : arg8.IsWhole) (arg9 : Memref sig .tc .vmem S4x128x1024 .bf16) (harg9 : arg9.IsWhole) (arg10 : Memref sig .tc .vmem S256x3584 .bf16) (harg10 : arg10.IsWhole) (arg11 : Memref sig .tc .vmem S8x1024 .f32) (harg11 : arg11.IsWhole) (arg12 : Memref sig .tc .vmem S8x1024 .f32) (harg12 : arg12.IsWhole) (arg13 : Memref sig .tc .vmem S8x512 .f32) (harg13 : arg13.IsWhole) (arg14 : Memref sig .tc .vmem S1x1x1024 .f32) (harg14 : arg14.IsWhole) (arg15 : Memref sig .tc .vmem S1x1x512 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S128x1024 .bf16) (harg20 : arg20.IsWhole) (arg21 : Memref sig .tc .vmem S1024x128 .bf16) (harg21 : arg21.IsWhole) (arg22 : Memref sig .tc .vmem S256x5760 .bf16) (harg22 : arg22.IsWhole) (arg23 : Memref sig .tc .vmem S8x1024 .f32) (harg23 : arg23.IsWhole) (arg24 : Memref sig .tc .vmem S8x1024 .f32) (harg24 : arg24.IsWhole) (arg25 : Memref sig .tc .vmem S8x512 .f32) (harg25 : arg25.IsWhole) (arg26 : Memref sig .tc .vmem S8x1024 .f32) (harg26 : arg26.IsWhole) (arg27 : Memref sig .tc .vmem S8x128 .f32) (harg27 : arg27.IsWhole) (arg28 : Memref sig .tc .vmem S128x1024 .f32) (harg28 : arg28.IsWhole) (arg29 : Memref sig .tc .vmem S256x1024 .f32) (harg29 : arg29.IsWhole) (arg30 : Memref sig .tc .vmem S256x512 .f32) (harg30 : arg30.IsWhole) (arg31 : Memref sig .tc .vmem S256x1024 .f32) (harg31 : arg31.IsWhole) (arg32 : Memref sig .tc .vmem S256x1024 .f32) (harg32 : arg32.IsWhole) (arg33 : Memref sig .tc .vmem S256x1024 .f32) (harg33 : arg33.IsWhole) (arg34 : Memref sig .tc .vmem S256x1024 .f32) (harg34 : arg34.IsWhole) (arg35 : Memref sig .tc .vmem S256x512 .f32) (harg35 : arg35.IsWhole) (arg36 : Memref sig .tc .vmem S256x1024 .f32) (harg36 : arg36.IsWhole) (arg37 : Memref sig .tc .vmem S256x1024 .f32) (harg37 : arg37.IsWhole) (arg38 : Memref sig .tc .vmem S8x1024 .f32) (harg38 : arg38.IsWhole) (arg39 : Memref sig .tc .vmem S8x1024 .f32) (harg39 : arg39.IsWhole) (arg40 : Memref sig .tc .vmem S8x512 .f32) (harg40 : arg40.IsWhole) (arg41 : Memref sig .tc .vmem S256x1024 .f32) (harg41 : arg41.IsWhole) (arg42 : Memref sig .tc .vmem S256x512 .f32) (harg42 : arg42.IsWhole)

section

variable (hc0 : cond0_0 i) (hc1 : ¬cond0_1 i)
  (x0 : Vec F S256x1024 .bf16) (x1 : Vec F S256x1024 .bf16) (x2 : Vec F S256x1024 .bf16) (x3 : Vec F S256x1024 .bf16) (x4 : Vec F S256x1024 .bf16) (x5 : Vec F S256x512 .bf16) (x6 : Vec F S256x128 .bf16) (x7 : Vec F S256x2048 .bf16) (x8 : Vec F S4x128x1024 .bf16) (x9 : Vec F S256x3584 .bf16) (x10 : Vec F S8x1024 .f32) (x11 : Vec F S8x1024 .f32) (x12 : Vec F S8x512 .f32) (x13 : Vec F S1x1x1024 .f32) (x14 : Vec F S1x1x512 .f32) (x15 : Vec F S1x1x128 .f32) (x16 : Vec F S1x1x128 .f32) (x17 : Vec F S1x1x1024 .f32) (x18 : Vec F S1x1x1024 .f32) (x19 : Vec F S128x1024 .bf16) (x20 : Vec F S1024x128 .bf16)

/-- The pieces that case A writes cover the carried scratch. -/
theorem scover0_A_0 (y : S128x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 x0 x1 x2 x3 x4 x5 x6 x7 x8 x9 x10 x11 x12 x13 x14 x15 x16 x17 x18 x19 x20).1, y ∈ pc.1.set :=
  View.cover_of_wholeMem _ (by sl_whole_mem) y

/-- The carried scratch after case A. -/
def sout0_A_0 : Vec F S128x1024 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 x0 x1 x2 x3 x4 x5 x6 x7 x8 x9 x10 x11 x12 x13 x14 x15 x16 x17 x18 x19 x20).1)

end

section

variable (hc0 : ¬cond0_0 i) (hc1 : ¬cond0_1 i)
  (x0 : Vec F S256x1024 .bf16) (x1 : Vec F S256x1024 .bf16) (x2 : Vec F S256x1024 .bf16) (x3 : Vec F S256x1024 .bf16) (x4 : Vec F S256x1024 .bf16) (x5 : Vec F S256x512 .bf16) (x6 : Vec F S256x128 .bf16) (x7 : Vec F S256x2048 .bf16) (x8 : Vec F S4x128x1024 .bf16) (x9 : Vec F S256x3584 .bf16) (x10 : Vec F S8x1024 .f32) (x11 : Vec F S8x1024 .f32) (x12 : Vec F S8x512 .f32) (x13 : Vec F S1x1x1024 .f32) (x14 : Vec F S1x1x512 .f32) (x15 : Vec F S1x1x128 .f32) (x16 : Vec F S1x1x128 .f32) (x17 : Vec F S1x1x1024 .f32) (x18 : Vec F S1x1x1024 .f32) (x19 : Vec F S128x1024 .bf16) (x20 : Vec F S1024x128 .bf16) (xs0 : Vec F S128x1024 .f32)

/-- The pieces that case B writes cover the carried scratch. -/
theorem scover0_B_0 (y : S128x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 x0 x1 x2 x3 x4 x5 x6 x7 x8 x9 x10 x11 x12 x13 x14 x15 x16 x17 x18 x19 x20 xs0).1, y ∈ pc.1.set :=
  View.cover_of_tiledL (s := S128x1024) _ S128x512.size (by sl_kernel_rfl) y

/-- The carried scratch after case B. -/
def sout0_B_0 : Vec F S128x1024 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 x0 x1 x2 x3 x4 x5 x6 x7 x8 x9 x10 x11 x12 x13 x14 x15 x16 x17 x18 x19 x20 xs0).1)

end

section

variable (hc0 : ¬cond0_0 i) (hc1 : cond0_1 i)
  (x0 : Vec F S256x1024 .bf16) (x1 : Vec F S256x1024 .bf16) (x2 : Vec F S256x1024 .bf16) (x3 : Vec F S256x1024 .bf16) (x4 : Vec F S256x1024 .bf16) (x5 : Vec F S256x512 .bf16) (x6 : Vec F S256x128 .bf16) (x7 : Vec F S256x2048 .bf16) (x8 : Vec F S4x128x1024 .bf16) (x9 : Vec F S256x3584 .bf16) (x10 : Vec F S8x1024 .f32) (x11 : Vec F S8x1024 .f32) (x12 : Vec F S8x512 .f32) (x13 : Vec F S1x1x1024 .f32) (x14 : Vec F S1x1x512 .f32) (x15 : Vec F S1x1x128 .f32) (x16 : Vec F S1x1x128 .f32) (x17 : Vec F S1x1x1024 .f32) (x18 : Vec F S1x1x1024 .f32) (x19 : Vec F S128x1024 .bf16) (x20 : Vec F S1024x128 .bf16) (xs0 : Vec F S128x1024 .f32)

/-- The pieces that case C writes cover the carried scratch. -/
theorem scover0_C_0 (y : S128x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 x0 x1 x2 x3 x4 x5 x6 x7 x8 x9 x10 x11 x12 x13 x14 x15 x16 x17 x18 x19 x20 xs0).1, y ∈ pc.1.set :=
  View.cover_of_tiledL (s := S128x1024) _ S128x512.size (by sl_kernel_rfl) y

/-- The carried scratch after case C. -/
def sout0_C_0 : Vec F S128x1024 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 hc0 hc1 x0 x1 x2 x3 x4 x5 x6 x7 x8 x9 x10 x11 x12 x13 x14 x15 x16 x17 x18 x19 x20 xs0).1)

end

end

/-! ## The carried scratch -/

/-- The carried scratch after point `n`: the first point starts it, the last and the points between go on from the point
    before. -/
def outsAt0 (c : Dev nD) : (n : ℕ) → n < cfg0.N → Vec F S128x1024 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) ((hcond0_0 ⟨0, hn⟩).mpr (Nat.zero_mod _)) (fun h => (fun h => by (try dsimp only at h); omega) ((hcond0_1 ⟨0, hn⟩).mp h)) (X0_0 m c ⟨0, hn⟩) (X0_1 m c ⟨0, hn⟩) (X0_2 m c ⟨0, hn⟩) (X0_3 m c ⟨0, hn⟩) (X0_4 m c ⟨0, hn⟩) (X0_5 m c ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩)
  | n + 1, hn =>
    if h0 : (n + 1) % 32 = 0 then
      if h1 : (n + 1) % 32 = 31 then
        False.elim (by have hN : n + 1 < 32 := lt_of_lt_of_eq hn (show cfg0.N = 32 from N_0); omega)
      else
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) ((hcond0_0 ⟨n + 1, hn⟩).mpr h0) (fun h => h1 ((hcond0_1 ⟨n + 1, hn⟩).mp h)) (X0_0 m c ⟨n + 1, hn⟩) (X0_1 m c ⟨n + 1, hn⟩) (X0_2 m c ⟨n + 1, hn⟩) (X0_3 m c ⟨n + 1, hn⟩) (X0_4 m c ⟨n + 1, hn⟩) (X0_5 m c ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩)
    else
      if h1 : (n + 1) % 32 = 31 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) (fun h => h0 ((hcond0_0 ⟨n + 1, hn⟩).mp h)) ((hcond0_1 ⟨n + 1, hn⟩).mpr h1) (X0_0 m c ⟨n + 1, hn⟩) (X0_1 m c ⟨n + 1, hn⟩) (X0_2 m c ⟨n + 1, hn⟩) (X0_3 m c ⟨n + 1, hn⟩) (X0_4 m c ⟨n + 1, hn⟩) (X0_5 m c ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (outsAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) (fun h => h0 ((hcond0_0 ⟨n + 1, hn⟩).mp h)) (fun h => h1 ((hcond0_1 ⟨n + 1, hn⟩).mp h)) (X0_0 m c ⟨n + 1, hn⟩) (X0_1 m c ⟨n + 1, hn⟩) (X0_2 m c ⟨n + 1, hn⟩) (X0_3 m c ⟨n + 1, hn⟩) (X0_4 m c ⟨n + 1, hn⟩) (X0_5 m c ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (outsAt0 c n (Nat.lt_of_succ_lt hn))

/-- The carried scratch after a point of case A. -/
theorem outsAt0_A (c : Dev nD) (t : Fin cfg0.N) (h0 : t.val % 32 = 0) (h1 : ¬t.val % 32 = 31) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) ((hcond0_0 t).mpr h0) (fun h => h1 ((hcond0_1 t).mp h)) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by
  obtain ⟨n, hn⟩ := t
  cases n with
  | zero => exact rfl
  | succ n => exact (dif_pos h0).trans ((dif_neg h1).trans rfl)

/-- The carried scratch after a point of case B. -/
theorem outsAt0_B (c : Dev nD) (t : Fin cfg0.N) (h0 : ¬t.val % 32 = 0) (h1 : ¬t.val % 32 = 31) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) (fun h => h0 ((hcond0_0 t).mp h)) (fun h => h1 ((hcond0_1 t).mp h)) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The carried scratch after a point of case C. -/
theorem outsAt0_C (c : Dev nD) (t : Fin cfg0.N) (h0 : ¬t.val % 32 = 0) (h1 : t.val % 32 = 31) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) (fun h => h0 ((hcond0_0 t).mp h)) ((hcond0_1 t).mpr h1) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What holds before point `n`: every scratch is at some contents, and after the first point the carried one is at what the
    point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d)) ∗ (∃ r, prngReg c r)) := by
  cases n with
  | zero => exact absurd rfl hz
  | succ n => rfl

/-! ## The arrays at each point -/

/-- The windows of the results, of whose contents nothing is said. -/
def forgets0 : Fin 27 → Bool := fun w => w.val == 21 || w.val == 22 || w.val == 23 || w.val == 24 || w.val == 25 || w.val == 26

/-- What the arrays, the windows and the scratch hold at each point. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨_ + 27, h⟩ => absurd h (Nat.not_lt.2 (Nat.le_add_left _ _))
  Φ t := PhiS m c t.val (Nat.le_of_lt_succ t.isLt)
  q w := Pipeline.shareOf spec0 w
  owed _ := 0

/-- The arrays are those with which the call begins. -/
theorem A_eq (c : Dev nD) (w : Fin cfg0.W) : (dats m 0 c).A w = V m c (Pipeline.arrRef spec0 w) := by
  dsimp only [dats]

/-- What holds before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Each input is left as its block. -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]

/-- Each input is its block before the body. -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body at any point -/

/-- What the body starts with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d))

/-- What the body ends with at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d))

set_option maxHeartbeats 48000000 in
/-- The body at any point, by the three cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 32 = 31
    · exfalso; omega
    · by_cases hz : t.val = 0
      · rw [PhiS_castSucc m c t, PhiS_zero m c _ _ hz, PhiA0_eq]
        rw [outsAt0_A m c t h0 h1]
        unfold sout0_A_0
        iintro ⟨⟨⟨HS0, HS1, HS2, HS3, HS4, HS5, HS6, HS7, HS8, HS9, HS10, HS11, HS12, HS13, HS14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexists _; iexact H21
        isplitl [H22]; · iexists _; iexact H22
        isplitl [H23]; · iexists _; iexact H23
        isplitl [H24]; · iexists _; iexact H24
        isplitl [H25]; · iexists _; iexact H25
        isplitl [H26]; · iexists _; iexact H26
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        isplitl [HS12]; · iexact HS12
        isplitl [HS13]; · iexact HS13
        isplitl [HS14]; · iexact HS14
        iintro ⟨H0, H1, H2, H3, H4, H5, H6, H7, H8, H9, H10, H11, H12, H13, H14, H15, H16, H17, H18, H19, H20, H21, H22, H23, H24, H25, H26, ⟨%es0, HS0⟩, HS1, ⟨%fT2, HS2⟩, HS3, ⟨%fT4, HS4⟩, ⟨%fT5, HS5⟩, HS6, HS7, HS8, HS9, HS10, HS11, HS12, HS13, HS14⟩
        isplitl [HS0 HS1 HS2 HS3 HS4 HS5 HS6 HS7 HS8 HS9 HS10 HS11 HS12 HS13 HS14 Hg]
        · isplitl [HS0 HS1 HS2 HS3 HS4 HS5 HS6 HS7 HS8 HS9 HS10 HS11 HS12 HS13 HS14]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · iexact HS1
            isplitl [HS2]
            · iexists _; unfold owns; iexists _; isplitr
              swap; · iexact HS2
              ipureintro; rfl
            isplitl [HS3]
            · iexact HS3
            isplitl [HS4]
            · iexists _; unfold owns; iexists _; isplitr
              swap; · iexact HS4
              ipureintro; rfl
            isplitl [HS5]
            · iexists _; unfold owns; iexists _; isplitr
              swap; · iexact HS5
              ipureintro; rfl
            isplitl [HS6]
            · iexact HS6
            isplitl [HS7]
            · iexact HS7
            isplitl [HS8]
            · iexact HS8
            isplitl [HS9]
            · iexact HS9
            isplitl [HS10]
            · iexact HS10
            isplitl [HS11]
            · iexact HS11
            isplitl [HS12]
            · iexact HS12
            isplitl [HS13]
            · iexact HS13
            iexact HS14
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        isplitl [H25]; · iexact H25
        iexact H26
      · exfalso; have hN : t.val < 32 := lt_of_lt_of_eq t.isLt (show cfg0.N = 32 from N_0); omega
  · by_cases h1 : t.val % 32 = 31
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        unfold sout0_C_0
        iintro ⟨⟨⟨HS0, HS1, HS2, HS3, HS4, HS5, HS6, HS7, HS8, HS9, HS10, HS11, HS12, HS13, HS14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexists _; iexact H21
        isplitl [H22]; · iexists _; iexact H22
        isplitl [H23]; · iexists _; iexact H23
        isplitl [H24]; · iexists _; iexact H24
        isplitl [H25]; · iexists _; iexact H25
        isplitl [H26]; · iexists _; iexact H26
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        isplitl [HS12]; · iexact HS12
        isplitl [HS13]; · iexact HS13
        isplitl [HS14]; · iexact HS14
        iintro ⟨H0, H1, H2, H3, H4, H5, H6, H7, H8, H9, H10, H11, H12, H13, H14, H15, H16, H17, H18, H19, H20, H21, H22, H23, H24, H25, H26, ⟨%es0, HS0⟩, HS1, ⟨%fT2, HS2⟩, HS3, ⟨%fT4, HS4⟩, ⟨%fT5, HS5⟩, HS6, HS7, HS8, HS9, HS10, HS11, HS12, HS13, HS14⟩
        isplitl [HS0 HS1 HS2 HS3 HS4 HS5 HS6 HS7 HS8 HS9 HS10 HS11 HS12 HS13 HS14 Hg]
        · isplitl [HS0 HS1 HS2 HS3 HS4 HS5 HS6 HS7 HS8 HS9 HS10 HS11 HS12 HS13 HS14]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · iexact HS1
            isplitl [HS2]
            · iexists _; unfold owns; iexists _; isplitr
              swap; · iexact HS2
              ipureintro; rfl
            isplitl [HS3]
            · iexact HS3
            isplitl [HS4]
            · iexists _; unfold owns; iexists _; isplitr
              swap; · iexact HS4
              ipureintro; rfl
            isplitl [HS5]
            · iexists _; unfold owns; iexists _; isplitr
              swap; · iexact HS5
              ipureintro; rfl
            isplitl [HS6]
            · iexact HS6
            isplitl [HS7]
            · iexact HS7
            isplitl [HS8]
            · iexact HS8
            isplitl [HS9]
            · iexact HS9
            isplitl [HS10]
            · iexact HS10
            isplitl [HS11]
            · iexact HS11
            isplitl [HS12]
            · iexact HS12
            isplitl [HS13]
            · iexact HS13
            iexact HS14
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        isplitl [H25]; · iexact H25
        iexact H26
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold sout0_B_0
        iintro ⟨⟨⟨HS0, HS1, HS2, HS3, HS4, HS5, HS6, HS7, HS8, HS9, HS10, HS11, HS12, HS13, HS14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexists _; iexact H21
        isplitl [H22]; · iexists _; iexact H22
        isplitl [H23]; · iexists _; iexact H23
        isplitl [H24]; · iexists _; iexact H24
        isplitl [H25]; · iexists _; iexact H25
        isplitl [H26]; · iexists _; iexact H26
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        isplitl [HS12]; · iexact HS12
        isplitl [HS13]; · iexact HS13
        isplitl [HS14]; · iexact HS14
        iintro ⟨H0, H1, H2, H3, H4, H5, H6, H7, H8, H9, H10, H11, H12, H13, H14, H15, H16, H17, H18, H19, H20, H21, H22, H23, H24, H25, H26, ⟨%es0, HS0⟩, HS1, ⟨%fT2, HS2⟩, HS3, ⟨%fT4, HS4⟩, ⟨%fT5, HS5⟩, HS6, HS7, HS8, HS9, HS10, HS11, HS12, HS13, HS14⟩
        isplitl [HS0 HS1 HS2 HS3 HS4 HS5 HS6 HS7 HS8 HS9 HS10 HS11 HS12 HS13 HS14 Hg]
        · isplitl [HS0 HS1 HS2 HS3 HS4 HS5 HS6 HS7 HS8 HS9 HS10 HS11 HS12 HS13 HS14]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · iexact HS1
            isplitl [HS2]
            · iexists _; unfold owns; iexists _; isplitr
              swap; · iexact HS2
              ipureintro; rfl
            isplitl [HS3]
            · iexact HS3
            isplitl [HS4]
            · iexists _; unfold owns; iexists _; isplitr
              swap; · iexact HS4
              ipureintro; rfl
            isplitl [HS5]
            · iexists _; unfold owns; iexists _; isplitr
              swap; · iexact HS5
              ipureintro; rfl
            isplitl [HS6]
            · iexact HS6
            isplitl [HS7]
            · iexact HS7
            isplitl [HS8]
            · iexact HS8
            isplitl [HS9]
            · iexact HS9
            isplitl [HS10]
            · iexact HS10
            isplitl [HS11]
            · iexact HS11
            isplitl [HS12]
            · iexact HS12
            isplitl [HS13]
            · iexact HS13
            iexact HS14
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        isplitl [H25]; · iexact H25
        iexact H26

/-- The body that the pipeline calls at a point. -/
theorem defs₀_row (t : Fin cfg0.N) :
    defs₀ (F := F) .tc cfg0.body (cfg0.bodyArgs t (cfg0.slots t)) = bodyAt0 t := by
  unfold defs₀; rw [Defs.onTc_tc]

set_option maxHeartbeats 48000000 in
/-- The body as the pipeline asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What holds before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After a point the scratch may be at anything. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9, HS10, HS11, HS12, HS13, HS14⟩, Hg⟩
  isplitl [HS0 HS1 HS2 HS3 HS4 HS5 HS6 HS7 HS8 HS9 HS10 HS11 HS12 HS13 HS14]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    isplitl [HS6]
    · iexact HS6
    isplitl [HS7]
    · iexact HS7
    isplitl [HS8]
    · iexact HS8
    isplitl [HS9]
    · iexact HS9
    isplitl [HS10]
    · iexact HS10
    isplitl [HS11]
    · iexact HS11
    isplitl [HS12]
    · iexact HS12
    isplitl [HS13]
    · iexact HS13
    iexact HS14
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- The run of the call, with every semaphore counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- The run of the call: the arrays of the inputs end as they began. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  rframe_of m ρ (fun c => (dats m 0 c).toRForget forgets0) (A_eq m) (run_main m ρ)

/-- The arguments end unchanged and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.MixBwdIdeal.Gen

end
-- ==== Proof.MixBwd.lean ====
/-
  The frame of the kernel of the mixer's backward call, from the run of its ideal kernel: it is proved at any
  elements, and at bits the two kernels are the same text.
-/
module

public import proofs.«01_k».proof.Defs
public import proofs.«01_k».proof.Proof.Gen.MixBwd
public import proofs.«01_k».proof.Proof.MixBwdFrame

@[expose] public section

noncomputable section

namespace Cert.MixBwdVal

open Idealize.ShloMosaic Idealize.ShloMosaic.TcCoe Idealize.ShloMosaic.Tactic Idealize.SL.Sem Cert.MixBwdIdeal

/-- The ideal kernel at bits leaves its arguments and every semaphore counter as they were. -/
def Quiet : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0)

theorem quiet : Quiet := fun m ρ _ => Gen.frame (F := Bits) m ρ

theorem same : Quiet = Cert.quiescent_MixBwd (hMixBwd := Cert.MixBwd.Gen.facts) := by sl_kernel_rfl

theorem frame_bits : Cert.quiescent_MixBwd (hMixBwd := Cert.MixBwd.Gen.facts) := same.mp quiet

end Cert.MixBwdVal

end
-- ==== Proof.MixFwd.lean ====
/-
  The frame of the kernel of the mixer's forward call, from the run of its ideal kernel: the ideal kernel's run is proved at any
  elements, and at bits the two kernels are the same text.
-/
module

public import proofs.«01_k».proof.Defs
public import proofs.«01_k».proof.Proof.Gen.MixFwd
public import proofs.«01_k».proof.Proof.Gen.MixFwdIdeal.Frame

@[expose] public section

noncomputable section

namespace Cert.MixFwdVal

open Idealize.ShloMosaic Idealize.ShloMosaic.TcCoe Idealize.ShloMosaic.Tactic Idealize.SL.Sem Cert.MixFwdIdeal

/-- The ideal kernel at bits leaves its arguments and every semaphore counter as they were. -/
def Quiet : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0)

theorem quiet : Quiet := fun m ρ _ => Gen.frame (F := Bits) m ρ

/-- That is the frame of the kernel. -/
theorem same : Quiet = Cert.quiescent_MixFwd (hMixFwd := Cert.MixFwd.Gen.facts) := by sl_kernel_rfl

theorem frame_bits : Cert.quiescent_MixFwd (hMixFwd := Cert.MixFwd.Gen.facts) := same.mp quiet

end Cert.MixFwdVal

end
-- ==== Proof.lean ====
/-
  The proof of the claims: of each call of the training step that is stated, that the kernel and its reference end with
  their arguments unchanged and every semaphore counter at zero, and that over the extended reals they compute the same.
-/
module

public import proofs.«01_k».proof.Defs
public import proofs.«01_k».proof.Proof.Du
public import proofs.«01_k».proof.Proof.Gen.Du.Frame
public import proofs.«01_k».proof.Proof.DwDown
public import proofs.«01_k».proof.Proof.Gen.DwDown.Frame
public import proofs.«01_k».proof.Proof.DwUp
public import proofs.«01_k».proof.Proof.Gen.DwUp.Frame
public import proofs.«01_k».proof.Proof.Dy
public import proofs.«01_k».proof.Proof.Gen.Dy.Frame
public import proofs.«01_k».proof.Proof.DwOut
public import proofs.«01_k».proof.Proof.Gen.DwOut.Frame
public import proofs.«01_k».proof.Proof.DwIn
public import proofs.«01_k».proof.Proof.Gen.DwIn.Frame
public import proofs.«01_k».proof.Proof.MlpDx
public import proofs.«01_k».proof.Proof.Gen.MlpDx.Frame
public import proofs.«01_k».proof.Proof.InDx
public import proofs.«01_k».proof.Proof.Gen.InDx.Frame
public import proofs.«01_k».proof.Proof.InProj
public import proofs.«01_k».proof.Proof.Gen.InProj.Frame
public import proofs.«01_k».proof.Proof.UpProj
public import proofs.«01_k».proof.Proof.Gen.UpProj.Frame
public import proofs.«01_k».proof.Proof.OutProj
public import proofs.«01_k».proof.Proof.Gen.OutProj.Frame
public import proofs.«01_k».proof.Proof.DownProj
public import proofs.«01_k».proof.Proof.Gen.DownProj.Frame
public import proofs.«01_k».proof.Proof.LossHead
public import proofs.«01_k».proof.Proof.Gen.LossHead.Frame
public import proofs.«01_k».proof.Proof.AdamOut
public import proofs.«01_k».proof.Proof.Gen.AdamOut.Frame
public import proofs.«01_k».proof.Proof.AdamUp
public import proofs.«01_k».proof.Proof.Gen.AdamUp.Frame
public import proofs.«01_k».proof.Proof.AdamDown
public import proofs.«01_k».proof.Proof.Gen.AdamDown.Frame
public import proofs.«01_k».proof.Proof.AdamIn
public import proofs.«01_k».proof.Proof.Gen.AdamIn.Frame
public import proofs.«01_k».proof.Proof.AdamSc
public import proofs.«01_k».proof.Proof.Gen.AdamSc.Frame
public import proofs.«01_k».proof.Proof.AdamCw
public import proofs.«01_k».proof.Proof.Gen.AdamCw.Frame
public import proofs.«01_k».proof.Proof.AdamSmall
public import proofs.«01_k».proof.Proof.Gen.AdamSmall.Frame
public import proofs.«01_k».proof.Proof.MixBwd
public import proofs.«01_k».proof.Proof.MixFwd
public import Idealize.ShloMosaic.Lib.Quiescent

@[expose] public section

noncomputable section

namespace Cert.Proof

open Idealize.ShloMosaic Idealize.SL.Sem

/-- The reference of the gradient of the squared activation leaves its arguments and every semaphore counter as they were. -/
theorem quiescent_DuRefIdeal : Cert.quiescent_DuRefIdeal (hDuRefIdeal := Cert.DuRefIdeal.Gen.facts) := fun m ρ _ =>
  (θ_run Cert.DuRefIdeal.defs _ _).mono
    (fun r h => ⟨fun c => (h c).2, sem_eq_zero_of_no_sems (by decide) r.2⟩) (Cert.DuVal.ref_run m ρ)

/-- The kernel of the gradient of the squared activation and its reference compute the same over the extended reals. -/
theorem algebraic_Du : Cert.algebraic_DuIdeal_DuRefIdeal (hDuIdeal := Cert.DuIdeal.Gen.facts)
    (hDuRefIdeal := Cert.DuRefIdeal.Gen.facts) := by
  intro m ρ m' ρ' _ hagree
  refine ⟨fun c => Cert.DuVal.result m c, Cert.DuVal.run m ρ, ?_⟩
  refine (θ_run Cert.DuRefIdeal.defs _ _).mono (fun r h c => ?_) (Cert.DuVal.ref_run m' ρ')
  refine ⟨(h c).1.trans ?_, (h c).2⟩
  rw [(hagree c).1, (hagree c).2.1, (hagree c).2.2]

/-- The reference of the gradient of the MLP's down weight leaves its arguments and every semaphore counter as they were. -/
theorem quiescent_DwDownRefIdeal : Cert.quiescent_DwDownRefIdeal (hDwDownRefIdeal := Cert.DwDownRefIdeal.Gen.facts) := fun m ρ _ =>
  (θ_run Cert.DwDownRefIdeal.defs _ _).mono
    (fun r h => ⟨fun c => (h c).2, sem_eq_zero_of_no_sems (by decide) r.2⟩) (Cert.DwDownVal.ref_run m ρ)

/-- The kernel of the gradient of the MLP's down weight and its reference compute the same over the extended reals. -/
theorem algebraic_DwDown : Cert.algebraic_DwDownIdeal_DwDownRefIdeal (hDwDownIdeal := Cert.DwDownIdeal.Gen.facts)
    (hDwDownRefIdeal := Cert.DwDownRefIdeal.Gen.facts) := by
  intro m ρ m' ρ' _ hagree
  refine ⟨fun c => Cert.DwDownVal.result m c, Cert.DwDownVal.run m ρ, ?_⟩
  refine (θ_run Cert.DwDownRefIdeal.defs _ _).mono (fun r h c => ?_) (Cert.DwDownVal.ref_run m' ρ')
  refine ⟨(h c).1.trans ?_, (h c).2⟩
  rw [(hagree c).1, (hagree c).2]

/-- The reference of the gradient of the MLP's up weight leaves its arguments and every semaphore counter as they were. -/
theorem quiescent_DwUpRefIdeal : Cert.quiescent_DwUpRefIdeal (hDwUpRefIdeal := Cert.DwUpRefIdeal.Gen.facts) := fun m ρ _ =>
  (θ_run Cert.DwUpRefIdeal.defs _ _).mono
    (fun r h => ⟨fun c => (h c).2, sem_eq_zero_of_no_sems (by decide) r.2⟩) (Cert.DwUpVal.ref_run m ρ)

/-- The kernel of the gradient of the MLP's up weight and its reference compute the same over the extended reals. -/
theorem algebraic_DwUp : Cert.algebraic_DwUpIdeal_DwUpRefIdeal (hDwUpIdeal := Cert.DwUpIdeal.Gen.facts)
    (hDwUpRefIdeal := Cert.DwUpRefIdeal.Gen.facts) := by
  intro m ρ m' ρ' _ hagree
  refine ⟨fun c => Cert.DwUpVal.result m c, Cert.DwUpVal.run m ρ, ?_⟩
  refine (θ_run Cert.DwUpRefIdeal.defs _ _).mono (fun r h c => ?_) (Cert.DwUpVal.ref_run m' ρ')
  refine ⟨(h c).1.trans ?_, (h c).2⟩
  rw [(hagree c).1, (hagree c).2]

/-- The reference of the gradient of the mixer's output leaves its arguments and every semaphore counter as they were. -/
theorem quiescent_DyRefIdeal : Cert.quiescent_DyRefIdeal (hDyRefIdeal := Cert.DyRefIdeal.Gen.facts) := fun m ρ _ =>
  (θ_run Cert.DyRefIdeal.defs _ _).mono
    (fun r h => ⟨fun c => (h c).2, sem_eq_zero_of_no_sems (by decide) r.2⟩) (Cert.DyVal.ref_run m ρ)

/-- The kernel of the gradient of the mixer's output and its reference compute the same over the extended reals. -/
theorem algebraic_Dy : Cert.algebraic_DyIdeal_DyRefIdeal (hDyIdeal := Cert.DyIdeal.Gen.facts)
    (hDyRefIdeal := Cert.DyRefIdeal.Gen.facts) := by
  intro m ρ m' ρ' _ hagree
  refine ⟨fun c => Cert.DyVal.result m c, Cert.DyVal.run m ρ, ?_⟩
  refine (θ_run Cert.DyRefIdeal.defs _ _).mono (fun r h c => ?_) (Cert.DyVal.ref_run m' ρ')
  refine ⟨(h c).1.trans ?_, (h c).2⟩
  rw [(hagree c).1, (hagree c).2]

/-- The reference of the gradient of the mixer's output weight leaves its arguments and every semaphore counter as they were. -/
theorem quiescent_DwOutRefIdeal : Cert.quiescent_DwOutRefIdeal (hDwOutRefIdeal := Cert.DwOutRefIdeal.Gen.facts) := fun m ρ _ =>
  (θ_run Cert.DwOutRefIdeal.defs _ _).mono
    (fun r h => ⟨fun c => (h c).2, sem_eq_zero_of_no_sems (by decide) r.2⟩) (Cert.DwOutVal.ref_run m ρ)

/-- The kernel of the gradient of the mixer's output weight and its reference compute the same over the extended reals. -/
theorem algebraic_DwOut : Cert.algebraic_DwOutIdeal_DwOutRefIdeal (hDwOutIdeal := Cert.DwOutIdeal.Gen.facts)
    (hDwOutRefIdeal := Cert.DwOutRefIdeal.Gen.facts) := by
  intro m ρ m' ρ' _ hagree
  refine ⟨fun c => Cert.DwOutVal.result m c, Cert.DwOutVal.run m ρ, ?_⟩
  refine (θ_run Cert.DwOutRefIdeal.defs _ _).mono (fun r h c => ?_) (Cert.DwOutVal.ref_run m' ρ')
  refine ⟨(h c).1.trans ?_, (h c).2⟩
  rw [(hagree c).1, (hagree c).2]

/-- The reference of the gradient of the mixer's input weight leaves its arguments and every semaphore counter as they were. -/
theorem quiescent_DwInRefIdeal : Cert.quiescent_DwInRefIdeal (hDwInRefIdeal := Cert.DwInRefIdeal.Gen.facts) := fun m ρ _ =>
  (θ_run Cert.DwInRefIdeal.defs _ _).mono
    (fun r h => ⟨fun c => (h c).2, sem_eq_zero_of_no_sems (by decide) r.2⟩) (Cert.DwInVal.ref_run m ρ)

/-- The kernel of the gradient of the mixer's input weight and its reference compute the same over the extended reals. -/
theorem algebraic_DwIn : Cert.algebraic_DwInIdeal_DwInRefIdeal (hDwInIdeal := Cert.DwInIdeal.Gen.facts)
    (hDwInRefIdeal := Cert.DwInRefIdeal.Gen.facts) := by
  intro m ρ m' ρ' _ hagree
  refine ⟨fun c => Cert.DwInVal.result m c, Cert.DwInVal.run m ρ, ?_⟩
  refine (θ_run Cert.DwInRefIdeal.defs _ _).mono (fun r h c => ?_) (Cert.DwInVal.ref_run m' ρ')
  refine ⟨(h c).1.trans ?_, (h c).2⟩
  rw [(hagree c).1, (hagree c).2]

/-- The reference of the gradient through the MLP's up product and norm leaves its arguments and every semaphore counter as they were. -/
theorem quiescent_MlpDxRefIdeal : Cert.quiescent_MlpDxRefIdeal (hMlpDxRefIdeal := Cert.MlpDxRefIdeal.Gen.facts) := fun m ρ _ =>
  (θ_run Cert.MlpDxRefIdeal.defs _ _).mono
    (fun r h => ⟨fun c => (h c).2.2.2, sem_eq_zero_of_no_sems (by decide) r.2⟩) (Cert.MlpDxVal.ref_run m ρ)

/-- The kernel of the gradient through the MLP's up product and norm and its reference compute the same over the extended reals. -/
theorem algebraic_MlpDx : Cert.algebraic_MlpDxIdeal_MlpDxRefIdeal (hMlpDxIdeal := Cert.MlpDxIdeal.Gen.facts)
    (hMlpDxRefIdeal := Cert.MlpDxRefIdeal.Gen.facts) := by
  intro m ρ m' ρ' _ hagree
  refine ⟨fun c => Cert.MlpDxVal.result0 m c, fun c => Cert.MlpDxVal.result1 m c, fun c => Cert.MlpDxVal.result2 m c, Cert.MlpDxVal.run m ρ, ?_⟩
  refine (θ_run Cert.MlpDxRefIdeal.defs _ _).mono (fun r h c => ?_) (Cert.MlpDxVal.ref_run m' ρ')
  refine ⟨(h c).1.trans ?_, (h c).2.1.trans ?_, (h c).2.2.1.trans ?_, (h c).2.2.2⟩
  · rw [(hagree c).1, (hagree c).2.1, (hagree c).2.2.1, (hagree c).2.2.2.1, (hagree c).2.2.2.2]
    rfl
  · rw [(hagree c).1, (hagree c).2.1, (hagree c).2.2.1, (hagree c).2.2.2.1, (hagree c).2.2.2.2]
    rfl
  · rw [(hagree c).1, (hagree c).2.1, (hagree c).2.2.1]

/-- The reference of the gradient through the mixer's input product and norm leaves its arguments and every semaphore counter as they were. -/
theorem quiescent_InDxRefIdeal : Cert.quiescent_InDxRefIdeal (hInDxRefIdeal := Cert.InDxRefIdeal.Gen.facts) := fun m ρ _ =>
  (θ_run Cert.InDxRefIdeal.defs _ _).mono
    (fun r h => ⟨fun c => (h c).2.2.2, sem_eq_zero_of_no_sems (by decide) r.2⟩) (Cert.InDxVal.ref_run m ρ)

/-- The kernel of the gradient through the mixer's input product and norm and its reference compute the same over the extended reals. -/
theorem algebraic_InDx : Cert.algebraic_InDxIdeal_InDxRefIdeal (hInDxIdeal := Cert.InDxIdeal.Gen.facts)
    (hInDxRefIdeal := Cert.InDxRefIdeal.Gen.facts) := by
  intro m ρ m' ρ' _ hagree
  refine ⟨fun c => Cert.InDxVal.result0 m c, fun c => Cert.InDxVal.result1 m c, fun c => Cert.InDxVal.result2 m c, Cert.InDxVal.run m ρ, ?_⟩
  refine (θ_run Cert.InDxRefIdeal.defs _ _).mono (fun r h c => ?_) (Cert.InDxVal.ref_run m' ρ')
  refine ⟨(h c).1.trans ?_, (h c).2.1.trans ?_, (h c).2.2.1.trans ?_, (h c).2.2.2⟩
  · rw [(hagree c).1, (hagree c).2.1, (hagree c).2.2.1, (hagree c).2.2.2.1, (hagree c).2.2.2.2]
    rfl
  · rw [(hagree c).1, (hagree c).2.1, (hagree c).2.2.1, (hagree c).2.2.2.1, (hagree c).2.2.2.2]
    rfl
  · rw [(hagree c).1, (hagree c).2.1, (hagree c).2.2.1]

/-- The reference of the norm and the mixer's input product leaves its arguments and every semaphore counter as they were. -/
theorem quiescent_InProjRefIdeal : Cert.quiescent_InProjRefIdeal (hInProjRefIdeal := Cert.InProjRefIdeal.Gen.facts) := fun m ρ _ =>
  (θ_run Cert.InProjRefIdeal.defs _ _).mono
    (fun r h => ⟨fun c => (h c).2.2, sem_eq_zero_of_no_sems (by decide) r.2⟩) (Cert.InProjVal.ref_run m ρ)

/-- The kernel of the norm and the mixer's input product and its reference compute the same over the extended reals. -/
theorem algebraic_InProj : Cert.algebraic_InProjIdeal_InProjRefIdeal (hInProjIdeal := Cert.InProjIdeal.Gen.facts)
    (hInProjRefIdeal := Cert.InProjRefIdeal.Gen.facts) := by
  intro m ρ m' ρ' _ hagree
  refine ⟨fun c => Cert.InProjVal.result0 m c, fun c => Cert.InProjVal.result1 m c, Cert.InProjVal.run m ρ, ?_⟩
  refine (θ_run Cert.InProjRefIdeal.defs _ _).mono (fun r h c => ?_) (Cert.InProjVal.ref_run m' ρ')
  refine ⟨(h c).1.trans ?_, (h c).2.1.trans ?_, (h c).2.2⟩
  · rw [(hagree c).1, (hagree c).2.1, (hagree c).2.2]
  · rw [(hagree c).1, (hagree c).2.1]

/-- The reference of the norm and the MLP's up product leaves its arguments and every semaphore counter as they were. -/
theorem quiescent_UpProjRefIdeal : Cert.quiescent_UpProjRefIdeal (hUpProjRefIdeal := Cert.UpProjRefIdeal.Gen.facts) := fun m ρ _ =>
  (θ_run Cert.UpProjRefIdeal.defs _ _).mono
    (fun r h => ⟨fun c => (h c).2.2, sem_eq_zero_of_no_sems (by decide) r.2⟩) (Cert.UpProjVal.ref_run m ρ)

/-- The kernel of the norm and the MLP's up product and its reference compute the same over the extended reals. -/
theorem algebraic_UpProj : Cert.algebraic_UpProjIdeal_UpProjRefIdeal (hUpProjIdeal := Cert.UpProjIdeal.Gen.facts)
    (hUpProjRefIdeal := Cert.UpProjRefIdeal.Gen.facts) := by
  intro m ρ m' ρ' _ hagree
  refine ⟨fun c => Cert.UpProjVal.result0 m c, fun c => Cert.UpProjVal.result1 m c, Cert.UpProjVal.run m ρ, ?_⟩
  refine (θ_run Cert.UpProjRefIdeal.defs _ _).mono (fun r h c => ?_) (Cert.UpProjVal.ref_run m' ρ')
  refine ⟨(h c).1.trans ?_, (h c).2.1.trans ?_, (h c).2.2⟩
  · rw [(hagree c).1, (hagree c).2.1, (hagree c).2.2]
  · rw [(hagree c).1, (hagree c).2.1]

/-- The reference of the mixer's output product leaves its arguments and every semaphore counter as they were. -/
theorem quiescent_OutProjRefIdeal : Cert.quiescent_OutProjRefIdeal (hOutProjRefIdeal := Cert.OutProjRefIdeal.Gen.facts) := fun m ρ _ =>
  (θ_run Cert.OutProjRefIdeal.defs _ _).mono
    (fun r h => ⟨fun c => (h c).2, sem_eq_zero_of_no_sems (by decide) r.2⟩) (Cert.OutProjVal.ref_run m ρ)

/-- The kernel of the mixer's output product and its reference compute the same over the extended reals. -/
theorem algebraic_OutProj : Cert.algebraic_OutProjIdeal_OutProjRefIdeal (hOutProjIdeal := Cert.OutProjIdeal.Gen.facts)
    (hOutProjRefIdeal := Cert.OutProjRefIdeal.Gen.facts) := by
  intro m ρ m' ρ' _ hagree
  refine ⟨fun c => Cert.OutProjVal.result m c, Cert.OutProjVal.run m ρ, ?_⟩
  refine (θ_run Cert.OutProjRefIdeal.defs _ _).mono (fun r h c => ?_) (Cert.OutProjVal.ref_run m' ρ')
  refine ⟨(h c).1.trans ?_, (h c).2⟩
  rw [(hagree c).1, (hagree c).2.1, (hagree c).2.2]

/-- The reference of the MLP's down product leaves its arguments and every semaphore counter as they were. -/
theorem quiescent_DownProjRefIdeal : Cert.quiescent_DownProjRefIdeal (hDownProjRefIdeal := Cert.DownProjRefIdeal.Gen.facts) := fun m ρ _ =>
  (θ_run Cert.DownProjRefIdeal.defs _ _).mono
    (fun r h => ⟨fun c => (h c).2, sem_eq_zero_of_no_sems (by decide) r.2⟩) (Cert.DownProjVal.ref_run m ρ)

/-- The kernel of the MLP's down product and its reference compute the same over the extended reals. -/
theorem algebraic_DownProj : Cert.algebraic_DownProjIdeal_DownProjRefIdeal (hDownProjIdeal := Cert.DownProjIdeal.Gen.facts)
    (hDownProjRefIdeal := Cert.DownProjRefIdeal.Gen.facts) := by
  intro m ρ m' ρ' _ hagree
  refine ⟨fun c => Cert.DownProjVal.result m c, Cert.DownProjVal.run m ρ, ?_⟩
  refine (θ_run Cert.DownProjRefIdeal.defs _ _).mono (fun r h c => ?_) (Cert.DownProjVal.ref_run m' ρ')
  refine ⟨(h c).1.trans ?_, (h c).2⟩
  rw [(hagree c).1, (hagree c).2.1, (hagree c).2.2]

/-- The reference of the loss and its gradient leaves its arguments and every semaphore counter as they were. -/
theorem quiescent_LossHeadRefIdeal : Cert.quiescent_LossHeadRefIdeal (hLossHeadRefIdeal := Cert.LossHeadRefIdeal.Gen.facts) := fun m ρ _ =>
  (θ_run Cert.LossHeadRefIdeal.defs _ _).mono
    (fun r h => ⟨fun c => (h c).2.2.2.2, sem_eq_zero_of_no_sems (by decide) r.2⟩) (Cert.LossHeadVal.ref_run m ρ)

/-- The kernel of the loss and its gradient and its reference compute the same over the extended reals. -/
theorem algebraic_LossHead : Cert.algebraic_LossHeadIdeal_LossHeadRefIdeal (hLossHeadIdeal := Cert.LossHeadIdeal.Gen.facts)
    (hLossHeadRefIdeal := Cert.LossHeadRefIdeal.Gen.facts) := by
  intro m ρ m' ρ' _ hagree
  refine ⟨fun c => Cert.LossHeadVal.result0 m c, fun c => Cert.LossHeadVal.result1 m c, fun c => Cert.LossHeadVal.result2 m c, fun c => Cert.LossHeadVal.result3 m c, Cert.LossHeadVal.run m ρ, ?_⟩
  refine (θ_run Cert.LossHeadRefIdeal.defs _ _).mono (fun r h c => ?_) (Cert.LossHeadVal.ref_run m' ρ')
  refine ⟨(h c).1.trans ?_, (h c).2.1.trans ?_, (h c).2.2.1.trans ?_, (h c).2.2.2.1.trans ?_, (h c).2.2.2.2⟩
  · rw [(hagree c).1, (hagree c).2.1, (hagree c).2.2] <;> rfl
  · rw [(hagree c).1, (hagree c).2.1, (hagree c).2.2] <;> rfl
  · rw [(hagree c).1, (hagree c).2.1, (hagree c).2.2] <;> rfl
  · rw [(hagree c).1, (hagree c).2.1, (hagree c).2.2] <;> rfl

/-- The reference of the optimiser on the mixer's output weight leaves its arguments and every semaphore counter as they were. -/
theorem quiescent_AdamOutRefIdeal : Cert.quiescent_AdamOutRefIdeal (hAdamOutRefIdeal := Cert.AdamOutRefIdeal.Gen.facts) := fun m ρ _ =>
  (θ_run Cert.AdamOutRefIdeal.defs _ _).mono
    (fun r h => ⟨fun c => (h c).2.2.2.2, sem_eq_zero_of_no_sems (by decide) r.2⟩) (Cert.AdamOutVal.ref_run m ρ)

/-- The kernel of the optimiser on the mixer's output weight and its reference compute the same over the extended reals. -/
theorem algebraic_AdamOut : Cert.algebraic_AdamOutIdeal_AdamOutRefIdeal (hAdamOutIdeal := Cert.AdamOutIdeal.Gen.facts)
    (hAdamOutRefIdeal := Cert.AdamOutRefIdeal.Gen.facts) := by
  intro m ρ m' ρ' _ hagree
  refine ⟨fun c => Cert.AdamOutVal.result0 m c, fun c => Cert.AdamOutVal.result1 m c, fun c => Cert.AdamOutVal.result2 m c, fun c => Cert.AdamOutVal.result3 m c, Cert.AdamOutVal.run m ρ, ?_⟩
  refine (θ_run Cert.AdamOutRefIdeal.defs _ _).mono (fun r h c => ?_) (Cert.AdamOutVal.ref_run m' ρ')
  refine ⟨(h c).1.trans ?_, (h c).2.1.trans ?_, (h c).2.2.1.trans ?_, (h c).2.2.2.1.trans ?_, (h c).2.2.2.2⟩
  · rw [(hagree c).2.1, (hagree c).2.2.1, (hagree c).2.2.2.1, (hagree c).2.2.2.2.1] <;> rfl
  · rw [(hagree c).1, (hagree c).2.1, (hagree c).2.2.1, (hagree c).2.2.2.1, (hagree c).2.2.2.2.1, (hagree c).2.2.2.2.2.1, (hagree c).2.2.2.2.2.2] <;> rfl
  · rw [(hagree c).2.1, (hagree c).2.2.1, (hagree c).2.2.2.1, (hagree c).2.2.2.2.1, (hagree c).2.2.2.2.2.1] <;> rfl
  · rw [(hagree c).2.1, (hagree c).2.2.1, (hagree c).2.2.2.1, (hagree c).2.2.2.2.1, (hagree c).2.2.2.2.2.2] <;> rfl

/-- The reference of the optimiser on the MLP's up weight leaves its arguments and every semaphore counter as they were. -/
theorem quiescent_AdamUpRefIdeal : Cert.quiescent_AdamUpRefIdeal (hAdamUpRefIdeal := Cert.AdamUpRefIdeal.Gen.facts) := fun m ρ _ =>
  (θ_run Cert.AdamUpRefIdeal.defs _ _).mono
    (fun r h => ⟨fun c => (h c).2.2.2.2, sem_eq_zero_of_no_sems (by decide) r.2⟩) (Cert.AdamUpVal.ref_run m ρ)

/-- The kernel of the optimiser on the MLP's up weight and its reference compute the same over the extended reals. -/
theorem algebraic_AdamUp : Cert.algebraic_AdamUpIdeal_AdamUpRefIdeal (hAdamUpIdeal := Cert.AdamUpIdeal.Gen.facts)
    (hAdamUpRefIdeal := Cert.AdamUpRefIdeal.Gen.facts) := by
  intro m ρ m' ρ' _ hagree
  refine ⟨fun c => Cert.AdamUpVal.result0 m c, fun c => Cert.AdamUpVal.result1 m c, fun c => Cert.AdamUpVal.result2 m c, fun c => Cert.AdamUpVal.result3 m c, Cert.AdamUpVal.run m ρ, ?_⟩
  refine (θ_run Cert.AdamUpRefIdeal.defs _ _).mono (fun r h c => ?_) (Cert.AdamUpVal.ref_run m' ρ')
  refine ⟨(h c).1.trans ?_, (h c).2.1.trans ?_, (h c).2.2.1.trans ?_, (h c).2.2.2.1.trans ?_, (h c).2.2.2.2⟩
  · rw [(hagree c).2.1, (hagree c).2.2.1, (hagree c).2.2.2.1, (hagree c).2.2.2.2.1] <;> rfl
  · rw [(hagree c).1, (hagree c).2.1, (hagree c).2.2.1, (hagree c).2.2.2.1, (hagree c).2.2.2.2.1, (hagree c).2.2.2.2.2.1, (hagree c).2.2.2.2.2.2] <;> rfl
  · rw [(hagree c).2.1, (hagree c).2.2.1, (hagree c).2.2.2.1, (hagree c).2.2.2.2.1, (hagree c).2.2.2.2.2.1] <;> rfl
  · rw [(hagree c).2.1, (hagree c).2.2.1, (hagree c).2.2.2.1, (hagree c).2.2.2.2.1, (hagree c).2.2.2.2.2.2] <;> rfl

/-- The reference of the optimiser on the MLP's down weight leaves its arguments and every semaphore counter as they were. -/
theorem quiescent_AdamDownRefIdeal : Cert.quiescent_AdamDownRefIdeal (hAdamDownRefIdeal := Cert.AdamDownRefIdeal.Gen.facts) := fun m ρ _ =>
  (θ_run Cert.AdamDownRefIdeal.defs _ _).mono
    (fun r h => ⟨fun c => (h c).2.2.2.2, sem_eq_zero_of_no_sems (by decide) r.2⟩) (Cert.AdamDownVal.ref_run m ρ)

/-- The kernel of the optimiser on the MLP's down weight and its reference compute the same over the extended reals. -/
theorem algebraic_AdamDown : Cert.algebraic_AdamDownIdeal_AdamDownRefIdeal (hAdamDownIdeal := Cert.AdamDownIdeal.Gen.facts)
    (hAdamDownRefIdeal := Cert.AdamDownRefIdeal.Gen.facts) := by
  intro m ρ m' ρ' _ hagree
  refine ⟨fun c => Cert.AdamDownVal.result0 m c, fun c => Cert.AdamDownVal.result1 m c, fun c => Cert.AdamDownVal.result2 m c, fun c => Cert.AdamDownVal.result3 m c, Cert.AdamDownVal.run m ρ, ?_⟩
  refine (θ_run Cert.AdamDownRefIdeal.defs _ _).mono (fun r h c => ?_) (Cert.AdamDownVal.ref_run m' ρ')
  refine ⟨(h c).1.trans ?_, (h c).2.1.trans ?_, (h c).2.2.1.trans ?_, (h c).2.2.2.1.trans ?_, (h c).2.2.2.2⟩
  · rw [(hagree c).2.1, (hagree c).2.2.1, (hagree c).2.2.2.1, (hagree c).2.2.2.2.1] <;> rfl
  · rw [(hagree c).1, (hagree c).2.1, (hagree c).2.2.1, (hagree c).2.2.2.1, (hagree c).2.2.2.2.1, (hagree c).2.2.2.2.2.1, (hagree c).2.2.2.2.2.2] <;> rfl
  · rw [(hagree c).2.1, (hagree c).2.2.1, (hagree c).2.2.2.1, (hagree c).2.2.2.2.1, (hagree c).2.2.2.2.2.1] <;> rfl
  · rw [(hagree c).2.1, (hagree c).2.2.1, (hagree c).2.2.2.1, (hagree c).2.2.2.2.1, (hagree c).2.2.2.2.2.2] <;> rfl

/-- The reference of the optimiser on the mixer's input weight leaves its arguments and every semaphore counter as they were. -/
theorem quiescent_AdamInRefIdeal : Cert.quiescent_AdamInRefIdeal (hAdamInRefIdeal := Cert.AdamInRefIdeal.Gen.facts) := fun m ρ _ =>
  (θ_run Cert.AdamInRefIdeal.defs _ _).mono
    (fun r h => ⟨fun c => (h c).2.2.2.2, sem_eq_zero_of_no_sems (by decide) r.2⟩) (Cert.AdamInVal.ref_run m ρ)

/-- The kernel of the optimiser on the mixer's input weight and its reference compute the same over the extended reals. -/
theorem algebraic_AdamIn : Cert.algebraic_AdamInIdeal_AdamInRefIdeal (hAdamInIdeal := Cert.AdamInIdeal.Gen.facts)
    (hAdamInRefIdeal := Cert.AdamInRefIdeal.Gen.facts) := by
  intro m ρ m' ρ' _ hagree
  refine ⟨fun c => Cert.AdamInVal.result0 m c, fun c => Cert.AdamInVal.result1 m c, fun c => Cert.AdamInVal.result2 m c, fun c => Cert.AdamInVal.result3 m c, Cert.AdamInVal.run m ρ, ?_⟩
  refine (θ_run Cert.AdamInRefIdeal.defs _ _).mono (fun r h c => ?_) (Cert.AdamInVal.ref_run m' ρ')
  refine ⟨(h c).1.trans ?_, (h c).2.1.trans ?_, (h c).2.2.1.trans ?_, (h c).2.2.2.1.trans ?_, (h c).2.2.2.2⟩
  · rw [(hagree c).2.1, (hagree c).2.2.1, (hagree c).2.2.2.1, (hagree c).2.2.2.2.1] <;> rfl
  · rw [(hagree c).1, (hagree c).2.1, (hagree c).2.2.1, (hagree c).2.2.2.1, (hagree c).2.2.2.2.1, (hagree c).2.2.2.2.2.1, (hagree c).2.2.2.2.2.2] <;> rfl
  · rw [(hagree c).2.1, (hagree c).2.2.1, (hagree c).2.2.2.1, (hagree c).2.2.2.2.1, (hagree c).2.2.2.2.2.1] <;> rfl
  · rw [(hagree c).2.1, (hagree c).2.2.1, (hagree c).2.2.2.1, (hagree c).2.2.2.2.1, (hagree c).2.2.2.2.2.2] <;> rfl

/-- The reference of the optimiser on the short convolution's weight leaves its arguments and every semaphore counter as they were. -/
theorem quiescent_AdamScRefIdeal : Cert.quiescent_AdamScRefIdeal (hAdamScRefIdeal := Cert.AdamScRefIdeal.Gen.facts) := fun m ρ _ =>
  (θ_run Cert.AdamScRefIdeal.defs _ _).mono
    (fun r h => ⟨fun c => (h c).2.2.2.2, sem_eq_zero_of_no_sems (by decide) r.2⟩) (Cert.AdamScVal.ref_run m ρ)

/-- The kernel of the optimiser on the short convolution's weight and its reference compute the same over the extended reals. -/
theorem algebraic_AdamSc : Cert.algebraic_AdamScIdeal_AdamScRefIdeal (hAdamScIdeal := Cert.AdamScIdeal.Gen.facts)
    (hAdamScRefIdeal := Cert.AdamScRefIdeal.Gen.facts) := by
  intro m ρ m' ρ' _ hagree
  refine ⟨fun c => Cert.AdamScVal.result0 m c, fun c => Cert.AdamScVal.result1 m c, fun c => Cert.AdamScVal.result2 m c, fun c => Cert.AdamScVal.result3 m c, Cert.AdamScVal.run m ρ, ?_⟩
  refine (θ_run Cert.AdamScRefIdeal.defs _ _).mono (fun r h c => ?_) (Cert.AdamScVal.ref_run m' ρ')
  refine ⟨(h c).1.trans ?_, (h c).2.1.trans ?_, (h c).2.2.1.trans ?_, (h c).2.2.2.1.trans ?_, (h c).2.2.2.2⟩
  · rw [(hagree c).2.1] <;> rfl
  · rw [(hagree c).1, (hagree c).2.1, (hagree c).2.2.1, (hagree c).2.2.2] <;> rfl
  · rw [(hagree c).2.1, (hagree c).2.2.1] <;> rfl
  · rw [(hagree c).2.1, (hagree c).2.2.2] <;> rfl

/-- The reference of the optimiser on the state-space convolution's weight leaves its arguments and every semaphore counter as they were. -/
theorem quiescent_AdamCwRefIdeal : Cert.quiescent_AdamCwRefIdeal (hAdamCwRefIdeal := Cert.AdamCwRefIdeal.Gen.facts) := fun m ρ _ =>
  (θ_run Cert.AdamCwRefIdeal.defs _ _).mono
    (fun r h => ⟨fun c => (h c).2.2.2.2, sem_eq_zero_of_no_sems (by decide) r.2⟩) (Cert.AdamCwVal.ref_run m ρ)

/-- The kernel of the optimiser on the state-space convolution's weight and its reference compute the same over the extended reals. -/
theorem algebraic_AdamCw : Cert.algebraic_AdamCwIdeal_AdamCwRefIdeal (hAdamCwIdeal := Cert.AdamCwIdeal.Gen.facts)
    (hAdamCwRefIdeal := Cert.AdamCwRefIdeal.Gen.facts) := by
  intro m ρ m' ρ' _ hagree
  refine ⟨fun c => Cert.AdamCwVal.result0 m c, fun c => Cert.AdamCwVal.result1 m c, fun c => Cert.AdamCwVal.result2 m c, fun c => Cert.AdamCwVal.result3 m c, Cert.AdamCwVal.run m ρ, ?_⟩
  refine (θ_run Cert.AdamCwRefIdeal.defs _ _).mono (fun r h c => ?_) (Cert.AdamCwVal.ref_run m' ρ')
  refine ⟨(h c).1.trans ?_, (h c).2.1.trans ?_, (h c).2.2.1.trans ?_, (h c).2.2.2.1.trans ?_, (h c).2.2.2.2⟩
  · rw [(hagree c).2.1] <;> rfl
  · rw [(hagree c).1, (hagree c).2.1, (hagree c).2.2.1, (hagree c).2.2.2] <;> rfl
  · rw [(hagree c).2.1, (hagree c).2.2.1] <;> rfl
  · rw [(hagree c).2.1, (hagree c).2.2.2] <;> rfl

/-- The reference of the optimiser on the small weights leaves its arguments and every semaphore counter as they were. -/
theorem quiescent_AdamSmallRefIdeal : Cert.quiescent_AdamSmallRefIdeal (hAdamSmallRefIdeal := Cert.AdamSmallRefIdeal.Gen.facts) := fun m ρ _ =>
  (θ_run Cert.AdamSmallRefIdeal.defs _ _).mono
    (fun r h => ⟨fun c => (h c).2.2.2.2, sem_eq_zero_of_no_sems (by decide) r.2⟩) (Cert.AdamSmallVal.ref_run m ρ)

/-- The kernel of the optimiser on the small weights and its reference compute the same over the extended reals. -/
theorem algebraic_AdamSmall : Cert.algebraic_AdamSmallIdeal_AdamSmallRefIdeal (hAdamSmallIdeal := Cert.AdamSmallIdeal.Gen.facts)
    (hAdamSmallRefIdeal := Cert.AdamSmallRefIdeal.Gen.facts) := by
  intro m ρ m' ρ' _ hagree
  refine ⟨fun c => Cert.AdamSmallVal.result0 m c, fun c => Cert.AdamSmallVal.result1 m c, fun c => Cert.AdamSmallVal.result2 m c, fun c => Cert.AdamSmallVal.result3 m c, Cert.AdamSmallVal.run m ρ, ?_⟩
  refine (θ_run Cert.AdamSmallRefIdeal.defs _ _).mono (fun r h c => ?_) (Cert.AdamSmallVal.ref_run m' ρ')
  refine ⟨(h c).1.trans ?_, (h c).2.1.trans ?_, (h c).2.2.1.trans ?_, (h c).2.2.2.1.trans ?_, (h c).2.2.2.2⟩
  · rw [(hagree c).2.1] <;> rfl
  · rw [(hagree c).1, (hagree c).2.1, (hagree c).2.2.1, (hagree c).2.2.2] <;> rfl
  · rw [(hagree c).2.1, (hagree c).2.2.1] <;> rfl
  · rw [(hagree c).2.1, (hagree c).2.2.2] <;> rfl

theorem claim : Cert.Claim :=
  ⟨Cert.Du.Gen.facts,
    Cert.DuIdeal.Gen.facts,
    Cert.DuRefIdeal.Gen.facts,
    Cert.DwDown.Gen.facts,
    Cert.DwDownIdeal.Gen.facts,
    Cert.DwDownRefIdeal.Gen.facts,
    Cert.DwUp.Gen.facts,
    Cert.DwUpIdeal.Gen.facts,
    Cert.DwUpRefIdeal.Gen.facts,
    Cert.Dy.Gen.facts,
    Cert.DyIdeal.Gen.facts,
    Cert.DyRefIdeal.Gen.facts,
    Cert.DwOut.Gen.facts,
    Cert.DwOutIdeal.Gen.facts,
    Cert.DwOutRefIdeal.Gen.facts,
    Cert.DwIn.Gen.facts,
    Cert.DwInIdeal.Gen.facts,
    Cert.DwInRefIdeal.Gen.facts,
    Cert.MlpDx.Gen.facts,
    Cert.MlpDxIdeal.Gen.facts,
    Cert.MlpDxRefIdeal.Gen.facts,
    Cert.InDx.Gen.facts,
    Cert.InDxIdeal.Gen.facts,
    Cert.InDxRefIdeal.Gen.facts,
    Cert.InProj.Gen.facts,
    Cert.InProjIdeal.Gen.facts,
    Cert.InProjRefIdeal.Gen.facts,
    Cert.UpProj.Gen.facts,
    Cert.UpProjIdeal.Gen.facts,
    Cert.UpProjRefIdeal.Gen.facts,
    Cert.OutProj.Gen.facts,
    Cert.OutProjIdeal.Gen.facts,
    Cert.OutProjRefIdeal.Gen.facts,
    Cert.DownProj.Gen.facts,
    Cert.DownProjIdeal.Gen.facts,
    Cert.DownProjRefIdeal.Gen.facts,
    Cert.LossHead.Gen.facts,
    Cert.LossHeadIdeal.Gen.facts,
    Cert.LossHeadRefIdeal.Gen.facts,
    Cert.AdamOut.Gen.facts,
    Cert.AdamOutIdeal.Gen.facts,
    Cert.AdamOutRefIdeal.Gen.facts,
    Cert.AdamUp.Gen.facts,
    Cert.AdamUpIdeal.Gen.facts,
    Cert.AdamUpRefIdeal.Gen.facts,
    Cert.AdamDown.Gen.facts,
    Cert.AdamDownIdeal.Gen.facts,
    Cert.AdamDownRefIdeal.Gen.facts,
    Cert.AdamIn.Gen.facts,
    Cert.AdamInIdeal.Gen.facts,
    Cert.AdamInRefIdeal.Gen.facts,
    Cert.AdamSc.Gen.facts,
    Cert.AdamScIdeal.Gen.facts,
    Cert.AdamScRefIdeal.Gen.facts,
    Cert.AdamCw.Gen.facts,
    Cert.AdamCwIdeal.Gen.facts,
    Cert.AdamCwRefIdeal.Gen.facts,
    Cert.AdamSmall.Gen.facts,
    Cert.AdamSmallIdeal.Gen.facts,
    Cert.AdamSmallRefIdeal.Gen.facts,
    Cert.MixBwd.Gen.facts,
    Cert.MixBwdIdeal.Gen.facts,
    Cert.MixFwd.Gen.facts,
    Cert.MixFwdIdeal.Gen.facts,
    fun m ρ _ => Cert.Du.Gen.frame m ρ,
    fun m ρ _ => Cert.DuIdeal.Gen.frame m ρ,
    quiescent_DuRefIdeal,
    fun m ρ _ => Cert.DwDown.Gen.frame m ρ,
    fun m ρ _ => Cert.DwDownIdeal.Gen.frame m ρ,
    quiescent_DwDownRefIdeal,
    fun m ρ _ => Cert.DwUp.Gen.frame m ρ,
    fun m ρ _ => Cert.DwUpIdeal.Gen.frame m ρ,
    quiescent_DwUpRefIdeal,
    fun m ρ _ => Cert.Dy.Gen.frame m ρ,
    fun m ρ _ => Cert.DyIdeal.Gen.frame m ρ,
    quiescent_DyRefIdeal,
    fun m ρ _ => Cert.DwOut.Gen.frame m ρ,
    fun m ρ _ => Cert.DwOutIdeal.Gen.frame m ρ,
    quiescent_DwOutRefIdeal,
    fun m ρ _ => Cert.DwIn.Gen.frame m ρ,
    fun m ρ _ => Cert.DwInIdeal.Gen.frame m ρ,
    quiescent_DwInRefIdeal,
    fun m ρ _ => Cert.MlpDx.Gen.frame m ρ,
    fun m ρ _ => Cert.MlpDxIdeal.Gen.frame m ρ,
    quiescent_MlpDxRefIdeal,
    fun m ρ _ => Cert.InDx.Gen.frame m ρ,
    fun m ρ _ => Cert.InDxIdeal.Gen.frame m ρ,
    quiescent_InDxRefIdeal,
    fun m ρ _ => Cert.InProj.Gen.frame m ρ,
    fun m ρ _ => Cert.InProjIdeal.Gen.frame m ρ,
    quiescent_InProjRefIdeal,
    fun m ρ _ => Cert.UpProj.Gen.frame m ρ,
    fun m ρ _ => Cert.UpProjIdeal.Gen.frame m ρ,
    quiescent_UpProjRefIdeal,
    fun m ρ _ => Cert.OutProj.Gen.frame m ρ,
    fun m ρ _ => Cert.OutProjIdeal.Gen.frame m ρ,
    quiescent_OutProjRefIdeal,
    fun m ρ _ => Cert.DownProj.Gen.frame m ρ,
    fun m ρ _ => Cert.DownProjIdeal.Gen.frame m ρ,
    quiescent_DownProjRefIdeal,
    fun m ρ _ => Cert.LossHead.Gen.frame m ρ,
    fun m ρ _ => Cert.LossHeadIdeal.Gen.frame m ρ,
    quiescent_LossHeadRefIdeal,
    fun m ρ _ => Cert.AdamOut.Gen.frame m ρ,
    fun m ρ _ => Cert.AdamOutIdeal.Gen.frame m ρ,
    quiescent_AdamOutRefIdeal,
    fun m ρ _ => Cert.AdamUp.Gen.frame m ρ,
    fun m ρ _ => Cert.AdamUpIdeal.Gen.frame m ρ,
    quiescent_AdamUpRefIdeal,
    fun m ρ _ => Cert.AdamDown.Gen.frame m ρ,
    fun m ρ _ => Cert.AdamDownIdeal.Gen.frame m ρ,
    quiescent_AdamDownRefIdeal,
    fun m ρ _ => Cert.AdamIn.Gen.frame m ρ,
    fun m ρ _ => Cert.AdamInIdeal.Gen.frame m ρ,
    quiescent_AdamInRefIdeal,
    fun m ρ _ => Cert.AdamSc.Gen.frame m ρ,
    fun m ρ _ => Cert.AdamScIdeal.Gen.frame m ρ,
    quiescent_AdamScRefIdeal,
    fun m ρ _ => Cert.AdamCw.Gen.frame m ρ,
    fun m ρ _ => Cert.AdamCwIdeal.Gen.frame m ρ,
    quiescent_AdamCwRefIdeal,
    fun m ρ _ => Cert.AdamSmall.Gen.frame m ρ,
    fun m ρ _ => Cert.AdamSmallIdeal.Gen.frame m ρ,
    quiescent_AdamSmallRefIdeal,
    Cert.MixBwdVal.frame_bits,
    fun m ρ _ => Cert.MixBwdIdeal.Gen.frame m ρ,
    Cert.MixFwdVal.frame_bits,
    fun m ρ _ => Cert.MixFwdIdeal.Gen.frame m ρ,
    trivial,
    algebraic_Du,
    trivial,
    algebraic_DwDown,
    trivial,
    algebraic_DwUp,
    trivial,
    algebraic_Dy,
    trivial,
    algebraic_DwOut,
    trivial,
    algebraic_DwIn,
    trivial,
    algebraic_MlpDx,
    trivial,
    algebraic_InDx,
    trivial,
    algebraic_InProj,
    trivial,
    algebraic_UpProj,
    trivial,
    algebraic_OutProj,
    trivial,
    algebraic_DownProj,
    trivial,
    algebraic_LossHead,
    trivial,
    algebraic_AdamOut,
    trivial,
    algebraic_AdamUp,
    trivial,
    algebraic_AdamDown,
    trivial,
    algebraic_AdamIn,
    trivial,
    algebraic_AdamSc,
    trivial,
    algebraic_AdamCw,
    trivial,
    algebraic_AdamSmall,
    trivial,
    trivial⟩

end Cert.Proof

end
